-- ==== Defs.lean ====
def Pre_Kernel [hPre_split : Cert.Pre_split.Facts] (m : (ℓ : Loc Cert.Kernel.nD Cert.Kernel.τ Cert.Kernel.sig) → Buf (Elt Bits) ℓ) : Prop :=
  ∀ c : Dev Cert.Kernel.nD,
    (Cert.Pre_split.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_split : Cert.Pre_split.Facts] (m : (ℓ : Loc Cert.KernelIdeal.nD Cert.KernelIdeal.τ Cert.KernelIdeal.sig) → Buf (Elt Ideal) ℓ) : Prop :=
  ∀ c : Dev Cert.KernelIdeal.nD,
    (Cert.Pre_split.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_routed_KernelIdeal [hPre_routed_KernelIdeal : Cert.Pre_routed_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed_ReferenceIdeal [hPre_routed_ReferenceIdeal : Cert.Pre_routed_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_split : Cert.Pre_split.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_split : Cert.Pre_split.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_routed_KernelIdeal [hKernelIdeal : Cert.KernelIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routed_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_routed_ReferenceIdeal [hReferenceIdeal : Cert.ReferenceIdeal.Facts] [hPre_routed_ReferenceIdeal : Cert.Pre_routed_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_routed_KernelIdeal [hKernelIdeal : Cert.KernelIdeal.Facts] [hReferenceIdeal : Cert.ReferenceIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routed_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![8192, 1024]⟩ 0 2 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = Layout.block ⟨2, ![4096, 1024]⟩ ⟨2, ![8192, 1024]⟩ 0 2 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_split : Cert.Pre_split.Facts) (hPre_routed_KernelIdeal : Cert.Pre_routed_KernelIdeal.Facts) (hPre_routed_ReferenceIdeal : Cert.Pre_routed_ReferenceIdeal.Facts),
    quiescent_Kernel (hKernel := hKernel) (hPre_split := hPre_split)
    ∧ quiescent_KernelIdeal (hKernelIdeal := hKernelIdeal) (hPre_split := hPre_split)
    ∧ quiescent_KernelIdeal_pre_routed_KernelIdeal (hKernelIdeal := hKernelIdeal) (hPre_routed_KernelIdeal := hPre_routed_KernelIdeal)
    ∧ quiescent_ReferenceIdeal (hReferenceIdeal := hReferenceIdeal)
    ∧ quiescent_ReferenceIdeal_pre_routed_ReferenceIdeal (hReferenceIdeal := hReferenceIdeal) (hPre_routed_ReferenceIdeal := hPre_routed_ReferenceIdeal)
    ∧ preserves_Kernel_KernelIdeal
    ∧ algebraic_KernelIdeal_ReferenceIdeal_pre_routed_KernelIdeal (hKernelIdeal := hKernelIdeal) (hReferenceIdeal := hReferenceIdeal) (hPre_routed_KernelIdeal := hPre_routed_KernelIdeal)
-- ==== Pre_routed_KernelIdeal.lean ====
abbrev S4096x1024 : Shape := ⟨2, ![4096, 1024]⟩
abbrev S8192 : Shape := ⟨1, ![8192]⟩
abbrev S_ : Shape := ⟨0, ![]⟩
abbrev S4096 : Shape := ⟨1, ![4096]⟩

class Facts : Prop where
  bcast_S_S8192 : S_.BroadcastsInDim S8192 (![] : Fin 0 → Fin S8192.rank)
  natLt_1_32 : 1 < 32
  slices_S8192_S4096_0 : S8192.Slices ![0] S4096
  reducesTo_S4096_S_d0 : S4096.ReducesTo [0] S_
  h_S_ : 0 < S_.numel
  slices_S8192_S4096_4096 : S8192.Slices ![4096] S4096

variable [Facts]

def fn {F : FTy → Type} [FloatOps F] (main_arg0 : FVec F S4096x1024 .bf16) (main_arg1 : IVec S8192 32) : IVec S8192 1 :=
  let main_c : IVec S_ 32 := constantI S_ 32 0#32
  let main_v0 : IVec S8192 32 := broadcastInDim S8192 ![] bcast_S_S8192 main_c
  let main_v1 : IVec S8192 1 := cmpi .eq main_arg1 main_v0
  let main_v2 : IVec S8192 32 := (extui 32 · natLt_1_32) main_v1
  let main_v3 : IVec S4096 32 := (extractStridedSlice S4096 ![0] · slices_S8192_S4096_0) main_v2
  let main_c_0 : IVec S_ 32 := constantI S_ 32 0#32
  let main_v4 : IVec S_ 32 := (fun x v => Host.reduce IntOp.addi x v reducesTo_S4096_S_d0 h_S_) main_v3 main_c_0
  let main_c_1 : IVec S_ 32 := constantI S_ 32 2069#32
  let main_v5 : IVec S_ 1 := cmpi .eq main_v4 main_c_1
  let main_v6 : IVec S4096 32 := (extractStridedSlice S4096 ![4096] · slices_S8192_S4096_4096) main_v2
  let main_c_2 : IVec S_ 32 := constantI S_ 32 0#32
  let main_v7 : IVec S_ 32 := (fun x v => Host.reduce IntOp.addi x v reducesTo_S4096_S_d0 h_S_) main_v6 main_c_2
  let main_c_3 : IVec S_ 32 := constantI S_ 32 2027#32
  let main_v8 : IVec S_ 1 := cmpi .eq main_v7 main_c_3
  let main_v9 : IVec S_ 1 := andi main_v5 main_v8
  let main_c_4 : IVec S_ 32 := constantI S_ 32 0#32
  let main_v10 : IVec S8192 32 := broadcastInDim S8192 ![] bcast_S_S8192 main_c_4
  let main_v11 : IVec S8192 1 := cmpi .eq main_arg1 main_v10
  let main_c_5 : IVec S_ 32 := constantI S_ 32 1#32
  let main_v12 : IVec S8192 32 := broadcastInDim S8192 ![] bcast_S_S8192 main_c_5
  let main_v13 : IVec S8192 1 := cmpi .eq main_arg1 main_v12
  let main_v14 : IVec S8192 1 := ori main_v11 main_v13
  let main_v15 : IVec S8192 1 := broadcastInDim S8192 ![] bcast_S_S8192 main_v9
  let main_v16 : IVec S8192 1 := andi main_v15 main_v14
  main_v16
-- ==== Pre_routed_ReferenceIdeal.lean ====
abbrev S8192x1024 : Shape := ⟨2, ![8192, 1024]⟩
abbrev S8192 : Shape := ⟨1, ![8192]⟩
abbrev S_ : Shape := ⟨0, ![]⟩
abbrev S4096 : Shape := ⟨1, ![4096]⟩

class Facts : Prop where
  bcast_S_S8192 : S_.BroadcastsInDim S8192 (![] : Fin 0 → Fin S8192.rank)
  natLt_1_32 : 1 < 32
  slices_S8192_S4096_0 : S8192.Slices ![0] S4096
  reducesTo_S4096_S_d0 : S4096.ReducesTo [0] S_
  h_S_ : 0 < S_.numel
  slices_S8192_S4096_4096 : S8192.Slices ![4096] S4096

variable [Facts]

def fn {F : FTy → Type} [FloatOps F] (main_arg0 : FVec F S8192x1024 .bf16) (main_arg1 : IVec S8192 32) : IVec S8192 1 :=
  let main_c : IVec S_ 32 := constantI S_ 32 0#32
  let main_v0 : IVec S8192 32 := broadcastInDim S8192 ![] bcast_S_S8192 main_c
  let main_v1 : IVec S8192 1 := cmpi .eq main_arg1 main_v0
  let main_v2 : IVec S8192 32 := (extui 32 · natLt_1_32) main_v1
  let main_v3 : IVec S4096 32 := (extractStridedSlice S4096 ![0] · slices_S8192_S4096_0) main_v2
  let main_c_0 : IVec S_ 32 := constantI S_ 32 0#32
  let main_v4 : IVec S_ 32 := (fun x v => Host.reduce IntOp.addi x v reducesTo_S4096_S_d0 h_S_) main_v3 main_c_0
  let main_c_1 : IVec S_ 32 := constantI S_ 32 2069#32
  let main_v5 : IVec S_ 1 := cmpi .eq main_v4 main_c_1
  let main_v6 : IVec S4096 32 := (extractStridedSlice S4096 ![4096] · slices_S8192_S4096_4096) main_v2
  let main_c_2 : IVec S_ 32 := constantI S_ 32 0#32
  let main_v7 : IVec S_ 32 := (fun x v => Host.reduce IntOp.addi x v reducesTo_S4096_S_d0 h_S_) main_v6 main_c_2
  let main_c_3 : IVec S_ 32 := constantI S_ 32 2027#32
  let main_v8 : IVec S_ 1 := cmpi .eq main_v7 main_c_3
  let main_v9 : IVec S_ 1 := andi main_v5 main_v8
  let main_c_4 : IVec S_ 32 := constantI S_ 32 0#32
  let main_v10 : IVec S8192 32 := broadcastInDim S8192 ![] bcast_S_S8192 main_c_4
  let main_v11 : IVec S8192 1 := cmpi .eq main_arg1 main_v10
  let main_c_5 : IVec S_ 32 := constantI S_ 32 1#32
  let main_v12 : IVec S8192 32 := broadcastInDim S8192 ![] bcast_S_S8192 main_c_5
  let main_v13 : IVec S8192 1 := cmpi .eq main_arg1 main_v12
  let main_v14 : IVec S8192 1 := ori main_v11 main_v13
  let main_v15 : IVec S8192 1 := broadcastInDim S8192 ![] bcast_S_S8192 main_v9
  let main_v16 : IVec S8192 1 := andi main_v15 main_v14
  main_v16
-- ==== Pre_split.lean ====
abbrev S4096x1024 : Shape := ⟨2, ![4096, 1024]⟩
abbrev S8192 : Shape := ⟨1, ![8192]⟩
abbrev S_ : Shape := ⟨0, ![]⟩
abbrev S4096 : Shape := ⟨1, ![4096]⟩

class Facts : Prop where
  bcast_S_S8192 : S_.BroadcastsInDim S8192 (![] : Fin 0 → Fin S8192.rank)
  natLt_1_32 : 1 < 32
  slices_S8192_S4096_0 : S8192.Slices ![0] S4096
  reducesTo_S4096_S_d0 : S4096.ReducesTo [0] S_
  h_S_ : 0 < S_.numel
  slices_S8192_S4096_4096 : S8192.Slices ![4096] S4096

variable [Facts]

def fn {F : FTy → Type} [FloatOps F] (main_arg0 : FVec F S4096x1024 .bf16) (main_arg1 : IVec S8192 32) : IVec S_ 1 :=
  let main_c : IVec S_ 32 := constantI S_ 32 0#32
  let main_v0 : IVec S8192 32 := broadcastInDim S8192 ![] bcast_S_S8192 main_c
  let main_v1 : IVec S8192 1 := cmpi .eq main_arg1 main_v0
  let main_v2 : IVec S8192 32 := (extui 32 · natLt_1_32) main_v1
  let main_v3 : IVec S4096 32 := (extractStridedSlice S4096 ![0] · slices_S8192_S4096_0) main_v2
  let main_c_0 : IVec S_ 32 := constantI S_ 32 0#32
  let main_v4 : IVec S_ 32 := (fun x v => Host.reduce IntOp.addi x v reducesTo_S4096_S_d0 h_S_) main_v3 main_c_0
  let main_c_1 : IVec S_ 32 := constantI S_ 32 2069#32
  let main_v5 : IVec S_ 1 := cmpi .eq main_v4 main_c_1
  let main_v6 : IVec S4096 32 := (extractStridedSlice S4096 ![4096] · slices_S8192_S4096_4096) main_v2
  let main_c_2 : IVec S_ 32 := constantI S_ 32 0#32
  let main_v7 : IVec S_ 32 := (fun x v => Host.reduce IntOp.addi x v reducesTo_S4096_S_d0 h_S_) main_v6 main_c_2
  let main_c_3 : IVec S_ 32 := constantI S_ 32 2027#32
  let main_v8 : IVec S_ 1 := cmpi .eq main_v7 main_c_3
  let main_v9 : IVec S_ 1 := andi main_v5 main_v8
  main_v9
-- ==== Kernel.lean ====
abbrev S4096x1024 : Shape := ⟨2, ![4096, 1024]⟩
abbrev S8192 : Shape := ⟨1, ![8192]⟩
abbrev S_ : Shape := ⟨0, ![]⟩
abbrev S4096 : Shape := ⟨1, ![4096]⟩
abbrev S4112x1024 : Shape := ⟨2, ![4112, 1024]⟩
abbrev S4096x1 : Shape := ⟨2, ![4096, 1]⟩
abbrev S1 : Shape := ⟨1, ![1]⟩
abbrev S7 : Shape := ⟨1, ![7]⟩
abbrev S13 : Shape := ⟨1, ![13]⟩
abbrev S2048x1024 : Shape := ⟨2, ![2048, 1024]⟩
abbrev S1024x1024 : Shape := ⟨2, ![1024, 1024]⟩
abbrev S512x1024 : Shape := ⟨2, ![512, 1024]⟩
abbrev S256x1024 : Shape := ⟨2, ![256, 1024]⟩
abbrev S128x1024 : Shape := ⟨2, ![128, 1024]⟩
abbrev S64x1024 : Shape := ⟨2, ![64, 1024]⟩
abbrev S32x1024 : Shape := ⟨2, ![32, 1024]⟩
abbrev S16x1024 : Shape := ⟨2, ![16, 1024]⟩
abbrev S8x1024 : Shape := ⟨2, ![8, 1024]⟩
abbrev S520x1024 : Shape := ⟨2, ![520, 1024]⟩
abbrev S512x1 : Shape := ⟨2, ![512, 1]⟩

abbrev nBuf : Space → Nat
  | .hbm => 164
  | .vmem => 3
  | .smem => 1
  | _ => 0

abbrev hbmTy0_0 (i : Nat) : BufTy := match i % 128 with
  | 0 => ⟨S4096x1024, .bf16⟩
  | 1 => ⟨S8192, .i32⟩
  | 2 => ⟨S_, .i32⟩
  | 3 => ⟨S_, .i32⟩
  | 4 => ⟨S_, .i32⟩
  | 5 => ⟨S_, .i32⟩
  | 6 => ⟨S_, .i32⟩
  | 7 => ⟨S_, .i32⟩
  | 8 => ⟨S_, .i32⟩
  | 9 => ⟨S_, .i1⟩
  | 10 => ⟨S4096, .i32⟩
  | 11 => ⟨S4096, .i32⟩
  | 12 => ⟨S4096, .i32⟩
  | 13 => ⟨S_, .i32⟩
  | 14 => ⟨S4096, .i32⟩
  | 15 => ⟨S4096, .i1⟩
  | 16 => ⟨S4096, .i32⟩
  | 17 => ⟨S_, .i32⟩
  | 18 => ⟨S_, .i32⟩
  | 19 => ⟨S_, .i32⟩
  | 20 => ⟨S_, .i32⟩
  | 21 => ⟨S_, .i32⟩
  | 22 => ⟨S_, .i32⟩
  | 23 => ⟨S_, .i32⟩
  | 24 => ⟨S_, .i32⟩
  | 25 => ⟨S_, .i32⟩
  | 26 => ⟨S_, .i32⟩
  | 27 => ⟨S_, .i32⟩
  | 28 => ⟨S_, .i1⟩
  | 29 => ⟨S_, .i32⟩
  | 30 => ⟨S_, .i32⟩
  | 31 => ⟨S_, .i1⟩
  | 32 => ⟨S_, .i1⟩
  | 33 => ⟨S_, .i32⟩
  | 34 => ⟨S_, .i32⟩
  | 35 => ⟨S_, .i32⟩
  | 36 => ⟨S_, .i32⟩
  | 37 => ⟨S_, .i32⟩
  | 38 => ⟨S_, .i32⟩
  | 39 => ⟨S_, .i32⟩
  | 40 => ⟨S4096, .i32⟩
  | 41 => ⟨S_, .i32⟩
  | 42 => ⟨S4096, .i32⟩
  | 43 => ⟨S4096, .i32⟩
  | 44 => ⟨S_, .i32⟩
  | 45 => ⟨S4096, .i32⟩
  | 46 => ⟨S4096, .i32⟩
  | 47 => ⟨S_, .i32⟩
  | 48 => ⟨S_, .i32⟩
  | 49 => ⟨S4096, .i32⟩
  | 50 => ⟨S4096, .i32⟩
  | 51 => ⟨S4096, .i32⟩
  | 52 => ⟨S_, .i32⟩
  | 53 => ⟨S4096, .i32⟩
  | 54 => ⟨S4096, .i32⟩
  | 55 => ⟨S_, .i32⟩
  | 56 => ⟨S4096, .i32⟩
  | 57 => ⟨S4096, .i1⟩
  | 58 => ⟨S4096, .i32⟩
  | 59 => ⟨S_, .bf16⟩
  | 60 => ⟨S4112x1024, .bf16⟩
  | 61 => ⟨S_, .i32⟩
  | 62 => ⟨S4096, .i32⟩
  | 63 => ⟨S4096, .i1⟩
  | 64 => ⟨S_, .i32⟩
  | 65 => ⟨S4096, .i32⟩
  | 66 => ⟨S4096, .i32⟩
  | 67 => ⟨S4096, .i32⟩
  | 68 => ⟨S4096x1, .i32⟩
  | 69 => ⟨S4112x1024, .bf16⟩
  | 70 => ⟨S_, .i32⟩
  | 71 => ⟨S_, .i1⟩
  | 72 => ⟨S_, .i32⟩
  | 73 => ⟨S_, .i32⟩
  | 74 => ⟨S_, .i32⟩
  | 75 => ⟨S_, .i32⟩
  | 76 => ⟨S_, .i1⟩
  | 77 => ⟨S_, .i32⟩
  | 78 => ⟨S_, .i32⟩
  | 79 => ⟨S_, .i32⟩
  | 80 => ⟨S_, .i32⟩
  | 81 => ⟨S_, .i32⟩
  | 82 => ⟨S_, .i32⟩
  | 83 => ⟨S_, .i1⟩
  | 84 => ⟨S_, .i32⟩
  | 85 => ⟨S_, .i32⟩
  | 86 => ⟨S_, .i32⟩
  | 87 => ⟨S_, .i32⟩
  | 88 => ⟨S_, .i32⟩
  | 89 => ⟨S_, .i32⟩
  | 90 => ⟨S_, .i32⟩
  | 91 => ⟨S_, .i32⟩
  | 92 => ⟨S_, .i32⟩
  | 93 => ⟨S_, .i1⟩
  | 94 => ⟨S_, .i32⟩
  | 95 => ⟨S_, .i32⟩
  | 96 => ⟨S_, .i1⟩
  | 97 => ⟨S_, .i1⟩
  | 98 => ⟨S_, .i32⟩
  | 99 => ⟨S_, .i32⟩
  | 100 => ⟨S_, .i32⟩
  | 101 => ⟨S_, .i32⟩
  | 102 => ⟨S_, .i32⟩
  | 103 => ⟨S_, .i32⟩
  | 104 => ⟨S_, .i32⟩
  | 105 => ⟨S_, .i32⟩
  | 106 => ⟨S_, .i32⟩
  | 107 => ⟨S_, .i32⟩
  | 108 => ⟨S_, .i32⟩
  | 109 => ⟨S_, .i32⟩
  | 110 => ⟨S_, .i32⟩
  | 111 => ⟨S_, .i32⟩
  | 112 => ⟨S_, .i32⟩
  | 113 => ⟨S_, .i32⟩
  | 114 => ⟨S_, .i32⟩
  | 115 => ⟨S_, .i1⟩
  | 116 => ⟨S_, .i32⟩
  | 117 => ⟨S_, .i32⟩
  | 118 => ⟨S_, .i1⟩
  | 119 => ⟨S_, .i1⟩
  | 120 => ⟨S_, .i32⟩
  | 121 => ⟨S_, .i32⟩
  | 122 => ⟨S_, .i32⟩
  | 123 => ⟨S_, .i32⟩
  | 124 => ⟨S_, .i32⟩
  | 125 => ⟨S_, .i32⟩
  | 126 => ⟨S_, .i1⟩
  | 127 => ⟨S_, .i32⟩
  | _ => ⟨S4096x1024, .bf16⟩

abbrev hbmTy0_1 (i : Nat) : BufTy := match i % 128 with
  | 0 => ⟨S_, .i32⟩
  | 1 => ⟨S_, .i32⟩
  | 2 => ⟨S_, .i32⟩
  | 3 => ⟨S_, .i1⟩
  | 4 => ⟨S_, .i32⟩
  | 5 => ⟨S_, .i32⟩
  | 6 => ⟨S_, .i32⟩
  | 7 => ⟨S_, .i32⟩
  | 8 => ⟨S_, .i32⟩
  | 9 => ⟨S_, .i32⟩
  | 10 => ⟨S_, .i32⟩
  | 11 => ⟨S_, .i32⟩
  | 12 => ⟨S_, .i32⟩
  | 13 => ⟨S_, .i32⟩
  | 14 => ⟨S_, .i32⟩
  | 15 => ⟨S_, .i32⟩
  | 16 => ⟨S_, .i1⟩
  | 17 => ⟨S_, .i32⟩
  | 18 => ⟨S_, .i32⟩
  | 19 => ⟨S_, .i1⟩
  | 20 => ⟨S_, .i1⟩
  | 21 => ⟨S_, .i32⟩
  | 22 => ⟨S_, .i32⟩
  | 23 => ⟨S_, .i32⟩
  | 24 => ⟨S_, .i32⟩
  | 25 => ⟨S_, .i32⟩
  | 26 => ⟨S_, .i32⟩
  | 27 => ⟨S1, .i32⟩
  | 28 => ⟨S1, .i32⟩
  | 29 => ⟨S1, .i32⟩
  | 30 => ⟨S1, .i32⟩
  | 31 => ⟨S1, .i32⟩
  | 32 => ⟨S1, .i32⟩
  | 33 => ⟨S1, .i32⟩
  | 34 => ⟨S7, .i32⟩
  | 35 => ⟨S4096x1024, .bf16⟩
  | _ => ⟨S4096x1024, .bf16⟩

abbrev hbmTy (i : Nat) : BufTy := match i / 128 with
  | 0 => hbmTy0_0 i
  | 1 => hbmTy0_1 i
  | _ => ⟨S4096x1024, .bf16⟩

abbrev bufTy : (tb : Table) → Fin (tcTables nBuf tb) → BufTy
  | .hbm, ⟨i, _⟩ => hbmTy i
  | .local _ .vmem, ⟨0, _⟩ => ⟨S4112x1024, .bf16⟩
  | .local _ .vmem, ⟨1, _⟩ => ⟨S4096x1024, .bf16⟩
  | .local _ .vmem, ⟨2, _⟩ => ⟨S4112x1024, .bf16⟩
  | .local _ .smem, ⟨0, _⟩ => ⟨S7, .i32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | _, _ => false

abbrev semScoped : Fin 1 → Bool
  | ⟨0, _⟩ => false
  | _ => false

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  (ofTc nBuf bufTy 1 42 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c_1 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c_2 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c_3 : Ref sig .tc := ⟨.hbm, 17, rfl⟩
abbrev main_v12 : Ref sig .tc := ⟨.hbm, 18, rfl⟩
abbrev main_c_4 : Ref sig .tc := ⟨.hbm, 19, rfl⟩
abbrev main_v13 : Ref sig .tc := ⟨.hbm, 20, rfl⟩
abbrev main_c_5 : Ref sig .tc := ⟨.hbm, 21, rfl⟩
abbrev main_v14 : Ref sig .tc := ⟨.hbm, 22, rfl⟩
abbrev main_c_6 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_call1_v5 : Ref sig .tc := ⟨.hbm, 29, rfl⟩
abbrev main_call1_c : Ref sig .tc := ⟨.hbm, 30, rfl⟩
abbrev main_call1_v6 : Ref sig .tc := ⟨.hbm, 31, rfl⟩
abbrev main_call1_v7 : Ref sig .tc := ⟨.hbm, 32, rfl⟩
abbrev main_call1_c_0 : Ref sig .tc := ⟨.hbm, 33, rfl⟩
abbrev main_call1_v8 : Ref sig .tc := ⟨.hbm, 34, rfl⟩
abbrev main_v15 : Ref sig .tc := ⟨.hbm, 35, rfl⟩
abbrev main_c_7 : Ref sig .tc := ⟨.hbm, 36, rfl⟩
abbrev main_v16 : Ref sig .tc := ⟨.hbm, 37, rfl⟩
abbrev main_call2_call0_c : Ref sig .tc := ⟨.hbm, 38, rfl⟩
abbrev main_call2_call0_v0 : Ref sig .tc := ⟨.hbm, 39, rfl⟩
abbrev main_v17 : Ref sig .tc := ⟨.hbm, 40, rfl⟩
abbrev main_c_8 : Ref sig .tc := ⟨.hbm, 41, rfl⟩
abbrev main_v18 : Ref sig .tc := ⟨.hbm, 42, rfl⟩
abbrev main_v19 : Ref sig .tc := ⟨.hbm, 43, rfl⟩
abbrev main_c_9 : Ref sig .tc := ⟨.hbm, 44, rfl⟩
abbrev main_v20 : Ref sig .tc := ⟨.hbm, 45, rfl⟩
abbrev main_v21 : Ref sig .tc := ⟨.hbm, 46, rfl⟩
abbrev main_call3_call0_c : Ref sig .tc := ⟨.hbm, 47, rfl⟩
abbrev main_call3_call0_v0 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_c_10 : Ref sig .tc := ⟨.hbm, 52, rfl⟩
abbrev main_v25 : Ref sig .tc := ⟨.hbm, 53, rfl⟩
abbrev main_v26 : Ref sig .tc := ⟨.hbm, 54, rfl⟩
abbrev main_call4_c : Ref sig .tc := ⟨.hbm, 55, rfl⟩
abbrev main_call4_v0 : Ref sig .tc := ⟨.hbm, 56, rfl⟩
abbrev main_call4_v1 : Ref sig .tc := ⟨.hbm, 57, rfl⟩
abbrev main_v27 : Ref sig .tc := ⟨.hbm, 58, rfl⟩
abbrev main_cst : Ref sig .tc := ⟨.hbm, 59, rfl⟩
abbrev main_v28 : Ref sig .tc := ⟨.hbm, 60, rfl⟩
abbrev main_c_11 : Ref sig .tc := ⟨.hbm, 61, rfl⟩
abbrev main_v29 : Ref sig .tc := ⟨.hbm, 62, rfl⟩
abbrev main_v30 : Ref sig .tc := ⟨.hbm, 63, rfl⟩
abbrev main_c_12 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_c_13 : Ref sig .tc := ⟨.hbm, 70, rfl⟩
abbrev main_v36 : Ref sig .tc := ⟨.hbm, 71, rfl⟩
abbrev main_c_14 : Ref sig .tc := ⟨.hbm, 72, rfl⟩
abbrev main_v37 : Ref sig .tc := ⟨.hbm, 73, rfl⟩
abbrev main_v38 : Ref sig .tc := ⟨.hbm, 74, rfl⟩
abbrev main_c_15 : Ref sig .tc := ⟨.hbm, 75, rfl⟩
abbrev main_v39 : Ref sig .tc := ⟨.hbm, 76, rfl⟩
abbrev main_c_16 : Ref sig .tc := ⟨.hbm, 77, rfl⟩
abbrev main_call6_v0 : Ref sig .tc := ⟨.hbm, 78, rfl⟩
abbrev main_v40 : Ref sig .tc := ⟨.hbm, 79, rfl⟩
abbrev main_c_17 : Ref sig .tc := ⟨.hbm, 80, rfl⟩
abbrev main_v41 : Ref sig .tc := ⟨.hbm, 81, rfl⟩
abbrev main_c_18 : Ref sig .tc := ⟨.hbm, 82, rfl⟩
abbrev main_v42 : Ref sig .tc := ⟨.hbm, 83, rfl⟩
abbrev main_c_19 : Ref sig .tc := ⟨.hbm, 84, rfl⟩
abbrev main_v43 : Ref sig .tc := ⟨.hbm, 85, rfl⟩
abbrev main_c_20 : Ref sig .tc := ⟨.hbm, 86, rfl⟩
abbrev main_v44 : Ref sig .tc := ⟨.hbm, 87, rfl⟩
abbrev main_c_21 : Ref sig .tc := ⟨.hbm, 88, rfl⟩
abbrev main_call7_v0 : Ref sig .tc := ⟨.hbm, 89, rfl⟩
abbrev main_call7_v1 : Ref sig .tc := ⟨.hbm, 90, rfl⟩
abbrev main_call7_v2 : Ref sig .tc := ⟨.hbm, 91, rfl⟩
abbrev main_call7_v3 : Ref sig .tc := ⟨.hbm, 92, rfl⟩
abbrev main_call7_v4 : Ref sig .tc := ⟨.hbm, 93, rfl⟩
abbrev main_call7_v5 : Ref sig .tc := ⟨.hbm, 94, rfl⟩
abbrev main_call7_c : Ref sig .tc := ⟨.hbm, 95, rfl⟩
abbrev main_call7_v6 : Ref sig .tc := ⟨.hbm, 96, rfl⟩
abbrev main_call7_v7 : Ref sig .tc := ⟨.hbm, 97, rfl⟩
abbrev main_call7_c_0 : Ref sig .tc := ⟨.hbm, 98, rfl⟩
abbrev main_call7_v8 : Ref sig .tc := ⟨.hbm, 99, rfl⟩
abbrev main_v45 : Ref sig .tc := ⟨.hbm, 100, rfl⟩
abbrev main_c_22 : Ref sig .tc := ⟨.hbm, 101, rfl⟩
abbrev main_v46 : Ref sig .tc := ⟨.hbm, 102, rfl⟩
abbrev main_c_23 : Ref sig .tc := ⟨.hbm, 103, rfl⟩
abbrev main_call8_v0 : Ref sig .tc := ⟨.hbm, 104, rfl⟩
abbrev main_v47 : Ref sig .tc := ⟨.hbm, 105, rfl⟩
abbrev main_c_24 : Ref sig .tc := ⟨.hbm, 106, rfl⟩
abbrev main_v48 : Ref sig .tc := ⟨.hbm, 107, rfl⟩
abbrev main_c_25 : Ref sig .tc := ⟨.hbm, 108, rfl⟩
abbrev main_v49 : Ref sig .tc := ⟨.hbm, 109, rfl⟩
abbrev main_c_26 : Ref sig .tc := ⟨.hbm, 110, rfl⟩
abbrev main_call9_v0 : Ref sig .tc := ⟨.hbm, 111, rfl⟩
abbrev main_call9_v1 : Ref sig .tc := ⟨.hbm, 112, rfl⟩
abbrev main_call9_v2 : Ref sig .tc := ⟨.hbm, 113, rfl⟩
abbrev main_call9_v3 : Ref sig .tc := ⟨.hbm, 114, rfl⟩
abbrev main_call9_v4 : Ref sig .tc := ⟨.hbm, 115, rfl⟩
abbrev main_call9_v5 : Ref sig .tc := ⟨.hbm, 116, rfl⟩
abbrev main_call9_c : Ref sig .tc := ⟨.hbm, 117, rfl⟩
abbrev main_call9_v6 : Ref sig .tc := ⟨.hbm, 118, rfl⟩
abbrev main_call9_v7 : Ref sig .tc := ⟨.hbm, 119, rfl⟩
abbrev main_call9_c_0 : Ref sig .tc := ⟨.hbm, 120, rfl⟩
abbrev main_call9_v8 : Ref sig .tc := ⟨.hbm, 121, rfl⟩
abbrev main_v50 : Ref sig .tc := ⟨.hbm, 122, rfl⟩
abbrev main_c_27 : Ref sig .tc := ⟨.hbm, 123, rfl⟩
abbrev main_v51 : Ref sig .tc := ⟨.hbm, 124, rfl⟩
abbrev main_c_28 : Ref sig .tc := ⟨.hbm, 125, rfl⟩
abbrev main_v52 : Ref sig .tc := ⟨.hbm, 126, rfl⟩
abbrev main_c_29 : Ref sig .tc := ⟨.hbm, 127, rfl⟩
abbrev main_v53 : Ref sig .tc := ⟨.hbm, 128, rfl⟩
abbrev main_v54 : Ref sig .tc := ⟨.hbm, 129, rfl⟩
abbrev main_c_30 : Ref sig .tc := ⟨.hbm, 130, rfl⟩
abbrev main_v55 : Ref sig .tc := ⟨.hbm, 131, rfl⟩
abbrev main_c_31 : Ref sig .tc := ⟨.hbm, 132, rfl⟩
abbrev main_call11_v0 : Ref sig .tc := ⟨.hbm, 133, rfl⟩
abbrev main_v56 : Ref sig .tc := ⟨.hbm, 134, rfl⟩
abbrev main_c_32 : Ref sig .tc := ⟨.hbm, 135, rfl⟩
abbrev main_v57 : Ref sig .tc := ⟨.hbm, 136, rfl⟩
abbrev main_c_33 : Ref sig .tc := ⟨.hbm, 137, rfl⟩
abbrev main_v58 : Ref sig .tc := ⟨.hbm, 138, rfl⟩
abbrev main_c_34 : Ref sig .tc := ⟨.hbm, 139, rfl⟩
abbrev main_call12_v0 : Ref sig .tc := ⟨.hbm, 140, rfl⟩
abbrev main_call12_v1 : Ref sig .tc := ⟨.hbm, 141, rfl⟩
abbrev main_call12_v2 : Ref sig .tc := ⟨.hbm, 142, rfl⟩
abbrev main_call12_v3 : Ref sig .tc := ⟨.hbm, 143, rfl⟩
abbrev main_call12_v4 : Ref sig .tc := ⟨.hbm, 144, rfl⟩
abbrev main_call12_v5 : Ref sig .tc := ⟨.hbm, 145, rfl⟩
abbrev main_call12_c : Ref sig .tc := ⟨.hbm, 146, rfl⟩
abbrev main_call12_v6 : Ref sig .tc := ⟨.hbm, 147, rfl⟩
abbrev main_call12_v7 : Ref sig .tc := ⟨.hbm, 148, rfl⟩
abbrev main_call12_c_0 : Ref sig .tc := ⟨.hbm, 149, rfl⟩
abbrev main_call12_v8 : Ref sig .tc := ⟨.hbm, 150, rfl⟩
abbrev main_v59 : Ref sig .tc := ⟨.hbm, 151, rfl⟩
abbrev main_c_35 : Ref sig .tc := ⟨.hbm, 152, rfl⟩
abbrev main_v60 : Ref sig .tc := ⟨.hbm, 153, rfl⟩
abbrev main_v61 : Ref sig .tc := ⟨.hbm, 154, rfl⟩
abbrev main_v62 : Ref sig .tc := ⟨.hbm, 155, rfl⟩
abbrev main_v63 : Ref sig .tc := ⟨.hbm, 156, rfl⟩
abbrev main_v64 : Ref sig .tc := ⟨.hbm, 157, rfl⟩
abbrev main_v65 : Ref sig .tc := ⟨.hbm, 158, rfl⟩
abbrev main_v66 : Ref sig .tc := ⟨.hbm, 159, rfl⟩
abbrev main_v67 : Ref sig .tc := ⟨.hbm, 160, rfl⟩
abbrev main_v68 : Ref sig .tc := ⟨.hbm, 161, rfl⟩
abbrev main_v69 : Ref sig .tc := ⟨.hbm, 162, rfl⟩
abbrev main_v70 : Ref sig .tc := ⟨.hbm, 163, rfl⟩
abbrev cc0_stg1_0 : Ref sig .tc := ⟨.vmem, 0, rfl⟩
abbrev cc0_stg2_0 : Ref sig .tc := ⟨.vmem, 1, rfl⟩
abbrev cc0_scratch0 : Ref sig .tc := ⟨.vmem, 2, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev barrier0 : Sem sig := 0

abbrev nD : Nat := 2
abbrev τ : Topo := Topo.v7x

variable {F : FTy → Type} [FloatOps F]

abbrev grid0 : Pipeline.Grid := .none

def k0_dev1 (d0 : Dev nD) : Nat :=
  let c0_i32 : BitVec 32 := 0#32
  let c1_i32_0 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v3 : BitVec 32 := Scalar.subi c1_i32_0 v2
  let c1_i32_2 : BitVec 32 := 1#32
  let v12 : BitVec 32 := Scalar.muli v3 c1_i32_2
  let v13 : BitVec 32 := Scalar.addi c0_i32 v12
  v13.toNat
def k0_mult1 (v5 : BitVec 32) : BitVec 32 :=
  let c0_i32_6 : BitVec 32 := 0#32
  let v310 : BitVec 32 := Scalar.addi v5 c0_i32_6
  v310
def k0_cond1 (v4 : BitVec 32) : BitVec 1 :=
  let c12_i32 : BitVec 32 := 12#32
  let v14 : BitVec 32 := Scalar.shrsi v4 c12_i32
  let c1_i32_4 : BitVec 32 := 1#32
  let v15 : BitVec 32 := Scalar.andi v14 c1_i32_4
  let c1_i32_5 : BitVec 32 := 1#32
  let v16 : BitVec 1 := Scalar.cmpi .eq v15 c1_i32_5
  let v17 : BitVec 32 := Scalar.extui v16
  let c0_i32_7 : BitVec 32 := 0#32
  let v18 : BitVec 1 := Scalar.cmpi .ne v17 c0_i32_7
  v18

def k0_mult2 (v6 : BitVec 32) : BitVec 32 :=
  let c0_i32_6 : BitVec 32 := 0#32
  let v312 : BitVec 32 := Scalar.addi v6 c0_i32_6
  v312

def k0_off1 (v6 : BitVec 32) : Fin 2 → Nat :=
  let c0_i32_6 : BitVec 32 := 0#32
  let v312 : BitVec 32 := Scalar.addi v6 c0_i32_6
  let v313 : BitVec 32 := v312
  let c0_i32_209 : BitVec 32 := 0#32
  ![v313.toNat, 0]
def k0_off2 (v5 : BitVec 32) : Fin 2 → Nat :=
  let c0_i32_6 : BitVec 32 := 0#32
  let v310 : BitVec 32 := Scalar.addi v5 c0_i32_6
  let v311 : BitVec 32 := v310
  let c0_i32_210 : BitVec 32 := 0#32
  ![v311.toNat, 0]
def k0_dev2 (d0 : Dev nD) : Nat :=
  let c0_i32_208 : BitVec 32 := 0#32
  let c1_i32_0 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v3 : BitVec 32 := Scalar.subi c1_i32_0 v2
  let c1_i32_207 : BitVec 32 := 1#32
  let v314 : BitVec 32 := Scalar.muli v3 c1_i32_207
  let v315 : BitVec 32 := Scalar.addi c0_i32_208 v314
  v315.toNat
def k0_mult3 (v4 : BitVec 32) (v5 : BitVec 32) : BitVec 32 :=
  let c0_i32_8 : BitVec 32 := 0#32
  let c12_i32 : BitVec 32 := 12#32
  let v14 : BitVec 32 := Scalar.shrsi v4 c12_i32
  let c1_i32_4 : BitVec 32 := 1#32
  let v15 : BitVec 32 := Scalar.andi v14 c1_i32_4
  let c4096_i32 : BitVec 32 := 4096#32
  let v19 : BitVec 32 := Scalar.muli v15 c4096_i32
  let v20 : BitVec 32 := Scalar.addi c0_i32_8 v19
  let v310 : BitVec 32 := Scalar.addi v5 v20
  v310
def k0_cond2 (v4 : BitVec 32) : BitVec 1 :=
  let c11_i32 : BitVec 32 := 11#32
  let v21 : BitVec 32 := Scalar.shrsi v4 c11_i32
  let c1_i32_9 : BitVec 32 := 1#32
  let v22 : BitVec 32 := Scalar.andi v21 c1_i32_9
  let c1_i32_10 : BitVec 32 := 1#32
  let v23 : BitVec 1 := Scalar.cmpi .eq v22 c1_i32_10
  let v24 : BitVec 32 := Scalar.extui v23
  let c0_i32_11 : BitVec 32 := 0#32
  let v25 : BitVec 1 := Scalar.cmpi .ne v24 c0_i32_11
  v25

def k0_mult4 (v4 : BitVec 32) (v6 : BitVec 32) : BitVec 32 :=
  let c0_i32_8 : BitVec 32 := 0#32
  let c12_i32 : BitVec 32 := 12#32
  let v14 : BitVec 32 := Scalar.shrsi v4 c12_i32
  let c1_i32_4 : BitVec 32 := 1#32
  let v15 : BitVec 32 := Scalar.andi v14 c1_i32_4
  let c4096_i32 : BitVec 32 := 4096#32
  let v19 : BitVec 32 := Scalar.muli v15 c4096_i32
  let v20 : BitVec 32 := Scalar.addi c0_i32_8 v19
  let v312 : BitVec 32 := Scalar.addi v6 v20
  v312
def k0_off3 (v4 : BitVec 32) (v6 : BitVec 32) : Fin 2 → Nat :=
  let c0_i32_8 : BitVec 32 := 0#32
  let c12_i32 : BitVec 32 := 12#32
  let v14 : BitVec 32 := Scalar.shrsi v4 c12_i32
  let c1_i32_4 : BitVec 32 := 1#32
  let v15 : BitVec 32 := Scalar.andi v14 c1_i32_4
  let c4096_i32 : BitVec 32 := 4096#32
  let v19 : BitVec 32 := Scalar.muli v15 c4096_i32
  let v20 : BitVec 32 := Scalar.addi c0_i32_8 v19
  let v312 : BitVec 32 := Scalar.addi v6 v20
  let v313 : BitVec 32 := v312
  let c0_i32_209 : BitVec 32 := 0#32
  ![v313.toNat, 0]
def k0_off4 (v4 : BitVec 32) (v5 : BitVec 32) : Fin 2 → Nat :=
  let c0_i32_8 : BitVec 32 := 0#32
  let c12_i32 : BitVec 32 := 12#32
  let v14 : BitVec 32 := Scalar.shrsi v4 c12_i32
  let c1_i32_4 : BitVec 32 := 1#32
  let v15 : BitVec 32 := Scalar.andi v14 c1_i32_4
  let c4096_i32 : BitVec 32 := 4096#32
  let v19 : BitVec 32 := Scalar.muli v15 c4096_i32
  let v20 : BitVec 32 := Scalar.addi c0_i32_8 v19
  let v310 : BitVec 32 := Scalar.addi v5 v20
  let v311 : BitVec 32 := v310
  let c0_i32_210 : BitVec 32 := 0#32
  ![v311.toNat, 0]
def k0_dev3 (d0 : Dev nD) : Nat :=
  let c0_i32_208 : BitVec 32 := 0#32
  let c1_i32_0 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v3 : BitVec 32 := Scalar.subi c1_i32_0 v2
  let c1_i32_207 : BitVec 32 := 1#32
  let v314 : BitVec 32 := Scalar.muli v3 c1_i32_207
  let v315 : BitVec 32 := Scalar.addi c0_i32_208 v314
  v315.toNat
def k0_mult5 (v4 : BitVec 32) (v5 : BitVec 32) : BitVec 32 :=
  let c0_i32_8 : BitVec 32 := 0#32
  let c12_i32 : BitVec 32 := 12#32
  let v14 : BitVec 32 := Scalar.shrsi v4 c12_i32
  let c1_i32_4 : BitVec 32 := 1#32
  let v15 : BitVec 32 := Scalar.andi v14 c1_i32_4
  let c4096_i32 : BitVec 32 := 4096#32
  let v19 : BitVec 32 := Scalar.muli v15 c4096_i32
  let v20 : BitVec 32 := Scalar.addi c0_i32_8 v19
  let c11_i32 : BitVec 32 := 11#32
  let v21 : BitVec 32 := Scalar.shrsi v4 c11_i32
  let c1_i32_9 : BitVec 32 := 1#32
  let v22 : BitVec 32 := Scalar.andi v21 c1_i32_9
  let c2048_i32 : BitVec 32 := 2048#32
  let v26 : BitVec 32 := Scalar.muli v22 c2048_i32
  let v27 : BitVec 32 := Scalar.addi v20 v26
  let v310 : BitVec 32 := Scalar.addi v5 v27
  v310
def k0_cond3 (v4 : BitVec 32) : BitVec 1 :=
  let c10_i32 : BitVec 32 := 10#32
  let v28 : BitVec 32 := Scalar.shrsi v4 c10_i32
  let c1_i32_12 : BitVec 32 := 1#32
  let v29 : BitVec 32 := Scalar.andi v28 c1_i32_12
  let c1_i32_13 : BitVec 32 := 1#32
  let v30 : BitVec 1 := Scalar.cmpi .eq v29 c1_i32_13
  let v31 : BitVec 32 := Scalar.extui v30
  let c0_i32_14 : BitVec 32 := 0#32
  let v32 : BitVec 1 := Scalar.cmpi .ne v31 c0_i32_14
  v32

def k0_mult6 (v4 : BitVec 32) (v6 : BitVec 32) : BitVec 32 :=
  let c0_i32_8 : BitVec 32 := 0#32
  let c12_i32 : BitVec 32 := 12#32
  let v14 : BitVec 32 := Scalar.shrsi v4 c12_i32
  let c1_i32_4 : BitVec 32 := 1#32
  let v15 : BitVec 32 := Scalar.andi v14 c1_i32_4
  let c4096_i32 : BitVec 32 := 4096#32
  let v19 : BitVec 32 := Scalar.muli v15 c4096_i32
  let v20 : BitVec 32 := Scalar.addi c0_i32_8 v19
  let c11_i32 : BitVec 32 := 11#32
  let v21 : BitVec 32 := Scalar.shrsi v4 c11_i32
  let c1_i32_9 : BitVec 32 := 1#32
  let v22 : BitVec 32 := Scalar.andi v21 c1_i32_9
  let c2048_i32 : BitVec 32 := 2048#32
  let v26 : BitVec 32 := Scalar.muli v22 c2048_i32
  let v27 : BitVec 32 := Scalar.addi v20 v26
  let v312 : BitVec 32 := Scalar.addi v6 v27
  v312
def k0_off5 (v4 : BitVec 32) (v6 : BitVec 32) : Fin 2 → Nat :=
  let c0_i32_8 : BitVec 32 := 0#32
  let c12_i32 : BitVec 32 := 12#32
  let v14 : BitVec 32 := Scalar.shrsi v4 c12_i32
  let c1_i32_4 : BitVec 32 := 1#32
  let v15 : BitVec 32 := Scalar.andi v14 c1_i32_4
  let c4096_i32 : BitVec 32 := 4096#32
  let v19 : BitVec 32 := Scalar.muli v15 c4096_i32
  let v20 : BitVec 32 := Scalar.addi c0_i32_8 v19
  let c11_i32 : BitVec 32 := 11#32
  let v21 : BitVec 32 := Scalar.shrsi v4 c11_i32
  let c1_i32_9 : BitVec 32 := 1#32
  let v22 : BitVec 32 := Scalar.andi v21 c1_i32_9
  let c2048_i32 : BitVec 32 := 2048#32
  let v26 : BitVec 32 := Scalar.muli v22 c2048_i32
  let v27 : BitVec 32 := Scalar.addi v20 v26
  let v312 : BitVec 32 := Scalar.addi v6 v27
  let v313 : BitVec 32 := v312
  let c0_i32_209 : BitVec 32 := 0#32
  ![v313.toNat, 0]
def k0_off6 (v4 : BitVec 32) (v5 : BitVec 32) : Fin 2 → Nat :=
  let c0_i32_8 : BitVec 32 := 0#32
  let c12_i32 : BitVec 32 := 12#32
  let v14 : BitVec 32 := Scalar.shrsi v4 c12_i32
  let c1_i32_4 : BitVec 32 := 1#32
  let v15 : BitVec 32 := Scalar.andi v14 c1_i32_4
  let c4096_i32 : BitVec 32 := 4096#32
  let v19 : BitVec 32 := Scalar.muli v15 c4096_i32
  let v20 : BitVec 32 := Scalar.addi c0_i32_8 v19
  let c11_i32 : BitVec 32 := 11#32
  let v21 : BitVec 32 := Scalar.shrsi v4 c11_i32
  let c1_i32_9 : BitVec 32 := 1#32
  let v22 : BitVec 32 := Scalar.andi v21 c1_i32_9
  let c2048_i32 : BitVec 32 := 2048#32
  let v26 : BitVec 32 := Scalar.muli v22 c2048_i32
  let v27 : BitVec 32 := Scalar.addi v20 v26
  let v310 : BitVec 32 := Scalar.addi v5 v27
  let v311 : BitVec 32 := v310
  let c0_i32_210 : BitVec 32 := 0#32
  ![v311.toNat, 0]
def k0_dev4 (d0 : Dev nD) : Nat :=
  let c0_i32_208 : BitVec 32 := 0#32
  let c1_i32_0 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v3 : BitVec 32 := Scalar.subi c1_i32_0 v2
  let c1_i32_207 : BitVec 32 := 1#32
  let v314 : BitVec 32 := Scalar.muli v3 c1_i32_207
  let v315 : BitVec 32 := Scalar.addi c0_i32_208 v314
  v315.toNat
def k0_mult7 (v4 : BitVec 32) (v5 : BitVec 32) : BitVec 32 :=
  let c0_i32_8 : BitVec 32 := 0#32
  let c12_i32 : BitVec 32 := 12#32
  let v14 : BitVec 32 := Scalar.shrsi v4 c12_i32
  let c1_i32_4 : BitVec 32 := 1#32
  let v15 : BitVec 32 := Scalar.andi v14 c1_i32_4
  let c4096_i32 : BitVec 32 := 4096#32
  let v19 : BitVec 32 := Scalar.muli v15 c4096_i32
  let v20 : BitVec 32 := Scalar.addi c0_i32_8 v19
  let c11_i32 : BitVec 32 := 11#32
  let v21 : BitVec 32 := Scalar.shrsi v4 c11_i32
  let c1_i32_9 : BitVec 32 := 1#32
  let v22 : BitVec 32 := Scalar.andi v21 c1_i32_9
  let c2048_i32 : BitVec 32 := 2048#32
  let v26 : BitVec 32 := Scalar.muli v22 c2048_i32
  let v27 : BitVec 32 := Scalar.addi v20 v26
  let c10_i32 : BitVec 32 := 10#32
  let v28 : BitVec 32 := Scalar.shrsi v4 c10_i32
  let c1_i32_12 : BitVec 32 := 1#32
  let v29 : BitVec 32 := Scalar.andi v28 c1_i32_12
  let c1024_i32 : BitVec 32 := 1024#32
  let v33 : BitVec 32 := Scalar.muli v29 c1024_i32
  let v34 : BitVec 32 := Scalar.addi v27 v33
  let v310 : BitVec 32 := Scalar.addi v5 v34
  v310
def k0_cond4 (v4 : BitVec 32) : BitVec 1 :=
  let c9_i32 : BitVec 32 := 9#32
  let v35 : BitVec 32 := Scalar.shrsi v4 c9_i32
  let c1_i32_15 : BitVec 32 := 1#32
  let v36 : BitVec 32 := Scalar.andi v35 c1_i32_15
  let c1_i32_16 : BitVec 32 := 1#32
  let v37 : BitVec 1 := Scalar.cmpi .eq v36 c1_i32_16
  let v38 : BitVec 32 := Scalar.extui v37
  let c0_i32_17 : BitVec 32 := 0#32
  let v39 : BitVec 1 := Scalar.cmpi .ne v38 c0_i32_17
  v39

def k0_mult8 (v4 : BitVec 32) (v6 : BitVec 32) : BitVec 32 :=
  let c0_i32_8 : BitVec 32 := 0#32
  let c12_i32 : BitVec 32 := 12#32
  let v14 : BitVec 32 := Scalar.shrsi v4 c12_i32
  let c1_i32_4 : BitVec 32 := 1#32
  let v15 : BitVec 32 := Scalar.andi v14 c1_i32_4
  let c4096_i32 : BitVec 32 := 4096#32
  let v19 : BitVec 32 := Scalar.muli v15 c4096_i32
  let v20 : BitVec 32 := Scalar.addi c0_i32_8 v19
  let c11_i32 : BitVec 32 := 11#32
  let v21 : BitVec 32 := Scalar.shrsi v4 c11_i32
  let c1_i32_9 : BitVec 32 := 1#32
  let v22 : BitVec 32 := Scalar.andi v21 c1_i32_9
  let c2048_i32 : BitVec 32 := 2048#32
  let v26 : BitVec 32 := Scalar.muli v22 c2048_i32
  let v27 : BitVec 32 := Scalar.addi v20 v26
  let c10_i32 : BitVec 32 := 10#32
  let v28 : BitVec 32 := Scalar.shrsi v4 c10_i32
  let c1_i32_12 : BitVec 32 := 1#32
  let v29 : BitVec 32 := Scalar.andi v28 c1_i32_12
  let c1024_i32 : BitVec 32 := 1024#32
  let v33 : BitVec 32 := Scalar.muli v29 c1024_i32
  let v34 : BitVec 32 := Scalar.addi v27 v33
  let v312 : BitVec 32 := Scalar.addi v6 v34
  v312
def k0_off7 (v4 : BitVec 32) (v6 : BitVec 32) : Fin 2 → Nat :=
  let c0_i32_8 : BitVec 32 := 0#32
  let c12_i32 : BitVec 32 := 12#32
  let v14 : BitVec 32 := Scalar.shrsi v4 c12_i32
  let c1_i32_4 : BitVec 32 := 1#32
  let v15 : BitVec 32 := Scalar.andi v14 c1_i32_4
  let c4096_i32 : BitVec 32 := 4096#32
  let v19 : BitVec 32 := Scalar.muli v15 c4096_i32
  let v20 : BitVec 32 := Scalar.addi c0_i32_8 v19
  let c11_i32 : BitVec 32 := 11#32
  let v21 : BitVec 32 := Scalar.shrsi v4 c11_i32
  let c1_i32_9 : BitVec 32 := 1#32
  let v22 : BitVec 32 := Scalar.andi v21 c1_i32_9
  let c2048_i32 : BitVec 32 := 2048#32
  let v26 : BitVec 32 := Scalar.muli v22 c2048_i32
  let v27 : BitVec 32 := Scalar.addi v20 v26
  let c10_i32 : BitVec 32 := 10#32
  let v28 : BitVec 32 := Scalar.shrsi v4 c10_i32
  let c1_i32_12 : BitVec 32 := 1#32
  let v29 : BitVec 32 := Scalar.andi v28 c1_i32_12
  let c1024_i32 : BitVec 32 := 1024#32
  let v33 : BitVec 32 := Scalar.muli v29 c1024_i32
  let v34 : BitVec 32 := Scalar.addi v27 v33
  let v312 : BitVec 32 := Scalar.addi v6 v34
  let v313 : BitVec 32 := v312
  let c0_i32_209 : BitVec 32 := 0#32
  ![v313.toNat, 0]
def k0_off8 (v4 : BitVec 32) (v5 : BitVec 32) : Fin 2 → Nat :=
  let c0_i32_8 : BitVec 32 := 0#32
  let c12_i32 : BitVec 32 := 12#32
  let v14 : BitVec 32 := Scalar.shrsi v4 c12_i32
  let c1_i32_4 : BitVec 32 := 1#32
  let v15 : BitVec 32 := Scalar.andi v14 c1_i32_4
  let c4096_i32 : BitVec 32 := 4096#32
  let v19 : BitVec 32 := Scalar.muli v15 c4096_i32
  let v20 : BitVec 32 := Scalar.addi c0_i32_8 v19
  let c11_i32 : BitVec 32 := 11#32
  let v21 : BitVec 32 := Scalar.shrsi v4 c11_i32
  let c1_i32_9 : BitVec 32 := 1#32
  let v22 : BitVec 32 := Scalar.andi v21 c1_i32_9
  let c2048_i32 : BitVec 32 := 2048#32
  let v26 : BitVec 32 := Scalar.muli v22 c2048_i32
  let v27 : BitVec 32 := Scalar.addi v20 v26
  let c10_i32 : BitVec 32 := 10#32
  let v28 : BitVec 32 := Scalar.shrsi v4 c10_i32
  let c1_i32_12 : BitVec 32 := 1#32
  let v29 : BitVec 32 := Scalar.andi v28 c1_i32_12
  let c1024_i32 : BitVec 32 := 1024#32
  let v33 : BitVec 32 := Scalar.muli v29 c1024_i32
  let v34 : BitVec 32 := Scalar.addi v27 v33
  let v310 : BitVec 32 := Scalar.addi v5 v34
  let v311 : BitVec 32 := v310
  let c0_i32_210 : BitVec 32 := 0#32
  ![v311.toNat, 0]
def k0_dev5 (d0 : Dev nD) : Nat :=
  let c0_i32_208 : BitVec 32 := 0#32
  let c1_i32_0 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v3 : BitVec 32 := Scalar.subi c1_i32_0 v2
  let c1_i32_207 : BitVec 32 := 1#32
  let v314 : BitVec 32 := Scalar.muli v3 c1_i32_207
  let v315 : BitVec 32 := Scalar.addi c0_i32_208 v314
  v315.toNat
def k0_mult9 (v4 : BitVec 32) (v5 : BitVec 32) : BitVec 32 :=
  let c0_i32_8 : BitVec 32 := 0#32
  let c12_i32 : BitVec 32 := 12#32
  let v14 : BitVec 32 := Scalar.shrsi v4 c12_i32
  let c1_i32_4 : BitVec 32 := 1#32
  let v15 : BitVec 32 := Scalar.andi v14 c1_i32_4
  let c4096_i32 : BitVec 32 := 4096#32
  let v19 : BitVec 32 := Scalar.muli v15 c4096_i32
  let v20 : BitVec 32 := Scalar.addi c0_i32_8 v19
  let c11_i32 : BitVec 32 := 11#32
  let v21 : BitVec 32 := Scalar.shrsi v4 c11_i32
  let c1_i32_9 : BitVec 32 := 1#32
  let v22 : BitVec 32 := Scalar.andi v21 c1_i32_9
  let c2048_i32 : BitVec 32 := 2048#32
  let v26 : BitVec 32 := Scalar.muli v22 c2048_i32
  let v27 : BitVec 32 := Scalar.addi v20 v26
  let c10_i32 : BitVec 32 := 10#32
  let v28 : BitVec 32 := Scalar.shrsi v4 c10_i32
  let c1_i32_12 : BitVec 32 := 1#32
  let v29 : BitVec 32 := Scalar.andi v28 c1_i32_12
  let c1024_i32 : BitVec 32 := 1024#32
  let v33 : BitVec 32 := Scalar.muli v29 c1024_i32
  let v34 : BitVec 32 := Scalar.addi v27 v33
  let c9_i32 : BitVec 32 := 9#32
  let v35 : BitVec 32 := Scalar.shrsi v4 c9_i32
  let c1_i32_15 : BitVec 32 := 1#32
  let v36 : BitVec 32 := Scalar.andi v35 c1_i32_15
  let c512_i32 : BitVec 32 := 512#32
  let v40 : BitVec 32 := Scalar.muli v36 c512_i32
  let v41 : BitVec 32 := Scalar.addi v34 v40
  let v310 : BitVec 32 := Scalar.addi v5 v41
  v310
def k0_cond5 (v4 : BitVec 32) : BitVec 1 :=
  let c8_i32 : BitVec 32 := 8#32
  let v42 : BitVec 32 := Scalar.shrsi v4 c8_i32
  let c1_i32_18 : BitVec 32 := 1#32
  let v43 : BitVec 32 := Scalar.andi v42 c1_i32_18
  let c1_i32_19 : BitVec 32 := 1#32
  let v44 : BitVec 1 := Scalar.cmpi .eq v43 c1_i32_19
  let v45 : BitVec 32 := Scalar.extui v44
  let c0_i32_20 : BitVec 32 := 0#32
  let v46 : BitVec 1 := Scalar.cmpi .ne v45 c0_i32_20
  v46

def k0_mult10 (v4 : BitVec 32) (v6 : BitVec 32) : BitVec 32 :=
  let c0_i32_8 : BitVec 32 := 0#32
  let c12_i32 : BitVec 32 := 12#32
  let v14 : BitVec 32 := Scalar.shrsi v4 c12_i32
  let c1_i32_4 : BitVec 32 := 1#32
  let v15 : BitVec 32 := Scalar.andi v14 c1_i32_4
  let c4096_i32 : BitVec 32 := 4096#32
  let v19 : BitVec 32 := Scalar.muli v15 c4096_i32
  let v20 : BitVec 32 := Scalar.addi c0_i32_8 v19
  let c11_i32 : BitVec 32 := 11#32
  let v21 : BitVec 32 := Scalar.shrsi v4 c11_i32
  let c1_i32_9 : BitVec 32 := 1#32
  let v22 : BitVec 32 := Scalar.andi v21 c1_i32_9
  let c2048_i32 : BitVec 32 := 2048#32
  let v26 : BitVec 32 := Scalar.muli v22 c2048_i32
  let v27 : BitVec 32 := Scalar.addi v20 v26
  let c10_i32 : BitVec 32 := 10#32
  let v28 : BitVec 32 := Scalar.shrsi v4 c10_i32
  let c1_i32_12 : BitVec 32 := 1#32
  let v29 : BitVec 32 := Scalar.andi v28 c1_i32_12
  let c1024_i32 : BitVec 32 := 1024#32
  let v33 : BitVec 32 := Scalar.muli v29 c1024_i32
  let v34 : BitVec 32 := Scalar.addi v27 v33
  let c9_i32 : BitVec 32 := 9#32
  let v35 : BitVec 32 := Scalar.shrsi v4 c9_i32
  let c1_i32_15 : BitVec 32 := 1#32
  let v36 : BitVec 32 := Scalar.andi v35 c1_i32_15
  let c512_i32 : BitVec 32 := 512#32
  let v40 : BitVec 32 := Scalar.muli v36 c512_i32
  let v41 : BitVec 32 := Scalar.addi v34 v40
  let v312 : BitVec 32 := Scalar.addi v6 v41
  v312
def k0_off9 (v4 : BitVec 32) (v6 : BitVec 32) : Fin 2 → Nat :=
  let c0_i32_8 : BitVec 32 := 0#32
  let c12_i32 : BitVec 32 := 12#32
  let v14 : BitVec 32 := Scalar.shrsi v4 c12_i32
  let c1_i32_4 : BitVec 32 := 1#32
  let v15 : BitVec 32 := Scalar.andi v14 c1_i32_4
  let c4096_i32 : BitVec 32 := 4096#32
  let v19 : BitVec 32 := Scalar.muli v15 c4096_i32
  let v20 : BitVec 32 := Scalar.addi c0_i32_8 v19
  let c11_i32 : BitVec 32 := 11#32
  let v21 : BitVec 32 := Scalar.shrsi v4 c11_i32
  let c1_i32_9 : BitVec 32 := 1#32
  let v22 : BitVec 32 := Scalar.andi v21 c1_i32_9
  let c2048_i32 : BitVec 32 := 2048#32
  let v26 : BitVec 32 := Scalar.muli v22 c2048_i32
  let v27 : BitVec 32 := Scalar.addi v20 v26
  let c10_i32 : BitVec 32 := 10#32
  let v28 : BitVec 32 := Scalar.shrsi v4 c10_i32
  let c1_i32_12 : BitVec 32 := 1#32
  let v29 : BitVec 32 := Scalar.andi v28 c1_i32_12
  let c1024_i32 : BitVec 32 := 1024#32
  let v33 : BitVec 32 := Scalar.muli v29 c1024_i32
  let v34 : BitVec 32 := Scalar.addi v27 v33
  let c9_i32 : BitVec 32 := 9#32
  let v35 : BitVec 32 := Scalar.shrsi v4 c9_i32
  let c1_i32_15 : BitVec 32 := 1#32
  let v36 : BitVec 32 := Scalar.andi v35 c1_i32_15
  let c512_i32 : BitVec 32 := 512#32
  let v40 : BitVec 32 := Scalar.muli v36 c512_i32
  let v41 : BitVec 32 := Scalar.addi v34 v40
  let v312 : BitVec 32 := Scalar.addi v6 v41
  let v313 : BitVec 32 := v312
  let c0_i32_209 : BitVec 32 := 0#32
  ![v313.toNat, 0]
def k0_off10 (v4 : BitVec 32) (v5 : BitVec 32) : Fin 2 → Nat :=
  let c0_i32_8 : BitVec 32 := 0#32
  let c12_i32 : BitVec 32 := 12#32
  let v14 : BitVec 32 := Scalar.shrsi v4 c12_i32
  let c1_i32_4 : BitVec 32 := 1#32
  let v15 : BitVec 32 := Scalar.andi v14 c1_i32_4
  let c4096_i32 : BitVec 32 := 4096#32
  let v19 : BitVec 32 := Scalar.muli v15 c4096_i32
  let v20 : BitVec 32 := Scalar.addi c0_i32_8 v19
  let c11_i32 : BitVec 32 := 11#32
  let v21 : BitVec 32 := Scalar.shrsi v4 c11_i32
  let c1_i32_9 : BitVec 32 := 1#32
  let v22 : BitVec 32 := Scalar.andi v21 c1_i32_9
  let c2048_i32 : BitVec 32 := 2048#32
  let v26 : BitVec 32 := Scalar.muli v22 c2048_i32
  let v27 : BitVec 32 := Scalar.addi v20 v26
  let c10_i32 : BitVec 32 := 10#32
  let v28 : BitVec 32 := Scalar.shrsi v4 c10_i32
  let c1_i32_12 : BitVec 32 := 1#32
  let v29 : BitVec 32 := Scalar.andi v28 c1_i32_12
  let c1024_i32 : BitVec 32 := 1024#32
  let v33 : BitVec 32 := Scalar.muli v29 c1024_i32
  let v34 : BitVec 32 := Scalar.addi v27 v33
  let c9_i32 : BitVec 32 := 9#32
  let v35 : BitVec 32 := Scalar.shrsi v4 c9_i32
  let c1_i32_15 : BitVec 32 := 1#32
  let v36 : BitVec 32 := Scalar.andi v35 c1_i32_15
  let c512_i32 : BitVec 32 := 512#32
  let v40 : BitVec 32 := Scalar.muli v36 c512_i32
  let v41 : BitVec 32 := Scalar.addi v34 v40
  let v310 : BitVec 32 := Scalar.addi v5 v41
  let v311 : BitVec 32 := v310
  let c0_i32_210 : BitVec 32 := 0#32
  ![v311.toNat, 0]
def k0_dev6 (d0 : Dev nD) : Nat :=
  let c0_i32_208 : BitVec 32 := 0#32
  let c1_i32_0 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v3 : BitVec 32 := Scalar.subi c1_i32_0 v2
  let c1_i32_207 : BitVec 32 := 1#32
  let v314 : BitVec 32 := Scalar.muli v3 c1_i32_207
  let v315 : BitVec 32 := Scalar.addi c0_i32_208 v314
  v315.toNat
def k0_mult11 (v4 : BitVec 32) (v5 : BitVec 32) : BitVec 32 :=
  let c0_i32_8 : BitVec 32 := 0#32
  let c12_i32 : BitVec 32 := 12#32
  let v14 : BitVec 32 := Scalar.shrsi v4 c12_i32
  let c1_i32_4 : BitVec 32 := 1#32
  let v15 : BitVec 32 := Scalar.andi v14 c1_i32_4
  let c4096_i32 : BitVec 32 := 4096#32
  let v19 : BitVec 32 := Scalar.muli v15 c4096_i32
  let v20 : BitVec 32 := Scalar.addi c0_i32_8 v19
  let c11_i32 : BitVec 32 := 11#32
  let v21 : BitVec 32 := Scalar.shrsi v4 c11_i32
  let c1_i32_9 : BitVec 32 := 1#32
  let v22 : BitVec 32 := Scalar.andi v21 c1_i32_9
  let c2048_i32 : BitVec 32 := 2048#32
  let v26 : BitVec 32 := Scalar.muli v22 c2048_i32
  let v27 : BitVec 32 := Scalar.addi v20 v26
  let c10_i32 : BitVec 32 := 10#32
  let v28 : BitVec 32 := Scalar.shrsi v4 c10_i32
  let c1_i32_12 : BitVec 32 := 1#32
  let v29 : BitVec 32 := Scalar.andi v28 c1_i32_12
  let c1024_i32 : BitVec 32 := 1024#32
  let v33 : BitVec 32 := Scalar.muli v29 c1024_i32
  let v34 : BitVec 32 := Scalar.addi v27 v33
  let c9_i32 : BitVec 32 := 9#32
  let v35 : BitVec 32 := Scalar.shrsi v4 c9_i32
  let c1_i32_15 : BitVec 32 := 1#32
  let v36 : BitVec 32 := Scalar.andi v35 c1_i32_15
  let c512_i32 : BitVec 32 := 512#32
  let v40 : BitVec 32 := Scalar.muli v36 c512_i32
  let v41 : BitVec 32 := Scalar.addi v34 v40
  let c8_i32 : BitVec 32 := 8#32
  let v42 : BitVec 32 := Scalar.shrsi v4 c8_i32
  let c1_i32_18 : BitVec 32 := 1#32
  let v43 : BitVec 32 := Scalar.andi v42 c1_i32_18
  let c256_i32 : BitVec 32 := 256#32
  let v47 : BitVec 32 := Scalar.muli v43 c256_i32
  let v48 : BitVec 32 := Scalar.addi v41 v47
  let v310 : BitVec 32 := Scalar.addi v5 v48
  v310
def k0_cond6 (v4 : BitVec 32) : BitVec 1 :=
  let c7_i32 : BitVec 32 := 7#32
  let v49 : BitVec 32 := Scalar.shrsi v4 c7_i32
  let c1_i32_21 : BitVec 32 := 1#32
  let v50 : BitVec 32 := Scalar.andi v49 c1_i32_21
  let c1_i32_22 : BitVec 32 := 1#32
  let v51 : BitVec 1 := Scalar.cmpi .eq v50 c1_i32_22
  let v52 : BitVec 32 := Scalar.extui v51
  let c0_i32_23 : BitVec 32 := 0#32
  let v53 : BitVec 1 := Scalar.cmpi .ne v52 c0_i32_23
  v53

def k0_mult12 (v4 : BitVec 32) (v6 : BitVec 32) : BitVec 32 :=
  let c0_i32_8 : BitVec 32 := 0#32
  let c12_i32 : BitVec 32 := 12#32
  let v14 : BitVec 32 := Scalar.shrsi v4 c12_i32
  let c1_i32_4 : BitVec 32 := 1#32
  let v15 : BitVec 32 := Scalar.andi v14 c1_i32_4
  let c4096_i32 : BitVec 32 := 4096#32
  let v19 : BitVec 32 := Scalar.muli v15 c4096_i32
  let v20 : BitVec 32 := Scalar.addi c0_i32_8 v19
  let c11_i32 : BitVec 32 := 11#32
  let v21 : BitVec 32 := Scalar.shrsi v4 c11_i32
  let c1_i32_9 : BitVec 32 := 1#32
  let v22 : BitVec 32 := Scalar.andi v21 c1_i32_9
  let c2048_i32 : BitVec 32 := 2048#32
  let v26 : BitVec 32 := Scalar.muli v22 c2048_i32
  let v27 : BitVec 32 := Scalar.addi v20 v26
  let c10_i32 : BitVec 32 := 10#32
  let v28 : BitVec 32 := Scalar.shrsi v4 c10_i32
  let c1_i32_12 : BitVec 32 := 1#32
  let v29 : BitVec 32 := Scalar.andi v28 c1_i32_12
  let c1024_i32 : BitVec 32 := 1024#32
  let v33 : BitVec 32 := Scalar.muli v29 c1024_i32
  let v34 : BitVec 32 := Scalar.addi v27 v33
  let c9_i32 : BitVec 32 := 9#32
  let v35 : BitVec 32 := Scalar.shrsi v4 c9_i32
  let c1_i32_15 : BitVec 32 := 1#32
  let v36 : BitVec 32 := Scalar.andi v35 c1_i32_15
  let c512_i32 : BitVec 32 := 512#32
  let v40 : BitVec 32 := Scalar.muli v36 c512_i32
  let v41 : BitVec 32 := Scalar.addi v34 v40
  let c8_i32 : BitVec 32 := 8#32
  let v42 : BitVec 32 := Scalar.shrsi v4 c8_i32
  let c1_i32_18 : BitVec 32 := 1#32
  let v43 : BitVec 32 := Scalar.andi v42 c1_i32_18
  let c256_i32 : BitVec 32 := 256#32
  let v47 : BitVec 32 := Scalar.muli v43 c256_i32
  let v48 : BitVec 32 := Scalar.addi v41 v47
  let v312 : BitVec 32 := Scalar.addi v6 v48
  v312
def k0_off11 (v4 : BitVec 32) (v6 : BitVec 32) : Fin 2 → Nat :=
  let c0_i32_8 : BitVec 32 := 0#32
  let c12_i32 : BitVec 32 := 12#32
  let v14 : BitVec 32 := Scalar.shrsi v4 c12_i32
  let c1_i32_4 : BitVec 32 := 1#32
  let v15 : BitVec 32 := Scalar.andi v14 c1_i32_4
  let c4096_i32 : BitVec 32 := 4096#32
  let v19 : BitVec 32 := Scalar.muli v15 c4096_i32
  let v20 : BitVec 32 := Scalar.addi c0_i32_8 v19
  let c11_i32 : BitVec 32 := 11#32
  let v21 : BitVec 32 := Scalar.shrsi v4 c11_i32
  let c1_i32_9 : BitVec 32 := 1#32
  let v22 : BitVec 32 := Scalar.andi v21 c1_i32_9
  let c2048_i32 : BitVec 32 := 2048#32
  let v26 : BitVec 32 := Scalar.muli v22 c2048_i32
  let v27 : BitVec 32 := Scalar.addi v20 v26
  let c10_i32 : BitVec 32 := 10#32
  let v28 : BitVec 32 := Scalar.shrsi v4 c10_i32
  let c1_i32_12 : BitVec 32 := 1#32
  let v29 : BitVec 32 := Scalar.andi v28 c1_i32_12
  let c1024_i32 : BitVec 32 := 1024#32
  let v33 : BitVec 32 := Scalar.muli v29 c1024_i32
  let v34 : BitVec 32 := Scalar.addi v27 v33
  let c9_i32 : BitVec 32 := 9#32
  let v35 : BitVec 32 := Scalar.shrsi v4 c9_i32
  let c1_i32_15 : BitVec 32 := 1#32
  let v36 : BitVec 32 := Scalar.andi v35 c1_i32_15
  let c512_i32 : BitVec 32 := 512#32
  let v40 : BitVec 32 := Scalar.muli v36 c512_i32
  let v41 : BitVec 32 := Scalar.addi v34 v40
  let c8_i32 : BitVec 32 := 8#32
  let v42 : BitVec 32 := Scalar.shrsi v4 c8_i32
  let c1_i32_18 : BitVec 32 := 1#32
  let v43 : BitVec 32 := Scalar.andi v42 c1_i32_18
  let c256_i32 : BitVec 32 := 256#32
  let v47 : BitVec 32 := Scalar.muli v43 c256_i32
  let v48 : BitVec 32 := Scalar.addi v41 v47
  let v312 : BitVec 32 := Scalar.addi v6 v48
  let v313 : BitVec 32 := v312
  let c0_i32_209 : BitVec 32 := 0#32
  ![v313.toNat, 0]
def k0_off12 (v4 : BitVec 32) (v5 : BitVec 32) : Fin 2 → Nat :=
  let c0_i32_8 : BitVec 32 := 0#32
  let c12_i32 : BitVec 32 := 12#32
  let v14 : BitVec 32 := Scalar.shrsi v4 c12_i32
  let c1_i32_4 : BitVec 32 := 1#32
  let v15 : BitVec 32 := Scalar.andi v14 c1_i32_4
  let c4096_i32 : BitVec 32 := 4096#32
  let v19 : BitVec 32 := Scalar.muli v15 c4096_i32
  let v20 : BitVec 32 := Scalar.addi c0_i32_8 v19
  let c11_i32 : BitVec 32 := 11#32
  let v21 : BitVec 32 := Scalar.shrsi v4 c11_i32
  let c1_i32_9 : BitVec 32 := 1#32
  let v22 : BitVec 32 := Scalar.andi v21 c1_i32_9
  let c2048_i32 : BitVec 32 := 2048#32
  let v26 : BitVec 32 := Scalar.muli v22 c2048_i32
  let v27 : BitVec 32 := Scalar.addi v20 v26
  let c10_i32 : BitVec 32 := 10#32
  let v28 : BitVec 32 := Scalar.shrsi v4 c10_i32
  let c1_i32_12 : BitVec 32 := 1#32
  let v29 : BitVec 32 := Scalar.andi v28 c1_i32_12
  let c1024_i32 : BitVec 32 := 1024#32
  let v33 : BitVec 32 := Scalar.muli v29 c1024_i32
  let v34 : BitVec 32 := Scalar.addi v27 v33
  let c9_i32 : BitVec 32 := 9#32
  let v35 : BitVec 32 := Scalar.shrsi v4 c9_i32
  let c1_i32_15 : BitVec 32 := 1#32
  let v36 : BitVec 32 := Scalar.andi v35 c1_i32_15
  let c512_i32 : BitVec 32 := 512#32
  let v40 : BitVec 32 := Scalar.muli v36 c512_i32
  let v41 : BitVec 32 := Scalar.addi v34 v40
  let c8_i32 : BitVec 32 := 8#32
  let v42 : BitVec 32 := Scalar.shrsi v4 c8_i32
  let c1_i32_18 : BitVec 32 := 1#32
  let v43 : BitVec 32 := Scalar.andi v42 c1_i32_18
  let c256_i32 : BitVec 32 := 256#32
  let v47 : BitVec 32 := Scalar.muli v43 c256_i32
  let v48 : BitVec 32 := Scalar.addi v41 v47
  let v310 : BitVec 32 := Scalar.addi v5 v48
  let v311 : BitVec 32 := v310
  let c0_i32_210 : BitVec 32 := 0#32
  ![v311.toNat, 0]
def k0_dev7 (d0 : Dev nD) : Nat :=
  let c0_i32_208 : BitVec 32 := 0#32
  let c1_i32_0 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v3 : BitVec 32 := Scalar.subi c1_i32_0 v2
  let c1_i32_207 : BitVec 32 := 1#32
  let v314 : BitVec 32 := Scalar.muli v3 c1_i32_207
  let v315 : BitVec 32 := Scalar.addi c0_i32_208 v314
  v315.toNat
def k0_mult13 (v4 : BitVec 32) (v5 : BitVec 32) : BitVec 32 :=
  let c0_i32_8 : BitVec 32 := 0#32
  let c12_i32 : BitVec 32 := 12#32
  let v14 : BitVec 32 := Scalar.shrsi v4 c12_i32
  let c1_i32_4 : BitVec 32 := 1#32
  let v15 : BitVec 32 := Scalar.andi v14 c1_i32_4
  let c4096_i32 : BitVec 32 := 4096#32
  let v19 : BitVec 32 := Scalar.muli v15 c4096_i32
  let v20 : BitVec 32 := Scalar.addi c0_i32_8 v19
  let c11_i32 : BitVec 32 := 11#32
  let v21 : BitVec 32 := Scalar.shrsi v4 c11_i32
  let c1_i32_9 : BitVec 32 := 1#32
  let v22 : BitVec 32 := Scalar.andi v21 c1_i32_9
  let c2048_i32 : BitVec 32 := 2048#32
  let v26 : BitVec 32 := Scalar.muli v22 c2048_i32
  let v27 : BitVec 32 := Scalar.addi v20 v26
  let c10_i32 : BitVec 32 := 10#32
  let v28 : BitVec 32 := Scalar.shrsi v4 c10_i32
  let c1_i32_12 : BitVec 32 := 1#32
  let v29 : BitVec 32 := Scalar.andi v28 c1_i32_12
  let c1024_i32 : BitVec 32 := 1024#32
  let v33 : BitVec 32 := Scalar.muli v29 c1024_i32
  let v34 : BitVec 32 := Scalar.addi v27 v33
  let c9_i32 : BitVec 32 := 9#32
  let v35 : BitVec 32 := Scalar.shrsi v4 c9_i32
  let c1_i32_15 : BitVec 32 := 1#32
  let v36 : BitVec 32 := Scalar.andi v35 c1_i32_15
  let c512_i32 : BitVec 32 := 512#32
  let v40 : BitVec 32 := Scalar.muli v36 c512_i32
  let v41 : BitVec 32 := Scalar.addi v34 v40
  let c8_i32 : BitVec 32 := 8#32
  let v42 : BitVec 32 := Scalar.shrsi v4 c8_i32
  let c1_i32_18 : BitVec 32 := 1#32
  let v43 : BitVec 32 := Scalar.andi v42 c1_i32_18
  let c256_i32 : BitVec 32 := 256#32
  let v47 : BitVec 32 := Scalar.muli v43 c256_i32
  let v48 : BitVec 32 := Scalar.addi v41 v47
  let c7_i32 : BitVec 32 := 7#32
  let v49 : BitVec 32 := Scalar.shrsi v4 c7_i32
  let c1_i32_21 : BitVec 32 := 1#32
  let v50 : BitVec 32 := Scalar.andi v49 c1_i32_21
  let c128_i32 : BitVec 32 := 128#32
  let v54 : BitVec 32 := Scalar.muli v50 c128_i32
  let v55 : BitVec 32 := Scalar.addi v48 v54
  let v310 : BitVec 32 := Scalar.addi v5 v55
  v310
def k0_cond7 (v4 : BitVec 32) : BitVec 1 :=
  let c6_i32 : BitVec 32 := 6#32
  let v56 : BitVec 32 := Scalar.shrsi v4 c6_i32
  let c1_i32_24 : BitVec 32 := 1#32
  let v57 : BitVec 32 := Scalar.andi v56 c1_i32_24
  let c1_i32_25 : BitVec 32 := 1#32
  let v58 : BitVec 1 := Scalar.cmpi .eq v57 c1_i32_25
  let v59 : BitVec 32 := Scalar.extui v58
  let c0_i32_26 : BitVec 32 := 0#32
  let v60 : BitVec 1 := Scalar.cmpi .ne v59 c0_i32_26
  v60

def k0_mult14 (v4 : BitVec 32) (v6 : BitVec 32) : BitVec 32 :=
  let c0_i32_8 : BitVec 32 := 0#32
  let c12_i32 : BitVec 32 := 12#32
  let v14 : BitVec 32 := Scalar.shrsi v4 c12_i32
  let c1_i32_4 : BitVec 32 := 1#32
  let v15 : BitVec 32 := Scalar.andi v14 c1_i32_4
  let c4096_i32 : BitVec 32 := 4096#32
  let v19 : BitVec 32 := Scalar.muli v15 c4096_i32
  let v20 : BitVec 32 := Scalar.addi c0_i32_8 v19
  let c11_i32 : BitVec 32 := 11#32
  let v21 : BitVec 32 := Scalar.shrsi v4 c11_i32
  let c1_i32_9 : BitVec 32 := 1#32
  let v22 : BitVec 32 := Scalar.andi v21 c1_i32_9
  let c2048_i32 : BitVec 32 := 2048#32
  let v26 : BitVec 32 := Scalar.muli v22 c2048_i32
  let v27 : BitVec 32 := Scalar.addi v20 v26
  let c10_i32 : BitVec 32 := 10#32
  let v28 : BitVec 32 := Scalar.shrsi v4 c10_i32
  let c1_i32_12 : BitVec 32 := 1#32
  let v29 : BitVec 32 := Scalar.andi v28 c1_i32_12
  let c1024_i32 : BitVec 32 := 1024#32
  let v33 : BitVec 32 := Scalar.muli v29 c1024_i32
  let v34 : BitVec 32 := Scalar.addi v27 v33
  let c9_i32 : BitVec 32 := 9#32
  let v35 : BitVec 32 := Scalar.shrsi v4 c9_i32
  let c1_i32_15 : BitVec 32 := 1#32
  let v36 : BitVec 32 := Scalar.andi v35 c1_i32_15
  let c512_i32 : BitVec 32 := 512#32
  let v40 : BitVec 32 := Scalar.muli v36 c512_i32
  let v41 : BitVec 32 := Scalar.addi v34 v40
  let c8_i32 : BitVec 32 := 8#32
  let v42 : BitVec 32 := Scalar.shrsi v4 c8_i32
  let c1_i32_18 : BitVec 32 := 1#32
  let v43 : BitVec 32 := Scalar.andi v42 c1_i32_18
  let c256_i32 : BitVec 32 := 256#32
  let v47 : BitVec 32 := Scalar.muli v43 c256_i32
  let v48 : BitVec 32 := Scalar.addi v41 v47
  let c7_i32 : BitVec 32 := 7#32
  let v49 : BitVec 32 := Scalar.shrsi v4 c7_i32
  let c1_i32_21 : BitVec 32 := 1#32
  let v50 : BitVec 32 := Scalar.andi v49 c1_i32_21
  let c128_i32 : BitVec 32 := 128#32
  let v54 : BitVec 32 := Scalar.muli v50 c128_i32
  let v55 : BitVec 32 := Scalar.addi v48 v54
  let v312 : BitVec 32 := Scalar.addi v6 v55
  v312
def k0_off13 (v4 : BitVec 32) (v6 : BitVec 32) : Fin 2 → Nat :=
  let c0_i32_8 : BitVec 32 := 0#32
  let c12_i32 : BitVec 32 := 12#32
  let v14 : BitVec 32 := Scalar.shrsi v4 c12_i32
  let c1_i32_4 : BitVec 32 := 1#32
  let v15 : BitVec 32 := Scalar.andi v14 c1_i32_4
  let c4096_i32 : BitVec 32 := 4096#32
  let v19 : BitVec 32 := Scalar.muli v15 c4096_i32
  let v20 : BitVec 32 := Scalar.addi c0_i32_8 v19
  let c11_i32 : BitVec 32 := 11#32
  let v21 : BitVec 32 := Scalar.shrsi v4 c11_i32
  let c1_i32_9 : BitVec 32 := 1#32
  let v22 : BitVec 32 := Scalar.andi v21 c1_i32_9
  let c2048_i32 : BitVec 32 := 2048#32
  let v26 : BitVec 32 := Scalar.muli v22 c2048_i32
  let v27 : BitVec 32 := Scalar.addi v20 v26
  let c10_i32 : BitVec 32 := 10#32
  let v28 : BitVec 32 := Scalar.shrsi v4 c10_i32
  let c1_i32_12 : BitVec 32 := 1#32
  let v29 : BitVec 32 := Scalar.andi v28 c1_i32_12
  let c1024_i32 : BitVec 32 := 1024#32
  let v33 : BitVec 32 := Scalar.muli v29 c1024_i32
  let v34 : BitVec 32 := Scalar.addi v27 v33
  let c9_i32 : BitVec 32 := 9#32
  let v35 : BitVec 32 := Scalar.shrsi v4 c9_i32
  let c1_i32_15 : BitVec 32 := 1#32
  let v36 : BitVec 32 := Scalar.andi v35 c1_i32_15
  let c512_i32 : BitVec 32 := 512#32
  let v40 : BitVec 32 := Scalar.muli v36 c512_i32
  let v41 : BitVec 32 := Scalar.addi v34 v40
  let c8_i32 : BitVec 32 := 8#32
  let v42 : BitVec 32 := Scalar.shrsi v4 c8_i32
  let c1_i32_18 : BitVec 32 := 1#32
  let v43 : BitVec 32 := Scalar.andi v42 c1_i32_18
  let c256_i32 : BitVec 32 := 256#32
  let v47 : BitVec 32 := Scalar.muli v43 c256_i32
  let v48 : BitVec 32 := Scalar.addi v41 v47
  let c7_i32 : BitVec 32 := 7#32
  let v49 : BitVec 32 := Scalar.shrsi v4 c7_i32
  let c1_i32_21 : BitVec 32 := 1#32
  let v50 : BitVec 32 := Scalar.andi v49 c1_i32_21
  let c128_i32 : BitVec 32 := 128#32
  let v54 : BitVec 32 := Scalar.muli v50 c128_i32
  let v55 : BitVec 32 := Scalar.addi v48 v54
  let v312 : BitVec 32 := Scalar.addi v6 v55
  let v313 : BitVec 32 := v312
  let c0_i32_209 : BitVec 32 := 0#32
  ![v313.toNat, 0]
def k0_off14 (v4 : BitVec 32) (v5 : BitVec 32) : Fin 2 → Nat :=
  let c0_i32_8 : BitVec 32 := 0#32
  let c12_i32 : BitVec 32 := 12#32
  let v14 : BitVec 32 := Scalar.shrsi v4 c12_i32
  let c1_i32_4 : BitVec 32 := 1#32
  let v15 : BitVec 32 := Scalar.andi v14 c1_i32_4
  let c4096_i32 : BitVec 32 := 4096#32
  let v19 : BitVec 32 := Scalar.muli v15 c4096_i32
  let v20 : BitVec 32 := Scalar.addi c0_i32_8 v19
  let c11_i32 : BitVec 32 := 11#32
  let v21 : BitVec 32 := Scalar.shrsi v4 c11_i32
  let c1_i32_9 : BitVec 32 := 1#32
  let v22 : BitVec 32 := Scalar.andi v21 c1_i32_9
  let c2048_i32 : BitVec 32 := 2048#32
  let v26 : BitVec 32 := Scalar.muli v22 c2048_i32
  let v27 : BitVec 32 := Scalar.addi v20 v26
  let c10_i32 : BitVec 32 := 10#32
  let v28 : BitVec 32 := Scalar.shrsi v4 c10_i32
  let c1_i32_12 : BitVec 32 := 1#32
  let v29 : BitVec 32 := Scalar.andi v28 c1_i32_12
  let c1024_i32 : BitVec 32 := 1024#32
  let v33 : BitVec 32 := Scalar.muli v29 c1024_i32
  let v34 : BitVec 32 := Scalar.addi v27 v33
  let c9_i32 : BitVec 32 := 9#32
  let v35 : BitVec 32 := Scalar.shrsi v4 c9_i32
  let c1_i32_15 : BitVec 32 := 1#32
  let v36 : BitVec 32 := Scalar.andi v35 c1_i32_15
  let c512_i32 : BitVec 32 := 512#32
  let v40 : BitVec 32 := Scalar.muli v36 c512_i32
  let v41 : BitVec 32 := Scalar.addi v34 v40
  let c8_i32 : BitVec 32 := 8#32
  let v42 : BitVec 32 := Scalar.shrsi v4 c8_i32
  let c1_i32_18 : BitVec 32 := 1#32
  let v43 : BitVec 32 := Scalar.andi v42 c1_i32_18
  let c256_i32 : BitVec 32 := 256#32
  let v47 : BitVec 32 := Scalar.muli v43 c256_i32
  let v48 : BitVec 32 := Scalar.addi v41 v47
  let c7_i32 : BitVec 32 := 7#32
  let v49 : BitVec 32 := Scalar.shrsi v4 c7_i32
  let c1_i32_21 : BitVec 32 := 1#32
  let v50 : BitVec 32 := Scalar.andi v49 c1_i32_21
  let c128_i32 : BitVec 32 := 128#32
  let v54 : BitVec 32 := Scalar.muli v50 c128_i32
  let v55 : BitVec 32 := Scalar.addi v48 v54
  let v310 : BitVec 32 := Scalar.addi v5 v55
  let v311 : BitVec 32 := v310
  let c0_i32_210 : BitVec 32 := 0#32
  ![v311.toNat, 0]
def k0_dev8 (d0 : Dev nD) : Nat :=
  let c0_i32_208 : BitVec 32 := 0#32
  let c1_i32_0 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v3 : BitVec 32 := Scalar.subi c1_i32_0 v2
  let c1_i32_207 : BitVec 32 := 1#32
  let v314 : BitVec 32 := Scalar.muli v3 c1_i32_207
  let v315 : BitVec 32 := Scalar.addi c0_i32_208 v314
  v315.toNat
def k0_mult15 (v4 : BitVec 32) (v5 : BitVec 32) : BitVec 32 :=
  let c0_i32_8 : BitVec 32 := 0#32
  let c12_i32 : BitVec 32 := 12#32
  let v14 : BitVec 32 := Scalar.shrsi v4 c12_i32
  let c1_i32_4 : BitVec 32 := 1#32
  let v15 : BitVec 32 := Scalar.andi v14 c1_i32_4
  let c4096_i32 : BitVec 32 := 4096#32
  let v19 : BitVec 32 := Scalar.muli v15 c4096_i32
  let v20 : BitVec 32 := Scalar.addi c0_i32_8 v19
  let c11_i32 : BitVec 32 := 11#32
  let v21 : BitVec 32 := Scalar.shrsi v4 c11_i32
  let c1_i32_9 : BitVec 32 := 1#32
  let v22 : BitVec 32 := Scalar.andi v21 c1_i32_9
  let c2048_i32 : BitVec 32 := 2048#32
  let v26 : BitVec 32 := Scalar.muli v22 c2048_i32
  let v27 : BitVec 32 := Scalar.addi v20 v26
  let c10_i32 : BitVec 32 := 10#32
  let v28 : BitVec 32 := Scalar.shrsi v4 c10_i32
  let c1_i32_12 : BitVec 32 := 1#32
  let v29 : BitVec 32 := Scalar.andi v28 c1_i32_12
  let c1024_i32 : BitVec 32 := 1024#32
  let v33 : BitVec 32 := Scalar.muli v29 c1024_i32
  let v34 : BitVec 32 := Scalar.addi v27 v33
  let c9_i32 : BitVec 32 := 9#32
  let v35 : BitVec 32 := Scalar.shrsi v4 c9_i32
  let c1_i32_15 : BitVec 32 := 1#32
  let v36 : BitVec 32 := Scalar.andi v35 c1_i32_15
  let c512_i32 : BitVec 32 := 512#32
  let v40 : BitVec 32 := Scalar.muli v36 c512_i32
  let v41 : BitVec 32 := Scalar.addi v34 v40
  let c8_i32 : BitVec 32 := 8#32
  let v42 : BitVec 32 := Scalar.shrsi v4 c8_i32
  let c1_i32_18 : BitVec 32 := 1#32
  let v43 : BitVec 32 := Scalar.andi v42 c1_i32_18
  let c256_i32 : BitVec 32 := 256#32
  let v47 : BitVec 32 := Scalar.muli v43 c256_i32
  let v48 : BitVec 32 := Scalar.addi v41 v47
  let c7_i32 : BitVec 32 := 7#32
  let v49 : BitVec 32 := Scalar.shrsi v4 c7_i32
  let c1_i32_21 : BitVec 32 := 1#32
  let v50 : BitVec 32 := Scalar.andi v49 c1_i32_21
  let c128_i32 : BitVec 32 := 128#32
  let v54 : BitVec 32 := Scalar.muli v50 c128_i32
  let v55 : BitVec 32 := Scalar.addi v48 v54
  let c6_i32 : BitVec 32 := 6#32
  let v56 : BitVec 32 := Scalar.shrsi v4 c6_i32
  let c1_i32_24 : BitVec 32 := 1#32
  let v57 : BitVec 32 := Scalar.andi v56 c1_i32_24
  let c64_i32 : BitVec 32 := 64#32
  let v61 : BitVec 32 := Scalar.muli v57 c64_i32
  let v62 : BitVec 32 := Scalar.addi v55 v61
  let v310 : BitVec 32 := Scalar.addi v5 v62
  v310
def k0_cond8 (v4 : BitVec 32) : BitVec 1 :=
  let c5_i32 : BitVec 32 := 5#32
  let v63 : BitVec 32 := Scalar.shrsi v4 c5_i32
  let c1_i32_27 : BitVec 32 := 1#32
  let v64 : BitVec 32 := Scalar.andi v63 c1_i32_27
  let c1_i32_28 : BitVec 32 := 1#32
  let v65 : BitVec 1 := Scalar.cmpi .eq v64 c1_i32_28
  let v66 : BitVec 32 := Scalar.extui v65
  let c0_i32_29 : BitVec 32 := 0#32
  let v67 : BitVec 1 := Scalar.cmpi .ne v66 c0_i32_29
  v67

def k0_mult16 (v4 : BitVec 32) (v6 : BitVec 32) : BitVec 32 :=
  let c0_i32_8 : BitVec 32 := 0#32
  let c12_i32 : BitVec 32 := 12#32
  let v14 : BitVec 32 := Scalar.shrsi v4 c12_i32
  let c1_i32_4 : BitVec 32 := 1#32
  let v15 : BitVec 32 := Scalar.andi v14 c1_i32_4
  let c4096_i32 : BitVec 32 := 4096#32
  let v19 : BitVec 32 := Scalar.muli v15 c4096_i32
  let v20 : BitVec 32 := Scalar.addi c0_i32_8 v19
  let c11_i32 : BitVec 32 := 11#32
  let v21 : BitVec 32 := Scalar.shrsi v4 c11_i32
  let c1_i32_9 : BitVec 32 := 1#32
  let v22 : BitVec 32 := Scalar.andi v21 c1_i32_9
  let c2048_i32 : BitVec 32 := 2048#32
  let v26 : BitVec 32 := Scalar.muli v22 c2048_i32
  let v27 : BitVec 32 := Scalar.addi v20 v26
  let c10_i32 : BitVec 32 := 10#32
  let v28 : BitVec 32 := Scalar.shrsi v4 c10_i32
  let c1_i32_12 : BitVec 32 := 1#32
  let v29 : BitVec 32 := Scalar.andi v28 c1_i32_12
  let c1024_i32 : BitVec 32 := 1024#32
  let v33 : BitVec 32 := Scalar.muli v29 c1024_i32
  let v34 : BitVec 32 := Scalar.addi v27 v33
  let c9_i32 : BitVec 32 := 9#32
  let v35 : BitVec 32 := Scalar.shrsi v4 c9_i32
  let c1_i32_15 : BitVec 32 := 1#32
  let v36 : BitVec 32 := Scalar.andi v35 c1_i32_15
  let c512_i32 : BitVec 32 := 512#32
  let v40 : BitVec 32 := Scalar.muli v36 c512_i32
  let v41 : BitVec 32 := Scalar.addi v34 v40
  let c8_i32 : BitVec 32 := 8#32
  let v42 : BitVec 32 := Scalar.shrsi v4 c8_i32
  let c1_i32_18 : BitVec 32 := 1#32
  let v43 : BitVec 32 := Scalar.andi v42 c1_i32_18
  let c256_i32 : BitVec 32 := 256#32
  let v47 : BitVec 32 := Scalar.muli v43 c256_i32
  let v48 : BitVec 32 := Scalar.addi v41 v47
  let c7_i32 : BitVec 32 := 7#32
  let v49 : BitVec 32 := Scalar.shrsi v4 c7_i32
  let c1_i32_21 : BitVec 32 := 1#32
  let v50 : BitVec 32 := Scalar.andi v49 c1_i32_21
  let c128_i32 : BitVec 32 := 128#32
  let v54 : BitVec 32 := Scalar.muli v50 c128_i32
  let v55 : BitVec 32 := Scalar.addi v48 v54
  let c6_i32 : BitVec 32 := 6#32
  let v56 : BitVec 32 := Scalar.shrsi v4 c6_i32
  let c1_i32_24 : BitVec 32 := 1#32
  let v57 : BitVec 32 := Scalar.andi v56 c1_i32_24
  let c64_i32 : BitVec 32 := 64#32
  let v61 : BitVec 32 := Scalar.muli v57 c64_i32
  let v62 : BitVec 32 := Scalar.addi v55 v61
  let v312 : BitVec 32 := Scalar.addi v6 v62
  v312
def k0_off15 (v4 : BitVec 32) (v6 : BitVec 32) : Fin 2 → Nat :=
  let c0_i32_8 : BitVec 32 := 0#32
  let c12_i32 : BitVec 32 := 12#32
  let v14 : BitVec 32 := Scalar.shrsi v4 c12_i32
  let c1_i32_4 : BitVec 32 := 1#32
  let v15 : BitVec 32 := Scalar.andi v14 c1_i32_4
  let c4096_i32 : BitVec 32 := 4096#32
  let v19 : BitVec 32 := Scalar.muli v15 c4096_i32
  let v20 : BitVec 32 := Scalar.addi c0_i32_8 v19
  let c11_i32 : BitVec 32 := 11#32
  let v21 : BitVec 32 := Scalar.shrsi v4 c11_i32
  let c1_i32_9 : BitVec 32 := 1#32
  let v22 : BitVec 32 := Scalar.andi v21 c1_i32_9
  let c2048_i32 : BitVec 32 := 2048#32
  let v26 : BitVec 32 := Scalar.muli v22 c2048_i32
  let v27 : BitVec 32 := Scalar.addi v20 v26
  let c10_i32 : BitVec 32 := 10#32
  let v28 : BitVec 32 := Scalar.shrsi v4 c10_i32
  let c1_i32_12 : BitVec 32 := 1#32
  let v29 : BitVec 32 := Scalar.andi v28 c1_i32_12
  let c1024_i32 : BitVec 32 := 1024#32
  let v33 : BitVec 32 := Scalar.muli v29 c1024_i32
  let v34 : BitVec 32 := Scalar.addi v27 v33
  let c9_i32 : BitVec 32 := 9#32
  let v35 : BitVec 32 := Scalar.shrsi v4 c9_i32
  let c1_i32_15 : BitVec 32 := 1#32
  let v36 : BitVec 32 := Scalar.andi v35 c1_i32_15
  let c512_i32 : BitVec 32 := 512#32
  let v40 : BitVec 32 := Scalar.muli v36 c512_i32
  let v41 : BitVec 32 := Scalar.addi v34 v40
  let c8_i32 : BitVec 32 := 8#32
  let v42 : BitVec 32 := Scalar.shrsi v4 c8_i32
  let c1_i32_18 : BitVec 32 := 1#32
  let v43 : BitVec 32 := Scalar.andi v42 c1_i32_18
  let c256_i32 : BitVec 32 := 256#32
  let v47 : BitVec 32 := Scalar.muli v43 c256_i32
  let v48 : BitVec 32 := Scalar.addi v41 v47
  let c7_i32 : BitVec 32 := 7#32
  let v49 : BitVec 32 := Scalar.shrsi v4 c7_i32
  let c1_i32_21 : BitVec 32 := 1#32
  let v50 : BitVec 32 := Scalar.andi v49 c1_i32_21
  let c128_i32 : BitVec 32 := 128#32
  let v54 : BitVec 32 := Scalar.muli v50 c128_i32
  let v55 : BitVec 32 := Scalar.addi v48 v54
  let c6_i32 : BitVec 32 := 6#32
  let v56 : BitVec 32 := Scalar.shrsi v4 c6_i32
  let c1_i32_24 : BitVec 32 := 1#32
  let v57 : BitVec 32 := Scalar.andi v56 c1_i32_24
  let c64_i32 : BitVec 32 := 64#32
  let v61 : BitVec 32 := Scalar.muli v57 c64_i32
  let v62 : BitVec 32 := Scalar.addi v55 v61
  let v312 : BitVec 32 := Scalar.addi v6 v62
  let v313 : BitVec 32 := v312
  let c0_i32_209 : BitVec 32 := 0#32
  ![v313.toNat, 0]
def k0_off16 (v4 : BitVec 32) (v5 : BitVec 32) : Fin 2 → Nat :=
  let c0_i32_8 : BitVec 32 := 0#32
  let c12_i32 : BitVec 32 := 12#32
  let v14 : BitVec 32 := Scalar.shrsi v4 c12_i32
  let c1_i32_4 : BitVec 32 := 1#32
  let v15 : BitVec 32 := Scalar.andi v14 c1_i32_4
  let c4096_i32 : BitVec 32 := 4096#32
  let v19 : BitVec 32 := Scalar.muli v15 c4096_i32
  let v20 : BitVec 32 := Scalar.addi c0_i32_8 v19
  let c11_i32 : BitVec 32 := 11#32
  let v21 : BitVec 32 := Scalar.shrsi v4 c11_i32
  let c1_i32_9 : BitVec 32 := 1#32
  let v22 : BitVec 32 := Scalar.andi v21 c1_i32_9
  let c2048_i32 : BitVec 32 := 2048#32
  let v26 : BitVec 32 := Scalar.muli v22 c2048_i32
  let v27 : BitVec 32 := Scalar.addi v20 v26
  let c10_i32 : BitVec 32 := 10#32
  let v28 : BitVec 32 := Scalar.shrsi v4 c10_i32
  let c1_i32_12 : BitVec 32 := 1#32
  let v29 : BitVec 32 := Scalar.andi v28 c1_i32_12
  let c1024_i32 : BitVec 32 := 1024#32
  let v33 : BitVec 32 := Scalar.muli v29 c1024_i32
  let v34 : BitVec 32 := Scalar.addi v27 v33
  let c9_i32 : BitVec 32 := 9#32
  let v35 : BitVec 32 := Scalar.shrsi v4 c9_i32
  let c1_i32_15 : BitVec 32 := 1#32
  let v36 : BitVec 32 := Scalar.andi v35 c1_i32_15
  let c512_i32 : BitVec 32 := 512#32
  let v40 : BitVec 32 := Scalar.muli v36 c512_i32
  let v41 : BitVec 32 := Scalar.addi v34 v40
  let c8_i32 : BitVec 32 := 8#32
  let v42 : BitVec 32 := Scalar.shrsi v4 c8_i32
  let c1_i32_18 : BitVec 32 := 1#32
  let v43 : BitVec 32 := Scalar.andi v42 c1_i32_18
  let c256_i32 : BitVec 32 := 256#32
  let v47 : BitVec 32 := Scalar.muli v43 c256_i32
  let v48 : BitVec 32 := Scalar.addi v41 v47
  let c7_i32 : BitVec 32 := 7#32
  let v49 : BitVec 32 := Scalar.shrsi v4 c7_i32
  let c1_i32_21 : BitVec 32 := 1#32
  let v50 : BitVec 32 := Scalar.andi v49 c1_i32_21
  let c128_i32 : BitVec 32 := 128#32
  let v54 : BitVec 32 := Scalar.muli v50 c128_i32
  let v55 : BitVec 32 := Scalar.addi v48 v54
  let c6_i32 : BitVec 32 := 6#32
  let v56 : BitVec 32 := Scalar.shrsi v4 c6_i32
  let c1_i32_24 : BitVec 32 := 1#32
  let v57 : BitVec 32 := Scalar.andi v56 c1_i32_24
  let c64_i32 : BitVec 32 := 64#32
  let v61 : BitVec 32 := Scalar.muli v57 c64_i32
  let v62 : BitVec 32 := Scalar.addi v55 v61
  let v310 : BitVec 32 := Scalar.addi v5 v62
  let v311 : BitVec 32 := v310
  let c0_i32_210 : BitVec 32 := 0#32
  ![v311.toNat, 0]
def k0_dev9 (d0 : Dev nD) : Nat :=
  let c0_i32_208 : BitVec 32 := 0#32
  let c1_i32_0 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v3 : BitVec 32 := Scalar.subi c1_i32_0 v2
  let c1_i32_207 : BitVec 32 := 1#32
  let v314 : BitVec 32 := Scalar.muli v3 c1_i32_207
  let v315 : BitVec 32 := Scalar.addi c0_i32_208 v314
  v315.toNat
def k0_mult17 (v4 : BitVec 32) (v5 : BitVec 32) : BitVec 32 :=
  let c0_i32_8 : BitVec 32 := 0#32
  let c12_i32 : BitVec 32 := 12#32
  let v14 : BitVec 32 := Scalar.shrsi v4 c12_i32
  let c1_i32_4 : BitVec 32 := 1#32
  let v15 : BitVec 32 := Scalar.andi v14 c1_i32_4
  let c4096_i32 : BitVec 32 := 4096#32
  let v19 : BitVec 32 := Scalar.muli v15 c4096_i32
  let v20 : BitVec 32 := Scalar.addi c0_i32_8 v19
  let c11_i32 : BitVec 32 := 11#32
  let v21 : BitVec 32 := Scalar.shrsi v4 c11_i32
  let c1_i32_9 : BitVec 32 := 1#32
  let v22 : BitVec 32 := Scalar.andi v21 c1_i32_9
  let c2048_i32 : BitVec 32 := 2048#32
  let v26 : BitVec 32 := Scalar.muli v22 c2048_i32
  let v27 : BitVec 32 := Scalar.addi v20 v26
  let c10_i32 : BitVec 32 := 10#32
  let v28 : BitVec 32 := Scalar.shrsi v4 c10_i32
  let c1_i32_12 : BitVec 32 := 1#32
  let v29 : BitVec 32 := Scalar.andi v28 c1_i32_12
  let c1024_i32 : BitVec 32 := 1024#32
  let v33 : BitVec 32 := Scalar.muli v29 c1024_i32
  let v34 : BitVec 32 := Scalar.addi v27 v33
  let c9_i32 : BitVec 32 := 9#32
  let v35 : BitVec 32 := Scalar.shrsi v4 c9_i32
  let c1_i32_15 : BitVec 32 := 1#32
  let v36 : BitVec 32 := Scalar.andi v35 c1_i32_15
  let c512_i32 : BitVec 32 := 512#32
  let v40 : BitVec 32 := Scalar.muli v36 c512_i32
  let v41 : BitVec 32 := Scalar.addi v34 v40
  let c8_i32 : BitVec 32 := 8#32
  let v42 : BitVec 32 := Scalar.shrsi v4 c8_i32
  let c1_i32_18 : BitVec 32 := 1#32
  let v43 : BitVec 32 := Scalar.andi v42 c1_i32_18
  let c256_i32 : BitVec 32 := 256#32
  let v47 : BitVec 32 := Scalar.muli v43 c256_i32
  let v48 : BitVec 32 := Scalar.addi v41 v47
  let c7_i32 : BitVec 32 := 7#32
  let v49 : BitVec 32 := Scalar.shrsi v4 c7_i32
  let c1_i32_21 : BitVec 32 := 1#32
  let v50 : BitVec 32 := Scalar.andi v49 c1_i32_21
  let c128_i32 : BitVec 32 := 128#32
  let v54 : BitVec 32 := Scalar.muli v50 c128_i32
  let v55 : BitVec 32 := Scalar.addi v48 v54
  let c6_i32 : BitVec 32 := 6#32
  let v56 : BitVec 32 := Scalar.shrsi v4 c6_i32
  let c1_i32_24 : BitVec 32 := 1#32
  let v57 : BitVec 32 := Scalar.andi v56 c1_i32_24
  let c64_i32 : BitVec 32 := 64#32
  let v61 : BitVec 32 := Scalar.muli v57 c64_i32
  let v62 : BitVec 32 := Scalar.addi v55 v61
  let c5_i32 : BitVec 32 := 5#32
  let v63 : BitVec 32 := Scalar.shrsi v4 c5_i32
  let c1_i32_27 : BitVec 32 := 1#32
  let v64 : BitVec 32 := Scalar.andi v63 c1_i32_27
  let c32_i32 : BitVec 32 := 32#32
  let v68 : BitVec 32 := Scalar.muli v64 c32_i32
  let v69 : BitVec 32 := Scalar.addi v62 v68
  let v310 : BitVec 32 := Scalar.addi v5 v69
  v310
def k0_cond9 (v4 : BitVec 32) : BitVec 1 :=
  let c4_i32 : BitVec 32 := 4#32
  let v70 : BitVec 32 := Scalar.shrsi v4 c4_i32
  let c1_i32_30 : BitVec 32 := 1#32
  let v71 : BitVec 32 := Scalar.andi v70 c1_i32_30
  let c1_i32_31 : BitVec 32 := 1#32
  let v72 : BitVec 1 := Scalar.cmpi .eq v71 c1_i32_31
  let v73 : BitVec 32 := Scalar.extui v72
  let c0_i32_32 : BitVec 32 := 0#32
  let v74 : BitVec 1 := Scalar.cmpi .ne v73 c0_i32_32
  v74

def k0_mult18 (v4 : BitVec 32) (v6 : BitVec 32) : BitVec 32 :=
  let c0_i32_8 : BitVec 32 := 0#32
  let c12_i32 : BitVec 32 := 12#32
  let v14 : BitVec 32 := Scalar.shrsi v4 c12_i32
  let c1_i32_4 : BitVec 32 := 1#32
  let v15 : BitVec 32 := Scalar.andi v14 c1_i32_4
  let c4096_i32 : BitVec 32 := 4096#32
  let v19 : BitVec 32 := Scalar.muli v15 c4096_i32
  let v20 : BitVec 32 := Scalar.addi c0_i32_8 v19
  let c11_i32 : BitVec 32 := 11#32
  let v21 : BitVec 32 := Scalar.shrsi v4 c11_i32
  let c1_i32_9 : BitVec 32 := 1#32
  let v22 : BitVec 32 := Scalar.andi v21 c1_i32_9
  let c2048_i32 : BitVec 32 := 2048#32
  let v26 : BitVec 32 := Scalar.muli v22 c2048_i32
  let v27 : BitVec 32 := Scalar.addi v20 v26
  let c10_i32 : BitVec 32 := 10#32
  let v28 : BitVec 32 := Scalar.shrsi v4 c10_i32
  let c1_i32_12 : BitVec 32 := 1#32
  let v29 : BitVec 32 := Scalar.andi v28 c1_i32_12
  let c1024_i32 : BitVec 32 := 1024#32
  let v33 : BitVec 32 := Scalar.muli v29 c1024_i32
  let v34 : BitVec 32 := Scalar.addi v27 v33
  let c9_i32 : BitVec 32 := 9#32
  let v35 : BitVec 32 := Scalar.shrsi v4 c9_i32
  let c1_i32_15 : BitVec 32 := 1#32
  let v36 : BitVec 32 := Scalar.andi v35 c1_i32_15
  let c512_i32 : BitVec 32 := 512#32
  let v40 : BitVec 32 := Scalar.muli v36 c512_i32
  let v41 : BitVec 32 := Scalar.addi v34 v40
  let c8_i32 : BitVec 32 := 8#32
  let v42 : BitVec 32 := Scalar.shrsi v4 c8_i32
  let c1_i32_18 : BitVec 32 := 1#32
  let v43 : BitVec 32 := Scalar.andi v42 c1_i32_18
  let c256_i32 : BitVec 32 := 256#32
  let v47 : BitVec 32 := Scalar.muli v43 c256_i32
  let v48 : BitVec 32 := Scalar.addi v41 v47
  let c7_i32 : BitVec 32 := 7#32
  let v49 : BitVec 32 := Scalar.shrsi v4 c7_i32
  let c1_i32_21 : BitVec 32 := 1#32
  let v50 : BitVec 32 := Scalar.andi v49 c1_i32_21
  let c128_i32 : BitVec 32 := 128#32
  let v54 : BitVec 32 := Scalar.muli v50 c128_i32
  let v55 : BitVec 32 := Scalar.addi v48 v54
  let c6_i32 : BitVec 32 := 6#32
  let v56 : BitVec 32 := Scalar.shrsi v4 c6_i32
  let c1_i32_24 : BitVec 32 := 1#32
  let v57 : BitVec 32 := Scalar.andi v56 c1_i32_24
  let c64_i32 : BitVec 32 := 64#32
  let v61 : BitVec 32 := Scalar.muli v57 c64_i32
  let v62 : BitVec 32 := Scalar.addi v55 v61
  let c5_i32 : BitVec 32 := 5#32
  let v63 : BitVec 32 := Scalar.shrsi v4 c5_i32
  let c1_i32_27 : BitVec 32 := 1#32
  let v64 : BitVec 32 := Scalar.andi v63 c1_i32_27
  let c32_i32 : BitVec 32 := 32#32
  let v68 : BitVec 32 := Scalar.muli v64 c32_i32
  let v69 : BitVec 32 := Scalar.addi v62 v68
  let v312 : BitVec 32 := Scalar.addi v6 v69
  v312
def k0_off17 (v4 : BitVec 32) (v6 : BitVec 32) : Fin 2 → Nat :=
  let c0_i32_8 : BitVec 32 := 0#32
  let c12_i32 : BitVec 32 := 12#32
  let v14 : BitVec 32 := Scalar.shrsi v4 c12_i32
  let c1_i32_4 : BitVec 32 := 1#32
  let v15 : BitVec 32 := Scalar.andi v14 c1_i32_4
  let c4096_i32 : BitVec 32 := 4096#32
  let v19 : BitVec 32 := Scalar.muli v15 c4096_i32
  let v20 : BitVec 32 := Scalar.addi c0_i32_8 v19
  let c11_i32 : BitVec 32 := 11#32
  let v21 : BitVec 32 := Scalar.shrsi v4 c11_i32
  let c1_i32_9 : BitVec 32 := 1#32
  let v22 : BitVec 32 := Scalar.andi v21 c1_i32_9
  let c2048_i32 : BitVec 32 := 2048#32
  let v26 : BitVec 32 := Scalar.muli v22 c2048_i32
  let v27 : BitVec 32 := Scalar.addi v20 v26
  let c10_i32 : BitVec 32 := 10#32
  let v28 : BitVec 32 := Scalar.shrsi v4 c10_i32
  let c1_i32_12 : BitVec 32 := 1#32
  let v29 : BitVec 32 := Scalar.andi v28 c1_i32_12
  let c1024_i32 : BitVec 32 := 1024#32
  let v33 : BitVec 32 := Scalar.muli v29 c1024_i32
  let v34 : BitVec 32 := Scalar.addi v27 v33
  let c9_i32 : BitVec 32 := 9#32
  let v35 : BitVec 32 := Scalar.shrsi v4 c9_i32
  let c1_i32_15 : BitVec 32 := 1#32
  let v36 : BitVec 32 := Scalar.andi v35 c1_i32_15
  let c512_i32 : BitVec 32 := 512#32
  let v40 : BitVec 32 := Scalar.muli v36 c512_i32
  let v41 : BitVec 32 := Scalar.addi v34 v40
  let c8_i32 : BitVec 32 := 8#32
  let v42 : BitVec 32 := Scalar.shrsi v4 c8_i32
  let c1_i32_18 : BitVec 32 := 1#32
  let v43 : BitVec 32 := Scalar.andi v42 c1_i32_18
  let c256_i32 : BitVec 32 := 256#32
  let v47 : BitVec 32 := Scalar.muli v43 c256_i32
  let v48 : BitVec 32 := Scalar.addi v41 v47
  let c7_i32 : BitVec 32 := 7#32
  let v49 : BitVec 32 := Scalar.shrsi v4 c7_i32
  let c1_i32_21 : BitVec 32 := 1#32
  let v50 : BitVec 32 := Scalar.andi v49 c1_i32_21
  let c128_i32 : BitVec 32 := 128#32
  let v54 : BitVec 32 := Scalar.muli v50 c128_i32
  let v55 : BitVec 32 := Scalar.addi v48 v54
  let c6_i32 : BitVec 32 := 6#32
  let v56 : BitVec 32 := Scalar.shrsi v4 c6_i32
  let c1_i32_24 : BitVec 32 := 1#32
  let v57 : BitVec 32 := Scalar.andi v56 c1_i32_24
  let c64_i32 : BitVec 32 := 64#32
  let v61 : BitVec 32 := Scalar.muli v57 c64_i32
  let v62 : BitVec 32 := Scalar.addi v55 v61
  let c5_i32 : BitVec 32 := 5#32
  let v63 : BitVec 32 := Scalar.shrsi v4 c5_i32
  let c1_i32_27 : BitVec 32 := 1#32
  let v64 : BitVec 32 := Scalar.andi v63 c1_i32_27
  let c32_i32 : BitVec 32 := 32#32
  let v68 : BitVec 32 := Scalar.muli v64 c32_i32
  let v69 : BitVec 32 := Scalar.addi v62 v68
  let v312 : BitVec 32 := Scalar.addi v6 v69
  let v313 : BitVec 32 := v312
  let c0_i32_209 : BitVec 32 := 0#32
  ![v313.toNat, 0]
def k0_off18 (v4 : BitVec 32) (v5 : BitVec 32) : Fin 2 → Nat :=
  let c0_i32_8 : BitVec 32 := 0#32
  let c12_i32 : BitVec 32 := 12#32
  let v14 : BitVec 32 := Scalar.shrsi v4 c12_i32
  let c1_i32_4 : BitVec 32 := 1#32
  let v15 : BitVec 32 := Scalar.andi v14 c1_i32_4
  let c4096_i32 : BitVec 32 := 4096#32
  let v19 : BitVec 32 := Scalar.muli v15 c4096_i32
  let v20 : BitVec 32 := Scalar.addi c0_i32_8 v19
  let c11_i32 : BitVec 32 := 11#32
  let v21 : BitVec 32 := Scalar.shrsi v4 c11_i32
  let c1_i32_9 : BitVec 32 := 1#32
  let v22 : BitVec 32 := Scalar.andi v21 c1_i32_9
  let c2048_i32 : BitVec 32 := 2048#32
  let v26 : BitVec 32 := Scalar.muli v22 c2048_i32
  let v27 : BitVec 32 := Scalar.addi v20 v26
  let c10_i32 : BitVec 32 := 10#32
  let v28 : BitVec 32 := Scalar.shrsi v4 c10_i32
  let c1_i32_12 : BitVec 32 := 1#32
  let v29 : BitVec 32 := Scalar.andi v28 c1_i32_12
  let c1024_i32 : BitVec 32 := 1024#32
  let v33 : BitVec 32 := Scalar.muli v29 c1024_i32
  let v34 : BitVec 32 := Scalar.addi v27 v33
  let c9_i32 : BitVec 32 := 9#32
  let v35 : BitVec 32 := Scalar.shrsi v4 c9_i32
  let c1_i32_15 : BitVec 32 := 1#32
  let v36 : BitVec 32 := Scalar.andi v35 c1_i32_15
  let c512_i32 : BitVec 32 := 512#32
  let v40 : BitVec 32 := Scalar.muli v36 c512_i32
  let v41 : BitVec 32 := Scalar.addi v34 v40
  let c8_i32 : BitVec 32 := 8#32
  let v42 : BitVec 32 := Scalar.shrsi v4 c8_i32
  let c1_i32_18 : BitVec 32 := 1#32
  let v43 : BitVec 32 := Scalar.andi v42 c1_i32_18
  let c256_i32 : BitVec 32 := 256#32
  let v47 : BitVec 32 := Scalar.muli v43 c256_i32
  let v48 : BitVec 32 := Scalar.addi v41 v47
  let c7_i32 : BitVec 32 := 7#32
  let v49 : BitVec 32 := Scalar.shrsi v4 c7_i32
  let c1_i32_21 : BitVec 32 := 1#32
  let v50 : BitVec 32 := Scalar.andi v49 c1_i32_21
  let c128_i32 : BitVec 32 := 128#32
  let v54 : BitVec 32 := Scalar.muli v50 c128_i32
  let v55 : BitVec 32 := Scalar.addi v48 v54
  let c6_i32 : BitVec 32 := 6#32
  let v56 : BitVec 32 := Scalar.shrsi v4 c6_i32
  let c1_i32_24 : BitVec 32 := 1#32
  let v57 : BitVec 32 := Scalar.andi v56 c1_i32_24
  let c64_i32 : BitVec 32 := 64#32
  let v61 : BitVec 32 := Scalar.muli v57 c64_i32
  let v62 : BitVec 32 := Scalar.addi v55 v61
  let c5_i32 : BitVec 32 := 5#32
  let v63 : BitVec 32 := Scalar.shrsi v4 c5_i32
  let c1_i32_27 : BitVec 32 := 1#32
  let v64 : BitVec 32 := Scalar.andi v63 c1_i32_27
  let c32_i32 : BitVec 32 := 32#32
  let v68 : BitVec 32 := Scalar.muli v64 c32_i32
  let v69 : BitVec 32 := Scalar.addi v62 v68
  let v310 : BitVec 32 := Scalar.addi v5 v69
  let v311 : BitVec 32 := v310
  let c0_i32_210 : BitVec 32 := 0#32
  ![v311.toNat, 0]
def k0_dev10 (d0 : Dev nD) : Nat :=
  let c0_i32_208 : BitVec 32 := 0#32
  let c1_i32_0 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v3 : BitVec 32 := Scalar.subi c1_i32_0 v2
  let c1_i32_207 : BitVec 32 := 1#32
  let v314 : BitVec 32 := Scalar.muli v3 c1_i32_207
  let v315 : BitVec 32 := Scalar.addi c0_i32_208 v314
  v315.toNat
def k0_mult19 (v4 : BitVec 32) (v5 : BitVec 32) : BitVec 32 :=
  let c0_i32_8 : BitVec 32 := 0#32
  let c12_i32 : BitVec 32 := 12#32
  let v14 : BitVec 32 := Scalar.shrsi v4 c12_i32
  let c1_i32_4 : BitVec 32 := 1#32
  let v15 : BitVec 32 := Scalar.andi v14 c1_i32_4
  let c4096_i32 : BitVec 32 := 4096#32
  let v19 : BitVec 32 := Scalar.muli v15 c4096_i32
  let v20 : BitVec 32 := Scalar.addi c0_i32_8 v19
  let c11_i32 : BitVec 32 := 11#32
  let v21 : BitVec 32 := Scalar.shrsi v4 c11_i32
  let c1_i32_9 : BitVec 32 := 1#32
  let v22 : BitVec 32 := Scalar.andi v21 c1_i32_9
  let c2048_i32 : BitVec 32 := 2048#32
  let v26 : BitVec 32 := Scalar.muli v22 c2048_i32
  let v27 : BitVec 32 := Scalar.addi v20 v26
  let c10_i32 : BitVec 32 := 10#32
  let v28 : BitVec 32 := Scalar.shrsi v4 c10_i32
  let c1_i32_12 : BitVec 32 := 1#32
  let v29 : BitVec 32 := Scalar.andi v28 c1_i32_12
  let c1024_i32 : BitVec 32 := 1024#32
  let v33 : BitVec 32 := Scalar.muli v29 c1024_i32
  let v34 : BitVec 32 := Scalar.addi v27 v33
  let c9_i32 : BitVec 32 := 9#32
  let v35 : BitVec 32 := Scalar.shrsi v4 c9_i32
  let c1_i32_15 : BitVec 32 := 1#32
  let v36 : BitVec 32 := Scalar.andi v35 c1_i32_15
  let c512_i32 : BitVec 32 := 512#32
  let v40 : BitVec 32 := Scalar.muli v36 c512_i32
  let v41 : BitVec 32 := Scalar.addi v34 v40
  let c8_i32 : BitVec 32 := 8#32
  let v42 : BitVec 32 := Scalar.shrsi v4 c8_i32
  let c1_i32_18 : BitVec 32 := 1#32
  let v43 : BitVec 32 := Scalar.andi v42 c1_i32_18
  let c256_i32 : BitVec 32 := 256#32
  let v47 : BitVec 32 := Scalar.muli v43 c256_i32
  let v48 : BitVec 32 := Scalar.addi v41 v47
  let c7_i32 : BitVec 32 := 7#32
  let v49 : BitVec 32 := Scalar.shrsi v4 c7_i32
  let c1_i32_21 : BitVec 32 := 1#32
  let v50 : BitVec 32 := Scalar.andi v49 c1_i32_21
  let c128_i32 : BitVec 32 := 128#32
  let v54 : BitVec 32 := Scalar.muli v50 c128_i32
  let v55 : BitVec 32 := Scalar.addi v48 v54
  let c6_i32 : BitVec 32 := 6#32
  let v56 : BitVec 32 := Scalar.shrsi v4 c6_i32
  let c1_i32_24 : BitVec 32 := 1#32
  let v57 : BitVec 32 := Scalar.andi v56 c1_i32_24
  let c64_i32 : BitVec 32 := 64#32
  let v61 : BitVec 32 := Scalar.muli v57 c64_i32
  let v62 : BitVec 32 := Scalar.addi v55 v61
  let c5_i32 : BitVec 32 := 5#32
  let v63 : BitVec 32 := Scalar.shrsi v4 c5_i32
  let c1_i32_27 : BitVec 32 := 1#32
  let v64 : BitVec 32 := Scalar.andi v63 c1_i32_27
  let c32_i32 : BitVec 32 := 32#32
  let v68 : BitVec 32 := Scalar.muli v64 c32_i32
  let v69 : BitVec 32 := Scalar.addi v62 v68
  let c4_i32 : BitVec 32 := 4#32
  let v70 : BitVec 32 := Scalar.shrsi v4 c4_i32
  let c1_i32_30 : BitVec 32 := 1#32
  let v71 : BitVec 32 := Scalar.andi v70 c1_i32_30
  let c16_i32 : BitVec 32 := 16#32
  let v75 : BitVec 32 := Scalar.muli v71 c16_i32
  let v76 : BitVec 32 := Scalar.addi v69 v75
  let v310 : BitVec 32 := Scalar.addi v5 v76
  v310
def k0_cond10 (v4 : BitVec 32) : BitVec 1 :=
  let c3_i32 : BitVec 32 := 3#32
  let v77 : BitVec 32 := Scalar.shrsi v4 c3_i32
  let c1_i32_33 : BitVec 32 := 1#32
  let v78 : BitVec 32 := Scalar.andi v77 c1_i32_33
  let c1_i32_34 : BitVec 32 := 1#32
  let v79 : BitVec 1 := Scalar.cmpi .eq v78 c1_i32_34
  let v80 : BitVec 32 := Scalar.extui v79
  let c0_i32_35 : BitVec 32 := 0#32
  let v81 : BitVec 1 := Scalar.cmpi .ne v80 c0_i32_35
  v81

def k0_mult20 (v4 : BitVec 32) (v6 : BitVec 32) : BitVec 32 :=
  let c0_i32_8 : BitVec 32 := 0#32
  let c12_i32 : BitVec 32 := 12#32
  let v14 : BitVec 32 := Scalar.shrsi v4 c12_i32
  let c1_i32_4 : BitVec 32 := 1#32
  let v15 : BitVec 32 := Scalar.andi v14 c1_i32_4
  let c4096_i32 : BitVec 32 := 4096#32
  let v19 : BitVec 32 := Scalar.muli v15 c4096_i32
  let v20 : BitVec 32 := Scalar.addi c0_i32_8 v19
  let c11_i32 : BitVec 32 := 11#32
  let v21 : BitVec 32 := Scalar.shrsi v4 c11_i32
  let c1_i32_9 : BitVec 32 := 1#32
  let v22 : BitVec 32 := Scalar.andi v21 c1_i32_9
  let c2048_i32 : BitVec 32 := 2048#32
  let v26 : BitVec 32 := Scalar.muli v22 c2048_i32
  let v27 : BitVec 32 := Scalar.addi v20 v26
  let c10_i32 : BitVec 32 := 10#32
  let v28 : BitVec 32 := Scalar.shrsi v4 c10_i32
  let c1_i32_12 : BitVec 32 := 1#32
  let v29 : BitVec 32 := Scalar.andi v28 c1_i32_12
  let c1024_i32 : BitVec 32 := 1024#32
  let v33 : BitVec 32 := Scalar.muli v29 c1024_i32
  let v34 : BitVec 32 := Scalar.addi v27 v33
  let c9_i32 : BitVec 32 := 9#32
  let v35 : BitVec 32 := Scalar.shrsi v4 c9_i32
  let c1_i32_15 : BitVec 32 := 1#32
  let v36 : BitVec 32 := Scalar.andi v35 c1_i32_15
  let c512_i32 : BitVec 32 := 512#32
  let v40 : BitVec 32 := Scalar.muli v36 c512_i32
  let v41 : BitVec 32 := Scalar.addi v34 v40
  let c8_i32 : BitVec 32 := 8#32
  let v42 : BitVec 32 := Scalar.shrsi v4 c8_i32
  let c1_i32_18 : BitVec 32 := 1#32
  let v43 : BitVec 32 := Scalar.andi v42 c1_i32_18
  let c256_i32 : BitVec 32 := 256#32
  let v47 : BitVec 32 := Scalar.muli v43 c256_i32
  let v48 : BitVec 32 := Scalar.addi v41 v47
  let c7_i32 : BitVec 32 := 7#32
  let v49 : BitVec 32 := Scalar.shrsi v4 c7_i32
  let c1_i32_21 : BitVec 32 := 1#32
  let v50 : BitVec 32 := Scalar.andi v49 c1_i32_21
  let c128_i32 : BitVec 32 := 128#32
  let v54 : BitVec 32 := Scalar.muli v50 c128_i32
  let v55 : BitVec 32 := Scalar.addi v48 v54
  let c6_i32 : BitVec 32 := 6#32
  let v56 : BitVec 32 := Scalar.shrsi v4 c6_i32
  let c1_i32_24 : BitVec 32 := 1#32
  let v57 : BitVec 32 := Scalar.andi v56 c1_i32_24
  let c64_i32 : BitVec 32 := 64#32
  let v61 : BitVec 32 := Scalar.muli v57 c64_i32
  let v62 : BitVec 32 := Scalar.addi v55 v61
  let c5_i32 : BitVec 32 := 5#32
  let v63 : BitVec 32 := Scalar.shrsi v4 c5_i32
  let c1_i32_27 : BitVec 32 := 1#32
  let v64 : BitVec 32 := Scalar.andi v63 c1_i32_27
  let c32_i32 : BitVec 32 := 32#32
  let v68 : BitVec 32 := Scalar.muli v64 c32_i32
  let v69 : BitVec 32 := Scalar.addi v62 v68
  let c4_i32 : BitVec 32 := 4#32
  let v70 : BitVec 32 := Scalar.shrsi v4 c4_i32
  let c1_i32_30 : BitVec 32 := 1#32
  let v71 : BitVec 32 := Scalar.andi v70 c1_i32_30
  let c16_i32 : BitVec 32 := 16#32
  let v75 : BitVec 32 := Scalar.muli v71 c16_i32
  let v76 : BitVec 32 := Scalar.addi v69 v75
  let v312 : BitVec 32 := Scalar.addi v6 v76
  v312
def k0_off19 (v4 : BitVec 32) (v6 : BitVec 32) : Fin 2 → Nat :=
  let c0_i32_8 : BitVec 32 := 0#32
  let c12_i32 : BitVec 32 := 12#32
  let v14 : BitVec 32 := Scalar.shrsi v4 c12_i32
  let c1_i32_4 : BitVec 32 := 1#32
  let v15 : BitVec 32 := Scalar.andi v14 c1_i32_4
  let c4096_i32 : BitVec 32 := 4096#32
  let v19 : BitVec 32 := Scalar.muli v15 c4096_i32
  let v20 : BitVec 32 := Scalar.addi c0_i32_8 v19
  let c11_i32 : BitVec 32 := 11#32
  let v21 : BitVec 32 := Scalar.shrsi v4 c11_i32
  let c1_i32_9 : BitVec 32 := 1#32
  let v22 : BitVec 32 := Scalar.andi v21 c1_i32_9
  let c2048_i32 : BitVec 32 := 2048#32
  let v26 : BitVec 32 := Scalar.muli v22 c2048_i32
  let v27 : BitVec 32 := Scalar.addi v20 v26
  let c10_i32 : BitVec 32 := 10#32
  let v28 : BitVec 32 := Scalar.shrsi v4 c10_i32
  let c1_i32_12 : BitVec 32 := 1#32
  let v29 : BitVec 32 := Scalar.andi v28 c1_i32_12
  let c1024_i32 : BitVec 32 := 1024#32
  let v33 : BitVec 32 := Scalar.muli v29 c1024_i32
  let v34 : BitVec 32 := Scalar.addi v27 v33
  let c9_i32 : BitVec 32 := 9#32
  let v35 : BitVec 32 := Scalar.shrsi v4 c9_i32
  let c1_i32_15 : BitVec 32 := 1#32
  let v36 : BitVec 32 := Scalar.andi v35 c1_i32_15
  let c512_i32 : BitVec 32 := 512#32
  let v40 : BitVec 32 := Scalar.muli v36 c512_i32
  let v41 : BitVec 32 := Scalar.addi v34 v40
  let c8_i32 : BitVec 32 := 8#32
  let v42 : BitVec 32 := Scalar.shrsi v4 c8_i32
  let c1_i32_18 : BitVec 32 := 1#32
  let v43 : BitVec 32 := Scalar.andi v42 c1_i32_18
  let c256_i32 : BitVec 32 := 256#32
  let v47 : BitVec 32 := Scalar.muli v43 c256_i32
  let v48 : BitVec 32 := Scalar.addi v41 v47
  let c7_i32 : BitVec 32 := 7#32
  let v49 : BitVec 32 := Scalar.shrsi v4 c7_i32
  let c1_i32_21 : BitVec 32 := 1#32
  let v50 : BitVec 32 := Scalar.andi v49 c1_i32_21
  let c128_i32 : BitVec 32 := 128#32
  let v54 : BitVec 32 := Scalar.muli v50 c128_i32
  let v55 : BitVec 32 := Scalar.addi v48 v54
  let c6_i32 : BitVec 32 := 6#32
  let v56 : BitVec 32 := Scalar.shrsi v4 c6_i32
  let c1_i32_24 : BitVec 32 := 1#32
  let v57 : BitVec 32 := Scalar.andi v56 c1_i32_24
  let c64_i32 : BitVec 32 := 64#32
  let v61 : BitVec 32 := Scalar.muli v57 c64_i32
  let v62 : BitVec 32 := Scalar.addi v55 v61
  let c5_i32 : BitVec 32 := 5#32
  let v63 : BitVec 32 := Scalar.shrsi v4 c5_i32
  let c1_i32_27 : BitVec 32 := 1#32
  let v64 : BitVec 32 := Scalar.andi v63 c1_i32_27
  let c32_i32 : BitVec 32 := 32#32
  let v68 : BitVec 32 := Scalar.muli v64 c32_i32
  let v69 : BitVec 32 := Scalar.addi v62 v68
  let c4_i32 : BitVec 32 := 4#32
  let v70 : BitVec 32 := Scalar.shrsi v4 c4_i32
  let c1_i32_30 : BitVec 32 := 1#32
  let v71 : BitVec 32 := Scalar.andi v70 c1_i32_30
  let c16_i32 : BitVec 32 := 16#32
  let v75 : BitVec 32 := Scalar.muli v71 c16_i32
  let v76 : BitVec 32 := Scalar.addi v69 v75
  let v312 : BitVec 32 := Scalar.addi v6 v76
  let v313 : BitVec 32 := v312
  let c0_i32_209 : BitVec 32 := 0#32
  ![v313.toNat, 0]
def k0_off20 (v4 : BitVec 32) (v5 : BitVec 32) : Fin 2 → Nat :=
  let c0_i32_8 : BitVec 32 := 0#32
  let c12_i32 : BitVec 32 := 12#32
  let v14 : BitVec 32 := Scalar.shrsi v4 c12_i32
  let c1_i32_4 : BitVec 32 := 1#32
  let v15 : BitVec 32 := Scalar.andi v14 c1_i32_4
  let c4096_i32 : BitVec 32 := 4096#32
  let v19 : BitVec 32 := Scalar.muli v15 c4096_i32
  let v20 : BitVec 32 := Scalar.addi c0_i32_8 v19
  let c11_i32 : BitVec 32 := 11#32
  let v21 : BitVec 32 := Scalar.shrsi v4 c11_i32
  let c1_i32_9 : BitVec 32 := 1#32
  let v22 : BitVec 32 := Scalar.andi v21 c1_i32_9
  let c2048_i32 : BitVec 32 := 2048#32
  let v26 : BitVec 32 := Scalar.muli v22 c2048_i32
  let v27 : BitVec 32 := Scalar.addi v20 v26
  let c10_i32 : BitVec 32 := 10#32
  let v28 : BitVec 32 := Scalar.shrsi v4 c10_i32
  let c1_i32_12 : BitVec 32 := 1#32
  let v29 : BitVec 32 := Scalar.andi v28 c1_i32_12
  let c1024_i32 : BitVec 32 := 1024#32
  let v33 : BitVec 32 := Scalar.muli v29 c1024_i32
  let v34 : BitVec 32 := Scalar.addi v27 v33
  let c9_i32 : BitVec 32 := 9#32
  let v35 : BitVec 32 := Scalar.shrsi v4 c9_i32
  let c1_i32_15 : BitVec 32 := 1#32
  let v36 : BitVec 32 := Scalar.andi v35 c1_i32_15
  let c512_i32 : BitVec 32 := 512#32
  let v40 : BitVec 32 := Scalar.muli v36 c512_i32
  let v41 : BitVec 32 := Scalar.addi v34 v40
  let c8_i32 : BitVec 32 := 8#32
  let v42 : BitVec 32 := Scalar.shrsi v4 c8_i32
  let c1_i32_18 : BitVec 32 := 1#32
  let v43 : BitVec 32 := Scalar.andi v42 c1_i32_18
  let c256_i32 : BitVec 32 := 256#32
  let v47 : BitVec 32 := Scalar.muli v43 c256_i32
  let v48 : BitVec 32 := Scalar.addi v41 v47
  let c7_i32 : BitVec 32 := 7#32
  let v49 : BitVec 32 := Scalar.shrsi v4 c7_i32
  let c1_i32_21 : BitVec 32 := 1#32
  let v50 : BitVec 32 := Scalar.andi v49 c1_i32_21
  let c128_i32 : BitVec 32 := 128#32
  let v54 : BitVec 32 := Scalar.muli v50 c128_i32
  let v55 : BitVec 32 := Scalar.addi v48 v54
  let c6_i32 : BitVec 32 := 6#32
  let v56 : BitVec 32 := Scalar.shrsi v4 c6_i32
  let c1_i32_24 : BitVec 32 := 1#32
  let v57 : BitVec 32 := Scalar.andi v56 c1_i32_24
  let c64_i32 : BitVec 32 := 64#32
  let v61 : BitVec 32 := Scalar.muli v57 c64_i32
  let v62 : BitVec 32 := Scalar.addi v55 v61
  let c5_i32 : BitVec 32 := 5#32
  let v63 : BitVec 32 := Scalar.shrsi v4 c5_i32
  let c1_i32_27 : BitVec 32 := 1#32
  let v64 : BitVec 32 := Scalar.andi v63 c1_i32_27
  let c32_i32 : BitVec 32 := 32#32
  let v68 : BitVec 32 := Scalar.muli v64 c32_i32
  let v69 : BitVec 32 := Scalar.addi v62 v68
  let c4_i32 : BitVec 32 := 4#32
  let v70 : BitVec 32 := Scalar.shrsi v4 c4_i32
  let c1_i32_30 : BitVec 32 := 1#32
  let v71 : BitVec 32 := Scalar.andi v70 c1_i32_30
  let c16_i32 : BitVec 32 := 16#32
  let v75 : BitVec 32 := Scalar.muli v71 c16_i32
  let v76 : BitVec 32 := Scalar.addi v69 v75
  let v310 : BitVec 32 := Scalar.addi v5 v76
  let v311 : BitVec 32 := v310
  let c0_i32_210 : BitVec 32 := 0#32
  ![v311.toNat, 0]
def k0_dev11 (d0 : Dev nD) : Nat :=
  let c0_i32_208 : BitVec 32 := 0#32
  let c1_i32_0 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v3 : BitVec 32 := Scalar.subi c1_i32_0 v2
  let c1_i32_207 : BitVec 32 := 1#32
  let v314 : BitVec 32 := Scalar.muli v3 c1_i32_207
  let v315 : BitVec 32 := Scalar.addi c0_i32_208 v314
  v315.toNat
def k0_mult21 (v9 : BitVec 32) : BitVec 32 :=
  let c0_i32_39 : BitVec 32 := 0#32
  let v310 : BitVec 32 := Scalar.addi v9 c0_i32_39
  v310
def k0_cond11 (v10 : BitVec 32) : BitVec 1 :=
  let c12_i32_36 : BitVec 32 := 12#32
  let v82 : BitVec 32 := Scalar.shrsi v10 c12_i32_36
  let c1_i32_37 : BitVec 32 := 1#32
  let v83 : BitVec 32 := Scalar.andi v82 c1_i32_37
  let c1_i32_38 : BitVec 32 := 1#32
  let v84 : BitVec 1 := Scalar.cmpi .eq v83 c1_i32_38
  let v85 : BitVec 32 := Scalar.extui v84
  let c0_i32_40 : BitVec 32 := 0#32
  let v86 : BitVec 1 := Scalar.cmpi .ne v85 c0_i32_40
  v86

def k0_off21 (v9 : BitVec 32) : Fin 2 → Nat :=
  let c0_i32_39 : BitVec 32 := 0#32
  let v310 : BitVec 32 := Scalar.addi v9 c0_i32_39
  let v311 : BitVec 32 := v310
  let c0_i32_206 : BitVec 32 := 0#32
  ![v311.toNat, 0]
def k0_mult22 (v9 : BitVec 32) (v10 : BitVec 32) : BitVec 32 :=
  let c0_i32_42 : BitVec 32 := 0#32
  let c12_i32_36 : BitVec 32 := 12#32
  let v82 : BitVec 32 := Scalar.shrsi v10 c12_i32_36
  let c1_i32_37 : BitVec 32 := 1#32
  let v83 : BitVec 32 := Scalar.andi v82 c1_i32_37
  let c4096_i32_41 : BitVec 32 := 4096#32
  let v87 : BitVec 32 := Scalar.muli v83 c4096_i32_41
  let v88 : BitVec 32 := Scalar.addi c0_i32_42 v87
  let v310 : BitVec 32 := Scalar.addi v9 v88
  v310
def k0_cond12 (v10 : BitVec 32) : BitVec 1 :=
  let c11_i32_43 : BitVec 32 := 11#32
  let v89 : BitVec 32 := Scalar.shrsi v10 c11_i32_43
  let c1_i32_44 : BitVec 32 := 1#32
  let v90 : BitVec 32 := Scalar.andi v89 c1_i32_44
  let c1_i32_45 : BitVec 32 := 1#32
  let v91 : BitVec 1 := Scalar.cmpi .eq v90 c1_i32_45
  let v92 : BitVec 32 := Scalar.extui v91
  let c0_i32_46 : BitVec 32 := 0#32
  let v93 : BitVec 1 := Scalar.cmpi .ne v92 c0_i32_46
  v93

def k0_off22 (v9 : BitVec 32) (v10 : BitVec 32) : Fin 2 → Nat :=
  let c0_i32_42 : BitVec 32 := 0#32
  let c12_i32_36 : BitVec 32 := 12#32
  let v82 : BitVec 32 := Scalar.shrsi v10 c12_i32_36
  let c1_i32_37 : BitVec 32 := 1#32
  let v83 : BitVec 32 := Scalar.andi v82 c1_i32_37
  let c4096_i32_41 : BitVec 32 := 4096#32
  let v87 : BitVec 32 := Scalar.muli v83 c4096_i32_41
  let v88 : BitVec 32 := Scalar.addi c0_i32_42 v87
  let v310 : BitVec 32 := Scalar.addi v9 v88
  let v311 : BitVec 32 := v310
  let c0_i32_206 : BitVec 32 := 0#32
  ![v311.toNat, 0]
def k0_mult23 (v9 : BitVec 32) (v10 : BitVec 32) : BitVec 32 :=
  let c0_i32_42 : BitVec 32 := 0#32
  let c12_i32_36 : BitVec 32 := 12#32
  let v82 : BitVec 32 := Scalar.shrsi v10 c12_i32_36
  let c1_i32_37 : BitVec 32 := 1#32
  let v83 : BitVec 32 := Scalar.andi v82 c1_i32_37
  let c4096_i32_41 : BitVec 32 := 4096#32
  let v87 : BitVec 32 := Scalar.muli v83 c4096_i32_41
  let v88 : BitVec 32 := Scalar.addi c0_i32_42 v87
  let c11_i32_43 : BitVec 32 := 11#32
  let v89 : BitVec 32 := Scalar.shrsi v10 c11_i32_43
  let c1_i32_44 : BitVec 32 := 1#32
  let v90 : BitVec 32 := Scalar.andi v89 c1_i32_44
  let c2048_i32_47 : BitVec 32 := 2048#32
  let v94 : BitVec 32 := Scalar.muli v90 c2048_i32_47
  let v95 : BitVec 32 := Scalar.addi v88 v94
  let v310 : BitVec 32 := Scalar.addi v9 v95
  v310
def k0_cond13 (v10 : BitVec 32) : BitVec 1 :=
  let c10_i32_48 : BitVec 32 := 10#32
  let v96 : BitVec 32 := Scalar.shrsi v10 c10_i32_48
  let c1_i32_49 : BitVec 32 := 1#32
  let v97 : BitVec 32 := Scalar.andi v96 c1_i32_49
  let c1_i32_50 : BitVec 32 := 1#32
  let v98 : BitVec 1 := Scalar.cmpi .eq v97 c1_i32_50
  let v99 : BitVec 32 := Scalar.extui v98
  let c0_i32_51 : BitVec 32 := 0#32
  let v100 : BitVec 1 := Scalar.cmpi .ne v99 c0_i32_51
  v100

def k0_off23 (v9 : BitVec 32) (v10 : BitVec 32) : Fin 2 → Nat :=
  let c0_i32_42 : BitVec 32 := 0#32
  let c12_i32_36 : BitVec 32 := 12#32
  let v82 : BitVec 32 := Scalar.shrsi v10 c12_i32_36
  let c1_i32_37 : BitVec 32 := 1#32
  let v83 : BitVec 32 := Scalar.andi v82 c1_i32_37
  let c4096_i32_41 : BitVec 32 := 4096#32
  let v87 : BitVec 32 := Scalar.muli v83 c4096_i32_41
  let v88 : BitVec 32 := Scalar.addi c0_i32_42 v87
  let c11_i32_43 : BitVec 32 := 11#32
  let v89 : BitVec 32 := Scalar.shrsi v10 c11_i32_43
  let c1_i32_44 : BitVec 32 := 1#32
  let v90 : BitVec 32 := Scalar.andi v89 c1_i32_44
  let c2048_i32_47 : BitVec 32 := 2048#32
  let v94 : BitVec 32 := Scalar.muli v90 c2048_i32_47
  let v95 : BitVec 32 := Scalar.addi v88 v94
  let v310 : BitVec 32 := Scalar.addi v9 v95
  let v311 : BitVec 32 := v310
  let c0_i32_206 : BitVec 32 := 0#32
  ![v311.toNat, 0]
def k0_mult24 (v9 : BitVec 32) (v10 : BitVec 32) : BitVec 32 :=
  let c0_i32_42 : BitVec 32 := 0#32
  let c12_i32_36 : BitVec 32 := 12#32
  let v82 : BitVec 32 := Scalar.shrsi v10 c12_i32_36
  let c1_i32_37 : BitVec 32 := 1#32
  let v83 : BitVec 32 := Scalar.andi v82 c1_i32_37
  let c4096_i32_41 : BitVec 32 := 4096#32
  let v87 : BitVec 32 := Scalar.muli v83 c4096_i32_41
  let v88 : BitVec 32 := Scalar.addi c0_i32_42 v87
  let c11_i32_43 : BitVec 32 := 11#32
  let v89 : BitVec 32 := Scalar.shrsi v10 c11_i32_43
  let c1_i32_44 : BitVec 32 := 1#32
  let v90 : BitVec 32 := Scalar.andi v89 c1_i32_44
  let c2048_i32_47 : BitVec 32 := 2048#32
  let v94 : BitVec 32 := Scalar.muli v90 c2048_i32_47
  let v95 : BitVec 32 := Scalar.addi v88 v94
  let c10_i32_48 : BitVec 32 := 10#32
  let v96 : BitVec 32 := Scalar.shrsi v10 c10_i32_48
  let c1_i32_49 : BitVec 32 := 1#32
  let v97 : BitVec 32 := Scalar.andi v96 c1_i32_49
  let c1024_i32_52 : BitVec 32 := 1024#32
  let v101 : BitVec 32 := Scalar.muli v97 c1024_i32_52
  let v102 : BitVec 32 := Scalar.addi v95 v101
  let v310 : BitVec 32 := Scalar.addi v9 v102
  v310
def k0_cond14 (v10 : BitVec 32) : BitVec 1 :=
  let c9_i32_53 : BitVec 32 := 9#32
  let v103 : BitVec 32 := Scalar.shrsi v10 c9_i32_53
  let c1_i32_54 : BitVec 32 := 1#32
  let v104 : BitVec 32 := Scalar.andi v103 c1_i32_54
  let c1_i32_55 : BitVec 32 := 1#32
  let v105 : BitVec 1 := Scalar.cmpi .eq v104 c1_i32_55
  let v106 : BitVec 32 := Scalar.extui v105
  let c0_i32_56 : BitVec 32 := 0#32
  let v107 : BitVec 1 := Scalar.cmpi .ne v106 c0_i32_56
  v107

def k0_off24 (v9 : BitVec 32) (v10 : BitVec 32) : Fin 2 → Nat :=
  let c0_i32_42 : BitVec 32 := 0#32
  let c12_i32_36 : BitVec 32 := 12#32
  let v82 : BitVec 32 := Scalar.shrsi v10 c12_i32_36
  let c1_i32_37 : BitVec 32 := 1#32
  let v83 : BitVec 32 := Scalar.andi v82 c1_i32_37
  let c4096_i32_41 : BitVec 32 := 4096#32
  let v87 : BitVec 32 := Scalar.muli v83 c4096_i32_41
  let v88 : BitVec 32 := Scalar.addi c0_i32_42 v87
  let c11_i32_43 : BitVec 32 := 11#32
  let v89 : BitVec 32 := Scalar.shrsi v10 c11_i32_43
  let c1_i32_44 : BitVec 32 := 1#32
  let v90 : BitVec 32 := Scalar.andi v89 c1_i32_44
  let c2048_i32_47 : BitVec 32 := 2048#32
  let v94 : BitVec 32 := Scalar.muli v90 c2048_i32_47
  let v95 : BitVec 32 := Scalar.addi v88 v94
  let c10_i32_48 : BitVec 32 := 10#32
  let v96 : BitVec 32 := Scalar.shrsi v10 c10_i32_48
  let c1_i32_49 : BitVec 32 := 1#32
  let v97 : BitVec 32 := Scalar.andi v96 c1_i32_49
  let c1024_i32_52 : BitVec 32 := 1024#32
  let v101 : BitVec 32 := Scalar.muli v97 c1024_i32_52
  let v102 : BitVec 32 := Scalar.addi v95 v101
  let v310 : BitVec 32 := Scalar.addi v9 v102
  let v311 : BitVec 32 := v310
  let c0_i32_206 : BitVec 32 := 0#32
  ![v311.toNat, 0]
def k0_mult25 (v9 : BitVec 32) (v10 : BitVec 32) : BitVec 32 :=
  let c0_i32_42 : BitVec 32 := 0#32
  let c12_i32_36 : BitVec 32 := 12#32
  let v82 : BitVec 32 := Scalar.shrsi v10 c12_i32_36
  let c1_i32_37 : BitVec 32 := 1#32
  let v83 : BitVec 32 := Scalar.andi v82 c1_i32_37
  let c4096_i32_41 : BitVec 32 := 4096#32
  let v87 : BitVec 32 := Scalar.muli v83 c4096_i32_41
  let v88 : BitVec 32 := Scalar.addi c0_i32_42 v87
  let c11_i32_43 : BitVec 32 := 11#32
  let v89 : BitVec 32 := Scalar.shrsi v10 c11_i32_43
  let c1_i32_44 : BitVec 32 := 1#32
  let v90 : BitVec 32 := Scalar.andi v89 c1_i32_44
  let c2048_i32_47 : BitVec 32 := 2048#32
  let v94 : BitVec 32 := Scalar.muli v90 c2048_i32_47
  let v95 : BitVec 32 := Scalar.addi v88 v94
  let c10_i32_48 : BitVec 32 := 10#32
  let v96 : BitVec 32 := Scalar.shrsi v10 c10_i32_48
  let c1_i32_49 : BitVec 32 := 1#32
  let v97 : BitVec 32 := Scalar.andi v96 c1_i32_49
  let c1024_i32_52 : BitVec 32 := 1024#32
  let v101 : BitVec 32 := Scalar.muli v97 c1024_i32_52
  let v102 : BitVec 32 := Scalar.addi v95 v101
  let c9_i32_53 : BitVec 32 := 9#32
  let v103 : BitVec 32 := Scalar.shrsi v10 c9_i32_53
  let c1_i32_54 : BitVec 32 := 1#32
  let v104 : BitVec 32 := Scalar.andi v103 c1_i32_54
  let c512_i32_57 : BitVec 32 := 512#32
  let v108 : BitVec 32 := Scalar.muli v104 c512_i32_57
  let v109 : BitVec 32 := Scalar.addi v102 v108
  let v310 : BitVec 32 := Scalar.addi v9 v109
  v310
def k0_cond15 (v10 : BitVec 32) : BitVec 1 :=
  let c8_i32_58 : BitVec 32 := 8#32
  let v110 : BitVec 32 := Scalar.shrsi v10 c8_i32_58
  let c1_i32_59 : BitVec 32 := 1#32
  let v111 : BitVec 32 := Scalar.andi v110 c1_i32_59
  let c1_i32_60 : BitVec 32 := 1#32
  let v112 : BitVec 1 := Scalar.cmpi .eq v111 c1_i32_60
  let v113 : BitVec 32 := Scalar.extui v112
  let c0_i32_61 : BitVec 32 := 0#32
  let v114 : BitVec 1 := Scalar.cmpi .ne v113 c0_i32_61
  v114

def k0_off25 (v9 : BitVec 32) (v10 : BitVec 32) : Fin 2 → Nat :=
  let c0_i32_42 : BitVec 32 := 0#32
  let c12_i32_36 : BitVec 32 := 12#32
  let v82 : BitVec 32 := Scalar.shrsi v10 c12_i32_36
  let c1_i32_37 : BitVec 32 := 1#32
  let v83 : BitVec 32 := Scalar.andi v82 c1_i32_37
  let c4096_i32_41 : BitVec 32 := 4096#32
  let v87 : BitVec 32 := Scalar.muli v83 c4096_i32_41
  let v88 : BitVec 32 := Scalar.addi c0_i32_42 v87
  let c11_i32_43 : BitVec 32 := 11#32
  let v89 : BitVec 32 := Scalar.shrsi v10 c11_i32_43
  let c1_i32_44 : BitVec 32 := 1#32
  let v90 : BitVec 32 := Scalar.andi v89 c1_i32_44
  let c2048_i32_47 : BitVec 32 := 2048#32
  let v94 : BitVec 32 := Scalar.muli v90 c2048_i32_47
  let v95 : BitVec 32 := Scalar.addi v88 v94
  let c10_i32_48 : BitVec 32 := 10#32
  let v96 : BitVec 32 := Scalar.shrsi v10 c10_i32_48
  let c1_i32_49 : BitVec 32 := 1#32
  let v97 : BitVec 32 := Scalar.andi v96 c1_i32_49
  let c1024_i32_52 : BitVec 32 := 1024#32
  let v101 : BitVec 32 := Scalar.muli v97 c1024_i32_52
  let v102 : BitVec 32 := Scalar.addi v95 v101
  let c9_i32_53 : BitVec 32 := 9#32
  let v103 : BitVec 32 := Scalar.shrsi v10 c9_i32_53
  let c1_i32_54 : BitVec 32 := 1#32
  let v104 : BitVec 32 := Scalar.andi v103 c1_i32_54
  let c512_i32_57 : BitVec 32 := 512#32
  let v108 : BitVec 32 := Scalar.muli v104 c512_i32_57
  let v109 : BitVec 32 := Scalar.addi v102 v108
  let v310 : BitVec 32 := Scalar.addi v9 v109
  let v311 : BitVec 32 := v310
  let c0_i32_206 : BitVec 32 := 0#32
  ![v311.toNat, 0]
def k0_mult26 (v9 : BitVec 32) (v10 : BitVec 32) : BitVec 32 :=
  let c0_i32_42 : BitVec 32 := 0#32
  let c12_i32_36 : BitVec 32 := 12#32
  let v82 : BitVec 32 := Scalar.shrsi v10 c12_i32_36
  let c1_i32_37 : BitVec 32 := 1#32
  let v83 : BitVec 32 := Scalar.andi v82 c1_i32_37
  let c4096_i32_41 : BitVec 32 := 4096#32
  let v87 : BitVec 32 := Scalar.muli v83 c4096_i32_41
  let v88 : BitVec 32 := Scalar.addi c0_i32_42 v87
  let c11_i32_43 : BitVec 32 := 11#32
  let v89 : BitVec 32 := Scalar.shrsi v10 c11_i32_43
  let c1_i32_44 : BitVec 32 := 1#32
  let v90 : BitVec 32 := Scalar.andi v89 c1_i32_44
  let c2048_i32_47 : BitVec 32 := 2048#32
  let v94 : BitVec 32 := Scalar.muli v90 c2048_i32_47
  let v95 : BitVec 32 := Scalar.addi v88 v94
  let c10_i32_48 : BitVec 32 := 10#32
  let v96 : BitVec 32 := Scalar.shrsi v10 c10_i32_48
  let c1_i32_49 : BitVec 32 := 1#32
  let v97 : BitVec 32 := Scalar.andi v96 c1_i32_49
  let c1024_i32_52 : BitVec 32 := 1024#32
  let v101 : BitVec 32 := Scalar.muli v97 c1024_i32_52
  let v102 : BitVec 32 := Scalar.addi v95 v101
  let c9_i32_53 : BitVec 32 := 9#32
  let v103 : BitVec 32 := Scalar.shrsi v10 c9_i32_53
  let c1_i32_54 : BitVec 32 := 1#32
  let v104 : BitVec 32 := Scalar.andi v103 c1_i32_54
  let c512_i32_57 : BitVec 32 := 512#32
  let v108 : BitVec 32 := Scalar.muli v104 c512_i32_57
  let v109 : BitVec 32 := Scalar.addi v102 v108
  let c8_i32_58 : BitVec 32 := 8#32
  let v110 : BitVec 32 := Scalar.shrsi v10 c8_i32_58
  let c1_i32_59 : BitVec 32 := 1#32
  let v111 : BitVec 32 := Scalar.andi v110 c1_i32_59
  let c256_i32_62 : BitVec 32 := 256#32
  let v115 : BitVec 32 := Scalar.muli v111 c256_i32_62
  let v116 : BitVec 32 := Scalar.addi v109 v115
  let v310 : BitVec 32 := Scalar.addi v9 v116
  v310
def k0_cond16 (v10 : BitVec 32) : BitVec 1 :=
  let c7_i32_63 : BitVec 32 := 7#32
  let v117 : BitVec 32 := Scalar.shrsi v10 c7_i32_63
  let c1_i32_64 : BitVec 32 := 1#32
  let v118 : BitVec 32 := Scalar.andi v117 c1_i32_64
  let c1_i32_65 : BitVec 32 := 1#32
  let v119 : BitVec 1 := Scalar.cmpi .eq v118 c1_i32_65
  let v120 : BitVec 32 := Scalar.extui v119
  let c0_i32_66 : BitVec 32 := 0#32
  let v121 : BitVec 1 := Scalar.cmpi .ne v120 c0_i32_66
  v121

def k0_off26 (v9 : BitVec 32) (v10 : BitVec 32) : Fin 2 → Nat :=
  let c0_i32_42 : BitVec 32 := 0#32
  let c12_i32_36 : BitVec 32 := 12#32
  let v82 : BitVec 32 := Scalar.shrsi v10 c12_i32_36
  let c1_i32_37 : BitVec 32 := 1#32
  let v83 : BitVec 32 := Scalar.andi v82 c1_i32_37
  let c4096_i32_41 : BitVec 32 := 4096#32
  let v87 : BitVec 32 := Scalar.muli v83 c4096_i32_41
  let v88 : BitVec 32 := Scalar.addi c0_i32_42 v87
  let c11_i32_43 : BitVec 32 := 11#32
  let v89 : BitVec 32 := Scalar.shrsi v10 c11_i32_43
  let c1_i32_44 : BitVec 32 := 1#32
  let v90 : BitVec 32 := Scalar.andi v89 c1_i32_44
  let c2048_i32_47 : BitVec 32 := 2048#32
  let v94 : BitVec 32 := Scalar.muli v90 c2048_i32_47
  let v95 : BitVec 32 := Scalar.addi v88 v94
  let c10_i32_48 : BitVec 32 := 10#32
  let v96 : BitVec 32 := Scalar.shrsi v10 c10_i32_48
  let c1_i32_49 : BitVec 32 := 1#32
  let v97 : BitVec 32 := Scalar.andi v96 c1_i32_49
  let c1024_i32_52 : BitVec 32 := 1024#32
  let v101 : BitVec 32 := Scalar.muli v97 c1024_i32_52
  let v102 : BitVec 32 := Scalar.addi v95 v101
  let c9_i32_53 : BitVec 32 := 9#32
  let v103 : BitVec 32 := Scalar.shrsi v10 c9_i32_53
  let c1_i32_54 : BitVec 32 := 1#32
  let v104 : BitVec 32 := Scalar.andi v103 c1_i32_54
  let c512_i32_57 : BitVec 32 := 512#32
  let v108 : BitVec 32 := Scalar.muli v104 c512_i32_57
  let v109 : BitVec 32 := Scalar.addi v102 v108
  let c8_i32_58 : BitVec 32 := 8#32
  let v110 : BitVec 32 := Scalar.shrsi v10 c8_i32_58
  let c1_i32_59 : BitVec 32 := 1#32
  let v111 : BitVec 32 := Scalar.andi v110 c1_i32_59
  let c256_i32_62 : BitVec 32 := 256#32
  let v115 : BitVec 32 := Scalar.muli v111 c256_i32_62
  let v116 : BitVec 32 := Scalar.addi v109 v115
  let v310 : BitVec 32 := Scalar.addi v9 v116
  let v311 : BitVec 32 := v310
  let c0_i32_206 : BitVec 32 := 0#32
  ![v311.toNat, 0]
def k0_mult27 (v9 : BitVec 32) (v10 : BitVec 32) : BitVec 32 :=
  let c0_i32_42 : BitVec 32 := 0#32
  let c12_i32_36 : BitVec 32 := 12#32
  let v82 : BitVec 32 := Scalar.shrsi v10 c12_i32_36
  let c1_i32_37 : BitVec 32 := 1#32
  let v83 : BitVec 32 := Scalar.andi v82 c1_i32_37
  let c4096_i32_41 : BitVec 32 := 4096#32
  let v87 : BitVec 32 := Scalar.muli v83 c4096_i32_41
  let v88 : BitVec 32 := Scalar.addi c0_i32_42 v87
  let c11_i32_43 : BitVec 32 := 11#32
  let v89 : BitVec 32 := Scalar.shrsi v10 c11_i32_43
  let c1_i32_44 : BitVec 32 := 1#32
  let v90 : BitVec 32 := Scalar.andi v89 c1_i32_44
  let c2048_i32_47 : BitVec 32 := 2048#32
  let v94 : BitVec 32 := Scalar.muli v90 c2048_i32_47
  let v95 : BitVec 32 := Scalar.addi v88 v94
  let c10_i32_48 : BitVec 32 := 10#32
  let v96 : BitVec 32 := Scalar.shrsi v10 c10_i32_48
  let c1_i32_49 : BitVec 32 := 1#32
  let v97 : BitVec 32 := Scalar.andi v96 c1_i32_49
  let c1024_i32_52 : BitVec 32 := 1024#32
  let v101 : BitVec 32 := Scalar.muli v97 c1024_i32_52
  let v102 : BitVec 32 := Scalar.addi v95 v101
  let c9_i32_53 : BitVec 32 := 9#32
  let v103 : BitVec 32 := Scalar.shrsi v10 c9_i32_53
  let c1_i32_54 : BitVec 32 := 1#32
  let v104 : BitVec 32 := Scalar.andi v103 c1_i32_54
  let c512_i32_57 : BitVec 32 := 512#32
  let v108 : BitVec 32 := Scalar.muli v104 c512_i32_57
  let v109 : BitVec 32 := Scalar.addi v102 v108
  let c8_i32_58 : BitVec 32 := 8#32
  let v110 : BitVec 32 := Scalar.shrsi v10 c8_i32_58
  let c1_i32_59 : BitVec 32 := 1#32
  let v111 : BitVec 32 := Scalar.andi v110 c1_i32_59
  let c256_i32_62 : BitVec 32 := 256#32
  let v115 : BitVec 32 := Scalar.muli v111 c256_i32_62
  let v116 : BitVec 32 := Scalar.addi v109 v115
  let c7_i32_63 : BitVec 32 := 7#32
  let v117 : BitVec 32 := Scalar.shrsi v10 c7_i32_63
  let c1_i32_64 : BitVec 32 := 1#32
  let v118 : BitVec 32 := Scalar.andi v117 c1_i32_64
  let c128_i32_67 : BitVec 32 := 128#32
  let v122 : BitVec 32 := Scalar.muli v118 c128_i32_67
  let v123 : BitVec 32 := Scalar.addi v116 v122
  let v310 : BitVec 32 := Scalar.addi v9 v123
  v310
def k0_cond17 (v10 : BitVec 32) : BitVec 1 :=
  let c6_i32_68 : BitVec 32 := 6#32
  let v124 : BitVec 32 := Scalar.shrsi v10 c6_i32_68
  let c1_i32_69 : BitVec 32 := 1#32
  let v125 : BitVec 32 := Scalar.andi v124 c1_i32_69
  let c1_i32_70 : BitVec 32 := 1#32
  let v126 : BitVec 1 := Scalar.cmpi .eq v125 c1_i32_70
  let v127 : BitVec 32 := Scalar.extui v126
  let c0_i32_71 : BitVec 32 := 0#32
  let v128 : BitVec 1 := Scalar.cmpi .ne v127 c0_i32_71
  v128

def k0_off27 (v9 : BitVec 32) (v10 : BitVec 32) : Fin 2 → Nat :=
  let c0_i32_42 : BitVec 32 := 0#32
  let c12_i32_36 : BitVec 32 := 12#32
  let v82 : BitVec 32 := Scalar.shrsi v10 c12_i32_36
  let c1_i32_37 : BitVec 32 := 1#32
  let v83 : BitVec 32 := Scalar.andi v82 c1_i32_37
  let c4096_i32_41 : BitVec 32 := 4096#32
  let v87 : BitVec 32 := Scalar.muli v83 c4096_i32_41
  let v88 : BitVec 32 := Scalar.addi c0_i32_42 v87
  let c11_i32_43 : BitVec 32 := 11#32
  let v89 : BitVec 32 := Scalar.shrsi v10 c11_i32_43
  let c1_i32_44 : BitVec 32 := 1#32
  let v90 : BitVec 32 := Scalar.andi v89 c1_i32_44
  let c2048_i32_47 : BitVec 32 := 2048#32
  let v94 : BitVec 32 := Scalar.muli v90 c2048_i32_47
  let v95 : BitVec 32 := Scalar.addi v88 v94
  let c10_i32_48 : BitVec 32 := 10#32
  let v96 : BitVec 32 := Scalar.shrsi v10 c10_i32_48
  let c1_i32_49 : BitVec 32 := 1#32
  let v97 : BitVec 32 := Scalar.andi v96 c1_i32_49
  let c1024_i32_52 : BitVec 32 := 1024#32
  let v101 : BitVec 32 := Scalar.muli v97 c1024_i32_52
  let v102 : BitVec 32 := Scalar.addi v95 v101
  let c9_i32_53 : BitVec 32 := 9#32
  let v103 : BitVec 32 := Scalar.shrsi v10 c9_i32_53
  let c1_i32_54 : BitVec 32 := 1#32
  let v104 : BitVec 32 := Scalar.andi v103 c1_i32_54
  let c512_i32_57 : BitVec 32 := 512#32
  let v108 : BitVec 32 := Scalar.muli v104 c512_i32_57
  let v109 : BitVec 32 := Scalar.addi v102 v108
  let c8_i32_58 : BitVec 32 := 8#32
  let v110 : BitVec 32 := Scalar.shrsi v10 c8_i32_58
  let c1_i32_59 : BitVec 32 := 1#32
  let v111 : BitVec 32 := Scalar.andi v110 c1_i32_59
  let c256_i32_62 : BitVec 32 := 256#32
  let v115 : BitVec 32 := Scalar.muli v111 c256_i32_62
  let v116 : BitVec 32 := Scalar.addi v109 v115
  let c7_i32_63 : BitVec 32 := 7#32
  let v117 : BitVec 32 := Scalar.shrsi v10 c7_i32_63
  let c1_i32_64 : BitVec 32 := 1#32
  let v118 : BitVec 32 := Scalar.andi v117 c1_i32_64
  let c128_i32_67 : BitVec 32 := 128#32
  let v122 : BitVec 32 := Scalar.muli v118 c128_i32_67
  let v123 : BitVec 32 := Scalar.addi v116 v122
  let v310 : BitVec 32 := Scalar.addi v9 v123
  let v311 : BitVec 32 := v310
  let c0_i32_206 : BitVec 32 := 0#32
  ![v311.toNat, 0]
def k0_mult28 (v9 : BitVec 32) (v10 : BitVec 32) : BitVec 32 :=
  let c0_i32_42 : BitVec 32 := 0#32
  let c12_i32_36 : BitVec 32 := 12#32
  let v82 : BitVec 32 := Scalar.shrsi v10 c12_i32_36
  let c1_i32_37 : BitVec 32 := 1#32
  let v83 : BitVec 32 := Scalar.andi v82 c1_i32_37
  let c4096_i32_41 : BitVec 32 := 4096#32
  let v87 : BitVec 32 := Scalar.muli v83 c4096_i32_41
  let v88 : BitVec 32 := Scalar.addi c0_i32_42 v87
  let c11_i32_43 : BitVec 32 := 11#32
  let v89 : BitVec 32 := Scalar.shrsi v10 c11_i32_43
  let c1_i32_44 : BitVec 32 := 1#32
  let v90 : BitVec 32 := Scalar.andi v89 c1_i32_44
  let c2048_i32_47 : BitVec 32 := 2048#32
  let v94 : BitVec 32 := Scalar.muli v90 c2048_i32_47
  let v95 : BitVec 32 := Scalar.addi v88 v94
  let c10_i32_48 : BitVec 32 := 10#32
  let v96 : BitVec 32 := Scalar.shrsi v10 c10_i32_48
  let c1_i32_49 : BitVec 32 := 1#32
  let v97 : BitVec 32 := Scalar.andi v96 c1_i32_49
  let c1024_i32_52 : BitVec 32 := 1024#32
  let v101 : BitVec 32 := Scalar.muli v97 c1024_i32_52
  let v102 : BitVec 32 := Scalar.addi v95 v101
  let c9_i32_53 : BitVec 32 := 9#32
  let v103 : BitVec 32 := Scalar.shrsi v10 c9_i32_53
  let c1_i32_54 : BitVec 32 := 1#32
  let v104 : BitVec 32 := Scalar.andi v103 c1_i32_54
  let c512_i32_57 : BitVec 32 := 512#32
  let v108 : BitVec 32 := Scalar.muli v104 c512_i32_57
  let v109 : BitVec 32 := Scalar.addi v102 v108
  let c8_i32_58 : BitVec 32 := 8#32
  let v110 : BitVec 32 := Scalar.shrsi v10 c8_i32_58
  let c1_i32_59 : BitVec 32 := 1#32
  let v111 : BitVec 32 := Scalar.andi v110 c1_i32_59
  let c256_i32_62 : BitVec 32 := 256#32
  let v115 : BitVec 32 := Scalar.muli v111 c256_i32_62
  let v116 : BitVec 32 := Scalar.addi v109 v115
  let c7_i32_63 : BitVec 32 := 7#32
  let v117 : BitVec 32 := Scalar.shrsi v10 c7_i32_63
  let c1_i32_64 : BitVec 32 := 1#32
  let v118 : BitVec 32 := Scalar.andi v117 c1_i32_64
  let c128_i32_67 : BitVec 32 := 128#32
  let v122 : BitVec 32 := Scalar.muli v118 c128_i32_67
  let v123 : BitVec 32 := Scalar.addi v116 v122
  let c6_i32_68 : BitVec 32 := 6#32
  let v124 : BitVec 32 := Scalar.shrsi v10 c6_i32_68
  let c1_i32_69 : BitVec 32 := 1#32
  let v125 : BitVec 32 := Scalar.andi v124 c1_i32_69
  let c64_i32_72 : BitVec 32 := 64#32
  let v129 : BitVec 32 := Scalar.muli v125 c64_i32_72
  let v130 : BitVec 32 := Scalar.addi v123 v129
  let v310 : BitVec 32 := Scalar.addi v9 v130
  v310
def k0_cond18 (v10 : BitVec 32) : BitVec 1 :=
  let c5_i32_73 : BitVec 32 := 5#32
  let v131 : BitVec 32 := Scalar.shrsi v10 c5_i32_73
  let c1_i32_74 : BitVec 32 := 1#32
  let v132 : BitVec 32 := Scalar.andi v131 c1_i32_74
  let c1_i32_75 : BitVec 32 := 1#32
  let v133 : BitVec 1 := Scalar.cmpi .eq v132 c1_i32_75
  let v134 : BitVec 32 := Scalar.extui v133
  let c0_i32_76 : BitVec 32 := 0#32
  let v135 : BitVec 1 := Scalar.cmpi .ne v134 c0_i32_76
  v135

def k0_off28 (v9 : BitVec 32) (v10 : BitVec 32) : Fin 2 → Nat :=
  let c0_i32_42 : BitVec 32 := 0#32
  let c12_i32_36 : BitVec 32 := 12#32
  let v82 : BitVec 32 := Scalar.shrsi v10 c12_i32_36
  let c1_i32_37 : BitVec 32 := 1#32
  let v83 : BitVec 32 := Scalar.andi v82 c1_i32_37
  let c4096_i32_41 : BitVec 32 := 4096#32
  let v87 : BitVec 32 := Scalar.muli v83 c4096_i32_41
  let v88 : BitVec 32 := Scalar.addi c0_i32_42 v87
  let c11_i32_43 : BitVec 32 := 11#32
  let v89 : BitVec 32 := Scalar.shrsi v10 c11_i32_43
  let c1_i32_44 : BitVec 32 := 1#32
  let v90 : BitVec 32 := Scalar.andi v89 c1_i32_44
  let c2048_i32_47 : BitVec 32 := 2048#32
  let v94 : BitVec 32 := Scalar.muli v90 c2048_i32_47
  let v95 : BitVec 32 := Scalar.addi v88 v94
  let c10_i32_48 : BitVec 32 := 10#32
  let v96 : BitVec 32 := Scalar.shrsi v10 c10_i32_48
  let c1_i32_49 : BitVec 32 := 1#32
  let v97 : BitVec 32 := Scalar.andi v96 c1_i32_49
  let c1024_i32_52 : BitVec 32 := 1024#32
  let v101 : BitVec 32 := Scalar.muli v97 c1024_i32_52
  let v102 : BitVec 32 := Scalar.addi v95 v101
  let c9_i32_53 : BitVec 32 := 9#32
  let v103 : BitVec 32 := Scalar.shrsi v10 c9_i32_53
  let c1_i32_54 : BitVec 32 := 1#32
  let v104 : BitVec 32 := Scalar.andi v103 c1_i32_54
  let c512_i32_57 : BitVec 32 := 512#32
  let v108 : BitVec 32 := Scalar.muli v104 c512_i32_57
  let v109 : BitVec 32 := Scalar.addi v102 v108
  let c8_i32_58 : BitVec 32 := 8#32
  let v110 : BitVec 32 := Scalar.shrsi v10 c8_i32_58
  let c1_i32_59 : BitVec 32 := 1#32
  let v111 : BitVec 32 := Scalar.andi v110 c1_i32_59
  let c256_i32_62 : BitVec 32 := 256#32
  let v115 : BitVec 32 := Scalar.muli v111 c256_i32_62
  let v116 : BitVec 32 := Scalar.addi v109 v115
  let c7_i32_63 : BitVec 32 := 7#32
  let v117 : BitVec 32 := Scalar.shrsi v10 c7_i32_63
  let c1_i32_64 : BitVec 32 := 1#32
  let v118 : BitVec 32 := Scalar.andi v117 c1_i32_64
  let c128_i32_67 : BitVec 32 := 128#32
  let v122 : BitVec 32 := Scalar.muli v118 c128_i32_67
  let v123 : BitVec 32 := Scalar.addi v116 v122
  let c6_i32_68 : BitVec 32 := 6#32
  let v124 : BitVec 32 := Scalar.shrsi v10 c6_i32_68
  let c1_i32_69 : BitVec 32 := 1#32
  let v125 : BitVec 32 := Scalar.andi v124 c1_i32_69
  let c64_i32_72 : BitVec 32 := 64#32
  let v129 : BitVec 32 := Scalar.muli v125 c64_i32_72
  let v130 : BitVec 32 := Scalar.addi v123 v129
  let v310 : BitVec 32 := Scalar.addi v9 v130
  let v311 : BitVec 32 := v310
  let c0_i32_206 : BitVec 32 := 0#32
  ![v311.toNat, 0]
def k0_mult29 (v9 : BitVec 32) (v10 : BitVec 32) : BitVec 32 :=
  let c0_i32_42 : BitVec 32 := 0#32
  let c12_i32_36 : BitVec 32 := 12#32
  let v82 : BitVec 32 := Scalar.shrsi v10 c12_i32_36
  let c1_i32_37 : BitVec 32 := 1#32
  let v83 : BitVec 32 := Scalar.andi v82 c1_i32_37
  let c4096_i32_41 : BitVec 32 := 4096#32
  let v87 : BitVec 32 := Scalar.muli v83 c4096_i32_41
  let v88 : BitVec 32 := Scalar.addi c0_i32_42 v87
  let c11_i32_43 : BitVec 32 := 11#32
  let v89 : BitVec 32 := Scalar.shrsi v10 c11_i32_43
  let c1_i32_44 : BitVec 32 := 1#32
  let v90 : BitVec 32 := Scalar.andi v89 c1_i32_44
  let c2048_i32_47 : BitVec 32 := 2048#32
  let v94 : BitVec 32 := Scalar.muli v90 c2048_i32_47
  let v95 : BitVec 32 := Scalar.addi v88 v94
  let c10_i32_48 : BitVec 32 := 10#32
  let v96 : BitVec 32 := Scalar.shrsi v10 c10_i32_48
  let c1_i32_49 : BitVec 32 := 1#32
  let v97 : BitVec 32 := Scalar.andi v96 c1_i32_49
  let c1024_i32_52 : BitVec 32 := 1024#32
  let v101 : BitVec 32 := Scalar.muli v97 c1024_i32_52
  let v102 : BitVec 32 := Scalar.addi v95 v101
  let c9_i32_53 : BitVec 32 := 9#32
  let v103 : BitVec 32 := Scalar.shrsi v10 c9_i32_53
  let c1_i32_54 : BitVec 32 := 1#32
  let v104 : BitVec 32 := Scalar.andi v103 c1_i32_54
  let c512_i32_57 : BitVec 32 := 512#32
  let v108 : BitVec 32 := Scalar.muli v104 c512_i32_57
  let v109 : BitVec 32 := Scalar.addi v102 v108
  let c8_i32_58 : BitVec 32 := 8#32
  let v110 : BitVec 32 := Scalar.shrsi v10 c8_i32_58
  let c1_i32_59 : BitVec 32 := 1#32
  let v111 : BitVec 32 := Scalar.andi v110 c1_i32_59
  let c256_i32_62 : BitVec 32 := 256#32
  let v115 : BitVec 32 := Scalar.muli v111 c256_i32_62
  let v116 : BitVec 32 := Scalar.addi v109 v115
  let c7_i32_63 : BitVec 32 := 7#32
  let v117 : BitVec 32 := Scalar.shrsi v10 c7_i32_63
  let c1_i32_64 : BitVec 32 := 1#32
  let v118 : BitVec 32 := Scalar.andi v117 c1_i32_64
  let c128_i32_67 : BitVec 32 := 128#32
  let v122 : BitVec 32 := Scalar.muli v118 c128_i32_67
  let v123 : BitVec 32 := Scalar.addi v116 v122
  let c6_i32_68 : BitVec 32 := 6#32
  let v124 : BitVec 32 := Scalar.shrsi v10 c6_i32_68
  let c1_i32_69 : BitVec 32 := 1#32
  let v125 : BitVec 32 := Scalar.andi v124 c1_i32_69
  let c64_i32_72 : BitVec 32 := 64#32
  let v129 : BitVec 32 := Scalar.muli v125 c64_i32_72
  let v130 : BitVec 32 := Scalar.addi v123 v129
  let c5_i32_73 : BitVec 32 := 5#32
  let v131 : BitVec 32 := Scalar.shrsi v10 c5_i32_73
  let c1_i32_74 : BitVec 32 := 1#32
  let v132 : BitVec 32 := Scalar.andi v131 c1_i32_74
  let c32_i32_77 : BitVec 32 := 32#32
  let v136 : BitVec 32 := Scalar.muli v132 c32_i32_77
  let v137 : BitVec 32 := Scalar.addi v130 v136
  let v310 : BitVec 32 := Scalar.addi v9 v137
  v310
def k0_cond19 (v10 : BitVec 32) : BitVec 1 :=
  let c4_i32_78 : BitVec 32 := 4#32
  let v138 : BitVec 32 := Scalar.shrsi v10 c4_i32_78
  let c1_i32_79 : BitVec 32 := 1#32
  let v139 : BitVec 32 := Scalar.andi v138 c1_i32_79
  let c1_i32_80 : BitVec 32 := 1#32
  let v140 : BitVec 1 := Scalar.cmpi .eq v139 c1_i32_80
  let v141 : BitVec 32 := Scalar.extui v140
  let c0_i32_81 : BitVec 32 := 0#32
  let v142 : BitVec 1 := Scalar.cmpi .ne v141 c0_i32_81
  v142

def k0_off29 (v9 : BitVec 32) (v10 : BitVec 32) : Fin 2 → Nat :=
  let c0_i32_42 : BitVec 32 := 0#32
  let c12_i32_36 : BitVec 32 := 12#32
  let v82 : BitVec 32 := Scalar.shrsi v10 c12_i32_36
  let c1_i32_37 : BitVec 32 := 1#32
  let v83 : BitVec 32 := Scalar.andi v82 c1_i32_37
  let c4096_i32_41 : BitVec 32 := 4096#32
  let v87 : BitVec 32 := Scalar.muli v83 c4096_i32_41
  let v88 : BitVec 32 := Scalar.addi c0_i32_42 v87
  let c11_i32_43 : BitVec 32 := 11#32
  let v89 : BitVec 32 := Scalar.shrsi v10 c11_i32_43
  let c1_i32_44 : BitVec 32 := 1#32
  let v90 : BitVec 32 := Scalar.andi v89 c1_i32_44
  let c2048_i32_47 : BitVec 32 := 2048#32
  let v94 : BitVec 32 := Scalar.muli v90 c2048_i32_47
  let v95 : BitVec 32 := Scalar.addi v88 v94
  let c10_i32_48 : BitVec 32 := 10#32
  let v96 : BitVec 32 := Scalar.shrsi v10 c10_i32_48
  let c1_i32_49 : BitVec 32 := 1#32
  let v97 : BitVec 32 := Scalar.andi v96 c1_i32_49
  let c1024_i32_52 : BitVec 32 := 1024#32
  let v101 : BitVec 32 := Scalar.muli v97 c1024_i32_52
  let v102 : BitVec 32 := Scalar.addi v95 v101
  let c9_i32_53 : BitVec 32 := 9#32
  let v103 : BitVec 32 := Scalar.shrsi v10 c9_i32_53
  let c1_i32_54 : BitVec 32 := 1#32
  let v104 : BitVec 32 := Scalar.andi v103 c1_i32_54
  let c512_i32_57 : BitVec 32 := 512#32
  let v108 : BitVec 32 := Scalar.muli v104 c512_i32_57
  let v109 : BitVec 32 := Scalar.addi v102 v108
  let c8_i32_58 : BitVec 32 := 8#32
  let v110 : BitVec 32 := Scalar.shrsi v10 c8_i32_58
  let c1_i32_59 : BitVec 32 := 1#32
  let v111 : BitVec 32 := Scalar.andi v110 c1_i32_59
  let c256_i32_62 : BitVec 32 := 256#32
  let v115 : BitVec 32 := Scalar.muli v111 c256_i32_62
  let v116 : BitVec 32 := Scalar.addi v109 v115
  let c7_i32_63 : BitVec 32 := 7#32
  let v117 : BitVec 32 := Scalar.shrsi v10 c7_i32_63
  let c1_i32_64 : BitVec 32 := 1#32
  let v118 : BitVec 32 := Scalar.andi v117 c1_i32_64
  let c128_i32_67 : BitVec 32 := 128#32
  let v122 : BitVec 32 := Scalar.muli v118 c128_i32_67
  let v123 : BitVec 32 := Scalar.addi v116 v122
  let c6_i32_68 : BitVec 32 := 6#32
  let v124 : BitVec 32 := Scalar.shrsi v10 c6_i32_68
  let c1_i32_69 : BitVec 32 := 1#32
  let v125 : BitVec 32 := Scalar.andi v124 c1_i32_69
  let c64_i32_72 : BitVec 32 := 64#32
  let v129 : BitVec 32 := Scalar.muli v125 c64_i32_72
  let v130 : BitVec 32 := Scalar.addi v123 v129
  let c5_i32_73 : BitVec 32 := 5#32
  let v131 : BitVec 32 := Scalar.shrsi v10 c5_i32_73
  let c1_i32_74 : BitVec 32 := 1#32
  let v132 : BitVec 32 := Scalar.andi v131 c1_i32_74
  let c32_i32_77 : BitVec 32 := 32#32
  let v136 : BitVec 32 := Scalar.muli v132 c32_i32_77
  let v137 : BitVec 32 := Scalar.addi v130 v136
  let v310 : BitVec 32 := Scalar.addi v9 v137
  let v311 : BitVec 32 := v310
  let c0_i32_206 : BitVec 32 := 0#32
  ![v311.toNat, 0]
def k0_mult30 (v9 : BitVec 32) (v10 : BitVec 32) : BitVec 32 :=
  let c0_i32_42 : BitVec 32 := 0#32
  let c12_i32_36 : BitVec 32 := 12#32
  let v82 : BitVec 32 := Scalar.shrsi v10 c12_i32_36
  let c1_i32_37 : BitVec 32 := 1#32
  let v83 : BitVec 32 := Scalar.andi v82 c1_i32_37
  let c4096_i32_41 : BitVec 32 := 4096#32
  let v87 : BitVec 32 := Scalar.muli v83 c4096_i32_41
  let v88 : BitVec 32 := Scalar.addi c0_i32_42 v87
  let c11_i32_43 : BitVec 32 := 11#32
  let v89 : BitVec 32 := Scalar.shrsi v10 c11_i32_43
  let c1_i32_44 : BitVec 32 := 1#32
  let v90 : BitVec 32 := Scalar.andi v89 c1_i32_44
  let c2048_i32_47 : BitVec 32 := 2048#32
  let v94 : BitVec 32 := Scalar.muli v90 c2048_i32_47
  let v95 : BitVec 32 := Scalar.addi v88 v94
  let c10_i32_48 : BitVec 32 := 10#32
  let v96 : BitVec 32 := Scalar.shrsi v10 c10_i32_48
  let c1_i32_49 : BitVec 32 := 1#32
  let v97 : BitVec 32 := Scalar.andi v96 c1_i32_49
  let c1024_i32_52 : BitVec 32 := 1024#32
  let v101 : BitVec 32 := Scalar.muli v97 c1024_i32_52
  let v102 : BitVec 32 := Scalar.addi v95 v101
  let c9_i32_53 : BitVec 32 := 9#32
  let v103 : BitVec 32 := Scalar.shrsi v10 c9_i32_53
  let c1_i32_54 : BitVec 32 := 1#32
  let v104 : BitVec 32 := Scalar.andi v103 c1_i32_54
  let c512_i32_57 : BitVec 32 := 512#32
  let v108 : BitVec 32 := Scalar.muli v104 c512_i32_57
  let v109 : BitVec 32 := Scalar.addi v102 v108
  let c8_i32_58 : BitVec 32 := 8#32
  let v110 : BitVec 32 := Scalar.shrsi v10 c8_i32_58
  let c1_i32_59 : BitVec 32 := 1#32
  let v111 : BitVec 32 := Scalar.andi v110 c1_i32_59
  let c256_i32_62 : BitVec 32 := 256#32
  let v115 : BitVec 32 := Scalar.muli v111 c256_i32_62
  let v116 : BitVec 32 := Scalar.addi v109 v115
  let c7_i32_63 : BitVec 32 := 7#32
  let v117 : BitVec 32 := Scalar.shrsi v10 c7_i32_63
  let c1_i32_64 : BitVec 32 := 1#32
  let v118 : BitVec 32 := Scalar.andi v117 c1_i32_64
  let c128_i32_67 : BitVec 32 := 128#32
  let v122 : BitVec 32 := Scalar.muli v118 c128_i32_67
  let v123 : BitVec 32 := Scalar.addi v116 v122
  let c6_i32_68 : BitVec 32 := 6#32
  let v124 : BitVec 32 := Scalar.shrsi v10 c6_i32_68
  let c1_i32_69 : BitVec 32 := 1#32
  let v125 : BitVec 32 := Scalar.andi v124 c1_i32_69
  let c64_i32_72 : BitVec 32 := 64#32
  let v129 : BitVec 32 := Scalar.muli v125 c64_i32_72
  let v130 : BitVec 32 := Scalar.addi v123 v129
  let c5_i32_73 : BitVec 32 := 5#32
  let v131 : BitVec 32 := Scalar.shrsi v10 c5_i32_73
  let c1_i32_74 : BitVec 32 := 1#32
  let v132 : BitVec 32 := Scalar.andi v131 c1_i32_74
  let c32_i32_77 : BitVec 32 := 32#32
  let v136 : BitVec 32 := Scalar.muli v132 c32_i32_77
  let v137 : BitVec 32 := Scalar.addi v130 v136
  let c4_i32_78 : BitVec 32 := 4#32
  let v138 : BitVec 32 := Scalar.shrsi v10 c4_i32_78
  let c1_i32_79 : BitVec 32 := 1#32
  let v139 : BitVec 32 := Scalar.andi v138 c1_i32_79
  let c16_i32_82 : BitVec 32 := 16#32
  let v143 : BitVec 32 := Scalar.muli v139 c16_i32_82
  let v144 : BitVec 32 := Scalar.addi v137 v143
  let v310 : BitVec 32 := Scalar.addi v9 v144
  v310
def k0_cond20 (v10 : BitVec 32) : BitVec 1 :=
  let c3_i32_83 : BitVec 32 := 3#32
  let v145 : BitVec 32 := Scalar.shrsi v10 c3_i32_83
  let c1_i32_84 : BitVec 32 := 1#32
  let v146 : BitVec 32 := Scalar.andi v145 c1_i32_84
  let c1_i32_85 : BitVec 32 := 1#32
  let v147 : BitVec 1 := Scalar.cmpi .eq v146 c1_i32_85
  let v148 : BitVec 32 := Scalar.extui v147
  let c0_i32_86 : BitVec 32 := 0#32
  let v149 : BitVec 1 := Scalar.cmpi .ne v148 c0_i32_86
  v149

def k0_off30 (v9 : BitVec 32) (v10 : BitVec 32) : Fin 2 → Nat :=
  let c0_i32_42 : BitVec 32 := 0#32
  let c12_i32_36 : BitVec 32 := 12#32
  let v82 : BitVec 32 := Scalar.shrsi v10 c12_i32_36
  let c1_i32_37 : BitVec 32 := 1#32
  let v83 : BitVec 32 := Scalar.andi v82 c1_i32_37
  let c4096_i32_41 : BitVec 32 := 4096#32
  let v87 : BitVec 32 := Scalar.muli v83 c4096_i32_41
  let v88 : BitVec 32 := Scalar.addi c0_i32_42 v87
  let c11_i32_43 : BitVec 32 := 11#32
  let v89 : BitVec 32 := Scalar.shrsi v10 c11_i32_43
  let c1_i32_44 : BitVec 32 := 1#32
  let v90 : BitVec 32 := Scalar.andi v89 c1_i32_44
  let c2048_i32_47 : BitVec 32 := 2048#32
  let v94 : BitVec 32 := Scalar.muli v90 c2048_i32_47
  let v95 : BitVec 32 := Scalar.addi v88 v94
  let c10_i32_48 : BitVec 32 := 10#32
  let v96 : BitVec 32 := Scalar.shrsi v10 c10_i32_48
  let c1_i32_49 : BitVec 32 := 1#32
  let v97 : BitVec 32 := Scalar.andi v96 c1_i32_49
  let c1024_i32_52 : BitVec 32 := 1024#32
  let v101 : BitVec 32 := Scalar.muli v97 c1024_i32_52
  let v102 : BitVec 32 := Scalar.addi v95 v101
  let c9_i32_53 : BitVec 32 := 9#32
  let v103 : BitVec 32 := Scalar.shrsi v10 c9_i32_53
  let c1_i32_54 : BitVec 32 := 1#32
  let v104 : BitVec 32 := Scalar.andi v103 c1_i32_54
  let c512_i32_57 : BitVec 32 := 512#32
  let v108 : BitVec 32 := Scalar.muli v104 c512_i32_57
  let v109 : BitVec 32 := Scalar.addi v102 v108
  let c8_i32_58 : BitVec 32 := 8#32
  let v110 : BitVec 32 := Scalar.shrsi v10 c8_i32_58
  let c1_i32_59 : BitVec 32 := 1#32
  let v111 : BitVec 32 := Scalar.andi v110 c1_i32_59
  let c256_i32_62 : BitVec 32 := 256#32
  let v115 : BitVec 32 := Scalar.muli v111 c256_i32_62
  let v116 : BitVec 32 := Scalar.addi v109 v115
  let c7_i32_63 : BitVec 32 := 7#32
  let v117 : BitVec 32 := Scalar.shrsi v10 c7_i32_63
  let c1_i32_64 : BitVec 32 := 1#32
  let v118 : BitVec 32 := Scalar.andi v117 c1_i32_64
  let c128_i32_67 : BitVec 32 := 128#32
  let v122 : BitVec 32 := Scalar.muli v118 c128_i32_67
  let v123 : BitVec 32 := Scalar.addi v116 v122
  let c6_i32_68 : BitVec 32 := 6#32
  let v124 : BitVec 32 := Scalar.shrsi v10 c6_i32_68
  let c1_i32_69 : BitVec 32 := 1#32
  let v125 : BitVec 32 := Scalar.andi v124 c1_i32_69
  let c64_i32_72 : BitVec 32 := 64#32
  let v129 : BitVec 32 := Scalar.muli v125 c64_i32_72
  let v130 : BitVec 32 := Scalar.addi v123 v129
  let c5_i32_73 : BitVec 32 := 5#32
  let v131 : BitVec 32 := Scalar.shrsi v10 c5_i32_73
  let c1_i32_74 : BitVec 32 := 1#32
  let v132 : BitVec 32 := Scalar.andi v131 c1_i32_74
  let c32_i32_77 : BitVec 32 := 32#32
  let v136 : BitVec 32 := Scalar.muli v132 c32_i32_77
  let v137 : BitVec 32 := Scalar.addi v130 v136
  let c4_i32_78 : BitVec 32 := 4#32
  let v138 : BitVec 32 := Scalar.shrsi v10 c4_i32_78
  let c1_i32_79 : BitVec 32 := 1#32
  let v139 : BitVec 32 := Scalar.andi v138 c1_i32_79
  let c16_i32_82 : BitVec 32 := 16#32
  let v143 : BitVec 32 := Scalar.muli v139 c16_i32_82
  let v144 : BitVec 32 := Scalar.addi v137 v143
  let v310 : BitVec 32 := Scalar.addi v9 v144
  let v311 : BitVec 32 := v310
  let c0_i32_206 : BitVec 32 := 0#32
  ![v311.toNat, 0]
def k0_mult31 (v9 : BitVec 32) : BitVec 32 :=
  let c0_i32_90 : BitVec 32 := 0#32
  let v310 : BitVec 32 := Scalar.addi v9 c0_i32_90
  v310
def k0_cond21 (v10 : BitVec 32) : BitVec 1 :=
  let c12_i32_87 : BitVec 32 := 12#32
  let v150 : BitVec 32 := Scalar.shrsi v10 c12_i32_87
  let c1_i32_88 : BitVec 32 := 1#32
  let v151 : BitVec 32 := Scalar.andi v150 c1_i32_88
  let c1_i32_89 : BitVec 32 := 1#32
  let v152 : BitVec 1 := Scalar.cmpi .eq v151 c1_i32_89
  let v153 : BitVec 32 := Scalar.extui v152
  let c0_i32_91 : BitVec 32 := 0#32
  let v154 : BitVec 1 := Scalar.cmpi .ne v153 c0_i32_91
  v154

def k0_off31 (v9 : BitVec 32) : Fin 2 → Nat :=
  let c0_i32_90 : BitVec 32 := 0#32
  let v310 : BitVec 32 := Scalar.addi v9 c0_i32_90
  let v311 : BitVec 32 := v310
  let c0_i32_206 : BitVec 32 := 0#32
  ![v311.toNat, 0]
def k0_mult32 (v9 : BitVec 32) (v10 : BitVec 32) : BitVec 32 :=
  let c0_i32_93 : BitVec 32 := 0#32
  let c12_i32_87 : BitVec 32 := 12#32
  let v150 : BitVec 32 := Scalar.shrsi v10 c12_i32_87
  let c1_i32_88 : BitVec 32 := 1#32
  let v151 : BitVec 32 := Scalar.andi v150 c1_i32_88
  let c4096_i32_92 : BitVec 32 := 4096#32
  let v155 : BitVec 32 := Scalar.muli v151 c4096_i32_92
  let v156 : BitVec 32 := Scalar.addi c0_i32_93 v155
  let v310 : BitVec 32 := Scalar.addi v9 v156
  v310
def k0_cond22 (v10 : BitVec 32) : BitVec 1 :=
  let c11_i32_94 : BitVec 32 := 11#32
  let v157 : BitVec 32 := Scalar.shrsi v10 c11_i32_94
  let c1_i32_95 : BitVec 32 := 1#32
  let v158 : BitVec 32 := Scalar.andi v157 c1_i32_95
  let c1_i32_96 : BitVec 32 := 1#32
  let v159 : BitVec 1 := Scalar.cmpi .eq v158 c1_i32_96
  let v160 : BitVec 32 := Scalar.extui v159
  let c0_i32_97 : BitVec 32 := 0#32
  let v161 : BitVec 1 := Scalar.cmpi .ne v160 c0_i32_97
  v161

def k0_off32 (v9 : BitVec 32) (v10 : BitVec 32) : Fin 2 → Nat :=
  let c0_i32_93 : BitVec 32 := 0#32
  let c12_i32_87 : BitVec 32 := 12#32
  let v150 : BitVec 32 := Scalar.shrsi v10 c12_i32_87
  let c1_i32_88 : BitVec 32 := 1#32
  let v151 : BitVec 32 := Scalar.andi v150 c1_i32_88
  let c4096_i32_92 : BitVec 32 := 4096#32
  let v155 : BitVec 32 := Scalar.muli v151 c4096_i32_92
  let v156 : BitVec 32 := Scalar.addi c0_i32_93 v155
  let v310 : BitVec 32 := Scalar.addi v9 v156
  let v311 : BitVec 32 := v310
  let c0_i32_206 : BitVec 32 := 0#32
  ![v311.toNat, 0]
def k0_mult33 (v9 : BitVec 32) (v10 : BitVec 32) : BitVec 32 :=
  let c0_i32_93 : BitVec 32 := 0#32
  let c12_i32_87 : BitVec 32 := 12#32
  let v150 : BitVec 32 := Scalar.shrsi v10 c12_i32_87
  let c1_i32_88 : BitVec 32 := 1#32
  let v151 : BitVec 32 := Scalar.andi v150 c1_i32_88
  let c4096_i32_92 : BitVec 32 := 4096#32
  let v155 : BitVec 32 := Scalar.muli v151 c4096_i32_92
  let v156 : BitVec 32 := Scalar.addi c0_i32_93 v155
  let c11_i32_94 : BitVec 32 := 11#32
  let v157 : BitVec 32 := Scalar.shrsi v10 c11_i32_94
  let c1_i32_95 : BitVec 32 := 1#32
  let v158 : BitVec 32 := Scalar.andi v157 c1_i32_95
  let c2048_i32_98 : BitVec 32 := 2048#32
  let v162 : BitVec 32 := Scalar.muli v158 c2048_i32_98
  let v163 : BitVec 32 := Scalar.addi v156 v162
  let v310 : BitVec 32 := Scalar.addi v9 v163
  v310
def k0_cond23 (v10 : BitVec 32) : BitVec 1 :=
  let c10_i32_99 : BitVec 32 := 10#32
  let v164 : BitVec 32 := Scalar.shrsi v10 c10_i32_99
  let c1_i32_100 : BitVec 32 := 1#32
  let v165 : BitVec 32 := Scalar.andi v164 c1_i32_100
  let c1_i32_101 : BitVec 32 := 1#32
  let v166 : BitVec 1 := Scalar.cmpi .eq v165 c1_i32_101
  let v167 : BitVec 32 := Scalar.extui v166
  let c0_i32_102 : BitVec 32 := 0#32
  let v168 : BitVec 1 := Scalar.cmpi .ne v167 c0_i32_102
  v168

def k0_off33 (v9 : BitVec 32) (v10 : BitVec 32) : Fin 2 → Nat :=
  let c0_i32_93 : BitVec 32 := 0#32
  let c12_i32_87 : BitVec 32 := 12#32
  let v150 : BitVec 32 := Scalar.shrsi v10 c12_i32_87
  let c1_i32_88 : BitVec 32 := 1#32
  let v151 : BitVec 32 := Scalar.andi v150 c1_i32_88
  let c4096_i32_92 : BitVec 32 := 4096#32
  let v155 : BitVec 32 := Scalar.muli v151 c4096_i32_92
  let v156 : BitVec 32 := Scalar.addi c0_i32_93 v155
  let c11_i32_94 : BitVec 32 := 11#32
  let v157 : BitVec 32 := Scalar.shrsi v10 c11_i32_94
  let c1_i32_95 : BitVec 32 := 1#32
  let v158 : BitVec 32 := Scalar.andi v157 c1_i32_95
  let c2048_i32_98 : BitVec 32 := 2048#32
  let v162 : BitVec 32 := Scalar.muli v158 c2048_i32_98
  let v163 : BitVec 32 := Scalar.addi v156 v162
  let v310 : BitVec 32 := Scalar.addi v9 v163
  let v311 : BitVec 32 := v310
  let c0_i32_206 : BitVec 32 := 0#32
  ![v311.toNat, 0]
def k0_mult34 (v9 : BitVec 32) (v10 : BitVec 32) : BitVec 32 :=
  let c0_i32_93 : BitVec 32 := 0#32
  let c12_i32_87 : BitVec 32 := 12#32
  let v150 : BitVec 32 := Scalar.shrsi v10 c12_i32_87
  let c1_i32_88 : BitVec 32 := 1#32
  let v151 : BitVec 32 := Scalar.andi v150 c1_i32_88
  let c4096_i32_92 : BitVec 32 := 4096#32
  let v155 : BitVec 32 := Scalar.muli v151 c4096_i32_92
  let v156 : BitVec 32 := Scalar.addi c0_i32_93 v155
  let c11_i32_94 : BitVec 32 := 11#32
  let v157 : BitVec 32 := Scalar.shrsi v10 c11_i32_94
  let c1_i32_95 : BitVec 32 := 1#32
  let v158 : BitVec 32 := Scalar.andi v157 c1_i32_95
  let c2048_i32_98 : BitVec 32 := 2048#32
  let v162 : BitVec 32 := Scalar.muli v158 c2048_i32_98
  let v163 : BitVec 32 := Scalar.addi v156 v162
  let c10_i32_99 : BitVec 32 := 10#32
  let v164 : BitVec 32 := Scalar.shrsi v10 c10_i32_99
  let c1_i32_100 : BitVec 32 := 1#32
  let v165 : BitVec 32 := Scalar.andi v164 c1_i32_100
  let c1024_i32_103 : BitVec 32 := 1024#32
  let v169 : BitVec 32 := Scalar.muli v165 c1024_i32_103
  let v170 : BitVec 32 := Scalar.addi v163 v169
  let v310 : BitVec 32 := Scalar.addi v9 v170
  v310
def k0_cond24 (v10 : BitVec 32) : BitVec 1 :=
  let c9_i32_104 : BitVec 32 := 9#32
  let v171 : BitVec 32 := Scalar.shrsi v10 c9_i32_104
  let c1_i32_105 : BitVec 32 := 1#32
  let v172 : BitVec 32 := Scalar.andi v171 c1_i32_105
  let c1_i32_106 : BitVec 32 := 1#32
  let v173 : BitVec 1 := Scalar.cmpi .eq v172 c1_i32_106
  let v174 : BitVec 32 := Scalar.extui v173
  let c0_i32_107 : BitVec 32 := 0#32
  let v175 : BitVec 1 := Scalar.cmpi .ne v174 c0_i32_107
  v175

def k0_off34 (v9 : BitVec 32) (v10 : BitVec 32) : Fin 2 → Nat :=
  let c0_i32_93 : BitVec 32 := 0#32
  let c12_i32_87 : BitVec 32 := 12#32
  let v150 : BitVec 32 := Scalar.shrsi v10 c12_i32_87
  let c1_i32_88 : BitVec 32 := 1#32
  let v151 : BitVec 32 := Scalar.andi v150 c1_i32_88
  let c4096_i32_92 : BitVec 32 := 4096#32
  let v155 : BitVec 32 := Scalar.muli v151 c4096_i32_92
  let v156 : BitVec 32 := Scalar.addi c0_i32_93 v155
  let c11_i32_94 : BitVec 32 := 11#32
  let v157 : BitVec 32 := Scalar.shrsi v10 c11_i32_94
  let c1_i32_95 : BitVec 32 := 1#32
  let v158 : BitVec 32 := Scalar.andi v157 c1_i32_95
  let c2048_i32_98 : BitVec 32 := 2048#32
  let v162 : BitVec 32 := Scalar.muli v158 c2048_i32_98
  let v163 : BitVec 32 := Scalar.addi v156 v162
  let c10_i32_99 : BitVec 32 := 10#32
  let v164 : BitVec 32 := Scalar.shrsi v10 c10_i32_99
  let c1_i32_100 : BitVec 32 := 1#32
  let v165 : BitVec 32 := Scalar.andi v164 c1_i32_100
  let c1024_i32_103 : BitVec 32 := 1024#32
  let v169 : BitVec 32 := Scalar.muli v165 c1024_i32_103
  let v170 : BitVec 32 := Scalar.addi v163 v169
  let v310 : BitVec 32 := Scalar.addi v9 v170
  let v311 : BitVec 32 := v310
  let c0_i32_206 : BitVec 32 := 0#32
  ![v311.toNat, 0]
def k0_mult35 (v9 : BitVec 32) (v10 : BitVec 32) : BitVec 32 :=
  let c0_i32_93 : BitVec 32 := 0#32
  let c12_i32_87 : BitVec 32 := 12#32
  let v150 : BitVec 32 := Scalar.shrsi v10 c12_i32_87
  let c1_i32_88 : BitVec 32 := 1#32
  let v151 : BitVec 32 := Scalar.andi v150 c1_i32_88
  let c4096_i32_92 : BitVec 32 := 4096#32
  let v155 : BitVec 32 := Scalar.muli v151 c4096_i32_92
  let v156 : BitVec 32 := Scalar.addi c0_i32_93 v155
  let c11_i32_94 : BitVec 32 := 11#32
  let v157 : BitVec 32 := Scalar.shrsi v10 c11_i32_94
  let c1_i32_95 : BitVec 32 := 1#32
  let v158 : BitVec 32 := Scalar.andi v157 c1_i32_95
  let c2048_i32_98 : BitVec 32 := 2048#32
  let v162 : BitVec 32 := Scalar.muli v158 c2048_i32_98
  let v163 : BitVec 32 := Scalar.addi v156 v162
  let c10_i32_99 : BitVec 32 := 10#32
  let v164 : BitVec 32 := Scalar.shrsi v10 c10_i32_99
  let c1_i32_100 : BitVec 32 := 1#32
  let v165 : BitVec 32 := Scalar.andi v164 c1_i32_100
  let c1024_i32_103 : BitVec 32 := 1024#32
  let v169 : BitVec 32 := Scalar.muli v165 c1024_i32_103
  let v170 : BitVec 32 := Scalar.addi v163 v169
  let c9_i32_104 : BitVec 32 := 9#32
  let v171 : BitVec 32 := Scalar.shrsi v10 c9_i32_104
  let c1_i32_105 : BitVec 32 := 1#32
  let v172 : BitVec 32 := Scalar.andi v171 c1_i32_105
  let c512_i32_108 : BitVec 32 := 512#32
  let v176 : BitVec 32 := Scalar.muli v172 c512_i32_108
  let v177 : BitVec 32 := Scalar.addi v170 v176
  let v310 : BitVec 32 := Scalar.addi v9 v177
  v310
def k0_cond25 (v10 : BitVec 32) : BitVec 1 :=
  let c8_i32_109 : BitVec 32 := 8#32
  let v178 : BitVec 32 := Scalar.shrsi v10 c8_i32_109
  let c1_i32_110 : BitVec 32 := 1#32
  let v179 : BitVec 32 := Scalar.andi v178 c1_i32_110
  let c1_i32_111 : BitVec 32 := 1#32
  let v180 : BitVec 1 := Scalar.cmpi .eq v179 c1_i32_111
  let v181 : BitVec 32 := Scalar.extui v180
  let c0_i32_112 : BitVec 32 := 0#32
  let v182 : BitVec 1 := Scalar.cmpi .ne v181 c0_i32_112
  v182

def k0_off35 (v9 : BitVec 32) (v10 : BitVec 32) : Fin 2 → Nat :=
  let c0_i32_93 : BitVec 32 := 0#32
  let c12_i32_87 : BitVec 32 := 12#32
  let v150 : BitVec 32 := Scalar.shrsi v10 c12_i32_87
  let c1_i32_88 : BitVec 32 := 1#32
  let v151 : BitVec 32 := Scalar.andi v150 c1_i32_88
  let c4096_i32_92 : BitVec 32 := 4096#32
  let v155 : BitVec 32 := Scalar.muli v151 c4096_i32_92
  let v156 : BitVec 32 := Scalar.addi c0_i32_93 v155
  let c11_i32_94 : BitVec 32 := 11#32
  let v157 : BitVec 32 := Scalar.shrsi v10 c11_i32_94
  let c1_i32_95 : BitVec 32 := 1#32
  let v158 : BitVec 32 := Scalar.andi v157 c1_i32_95
  let c2048_i32_98 : BitVec 32 := 2048#32
  let v162 : BitVec 32 := Scalar.muli v158 c2048_i32_98
  let v163 : BitVec 32 := Scalar.addi v156 v162
  let c10_i32_99 : BitVec 32 := 10#32
  let v164 : BitVec 32 := Scalar.shrsi v10 c10_i32_99
  let c1_i32_100 : BitVec 32 := 1#32
  let v165 : BitVec 32 := Scalar.andi v164 c1_i32_100
  let c1024_i32_103 : BitVec 32 := 1024#32
  let v169 : BitVec 32 := Scalar.muli v165 c1024_i32_103
  let v170 : BitVec 32 := Scalar.addi v163 v169
  let c9_i32_104 : BitVec 32 := 9#32
  let v171 : BitVec 32 := Scalar.shrsi v10 c9_i32_104
  let c1_i32_105 : BitVec 32 := 1#32
  let v172 : BitVec 32 := Scalar.andi v171 c1_i32_105
  let c512_i32_108 : BitVec 32 := 512#32
  let v176 : BitVec 32 := Scalar.muli v172 c512_i32_108
  let v177 : BitVec 32 := Scalar.addi v170 v176
  let v310 : BitVec 32 := Scalar.addi v9 v177
  let v311 : BitVec 32 := v310
  let c0_i32_206 : BitVec 32 := 0#32
  ![v311.toNat, 0]
def k0_mult36 (v9 : BitVec 32) (v10 : BitVec 32) : BitVec 32 :=
  let c0_i32_93 : BitVec 32 := 0#32
  let c12_i32_87 : BitVec 32 := 12#32
  let v150 : BitVec 32 := Scalar.shrsi v10 c12_i32_87
  let c1_i32_88 : BitVec 32 := 1#32
  let v151 : BitVec 32 := Scalar.andi v150 c1_i32_88
  let c4096_i32_92 : BitVec 32 := 4096#32
  let v155 : BitVec 32 := Scalar.muli v151 c4096_i32_92
  let v156 : BitVec 32 := Scalar.addi c0_i32_93 v155
  let c11_i32_94 : BitVec 32 := 11#32
  let v157 : BitVec 32 := Scalar.shrsi v10 c11_i32_94
  let c1_i32_95 : BitVec 32 := 1#32
  let v158 : BitVec 32 := Scalar.andi v157 c1_i32_95
  let c2048_i32_98 : BitVec 32 := 2048#32
  let v162 : BitVec 32 := Scalar.muli v158 c2048_i32_98
  let v163 : BitVec 32 := Scalar.addi v156 v162
  let c10_i32_99 : BitVec 32 := 10#32
  let v164 : BitVec 32 := Scalar.shrsi v10 c10_i32_99
  let c1_i32_100 : BitVec 32 := 1#32
  let v165 : BitVec 32 := Scalar.andi v164 c1_i32_100
  let c1024_i32_103 : BitVec 32 := 1024#32
  let v169 : BitVec 32 := Scalar.muli v165 c1024_i32_103
  let v170 : BitVec 32 := Scalar.addi v163 v169
  let c9_i32_104 : BitVec 32 := 9#32
  let v171 : BitVec 32 := Scalar.shrsi v10 c9_i32_104
  let c1_i32_105 : BitVec 32 := 1#32
  let v172 : BitVec 32 := Scalar.andi v171 c1_i32_105
  let c512_i32_108 : BitVec 32 := 512#32
  let v176 : BitVec 32 := Scalar.muli v172 c512_i32_108
  let v177 : BitVec 32 := Scalar.addi v170 v176
  let c8_i32_109 : BitVec 32 := 8#32
  let v178 : BitVec 32 := Scalar.shrsi v10 c8_i32_109
  let c1_i32_110 : BitVec 32 := 1#32
  let v179 : BitVec 32 := Scalar.andi v178 c1_i32_110
  let c256_i32_113 : BitVec 32 := 256#32
  let v183 : BitVec 32 := Scalar.muli v179 c256_i32_113
  let v184 : BitVec 32 := Scalar.addi v177 v183
  let v310 : BitVec 32 := Scalar.addi v9 v184
  v310
def k0_cond26 (v10 : BitVec 32) : BitVec 1 :=
  let c7_i32_114 : BitVec 32 := 7#32
  let v185 : BitVec 32 := Scalar.shrsi v10 c7_i32_114
  let c1_i32_115 : BitVec 32 := 1#32
  let v186 : BitVec 32 := Scalar.andi v185 c1_i32_115
  let c1_i32_116 : BitVec 32 := 1#32
  let v187 : BitVec 1 := Scalar.cmpi .eq v186 c1_i32_116
  let v188 : BitVec 32 := Scalar.extui v187
  let c0_i32_117 : BitVec 32 := 0#32
  let v189 : BitVec 1 := Scalar.cmpi .ne v188 c0_i32_117
  v189

def k0_off36 (v9 : BitVec 32) (v10 : BitVec 32) : Fin 2 → Nat :=
  let c0_i32_93 : BitVec 32 := 0#32
  let c12_i32_87 : BitVec 32 := 12#32
  let v150 : BitVec 32 := Scalar.shrsi v10 c12_i32_87
  let c1_i32_88 : BitVec 32 := 1#32
  let v151 : BitVec 32 := Scalar.andi v150 c1_i32_88
  let c4096_i32_92 : BitVec 32 := 4096#32
  let v155 : BitVec 32 := Scalar.muli v151 c4096_i32_92
  let v156 : BitVec 32 := Scalar.addi c0_i32_93 v155
  let c11_i32_94 : BitVec 32 := 11#32
  let v157 : BitVec 32 := Scalar.shrsi v10 c11_i32_94
  let c1_i32_95 : BitVec 32 := 1#32
  let v158 : BitVec 32 := Scalar.andi v157 c1_i32_95
  let c2048_i32_98 : BitVec 32 := 2048#32
  let v162 : BitVec 32 := Scalar.muli v158 c2048_i32_98
  let v163 : BitVec 32 := Scalar.addi v156 v162
  let c10_i32_99 : BitVec 32 := 10#32
  let v164 : BitVec 32 := Scalar.shrsi v10 c10_i32_99
  let c1_i32_100 : BitVec 32 := 1#32
  let v165 : BitVec 32 := Scalar.andi v164 c1_i32_100
  let c1024_i32_103 : BitVec 32 := 1024#32
  let v169 : BitVec 32 := Scalar.muli v165 c1024_i32_103
  let v170 : BitVec 32 := Scalar.addi v163 v169
  let c9_i32_104 : BitVec 32 := 9#32
  let v171 : BitVec 32 := Scalar.shrsi v10 c9_i32_104
  let c1_i32_105 : BitVec 32 := 1#32
  let v172 : BitVec 32 := Scalar.andi v171 c1_i32_105
  let c512_i32_108 : BitVec 32 := 512#32
  let v176 : BitVec 32 := Scalar.muli v172 c512_i32_108
  let v177 : BitVec 32 := Scalar.addi v170 v176
  let c8_i32_109 : BitVec 32 := 8#32
  let v178 : BitVec 32 := Scalar.shrsi v10 c8_i32_109
  let c1_i32_110 : BitVec 32 := 1#32
  let v179 : BitVec 32 := Scalar.andi v178 c1_i32_110
  let c256_i32_113 : BitVec 32 := 256#32
  let v183 : BitVec 32 := Scalar.muli v179 c256_i32_113
  let v184 : BitVec 32 := Scalar.addi v177 v183
  let v310 : BitVec 32 := Scalar.addi v9 v184
  let v311 : BitVec 32 := v310
  let c0_i32_206 : BitVec 32 := 0#32
  ![v311.toNat, 0]
def k0_mult37 (v9 : BitVec 32) (v10 : BitVec 32) : BitVec 32 :=
  let c0_i32_93 : BitVec 32 := 0#32
  let c12_i32_87 : BitVec 32 := 12#32
  let v150 : BitVec 32 := Scalar.shrsi v10 c12_i32_87
  let c1_i32_88 : BitVec 32 := 1#32
  let v151 : BitVec 32 := Scalar.andi v150 c1_i32_88
  let c4096_i32_92 : BitVec 32 := 4096#32
  let v155 : BitVec 32 := Scalar.muli v151 c4096_i32_92
  let v156 : BitVec 32 := Scalar.addi c0_i32_93 v155
  let c11_i32_94 : BitVec 32 := 11#32
  let v157 : BitVec 32 := Scalar.shrsi v10 c11_i32_94
  let c1_i32_95 : BitVec 32 := 1#32
  let v158 : BitVec 32 := Scalar.andi v157 c1_i32_95
  let c2048_i32_98 : BitVec 32 := 2048#32
  let v162 : BitVec 32 := Scalar.muli v158 c2048_i32_98
  let v163 : BitVec 32 := Scalar.addi v156 v162
  let c10_i32_99 : BitVec 32 := 10#32
  let v164 : BitVec 32 := Scalar.shrsi v10 c10_i32_99
  let c1_i32_100 : BitVec 32 := 1#32
  let v165 : BitVec 32 := Scalar.andi v164 c1_i32_100
  let c1024_i32_103 : BitVec 32 := 1024#32
  let v169 : BitVec 32 := Scalar.muli v165 c1024_i32_103
  let v170 : BitVec 32 := Scalar.addi v163 v169
  let c9_i32_104 : BitVec 32 := 9#32
  let v171 : BitVec 32 := Scalar.shrsi v10 c9_i32_104
  let c1_i32_105 : BitVec 32 := 1#32
  let v172 : BitVec 32 := Scalar.andi v171 c1_i32_105
  let c512_i32_108 : BitVec 32 := 512#32
  let v176 : BitVec 32 := Scalar.muli v172 c512_i32_108
  let v177 : BitVec 32 := Scalar.addi v170 v176
  let c8_i32_109 : BitVec 32 := 8#32
  let v178 : BitVec 32 := Scalar.shrsi v10 c8_i32_109
  let c1_i32_110 : BitVec 32 := 1#32
  let v179 : BitVec 32 := Scalar.andi v178 c1_i32_110
  let c256_i32_113 : BitVec 32 := 256#32
  let v183 : BitVec 32 := Scalar.muli v179 c256_i32_113
  let v184 : BitVec 32 := Scalar.addi v177 v183
  let c7_i32_114 : BitVec 32 := 7#32
  let v185 : BitVec 32 := Scalar.shrsi v10 c7_i32_114
  let c1_i32_115 : BitVec 32 := 1#32
  let v186 : BitVec 32 := Scalar.andi v185 c1_i32_115
  let c128_i32_118 : BitVec 32 := 128#32
  let v190 : BitVec 32 := Scalar.muli v186 c128_i32_118
  let v191 : BitVec 32 := Scalar.addi v184 v190
  let v310 : BitVec 32 := Scalar.addi v9 v191
  v310
def k0_cond27 (v10 : BitVec 32) : BitVec 1 :=
  let c6_i32_119 : BitVec 32 := 6#32
  let v192 : BitVec 32 := Scalar.shrsi v10 c6_i32_119
  let c1_i32_120 : BitVec 32 := 1#32
  let v193 : BitVec 32 := Scalar.andi v192 c1_i32_120
  let c1_i32_121 : BitVec 32 := 1#32
  let v194 : BitVec 1 := Scalar.cmpi .eq v193 c1_i32_121
  let v195 : BitVec 32 := Scalar.extui v194
  let c0_i32_122 : BitVec 32 := 0#32
  let v196 : BitVec 1 := Scalar.cmpi .ne v195 c0_i32_122
  v196

def k0_off37 (v9 : BitVec 32) (v10 : BitVec 32) : Fin 2 → Nat :=
  let c0_i32_93 : BitVec 32 := 0#32
  let c12_i32_87 : BitVec 32 := 12#32
  let v150 : BitVec 32 := Scalar.shrsi v10 c12_i32_87
  let c1_i32_88 : BitVec 32 := 1#32
  let v151 : BitVec 32 := Scalar.andi v150 c1_i32_88
  let c4096_i32_92 : BitVec 32 := 4096#32
  let v155 : BitVec 32 := Scalar.muli v151 c4096_i32_92
  let v156 : BitVec 32 := Scalar.addi c0_i32_93 v155
  let c11_i32_94 : BitVec 32 := 11#32
  let v157 : BitVec 32 := Scalar.shrsi v10 c11_i32_94
  let c1_i32_95 : BitVec 32 := 1#32
  let v158 : BitVec 32 := Scalar.andi v157 c1_i32_95
  let c2048_i32_98 : BitVec 32 := 2048#32
  let v162 : BitVec 32 := Scalar.muli v158 c2048_i32_98
  let v163 : BitVec 32 := Scalar.addi v156 v162
  let c10_i32_99 : BitVec 32 := 10#32
  let v164 : BitVec 32 := Scalar.shrsi v10 c10_i32_99
  let c1_i32_100 : BitVec 32 := 1#32
  let v165 : BitVec 32 := Scalar.andi v164 c1_i32_100
  let c1024_i32_103 : BitVec 32 := 1024#32
  let v169 : BitVec 32 := Scalar.muli v165 c1024_i32_103
  let v170 : BitVec 32 := Scalar.addi v163 v169
  let c9_i32_104 : BitVec 32 := 9#32
  let v171 : BitVec 32 := Scalar.shrsi v10 c9_i32_104
  let c1_i32_105 : BitVec 32 := 1#32
  let v172 : BitVec 32 := Scalar.andi v171 c1_i32_105
  let c512_i32_108 : BitVec 32 := 512#32
  let v176 : BitVec 32 := Scalar.muli v172 c512_i32_108
  let v177 : BitVec 32 := Scalar.addi v170 v176
  let c8_i32_109 : BitVec 32 := 8#32
  let v178 : BitVec 32 := Scalar.shrsi v10 c8_i32_109
  let c1_i32_110 : BitVec 32 := 1#32
  let v179 : BitVec 32 := Scalar.andi v178 c1_i32_110
  let c256_i32_113 : BitVec 32 := 256#32
  let v183 : BitVec 32 := Scalar.muli v179 c256_i32_113
  let v184 : BitVec 32 := Scalar.addi v177 v183
  let c7_i32_114 : BitVec 32 := 7#32
  let v185 : BitVec 32 := Scalar.shrsi v10 c7_i32_114
  let c1_i32_115 : BitVec 32 := 1#32
  let v186 : BitVec 32 := Scalar.andi v185 c1_i32_115
  let c128_i32_118 : BitVec 32 := 128#32
  let v190 : BitVec 32 := Scalar.muli v186 c128_i32_118
  let v191 : BitVec 32 := Scalar.addi v184 v190
  let v310 : BitVec 32 := Scalar.addi v9 v191
  let v311 : BitVec 32 := v310
  let c0_i32_206 : BitVec 32 := 0#32
  ![v311.toNat, 0]
def k0_mult38 (v9 : BitVec 32) (v10 : BitVec 32) : BitVec 32 :=
  let c0_i32_93 : BitVec 32 := 0#32
  let c12_i32_87 : BitVec 32 := 12#32
  let v150 : BitVec 32 := Scalar.shrsi v10 c12_i32_87
  let c1_i32_88 : BitVec 32 := 1#32
  let v151 : BitVec 32 := Scalar.andi v150 c1_i32_88
  let c4096_i32_92 : BitVec 32 := 4096#32
  let v155 : BitVec 32 := Scalar.muli v151 c4096_i32_92
  let v156 : BitVec 32 := Scalar.addi c0_i32_93 v155
  let c11_i32_94 : BitVec 32 := 11#32
  let v157 : BitVec 32 := Scalar.shrsi v10 c11_i32_94
  let c1_i32_95 : BitVec 32 := 1#32
  let v158 : BitVec 32 := Scalar.andi v157 c1_i32_95
  let c2048_i32_98 : BitVec 32 := 2048#32
  let v162 : BitVec 32 := Scalar.muli v158 c2048_i32_98
  let v163 : BitVec 32 := Scalar.addi v156 v162
  let c10_i32_99 : BitVec 32 := 10#32
  let v164 : BitVec 32 := Scalar.shrsi v10 c10_i32_99
  let c1_i32_100 : BitVec 32 := 1#32
  let v165 : BitVec 32 := Scalar.andi v164 c1_i32_100
  let c1024_i32_103 : BitVec 32 := 1024#32
  let v169 : BitVec 32 := Scalar.muli v165 c1024_i32_103
  let v170 : BitVec 32 := Scalar.addi v163 v169
  let c9_i32_104 : BitVec 32 := 9#32
  let v171 : BitVec 32 := Scalar.shrsi v10 c9_i32_104
  let c1_i32_105 : BitVec 32 := 1#32
  let v172 : BitVec 32 := Scalar.andi v171 c1_i32_105
  let c512_i32_108 : BitVec 32 := 512#32
  let v176 : BitVec 32 := Scalar.muli v172 c512_i32_108
  let v177 : BitVec 32 := Scalar.addi v170 v176
  let c8_i32_109 : BitVec 32 := 8#32
  let v178 : BitVec 32 := Scalar.shrsi v10 c8_i32_109
  let c1_i32_110 : BitVec 32 := 1#32
  let v179 : BitVec 32 := Scalar.andi v178 c1_i32_110
  let c256_i32_113 : BitVec 32 := 256#32
  let v183 : BitVec 32 := Scalar.muli v179 c256_i32_113
  let v184 : BitVec 32 := Scalar.addi v177 v183
  let c7_i32_114 : BitVec 32 := 7#32
  let v185 : BitVec 32 := Scalar.shrsi v10 c7_i32_114
  let c1_i32_115 : BitVec 32 := 1#32
  let v186 : BitVec 32 := Scalar.andi v185 c1_i32_115
  let c128_i32_118 : BitVec 32 := 128#32
  let v190 : BitVec 32 := Scalar.muli v186 c128_i32_118
  let v191 : BitVec 32 := Scalar.addi v184 v190
  let c6_i32_119 : BitVec 32 := 6#32
  let v192 : BitVec 32 := Scalar.shrsi v10 c6_i32_119
  let c1_i32_120 : BitVec 32 := 1#32
  let v193 : BitVec 32 := Scalar.andi v192 c1_i32_120
  let c64_i32_123 : BitVec 32 := 64#32
  let v197 : BitVec 32 := Scalar.muli v193 c64_i32_123
  let v198 : BitVec 32 := Scalar.addi v191 v197
  let v310 : BitVec 32 := Scalar.addi v9 v198
  v310
def k0_cond28 (v10 : BitVec 32) : BitVec 1 :=
  let c5_i32_124 : BitVec 32 := 5#32
  let v199 : BitVec 32 := Scalar.shrsi v10 c5_i32_124
  let c1_i32_125 : BitVec 32 := 1#32
  let v200 : BitVec 32 := Scalar.andi v199 c1_i32_125
  let c1_i32_126 : BitVec 32 := 1#32
  let v201 : BitVec 1 := Scalar.cmpi .eq v200 c1_i32_126
  let v202 : BitVec 32 := Scalar.extui v201
  let c0_i32_127 : BitVec 32 := 0#32
  let v203 : BitVec 1 := Scalar.cmpi .ne v202 c0_i32_127
  v203

def k0_off38 (v9 : BitVec 32) (v10 : BitVec 32) : Fin 2 → Nat :=
  let c0_i32_93 : BitVec 32 := 0#32
  let c12_i32_87 : BitVec 32 := 12#32
  let v150 : BitVec 32 := Scalar.shrsi v10 c12_i32_87
  let c1_i32_88 : BitVec 32 := 1#32
  let v151 : BitVec 32 := Scalar.andi v150 c1_i32_88
  let c4096_i32_92 : BitVec 32 := 4096#32
  let v155 : BitVec 32 := Scalar.muli v151 c4096_i32_92
  let v156 : BitVec 32 := Scalar.addi c0_i32_93 v155
  let c11_i32_94 : BitVec 32 := 11#32
  let v157 : BitVec 32 := Scalar.shrsi v10 c11_i32_94
  let c1_i32_95 : BitVec 32 := 1#32
  let v158 : BitVec 32 := Scalar.andi v157 c1_i32_95
  let c2048_i32_98 : BitVec 32 := 2048#32
  let v162 : BitVec 32 := Scalar.muli v158 c2048_i32_98
  let v163 : BitVec 32 := Scalar.addi v156 v162
  let c10_i32_99 : BitVec 32 := 10#32
  let v164 : BitVec 32 := Scalar.shrsi v10 c10_i32_99
  let c1_i32_100 : BitVec 32 := 1#32
  let v165 : BitVec 32 := Scalar.andi v164 c1_i32_100
  let c1024_i32_103 : BitVec 32 := 1024#32
  let v169 : BitVec 32 := Scalar.muli v165 c1024_i32_103
  let v170 : BitVec 32 := Scalar.addi v163 v169
  let c9_i32_104 : BitVec 32 := 9#32
  let v171 : BitVec 32 := Scalar.shrsi v10 c9_i32_104
  let c1_i32_105 : BitVec 32 := 1#32
  let v172 : BitVec 32 := Scalar.andi v171 c1_i32_105
  let c512_i32_108 : BitVec 32 := 512#32
  let v176 : BitVec 32 := Scalar.muli v172 c512_i32_108
  let v177 : BitVec 32 := Scalar.addi v170 v176
  let c8_i32_109 : BitVec 32 := 8#32
  let v178 : BitVec 32 := Scalar.shrsi v10 c8_i32_109
  let c1_i32_110 : BitVec 32 := 1#32
  let v179 : BitVec 32 := Scalar.andi v178 c1_i32_110
  let c256_i32_113 : BitVec 32 := 256#32
  let v183 : BitVec 32 := Scalar.muli v179 c256_i32_113
  let v184 : BitVec 32 := Scalar.addi v177 v183
  let c7_i32_114 : BitVec 32 := 7#32
  let v185 : BitVec 32 := Scalar.shrsi v10 c7_i32_114
  let c1_i32_115 : BitVec 32 := 1#32
  let v186 : BitVec 32 := Scalar.andi v185 c1_i32_115
  let c128_i32_118 : BitVec 32 := 128#32
  let v190 : BitVec 32 := Scalar.muli v186 c128_i32_118
  let v191 : BitVec 32 := Scalar.addi v184 v190
  let c6_i32_119 : BitVec 32 := 6#32
  let v192 : BitVec 32 := Scalar.shrsi v10 c6_i32_119
  let c1_i32_120 : BitVec 32 := 1#32
  let v193 : BitVec 32 := Scalar.andi v192 c1_i32_120
  let c64_i32_123 : BitVec 32 := 64#32
  let v197 : BitVec 32 := Scalar.muli v193 c64_i32_123
  let v198 : BitVec 32 := Scalar.addi v191 v197
  let v310 : BitVec 32 := Scalar.addi v9 v198
  let v311 : BitVec 32 := v310
  let c0_i32_206 : BitVec 32 := 0#32
  ![v311.toNat, 0]
def k0_mult39 (v9 : BitVec 32) (v10 : BitVec 32) : BitVec 32 :=
  let c0_i32_93 : BitVec 32 := 0#32
  let c12_i32_87 : BitVec 32 := 12#32
  let v150 : BitVec 32 := Scalar.shrsi v10 c12_i32_87
  let c1_i32_88 : BitVec 32 := 1#32
  let v151 : BitVec 32 := Scalar.andi v150 c1_i32_88
  let c4096_i32_92 : BitVec 32 := 4096#32
  let v155 : BitVec 32 := Scalar.muli v151 c4096_i32_92
  let v156 : BitVec 32 := Scalar.addi c0_i32_93 v155
  let c11_i32_94 : BitVec 32 := 11#32
  let v157 : BitVec 32 := Scalar.shrsi v10 c11_i32_94
  let c1_i32_95 : BitVec 32 := 1#32
  let v158 : BitVec 32 := Scalar.andi v157 c1_i32_95
  let c2048_i32_98 : BitVec 32 := 2048#32
  let v162 : BitVec 32 := Scalar.muli v158 c2048_i32_98
  let v163 : BitVec 32 := Scalar.addi v156 v162
  let c10_i32_99 : BitVec 32 := 10#32
  let v164 : BitVec 32 := Scalar.shrsi v10 c10_i32_99
  let c1_i32_100 : BitVec 32 := 1#32
  let v165 : BitVec 32 := Scalar.andi v164 c1_i32_100
  let c1024_i32_103 : BitVec 32 := 1024#32
  let v169 : BitVec 32 := Scalar.muli v165 c1024_i32_103
  let v170 : BitVec 32 := Scalar.addi v163 v169
  let c9_i32_104 : BitVec 32 := 9#32
  let v171 : BitVec 32 := Scalar.shrsi v10 c9_i32_104
  let c1_i32_105 : BitVec 32 := 1#32
  let v172 : BitVec 32 := Scalar.andi v171 c1_i32_105
  let c512_i32_108 : BitVec 32 := 512#32
  let v176 : BitVec 32 := Scalar.muli v172 c512_i32_108
  let v177 : BitVec 32 := Scalar.addi v170 v176
  let c8_i32_109 : BitVec 32 := 8#32
  let v178 : BitVec 32 := Scalar.shrsi v10 c8_i32_109
  let c1_i32_110 : BitVec 32 := 1#32
  let v179 : BitVec 32 := Scalar.andi v178 c1_i32_110
  let c256_i32_113 : BitVec 32 := 256#32
  let v183 : BitVec 32 := Scalar.muli v179 c256_i32_113
  let v184 : BitVec 32 := Scalar.addi v177 v183
  let c7_i32_114 : BitVec 32 := 7#32
  let v185 : BitVec 32 := Scalar.shrsi v10 c7_i32_114
  let c1_i32_115 : BitVec 32 := 1#32
  let v186 : BitVec 32 := Scalar.andi v185 c1_i32_115
  let c128_i32_118 : BitVec 32 := 128#32
  let v190 : BitVec 32 := Scalar.muli v186 c128_i32_118
  let v191 : BitVec 32 := Scalar.addi v184 v190
  let c6_i32_119 : BitVec 32 := 6#32
  let v192 : BitVec 32 := Scalar.shrsi v10 c6_i32_119
  let c1_i32_120 : BitVec 32 := 1#32
  let v193 : BitVec 32 := Scalar.andi v192 c1_i32_120
  let c64_i32_123 : BitVec 32 := 64#32
  let v197 : BitVec 32 := Scalar.muli v193 c64_i32_123
  let v198 : BitVec 32 := Scalar.addi v191 v197
  let c5_i32_124 : BitVec 32 := 5#32
  let v199 : BitVec 32 := Scalar.shrsi v10 c5_i32_124
  let c1_i32_125 : BitVec 32 := 1#32
  let v200 : BitVec 32 := Scalar.andi v199 c1_i32_125
  let c32_i32_128 : BitVec 32 := 32#32
  let v204 : BitVec 32 := Scalar.muli v200 c32_i32_128
  let v205 : BitVec 32 := Scalar.addi v198 v204
  let v310 : BitVec 32 := Scalar.addi v9 v205
  v310
def k0_cond29 (v10 : BitVec 32) : BitVec 1 :=
  let c4_i32_129 : BitVec 32 := 4#32
  let v206 : BitVec 32 := Scalar.shrsi v10 c4_i32_129
  let c1_i32_130 : BitVec 32 := 1#32
  let v207 : BitVec 32 := Scalar.andi v206 c1_i32_130
  let c1_i32_131 : BitVec 32 := 1#32
  let v208 : BitVec 1 := Scalar.cmpi .eq v207 c1_i32_131
  let v209 : BitVec 32 := Scalar.extui v208
  let c0_i32_132 : BitVec 32 := 0#32
  let v210 : BitVec 1 := Scalar.cmpi .ne v209 c0_i32_132
  v210

def k0_off39 (v9 : BitVec 32) (v10 : BitVec 32) : Fin 2 → Nat :=
  let c0_i32_93 : BitVec 32 := 0#32
  let c12_i32_87 : BitVec 32 := 12#32
  let v150 : BitVec 32 := Scalar.shrsi v10 c12_i32_87
  let c1_i32_88 : BitVec 32 := 1#32
  let v151 : BitVec 32 := Scalar.andi v150 c1_i32_88
  let c4096_i32_92 : BitVec 32 := 4096#32
  let v155 : BitVec 32 := Scalar.muli v151 c4096_i32_92
  let v156 : BitVec 32 := Scalar.addi c0_i32_93 v155
  let c11_i32_94 : BitVec 32 := 11#32
  let v157 : BitVec 32 := Scalar.shrsi v10 c11_i32_94
  let c1_i32_95 : BitVec 32 := 1#32
  let v158 : BitVec 32 := Scalar.andi v157 c1_i32_95
  let c2048_i32_98 : BitVec 32 := 2048#32
  let v162 : BitVec 32 := Scalar.muli v158 c2048_i32_98
  let v163 : BitVec 32 := Scalar.addi v156 v162
  let c10_i32_99 : BitVec 32 := 10#32
  let v164 : BitVec 32 := Scalar.shrsi v10 c10_i32_99
  let c1_i32_100 : BitVec 32 := 1#32
  let v165 : BitVec 32 := Scalar.andi v164 c1_i32_100
  let c1024_i32_103 : BitVec 32 := 1024#32
  let v169 : BitVec 32 := Scalar.muli v165 c1024_i32_103
  let v170 : BitVec 32 := Scalar.addi v163 v169
  let c9_i32_104 : BitVec 32 := 9#32
  let v171 : BitVec 32 := Scalar.shrsi v10 c9_i32_104
  let c1_i32_105 : BitVec 32 := 1#32
  let v172 : BitVec 32 := Scalar.andi v171 c1_i32_105
  let c512_i32_108 : BitVec 32 := 512#32
  let v176 : BitVec 32 := Scalar.muli v172 c512_i32_108
  let v177 : BitVec 32 := Scalar.addi v170 v176
  let c8_i32_109 : BitVec 32 := 8#32
  let v178 : BitVec 32 := Scalar.shrsi v10 c8_i32_109
  let c1_i32_110 : BitVec 32 := 1#32
  let v179 : BitVec 32 := Scalar.andi v178 c1_i32_110
  let c256_i32_113 : BitVec 32 := 256#32
  let v183 : BitVec 32 := Scalar.muli v179 c256_i32_113
  let v184 : BitVec 32 := Scalar.addi v177 v183
  let c7_i32_114 : BitVec 32 := 7#32
  let v185 : BitVec 32 := Scalar.shrsi v10 c7_i32_114
  let c1_i32_115 : BitVec 32 := 1#32
  let v186 : BitVec 32 := Scalar.andi v185 c1_i32_115
  let c128_i32_118 : BitVec 32 := 128#32
  let v190 : BitVec 32 := Scalar.muli v186 c128_i32_118
  let v191 : BitVec 32 := Scalar.addi v184 v190
  let c6_i32_119 : BitVec 32 := 6#32
  let v192 : BitVec 32 := Scalar.shrsi v10 c6_i32_119
  let c1_i32_120 : BitVec 32 := 1#32
  let v193 : BitVec 32 := Scalar.andi v192 c1_i32_120
  let c64_i32_123 : BitVec 32 := 64#32
  let v197 : BitVec 32 := Scalar.muli v193 c64_i32_123
  let v198 : BitVec 32 := Scalar.addi v191 v197
  let c5_i32_124 : BitVec 32 := 5#32
  let v199 : BitVec 32 := Scalar.shrsi v10 c5_i32_124
  let c1_i32_125 : BitVec 32 := 1#32
  let v200 : BitVec 32 := Scalar.andi v199 c1_i32_125
  let c32_i32_128 : BitVec 32 := 32#32
  let v204 : BitVec 32 := Scalar.muli v200 c32_i32_128
  let v205 : BitVec 32 := Scalar.addi v198 v204
  let v310 : BitVec 32 := Scalar.addi v9 v205
  let v311 : BitVec 32 := v310
  let c0_i32_206 : BitVec 32 := 0#32
  ![v311.toNat, 0]
def k0_mult40 (v9 : BitVec 32) (v10 : BitVec 32) : BitVec 32 :=
  let c0_i32_93 : BitVec 32 := 0#32
  let c12_i32_87 : BitVec 32 := 12#32
  let v150 : BitVec 32 := Scalar.shrsi v10 c12_i32_87
  let c1_i32_88 : BitVec 32 := 1#32
  let v151 : BitVec 32 := Scalar.andi v150 c1_i32_88
  let c4096_i32_92 : BitVec 32 := 4096#32
  let v155 : BitVec 32 := Scalar.muli v151 c4096_i32_92
  let v156 : BitVec 32 := Scalar.addi c0_i32_93 v155
  let c11_i32_94 : BitVec 32 := 11#32
  let v157 : BitVec 32 := Scalar.shrsi v10 c11_i32_94
  let c1_i32_95 : BitVec 32 := 1#32
  let v158 : BitVec 32 := Scalar.andi v157 c1_i32_95
  let c2048_i32_98 : BitVec 32 := 2048#32
  let v162 : BitVec 32 := Scalar.muli v158 c2048_i32_98
  let v163 : BitVec 32 := Scalar.addi v156 v162
  let c10_i32_99 : BitVec 32 := 10#32
  let v164 : BitVec 32 := Scalar.shrsi v10 c10_i32_99
  let c1_i32_100 : BitVec 32 := 1#32
  let v165 : BitVec 32 := Scalar.andi v164 c1_i32_100
  let c1024_i32_103 : BitVec 32 := 1024#32
  let v169 : BitVec 32 := Scalar.muli v165 c1024_i32_103
  let v170 : BitVec 32 := Scalar.addi v163 v169
  let c9_i32_104 : BitVec 32 := 9#32
  let v171 : BitVec 32 := Scalar.shrsi v10 c9_i32_104
  let c1_i32_105 : BitVec 32 := 1#32
  let v172 : BitVec 32 := Scalar.andi v171 c1_i32_105
  let c512_i32_108 : BitVec 32 := 512#32
  let v176 : BitVec 32 := Scalar.muli v172 c512_i32_108
  let v177 : BitVec 32 := Scalar.addi v170 v176
  let c8_i32_109 : BitVec 32 := 8#32
  let v178 : BitVec 32 := Scalar.shrsi v10 c8_i32_109
  let c1_i32_110 : BitVec 32 := 1#32
  let v179 : BitVec 32 := Scalar.andi v178 c1_i32_110
  let c256_i32_113 : BitVec 32 := 256#32
  let v183 : BitVec 32 := Scalar.muli v179 c256_i32_113
  let v184 : BitVec 32 := Scalar.addi v177 v183
  let c7_i32_114 : BitVec 32 := 7#32
  let v185 : BitVec 32 := Scalar.shrsi v10 c7_i32_114
  let c1_i32_115 : BitVec 32 := 1#32
  let v186 : BitVec 32 := Scalar.andi v185 c1_i32_115
  let c128_i32_118 : BitVec 32 := 128#32
  let v190 : BitVec 32 := Scalar.muli v186 c128_i32_118
  let v191 : BitVec 32 := Scalar.addi v184 v190
  let c6_i32_119 : BitVec 32 := 6#32
  let v192 : BitVec 32 := Scalar.shrsi v10 c6_i32_119
  let c1_i32_120 : BitVec 32 := 1#32
  let v193 : BitVec 32 := Scalar.andi v192 c1_i32_120
  let c64_i32_123 : BitVec 32 := 64#32
  let v197 : BitVec 32 := Scalar.muli v193 c64_i32_123
  let v198 : BitVec 32 := Scalar.addi v191 v197
  let c5_i32_124 : BitVec 32 := 5#32
  let v199 : BitVec 32 := Scalar.shrsi v10 c5_i32_124
  let c1_i32_125 : BitVec 32 := 1#32
  let v200 : BitVec 32 := Scalar.andi v199 c1_i32_125
  let c32_i32_128 : BitVec 32 := 32#32
  let v204 : BitVec 32 := Scalar.muli v200 c32_i32_128
  let v205 : BitVec 32 := Scalar.addi v198 v204
  let c4_i32_129 : BitVec 32 := 4#32
  let v206 : BitVec 32 := Scalar.shrsi v10 c4_i32_129
  let c1_i32_130 : BitVec 32 := 1#32
  let v207 : BitVec 32 := Scalar.andi v206 c1_i32_130
  let c16_i32_133 : BitVec 32 := 16#32
  let v211 : BitVec 32 := Scalar.muli v207 c16_i32_133
  let v212 : BitVec 32 := Scalar.addi v205 v211
  let v310 : BitVec 32 := Scalar.addi v9 v212
  v310
def k0_cond30 (v10 : BitVec 32) : BitVec 1 :=
  let c3_i32_134 : BitVec 32 := 3#32
  let v213 : BitVec 32 := Scalar.shrsi v10 c3_i32_134
  let c1_i32_135 : BitVec 32 := 1#32
  let v214 : BitVec 32 := Scalar.andi v213 c1_i32_135
  let c1_i32_136 : BitVec 32 := 1#32
  let v215 : BitVec 1 := Scalar.cmpi .eq v214 c1_i32_136
  let v216 : BitVec 32 := Scalar.extui v215
  let c0_i32_137 : BitVec 32 := 0#32
  let v217 : BitVec 1 := Scalar.cmpi .ne v216 c0_i32_137
  v217

def k0_off40 (v9 : BitVec 32) (v10 : BitVec 32) : Fin 2 → Nat :=
  let c0_i32_93 : BitVec 32 := 0#32
  let c12_i32_87 : BitVec 32 := 12#32
  let v150 : BitVec 32 := Scalar.shrsi v10 c12_i32_87
  let c1_i32_88 : BitVec 32 := 1#32
  let v151 : BitVec 32 := Scalar.andi v150 c1_i32_88
  let c4096_i32_92 : BitVec 32 := 4096#32
  let v155 : BitVec 32 := Scalar.muli v151 c4096_i32_92
  let v156 : BitVec 32 := Scalar.addi c0_i32_93 v155
  let c11_i32_94 : BitVec 32 := 11#32
  let v157 : BitVec 32 := Scalar.shrsi v10 c11_i32_94
  let c1_i32_95 : BitVec 32 := 1#32
  let v158 : BitVec 32 := Scalar.andi v157 c1_i32_95
  let c2048_i32_98 : BitVec 32 := 2048#32
  let v162 : BitVec 32 := Scalar.muli v158 c2048_i32_98
  let v163 : BitVec 32 := Scalar.addi v156 v162
  let c10_i32_99 : BitVec 32 := 10#32
  let v164 : BitVec 32 := Scalar.shrsi v10 c10_i32_99
  let c1_i32_100 : BitVec 32 := 1#32
  let v165 : BitVec 32 := Scalar.andi v164 c1_i32_100
  let c1024_i32_103 : BitVec 32 := 1024#32
  let v169 : BitVec 32 := Scalar.muli v165 c1024_i32_103
  let v170 : BitVec 32 := Scalar.addi v163 v169
  let c9_i32_104 : BitVec 32 := 9#32
  let v171 : BitVec 32 := Scalar.shrsi v10 c9_i32_104
  let c1_i32_105 : BitVec 32 := 1#32
  let v172 : BitVec 32 := Scalar.andi v171 c1_i32_105
  let c512_i32_108 : BitVec 32 := 512#32
  let v176 : BitVec 32 := Scalar.muli v172 c512_i32_108
  let v177 : BitVec 32 := Scalar.addi v170 v176
  let c8_i32_109 : BitVec 32 := 8#32
  let v178 : BitVec 32 := Scalar.shrsi v10 c8_i32_109
  let c1_i32_110 : BitVec 32 := 1#32
  let v179 : BitVec 32 := Scalar.andi v178 c1_i32_110
  let c256_i32_113 : BitVec 32 := 256#32
  let v183 : BitVec 32 := Scalar.muli v179 c256_i32_113
  let v184 : BitVec 32 := Scalar.addi v177 v183
  let c7_i32_114 : BitVec 32 := 7#32
  let v185 : BitVec 32 := Scalar.shrsi v10 c7_i32_114
  let c1_i32_115 : BitVec 32 := 1#32
  let v186 : BitVec 32 := Scalar.andi v185 c1_i32_115
  let c128_i32_118 : BitVec 32 := 128#32
  let v190 : BitVec 32 := Scalar.muli v186 c128_i32_118
  let v191 : BitVec 32 := Scalar.addi v184 v190
  let c6_i32_119 : BitVec 32 := 6#32
  let v192 : BitVec 32 := Scalar.shrsi v10 c6_i32_119
  let c1_i32_120 : BitVec 32 := 1#32
  let v193 : BitVec 32 := Scalar.andi v192 c1_i32_120
  let c64_i32_123 : BitVec 32 := 64#32
  let v197 : BitVec 32 := Scalar.muli v193 c64_i32_123
  let v198 : BitVec 32 := Scalar.addi v191 v197
  let c5_i32_124 : BitVec 32 := 5#32
  let v199 : BitVec 32 := Scalar.shrsi v10 c5_i32_124
  let c1_i32_125 : BitVec 32 := 1#32
  let v200 : BitVec 32 := Scalar.andi v199 c1_i32_125
  let c32_i32_128 : BitVec 32 := 32#32
  let v204 : BitVec 32 := Scalar.muli v200 c32_i32_128
  let v205 : BitVec 32 := Scalar.addi v198 v204
  let c4_i32_129 : BitVec 32 := 4#32
  let v206 : BitVec 32 := Scalar.shrsi v10 c4_i32_129
  let c1_i32_130 : BitVec 32 := 1#32
  let v207 : BitVec 32 := Scalar.andi v206 c1_i32_130
  let c16_i32_133 : BitVec 32 := 16#32
  let v211 : BitVec 32 := Scalar.muli v207 c16_i32_133
  let v212 : BitVec 32 := Scalar.addi v205 v211
  let v310 : BitVec 32 := Scalar.addi v9 v212
  let v311 : BitVec 32 := v310
  let c0_i32_206 : BitVec 32 := 0#32
  ![v311.toNat, 0]

def k0_chk3_0 (v9 : BitVec 32) (v10 : BitVec 32) : Prop :=
  (∀ (k0_h11 : k0_cond11 v10 = 1#1), 8 ∣ (k0_mult21 v9).toNat) ∧
  (∀ (k0_h11 : k0_cond11 v10 = 1#1), ∀ a, (k0_off21 v9) a + S4096x1024.size a ≤ S4112x1024.size a) ∧
  (∀ (k0_h11 : k0_cond11 v10 = 1#1), ∀ (hinb : ∀ a, (k0_off21 v9) a + S4096x1024.size a ≤ S4112x1024.size a), (Rect.unit (s := S4112x1024) (k0_off21 v9) S4096x1024.size hinb).WholeWords (EltTy.packing .bf16)) ∧
  (∀ (k0_h12 : k0_cond12 v10 = 1#1), 8 ∣ (k0_mult22 v9 v10).toNat) ∧
  (∀ (k0_h12 : k0_cond12 v10 = 1#1), ∀ a, (k0_off22 v9 v10) a + S2048x1024.size a ≤ S4112x1024.size a) ∧
  (∀ (k0_h12 : k0_cond12 v10 = 1#1), ∀ (hinb : ∀ a, (k0_off22 v9 v10) a + S2048x1024.size a ≤ S4112x1024.size a), (Rect.unit (s := S4112x1024) (k0_off22 v9 v10) S2048x1024.size hinb).WholeWords (EltTy.packing .bf16)) ∧
  (∀ (k0_h13 : k0_cond13 v10 = 1#1), 8 ∣ (k0_mult23 v9 v10).toNat) ∧
  (∀ (k0_h13 : k0_cond13 v10 = 1#1), ∀ a, (k0_off23 v9 v10) a + S1024x1024.size a ≤ S4112x1024.size a) ∧
  (∀ (k0_h13 : k0_cond13 v10 = 1#1), ∀ (hinb : ∀ a, (k0_off23 v9 v10) a + S1024x1024.size a ≤ S4112x1024.size a), (Rect.unit (s := S4112x1024) (k0_off23 v9 v10) S1024x1024.size hinb).WholeWords (EltTy.packing .bf16)) ∧
  (∀ (k0_h14 : k0_cond14 v10 = 1#1), 8 ∣ (k0_mult24 v9 v10).toNat) ∧
  (∀ (k0_h14 : k0_cond14 v10 = 1#1), ∀ a, (k0_off24 v9 v10) a + S512x1024.size a ≤ S4112x1024.size a) ∧
  (∀ (k0_h14 : k0_cond14 v10 = 1#1), ∀ (hinb : ∀ a, (k0_off24 v9 v10) a + S512x1024.size a ≤ S4112x1024.size a), (Rect.unit (s := S4112x1024) (k0_off24 v9 v10) S512x1024.size hinb).WholeWords (EltTy.packing .bf16)) ∧
  (∀ (k0_h15 : k0_cond15 v10 = 1#1), 8 ∣ (k0_mult25 v9 v10).toNat) ∧
  (∀ (k0_h15 : k0_cond15 v10 = 1#1), ∀ a, (k0_off25 v9 v10) a + S256x1024.size a ≤ S4112x1024.size a) ∧
  (∀ (k0_h15 : k0_cond15 v10 = 1#1), ∀ (hinb : ∀ a, (k0_off25 v9 v10) a + S256x1024.size a ≤ S4112x1024.size a), (Rect.unit (s := S4112x1024) (k0_off25 v9 v10) S256x1024.size hinb).WholeWords (EltTy.packing .bf16)) ∧
  (∀ (k0_h16 : k0_cond16 v10 = 1#1), 8 ∣ (k0_mult26 v9 v10).toNat) ∧
  (∀ (k0_h16 : k0_cond16 v10 = 1#1), ∀ a, (k0_off26 v9 v10) a + S128x1024.size a ≤ S4112x1024.size a) ∧
  (∀ (k0_h16 : k0_cond16 v10 = 1#1), ∀ (hinb : ∀ a, (k0_off26 v9 v10) a + S128x1024.size a ≤ S4112x1024.size a), (Rect.unit (s := S4112x1024) (k0_off26 v9 v10) S128x1024.size hinb).WholeWords (EltTy.packing .bf16)) ∧
  (∀ (k0_h17 : k0_cond17 v10 = 1#1), 8 ∣ (k0_mult27 v9 v10).toNat) ∧
  (∀ (k0_h17 : k0_cond17 v10 = 1#1), ∀ a, (k0_off27 v9 v10) a + S64x1024.size a ≤ S4112x1024.size a) ∧
  (∀ (k0_h17 : k0_cond17 v10 = 1#1), ∀ (hinb : ∀ a, (k0_off27 v9 v10) a + S64x1024.size a ≤ S4112x1024.size a), (Rect.unit (s := S4112x1024) (k0_off27 v9 v10) S64x1024.size hinb).WholeWords (EltTy.packing .bf16)) ∧
  (∀ (k0_h18 : k0_cond18 v10 = 1#1), 8 ∣ (k0_mult28 v9 v10).toNat) ∧
  (∀ (k0_h18 : k0_cond18 v10 = 1#1), ∀ a, (k0_off28 v9 v10) a + S32x1024.size a ≤ S4112x1024.size a) ∧
  (∀ (k0_h18 : k0_cond18 v10 = 1#1), ∀ (hinb : ∀ a, (k0_off28 v9 v10) a + S32x1024.size a ≤ S4112x1024.size a), (Rect.unit (s := S4112x1024) (k0_off28 v9 v10) S32x1024.size hinb).WholeWords (EltTy.packing .bf16)) ∧
  (∀ (k0_h19 : k0_cond19 v10 = 1#1), 8 ∣ (k0_mult29 v9 v10).toNat) ∧
  (∀ (k0_h19 : k0_cond19 v10 = 1#1), ∀ a, (k0_off29 v9 v10) a + S16x1024.size a ≤ S4112x1024.size a) ∧
  (∀ (k0_h19 : k0_cond19 v10 = 1#1), ∀ (hinb : ∀ a, (k0_off29 v9 v10) a + S16x1024.size a ≤ S4112x1024.size a), (Rect.unit (s := S4112x1024) (k0_off29 v9 v10) S16x1024.size hinb).WholeWords (EltTy.packing .bf16)) ∧
  (∀ (k0_h20 : k0_cond20 v10 = 1#1), 8 ∣ (k0_mult30 v9 v10).toNat) ∧
  (∀ (k0_h20 : k0_cond20 v10 = 1#1), ∀ a, (k0_off30 v9 v10) a + S8x1024.size a ≤ S4112x1024.size a) ∧
  (∀ (k0_h20 : k0_cond20 v10 = 1#1), ∀ (hinb : ∀ a, (k0_off30 v9 v10) a + S8x1024.size a ≤ S4112x1024.size a), (Rect.unit (s := S4112x1024) (k0_off30 v9 v10) S8x1024.size hinb).WholeWords (EltTy.packing .bf16)) ∧
  (∀ (k0_h21 : k0_cond21 v10 = 1#1), 8 ∣ (k0_mult31 v9).toNat) ∧
  (∀ (k0_h21 : k0_cond21 v10 = 1#1), ∀ a, (k0_off31 v9) a + S4096x1024.size a ≤ S4112x1024.size a)
def k0_chk3_1 (v9 : BitVec 32) (v10 : BitVec 32) : Prop :=
  (∀ (k0_h21 : k0_cond21 v10 = 1#1), ∀ (hinb : ∀ a, (k0_off31 v9) a + S4096x1024.size a ≤ S4112x1024.size a), (Rect.unit (s := S4112x1024) (k0_off31 v9) S4096x1024.size hinb).WholeWords (EltTy.packing .bf16)) ∧
  (∀ (k0_h22 : k0_cond22 v10 = 1#1), 8 ∣ (k0_mult32 v9 v10).toNat) ∧
  (∀ (k0_h22 : k0_cond22 v10 = 1#1), ∀ a, (k0_off32 v9 v10) a + S2048x1024.size a ≤ S4112x1024.size a) ∧
  (∀ (k0_h22 : k0_cond22 v10 = 1#1), ∀ (hinb : ∀ a, (k0_off32 v9 v10) a + S2048x1024.size a ≤ S4112x1024.size a), (Rect.unit (s := S4112x1024) (k0_off32 v9 v10) S2048x1024.size hinb).WholeWords (EltTy.packing .bf16)) ∧
  (∀ (k0_h23 : k0_cond23 v10 = 1#1), 8 ∣ (k0_mult33 v9 v10).toNat) ∧
  (∀ (k0_h23 : k0_cond23 v10 = 1#1), ∀ a, (k0_off33 v9 v10) a + S1024x1024.size a ≤ S4112x1024.size a) ∧
  (∀ (k0_h23 : k0_cond23 v10 = 1#1), ∀ (hinb : ∀ a, (k0_off33 v9 v10) a + S1024x1024.size a ≤ S4112x1024.size a), (Rect.unit (s := S4112x1024) (k0_off33 v9 v10) S1024x1024.size hinb).WholeWords (EltTy.packing .bf16)) ∧
  (∀ (k0_h24 : k0_cond24 v10 = 1#1), 8 ∣ (k0_mult34 v9 v10).toNat) ∧
  (∀ (k0_h24 : k0_cond24 v10 = 1#1), ∀ a, (k0_off34 v9 v10) a + S512x1024.size a ≤ S4112x1024.size a) ∧
  (∀ (k0_h24 : k0_cond24 v10 = 1#1), ∀ (hinb : ∀ a, (k0_off34 v9 v10) a + S512x1024.size a ≤ S4112x1024.size a), (Rect.unit (s := S4112x1024) (k0_off34 v9 v10) S512x1024.size hinb).WholeWords (EltTy.packing .bf16)) ∧
  (∀ (k0_h25 : k0_cond25 v10 = 1#1), 8 ∣ (k0_mult35 v9 v10).toNat) ∧
  (∀ (k0_h25 : k0_cond25 v10 = 1#1), ∀ a, (k0_off35 v9 v10) a + S256x1024.size a ≤ S4112x1024.size a) ∧
  (∀ (k0_h25 : k0_cond25 v10 = 1#1), ∀ (hinb : ∀ a, (k0_off35 v9 v10) a + S256x1024.size a ≤ S4112x1024.size a), (Rect.unit (s := S4112x1024) (k0_off35 v9 v10) S256x1024.size hinb).WholeWords (EltTy.packing .bf16)) ∧
  (∀ (k0_h26 : k0_cond26 v10 = 1#1), 8 ∣ (k0_mult36 v9 v10).toNat) ∧
  (∀ (k0_h26 : k0_cond26 v10 = 1#1), ∀ a, (k0_off36 v9 v10) a + S128x1024.size a ≤ S4112x1024.size a) ∧
  (∀ (k0_h26 : k0_cond26 v10 = 1#1), ∀ (hinb : ∀ a, (k0_off36 v9 v10) a + S128x1024.size a ≤ S4112x1024.size a), (Rect.unit (s := S4112x1024) (k0_off36 v9 v10) S128x1024.size hinb).WholeWords (EltTy.packing .bf16)) ∧
  (∀ (k0_h27 : k0_cond27 v10 = 1#1), 8 ∣ (k0_mult37 v9 v10).toNat) ∧
  (∀ (k0_h27 : k0_cond27 v10 = 1#1), ∀ a, (k0_off37 v9 v10) a + S64x1024.size a ≤ S4112x1024.size a) ∧
  (∀ (k0_h27 : k0_cond27 v10 = 1#1), ∀ (hinb : ∀ a, (k0_off37 v9 v10) a + S64x1024.size a ≤ S4112x1024.size a), (Rect.unit (s := S4112x1024) (k0_off37 v9 v10) S64x1024.size hinb).WholeWords (EltTy.packing .bf16)) ∧
  (∀ (k0_h28 : k0_cond28 v10 = 1#1), 8 ∣ (k0_mult38 v9 v10).toNat) ∧
  (∀ (k0_h28 : k0_cond28 v10 = 1#1), ∀ a, (k0_off38 v9 v10) a + S32x1024.size a ≤ S4112x1024.size a) ∧
  (∀ (k0_h28 : k0_cond28 v10 = 1#1), ∀ (hinb : ∀ a, (k0_off38 v9 v10) a + S32x1024.size a ≤ S4112x1024.size a), (Rect.unit (s := S4112x1024) (k0_off38 v9 v10) S32x1024.size hinb).WholeWords (EltTy.packing .bf16)) ∧
  (∀ (k0_h29 : k0_cond29 v10 = 1#1), 8 ∣ (k0_mult39 v9 v10).toNat) ∧
  (∀ (k0_h29 : k0_cond29 v10 = 1#1), ∀ a, (k0_off39 v9 v10) a + S16x1024.size a ≤ S4112x1024.size a) ∧
  (∀ (k0_h29 : k0_cond29 v10 = 1#1), ∀ (hinb : ∀ a, (k0_off39 v9 v10) a + S16x1024.size a ≤ S4112x1024.size a), (Rect.unit (s := S4112x1024) (k0_off39 v9 v10) S16x1024.size hinb).WholeWords (EltTy.packing .bf16)) ∧
  (∀ (k0_h30 : k0_cond30 v10 = 1#1), 8 ∣ (k0_mult40 v9 v10).toNat) ∧
  (∀ (k0_h30 : k0_cond30 v10 = 1#1), ∀ a, (k0_off40 v9 v10) a + S8x1024.size a ≤ S4112x1024.size a) ∧
  (∀ (k0_h30 : k0_cond30 v10 = 1#1), ∀ (hinb : ∀ a, (k0_off40 v9 v10) a + S8x1024.size a ≤ S4112x1024.size a), (Rect.unit (s := S4112x1024) (k0_off40 v9 v10) S8x1024.size hinb).WholeWords (EltTy.packing .bf16))
def k0_chk3 (v9 : BitVec 32) (v10 : BitVec 32) : Prop :=
  k0_chk3_0 v9 v10 ∧
  k0_chk3_1 v9 v10
theorem k0_mult21_dvd : ∀ (v9 : BitVec 32) (v10 : BitVec 32) (k0_hw3 : k0_chk3 v9 v10), ∀ (k0_h11 : k0_cond11 v10 = 1#1), 8 ∣ (k0_mult21 v9).toNat := fun v9 v10 k0_hw3 k0_h11 => k0_hw3.1.1 k0_h11
theorem k0_off21_inb : ∀ (v9 : BitVec 32) (v10 : BitVec 32) (k0_hw3 : k0_chk3 v9 v10), ∀ (k0_h11 : k0_cond11 v10 = 1#1), ∀ a, (k0_off21 v9) a + S4096x1024.size a ≤ S4112x1024.size a := fun v9 v10 k0_hw3 k0_h11 => k0_hw3.1.2.1 k0_h11
theorem k0_off21_wordsbf16 : ∀ (v9 : BitVec 32) (v10 : BitVec 32) (k0_hw3 : k0_chk3 v9 v10), ∀ (k0_h11 : k0_cond11 v10 = 1#1), (Rect.unit (s := S4112x1024) (k0_off21 v9) S4096x1024.size (k0_off21_inb v9 v10 k0_hw3 k0_h11)).WholeWords (EltTy.packing .bf16) := fun v9 v10 k0_hw3 k0_h11 => k0_hw3.1.2.2.1 k0_h11 (k0_off21_inb v9 v10 k0_hw3 k0_h11)
theorem k0_mult22_dvd : ∀ (v9 : BitVec 32) (v10 : BitVec 32) (k0_hw3 : k0_chk3 v9 v10), ∀ (k0_h12 : k0_cond12 v10 = 1#1), 8 ∣ (k0_mult22 v9 v10).toNat := fun v9 v10 k0_hw3 k0_h12 => k0_hw3.1.2.2.2.1 k0_h12
theorem k0_off22_inb : ∀ (v9 : BitVec 32) (v10 : BitVec 32) (k0_hw3 : k0_chk3 v9 v10), ∀ (k0_h12 : k0_cond12 v10 = 1#1), ∀ a, (k0_off22 v9 v10) a + S2048x1024.size a ≤ S4112x1024.size a := fun v9 v10 k0_hw3 k0_h12 => k0_hw3.1.2.2.2.2.1 k0_h12
theorem k0_off22_wordsbf16 : ∀ (v9 : BitVec 32) (v10 : BitVec 32) (k0_hw3 : k0_chk3 v9 v10), ∀ (k0_h12 : k0_cond12 v10 = 1#1), (Rect.unit (s := S4112x1024) (k0_off22 v9 v10) S2048x1024.size (k0_off22_inb v9 v10 k0_hw3 k0_h12)).WholeWords (EltTy.packing .bf16) := fun v9 v10 k0_hw3 k0_h12 => k0_hw3.1.2.2.2.2.2.1 k0_h12 (k0_off22_inb v9 v10 k0_hw3 k0_h12)
theorem k0_mult23_dvd : ∀ (v9 : BitVec 32) (v10 : BitVec 32) (k0_hw3 : k0_chk3 v9 v10), ∀ (k0_h13 : k0_cond13 v10 = 1#1), 8 ∣ (k0_mult23 v9 v10).toNat := fun v9 v10 k0_hw3 k0_h13 => k0_hw3.1.2.2.2.2.2.2.1 k0_h13
theorem k0_off23_inb : ∀ (v9 : BitVec 32) (v10 : BitVec 32) (k0_hw3 : k0_chk3 v9 v10), ∀ (k0_h13 : k0_cond13 v10 = 1#1), ∀ a, (k0_off23 v9 v10) a + S1024x1024.size a ≤ S4112x1024.size a := fun v9 v10 k0_hw3 k0_h13 => k0_hw3.1.2.2.2.2.2.2.2.1 k0_h13
theorem k0_off23_wordsbf16 : ∀ (v9 : BitVec 32) (v10 : BitVec 32) (k0_hw3 : k0_chk3 v9 v10), ∀ (k0_h13 : k0_cond13 v10 = 1#1), (Rect.unit (s := S4112x1024) (k0_off23 v9 v10) S1024x1024.size (k0_off23_inb v9 v10 k0_hw3 k0_h13)).WholeWords (EltTy.packing .bf16) := fun v9 v10 k0_hw3 k0_h13 => k0_hw3.1.2.2.2.2.2.2.2.2.1 k0_h13 (k0_off23_inb v9 v10 k0_hw3 k0_h13)
theorem k0_mult24_dvd : ∀ (v9 : BitVec 32) (v10 : BitVec 32) (k0_hw3 : k0_chk3 v9 v10), ∀ (k0_h14 : k0_cond14 v10 = 1#1), 8 ∣ (k0_mult24 v9 v10).toNat := fun v9 v10 k0_hw3 k0_h14 => k0_hw3.1.2.2.2.2.2.2.2.2.2.1 k0_h14
theorem k0_off24_inb : ∀ (v9 : BitVec 32) (v10 : BitVec 32) (k0_hw3 : k0_chk3 v9 v10), ∀ (k0_h14 : k0_cond14 v10 = 1#1), ∀ a, (k0_off24 v9 v10) a + S512x1024.size a ≤ S4112x1024.size a := fun v9 v10 k0_hw3 k0_h14 => k0_hw3.1.2.2.2.2.2.2.2.2.2.2.1 k0_h14
theorem k0_off24_wordsbf16 : ∀ (v9 : BitVec 32) (v10 : BitVec 32) (k0_hw3 : k0_chk3 v9 v10), ∀ (k0_h14 : k0_cond14 v10 = 1#1), (Rect.unit (s := S4112x1024) (k0_off24 v9 v10) S512x1024.size (k0_off24_inb v9 v10 k0_hw3 k0_h14)).WholeWords (EltTy.packing .bf16) := fun v9 v10 k0_hw3 k0_h14 => k0_hw3.1.2.2.2.2.2.2.2.2.2.2.2.1 k0_h14 (k0_off24_inb v9 v10 k0_hw3 k0_h14)
theorem k0_mult25_dvd : ∀ (v9 : BitVec 32) (v10 : BitVec 32) (k0_hw3 : k0_chk3 v9 v10), ∀ (k0_h15 : k0_cond15 v10 = 1#1), 8 ∣ (k0_mult25 v9 v10).toNat := fun v9 v10 k0_hw3 k0_h15 => k0_hw3.1.2.2.2.2.2.2.2.2.2.2.2.2.1 k0_h15
theorem k0_off25_inb : ∀ (v9 : BitVec 32) (v10 : BitVec 32) (k0_hw3 : k0_chk3 v9 v10), ∀ (k0_h15 : k0_cond15 v10 = 1#1), ∀ a, (k0_off25 v9 v10) a + S256x1024.size a ≤ S4112x1024.size a := fun v9 v10 k0_hw3 k0_h15 => k0_hw3.1.2.2.2.2.2.2.2.2.2.2.2.2.2.1 k0_h15
theorem k0_off25_wordsbf16 : ∀ (v9 : BitVec 32) (v10 : BitVec 32) (k0_hw3 : k0_chk3 v9 v10), ∀ (k0_h15 : k0_cond15 v10 = 1#1), (Rect.unit (s := S4112x1024) (k0_off25 v9 v10) S256x1024.size (k0_off25_inb v9 v10 k0_hw3 k0_h15)).WholeWords (EltTy.packing .bf16) := fun v9 v10 k0_hw3 k0_h15 => k0_hw3.1.2.2.2.2.2.2.2.2.2.2.2.2.2.2.1 k0_h15 (k0_off25_inb v9 v10 k0_hw3 k0_h15)
theorem k0_mult26_dvd : ∀ (v9 : BitVec 32) (v10 : BitVec 32) (k0_hw3 : k0_chk3 v9 v10), ∀ (k0_h16 : k0_cond16 v10 = 1#1), 8 ∣ (k0_mult26 v9 v10).toNat := fun v9 v10 k0_hw3 k0_h16 => k0_hw3.1.2.2.2.2.2.2.2.2.2.2.2.2.2.2.2.1 k0_h16
theorem k0_off26_inb : ∀ (v9 : BitVec 32) (v10 : BitVec 32) (k0_hw3 : k0_chk3 v9 v10), ∀ (k0_h16 : k0_cond16 v10 = 1#1), ∀ a, (k0_off26 v9 v10) a + S128x1024.size a ≤ S4112x1024.size a := fun v9 v10 k0_hw3 k0_h16 => k0_hw3.1.2.2.2.2.2.2.2.2.2.2.2.2.2.2.2.2.1 k0_h16
theorem k0_off26_wordsbf16 : ∀ (v9 : BitVec 32) (v10 : BitVec 32) (k0_hw3 : k0_chk3 v9 v10), ∀ (k0_h16 : k0_cond16 v10 = 1#1), (Rect.unit (s := S4112x1024) (k0_off26 v9 v10) S128x1024.size (k0_off26_inb v9 v10 k0_hw3 k0_h16)).WholeWords (EltTy.packing .bf16) := fun v9 v10 k0_hw3 k0_h16 => k0_hw3.1.2.2.2.2.2.2.2.2.2.2.2.2.2.2.2.2.2.1 k0_h16 (k0_off26_inb v9 v10 k0_hw3 k0_h16)
theorem k0_mult27_dvd : ∀ (v9 : BitVec 32) (v10 : BitVec 32) (k0_hw3 : k0_chk3 v9 v10), ∀ (k0_h17 : k0_cond17 v10 = 1#1), 8 ∣ (k0_mult27 v9 v10).toNat := fun v9 v10 k0_hw3 k0_h17 => k0_hw3.1.2.2.2.2.2.2.2.2.2.2.2.2.2.2.2.2.2.2.1 k0_h17
theorem k0_off27_inb : ∀ (v9 : BitVec 32) (v10 : BitVec 32) (k0_hw3 : k0_chk3 v9 v10), ∀ (k0_h17 : k0_cond17 v10 = 1#1), ∀ a, (k0_off27 v9 v10) a + S64x1024.size a ≤ S4112x1024.size a := fun v9 v10 k0_hw3 k0_h17 => k0_hw3.1.2.2.2.2.2.2.2.2.2.2.2.2.2.2.2.2.2.2.2.1 k0_h17
theorem k0_off27_wordsbf16 : ∀ (v9 : BitVec 32) (v10 : BitVec 32) (k0_hw3 : k0_chk3 v9 v10), ∀ (k0_h17 : k0_cond17 v10 = 1#1), (Rect.unit (s := S4112x1024) (k0_off27 v9 v10) S64x1024.size (k0_off27_inb v9 v10 k0_hw3 k0_h17)).WholeWords (EltTy.packing .bf16) := fun v9 v10 k0_hw3 k0_h17 => k0_hw3.1.2.2.2.2.2.2.2.2.2.2.2.2.2.2.2.2.2.2.2.2.1 k0_h17 (k0_off27_inb v9 v10 k0_hw3 k0_h17)
theorem k0_mult28_dvd : ∀ (v9 : BitVec 32) (v10 : BitVec 32) (k0_hw3 : k0_chk3 v9 v10), ∀ (k0_h18 : k0_cond18 v10 = 1#1), 8 ∣ (k0_mult28 v9 v10).toNat := fun v9 v10 k0_hw3 k0_h18 => k0_hw3.1.2.2.2.2.2.2.2.2.2.2.2.2.2.2.2.2.2.2.2.2.2.1 k0_h18
theorem k0_off28_inb : ∀ (v9 : BitVec 32) (v10 : BitVec 32) (k0_hw3 : k0_chk3 v9 v10), ∀ (k0_h18 : k0_cond18 v10 = 1#1), ∀ a, (k0_off28 v9 v10) a + S32x1024.size a ≤ S4112x1024.size a := fun v9 v10 k0_hw3 k0_h18 => k0_hw3.1.2.2.2.2.2.2.2.2.2.2.2.2.2.2.2.2.2.2.2.2.2.2.1 k0_h18
theorem k0_off28_wordsbf16 : ∀ (v9 : BitVec 32) (v10 : BitVec 32) (k0_hw3 : k0_chk3 v9 v10), ∀ (k0_h18 : k0_cond18 v10 = 1#1), (Rect.unit (s := S4112x1024) (k0_off28 v9 v10) S32x1024.size (k0_off28_inb v9 v10 k0_hw3 k0_h18)).WholeWords (EltTy.packing .bf16) := fun v9 v10 k0_hw3 k0_h18 => k0_hw3.1.2.2.2.2.2.2.2.2.2.2.2.2.2.2.2.2.2.2.2.2.2.2.2.1 k0_h18 (k0_off28_inb v9 v10 k0_hw3 k0_h18)
theorem k0_mult29_dvd : ∀ (v9 : BitVec 32) (v10 : BitVec 32) (k0_hw3 : k0_chk3 v9 v10), ∀ (k0_h19 : k0_cond19 v10 = 1#1), 8 ∣ (k0_mult29 v9 v10).toNat := fun v9 v10 k0_hw3 k0_h19 => k0_hw3.1.2.2.2.2.2.2.2.2.2.2.2.2.2.2.2.2.2.2.2.2.2.2.2.2.1 k0_h19
theorem k0_off29_inb : ∀ (v9 : BitVec 32) (v10 : BitVec 32) (k0_hw3 : k0_chk3 v9 v10), ∀ (k0_h19 : k0_cond19 v10 = 1#1), ∀ a, (k0_off29 v9 v10) a + S16x1024.size a ≤ S4112x1024.size a := fun v9 v10 k0_hw3 k0_h19 => k0_hw3.1.2.2.2.2.2.2.2.2.2.2.2.2.2.2.2.2.2.2.2.2.2.2.2.2.2.1 k0_h19
theorem k0_off29_wordsbf16 : ∀ (v9 : BitVec 32) (v10 : BitVec 32) (k0_hw3 : k0_chk3 v9 v10), ∀ (k0_h19 : k0_cond19 v10 = 1#1), (Rect.unit (s := S4112x1024) (k0_off29 v9 v10) S16x1024.size (k0_off29_inb v9 v10 k0_hw3 k0_h19)).WholeWords (EltTy.packing .bf16) := fun v9 v10 k0_hw3 k0_h19 => k0_hw3.1.2.2.2.2.2.2.2.2.2.2.2.2.2.2.2.2.2.2.2.2.2.2.2.2.2.2.1 k0_h19 (k0_off29_inb v9 v10 k0_hw3 k0_h19)
theorem k0_mult30_dvd : ∀ (v9 : BitVec 32) (v10 : BitVec 32) (k0_hw3 : k0_chk3 v9 v10), ∀ (k0_h20 : k0_cond20 v10 = 1#1), 8 ∣ (k0_mult30 v9 v10).toNat := fun v9 v10 k0_hw3 k0_h20 => k0_hw3.1.2.2.2.2.2.2.2.2.2.2.2.2.2.2.2.2.2.2.2.2.2.2.2.2.2.2.2.1 k0_h20
theorem k0_off30_inb : ∀ (v9 : BitVec 32) (v10 : BitVec 32) (k0_hw3 : k0_chk3 v9 v10), ∀ (k0_h20 : k0_cond20 v10 = 1#1), ∀ a, (k0_off30 v9 v10) a + S8x1024.size a ≤ S4112x1024.size a := fun v9 v10 k0_hw3 k0_h20 => k0_hw3.1.2.2.2.2.2.2.2.2.2.2.2.2.2.2.2.2.2.2.2.2.2.2.2.2.2.2.2.2.1 k0_h20
theorem k0_off30_wordsbf16 : ∀ (v9 : BitVec 32) (v10 : BitVec 32) (k0_hw3 : k0_chk3 v9 v10), ∀ (k0_h20 : k0_cond20 v10 = 1#1), (Rect.unit (s := S4112x1024) (k0_off30 v9 v10) S8x1024.size (k0_off30_inb v9 v10 k0_hw3 k0_h20)).WholeWords (EltTy.packing .bf16) := fun v9 v10 k0_hw3 k0_h20 => k0_hw3.1.2.2.2.2.2.2.2.2.2.2.2.2.2.2.2.2.2.2.2.2.2.2.2.2.2.2.2.2.2.1 k0_h20 (k0_off30_inb v9 v10 k0_hw3 k0_h20)
theorem k0_mult31_dvd : ∀ (v9 : BitVec 32) (v10 : BitVec 32) (k0_hw3 : k0_chk3 v9 v10), ∀ (k0_h21 : k0_cond21 v10 = 1#1), 8 ∣ (k0_mult31 v9).toNat := fun v9 v10 k0_hw3 k0_h21 => k0_hw3.1.2.2.2.2.2.2.2.2.2.2.2.2.2.2.2.2.2.2.2.2.2.2.2.2.2.2.2.2.2.2.1 k0_h21
theorem k0_off31_inb : ∀ (v9 : BitVec 32) (v10 : BitVec 32) (k0_hw3 : k0_chk3 v9 v10), ∀ (k0_h21 : k0_cond21 v10 = 1#1), ∀ a, (k0_off31 v9) a + S4096x1024.size a ≤ S4112x1024.size a := fun v9 v10 k0_hw3 k0_h21 => k0_hw3.1.2.2.2.2.2.2.2.2.2.2.2.2.2.2.2.2.2.2.2.2.2.2.2.2.2.2.2.2.2.2.2 k0_h21
theorem k0_off31_wordsbf16 : ∀ (v9 : BitVec 32) (v10 : BitVec 32) (k0_hw3 : k0_chk3 v9 v10), ∀ (k0_h21 : k0_cond21 v10 = 1#1), (Rect.unit (s := S4112x1024) (k0_off31 v9) S4096x1024.size (k0_off31_inb v9 v10 k0_hw3 k0_h21)).WholeWords (EltTy.packing .bf16) := fun v9 v10 k0_hw3 k0_h21 => k0_hw3.2.1 k0_h21 (k0_off31_inb v9 v10 k0_hw3 k0_h21)
theorem k0_mult32_dvd : ∀ (v9 : BitVec 32) (v10 : BitVec 32) (k0_hw3 : k0_chk3 v9 v10), ∀ (k0_h22 : k0_cond22 v10 = 1#1), 8 ∣ (k0_mult32 v9 v10).toNat := fun v9 v10 k0_hw3 k0_h22 => k0_hw3.2.2.1 k0_h22
theorem k0_off32_inb : ∀ (v9 : BitVec 32) (v10 : BitVec 32) (k0_hw3 : k0_chk3 v9 v10), ∀ (k0_h22 : k0_cond22 v10 = 1#1), ∀ a, (k0_off32 v9 v10) a + S2048x1024.size a ≤ S4112x1024.size a := fun v9 v10 k0_hw3 k0_h22 => k0_hw3.2.2.2.1 k0_h22
theorem k0_off32_wordsbf16 : ∀ (v9 : BitVec 32) (v10 : BitVec 32) (k0_hw3 : k0_chk3 v9 v10), ∀ (k0_h22 : k0_cond22 v10 = 1#1), (Rect.unit (s := S4112x1024) (k0_off32 v9 v10) S2048x1024.size (k0_off32_inb v9 v10 k0_hw3 k0_h22)).WholeWords (EltTy.packing .bf16) := fun v9 v10 k0_hw3 k0_h22 => k0_hw3.2.2.2.2.1 k0_h22 (k0_off32_inb v9 v10 k0_hw3 k0_h22)
theorem k0_mult33_dvd : ∀ (v9 : BitVec 32) (v10 : BitVec 32) (k0_hw3 : k0_chk3 v9 v10), ∀ (k0_h23 : k0_cond23 v10 = 1#1), 8 ∣ (k0_mult33 v9 v10).toNat := fun v9 v10 k0_hw3 k0_h23 => k0_hw3.2.2.2.2.2.1 k0_h23
theorem k0_off33_inb : ∀ (v9 : BitVec 32) (v10 : BitVec 32) (k0_hw3 : k0_chk3 v9 v10), ∀ (k0_h23 : k0_cond23 v10 = 1#1), ∀ a, (k0_off33 v9 v10) a + S1024x1024.size a ≤ S4112x1024.size a := fun v9 v10 k0_hw3 k0_h23 => k0_hw3.2.2.2.2.2.2.1 k0_h23
theorem k0_off33_wordsbf16 : ∀ (v9 : BitVec 32) (v10 : BitVec 32) (k0_hw3 : k0_chk3 v9 v10), ∀ (k0_h23 : k0_cond23 v10 = 1#1), (Rect.unit (s := S4112x1024) (k0_off33 v9 v10) S1024x1024.size (k0_off33_inb v9 v10 k0_hw3 k0_h23)).WholeWords (EltTy.packing .bf16) := fun v9 v10 k0_hw3 k0_h23 => k0_hw3.2.2.2.2.2.2.2.1 k0_h23 (k0_off33_inb v9 v10 k0_hw3 k0_h23)
theorem k0_mult34_dvd : ∀ (v9 : BitVec 32) (v10 : BitVec 32) (k0_hw3 : k0_chk3 v9 v10), ∀ (k0_h24 : k0_cond24 v10 = 1#1), 8 ∣ (k0_mult34 v9 v10).toNat := fun v9 v10 k0_hw3 k0_h24 => k0_hw3.2.2.2.2.2.2.2.2.1 k0_h24
theorem k0_off34_inb : ∀ (v9 : BitVec 32) (v10 : BitVec 32) (k0_hw3 : k0_chk3 v9 v10), ∀ (k0_h24 : k0_cond24 v10 = 1#1), ∀ a, (k0_off34 v9 v10) a + S512x1024.size a ≤ S4112x1024.size a := fun v9 v10 k0_hw3 k0_h24 => k0_hw3.2.2.2.2.2.2.2.2.2.1 k0_h24
theorem k0_off34_wordsbf16 : ∀ (v9 : BitVec 32) (v10 : BitVec 32) (k0_hw3 : k0_chk3 v9 v10), ∀ (k0_h24 : k0_cond24 v10 = 1#1), (Rect.unit (s := S4112x1024) (k0_off34 v9 v10) S512x1024.size (k0_off34_inb v9 v10 k0_hw3 k0_h24)).WholeWords (EltTy.packing .bf16) := fun v9 v10 k0_hw3 k0_h24 => k0_hw3.2.2.2.2.2.2.2.2.2.2.1 k0_h24 (k0_off34_inb v9 v10 k0_hw3 k0_h24)
theorem k0_mult35_dvd : ∀ (v9 : BitVec 32) (v10 : BitVec 32) (k0_hw3 : k0_chk3 v9 v10), ∀ (k0_h25 : k0_cond25 v10 = 1#1), 8 ∣ (k0_mult35 v9 v10).toNat := fun v9 v10 k0_hw3 k0_h25 => k0_hw3.2.2.2.2.2.2.2.2.2.2.2.1 k0_h25
theorem k0_off35_inb : ∀ (v9 : BitVec 32) (v10 : BitVec 32) (k0_hw3 : k0_chk3 v9 v10), ∀ (k0_h25 : k0_cond25 v10 = 1#1), ∀ a, (k0_off35 v9 v10) a + S256x1024.size a ≤ S4112x1024.size a := fun v9 v10 k0_hw3 k0_h25 => k0_hw3.2.2.2.2.2.2.2.2.2.2.2.2.1 k0_h25
theorem k0_off35_wordsbf16 : ∀ (v9 : BitVec 32) (v10 : BitVec 32) (k0_hw3 : k0_chk3 v9 v10), ∀ (k0_h25 : k0_cond25 v10 = 1#1), (Rect.unit (s := S4112x1024) (k0_off35 v9 v10) S256x1024.size (k0_off35_inb v9 v10 k0_hw3 k0_h25)).WholeWords (EltTy.packing .bf16) := fun v9 v10 k0_hw3 k0_h25 => k0_hw3.2.2.2.2.2.2.2.2.2.2.2.2.2.1 k0_h25 (k0_off35_inb v9 v10 k0_hw3 k0_h25)
theorem k0_mult36_dvd : ∀ (v9 : BitVec 32) (v10 : BitVec 32) (k0_hw3 : k0_chk3 v9 v10), ∀ (k0_h26 : k0_cond26 v10 = 1#1), 8 ∣ (k0_mult36 v9 v10).toNat := fun v9 v10 k0_hw3 k0_h26 => k0_hw3.2.2.2.2.2.2.2.2.2.2.2.2.2.2.1 k0_h26
theorem k0_off36_inb : ∀ (v9 : BitVec 32) (v10 : BitVec 32) (k0_hw3 : k0_chk3 v9 v10), ∀ (k0_h26 : k0_cond26 v10 = 1#1), ∀ a, (k0_off36 v9 v10) a + S128x1024.size a ≤ S4112x1024.size a := fun v9 v10 k0_hw3 k0_h26 => k0_hw3.2.2.2.2.2.2.2.2.2.2.2.2.2.2.2.1 k0_h26
theorem k0_off36_wordsbf16 : ∀ (v9 : BitVec 32) (v10 : BitVec 32) (k0_hw3 : k0_chk3 v9 v10), ∀ (k0_h26 : k0_cond26 v10 = 1#1), (Rect.unit (s := S4112x1024) (k0_off36 v9 v10) S128x1024.size (k0_off36_inb v9 v10 k0_hw3 k0_h26)).WholeWords (EltTy.packing .bf16) := fun v9 v10 k0_hw3 k0_h26 => k0_hw3.2.2.2.2.2.2.2.2.2.2.2.2.2.2.2.2.1 k0_h26 (k0_off36_inb v9 v10 k0_hw3 k0_h26)
theorem k0_mult37_dvd : ∀ (v9 : BitVec 32) (v10 : BitVec 32) (k0_hw3 : k0_chk3 v9 v10), ∀ (k0_h27 : k0_cond27 v10 = 1#1), 8 ∣ (k0_mult37 v9 v10).toNat := fun v9 v10 k0_hw3 k0_h27 => k0_hw3.2.2.2.2.2.2.2.2.2.2.2.2.2.2.2.2.2.1 k0_h27
theorem k0_off37_inb : ∀ (v9 : BitVec 32) (v10 : BitVec 32) (k0_hw3 : k0_chk3 v9 v10), ∀ (k0_h27 : k0_cond27 v10 = 1#1), ∀ a, (k0_off37 v9 v10) a + S64x1024.size a ≤ S4112x1024.size a := fun v9 v10 k0_hw3 k0_h27 => k0_hw3.2.2.2.2.2.2.2.2.2.2.2.2.2.2.2.2.2.2.1 k0_h27
theorem k0_off37_wordsbf16 : ∀ (v9 : BitVec 32) (v10 : BitVec 32) (k0_hw3 : k0_chk3 v9 v10), ∀ (k0_h27 : k0_cond27 v10 = 1#1), (Rect.unit (s := S4112x1024) (k0_off37 v9 v10) S64x1024.size (k0_off37_inb v9 v10 k0_hw3 k0_h27)).WholeWords (EltTy.packing .bf16) := fun v9 v10 k0_hw3 k0_h27 => k0_hw3.2.2.2.2.2.2.2.2.2.2.2.2.2.2.2.2.2.2.2.1 k0_h27 (k0_off37_inb v9 v10 k0_hw3 k0_h27)
theorem k0_mult38_dvd : ∀ (v9 : BitVec 32) (v10 : BitVec 32) (k0_hw3 : k0_chk3 v9 v10), ∀ (k0_h28 : k0_cond28 v10 = 1#1), 8 ∣ (k0_mult38 v9 v10).toNat := fun v9 v10 k0_hw3 k0_h28 => k0_hw3.2.2.2.2.2.2.2.2.2.2.2.2.2.2.2.2.2.2.2.2.1 k0_h28
theorem k0_off38_inb : ∀ (v9 : BitVec 32) (v10 : BitVec 32) (k0_hw3 : k0_chk3 v9 v10), ∀ (k0_h28 : k0_cond28 v10 = 1#1), ∀ a, (k0_off38 v9 v10) a + S32x1024.size a ≤ S4112x1024.size a := fun v9 v10 k0_hw3 k0_h28 => k0_hw3.2.2.2.2.2.2.2.2.2.2.2.2.2.2.2.2.2.2.2.2.2.1 k0_h28
theorem k0_off38_wordsbf16 : ∀ (v9 : BitVec 32) (v10 : BitVec 32) (k0_hw3 : k0_chk3 v9 v10), ∀ (k0_h28 : k0_cond28 v10 = 1#1), (Rect.unit (s := S4112x1024) (k0_off38 v9 v10) S32x1024.size (k0_off38_inb v9 v10 k0_hw3 k0_h28)).WholeWords (EltTy.packing .bf16) := fun v9 v10 k0_hw3 k0_h28 => k0_hw3.2.2.2.2.2.2.2.2.2.2.2.2.2.2.2.2.2.2.2.2.2.2.1 k0_h28 (k0_off38_inb v9 v10 k0_hw3 k0_h28)
theorem k0_mult39_dvd : ∀ (v9 : BitVec 32) (v10 : BitVec 32) (k0_hw3 : k0_chk3 v9 v10), ∀ (k0_h29 : k0_cond29 v10 = 1#1), 8 ∣ (k0_mult39 v9 v10).toNat := fun v9 v10 k0_hw3 k0_h29 => k0_hw3.2.2.2.2.2.2.2.2.2.2.2.2.2.2.2.2.2.2.2.2.2.2.2.1 k0_h29
theorem k0_off39_inb : ∀ (v9 : BitVec 32) (v10 : BitVec 32) (k0_hw3 : k0_chk3 v9 v10), ∀ (k0_h29 : k0_cond29 v10 = 1#1), ∀ a, (k0_off39 v9 v10) a + S16x1024.size a ≤ S4112x1024.size a := fun v9 v10 k0_hw3 k0_h29 => k0_hw3.2.2.2.2.2.2.2.2.2.2.2.2.2.2.2.2.2.2.2.2.2.2.2.2.1 k0_h29
theorem k0_off39_wordsbf16 : ∀ (v9 : BitVec 32) (v10 : BitVec 32) (k0_hw3 : k0_chk3 v9 v10), ∀ (k0_h29 : k0_cond29 v10 = 1#1), (Rect.unit (s := S4112x1024) (k0_off39 v9 v10) S16x1024.size (k0_off39_inb v9 v10 k0_hw3 k0_h29)).WholeWords (EltTy.packing .bf16) := fun v9 v10 k0_hw3 k0_h29 => k0_hw3.2.2.2.2.2.2.2.2.2.2.2.2.2.2.2.2.2.2.2.2.2.2.2.2.2.1 k0_h29 (k0_off39_inb v9 v10 k0_hw3 k0_h29)
theorem k0_mult40_dvd : ∀ (v9 : BitVec 32) (v10 : BitVec 32) (k0_hw3 : k0_chk3 v9 v10), ∀ (k0_h30 : k0_cond30 v10 = 1#1), 8 ∣ (k0_mult40 v9 v10).toNat := fun v9 v10 k0_hw3 k0_h30 => k0_hw3.2.2.2.2.2.2.2.2.2.2.2.2.2.2.2.2.2.2.2.2.2.2.2.2.2.2.1 k0_h30
theorem k0_off40_inb : ∀ (v9 : BitVec 32) (v10 : BitVec 32) (k0_hw3 : k0_chk3 v9 v10), ∀ (k0_h30 : k0_cond30 v10 = 1#1), ∀ a, (k0_off40 v9 v10) a + S8x1024.size a ≤ S4112x1024.size a := fun v9 v10 k0_hw3 k0_h30 => k0_hw3.2.2.2.2.2.2.2.2.2.2.2.2.2.2.2.2.2.2.2.2.2.2.2.2.2.2.2.1 k0_h30
theorem k0_off40_wordsbf16 : ∀ (v9 : BitVec 32) (v10 : BitVec 32) (k0_hw3 : k0_chk3 v9 v10), ∀ (k0_h30 : k0_cond30 v10 = 1#1), (Rect.unit (s := S4112x1024) (k0_off40 v9 v10) S8x1024.size (k0_off40_inb v9 v10 k0_hw3 k0_h30)).WholeWords (EltTy.packing .bf16) := fun v9 v10 k0_hw3 k0_h30 => k0_hw3.2.2.2.2.2.2.2.2.2.2.2.2.2.2.2.2.2.2.2.2.2.2.2.2.2.2.2.2 k0_h30 (k0_off40_inb v9 v10 k0_hw3 k0_h30)

def k0_mult41 (v5 : BitVec 32) : BitVec 32 :=
  let c0_i32_141 : BitVec 32 := 0#32
  let v310 : BitVec 32 := Scalar.addi v5 c0_i32_141
  v310
def k0_cond31 (v4 : BitVec 32) : BitVec 1 :=
  let c12_i32_138 : BitVec 32 := 12#32
  let v218 : BitVec 32 := Scalar.shrsi v4 c12_i32_138
  let c1_i32_139 : BitVec 32 := 1#32
  let v219 : BitVec 32 := Scalar.andi v218 c1_i32_139
  let c1_i32_140 : BitVec 32 := 1#32
  let v220 : BitVec 1 := Scalar.cmpi .eq v219 c1_i32_140
  let v221 : BitVec 32 := Scalar.extui v220
  let c0_i32_142 : BitVec 32 := 0#32
  let v222 : BitVec 1 := Scalar.cmpi .ne v221 c0_i32_142
  v222

def k0_mult42 (v6 : BitVec 32) : BitVec 32 :=
  let c0_i32_141 : BitVec 32 := 0#32
  let v312 : BitVec 32 := Scalar.addi v6 c0_i32_141
  v312
def k0_off41 (v5 : BitVec 32) : Fin 2 → Nat :=
  let c0_i32_141 : BitVec 32 := 0#32
  let v310 : BitVec 32 := Scalar.addi v5 c0_i32_141
  let v311 : BitVec 32 := v310
  let c0_i32_208 : BitVec 32 := 0#32
  ![v311.toNat, 0]
def k0_off42 (v6 : BitVec 32) : Fin 2 → Nat :=
  let c0_i32_141 : BitVec 32 := 0#32
  let v312 : BitVec 32 := Scalar.addi v6 c0_i32_141
  let v313 : BitVec 32 := v312
  let c0_i32_209 : BitVec 32 := 0#32
  ![v313.toNat, 0]
def k0_mult43 (v4 : BitVec 32) (v5 : BitVec 32) : BitVec 32 :=
  let c0_i32_144 : BitVec 32 := 0#32
  let c12_i32_138 : BitVec 32 := 12#32
  let v218 : BitVec 32 := Scalar.shrsi v4 c12_i32_138
  let c1_i32_139 : BitVec 32 := 1#32
  let v219 : BitVec 32 := Scalar.andi v218 c1_i32_139
  let c4096_i32_143 : BitVec 32 := 4096#32
  let v223 : BitVec 32 := Scalar.muli v219 c4096_i32_143
  let v224 : BitVec 32 := Scalar.addi c0_i32_144 v223
  let v310 : BitVec 32 := Scalar.addi v5 v224
  v310
def k0_cond32 (v4 : BitVec 32) : BitVec 1 :=
  let c11_i32_145 : BitVec 32 := 11#32
  let v225 : BitVec 32 := Scalar.shrsi v4 c11_i32_145
  let c1_i32_146 : BitVec 32 := 1#32
  let v226 : BitVec 32 := Scalar.andi v225 c1_i32_146
  let c1_i32_147 : BitVec 32 := 1#32
  let v227 : BitVec 1 := Scalar.cmpi .eq v226 c1_i32_147
  let v228 : BitVec 32 := Scalar.extui v227
  let c0_i32_148 : BitVec 32 := 0#32
  let v229 : BitVec 1 := Scalar.cmpi .ne v228 c0_i32_148
  v229

def k0_mult44 (v4 : BitVec 32) (v6 : BitVec 32) : BitVec 32 :=
  let c0_i32_144 : BitVec 32 := 0#32
  let c12_i32_138 : BitVec 32 := 12#32
  let v218 : BitVec 32 := Scalar.shrsi v4 c12_i32_138
  let c1_i32_139 : BitVec 32 := 1#32
  let v219 : BitVec 32 := Scalar.andi v218 c1_i32_139
  let c4096_i32_143 : BitVec 32 := 4096#32
  let v223 : BitVec 32 := Scalar.muli v219 c4096_i32_143
  let v224 : BitVec 32 := Scalar.addi c0_i32_144 v223
  let v312 : BitVec 32 := Scalar.addi v6 v224
  v312
def k0_off43 (v4 : BitVec 32) (v5 : BitVec 32) : Fin 2 → Nat :=
  let c0_i32_144 : BitVec 32 := 0#32
  let c12_i32_138 : BitVec 32 := 12#32
  let v218 : BitVec 32 := Scalar.shrsi v4 c12_i32_138
  let c1_i32_139 : BitVec 32 := 1#32
  let v219 : BitVec 32 := Scalar.andi v218 c1_i32_139
  let c4096_i32_143 : BitVec 32 := 4096#32
  let v223 : BitVec 32 := Scalar.muli v219 c4096_i32_143
  let v224 : BitVec 32 := Scalar.addi c0_i32_144 v223
  let v310 : BitVec 32 := Scalar.addi v5 v224
  let v311 : BitVec 32 := v310
  let c0_i32_208 : BitVec 32 := 0#32
  ![v311.toNat, 0]
def k0_off44 (v4 : BitVec 32) (v6 : BitVec 32) : Fin 2 → Nat :=
  let c0_i32_144 : BitVec 32 := 0#32
  let c12_i32_138 : BitVec 32 := 12#32
  let v218 : BitVec 32 := Scalar.shrsi v4 c12_i32_138
  let c1_i32_139 : BitVec 32 := 1#32
  let v219 : BitVec 32 := Scalar.andi v218 c1_i32_139
  let c4096_i32_143 : BitVec 32 := 4096#32
  let v223 : BitVec 32 := Scalar.muli v219 c4096_i32_143
  let v224 : BitVec 32 := Scalar.addi c0_i32_144 v223
  let v312 : BitVec 32 := Scalar.addi v6 v224
  let v313 : BitVec 32 := v312
  let c0_i32_209 : BitVec 32 := 0#32
  ![v313.toNat, 0]
def k0_mult45 (v4 : BitVec 32) (v5 : BitVec 32) : BitVec 32 :=
  let c0_i32_144 : BitVec 32 := 0#32
  let c12_i32_138 : BitVec 32 := 12#32
  let v218 : BitVec 32 := Scalar.shrsi v4 c12_i32_138
  let c1_i32_139 : BitVec 32 := 1#32
  let v219 : BitVec 32 := Scalar.andi v218 c1_i32_139
  let c4096_i32_143 : BitVec 32 := 4096#32
  let v223 : BitVec 32 := Scalar.muli v219 c4096_i32_143
  let v224 : BitVec 32 := Scalar.addi c0_i32_144 v223
  let c11_i32_145 : BitVec 32 := 11#32
  let v225 : BitVec 32 := Scalar.shrsi v4 c11_i32_145
  let c1_i32_146 : BitVec 32 := 1#32
  let v226 : BitVec 32 := Scalar.andi v225 c1_i32_146
  let c2048_i32_149 : BitVec 32 := 2048#32
  let v230 : BitVec 32 := Scalar.muli v226 c2048_i32_149
  let v231 : BitVec 32 := Scalar.addi v224 v230
  let v310 : BitVec 32 := Scalar.addi v5 v231
  v310
def k0_cond33 (v4 : BitVec 32) : BitVec 1 :=
  let c10_i32_150 : BitVec 32 := 10#32
  let v232 : BitVec 32 := Scalar.shrsi v4 c10_i32_150
  let c1_i32_151 : BitVec 32 := 1#32
  let v233 : BitVec 32 := Scalar.andi v232 c1_i32_151
  let c1_i32_152 : BitVec 32 := 1#32
  let v234 : BitVec 1 := Scalar.cmpi .eq v233 c1_i32_152
  let v235 : BitVec 32 := Scalar.extui v234
  let c0_i32_153 : BitVec 32 := 0#32
  let v236 : BitVec 1 := Scalar.cmpi .ne v235 c0_i32_153
  v236

def k0_mult46 (v4 : BitVec 32) (v6 : BitVec 32) : BitVec 32 :=
  let c0_i32_144 : BitVec 32 := 0#32
  let c12_i32_138 : BitVec 32 := 12#32
  let v218 : BitVec 32 := Scalar.shrsi v4 c12_i32_138
  let c1_i32_139 : BitVec 32 := 1#32
  let v219 : BitVec 32 := Scalar.andi v218 c1_i32_139
  let c4096_i32_143 : BitVec 32 := 4096#32
  let v223 : BitVec 32 := Scalar.muli v219 c4096_i32_143
  let v224 : BitVec 32 := Scalar.addi c0_i32_144 v223
  let c11_i32_145 : BitVec 32 := 11#32
  let v225 : BitVec 32 := Scalar.shrsi v4 c11_i32_145
  let c1_i32_146 : BitVec 32 := 1#32
  let v226 : BitVec 32 := Scalar.andi v225 c1_i32_146
  let c2048_i32_149 : BitVec 32 := 2048#32
  let v230 : BitVec 32 := Scalar.muli v226 c2048_i32_149
  let v231 : BitVec 32 := Scalar.addi v224 v230
  let v312 : BitVec 32 := Scalar.addi v6 v231
  v312
def k0_off45 (v4 : BitVec 32) (v5 : BitVec 32) : Fin 2 → Nat :=
  let c0_i32_144 : BitVec 32 := 0#32
  let c12_i32_138 : BitVec 32 := 12#32
  let v218 : BitVec 32 := Scalar.shrsi v4 c12_i32_138
  let c1_i32_139 : BitVec 32 := 1#32
  let v219 : BitVec 32 := Scalar.andi v218 c1_i32_139
  let c4096_i32_143 : BitVec 32 := 4096#32
  let v223 : BitVec 32 := Scalar.muli v219 c4096_i32_143
  let v224 : BitVec 32 := Scalar.addi c0_i32_144 v223
  let c11_i32_145 : BitVec 32 := 11#32
  let v225 : BitVec 32 := Scalar.shrsi v4 c11_i32_145
  let c1_i32_146 : BitVec 32 := 1#32
  let v226 : BitVec 32 := Scalar.andi v225 c1_i32_146
  let c2048_i32_149 : BitVec 32 := 2048#32
  let v230 : BitVec 32 := Scalar.muli v226 c2048_i32_149
  let v231 : BitVec 32 := Scalar.addi v224 v230
  let v310 : BitVec 32 := Scalar.addi v5 v231
  let v311 : BitVec 32 := v310
  let c0_i32_208 : BitVec 32 := 0#32
  ![v311.toNat, 0]
def k0_off46 (v4 : BitVec 32) (v6 : BitVec 32) : Fin 2 → Nat :=
  let c0_i32_144 : BitVec 32 := 0#32
  let c12_i32_138 : BitVec 32 := 12#32
  let v218 : BitVec 32 := Scalar.shrsi v4 c12_i32_138
  let c1_i32_139 : BitVec 32 := 1#32
  let v219 : BitVec 32 := Scalar.andi v218 c1_i32_139
  let c4096_i32_143 : BitVec 32 := 4096#32
  let v223 : BitVec 32 := Scalar.muli v219 c4096_i32_143
  let v224 : BitVec 32 := Scalar.addi c0_i32_144 v223
  let c11_i32_145 : BitVec 32 := 11#32
  let v225 : BitVec 32 := Scalar.shrsi v4 c11_i32_145
  let c1_i32_146 : BitVec 32 := 1#32
  let v226 : BitVec 32 := Scalar.andi v225 c1_i32_146
  let c2048_i32_149 : BitVec 32 := 2048#32
  let v230 : BitVec 32 := Scalar.muli v226 c2048_i32_149
  let v231 : BitVec 32 := Scalar.addi v224 v230
  let v312 : BitVec 32 := Scalar.addi v6 v231
  let v313 : BitVec 32 := v312
  let c0_i32_209 : BitVec 32 := 0#32
  ![v313.toNat, 0]
def k0_mult47 (v4 : BitVec 32) (v5 : BitVec 32) : BitVec 32 :=
  let c0_i32_144 : BitVec 32 := 0#32
  let c12_i32_138 : BitVec 32 := 12#32
  let v218 : BitVec 32 := Scalar.shrsi v4 c12_i32_138
  let c1_i32_139 : BitVec 32 := 1#32
  let v219 : BitVec 32 := Scalar.andi v218 c1_i32_139
  let c4096_i32_143 : BitVec 32 := 4096#32
  let v223 : BitVec 32 := Scalar.muli v219 c4096_i32_143
  let v224 : BitVec 32 := Scalar.addi c0_i32_144 v223
  let c11_i32_145 : BitVec 32 := 11#32
  let v225 : BitVec 32 := Scalar.shrsi v4 c11_i32_145
  let c1_i32_146 : BitVec 32 := 1#32
  let v226 : BitVec 32 := Scalar.andi v225 c1_i32_146
  let c2048_i32_149 : BitVec 32 := 2048#32
  let v230 : BitVec 32 := Scalar.muli v226 c2048_i32_149
  let v231 : BitVec 32 := Scalar.addi v224 v230
  let c10_i32_150 : BitVec 32 := 10#32
  let v232 : BitVec 32 := Scalar.shrsi v4 c10_i32_150
  let c1_i32_151 : BitVec 32 := 1#32
  let v233 : BitVec 32 := Scalar.andi v232 c1_i32_151
  let c1024_i32_154 : BitVec 32 := 1024#32
  let v237 : BitVec 32 := Scalar.muli v233 c1024_i32_154
  let v238 : BitVec 32 := Scalar.addi v231 v237
  let v310 : BitVec 32 := Scalar.addi v5 v238
  v310
def k0_cond34 (v4 : BitVec 32) : BitVec 1 :=
  let c9_i32_155 : BitVec 32 := 9#32
  let v239 : BitVec 32 := Scalar.shrsi v4 c9_i32_155
  let c1_i32_156 : BitVec 32 := 1#32
  let v240 : BitVec 32 := Scalar.andi v239 c1_i32_156
  let c1_i32_157 : BitVec 32 := 1#32
  let v241 : BitVec 1 := Scalar.cmpi .eq v240 c1_i32_157
  let v242 : BitVec 32 := Scalar.extui v241
  let c0_i32_158 : BitVec 32 := 0#32
  let v243 : BitVec 1 := Scalar.cmpi .ne v242 c0_i32_158
  v243

def k0_mult48 (v4 : BitVec 32) (v6 : BitVec 32) : BitVec 32 :=
  let c0_i32_144 : BitVec 32 := 0#32
  let c12_i32_138 : BitVec 32 := 12#32
  let v218 : BitVec 32 := Scalar.shrsi v4 c12_i32_138
  let c1_i32_139 : BitVec 32 := 1#32
  let v219 : BitVec 32 := Scalar.andi v218 c1_i32_139
  let c4096_i32_143 : BitVec 32 := 4096#32
  let v223 : BitVec 32 := Scalar.muli v219 c4096_i32_143
  let v224 : BitVec 32 := Scalar.addi c0_i32_144 v223
  let c11_i32_145 : BitVec 32 := 11#32
  let v225 : BitVec 32 := Scalar.shrsi v4 c11_i32_145
  let c1_i32_146 : BitVec 32 := 1#32
  let v226 : BitVec 32 := Scalar.andi v225 c1_i32_146
  let c2048_i32_149 : BitVec 32 := 2048#32
  let v230 : BitVec 32 := Scalar.muli v226 c2048_i32_149
  let v231 : BitVec 32 := Scalar.addi v224 v230
  let c10_i32_150 : BitVec 32 := 10#32
  let v232 : BitVec 32 := Scalar.shrsi v4 c10_i32_150
  let c1_i32_151 : BitVec 32 := 1#32
  let v233 : BitVec 32 := Scalar.andi v232 c1_i32_151
  let c1024_i32_154 : BitVec 32 := 1024#32
  let v237 : BitVec 32 := Scalar.muli v233 c1024_i32_154
  let v238 : BitVec 32 := Scalar.addi v231 v237
  let v312 : BitVec 32 := Scalar.addi v6 v238
  v312
def k0_off47 (v4 : BitVec 32) (v5 : BitVec 32) : Fin 2 → Nat :=
  let c0_i32_144 : BitVec 32 := 0#32
  let c12_i32_138 : BitVec 32 := 12#32
  let v218 : BitVec 32 := Scalar.shrsi v4 c12_i32_138
  let c1_i32_139 : BitVec 32 := 1#32
  let v219 : BitVec 32 := Scalar.andi v218 c1_i32_139
  let c4096_i32_143 : BitVec 32 := 4096#32
  let v223 : BitVec 32 := Scalar.muli v219 c4096_i32_143
  let v224 : BitVec 32 := Scalar.addi c0_i32_144 v223
  let c11_i32_145 : BitVec 32 := 11#32
  let v225 : BitVec 32 := Scalar.shrsi v4 c11_i32_145
  let c1_i32_146 : BitVec 32 := 1#32
  let v226 : BitVec 32 := Scalar.andi v225 c1_i32_146
  let c2048_i32_149 : BitVec 32 := 2048#32
  let v230 : BitVec 32 := Scalar.muli v226 c2048_i32_149
  let v231 : BitVec 32 := Scalar.addi v224 v230
  let c10_i32_150 : BitVec 32 := 10#32
  let v232 : BitVec 32 := Scalar.shrsi v4 c10_i32_150
  let c1_i32_151 : BitVec 32 := 1#32
  let v233 : BitVec 32 := Scalar.andi v232 c1_i32_151
  let c1024_i32_154 : BitVec 32 := 1024#32
  let v237 : BitVec 32 := Scalar.muli v233 c1024_i32_154
  let v238 : BitVec 32 := Scalar.addi v231 v237
  let v310 : BitVec 32 := Scalar.addi v5 v238
  let v311 : BitVec 32 := v310
  let c0_i32_208 : BitVec 32 := 0#32
  ![v311.toNat, 0]
def k0_off48 (v4 : BitVec 32) (v6 : BitVec 32) : Fin 2 → Nat :=
  let c0_i32_144 : BitVec 32 := 0#32
  let c12_i32_138 : BitVec 32 := 12#32
  let v218 : BitVec 32 := Scalar.shrsi v4 c12_i32_138
  let c1_i32_139 : BitVec 32 := 1#32
  let v219 : BitVec 32 := Scalar.andi v218 c1_i32_139
  let c4096_i32_143 : BitVec 32 := 4096#32
  let v223 : BitVec 32 := Scalar.muli v219 c4096_i32_143
  let v224 : BitVec 32 := Scalar.addi c0_i32_144 v223
  let c11_i32_145 : BitVec 32 := 11#32
  let v225 : BitVec 32 := Scalar.shrsi v4 c11_i32_145
  let c1_i32_146 : BitVec 32 := 1#32
  let v226 : BitVec 32 := Scalar.andi v225 c1_i32_146
  let c2048_i32_149 : BitVec 32 := 2048#32
  let v230 : BitVec 32 := Scalar.muli v226 c2048_i32_149
  let v231 : BitVec 32 := Scalar.addi v224 v230
  let c10_i32_150 : BitVec 32 := 10#32
  let v232 : BitVec 32 := Scalar.shrsi v4 c10_i32_150
  let c1_i32_151 : BitVec 32 := 1#32
  let v233 : BitVec 32 := Scalar.andi v232 c1_i32_151
  let c1024_i32_154 : BitVec 32 := 1024#32
  let v237 : BitVec 32 := Scalar.muli v233 c1024_i32_154
  let v238 : BitVec 32 := Scalar.addi v231 v237
  let v312 : BitVec 32 := Scalar.addi v6 v238
  let v313 : BitVec 32 := v312
  let c0_i32_209 : BitVec 32 := 0#32
  ![v313.toNat, 0]
def k0_mult49 (v4 : BitVec 32) (v5 : BitVec 32) : BitVec 32 :=
  let c0_i32_144 : BitVec 32 := 0#32
  let c12_i32_138 : BitVec 32 := 12#32
  let v218 : BitVec 32 := Scalar.shrsi v4 c12_i32_138
  let c1_i32_139 : BitVec 32 := 1#32
  let v219 : BitVec 32 := Scalar.andi v218 c1_i32_139
  let c4096_i32_143 : BitVec 32 := 4096#32
  let v223 : BitVec 32 := Scalar.muli v219 c4096_i32_143
  let v224 : BitVec 32 := Scalar.addi c0_i32_144 v223
  let c11_i32_145 : BitVec 32 := 11#32
  let v225 : BitVec 32 := Scalar.shrsi v4 c11_i32_145
  let c1_i32_146 : BitVec 32 := 1#32
  let v226 : BitVec 32 := Scalar.andi v225 c1_i32_146
  let c2048_i32_149 : BitVec 32 := 2048#32
  let v230 : BitVec 32 := Scalar.muli v226 c2048_i32_149
  let v231 : BitVec 32 := Scalar.addi v224 v230
  let c10_i32_150 : BitVec 32 := 10#32
  let v232 : BitVec 32 := Scalar.shrsi v4 c10_i32_150
  let c1_i32_151 : BitVec 32 := 1#32
  let v233 : BitVec 32 := Scalar.andi v232 c1_i32_151
  let c1024_i32_154 : BitVec 32 := 1024#32
  let v237 : BitVec 32 := Scalar.muli v233 c1024_i32_154
  let v238 : BitVec 32 := Scalar.addi v231 v237
  let c9_i32_155 : BitVec 32 := 9#32
  let v239 : BitVec 32 := Scalar.shrsi v4 c9_i32_155
  let c1_i32_156 : BitVec 32 := 1#32
  let v240 : BitVec 32 := Scalar.andi v239 c1_i32_156
  let c512_i32_159 : BitVec 32 := 512#32
  let v244 : BitVec 32 := Scalar.muli v240 c512_i32_159
  let v245 : BitVec 32 := Scalar.addi v238 v244
  let v310 : BitVec 32 := Scalar.addi v5 v245
  v310
def k0_cond35 (v4 : BitVec 32) : BitVec 1 :=
  let c8_i32_160 : BitVec 32 := 8#32
  let v246 : BitVec 32 := Scalar.shrsi v4 c8_i32_160
  let c1_i32_161 : BitVec 32 := 1#32
  let v247 : BitVec 32 := Scalar.andi v246 c1_i32_161
  let c1_i32_162 : BitVec 32 := 1#32
  let v248 : BitVec 1 := Scalar.cmpi .eq v247 c1_i32_162
  let v249 : BitVec 32 := Scalar.extui v248
  let c0_i32_163 : BitVec 32 := 0#32
  let v250 : BitVec 1 := Scalar.cmpi .ne v249 c0_i32_163
  v250

def k0_mult50 (v4 : BitVec 32) (v6 : BitVec 32) : BitVec 32 :=
  let c0_i32_144 : BitVec 32 := 0#32
  let c12_i32_138 : BitVec 32 := 12#32
  let v218 : BitVec 32 := Scalar.shrsi v4 c12_i32_138
  let c1_i32_139 : BitVec 32 := 1#32
  let v219 : BitVec 32 := Scalar.andi v218 c1_i32_139
  let c4096_i32_143 : BitVec 32 := 4096#32
  let v223 : BitVec 32 := Scalar.muli v219 c4096_i32_143
  let v224 : BitVec 32 := Scalar.addi c0_i32_144 v223
  let c11_i32_145 : BitVec 32 := 11#32
  let v225 : BitVec 32 := Scalar.shrsi v4 c11_i32_145
  let c1_i32_146 : BitVec 32 := 1#32
  let v226 : BitVec 32 := Scalar.andi v225 c1_i32_146
  let c2048_i32_149 : BitVec 32 := 2048#32
  let v230 : BitVec 32 := Scalar.muli v226 c2048_i32_149
  let v231 : BitVec 32 := Scalar.addi v224 v230
  let c10_i32_150 : BitVec 32 := 10#32
  let v232 : BitVec 32 := Scalar.shrsi v4 c10_i32_150
  let c1_i32_151 : BitVec 32 := 1#32
  let v233 : BitVec 32 := Scalar.andi v232 c1_i32_151
  let c1024_i32_154 : BitVec 32 := 1024#32
  let v237 : BitVec 32 := Scalar.muli v233 c1024_i32_154
  let v238 : BitVec 32 := Scalar.addi v231 v237
  let c9_i32_155 : BitVec 32 := 9#32
  let v239 : BitVec 32 := Scalar.shrsi v4 c9_i32_155
  let c1_i32_156 : BitVec 32 := 1#32
  let v240 : BitVec 32 := Scalar.andi v239 c1_i32_156
  let c512_i32_159 : BitVec 32 := 512#32
  let v244 : BitVec 32 := Scalar.muli v240 c512_i32_159
  let v245 : BitVec 32 := Scalar.addi v238 v244
  let v312 : BitVec 32 := Scalar.addi v6 v245
  v312
def k0_off49 (v4 : BitVec 32) (v5 : BitVec 32) : Fin 2 → Nat :=
  let c0_i32_144 : BitVec 32 := 0#32
  let c12_i32_138 : BitVec 32 := 12#32
  let v218 : BitVec 32 := Scalar.shrsi v4 c12_i32_138
  let c1_i32_139 : BitVec 32 := 1#32
  let v219 : BitVec 32 := Scalar.andi v218 c1_i32_139
  let c4096_i32_143 : BitVec 32 := 4096#32
  let v223 : BitVec 32 := Scalar.muli v219 c4096_i32_143
  let v224 : BitVec 32 := Scalar.addi c0_i32_144 v223
  let c11_i32_145 : BitVec 32 := 11#32
  let v225 : BitVec 32 := Scalar.shrsi v4 c11_i32_145
  let c1_i32_146 : BitVec 32 := 1#32
  let v226 : BitVec 32 := Scalar.andi v225 c1_i32_146
  let c2048_i32_149 : BitVec 32 := 2048#32
  let v230 : BitVec 32 := Scalar.muli v226 c2048_i32_149
  let v231 : BitVec 32 := Scalar.addi v224 v230
  let c10_i32_150 : BitVec 32 := 10#32
  let v232 : BitVec 32 := Scalar.shrsi v4 c10_i32_150
  let c1_i32_151 : BitVec 32 := 1#32
  let v233 : BitVec 32 := Scalar.andi v232 c1_i32_151
  let c1024_i32_154 : BitVec 32 := 1024#32
  let v237 : BitVec 32 := Scalar.muli v233 c1024_i32_154
  let v238 : BitVec 32 := Scalar.addi v231 v237
  let c9_i32_155 : BitVec 32 := 9#32
  let v239 : BitVec 32 := Scalar.shrsi v4 c9_i32_155
  let c1_i32_156 : BitVec 32 := 1#32
  let v240 : BitVec 32 := Scalar.andi v239 c1_i32_156
  let c512_i32_159 : BitVec 32 := 512#32
  let v244 : BitVec 32 := Scalar.muli v240 c512_i32_159
  let v245 : BitVec 32 := Scalar.addi v238 v244
  let v310 : BitVec 32 := Scalar.addi v5 v245
  let v311 : BitVec 32 := v310
  let c0_i32_208 : BitVec 32 := 0#32
  ![v311.toNat, 0]
def k0_off50 (v4 : BitVec 32) (v6 : BitVec 32) : Fin 2 → Nat :=
  let c0_i32_144 : BitVec 32 := 0#32
  let c12_i32_138 : BitVec 32 := 12#32
  let v218 : BitVec 32 := Scalar.shrsi v4 c12_i32_138
  let c1_i32_139 : BitVec 32 := 1#32
  let v219 : BitVec 32 := Scalar.andi v218 c1_i32_139
  let c4096_i32_143 : BitVec 32 := 4096#32
  let v223 : BitVec 32 := Scalar.muli v219 c4096_i32_143
  let v224 : BitVec 32 := Scalar.addi c0_i32_144 v223
  let c11_i32_145 : BitVec 32 := 11#32
  let v225 : BitVec 32 := Scalar.shrsi v4 c11_i32_145
  let c1_i32_146 : BitVec 32 := 1#32
  let v226 : BitVec 32 := Scalar.andi v225 c1_i32_146
  let c2048_i32_149 : BitVec 32 := 2048#32
  let v230 : BitVec 32 := Scalar.muli v226 c2048_i32_149
  let v231 : BitVec 32 := Scalar.addi v224 v230
  let c10_i32_150 : BitVec 32 := 10#32
  let v232 : BitVec 32 := Scalar.shrsi v4 c10_i32_150
  let c1_i32_151 : BitVec 32 := 1#32
  let v233 : BitVec 32 := Scalar.andi v232 c1_i32_151
  let c1024_i32_154 : BitVec 32 := 1024#32
  let v237 : BitVec 32 := Scalar.muli v233 c1024_i32_154
  let v238 : BitVec 32 := Scalar.addi v231 v237
  let c9_i32_155 : BitVec 32 := 9#32
  let v239 : BitVec 32 := Scalar.shrsi v4 c9_i32_155
  let c1_i32_156 : BitVec 32 := 1#32
  let v240 : BitVec 32 := Scalar.andi v239 c1_i32_156
  let c512_i32_159 : BitVec 32 := 512#32
  let v244 : BitVec 32 := Scalar.muli v240 c512_i32_159
  let v245 : BitVec 32 := Scalar.addi v238 v244
  let v312 : BitVec 32 := Scalar.addi v6 v245
  let v313 : BitVec 32 := v312
  let c0_i32_209 : BitVec 32 := 0#32
  ![v313.toNat, 0]
def k0_mult51 (v4 : BitVec 32) (v5 : BitVec 32) : BitVec 32 :=
  let c0_i32_144 : BitVec 32 := 0#32
  let c12_i32_138 : BitVec 32 := 12#32
  let v218 : BitVec 32 := Scalar.shrsi v4 c12_i32_138
  let c1_i32_139 : BitVec 32 := 1#32
  let v219 : BitVec 32 := Scalar.andi v218 c1_i32_139
  let c4096_i32_143 : BitVec 32 := 4096#32
  let v223 : BitVec 32 := Scalar.muli v219 c4096_i32_143
  let v224 : BitVec 32 := Scalar.addi c0_i32_144 v223
  let c11_i32_145 : BitVec 32 := 11#32
  let v225 : BitVec 32 := Scalar.shrsi v4 c11_i32_145
  let c1_i32_146 : BitVec 32 := 1#32
  let v226 : BitVec 32 := Scalar.andi v225 c1_i32_146
  let c2048_i32_149 : BitVec 32 := 2048#32
  let v230 : BitVec 32 := Scalar.muli v226 c2048_i32_149
  let v231 : BitVec 32 := Scalar.addi v224 v230
  let c10_i32_150 : BitVec 32 := 10#32
  let v232 : BitVec 32 := Scalar.shrsi v4 c10_i32_150
  let c1_i32_151 : BitVec 32 := 1#32
  let v233 : BitVec 32 := Scalar.andi v232 c1_i32_151
  let c1024_i32_154 : BitVec 32 := 1024#32
  let v237 : BitVec 32 := Scalar.muli v233 c1024_i32_154
  let v238 : BitVec 32 := Scalar.addi v231 v237
  let c9_i32_155 : BitVec 32 := 9#32
  let v239 : BitVec 32 := Scalar.shrsi v4 c9_i32_155
  let c1_i32_156 : BitVec 32 := 1#32
  let v240 : BitVec 32 := Scalar.andi v239 c1_i32_156
  let c512_i32_159 : BitVec 32 := 512#32
  let v244 : BitVec 32 := Scalar.muli v240 c512_i32_159
  let v245 : BitVec 32 := Scalar.addi v238 v244
  let c8_i32_160 : BitVec 32 := 8#32
  let v246 : BitVec 32 := Scalar.shrsi v4 c8_i32_160
  let c1_i32_161 : BitVec 32 := 1#32
  let v247 : BitVec 32 := Scalar.andi v246 c1_i32_161
  let c256_i32_164 : BitVec 32 := 256#32
  let v251 : BitVec 32 := Scalar.muli v247 c256_i32_164
  let v252 : BitVec 32 := Scalar.addi v245 v251
  let v310 : BitVec 32 := Scalar.addi v5 v252
  v310
def k0_cond36 (v4 : BitVec 32) : BitVec 1 :=
  let c7_i32_165 : BitVec 32 := 7#32
  let v253 : BitVec 32 := Scalar.shrsi v4 c7_i32_165
  let c1_i32_166 : BitVec 32 := 1#32
  let v254 : BitVec 32 := Scalar.andi v253 c1_i32_166
  let c1_i32_167 : BitVec 32 := 1#32
  let v255 : BitVec 1 := Scalar.cmpi .eq v254 c1_i32_167
  let v256 : BitVec 32 := Scalar.extui v255
  let c0_i32_168 : BitVec 32 := 0#32
  let v257 : BitVec 1 := Scalar.cmpi .ne v256 c0_i32_168
  v257

def k0_mult52 (v4 : BitVec 32) (v6 : BitVec 32) : BitVec 32 :=
  let c0_i32_144 : BitVec 32 := 0#32
  let c12_i32_138 : BitVec 32 := 12#32
  let v218 : BitVec 32 := Scalar.shrsi v4 c12_i32_138
  let c1_i32_139 : BitVec 32 := 1#32
  let v219 : BitVec 32 := Scalar.andi v218 c1_i32_139
  let c4096_i32_143 : BitVec 32 := 4096#32
  let v223 : BitVec 32 := Scalar.muli v219 c4096_i32_143
  let v224 : BitVec 32 := Scalar.addi c0_i32_144 v223
  let c11_i32_145 : BitVec 32 := 11#32
  let v225 : BitVec 32 := Scalar.shrsi v4 c11_i32_145
  let c1_i32_146 : BitVec 32 := 1#32
  let v226 : BitVec 32 := Scalar.andi v225 c1_i32_146
  let c2048_i32_149 : BitVec 32 := 2048#32
  let v230 : BitVec 32 := Scalar.muli v226 c2048_i32_149
  let v231 : BitVec 32 := Scalar.addi v224 v230
  let c10_i32_150 : BitVec 32 := 10#32
  let v232 : BitVec 32 := Scalar.shrsi v4 c10_i32_150
  let c1_i32_151 : BitVec 32 := 1#32
  let v233 : BitVec 32 := Scalar.andi v232 c1_i32_151
  let c1024_i32_154 : BitVec 32 := 1024#32
  let v237 : BitVec 32 := Scalar.muli v233 c1024_i32_154
  let v238 : BitVec 32 := Scalar.addi v231 v237
  let c9_i32_155 : BitVec 32 := 9#32
  let v239 : BitVec 32 := Scalar.shrsi v4 c9_i32_155
  let c1_i32_156 : BitVec 32 := 1#32
  let v240 : BitVec 32 := Scalar.andi v239 c1_i32_156
  let c512_i32_159 : BitVec 32 := 512#32
  let v244 : BitVec 32 := Scalar.muli v240 c512_i32_159
  let v245 : BitVec 32 := Scalar.addi v238 v244
  let c8_i32_160 : BitVec 32 := 8#32
  let v246 : BitVec 32 := Scalar.shrsi v4 c8_i32_160
  let c1_i32_161 : BitVec 32 := 1#32
  let v247 : BitVec 32 := Scalar.andi v246 c1_i32_161
  let c256_i32_164 : BitVec 32 := 256#32
  let v251 : BitVec 32 := Scalar.muli v247 c256_i32_164
  let v252 : BitVec 32 := Scalar.addi v245 v251
  let v312 : BitVec 32 := Scalar.addi v6 v252
  v312
def k0_off51 (v4 : BitVec 32) (v5 : BitVec 32) : Fin 2 → Nat :=
  let c0_i32_144 : BitVec 32 := 0#32
  let c12_i32_138 : BitVec 32 := 12#32
  let v218 : BitVec 32 := Scalar.shrsi v4 c12_i32_138
  let c1_i32_139 : BitVec 32 := 1#32
  let v219 : BitVec 32 := Scalar.andi v218 c1_i32_139
  let c4096_i32_143 : BitVec 32 := 4096#32
  let v223 : BitVec 32 := Scalar.muli v219 c4096_i32_143
  let v224 : BitVec 32 := Scalar.addi c0_i32_144 v223
  let c11_i32_145 : BitVec 32 := 11#32
  let v225 : BitVec 32 := Scalar.shrsi v4 c11_i32_145
  let c1_i32_146 : BitVec 32 := 1#32
  let v226 : BitVec 32 := Scalar.andi v225 c1_i32_146
  let c2048_i32_149 : BitVec 32 := 2048#32
  let v230 : BitVec 32 := Scalar.muli v226 c2048_i32_149
  let v231 : BitVec 32 := Scalar.addi v224 v230
  let c10_i32_150 : BitVec 32 := 10#32
  let v232 : BitVec 32 := Scalar.shrsi v4 c10_i32_150
  let c1_i32_151 : BitVec 32 := 1#32
  let v233 : BitVec 32 := Scalar.andi v232 c1_i32_151
  let c1024_i32_154 : BitVec 32 := 1024#32
  let v237 : BitVec 32 := Scalar.muli v233 c1024_i32_154
  let v238 : BitVec 32 := Scalar.addi v231 v237
  let c9_i32_155 : BitVec 32 := 9#32
  let v239 : BitVec 32 := Scalar.shrsi v4 c9_i32_155
  let c1_i32_156 : BitVec 32 := 1#32
  let v240 : BitVec 32 := Scalar.andi v239 c1_i32_156
  let c512_i32_159 : BitVec 32 := 512#32
  let v244 : BitVec 32 := Scalar.muli v240 c512_i32_159
  let v245 : BitVec 32 := Scalar.addi v238 v244
  let c8_i32_160 : BitVec 32 := 8#32
  let v246 : BitVec 32 := Scalar.shrsi v4 c8_i32_160
  let c1_i32_161 : BitVec 32 := 1#32
  let v247 : BitVec 32 := Scalar.andi v246 c1_i32_161
  let c256_i32_164 : BitVec 32 := 256#32
  let v251 : BitVec 32 := Scalar.muli v247 c256_i32_164
  let v252 : BitVec 32 := Scalar.addi v245 v251
  let v310 : BitVec 32 := Scalar.addi v5 v252
  let v311 : BitVec 32 := v310
  let c0_i32_208 : BitVec 32 := 0#32
  ![v311.toNat, 0]
def k0_off52 (v4 : BitVec 32) (v6 : BitVec 32) : Fin 2 → Nat :=
  let c0_i32_144 : BitVec 32 := 0#32
  let c12_i32_138 : BitVec 32 := 12#32
  let v218 : BitVec 32 := Scalar.shrsi v4 c12_i32_138
  let c1_i32_139 : BitVec 32 := 1#32
  let v219 : BitVec 32 := Scalar.andi v218 c1_i32_139
  let c4096_i32_143 : BitVec 32 := 4096#32
  let v223 : BitVec 32 := Scalar.muli v219 c4096_i32_143
  let v224 : BitVec 32 := Scalar.addi c0_i32_144 v223
  let c11_i32_145 : BitVec 32 := 11#32
  let v225 : BitVec 32 := Scalar.shrsi v4 c11_i32_145
  let c1_i32_146 : BitVec 32 := 1#32
  let v226 : BitVec 32 := Scalar.andi v225 c1_i32_146
  let c2048_i32_149 : BitVec 32 := 2048#32
  let v230 : BitVec 32 := Scalar.muli v226 c2048_i32_149
  let v231 : BitVec 32 := Scalar.addi v224 v230
  let c10_i32_150 : BitVec 32 := 10#32
  let v232 : BitVec 32 := Scalar.shrsi v4 c10_i32_150
  let c1_i32_151 : BitVec 32 := 1#32
  let v233 : BitVec 32 := Scalar.andi v232 c1_i32_151
  let c1024_i32_154 : BitVec 32 := 1024#32
  let v237 : BitVec 32 := Scalar.muli v233 c1024_i32_154
  let v238 : BitVec 32 := Scalar.addi v231 v237
  let c9_i32_155 : BitVec 32 := 9#32
  let v239 : BitVec 32 := Scalar.shrsi v4 c9_i32_155
  let c1_i32_156 : BitVec 32 := 1#32
  let v240 : BitVec 32 := Scalar.andi v239 c1_i32_156
  let c512_i32_159 : BitVec 32 := 512#32
  let v244 : BitVec 32 := Scalar.muli v240 c512_i32_159
  let v245 : BitVec 32 := Scalar.addi v238 v244
  let c8_i32_160 : BitVec 32 := 8#32
  let v246 : BitVec 32 := Scalar.shrsi v4 c8_i32_160
  let c1_i32_161 : BitVec 32 := 1#32
  let v247 : BitVec 32 := Scalar.andi v246 c1_i32_161
  let c256_i32_164 : BitVec 32 := 256#32
  let v251 : BitVec 32 := Scalar.muli v247 c256_i32_164
  let v252 : BitVec 32 := Scalar.addi v245 v251
  let v312 : BitVec 32 := Scalar.addi v6 v252
  let v313 : BitVec 32 := v312
  let c0_i32_209 : BitVec 32 := 0#32
  ![v313.toNat, 0]
def k0_mult53 (v4 : BitVec 32) (v5 : BitVec 32) : BitVec 32 :=
  let c0_i32_144 : BitVec 32 := 0#32
  let c12_i32_138 : BitVec 32 := 12#32
  let v218 : BitVec 32 := Scalar.shrsi v4 c12_i32_138
  let c1_i32_139 : BitVec 32 := 1#32
  let v219 : BitVec 32 := Scalar.andi v218 c1_i32_139
  let c4096_i32_143 : BitVec 32 := 4096#32
  let v223 : BitVec 32 := Scalar.muli v219 c4096_i32_143
  let v224 : BitVec 32 := Scalar.addi c0_i32_144 v223
  let c11_i32_145 : BitVec 32 := 11#32
  let v225 : BitVec 32 := Scalar.shrsi v4 c11_i32_145
  let c1_i32_146 : BitVec 32 := 1#32
  let v226 : BitVec 32 := Scalar.andi v225 c1_i32_146
  let c2048_i32_149 : BitVec 32 := 2048#32
  let v230 : BitVec 32 := Scalar.muli v226 c2048_i32_149
  let v231 : BitVec 32 := Scalar.addi v224 v230
  let c10_i32_150 : BitVec 32 := 10#32
  let v232 : BitVec 32 := Scalar.shrsi v4 c10_i32_150
  let c1_i32_151 : BitVec 32 := 1#32
  let v233 : BitVec 32 := Scalar.andi v232 c1_i32_151
  let c1024_i32_154 : BitVec 32 := 1024#32
  let v237 : BitVec 32 := Scalar.muli v233 c1024_i32_154
  let v238 : BitVec 32 := Scalar.addi v231 v237
  let c9_i32_155 : BitVec 32 := 9#32
  let v239 : BitVec 32 := Scalar.shrsi v4 c9_i32_155
  let c1_i32_156 : BitVec 32 := 1#32
  let v240 : BitVec 32 := Scalar.andi v239 c1_i32_156
  let c512_i32_159 : BitVec 32 := 512#32
  let v244 : BitVec 32 := Scalar.muli v240 c512_i32_159
  let v245 : BitVec 32 := Scalar.addi v238 v244
  let c8_i32_160 : BitVec 32 := 8#32
  let v246 : BitVec 32 := Scalar.shrsi v4 c8_i32_160
  let c1_i32_161 : BitVec 32 := 1#32
  let v247 : BitVec 32 := Scalar.andi v246 c1_i32_161
  let c256_i32_164 : BitVec 32 := 256#32
  let v251 : BitVec 32 := Scalar.muli v247 c256_i32_164
  let v252 : BitVec 32 := Scalar.addi v245 v251
  let c7_i32_165 : BitVec 32 := 7#32
  let v253 : BitVec 32 := Scalar.shrsi v4 c7_i32_165
  let c1_i32_166 : BitVec 32 := 1#32
  let v254 : BitVec 32 := Scalar.andi v253 c1_i32_166
  let c128_i32_169 : BitVec 32 := 128#32
  let v258 : BitVec 32 := Scalar.muli v254 c128_i32_169
  let v259 : BitVec 32 := Scalar.addi v252 v258
  let v310 : BitVec 32 := Scalar.addi v5 v259
  v310
def k0_cond37 (v4 : BitVec 32) : BitVec 1 :=
  let c6_i32_170 : BitVec 32 := 6#32
  let v260 : BitVec 32 := Scalar.shrsi v4 c6_i32_170
  let c1_i32_171 : BitVec 32 := 1#32
  let v261 : BitVec 32 := Scalar.andi v260 c1_i32_171
  let c1_i32_172 : BitVec 32 := 1#32
  let v262 : BitVec 1 := Scalar.cmpi .eq v261 c1_i32_172
  let v263 : BitVec 32 := Scalar.extui v262
  let c0_i32_173 : BitVec 32 := 0#32
  let v264 : BitVec 1 := Scalar.cmpi .ne v263 c0_i32_173
  v264

def k0_mult54 (v4 : BitVec 32) (v6 : BitVec 32) : BitVec 32 :=
  let c0_i32_144 : BitVec 32 := 0#32
  let c12_i32_138 : BitVec 32 := 12#32
  let v218 : BitVec 32 := Scalar.shrsi v4 c12_i32_138
  let c1_i32_139 : BitVec 32 := 1#32
  let v219 : BitVec 32 := Scalar.andi v218 c1_i32_139
  let c4096_i32_143 : BitVec 32 := 4096#32
  let v223 : BitVec 32 := Scalar.muli v219 c4096_i32_143
  let v224 : BitVec 32 := Scalar.addi c0_i32_144 v223
  let c11_i32_145 : BitVec 32 := 11#32
  let v225 : BitVec 32 := Scalar.shrsi v4 c11_i32_145
  let c1_i32_146 : BitVec 32 := 1#32
  let v226 : BitVec 32 := Scalar.andi v225 c1_i32_146
  let c2048_i32_149 : BitVec 32 := 2048#32
  let v230 : BitVec 32 := Scalar.muli v226 c2048_i32_149
  let v231 : BitVec 32 := Scalar.addi v224 v230
  let c10_i32_150 : BitVec 32 := 10#32
  let v232 : BitVec 32 := Scalar.shrsi v4 c10_i32_150
  let c1_i32_151 : BitVec 32 := 1#32
  let v233 : BitVec 32 := Scalar.andi v232 c1_i32_151
  let c1024_i32_154 : BitVec 32 := 1024#32
  let v237 : BitVec 32 := Scalar.muli v233 c1024_i32_154
  let v238 : BitVec 32 := Scalar.addi v231 v237
  let c9_i32_155 : BitVec 32 := 9#32
  let v239 : BitVec 32 := Scalar.shrsi v4 c9_i32_155
  let c1_i32_156 : BitVec 32 := 1#32
  let v240 : BitVec 32 := Scalar.andi v239 c1_i32_156
  let c512_i32_159 : BitVec 32 := 512#32
  let v244 : BitVec 32 := Scalar.muli v240 c512_i32_159
  let v245 : BitVec 32 := Scalar.addi v238 v244
  let c8_i32_160 : BitVec 32 := 8#32
  let v246 : BitVec 32 := Scalar.shrsi v4 c8_i32_160
  let c1_i32_161 : BitVec 32 := 1#32
  let v247 : BitVec 32 := Scalar.andi v246 c1_i32_161
  let c256_i32_164 : BitVec 32 := 256#32
  let v251 : BitVec 32 := Scalar.muli v247 c256_i32_164
  let v252 : BitVec 32 := Scalar.addi v245 v251
  let c7_i32_165 : BitVec 32 := 7#32
  let v253 : BitVec 32 := Scalar.shrsi v4 c7_i32_165
  let c1_i32_166 : BitVec 32 := 1#32
  let v254 : BitVec 32 := Scalar.andi v253 c1_i32_166
  let c128_i32_169 : BitVec 32 := 128#32
  let v258 : BitVec 32 := Scalar.muli v254 c128_i32_169
  let v259 : BitVec 32 := Scalar.addi v252 v258
  let v312 : BitVec 32 := Scalar.addi v6 v259
  v312
def k0_off53 (v4 : BitVec 32) (v5 : BitVec 32) : Fin 2 → Nat :=
  let c0_i32_144 : BitVec 32 := 0#32
  let c12_i32_138 : BitVec 32 := 12#32
  let v218 : BitVec 32 := Scalar.shrsi v4 c12_i32_138
  let c1_i32_139 : BitVec 32 := 1#32
  let v219 : BitVec 32 := Scalar.andi v218 c1_i32_139
  let c4096_i32_143 : BitVec 32 := 4096#32
  let v223 : BitVec 32 := Scalar.muli v219 c4096_i32_143
  let v224 : BitVec 32 := Scalar.addi c0_i32_144 v223
  let c11_i32_145 : BitVec 32 := 11#32
  let v225 : BitVec 32 := Scalar.shrsi v4 c11_i32_145
  let c1_i32_146 : BitVec 32 := 1#32
  let v226 : BitVec 32 := Scalar.andi v225 c1_i32_146
  let c2048_i32_149 : BitVec 32 := 2048#32
  let v230 : BitVec 32 := Scalar.muli v226 c2048_i32_149
  let v231 : BitVec 32 := Scalar.addi v224 v230
  let c10_i32_150 : BitVec 32 := 10#32
  let v232 : BitVec 32 := Scalar.shrsi v4 c10_i32_150
  let c1_i32_151 : BitVec 32 := 1#32
  let v233 : BitVec 32 := Scalar.andi v232 c1_i32_151
  let c1024_i32_154 : BitVec 32 := 1024#32
  let v237 : BitVec 32 := Scalar.muli v233 c1024_i32_154
  let v238 : BitVec 32 := Scalar.addi v231 v237
  let c9_i32_155 : BitVec 32 := 9#32
  let v239 : BitVec 32 := Scalar.shrsi v4 c9_i32_155
  let c1_i32_156 : BitVec 32 := 1#32
  let v240 : BitVec 32 := Scalar.andi v239 c1_i32_156
  let c512_i32_159 : BitVec 32 := 512#32
  let v244 : BitVec 32 := Scalar.muli v240 c512_i32_159
  let v245 : BitVec 32 := Scalar.addi v238 v244
  let c8_i32_160 : BitVec 32 := 8#32
  let v246 : BitVec 32 := Scalar.shrsi v4 c8_i32_160
  let c1_i32_161 : BitVec 32 := 1#32
  let v247 : BitVec 32 := Scalar.andi v246 c1_i32_161
  let c256_i32_164 : BitVec 32 := 256#32
  let v251 : BitVec 32 := Scalar.muli v247 c256_i32_164
  let v252 : BitVec 32 := Scalar.addi v245 v251
  let c7_i32_165 : BitVec 32 := 7#32
  let v253 : BitVec 32 := Scalar.shrsi v4 c7_i32_165
  let c1_i32_166 : BitVec 32 := 1#32
  let v254 : BitVec 32 := Scalar.andi v253 c1_i32_166
  let c128_i32_169 : BitVec 32 := 128#32
  let v258 : BitVec 32 := Scalar.muli v254 c128_i32_169
  let v259 : BitVec 32 := Scalar.addi v252 v258
  let v310 : BitVec 32 := Scalar.addi v5 v259
  let v311 : BitVec 32 := v310
  let c0_i32_208 : BitVec 32 := 0#32
  ![v311.toNat, 0]
def k0_off54 (v4 : BitVec 32) (v6 : BitVec 32) : Fin 2 → Nat :=
  let c0_i32_144 : BitVec 32 := 0#32
  let c12_i32_138 : BitVec 32 := 12#32
  let v218 : BitVec 32 := Scalar.shrsi v4 c12_i32_138
  let c1_i32_139 : BitVec 32 := 1#32
  let v219 : BitVec 32 := Scalar.andi v218 c1_i32_139
  let c4096_i32_143 : BitVec 32 := 4096#32
  let v223 : BitVec 32 := Scalar.muli v219 c4096_i32_143
  let v224 : BitVec 32 := Scalar.addi c0_i32_144 v223
  let c11_i32_145 : BitVec 32 := 11#32
  let v225 : BitVec 32 := Scalar.shrsi v4 c11_i32_145
  let c1_i32_146 : BitVec 32 := 1#32
  let v226 : BitVec 32 := Scalar.andi v225 c1_i32_146
  let c2048_i32_149 : BitVec 32 := 2048#32
  let v230 : BitVec 32 := Scalar.muli v226 c2048_i32_149
  let v231 : BitVec 32 := Scalar.addi v224 v230
  let c10_i32_150 : BitVec 32 := 10#32
  let v232 : BitVec 32 := Scalar.shrsi v4 c10_i32_150
  let c1_i32_151 : BitVec 32 := 1#32
  let v233 : BitVec 32 := Scalar.andi v232 c1_i32_151
  let c1024_i32_154 : BitVec 32 := 1024#32
  let v237 : BitVec 32 := Scalar.muli v233 c1024_i32_154
  let v238 : BitVec 32 := Scalar.addi v231 v237
  let c9_i32_155 : BitVec 32 := 9#32
  let v239 : BitVec 32 := Scalar.shrsi v4 c9_i32_155
  let c1_i32_156 : BitVec 32 := 1#32
  let v240 : BitVec 32 := Scalar.andi v239 c1_i32_156
  let c512_i32_159 : BitVec 32 := 512#32
  let v244 : BitVec 32 := Scalar.muli v240 c512_i32_159
  let v245 : BitVec 32 := Scalar.addi v238 v244
  let c8_i32_160 : BitVec 32 := 8#32
  let v246 : BitVec 32 := Scalar.shrsi v4 c8_i32_160
  let c1_i32_161 : BitVec 32 := 1#32
  let v247 : BitVec 32 := Scalar.andi v246 c1_i32_161
  let c256_i32_164 : BitVec 32 := 256#32
  let v251 : BitVec 32 := Scalar.muli v247 c256_i32_164
  let v252 : BitVec 32 := Scalar.addi v245 v251
  let c7_i32_165 : BitVec 32 := 7#32
  let v253 : BitVec 32 := Scalar.shrsi v4 c7_i32_165
  let c1_i32_166 : BitVec 32 := 1#32
  let v254 : BitVec 32 := Scalar.andi v253 c1_i32_166
  let c128_i32_169 : BitVec 32 := 128#32
  let v258 : BitVec 32 := Scalar.muli v254 c128_i32_169
  let v259 : BitVec 32 := Scalar.addi v252 v258
  let v312 : BitVec 32 := Scalar.addi v6 v259
  let v313 : BitVec 32 := v312
  let c0_i32_209 : BitVec 32 := 0#32
  ![v313.toNat, 0]
def k0_mult55 (v4 : BitVec 32) (v5 : BitVec 32) : BitVec 32 :=
  let c0_i32_144 : BitVec 32 := 0#32
  let c12_i32_138 : BitVec 32 := 12#32
  let v218 : BitVec 32 := Scalar.shrsi v4 c12_i32_138
  let c1_i32_139 : BitVec 32 := 1#32
  let v219 : BitVec 32 := Scalar.andi v218 c1_i32_139
  let c4096_i32_143 : BitVec 32 := 4096#32
  let v223 : BitVec 32 := Scalar.muli v219 c4096_i32_143
  let v224 : BitVec 32 := Scalar.addi c0_i32_144 v223
  let c11_i32_145 : BitVec 32 := 11#32
  let v225 : BitVec 32 := Scalar.shrsi v4 c11_i32_145
  let c1_i32_146 : BitVec 32 := 1#32
  let v226 : BitVec 32 := Scalar.andi v225 c1_i32_146
  let c2048_i32_149 : BitVec 32 := 2048#32
  let v230 : BitVec 32 := Scalar.muli v226 c2048_i32_149
  let v231 : BitVec 32 := Scalar.addi v224 v230
  let c10_i32_150 : BitVec 32 := 10#32
  let v232 : BitVec 32 := Scalar.shrsi v4 c10_i32_150
  let c1_i32_151 : BitVec 32 := 1#32
  let v233 : BitVec 32 := Scalar.andi v232 c1_i32_151
  let c1024_i32_154 : BitVec 32 := 1024#32
  let v237 : BitVec 32 := Scalar.muli v233 c1024_i32_154
  let v238 : BitVec 32 := Scalar.addi v231 v237
  let c9_i32_155 : BitVec 32 := 9#32
  let v239 : BitVec 32 := Scalar.shrsi v4 c9_i32_155
  let c1_i32_156 : BitVec 32 := 1#32
  let v240 : BitVec 32 := Scalar.andi v239 c1_i32_156
  let c512_i32_159 : BitVec 32 := 512#32
  let v244 : BitVec 32 := Scalar.muli v240 c512_i32_159
  let v245 : BitVec 32 := Scalar.addi v238 v244
  let c8_i32_160 : BitVec 32 := 8#32
  let v246 : BitVec 32 := Scalar.shrsi v4 c8_i32_160
  let c1_i32_161 : BitVec 32 := 1#32
  let v247 : BitVec 32 := Scalar.andi v246 c1_i32_161
  let c256_i32_164 : BitVec 32 := 256#32
  let v251 : BitVec 32 := Scalar.muli v247 c256_i32_164
  let v252 : BitVec 32 := Scalar.addi v245 v251
  let c7_i32_165 : BitVec 32 := 7#32
  let v253 : BitVec 32 := Scalar.shrsi v4 c7_i32_165
  let c1_i32_166 : BitVec 32 := 1#32
  let v254 : BitVec 32 := Scalar.andi v253 c1_i32_166
  let c128_i32_169 : BitVec 32 := 128#32
  let v258 : BitVec 32 := Scalar.muli v254 c128_i32_169
  let v259 : BitVec 32 := Scalar.addi v252 v258
  let c6_i32_170 : BitVec 32 := 6#32
  let v260 : BitVec 32 := Scalar.shrsi v4 c6_i32_170
  let c1_i32_171 : BitVec 32 := 1#32
  let v261 : BitVec 32 := Scalar.andi v260 c1_i32_171
  let c64_i32_174 : BitVec 32 := 64#32
  let v265 : BitVec 32 := Scalar.muli v261 c64_i32_174
  let v266 : BitVec 32 := Scalar.addi v259 v265
  let v310 : BitVec 32 := Scalar.addi v5 v266
  v310
def k0_cond38 (v4 : BitVec 32) : BitVec 1 :=
  let c5_i32_175 : BitVec 32 := 5#32
  let v267 : BitVec 32 := Scalar.shrsi v4 c5_i32_175
  let c1_i32_176 : BitVec 32 := 1#32
  let v268 : BitVec 32 := Scalar.andi v267 c1_i32_176
  let c1_i32_177 : BitVec 32 := 1#32
  let v269 : BitVec 1 := Scalar.cmpi .eq v268 c1_i32_177
  let v270 : BitVec 32 := Scalar.extui v269
  let c0_i32_178 : BitVec 32 := 0#32
  let v271 : BitVec 1 := Scalar.cmpi .ne v270 c0_i32_178
  v271

def k0_mult56 (v4 : BitVec 32) (v6 : BitVec 32) : BitVec 32 :=
  let c0_i32_144 : BitVec 32 := 0#32
  let c12_i32_138 : BitVec 32 := 12#32
  let v218 : BitVec 32 := Scalar.shrsi v4 c12_i32_138
  let c1_i32_139 : BitVec 32 := 1#32
  let v219 : BitVec 32 := Scalar.andi v218 c1_i32_139
  let c4096_i32_143 : BitVec 32 := 4096#32
  let v223 : BitVec 32 := Scalar.muli v219 c4096_i32_143
  let v224 : BitVec 32 := Scalar.addi c0_i32_144 v223
  let c11_i32_145 : BitVec 32 := 11#32
  let v225 : BitVec 32 := Scalar.shrsi v4 c11_i32_145
  let c1_i32_146 : BitVec 32 := 1#32
  let v226 : BitVec 32 := Scalar.andi v225 c1_i32_146
  let c2048_i32_149 : BitVec 32 := 2048#32
  let v230 : BitVec 32 := Scalar.muli v226 c2048_i32_149
  let v231 : BitVec 32 := Scalar.addi v224 v230
  let c10_i32_150 : BitVec 32 := 10#32
  let v232 : BitVec 32 := Scalar.shrsi v4 c10_i32_150
  let c1_i32_151 : BitVec 32 := 1#32
  let v233 : BitVec 32 := Scalar.andi v232 c1_i32_151
  let c1024_i32_154 : BitVec 32 := 1024#32
  let v237 : BitVec 32 := Scalar.muli v233 c1024_i32_154
  let v238 : BitVec 32 := Scalar.addi v231 v237
  let c9_i32_155 : BitVec 32 := 9#32
  let v239 : BitVec 32 := Scalar.shrsi v4 c9_i32_155
  let c1_i32_156 : BitVec 32 := 1#32
  let v240 : BitVec 32 := Scalar.andi v239 c1_i32_156
  let c512_i32_159 : BitVec 32 := 512#32
  let v244 : BitVec 32 := Scalar.muli v240 c512_i32_159
  let v245 : BitVec 32 := Scalar.addi v238 v244
  let c8_i32_160 : BitVec 32 := 8#32
  let v246 : BitVec 32 := Scalar.shrsi v4 c8_i32_160
  let c1_i32_161 : BitVec 32 := 1#32
  let v247 : BitVec 32 := Scalar.andi v246 c1_i32_161
  let c256_i32_164 : BitVec 32 := 256#32
  let v251 : BitVec 32 := Scalar.muli v247 c256_i32_164
  let v252 : BitVec 32 := Scalar.addi v245 v251
  let c7_i32_165 : BitVec 32 := 7#32
  let v253 : BitVec 32 := Scalar.shrsi v4 c7_i32_165
  let c1_i32_166 : BitVec 32 := 1#32
  let v254 : BitVec 32 := Scalar.andi v253 c1_i32_166
  let c128_i32_169 : BitVec 32 := 128#32
  let v258 : BitVec 32 := Scalar.muli v254 c128_i32_169
  let v259 : BitVec 32 := Scalar.addi v252 v258
  let c6_i32_170 : BitVec 32 := 6#32
  let v260 : BitVec 32 := Scalar.shrsi v4 c6_i32_170
  let c1_i32_171 : BitVec 32 := 1#32
  let v261 : BitVec 32 := Scalar.andi v260 c1_i32_171
  let c64_i32_174 : BitVec 32 := 64#32
  let v265 : BitVec 32 := Scalar.muli v261 c64_i32_174
  let v266 : BitVec 32 := Scalar.addi v259 v265
  let v312 : BitVec 32 := Scalar.addi v6 v266
  v312
def k0_off55 (v4 : BitVec 32) (v5 : BitVec 32) : Fin 2 → Nat :=
  let c0_i32_144 : BitVec 32 := 0#32
  let c12_i32_138 : BitVec 32 := 12#32
  let v218 : BitVec 32 := Scalar.shrsi v4 c12_i32_138
  let c1_i32_139 : BitVec 32 := 1#32
  let v219 : BitVec 32 := Scalar.andi v218 c1_i32_139
  let c4096_i32_143 : BitVec 32 := 4096#32
  let v223 : BitVec 32 := Scalar.muli v219 c4096_i32_143
  let v224 : BitVec 32 := Scalar.addi c0_i32_144 v223
  let c11_i32_145 : BitVec 32 := 11#32
  let v225 : BitVec 32 := Scalar.shrsi v4 c11_i32_145
  let c1_i32_146 : BitVec 32 := 1#32
  let v226 : BitVec 32 := Scalar.andi v225 c1_i32_146
  let c2048_i32_149 : BitVec 32 := 2048#32
  let v230 : BitVec 32 := Scalar.muli v226 c2048_i32_149
  let v231 : BitVec 32 := Scalar.addi v224 v230
  let c10_i32_150 : BitVec 32 := 10#32
  let v232 : BitVec 32 := Scalar.shrsi v4 c10_i32_150
  let c1_i32_151 : BitVec 32 := 1#32
  let v233 : BitVec 32 := Scalar.andi v232 c1_i32_151
  let c1024_i32_154 : BitVec 32 := 1024#32
  let v237 : BitVec 32 := Scalar.muli v233 c1024_i32_154
  let v238 : BitVec 32 := Scalar.addi v231 v237
  let c9_i32_155 : BitVec 32 := 9#32
  let v239 : BitVec 32 := Scalar.shrsi v4 c9_i32_155
  let c1_i32_156 : BitVec 32 := 1#32
  let v240 : BitVec 32 := Scalar.andi v239 c1_i32_156
  let c512_i32_159 : BitVec 32 := 512#32
  let v244 : BitVec 32 := Scalar.muli v240 c512_i32_159
  let v245 : BitVec 32 := Scalar.addi v238 v244
  let c8_i32_160 : BitVec 32 := 8#32
  let v246 : BitVec 32 := Scalar.shrsi v4 c8_i32_160
  let c1_i32_161 : BitVec 32 := 1#32
  let v247 : BitVec 32 := Scalar.andi v246 c1_i32_161
  let c256_i32_164 : BitVec 32 := 256#32
  let v251 : BitVec 32 := Scalar.muli v247 c256_i32_164
  let v252 : BitVec 32 := Scalar.addi v245 v251
  let c7_i32_165 : BitVec 32 := 7#32
  let v253 : BitVec 32 := Scalar.shrsi v4 c7_i32_165
  let c1_i32_166 : BitVec 32 := 1#32
  let v254 : BitVec 32 := Scalar.andi v253 c1_i32_166
  let c128_i32_169 : BitVec 32 := 128#32
  let v258 : BitVec 32 := Scalar.muli v254 c128_i32_169
  let v259 : BitVec 32 := Scalar.addi v252 v258
  let c6_i32_170 : BitVec 32 := 6#32
  let v260 : BitVec 32 := Scalar.shrsi v4 c6_i32_170
  let c1_i32_171 : BitVec 32 := 1#32
  let v261 : BitVec 32 := Scalar.andi v260 c1_i32_171
  let c64_i32_174 : BitVec 32 := 64#32
  let v265 : BitVec 32 := Scalar.muli v261 c64_i32_174
  let v266 : BitVec 32 := Scalar.addi v259 v265
  let v310 : BitVec 32 := Scalar.addi v5 v266
  let v311 : BitVec 32 := v310
  let c0_i32_208 : BitVec 32 := 0#32
  ![v311.toNat, 0]
def k0_off56 (v4 : BitVec 32) (v6 : BitVec 32) : Fin 2 → Nat :=
  let c0_i32_144 : BitVec 32 := 0#32
  let c12_i32_138 : BitVec 32 := 12#32
  let v218 : BitVec 32 := Scalar.shrsi v4 c12_i32_138
  let c1_i32_139 : BitVec 32 := 1#32
  let v219 : BitVec 32 := Scalar.andi v218 c1_i32_139
  let c4096_i32_143 : BitVec 32 := 4096#32
  let v223 : BitVec 32 := Scalar.muli v219 c4096_i32_143
  let v224 : BitVec 32 := Scalar.addi c0_i32_144 v223
  let c11_i32_145 : BitVec 32 := 11#32
  let v225 : BitVec 32 := Scalar.shrsi v4 c11_i32_145
  let c1_i32_146 : BitVec 32 := 1#32
  let v226 : BitVec 32 := Scalar.andi v225 c1_i32_146
  let c2048_i32_149 : BitVec 32 := 2048#32
  let v230 : BitVec 32 := Scalar.muli v226 c2048_i32_149
  let v231 : BitVec 32 := Scalar.addi v224 v230
  let c10_i32_150 : BitVec 32 := 10#32
  let v232 : BitVec 32 := Scalar.shrsi v4 c10_i32_150
  let c1_i32_151 : BitVec 32 := 1#32
  let v233 : BitVec 32 := Scalar.andi v232 c1_i32_151
  let c1024_i32_154 : BitVec 32 := 1024#32
  let v237 : BitVec 32 := Scalar.muli v233 c1024_i32_154
  let v238 : BitVec 32 := Scalar.addi v231 v237
  let c9_i32_155 : BitVec 32 := 9#32
  let v239 : BitVec 32 := Scalar.shrsi v4 c9_i32_155
  let c1_i32_156 : BitVec 32 := 1#32
  let v240 : BitVec 32 := Scalar.andi v239 c1_i32_156
  let c512_i32_159 : BitVec 32 := 512#32
  let v244 : BitVec 32 := Scalar.muli v240 c512_i32_159
  let v245 : BitVec 32 := Scalar.addi v238 v244
  let c8_i32_160 : BitVec 32 := 8#32
  let v246 : BitVec 32 := Scalar.shrsi v4 c8_i32_160
  let c1_i32_161 : BitVec 32 := 1#32
  let v247 : BitVec 32 := Scalar.andi v246 c1_i32_161
  let c256_i32_164 : BitVec 32 := 256#32
  let v251 : BitVec 32 := Scalar.muli v247 c256_i32_164
  let v252 : BitVec 32 := Scalar.addi v245 v251
  let c7_i32_165 : BitVec 32 := 7#32
  let v253 : BitVec 32 := Scalar.shrsi v4 c7_i32_165
  let c1_i32_166 : BitVec 32 := 1#32
  let v254 : BitVec 32 := Scalar.andi v253 c1_i32_166
  let c128_i32_169 : BitVec 32 := 128#32
  let v258 : BitVec 32 := Scalar.muli v254 c128_i32_169
  let v259 : BitVec 32 := Scalar.addi v252 v258
  let c6_i32_170 : BitVec 32 := 6#32
  let v260 : BitVec 32 := Scalar.shrsi v4 c6_i32_170
  let c1_i32_171 : BitVec 32 := 1#32
  let v261 : BitVec 32 := Scalar.andi v260 c1_i32_171
  let c64_i32_174 : BitVec 32 := 64#32
  let v265 : BitVec 32 := Scalar.muli v261 c64_i32_174
  let v266 : BitVec 32 := Scalar.addi v259 v265
  let v312 : BitVec 32 := Scalar.addi v6 v266
  let v313 : BitVec 32 := v312
  let c0_i32_209 : BitVec 32 := 0#32
  ![v313.toNat, 0]
def k0_mult57 (v4 : BitVec 32) (v5 : BitVec 32) : BitVec 32 :=
  let c0_i32_144 : BitVec 32 := 0#32
  let c12_i32_138 : BitVec 32 := 12#32
  let v218 : BitVec 32 := Scalar.shrsi v4 c12_i32_138
  let c1_i32_139 : BitVec 32 := 1#32
  let v219 : BitVec 32 := Scalar.andi v218 c1_i32_139
  let c4096_i32_143 : BitVec 32 := 4096#32
  let v223 : BitVec 32 := Scalar.muli v219 c4096_i32_143
  let v224 : BitVec 32 := Scalar.addi c0_i32_144 v223
  let c11_i32_145 : BitVec 32 := 11#32
  let v225 : BitVec 32 := Scalar.shrsi v4 c11_i32_145
  let c1_i32_146 : BitVec 32 := 1#32
  let v226 : BitVec 32 := Scalar.andi v225 c1_i32_146
  let c2048_i32_149 : BitVec 32 := 2048#32
  let v230 : BitVec 32 := Scalar.muli v226 c2048_i32_149
  let v231 : BitVec 32 := Scalar.addi v224 v230
  let c10_i32_150 : BitVec 32 := 10#32
  let v232 : BitVec 32 := Scalar.shrsi v4 c10_i32_150
  let c1_i32_151 : BitVec 32 := 1#32
  let v233 : BitVec 32 := Scalar.andi v232 c1_i32_151
  let c1024_i32_154 : BitVec 32 := 1024#32
  let v237 : BitVec 32 := Scalar.muli v233 c1024_i32_154
  let v238 : BitVec 32 := Scalar.addi v231 v237
  let c9_i32_155 : BitVec 32 := 9#32
  let v239 : BitVec 32 := Scalar.shrsi v4 c9_i32_155
  let c1_i32_156 : BitVec 32 := 1#32
  let v240 : BitVec 32 := Scalar.andi v239 c1_i32_156
  let c512_i32_159 : BitVec 32 := 512#32
  let v244 : BitVec 32 := Scalar.muli v240 c512_i32_159
  let v245 : BitVec 32 := Scalar.addi v238 v244
  let c8_i32_160 : BitVec 32 := 8#32
  let v246 : BitVec 32 := Scalar.shrsi v4 c8_i32_160
  let c1_i32_161 : BitVec 32 := 1#32
  let v247 : BitVec 32 := Scalar.andi v246 c1_i32_161
  let c256_i32_164 : BitVec 32 := 256#32
  let v251 : BitVec 32 := Scalar.muli v247 c256_i32_164
  let v252 : BitVec 32 := Scalar.addi v245 v251
  let c7_i32_165 : BitVec 32 := 7#32
  let v253 : BitVec 32 := Scalar.shrsi v4 c7_i32_165
  let c1_i32_166 : BitVec 32 := 1#32
  let v254 : BitVec 32 := Scalar.andi v253 c1_i32_166
  let c128_i32_169 : BitVec 32 := 128#32
  let v258 : BitVec 32 := Scalar.muli v254 c128_i32_169
  let v259 : BitVec 32 := Scalar.addi v252 v258
  let c6_i32_170 : BitVec 32 := 6#32
  let v260 : BitVec 32 := Scalar.shrsi v4 c6_i32_170
  let c1_i32_171 : BitVec 32 := 1#32
  let v261 : BitVec 32 := Scalar.andi v260 c1_i32_171
  let c64_i32_174 : BitVec 32 := 64#32
  let v265 : BitVec 32 := Scalar.muli v261 c64_i32_174
  let v266 : BitVec 32 := Scalar.addi v259 v265
  let c5_i32_175 : BitVec 32 := 5#32
  let v267 : BitVec 32 := Scalar.shrsi v4 c5_i32_175
  let c1_i32_176 : BitVec 32 := 1#32
  let v268 : BitVec 32 := Scalar.andi v267 c1_i32_176
  let c32_i32_179 : BitVec 32 := 32#32
  let v272 : BitVec 32 := Scalar.muli v268 c32_i32_179
  let v273 : BitVec 32 := Scalar.addi v266 v272
  let v310 : BitVec 32 := Scalar.addi v5 v273
  v310
def k0_cond39 (v4 : BitVec 32) : BitVec 1 :=
  let c4_i32_180 : BitVec 32 := 4#32
  let v274 : BitVec 32 := Scalar.shrsi v4 c4_i32_180
  let c1_i32_181 : BitVec 32 := 1#32
  let v275 : BitVec 32 := Scalar.andi v274 c1_i32_181
  let c1_i32_182 : BitVec 32 := 1#32
  let v276 : BitVec 1 := Scalar.cmpi .eq v275 c1_i32_182
  let v277 : BitVec 32 := Scalar.extui v276
  let c0_i32_183 : BitVec 32 := 0#32
  let v278 : BitVec 1 := Scalar.cmpi .ne v277 c0_i32_183
  v278

def k0_mult58 (v4 : BitVec 32) (v6 : BitVec 32) : BitVec 32 :=
  let c0_i32_144 : BitVec 32 := 0#32
  let c12_i32_138 : BitVec 32 := 12#32
  let v218 : BitVec 32 := Scalar.shrsi v4 c12_i32_138
  let c1_i32_139 : BitVec 32 := 1#32
  let v219 : BitVec 32 := Scalar.andi v218 c1_i32_139
  let c4096_i32_143 : BitVec 32 := 4096#32
  let v223 : BitVec 32 := Scalar.muli v219 c4096_i32_143
  let v224 : BitVec 32 := Scalar.addi c0_i32_144 v223
  let c11_i32_145 : BitVec 32 := 11#32
  let v225 : BitVec 32 := Scalar.shrsi v4 c11_i32_145
  let c1_i32_146 : BitVec 32 := 1#32
  let v226 : BitVec 32 := Scalar.andi v225 c1_i32_146
  let c2048_i32_149 : BitVec 32 := 2048#32
  let v230 : BitVec 32 := Scalar.muli v226 c2048_i32_149
  let v231 : BitVec 32 := Scalar.addi v224 v230
  let c10_i32_150 : BitVec 32 := 10#32
  let v232 : BitVec 32 := Scalar.shrsi v4 c10_i32_150
  let c1_i32_151 : BitVec 32 := 1#32
  let v233 : BitVec 32 := Scalar.andi v232 c1_i32_151
  let c1024_i32_154 : BitVec 32 := 1024#32
  let v237 : BitVec 32 := Scalar.muli v233 c1024_i32_154
  let v238 : BitVec 32 := Scalar.addi v231 v237
  let c9_i32_155 : BitVec 32 := 9#32
  let v239 : BitVec 32 := Scalar.shrsi v4 c9_i32_155
  let c1_i32_156 : BitVec 32 := 1#32
  let v240 : BitVec 32 := Scalar.andi v239 c1_i32_156
  let c512_i32_159 : BitVec 32 := 512#32
  let v244 : BitVec 32 := Scalar.muli v240 c512_i32_159
  let v245 : BitVec 32 := Scalar.addi v238 v244
  let c8_i32_160 : BitVec 32 := 8#32
  let v246 : BitVec 32 := Scalar.shrsi v4 c8_i32_160
  let c1_i32_161 : BitVec 32 := 1#32
  let v247 : BitVec 32 := Scalar.andi v246 c1_i32_161
  let c256_i32_164 : BitVec 32 := 256#32
  let v251 : BitVec 32 := Scalar.muli v247 c256_i32_164
  let v252 : BitVec 32 := Scalar.addi v245 v251
  let c7_i32_165 : BitVec 32 := 7#32
  let v253 : BitVec 32 := Scalar.shrsi v4 c7_i32_165
  let c1_i32_166 : BitVec 32 := 1#32
  let v254 : BitVec 32 := Scalar.andi v253 c1_i32_166
  let c128_i32_169 : BitVec 32 := 128#32
  let v258 : BitVec 32 := Scalar.muli v254 c128_i32_169
  let v259 : BitVec 32 := Scalar.addi v252 v258
  let c6_i32_170 : BitVec 32 := 6#32
  let v260 : BitVec 32 := Scalar.shrsi v4 c6_i32_170
  let c1_i32_171 : BitVec 32 := 1#32
  let v261 : BitVec 32 := Scalar.andi v260 c1_i32_171
  let c64_i32_174 : BitVec 32 := 64#32
  let v265 : BitVec 32 := Scalar.muli v261 c64_i32_174
  let v266 : BitVec 32 := Scalar.addi v259 v265
  let c5_i32_175 : BitVec 32 := 5#32
  let v267 : BitVec 32 := Scalar.shrsi v4 c5_i32_175
  let c1_i32_176 : BitVec 32 := 1#32
  let v268 : BitVec 32 := Scalar.andi v267 c1_i32_176
  let c32_i32_179 : BitVec 32 := 32#32
  let v272 : BitVec 32 := Scalar.muli v268 c32_i32_179
  let v273 : BitVec 32 := Scalar.addi v266 v272
  let v312 : BitVec 32 := Scalar.addi v6 v273
  v312
def k0_off57 (v4 : BitVec 32) (v5 : BitVec 32) : Fin 2 → Nat :=
  let c0_i32_144 : BitVec 32 := 0#32
  let c12_i32_138 : BitVec 32 := 12#32
  let v218 : BitVec 32 := Scalar.shrsi v4 c12_i32_138
  let c1_i32_139 : BitVec 32 := 1#32
  let v219 : BitVec 32 := Scalar.andi v218 c1_i32_139
  let c4096_i32_143 : BitVec 32 := 4096#32
  let v223 : BitVec 32 := Scalar.muli v219 c4096_i32_143
  let v224 : BitVec 32 := Scalar.addi c0_i32_144 v223
  let c11_i32_145 : BitVec 32 := 11#32
  let v225 : BitVec 32 := Scalar.shrsi v4 c11_i32_145
  let c1_i32_146 : BitVec 32 := 1#32
  let v226 : BitVec 32 := Scalar.andi v225 c1_i32_146
  let c2048_i32_149 : BitVec 32 := 2048#32
  let v230 : BitVec 32 := Scalar.muli v226 c2048_i32_149
  let v231 : BitVec 32 := Scalar.addi v224 v230
  let c10_i32_150 : BitVec 32 := 10#32
  let v232 : BitVec 32 := Scalar.shrsi v4 c10_i32_150
  let c1_i32_151 : BitVec 32 := 1#32
  let v233 : BitVec 32 := Scalar.andi v232 c1_i32_151
  let c1024_i32_154 : BitVec 32 := 1024#32
  let v237 : BitVec 32 := Scalar.muli v233 c1024_i32_154
  let v238 : BitVec 32 := Scalar.addi v231 v237
  let c9_i32_155 : BitVec 32 := 9#32
  let v239 : BitVec 32 := Scalar.shrsi v4 c9_i32_155
  let c1_i32_156 : BitVec 32 := 1#32
  let v240 : BitVec 32 := Scalar.andi v239 c1_i32_156
  let c512_i32_159 : BitVec 32 := 512#32
  let v244 : BitVec 32 := Scalar.muli v240 c512_i32_159
  let v245 : BitVec 32 := Scalar.addi v238 v244
  let c8_i32_160 : BitVec 32 := 8#32
  let v246 : BitVec 32 := Scalar.shrsi v4 c8_i32_160
  let c1_i32_161 : BitVec 32 := 1#32
  let v247 : BitVec 32 := Scalar.andi v246 c1_i32_161
  let c256_i32_164 : BitVec 32 := 256#32
  let v251 : BitVec 32 := Scalar.muli v247 c256_i32_164
  let v252 : BitVec 32 := Scalar.addi v245 v251
  let c7_i32_165 : BitVec 32 := 7#32
  let v253 : BitVec 32 := Scalar.shrsi v4 c7_i32_165
  let c1_i32_166 : BitVec 32 := 1#32
  let v254 : BitVec 32 := Scalar.andi v253 c1_i32_166
  let c128_i32_169 : BitVec 32 := 128#32
  let v258 : BitVec 32 := Scalar.muli v254 c128_i32_169
  let v259 : BitVec 32 := Scalar.addi v252 v258
  let c6_i32_170 : BitVec 32 := 6#32
  let v260 : BitVec 32 := Scalar.shrsi v4 c6_i32_170
  let c1_i32_171 : BitVec 32 := 1#32
  let v261 : BitVec 32 := Scalar.andi v260 c1_i32_171
  let c64_i32_174 : BitVec 32 := 64#32
  let v265 : BitVec 32 := Scalar.muli v261 c64_i32_174
  let v266 : BitVec 32 := Scalar.addi v259 v265
  let c5_i32_175 : BitVec 32 := 5#32
  let v267 : BitVec 32 := Scalar.shrsi v4 c5_i32_175
  let c1_i32_176 : BitVec 32 := 1#32
  let v268 : BitVec 32 := Scalar.andi v267 c1_i32_176
  let c32_i32_179 : BitVec 32 := 32#32
  let v272 : BitVec 32 := Scalar.muli v268 c32_i32_179
  let v273 : BitVec 32 := Scalar.addi v266 v272
  let v310 : BitVec 32 := Scalar.addi v5 v273
  let v311 : BitVec 32 := v310
  let c0_i32_208 : BitVec 32 := 0#32
  ![v311.toNat, 0]
def k0_off58 (v4 : BitVec 32) (v6 : BitVec 32) : Fin 2 → Nat :=
  let c0_i32_144 : BitVec 32 := 0#32
  let c12_i32_138 : BitVec 32 := 12#32
  let v218 : BitVec 32 := Scalar.shrsi v4 c12_i32_138
  let c1_i32_139 : BitVec 32 := 1#32
  let v219 : BitVec 32 := Scalar.andi v218 c1_i32_139
  let c4096_i32_143 : BitVec 32 := 4096#32
  let v223 : BitVec 32 := Scalar.muli v219 c4096_i32_143
  let v224 : BitVec 32 := Scalar.addi c0_i32_144 v223
  let c11_i32_145 : BitVec 32 := 11#32
  let v225 : BitVec 32 := Scalar.shrsi v4 c11_i32_145
  let c1_i32_146 : BitVec 32 := 1#32
  let v226 : BitVec 32 := Scalar.andi v225 c1_i32_146
  let c2048_i32_149 : BitVec 32 := 2048#32
  let v230 : BitVec 32 := Scalar.muli v226 c2048_i32_149
  let v231 : BitVec 32 := Scalar.addi v224 v230
  let c10_i32_150 : BitVec 32 := 10#32
  let v232 : BitVec 32 := Scalar.shrsi v4 c10_i32_150
  let c1_i32_151 : BitVec 32 := 1#32
  let v233 : BitVec 32 := Scalar.andi v232 c1_i32_151
  let c1024_i32_154 : BitVec 32 := 1024#32
  let v237 : BitVec 32 := Scalar.muli v233 c1024_i32_154
  let v238 : BitVec 32 := Scalar.addi v231 v237
  let c9_i32_155 : BitVec 32 := 9#32
  let v239 : BitVec 32 := Scalar.shrsi v4 c9_i32_155
  let c1_i32_156 : BitVec 32 := 1#32
  let v240 : BitVec 32 := Scalar.andi v239 c1_i32_156
  let c512_i32_159 : BitVec 32 := 512#32
  let v244 : BitVec 32 := Scalar.muli v240 c512_i32_159
  let v245 : BitVec 32 := Scalar.addi v238 v244
  let c8_i32_160 : BitVec 32 := 8#32
  let v246 : BitVec 32 := Scalar.shrsi v4 c8_i32_160
  let c1_i32_161 : BitVec 32 := 1#32
  let v247 : BitVec 32 := Scalar.andi v246 c1_i32_161
  let c256_i32_164 : BitVec 32 := 256#32
  let v251 : BitVec 32 := Scalar.muli v247 c256_i32_164
  let v252 : BitVec 32 := Scalar.addi v245 v251
  let c7_i32_165 : BitVec 32 := 7#32
  let v253 : BitVec 32 := Scalar.shrsi v4 c7_i32_165
  let c1_i32_166 : BitVec 32 := 1#32
  let v254 : BitVec 32 := Scalar.andi v253 c1_i32_166
  let c128_i32_169 : BitVec 32 := 128#32
  let v258 : BitVec 32 := Scalar.muli v254 c128_i32_169
  let v259 : BitVec 32 := Scalar.addi v252 v258
  let c6_i32_170 : BitVec 32 := 6#32
  let v260 : BitVec 32 := Scalar.shrsi v4 c6_i32_170
  let c1_i32_171 : BitVec 32 := 1#32
  let v261 : BitVec 32 := Scalar.andi v260 c1_i32_171
  let c64_i32_174 : BitVec 32 := 64#32
  let v265 : BitVec 32 := Scalar.muli v261 c64_i32_174
  let v266 : BitVec 32 := Scalar.addi v259 v265
  let c5_i32_175 : BitVec 32 := 5#32
  let v267 : BitVec 32 := Scalar.shrsi v4 c5_i32_175
  let c1_i32_176 : BitVec 32 := 1#32
  let v268 : BitVec 32 := Scalar.andi v267 c1_i32_176
  let c32_i32_179 : BitVec 32 := 32#32
  let v272 : BitVec 32 := Scalar.muli v268 c32_i32_179
  let v273 : BitVec 32 := Scalar.addi v266 v272
  let v312 : BitVec 32 := Scalar.addi v6 v273
  let v313 : BitVec 32 := v312
  let c0_i32_209 : BitVec 32 := 0#32
  ![v313.toNat, 0]
def k0_mult59 (v4 : BitVec 32) (v5 : BitVec 32) : BitVec 32 :=
  let c0_i32_144 : BitVec 32 := 0#32
  let c12_i32_138 : BitVec 32 := 12#32
  let v218 : BitVec 32 := Scalar.shrsi v4 c12_i32_138
  let c1_i32_139 : BitVec 32 := 1#32
  let v219 : BitVec 32 := Scalar.andi v218 c1_i32_139
  let c4096_i32_143 : BitVec 32 := 4096#32
  let v223 : BitVec 32 := Scalar.muli v219 c4096_i32_143
  let v224 : BitVec 32 := Scalar.addi c0_i32_144 v223
  let c11_i32_145 : BitVec 32 := 11#32
  let v225 : BitVec 32 := Scalar.shrsi v4 c11_i32_145
  let c1_i32_146 : BitVec 32 := 1#32
  let v226 : BitVec 32 := Scalar.andi v225 c1_i32_146
  let c2048_i32_149 : BitVec 32 := 2048#32
  let v230 : BitVec 32 := Scalar.muli v226 c2048_i32_149
  let v231 : BitVec 32 := Scalar.addi v224 v230
  let c10_i32_150 : BitVec 32 := 10#32
  let v232 : BitVec 32 := Scalar.shrsi v4 c10_i32_150
  let c1_i32_151 : BitVec 32 := 1#32
  let v233 : BitVec 32 := Scalar.andi v232 c1_i32_151
  let c1024_i32_154 : BitVec 32 := 1024#32
  let v237 : BitVec 32 := Scalar.muli v233 c1024_i32_154
  let v238 : BitVec 32 := Scalar.addi v231 v237
  let c9_i32_155 : BitVec 32 := 9#32
  let v239 : BitVec 32 := Scalar.shrsi v4 c9_i32_155
  let c1_i32_156 : BitVec 32 := 1#32
  let v240 : BitVec 32 := Scalar.andi v239 c1_i32_156
  let c512_i32_159 : BitVec 32 := 512#32
  let v244 : BitVec 32 := Scalar.muli v240 c512_i32_159
  let v245 : BitVec 32 := Scalar.addi v238 v244
  let c8_i32_160 : BitVec 32 := 8#32
  let v246 : BitVec 32 := Scalar.shrsi v4 c8_i32_160
  let c1_i32_161 : BitVec 32 := 1#32
  let v247 : BitVec 32 := Scalar.andi v246 c1_i32_161
  let c256_i32_164 : BitVec 32 := 256#32
  let v251 : BitVec 32 := Scalar.muli v247 c256_i32_164
  let v252 : BitVec 32 := Scalar.addi v245 v251
  let c7_i32_165 : BitVec 32 := 7#32
  let v253 : BitVec 32 := Scalar.shrsi v4 c7_i32_165
  let c1_i32_166 : BitVec 32 := 1#32
  let v254 : BitVec 32 := Scalar.andi v253 c1_i32_166
  let c128_i32_169 : BitVec 32 := 128#32
  let v258 : BitVec 32 := Scalar.muli v254 c128_i32_169
  let v259 : BitVec 32 := Scalar.addi v252 v258
  let c6_i32_170 : BitVec 32 := 6#32
  let v260 : BitVec 32 := Scalar.shrsi v4 c6_i32_170
  let c1_i32_171 : BitVec 32 := 1#32
  let v261 : BitVec 32 := Scalar.andi v260 c1_i32_171
  let c64_i32_174 : BitVec 32 := 64#32
  let v265 : BitVec 32 := Scalar.muli v261 c64_i32_174
  let v266 : BitVec 32 := Scalar.addi v259 v265
  let c5_i32_175 : BitVec 32 := 5#32
  let v267 : BitVec 32 := Scalar.shrsi v4 c5_i32_175
  let c1_i32_176 : BitVec 32 := 1#32
  let v268 : BitVec 32 := Scalar.andi v267 c1_i32_176
  let c32_i32_179 : BitVec 32 := 32#32
  let v272 : BitVec 32 := Scalar.muli v268 c32_i32_179
  let v273 : BitVec 32 := Scalar.addi v266 v272
  let c4_i32_180 : BitVec 32 := 4#32
  let v274 : BitVec 32 := Scalar.shrsi v4 c4_i32_180
  let c1_i32_181 : BitVec 32 := 1#32
  let v275 : BitVec 32 := Scalar.andi v274 c1_i32_181
  let c16_i32_184 : BitVec 32 := 16#32
  let v279 : BitVec 32 := Scalar.muli v275 c16_i32_184
  let v280 : BitVec 32 := Scalar.addi v273 v279
  let v310 : BitVec 32 := Scalar.addi v5 v280
  v310
def k0_cond40 (v4 : BitVec 32) : BitVec 1 :=
  let c3_i32_185 : BitVec 32 := 3#32
  let v281 : BitVec 32 := Scalar.shrsi v4 c3_i32_185
  let c1_i32_186 : BitVec 32 := 1#32
  let v282 : BitVec 32 := Scalar.andi v281 c1_i32_186
  let c1_i32_187 : BitVec 32 := 1#32
  let v283 : BitVec 1 := Scalar.cmpi .eq v282 c1_i32_187
  let v284 : BitVec 32 := Scalar.extui v283
  let c0_i32_188 : BitVec 32 := 0#32
  let v285 : BitVec 1 := Scalar.cmpi .ne v284 c0_i32_188
  v285

def k0_mult60 (v4 : BitVec 32) (v6 : BitVec 32) : BitVec 32 :=
  let c0_i32_144 : BitVec 32 := 0#32
  let c12_i32_138 : BitVec 32 := 12#32
  let v218 : BitVec 32 := Scalar.shrsi v4 c12_i32_138
  let c1_i32_139 : BitVec 32 := 1#32
  let v219 : BitVec 32 := Scalar.andi v218 c1_i32_139
  let c4096_i32_143 : BitVec 32 := 4096#32
  let v223 : BitVec 32 := Scalar.muli v219 c4096_i32_143
  let v224 : BitVec 32 := Scalar.addi c0_i32_144 v223
  let c11_i32_145 : BitVec 32 := 11#32
  let v225 : BitVec 32 := Scalar.shrsi v4 c11_i32_145
  let c1_i32_146 : BitVec 32 := 1#32
  let v226 : BitVec 32 := Scalar.andi v225 c1_i32_146
  let c2048_i32_149 : BitVec 32 := 2048#32
  let v230 : BitVec 32 := Scalar.muli v226 c2048_i32_149
  let v231 : BitVec 32 := Scalar.addi v224 v230
  let c10_i32_150 : BitVec 32 := 10#32
  let v232 : BitVec 32 := Scalar.shrsi v4 c10_i32_150
  let c1_i32_151 : BitVec 32 := 1#32
  let v233 : BitVec 32 := Scalar.andi v232 c1_i32_151
  let c1024_i32_154 : BitVec 32 := 1024#32
  let v237 : BitVec 32 := Scalar.muli v233 c1024_i32_154
  let v238 : BitVec 32 := Scalar.addi v231 v237
  let c9_i32_155 : BitVec 32 := 9#32
  let v239 : BitVec 32 := Scalar.shrsi v4 c9_i32_155
  let c1_i32_156 : BitVec 32 := 1#32
  let v240 : BitVec 32 := Scalar.andi v239 c1_i32_156
  let c512_i32_159 : BitVec 32 := 512#32
  let v244 : BitVec 32 := Scalar.muli v240 c512_i32_159
  let v245 : BitVec 32 := Scalar.addi v238 v244
  let c8_i32_160 : BitVec 32 := 8#32
  let v246 : BitVec 32 := Scalar.shrsi v4 c8_i32_160
  let c1_i32_161 : BitVec 32 := 1#32
  let v247 : BitVec 32 := Scalar.andi v246 c1_i32_161
  let c256_i32_164 : BitVec 32 := 256#32
  let v251 : BitVec 32 := Scalar.muli v247 c256_i32_164
  let v252 : BitVec 32 := Scalar.addi v245 v251
  let c7_i32_165 : BitVec 32 := 7#32
  let v253 : BitVec 32 := Scalar.shrsi v4 c7_i32_165
  let c1_i32_166 : BitVec 32 := 1#32
  let v254 : BitVec 32 := Scalar.andi v253 c1_i32_166
  let c128_i32_169 : BitVec 32 := 128#32
  let v258 : BitVec 32 := Scalar.muli v254 c128_i32_169
  let v259 : BitVec 32 := Scalar.addi v252 v258
  let c6_i32_170 : BitVec 32 := 6#32
  let v260 : BitVec 32 := Scalar.shrsi v4 c6_i32_170
  let c1_i32_171 : BitVec 32 := 1#32
  let v261 : BitVec 32 := Scalar.andi v260 c1_i32_171
  let c64_i32_174 : BitVec 32 := 64#32
  let v265 : BitVec 32 := Scalar.muli v261 c64_i32_174
  let v266 : BitVec 32 := Scalar.addi v259 v265
  let c5_i32_175 : BitVec 32 := 5#32
  let v267 : BitVec 32 := Scalar.shrsi v4 c5_i32_175
  let c1_i32_176 : BitVec 32 := 1#32
  let v268 : BitVec 32 := Scalar.andi v267 c1_i32_176
  let c32_i32_179 : BitVec 32 := 32#32
  let v272 : BitVec 32 := Scalar.muli v268 c32_i32_179
  let v273 : BitVec 32 := Scalar.addi v266 v272
  let c4_i32_180 : BitVec 32 := 4#32
  let v274 : BitVec 32 := Scalar.shrsi v4 c4_i32_180
  let c1_i32_181 : BitVec 32 := 1#32
  let v275 : BitVec 32 := Scalar.andi v274 c1_i32_181
  let c16_i32_184 : BitVec 32 := 16#32
  let v279 : BitVec 32 := Scalar.muli v275 c16_i32_184
  let v280 : BitVec 32 := Scalar.addi v273 v279
  let v312 : BitVec 32 := Scalar.addi v6 v280
  v312
def k0_off59 (v4 : BitVec 32) (v5 : BitVec 32) : Fin 2 → Nat :=
  let c0_i32_144 : BitVec 32 := 0#32
  let c12_i32_138 : BitVec 32 := 12#32
  let v218 : BitVec 32 := Scalar.shrsi v4 c12_i32_138
  let c1_i32_139 : BitVec 32 := 1#32
  let v219 : BitVec 32 := Scalar.andi v218 c1_i32_139
  let c4096_i32_143 : BitVec 32 := 4096#32
  let v223 : BitVec 32 := Scalar.muli v219 c4096_i32_143
  let v224 : BitVec 32 := Scalar.addi c0_i32_144 v223
  let c11_i32_145 : BitVec 32 := 11#32
  let v225 : BitVec 32 := Scalar.shrsi v4 c11_i32_145
  let c1_i32_146 : BitVec 32 := 1#32
  let v226 : BitVec 32 := Scalar.andi v225 c1_i32_146
  let c2048_i32_149 : BitVec 32 := 2048#32
  let v230 : BitVec 32 := Scalar.muli v226 c2048_i32_149
  let v231 : BitVec 32 := Scalar.addi v224 v230
  let c10_i32_150 : BitVec 32 := 10#32
  let v232 : BitVec 32 := Scalar.shrsi v4 c10_i32_150
  let c1_i32_151 : BitVec 32 := 1#32
  let v233 : BitVec 32 := Scalar.andi v232 c1_i32_151
  let c1024_i32_154 : BitVec 32 := 1024#32
  let v237 : BitVec 32 := Scalar.muli v233 c1024_i32_154
  let v238 : BitVec 32 := Scalar.addi v231 v237
  let c9_i32_155 : BitVec 32 := 9#32
  let v239 : BitVec 32 := Scalar.shrsi v4 c9_i32_155
  let c1_i32_156 : BitVec 32 := 1#32
  let v240 : BitVec 32 := Scalar.andi v239 c1_i32_156
  let c512_i32_159 : BitVec 32 := 512#32
  let v244 : BitVec 32 := Scalar.muli v240 c512_i32_159
  let v245 : BitVec 32 := Scalar.addi v238 v244
  let c8_i32_160 : BitVec 32 := 8#32
  let v246 : BitVec 32 := Scalar.shrsi v4 c8_i32_160
  let c1_i32_161 : BitVec 32 := 1#32
  let v247 : BitVec 32 := Scalar.andi v246 c1_i32_161
  let c256_i32_164 : BitVec 32 := 256#32
  let v251 : BitVec 32 := Scalar.muli v247 c256_i32_164
  let v252 : BitVec 32 := Scalar.addi v245 v251
  let c7_i32_165 : BitVec 32 := 7#32
  let v253 : BitVec 32 := Scalar.shrsi v4 c7_i32_165
  let c1_i32_166 : BitVec 32 := 1#32
  let v254 : BitVec 32 := Scalar.andi v253 c1_i32_166
  let c128_i32_169 : BitVec 32 := 128#32
  let v258 : BitVec 32 := Scalar.muli v254 c128_i32_169
  let v259 : BitVec 32 := Scalar.addi v252 v258
  let c6_i32_170 : BitVec 32 := 6#32
  let v260 : BitVec 32 := Scalar.shrsi v4 c6_i32_170
  let c1_i32_171 : BitVec 32 := 1#32
  let v261 : BitVec 32 := Scalar.andi v260 c1_i32_171
  let c64_i32_174 : BitVec 32 := 64#32
  let v265 : BitVec 32 := Scalar.muli v261 c64_i32_174
  let v266 : BitVec 32 := Scalar.addi v259 v265
  let c5_i32_175 : BitVec 32 := 5#32
  let v267 : BitVec 32 := Scalar.shrsi v4 c5_i32_175
  let c1_i32_176 : BitVec 32 := 1#32
  let v268 : BitVec 32 := Scalar.andi v267 c1_i32_176
  let c32_i32_179 : BitVec 32 := 32#32
  let v272 : BitVec 32 := Scalar.muli v268 c32_i32_179
  let v273 : BitVec 32 := Scalar.addi v266 v272
  let c4_i32_180 : BitVec 32 := 4#32
  let v274 : BitVec 32 := Scalar.shrsi v4 c4_i32_180
  let c1_i32_181 : BitVec 32 := 1#32
  let v275 : BitVec 32 := Scalar.andi v274 c1_i32_181
  let c16_i32_184 : BitVec 32 := 16#32
  let v279 : BitVec 32 := Scalar.muli v275 c16_i32_184
  let v280 : BitVec 32 := Scalar.addi v273 v279
  let v310 : BitVec 32 := Scalar.addi v5 v280
  let v311 : BitVec 32 := v310
  let c0_i32_208 : BitVec 32 := 0#32
  ![v311.toNat, 0]
def k0_off60 (v4 : BitVec 32) (v6 : BitVec 32) : Fin 2 → Nat :=
  let c0_i32_144 : BitVec 32 := 0#32
  let c12_i32_138 : BitVec 32 := 12#32
  let v218 : BitVec 32 := Scalar.shrsi v4 c12_i32_138
  let c1_i32_139 : BitVec 32 := 1#32
  let v219 : BitVec 32 := Scalar.andi v218 c1_i32_139
  let c4096_i32_143 : BitVec 32 := 4096#32
  let v223 : BitVec 32 := Scalar.muli v219 c4096_i32_143
  let v224 : BitVec 32 := Scalar.addi c0_i32_144 v223
  let c11_i32_145 : BitVec 32 := 11#32
  let v225 : BitVec 32 := Scalar.shrsi v4 c11_i32_145
  let c1_i32_146 : BitVec 32 := 1#32
  let v226 : BitVec 32 := Scalar.andi v225 c1_i32_146
  let c2048_i32_149 : BitVec 32 := 2048#32
  let v230 : BitVec 32 := Scalar.muli v226 c2048_i32_149
  let v231 : BitVec 32 := Scalar.addi v224 v230
  let c10_i32_150 : BitVec 32 := 10#32
  let v232 : BitVec 32 := Scalar.shrsi v4 c10_i32_150
  let c1_i32_151 : BitVec 32 := 1#32
  let v233 : BitVec 32 := Scalar.andi v232 c1_i32_151
  let c1024_i32_154 : BitVec 32 := 1024#32
  let v237 : BitVec 32 := Scalar.muli v233 c1024_i32_154
  let v238 : BitVec 32 := Scalar.addi v231 v237
  let c9_i32_155 : BitVec 32 := 9#32
  let v239 : BitVec 32 := Scalar.shrsi v4 c9_i32_155
  let c1_i32_156 : BitVec 32 := 1#32
  let v240 : BitVec 32 := Scalar.andi v239 c1_i32_156
  let c512_i32_159 : BitVec 32 := 512#32
  let v244 : BitVec 32 := Scalar.muli v240 c512_i32_159
  let v245 : BitVec 32 := Scalar.addi v238 v244
  let c8_i32_160 : BitVec 32 := 8#32
  let v246 : BitVec 32 := Scalar.shrsi v4 c8_i32_160
  let c1_i32_161 : BitVec 32 := 1#32
  let v247 : BitVec 32 := Scalar.andi v246 c1_i32_161
  let c256_i32_164 : BitVec 32 := 256#32
  let v251 : BitVec 32 := Scalar.muli v247 c256_i32_164
  let v252 : BitVec 32 := Scalar.addi v245 v251
  let c7_i32_165 : BitVec 32 := 7#32
  let v253 : BitVec 32 := Scalar.shrsi v4 c7_i32_165
  let c1_i32_166 : BitVec 32 := 1#32
  let v254 : BitVec 32 := Scalar.andi v253 c1_i32_166
  let c128_i32_169 : BitVec 32 := 128#32
  let v258 : BitVec 32 := Scalar.muli v254 c128_i32_169
  let v259 : BitVec 32 := Scalar.addi v252 v258
  let c6_i32_170 : BitVec 32 := 6#32
  let v260 : BitVec 32 := Scalar.shrsi v4 c6_i32_170
  let c1_i32_171 : BitVec 32 := 1#32
  let v261 : BitVec 32 := Scalar.andi v260 c1_i32_171
  let c64_i32_174 : BitVec 32 := 64#32
  let v265 : BitVec 32 := Scalar.muli v261 c64_i32_174
  let v266 : BitVec 32 := Scalar.addi v259 v265
  let c5_i32_175 : BitVec 32 := 5#32
  let v267 : BitVec 32 := Scalar.shrsi v4 c5_i32_175
  let c1_i32_176 : BitVec 32 := 1#32
  let v268 : BitVec 32 := Scalar.andi v267 c1_i32_176
  let c32_i32_179 : BitVec 32 := 32#32
  let v272 : BitVec 32 := Scalar.muli v268 c32_i32_179
  let v273 : BitVec 32 := Scalar.addi v266 v272
  let c4_i32_180 : BitVec 32 := 4#32
  let v274 : BitVec 32 := Scalar.shrsi v4 c4_i32_180
  let c1_i32_181 : BitVec 32 := 1#32
  let v275 : BitVec 32 := Scalar.andi v274 c1_i32_181
  let c16_i32_184 : BitVec 32 := 16#32
  let v279 : BitVec 32 := Scalar.muli v275 c16_i32_184
  let v280 : BitVec 32 := Scalar.addi v273 v279
  let v312 : BitVec 32 := Scalar.addi v6 v280
  let v313 : BitVec 32 := v312
  let c0_i32_209 : BitVec 32 := 0#32
  ![v313.toNat, 0]

def k0_chk2_0 (v4 : BitVec 32) (v6 : BitVec 32) : Prop :=
  (∀ (k0_h1 : k0_cond1 v4 = 1#1), 8 ∣ (k0_mult2 v6).toNat) ∧
  (∀ (k0_h1 : k0_cond1 v4 = 1#1), ∀ a, (k0_off1 v6) a + S4096x1024.size a ≤ S4112x1024.size a) ∧
  (∀ (k0_h1 : k0_cond1 v4 = 1#1), ∀ (hinb : ∀ a, (k0_off1 v6) a + S4096x1024.size a ≤ S4112x1024.size a), (Rect.unit (s := S4112x1024) (k0_off1 v6) S4096x1024.size hinb).WholeWords (EltTy.packing .bf16)) ∧
  (∀ (k0_h2 : k0_cond2 v4 = 1#1), 8 ∣ (k0_mult4 v4 v6).toNat) ∧
  (∀ (k0_h2 : k0_cond2 v4 = 1#1), ∀ a, (k0_off3 v4 v6) a + S2048x1024.size a ≤ S4112x1024.size a) ∧
  (∀ (k0_h2 : k0_cond2 v4 = 1#1), ∀ (hinb : ∀ a, (k0_off3 v4 v6) a + S2048x1024.size a ≤ S4112x1024.size a), (Rect.unit (s := S4112x1024) (k0_off3 v4 v6) S2048x1024.size hinb).WholeWords (EltTy.packing .bf16)) ∧
  (∀ (k0_h3 : k0_cond3 v4 = 1#1), 8 ∣ (k0_mult6 v4 v6).toNat) ∧
  (∀ (k0_h3 : k0_cond3 v4 = 1#1), ∀ a, (k0_off5 v4 v6) a + S1024x1024.size a ≤ S4112x1024.size a) ∧
  (∀ (k0_h3 : k0_cond3 v4 = 1#1), ∀ (hinb : ∀ a, (k0_off5 v4 v6) a + S1024x1024.size a ≤ S4112x1024.size a), (Rect.unit (s := S4112x1024) (k0_off5 v4 v6) S1024x1024.size hinb).WholeWords (EltTy.packing .bf16)) ∧
  (∀ (k0_h4 : k0_cond4 v4 = 1#1), 8 ∣ (k0_mult8 v4 v6).toNat) ∧
  (∀ (k0_h4 : k0_cond4 v4 = 1#1), ∀ a, (k0_off7 v4 v6) a + S512x1024.size a ≤ S4112x1024.size a) ∧
  (∀ (k0_h4 : k0_cond4 v4 = 1#1), ∀ (hinb : ∀ a, (k0_off7 v4 v6) a + S512x1024.size a ≤ S4112x1024.size a), (Rect.unit (s := S4112x1024) (k0_off7 v4 v6) S512x1024.size hinb).WholeWords (EltTy.packing .bf16)) ∧
  (∀ (k0_h5 : k0_cond5 v4 = 1#1), 8 ∣ (k0_mult10 v4 v6).toNat) ∧
  (∀ (k0_h5 : k0_cond5 v4 = 1#1), ∀ a, (k0_off9 v4 v6) a + S256x1024.size a ≤ S4112x1024.size a) ∧
  (∀ (k0_h5 : k0_cond5 v4 = 1#1), ∀ (hinb : ∀ a, (k0_off9 v4 v6) a + S256x1024.size a ≤ S4112x1024.size a), (Rect.unit (s := S4112x1024) (k0_off9 v4 v6) S256x1024.size hinb).WholeWords (EltTy.packing .bf16)) ∧
  (∀ (k0_h6 : k0_cond6 v4 = 1#1), 8 ∣ (k0_mult12 v4 v6).toNat) ∧
  (∀ (k0_h6 : k0_cond6 v4 = 1#1), ∀ a, (k0_off11 v4 v6) a + S128x1024.size a ≤ S4112x1024.size a) ∧
  (∀ (k0_h6 : k0_cond6 v4 = 1#1), ∀ (hinb : ∀ a, (k0_off11 v4 v6) a + S128x1024.size a ≤ S4112x1024.size a), (Rect.unit (s := S4112x1024) (k0_off11 v4 v6) S128x1024.size hinb).WholeWords (EltTy.packing .bf16)) ∧
  (∀ (k0_h7 : k0_cond7 v4 = 1#1), 8 ∣ (k0_mult14 v4 v6).toNat) ∧
  (∀ (k0_h7 : k0_cond7 v4 = 1#1), ∀ a, (k0_off13 v4 v6) a + S64x1024.size a ≤ S4112x1024.size a) ∧
  (∀ (k0_h7 : k0_cond7 v4 = 1#1), ∀ (hinb : ∀ a, (k0_off13 v4 v6) a + S64x1024.size a ≤ S4112x1024.size a), (Rect.unit (s := S4112x1024) (k0_off13 v4 v6) S64x1024.size hinb).WholeWords (EltTy.packing .bf16)) ∧
  (∀ (k0_h8 : k0_cond8 v4 = 1#1), 8 ∣ (k0_mult16 v4 v6).toNat) ∧
  (∀ (k0_h8 : k0_cond8 v4 = 1#1), ∀ a, (k0_off15 v4 v6) a + S32x1024.size a ≤ S4112x1024.size a) ∧
  (∀ (k0_h8 : k0_cond8 v4 = 1#1), ∀ (hinb : ∀ a, (k0_off15 v4 v6) a + S32x1024.size a ≤ S4112x1024.size a), (Rect.unit (s := S4112x1024) (k0_off15 v4 v6) S32x1024.size hinb).WholeWords (EltTy.packing .bf16)) ∧
  (∀ (k0_h9 : k0_cond9 v4 = 1#1), 8 ∣ (k0_mult18 v4 v6).toNat) ∧
  (∀ (k0_h9 : k0_cond9 v4 = 1#1), ∀ a, (k0_off17 v4 v6) a + S16x1024.size a ≤ S4112x1024.size a) ∧
  (∀ (k0_h9 : k0_cond9 v4 = 1#1), ∀ (hinb : ∀ a, (k0_off17 v4 v6) a + S16x1024.size a ≤ S4112x1024.size a), (Rect.unit (s := S4112x1024) (k0_off17 v4 v6) S16x1024.size hinb).WholeWords (EltTy.packing .bf16)) ∧
  (∀ (k0_h10 : k0_cond10 v4 = 1#1), 8 ∣ (k0_mult20 v4 v6).toNat) ∧
  (∀ (k0_h10 : k0_cond10 v4 = 1#1), ∀ a, (k0_off19 v4 v6) a + S8x1024.size a ≤ S4112x1024.size a) ∧
  (∀ (k0_h10 : k0_cond10 v4 = 1#1), ∀ (hinb : ∀ a, (k0_off19 v4 v6) a + S8x1024.size a ≤ S4112x1024.size a), (Rect.unit (s := S4112x1024) (k0_off19 v4 v6) S8x1024.size hinb).WholeWords (EltTy.packing .bf16)) ∧
  (∀ (k0_h31 : k0_cond31 v4 = 1#1), 8 ∣ (k0_mult42 v6).toNat) ∧
  (∀ (k0_h31 : k0_cond31 v4 = 1#1), ∀ a, (k0_off42 v6) a + S4096x1024.size a ≤ S4112x1024.size a)
def k0_chk2_1 (v4 : BitVec 32) (v6 : BitVec 32) : Prop :=
  (∀ (k0_h31 : k0_cond31 v4 = 1#1), ∀ (hinb : ∀ a, (k0_off42 v6) a + S4096x1024.size a ≤ S4112x1024.size a), (Rect.unit (s := S4112x1024) (k0_off42 v6) S4096x1024.size hinb).WholeWords (EltTy.packing .bf16)) ∧
  (∀ (k0_h32 : k0_cond32 v4 = 1#1), 8 ∣ (k0_mult44 v4 v6).toNat) ∧
  (∀ (k0_h32 : k0_cond32 v4 = 1#1), ∀ a, (k0_off44 v4 v6) a + S2048x1024.size a ≤ S4112x1024.size a) ∧
  (∀ (k0_h32 : k0_cond32 v4 = 1#1), ∀ (hinb : ∀ a, (k0_off44 v4 v6) a + S2048x1024.size a ≤ S4112x1024.size a), (Rect.unit (s := S4112x1024) (k0_off44 v4 v6) S2048x1024.size hinb).WholeWords (EltTy.packing .bf16)) ∧
  (∀ (k0_h33 : k0_cond33 v4 = 1#1), 8 ∣ (k0_mult46 v4 v6).toNat) ∧
  (∀ (k0_h33 : k0_cond33 v4 = 1#1), ∀ a, (k0_off46 v4 v6) a + S1024x1024.size a ≤ S4112x1024.size a) ∧
  (∀ (k0_h33 : k0_cond33 v4 = 1#1), ∀ (hinb : ∀ a, (k0_off46 v4 v6) a + S1024x1024.size a ≤ S4112x1024.size a), (Rect.unit (s := S4112x1024) (k0_off46 v4 v6) S1024x1024.size hinb).WholeWords (EltTy.packing .bf16)) ∧
  (∀ (k0_h34 : k0_cond34 v4 = 1#1), 8 ∣ (k0_mult48 v4 v6).toNat) ∧
  (∀ (k0_h34 : k0_cond34 v4 = 1#1), ∀ a, (k0_off48 v4 v6) a + S512x1024.size a ≤ S4112x1024.size a) ∧
  (∀ (k0_h34 : k0_cond34 v4 = 1#1), ∀ (hinb : ∀ a, (k0_off48 v4 v6) a + S512x1024.size a ≤ S4112x1024.size a), (Rect.unit (s := S4112x1024) (k0_off48 v4 v6) S512x1024.size hinb).WholeWords (EltTy.packing .bf16)) ∧
  (∀ (k0_h35 : k0_cond35 v4 = 1#1), 8 ∣ (k0_mult50 v4 v6).toNat) ∧
  (∀ (k0_h35 : k0_cond35 v4 = 1#1), ∀ a, (k0_off50 v4 v6) a + S256x1024.size a ≤ S4112x1024.size a) ∧
  (∀ (k0_h35 : k0_cond35 v4 = 1#1), ∀ (hinb : ∀ a, (k0_off50 v4 v6) a + S256x1024.size a ≤ S4112x1024.size a), (Rect.unit (s := S4112x1024) (k0_off50 v4 v6) S256x1024.size hinb).WholeWords (EltTy.packing .bf16)) ∧
  (∀ (k0_h36 : k0_cond36 v4 = 1#1), 8 ∣ (k0_mult52 v4 v6).toNat) ∧
  (∀ (k0_h36 : k0_cond36 v4 = 1#1), ∀ a, (k0_off52 v4 v6) a + S128x1024.size a ≤ S4112x1024.size a) ∧
  (∀ (k0_h36 : k0_cond36 v4 = 1#1), ∀ (hinb : ∀ a, (k0_off52 v4 v6) a + S128x1024.size a ≤ S4112x1024.size a), (Rect.unit (s := S4112x1024) (k0_off52 v4 v6) S128x1024.size hinb).WholeWords (EltTy.packing .bf16)) ∧
  (∀ (k0_h37 : k0_cond37 v4 = 1#1), 8 ∣ (k0_mult54 v4 v6).toNat) ∧
  (∀ (k0_h37 : k0_cond37 v4 = 1#1), ∀ a, (k0_off54 v4 v6) a + S64x1024.size a ≤ S4112x1024.size a) ∧
  (∀ (k0_h37 : k0_cond37 v4 = 1#1), ∀ (hinb : ∀ a, (k0_off54 v4 v6) a + S64x1024.size a ≤ S4112x1024.size a), (Rect.unit (s := S4112x1024) (k0_off54 v4 v6) S64x1024.size hinb).WholeWords (EltTy.packing .bf16)) ∧
  (∀ (k0_h38 : k0_cond38 v4 = 1#1), 8 ∣ (k0_mult56 v4 v6).toNat) ∧
  (∀ (k0_h38 : k0_cond38 v4 = 1#1), ∀ a, (k0_off56 v4 v6) a + S32x1024.size a ≤ S4112x1024.size a) ∧
  (∀ (k0_h38 : k0_cond38 v4 = 1#1), ∀ (hinb : ∀ a, (k0_off56 v4 v6) a + S32x1024.size a ≤ S4112x1024.size a), (Rect.unit (s := S4112x1024) (k0_off56 v4 v6) S32x1024.size hinb).WholeWords (EltTy.packing .bf16)) ∧
  (∀ (k0_h39 : k0_cond39 v4 = 1#1), 8 ∣ (k0_mult58 v4 v6).toNat) ∧
  (∀ (k0_h39 : k0_cond39 v4 = 1#1), ∀ a, (k0_off58 v4 v6) a + S16x1024.size a ≤ S4112x1024.size a) ∧
  (∀ (k0_h39 : k0_cond39 v4 = 1#1), ∀ (hinb : ∀ a, (k0_off58 v4 v6) a + S16x1024.size a ≤ S4112x1024.size a), (Rect.unit (s := S4112x1024) (k0_off58 v4 v6) S16x1024.size hinb).WholeWords (EltTy.packing .bf16)) ∧
  (∀ (k0_h40 : k0_cond40 v4 = 1#1), 8 ∣ (k0_mult60 v4 v6).toNat) ∧
  (∀ (k0_h40 : k0_cond40 v4 = 1#1), ∀ a, (k0_off60 v4 v6) a + S8x1024.size a ≤ S4112x1024.size a) ∧
  (∀ (k0_h40 : k0_cond40 v4 = 1#1), ∀ (hinb : ∀ a, (k0_off60 v4 v6) a + S8x1024.size a ≤ S4112x1024.size a), (Rect.unit (s := S4112x1024) (k0_off60 v4 v6) S8x1024.size hinb).WholeWords (EltTy.packing .bf16))
def k0_chk2 (v4 : BitVec 32) (v6 : BitVec 32) : Prop :=
  k0_chk2_0 v4 v6 ∧
  k0_chk2_1 v4 v6
theorem k0_mult2_dvd : ∀ (v4 : BitVec 32) (v6 : BitVec 32) (k0_hw2 : k0_chk2 v4 v6), ∀ (k0_h1 : k0_cond1 v4 = 1#1), 8 ∣ (k0_mult2 v6).toNat := fun v4 v6 k0_hw2 k0_h1 => k0_hw2.1.1 k0_h1
theorem k0_off1_inb : ∀ (v4 : BitVec 32) (v6 : BitVec 32) (k0_hw2 : k0_chk2 v4 v6), ∀ (k0_h1 : k0_cond1 v4 = 1#1), ∀ a, (k0_off1 v6) a + S4096x1024.size a ≤ S4112x1024.size a := fun v4 v6 k0_hw2 k0_h1 => k0_hw2.1.2.1 k0_h1
theorem k0_off1_wordsbf16 : ∀ (v4 : BitVec 32) (v6 : BitVec 32) (k0_hw2 : k0_chk2 v4 v6), ∀ (k0_h1 : k0_cond1 v4 = 1#1), (Rect.unit (s := S4112x1024) (k0_off1 v6) S4096x1024.size (k0_off1_inb v4 v6 k0_hw2 k0_h1)).WholeWords (EltTy.packing .bf16) := fun v4 v6 k0_hw2 k0_h1 => k0_hw2.1.2.2.1 k0_h1 (k0_off1_inb v4 v6 k0_hw2 k0_h1)
theorem k0_mult4_dvd : ∀ (v4 : BitVec 32) (v6 : BitVec 32) (k0_hw2 : k0_chk2 v4 v6), ∀ (k0_h2 : k0_cond2 v4 = 1#1), 8 ∣ (k0_mult4 v4 v6).toNat := fun v4 v6 k0_hw2 k0_h2 => k0_hw2.1.2.2.2.1 k0_h2
theorem k0_off3_inb : ∀ (v4 : BitVec 32) (v6 : BitVec 32) (k0_hw2 : k0_chk2 v4 v6), ∀ (k0_h2 : k0_cond2 v4 = 1#1), ∀ a, (k0_off3 v4 v6) a + S2048x1024.size a ≤ S4112x1024.size a := fun v4 v6 k0_hw2 k0_h2 => k0_hw2.1.2.2.2.2.1 k0_h2
theorem k0_off3_wordsbf16 : ∀ (v4 : BitVec 32) (v6 : BitVec 32) (k0_hw2 : k0_chk2 v4 v6), ∀ (k0_h2 : k0_cond2 v4 = 1#1), (Rect.unit (s := S4112x1024) (k0_off3 v4 v6) S2048x1024.size (k0_off3_inb v4 v6 k0_hw2 k0_h2)).WholeWords (EltTy.packing .bf16) := fun v4 v6 k0_hw2 k0_h2 => k0_hw2.1.2.2.2.2.2.1 k0_h2 (k0_off3_inb v4 v6 k0_hw2 k0_h2)
theorem k0_mult6_dvd : ∀ (v4 : BitVec 32) (v6 : BitVec 32) (k0_hw2 : k0_chk2 v4 v6), ∀ (k0_h3 : k0_cond3 v4 = 1#1), 8 ∣ (k0_mult6 v4 v6).toNat := fun v4 v6 k0_hw2 k0_h3 => k0_hw2.1.2.2.2.2.2.2.1 k0_h3
theorem k0_off5_inb : ∀ (v4 : BitVec 32) (v6 : BitVec 32) (k0_hw2 : k0_chk2 v4 v6), ∀ (k0_h3 : k0_cond3 v4 = 1#1), ∀ a, (k0_off5 v4 v6) a + S1024x1024.size a ≤ S4112x1024.size a := fun v4 v6 k0_hw2 k0_h3 => k0_hw2.1.2.2.2.2.2.2.2.1 k0_h3
theorem k0_off5_wordsbf16 : ∀ (v4 : BitVec 32) (v6 : BitVec 32) (k0_hw2 : k0_chk2 v4 v6), ∀ (k0_h3 : k0_cond3 v4 = 1#1), (Rect.unit (s := S4112x1024) (k0_off5 v4 v6) S1024x1024.size (k0_off5_inb v4 v6 k0_hw2 k0_h3)).WholeWords (EltTy.packing .bf16) := fun v4 v6 k0_hw2 k0_h3 => k0_hw2.1.2.2.2.2.2.2.2.2.1 k0_h3 (k0_off5_inb v4 v6 k0_hw2 k0_h3)
theorem k0_mult8_dvd : ∀ (v4 : BitVec 32) (v6 : BitVec 32) (k0_hw2 : k0_chk2 v4 v6), ∀ (k0_h4 : k0_cond4 v4 = 1#1), 8 ∣ (k0_mult8 v4 v6).toNat := fun v4 v6 k0_hw2 k0_h4 => k0_hw2.1.2.2.2.2.2.2.2.2.2.1 k0_h4
theorem k0_off7_inb : ∀ (v4 : BitVec 32) (v6 : BitVec 32) (k0_hw2 : k0_chk2 v4 v6), ∀ (k0_h4 : k0_cond4 v4 = 1#1), ∀ a, (k0_off7 v4 v6) a + S512x1024.size a ≤ S4112x1024.size a := fun v4 v6 k0_hw2 k0_h4 => k0_hw2.1.2.2.2.2.2.2.2.2.2.2.1 k0_h4
theorem k0_off7_wordsbf16 : ∀ (v4 : BitVec 32) (v6 : BitVec 32) (k0_hw2 : k0_chk2 v4 v6), ∀ (k0_h4 : k0_cond4 v4 = 1#1), (Rect.unit (s := S4112x1024) (k0_off7 v4 v6) S512x1024.size (k0_off7_inb v4 v6 k0_hw2 k0_h4)).WholeWords (EltTy.packing .bf16) := fun v4 v6 k0_hw2 k0_h4 => k0_hw2.1.2.2.2.2.2.2.2.2.2.2.2.1 k0_h4 (k0_off7_inb v4 v6 k0_hw2 k0_h4)
theorem k0_mult10_dvd : ∀ (v4 : BitVec 32) (v6 : BitVec 32) (k0_hw2 : k0_chk2 v4 v6), ∀ (k0_h5 : k0_cond5 v4 = 1#1), 8 ∣ (k0_mult10 v4 v6).toNat := fun v4 v6 k0_hw2 k0_h5 => k0_hw2.1.2.2.2.2.2.2.2.2.2.2.2.2.1 k0_h5
theorem k0_off9_inb : ∀ (v4 : BitVec 32) (v6 : BitVec 32) (k0_hw2 : k0_chk2 v4 v6), ∀ (k0_h5 : k0_cond5 v4 = 1#1), ∀ a, (k0_off9 v4 v6) a + S256x1024.size a ≤ S4112x1024.size a := fun v4 v6 k0_hw2 k0_h5 => k0_hw2.1.2.2.2.2.2.2.2.2.2.2.2.2.2.1 k0_h5
theorem k0_off9_wordsbf16 : ∀ (v4 : BitVec 32) (v6 : BitVec 32) (k0_hw2 : k0_chk2 v4 v6), ∀ (k0_h5 : k0_cond5 v4 = 1#1), (Rect.unit (s := S4112x1024) (k0_off9 v4 v6) S256x1024.size (k0_off9_inb v4 v6 k0_hw2 k0_h5)).WholeWords (EltTy.packing .bf16) := fun v4 v6 k0_hw2 k0_h5 => k0_hw2.1.2.2.2.2.2.2.2.2.2.2.2.2.2.2.1 k0_h5 (k0_off9_inb v4 v6 k0_hw2 k0_h5)
theorem k0_mult12_dvd : ∀ (v4 : BitVec 32) (v6 : BitVec 32) (k0_hw2 : k0_chk2 v4 v6), ∀ (k0_h6 : k0_cond6 v4 = 1#1), 8 ∣ (k0_mult12 v4 v6).toNat := fun v4 v6 k0_hw2 k0_h6 => k0_hw2.1.2.2.2.2.2.2.2.2.2.2.2.2.2.2.2.1 k0_h6
theorem k0_off11_inb : ∀ (v4 : BitVec 32) (v6 : BitVec 32) (k0_hw2 : k0_chk2 v4 v6), ∀ (k0_h6 : k0_cond6 v4 = 1#1), ∀ a, (k0_off11 v4 v6) a + S128x1024.size a ≤ S4112x1024.size a := fun v4 v6 k0_hw2 k0_h6 => k0_hw2.1.2.2.2.2.2.2.2.2.2.2.2.2.2.2.2.2.1 k0_h6
theorem k0_off11_wordsbf16 : ∀ (v4 : BitVec 32) (v6 : BitVec 32) (k0_hw2 : k0_chk2 v4 v6), ∀ (k0_h6 : k0_cond6 v4 = 1#1), (Rect.unit (s := S4112x1024) (k0_off11 v4 v6) S128x1024.size (k0_off11_inb v4 v6 k0_hw2 k0_h6)).WholeWords (EltTy.packing .bf16) := fun v4 v6 k0_hw2 k0_h6 => k0_hw2.1.2.2.2.2.2.2.2.2.2.2.2.2.2.2.2.2.2.1 k0_h6 (k0_off11_inb v4 v6 k0_hw2 k0_h6)
theorem k0_mult14_dvd : ∀ (v4 : BitVec 32) (v6 : BitVec 32) (k0_hw2 : k0_chk2 v4 v6), ∀ (k0_h7 : k0_cond7 v4 = 1#1), 8 ∣ (k0_mult14 v4 v6).toNat := fun v4 v6 k0_hw2 k0_h7 => k0_hw2.1.2.2.2.2.2.2.2.2.2.2.2.2.2.2.2.2.2.2.1 k0_h7
theorem k0_off13_inb : ∀ (v4 : BitVec 32) (v6 : BitVec 32) (k0_hw2 : k0_chk2 v4 v6), ∀ (k0_h7 : k0_cond7 v4 = 1#1), ∀ a, (k0_off13 v4 v6) a + S64x1024.size a ≤ S4112x1024.size a := fun v4 v6 k0_hw2 k0_h7 => k0_hw2.1.2.2.2.2.2.2.2.2.2.2.2.2.2.2.2.2.2.2.2.1 k0_h7
theorem k0_off13_wordsbf16 : ∀ (v4 : BitVec 32) (v6 : BitVec 32) (k0_hw2 : k0_chk2 v4 v6), ∀ (k0_h7 : k0_cond7 v4 = 1#1), (Rect.unit (s := S4112x1024) (k0_off13 v4 v6) S64x1024.size (k0_off13_inb v4 v6 k0_hw2 k0_h7)).WholeWords (EltTy.packing .bf16) := fun v4 v6 k0_hw2 k0_h7 => k0_hw2.1.2.2.2.2.2.2.2.2.2.2.2.2.2.2.2.2.2.2.2.2.1 k0_h7 (k0_off13_inb v4 v6 k0_hw2 k0_h7)
theorem k0_mult16_dvd : ∀ (v4 : BitVec 32) (v6 : BitVec 32) (k0_hw2 : k0_chk2 v4 v6), ∀ (k0_h8 : k0_cond8 v4 = 1#1), 8 ∣ (k0_mult16 v4 v6).toNat := fun v4 v6 k0_hw2 k0_h8 => k0_hw2.1.2.2.2.2.2.2.2.2.2.2.2.2.2.2.2.2.2.2.2.2.2.1 k0_h8
theorem k0_off15_inb : ∀ (v4 : BitVec 32) (v6 : BitVec 32) (k0_hw2 : k0_chk2 v4 v6), ∀ (k0_h8 : k0_cond8 v4 = 1#1), ∀ a, (k0_off15 v4 v6) a + S32x1024.size a ≤ S4112x1024.size a := fun v4 v6 k0_hw2 k0_h8 => k0_hw2.1.2.2.2.2.2.2.2.2.2.2.2.2.2.2.2.2.2.2.2.2.2.2.1 k0_h8
theorem k0_off15_wordsbf16 : ∀ (v4 : BitVec 32) (v6 : BitVec 32) (k0_hw2 : k0_chk2 v4 v6), ∀ (k0_h8 : k0_cond8 v4 = 1#1), (Rect.unit (s := S4112x1024) (k0_off15 v4 v6) S32x1024.size (k0_off15_inb v4 v6 k0_hw2 k0_h8)).WholeWords (EltTy.packing .bf16) := fun v4 v6 k0_hw2 k0_h8 => k0_hw2.1.2.2.2.2.2.2.2.2.2.2.2.2.2.2.2.2.2.2.2.2.2.2.2.1 k0_h8 (k0_off15_inb v4 v6 k0_hw2 k0_h8)
theorem k0_mult18_dvd : ∀ (v4 : BitVec 32) (v6 : BitVec 32) (k0_hw2 : k0_chk2 v4 v6), ∀ (k0_h9 : k0_cond9 v4 = 1#1), 8 ∣ (k0_mult18 v4 v6).toNat := fun v4 v6 k0_hw2 k0_h9 => k0_hw2.1.2.2.2.2.2.2.2.2.2.2.2.2.2.2.2.2.2.2.2.2.2.2.2.2.1 k0_h9
theorem k0_off17_inb : ∀ (v4 : BitVec 32) (v6 : BitVec 32) (k0_hw2 : k0_chk2 v4 v6), ∀ (k0_h9 : k0_cond9 v4 = 1#1), ∀ a, (k0_off17 v4 v6) a + S16x1024.size a ≤ S4112x1024.size a := fun v4 v6 k0_hw2 k0_h9 => k0_hw2.1.2.2.2.2.2.2.2.2.2.2.2.2.2.2.2.2.2.2.2.2.2.2.2.2.2.1 k0_h9
theorem k0_off17_wordsbf16 : ∀ (v4 : BitVec 32) (v6 : BitVec 32) (k0_hw2 : k0_chk2 v4 v6), ∀ (k0_h9 : k0_cond9 v4 = 1#1), (Rect.unit (s := S4112x1024) (k0_off17 v4 v6) S16x1024.size (k0_off17_inb v4 v6 k0_hw2 k0_h9)).WholeWords (EltTy.packing .bf16) := fun v4 v6 k0_hw2 k0_h9 => k0_hw2.1.2.2.2.2.2.2.2.2.2.2.2.2.2.2.2.2.2.2.2.2.2.2.2.2.2.2.1 k0_h9 (k0_off17_inb v4 v6 k0_hw2 k0_h9)
theorem k0_mult20_dvd : ∀ (v4 : BitVec 32) (v6 : BitVec 32) (k0_hw2 : k0_chk2 v4 v6), ∀ (k0_h10 : k0_cond10 v4 = 1#1), 8 ∣ (k0_mult20 v4 v6).toNat := fun v4 v6 k0_hw2 k0_h10 => k0_hw2.1.2.2.2.2.2.2.2.2.2.2.2.2.2.2.2.2.2.2.2.2.2.2.2.2.2.2.2.1 k0_h10
theorem k0_off19_inb : ∀ (v4 : BitVec 32) (v6 : BitVec 32) (k0_hw2 : k0_chk2 v4 v6), ∀ (k0_h10 : k0_cond10 v4 = 1#1), ∀ a, (k0_off19 v4 v6) a + S8x1024.size a ≤ S4112x1024.size a := fun v4 v6 k0_hw2 k0_h10 => k0_hw2.1.2.2.2.2.2.2.2.2.2.2.2.2.2.2.2.2.2.2.2.2.2.2.2.2.2.2.2.2.1 k0_h10
theorem k0_off19_wordsbf16 : ∀ (v4 : BitVec 32) (v6 : BitVec 32) (k0_hw2 : k0_chk2 v4 v6), ∀ (k0_h10 : k0_cond10 v4 = 1#1), (Rect.unit (s := S4112x1024) (k0_off19 v4 v6) S8x1024.size (k0_off19_inb v4 v6 k0_hw2 k0_h10)).WholeWords (EltTy.packing .bf16) := fun v4 v6 k0_hw2 k0_h10 => k0_hw2.1.2.2.2.2.2.2.2.2.2.2.2.2.2.2.2.2.2.2.2.2.2.2.2.2.2.2.2.2.2.1 k0_h10 (k0_off19_inb v4 v6 k0_hw2 k0_h10)
theorem k0_mult42_dvd : ∀ (v4 : BitVec 32) (v6 : BitVec 32) (k0_hw2 : k0_chk2 v4 v6), ∀ (k0_h31 : k0_cond31 v4 = 1#1), 8 ∣ (k0_mult42 v6).toNat := fun v4 v6 k0_hw2 k0_h31 => k0_hw2.1.2.2.2.2.2.2.2.2.2.2.2.2.2.2.2.2.2.2.2.2.2.2.2.2.2.2.2.2.2.2.1 k0_h31
theorem k0_off42_inb : ∀ (v4 : BitVec 32) (v6 : BitVec 32) (k0_hw2 : k0_chk2 v4 v6), ∀ (k0_h31 : k0_cond31 v4 = 1#1), ∀ a, (k0_off42 v6) a + S4096x1024.size a ≤ S4112x1024.size a := fun v4 v6 k0_hw2 k0_h31 => k0_hw2.1.2.2.2.2.2.2.2.2.2.2.2.2.2.2.2.2.2.2.2.2.2.2.2.2.2.2.2.2.2.2.2 k0_h31
theorem k0_off42_wordsbf16 : ∀ (v4 : BitVec 32) (v6 : BitVec 32) (k0_hw2 : k0_chk2 v4 v6), ∀ (k0_h31 : k0_cond31 v4 = 1#1), (Rect.unit (s := S4112x1024) (k0_off42 v6) S4096x1024.size (k0_off42_inb v4 v6 k0_hw2 k0_h31)).WholeWords (EltTy.packing .bf16) := fun v4 v6 k0_hw2 k0_h31 => k0_hw2.2.1 k0_h31 (k0_off42_inb v4 v6 k0_hw2 k0_h31)
theorem k0_mult44_dvd : ∀ (v4 : BitVec 32) (v6 : BitVec 32) (k0_hw2 : k0_chk2 v4 v6), ∀ (k0_h32 : k0_cond32 v4 = 1#1), 8 ∣ (k0_mult44 v4 v6).toNat := fun v4 v6 k0_hw2 k0_h32 => k0_hw2.2.2.1 k0_h32
theorem k0_off44_inb : ∀ (v4 : BitVec 32) (v6 : BitVec 32) (k0_hw2 : k0_chk2 v4 v6), ∀ (k0_h32 : k0_cond32 v4 = 1#1), ∀ a, (k0_off44 v4 v6) a + S2048x1024.size a ≤ S4112x1024.size a := fun v4 v6 k0_hw2 k0_h32 => k0_hw2.2.2.2.1 k0_h32
theorem k0_off44_wordsbf16 : ∀ (v4 : BitVec 32) (v6 : BitVec 32) (k0_hw2 : k0_chk2 v4 v6), ∀ (k0_h32 : k0_cond32 v4 = 1#1), (Rect.unit (s := S4112x1024) (k0_off44 v4 v6) S2048x1024.size (k0_off44_inb v4 v6 k0_hw2 k0_h32)).WholeWords (EltTy.packing .bf16) := fun v4 v6 k0_hw2 k0_h32 => k0_hw2.2.2.2.2.1 k0_h32 (k0_off44_inb v4 v6 k0_hw2 k0_h32)
theorem k0_mult46_dvd : ∀ (v4 : BitVec 32) (v6 : BitVec 32) (k0_hw2 : k0_chk2 v4 v6), ∀ (k0_h33 : k0_cond33 v4 = 1#1), 8 ∣ (k0_mult46 v4 v6).toNat := fun v4 v6 k0_hw2 k0_h33 => k0_hw2.2.2.2.2.2.1 k0_h33
theorem k0_off46_inb : ∀ (v4 : BitVec 32) (v6 : BitVec 32) (k0_hw2 : k0_chk2 v4 v6), ∀ (k0_h33 : k0_cond33 v4 = 1#1), ∀ a, (k0_off46 v4 v6) a + S1024x1024.size a ≤ S4112x1024.size a := fun v4 v6 k0_hw2 k0_h33 => k0_hw2.2.2.2.2.2.2.1 k0_h33
theorem k0_off46_wordsbf16 : ∀ (v4 : BitVec 32) (v6 : BitVec 32) (k0_hw2 : k0_chk2 v4 v6), ∀ (k0_h33 : k0_cond33 v4 = 1#1), (Rect.unit (s := S4112x1024) (k0_off46 v4 v6) S1024x1024.size (k0_off46_inb v4 v6 k0_hw2 k0_h33)).WholeWords (EltTy.packing .bf16) := fun v4 v6 k0_hw2 k0_h33 => k0_hw2.2.2.2.2.2.2.2.1 k0_h33 (k0_off46_inb v4 v6 k0_hw2 k0_h33)
theorem k0_mult48_dvd : ∀ (v4 : BitVec 32) (v6 : BitVec 32) (k0_hw2 : k0_chk2 v4 v6), ∀ (k0_h34 : k0_cond34 v4 = 1#1), 8 ∣ (k0_mult48 v4 v6).toNat := fun v4 v6 k0_hw2 k0_h34 => k0_hw2.2.2.2.2.2.2.2.2.1 k0_h34
theorem k0_off48_inb : ∀ (v4 : BitVec 32) (v6 : BitVec 32) (k0_hw2 : k0_chk2 v4 v6), ∀ (k0_h34 : k0_cond34 v4 = 1#1), ∀ a, (k0_off48 v4 v6) a + S512x1024.size a ≤ S4112x1024.size a := fun v4 v6 k0_hw2 k0_h34 => k0_hw2.2.2.2.2.2.2.2.2.2.1 k0_h34
theorem k0_off48_wordsbf16 : ∀ (v4 : BitVec 32) (v6 : BitVec 32) (k0_hw2 : k0_chk2 v4 v6), ∀ (k0_h34 : k0_cond34 v4 = 1#1), (Rect.unit (s := S4112x1024) (k0_off48 v4 v6) S512x1024.size (k0_off48_inb v4 v6 k0_hw2 k0_h34)).WholeWords (EltTy.packing .bf16) := fun v4 v6 k0_hw2 k0_h34 => k0_hw2.2.2.2.2.2.2.2.2.2.2.1 k0_h34 (k0_off48_inb v4 v6 k0_hw2 k0_h34)
theorem k0_mult50_dvd : ∀ (v4 : BitVec 32) (v6 : BitVec 32) (k0_hw2 : k0_chk2 v4 v6), ∀ (k0_h35 : k0_cond35 v4 = 1#1), 8 ∣ (k0_mult50 v4 v6).toNat := fun v4 v6 k0_hw2 k0_h35 => k0_hw2.2.2.2.2.2.2.2.2.2.2.2.1 k0_h35
theorem k0_off50_inb : ∀ (v4 : BitVec 32) (v6 : BitVec 32) (k0_hw2 : k0_chk2 v4 v6), ∀ (k0_h35 : k0_cond35 v4 = 1#1), ∀ a, (k0_off50 v4 v6) a + S256x1024.size a ≤ S4112x1024.size a := fun v4 v6 k0_hw2 k0_h35 => k0_hw2.2.2.2.2.2.2.2.2.2.2.2.2.1 k0_h35
theorem k0_off50_wordsbf16 : ∀ (v4 : BitVec 32) (v6 : BitVec 32) (k0_hw2 : k0_chk2 v4 v6), ∀ (k0_h35 : k0_cond35 v4 = 1#1), (Rect.unit (s := S4112x1024) (k0_off50 v4 v6) S256x1024.size (k0_off50_inb v4 v6 k0_hw2 k0_h35)).WholeWords (EltTy.packing .bf16) := fun v4 v6 k0_hw2 k0_h35 => k0_hw2.2.2.2.2.2.2.2.2.2.2.2.2.2.1 k0_h35 (k0_off50_inb v4 v6 k0_hw2 k0_h35)
theorem k0_mult52_dvd : ∀ (v4 : BitVec 32) (v6 : BitVec 32) (k0_hw2 : k0_chk2 v4 v6), ∀ (k0_h36 : k0_cond36 v4 = 1#1), 8 ∣ (k0_mult52 v4 v6).toNat := fun v4 v6 k0_hw2 k0_h36 => k0_hw2.2.2.2.2.2.2.2.2.2.2.2.2.2.2.1 k0_h36
theorem k0_off52_inb : ∀ (v4 : BitVec 32) (v6 : BitVec 32) (k0_hw2 : k0_chk2 v4 v6), ∀ (k0_h36 : k0_cond36 v4 = 1#1), ∀ a, (k0_off52 v4 v6) a + S128x1024.size a ≤ S4112x1024.size a := fun v4 v6 k0_hw2 k0_h36 => k0_hw2.2.2.2.2.2.2.2.2.2.2.2.2.2.2.2.1 k0_h36
theorem k0_off52_wordsbf16 : ∀ (v4 : BitVec 32) (v6 : BitVec 32) (k0_hw2 : k0_chk2 v4 v6), ∀ (k0_h36 : k0_cond36 v4 = 1#1), (Rect.unit (s := S4112x1024) (k0_off52 v4 v6) S128x1024.size (k0_off52_inb v4 v6 k0_hw2 k0_h36)).WholeWords (EltTy.packing .bf16) := fun v4 v6 k0_hw2 k0_h36 => k0_hw2.2.2.2.2.2.2.2.2.2.2.2.2.2.2.2.2.1 k0_h36 (k0_off52_inb v4 v6 k0_hw2 k0_h36)
theorem k0_mult54_dvd : ∀ (v4 : BitVec 32) (v6 : BitVec 32) (k0_hw2 : k0_chk2 v4 v6), ∀ (k0_h37 : k0_cond37 v4 = 1#1), 8 ∣ (k0_mult54 v4 v6).toNat := fun v4 v6 k0_hw2 k0_h37 => k0_hw2.2.2.2.2.2.2.2.2.2.2.2.2.2.2.2.2.2.1 k0_h37
theorem k0_off54_inb : ∀ (v4 : BitVec 32) (v6 : BitVec 32) (k0_hw2 : k0_chk2 v4 v6), ∀ (k0_h37 : k0_cond37 v4 = 1#1), ∀ a, (k0_off54 v4 v6) a + S64x1024.size a ≤ S4112x1024.size a := fun v4 v6 k0_hw2 k0_h37 => k0_hw2.2.2.2.2.2.2.2.2.2.2.2.2.2.2.2.2.2.2.1 k0_h37
theorem k0_off54_wordsbf16 : ∀ (v4 : BitVec 32) (v6 : BitVec 32) (k0_hw2 : k0_chk2 v4 v6), ∀ (k0_h37 : k0_cond37 v4 = 1#1), (Rect.unit (s := S4112x1024) (k0_off54 v4 v6) S64x1024.size (k0_off54_inb v4 v6 k0_hw2 k0_h37)).WholeWords (EltTy.packing .bf16) := fun v4 v6 k0_hw2 k0_h37 => k0_hw2.2.2.2.2.2.2.2.2.2.2.2.2.2.2.2.2.2.2.2.1 k0_h37 (k0_off54_inb v4 v6 k0_hw2 k0_h37)
theorem k0_mult56_dvd : ∀ (v4 : BitVec 32) (v6 : BitVec 32) (k0_hw2 : k0_chk2 v4 v6), ∀ (k0_h38 : k0_cond38 v4 = 1#1), 8 ∣ (k0_mult56 v4 v6).toNat := fun v4 v6 k0_hw2 k0_h38 => k0_hw2.2.2.2.2.2.2.2.2.2.2.2.2.2.2.2.2.2.2.2.2.1 k0_h38
theorem k0_off56_inb : ∀ (v4 : BitVec 32) (v6 : BitVec 32) (k0_hw2 : k0_chk2 v4 v6), ∀ (k0_h38 : k0_cond38 v4 = 1#1), ∀ a, (k0_off56 v4 v6) a + S32x1024.size a ≤ S4112x1024.size a := fun v4 v6 k0_hw2 k0_h38 => k0_hw2.2.2.2.2.2.2.2.2.2.2.2.2.2.2.2.2.2.2.2.2.2.1 k0_h38
theorem k0_off56_wordsbf16 : ∀ (v4 : BitVec 32) (v6 : BitVec 32) (k0_hw2 : k0_chk2 v4 v6), ∀ (k0_h38 : k0_cond38 v4 = 1#1), (Rect.unit (s := S4112x1024) (k0_off56 v4 v6) S32x1024.size (k0_off56_inb v4 v6 k0_hw2 k0_h38)).WholeWords (EltTy.packing .bf16) := fun v4 v6 k0_hw2 k0_h38 => k0_hw2.2.2.2.2.2.2.2.2.2.2.2.2.2.2.2.2.2.2.2.2.2.2.1 k0_h38 (k0_off56_inb v4 v6 k0_hw2 k0_h38)
theorem k0_mult58_dvd : ∀ (v4 : BitVec 32) (v6 : BitVec 32) (k0_hw2 : k0_chk2 v4 v6), ∀ (k0_h39 : k0_cond39 v4 = 1#1), 8 ∣ (k0_mult58 v4 v6).toNat := fun v4 v6 k0_hw2 k0_h39 => k0_hw2.2.2.2.2.2.2.2.2.2.2.2.2.2.2.2.2.2.2.2.2.2.2.2.1 k0_h39
theorem k0_off58_inb : ∀ (v4 : BitVec 32) (v6 : BitVec 32) (k0_hw2 : k0_chk2 v4 v6), ∀ (k0_h39 : k0_cond39 v4 = 1#1), ∀ a, (k0_off58 v4 v6) a + S16x1024.size a ≤ S4112x1024.size a := fun v4 v6 k0_hw2 k0_h39 => k0_hw2.2.2.2.2.2.2.2.2.2.2.2.2.2.2.2.2.2.2.2.2.2.2.2.2.1 k0_h39
theorem k0_off58_wordsbf16 : ∀ (v4 : BitVec 32) (v6 : BitVec 32) (k0_hw2 : k0_chk2 v4 v6), ∀ (k0_h39 : k0_cond39 v4 = 1#1), (Rect.unit (s := S4112x1024) (k0_off58 v4 v6) S16x1024.size (k0_off58_inb v4 v6 k0_hw2 k0_h39)).WholeWords (EltTy.packing .bf16) := fun v4 v6 k0_hw2 k0_h39 => k0_hw2.2.2.2.2.2.2.2.2.2.2.2.2.2.2.2.2.2.2.2.2.2.2.2.2.2.1 k0_h39 (k0_off58_inb v4 v6 k0_hw2 k0_h39)
theorem k0_mult60_dvd : ∀ (v4 : BitVec 32) (v6 : BitVec 32) (k0_hw2 : k0_chk2 v4 v6), ∀ (k0_h40 : k0_cond40 v4 = 1#1), 8 ∣ (k0_mult60 v4 v6).toNat := fun v4 v6 k0_hw2 k0_h40 => k0_hw2.2.2.2.2.2.2.2.2.2.2.2.2.2.2.2.2.2.2.2.2.2.2.2.2.2.2.1 k0_h40
theorem k0_off60_inb : ∀ (v4 : BitVec 32) (v6 : BitVec 32) (k0_hw2 : k0_chk2 v4 v6), ∀ (k0_h40 : k0_cond40 v4 = 1#1), ∀ a, (k0_off60 v4 v6) a + S8x1024.size a ≤ S4112x1024.size a := fun v4 v6 k0_hw2 k0_h40 => k0_hw2.2.2.2.2.2.2.2.2.2.2.2.2.2.2.2.2.2.2.2.2.2.2.2.2.2.2.2.1 k0_h40
theorem k0_off60_wordsbf16 : ∀ (v4 : BitVec 32) (v6 : BitVec 32) (k0_hw2 : k0_chk2 v4 v6), ∀ (k0_h40 : k0_cond40 v4 = 1#1), (Rect.unit (s := S4112x1024) (k0_off60 v4 v6) S8x1024.size (k0_off60_inb v4 v6 k0_hw2 k0_h40)).WholeWords (EltTy.packing .bf16) := fun v4 v6 k0_hw2 k0_h40 => k0_hw2.2.2.2.2.2.2.2.2.2.2.2.2.2.2.2.2.2.2.2.2.2.2.2.2.2.2.2.2 k0_h40 (k0_off60_inb v4 v6 k0_hw2 k0_h40)

def k0_chk1_0 (v4 : BitVec 32) (v5 : BitVec 32) : Prop :=
  (∀ (k0_h1 : k0_cond1 v4 = 1#1), 8 ∣ (k0_mult1 v5).toNat) ∧
  (∀ (k0_h1 : k0_cond1 v4 = 1#1), ∀ a, (k0_off2 v5) a + S4096x1024.size a ≤ S4112x1024.size a) ∧
  (∀ (k0_h1 : k0_cond1 v4 = 1#1), ∀ (hinb : ∀ a, (k0_off2 v5) a + S4096x1024.size a ≤ S4112x1024.size a), (Rect.unit (s := S4112x1024) (k0_off2 v5) S4096x1024.size hinb).WholeWords (EltTy.packing .bf16)) ∧
  (∀ (k0_h2 : k0_cond2 v4 = 1#1), 8 ∣ (k0_mult3 v4 v5).toNat) ∧
  (∀ (k0_h2 : k0_cond2 v4 = 1#1), ∀ a, (k0_off4 v4 v5) a + S2048x1024.size a ≤ S4112x1024.size a) ∧
  (∀ (k0_h2 : k0_cond2 v4 = 1#1), ∀ (hinb : ∀ a, (k0_off4 v4 v5) a + S2048x1024.size a ≤ S4112x1024.size a), (Rect.unit (s := S4112x1024) (k0_off4 v4 v5) S2048x1024.size hinb).WholeWords (EltTy.packing .bf16)) ∧
  (∀ (k0_h3 : k0_cond3 v4 = 1#1), 8 ∣ (k0_mult5 v4 v5).toNat) ∧
  (∀ (k0_h3 : k0_cond3 v4 = 1#1), ∀ a, (k0_off6 v4 v5) a + S1024x1024.size a ≤ S4112x1024.size a) ∧
  (∀ (k0_h3 : k0_cond3 v4 = 1#1), ∀ (hinb : ∀ a, (k0_off6 v4 v5) a + S1024x1024.size a ≤ S4112x1024.size a), (Rect.unit (s := S4112x1024) (k0_off6 v4 v5) S1024x1024.size hinb).WholeWords (EltTy.packing .bf16)) ∧
  (∀ (k0_h4 : k0_cond4 v4 = 1#1), 8 ∣ (k0_mult7 v4 v5).toNat) ∧
  (∀ (k0_h4 : k0_cond4 v4 = 1#1), ∀ a, (k0_off8 v4 v5) a + S512x1024.size a ≤ S4112x1024.size a) ∧
  (∀ (k0_h4 : k0_cond4 v4 = 1#1), ∀ (hinb : ∀ a, (k0_off8 v4 v5) a + S512x1024.size a ≤ S4112x1024.size a), (Rect.unit (s := S4112x1024) (k0_off8 v4 v5) S512x1024.size hinb).WholeWords (EltTy.packing .bf16)) ∧
  (∀ (k0_h5 : k0_cond5 v4 = 1#1), 8 ∣ (k0_mult9 v4 v5).toNat) ∧
  (∀ (k0_h5 : k0_cond5 v4 = 1#1), ∀ a, (k0_off10 v4 v5) a + S256x1024.size a ≤ S4112x1024.size a) ∧
  (∀ (k0_h5 : k0_cond5 v4 = 1#1), ∀ (hinb : ∀ a, (k0_off10 v4 v5) a + S256x1024.size a ≤ S4112x1024.size a), (Rect.unit (s := S4112x1024) (k0_off10 v4 v5) S256x1024.size hinb).WholeWords (EltTy.packing .bf16)) ∧
  (∀ (k0_h6 : k0_cond6 v4 = 1#1), 8 ∣ (k0_mult11 v4 v5).toNat) ∧
  (∀ (k0_h6 : k0_cond6 v4 = 1#1), ∀ a, (k0_off12 v4 v5) a + S128x1024.size a ≤ S4112x1024.size a) ∧
  (∀ (k0_h6 : k0_cond6 v4 = 1#1), ∀ (hinb : ∀ a, (k0_off12 v4 v5) a + S128x1024.size a ≤ S4112x1024.size a), (Rect.unit (s := S4112x1024) (k0_off12 v4 v5) S128x1024.size hinb).WholeWords (EltTy.packing .bf16)) ∧
  (∀ (k0_h7 : k0_cond7 v4 = 1#1), 8 ∣ (k0_mult13 v4 v5).toNat) ∧
  (∀ (k0_h7 : k0_cond7 v4 = 1#1), ∀ a, (k0_off14 v4 v5) a + S64x1024.size a ≤ S4112x1024.size a) ∧
  (∀ (k0_h7 : k0_cond7 v4 = 1#1), ∀ (hinb : ∀ a, (k0_off14 v4 v5) a + S64x1024.size a ≤ S4112x1024.size a), (Rect.unit (s := S4112x1024) (k0_off14 v4 v5) S64x1024.size hinb).WholeWords (EltTy.packing .bf16)) ∧
  (∀ (k0_h8 : k0_cond8 v4 = 1#1), 8 ∣ (k0_mult15 v4 v5).toNat) ∧
  (∀ (k0_h8 : k0_cond8 v4 = 1#1), ∀ a, (k0_off16 v4 v5) a + S32x1024.size a ≤ S4112x1024.size a) ∧
  (∀ (k0_h8 : k0_cond8 v4 = 1#1), ∀ (hinb : ∀ a, (k0_off16 v4 v5) a + S32x1024.size a ≤ S4112x1024.size a), (Rect.unit (s := S4112x1024) (k0_off16 v4 v5) S32x1024.size hinb).WholeWords (EltTy.packing .bf16)) ∧
  (∀ (k0_h9 : k0_cond9 v4 = 1#1), 8 ∣ (k0_mult17 v4 v5).toNat) ∧
  (∀ (k0_h9 : k0_cond9 v4 = 1#1), ∀ a, (k0_off18 v4 v5) a + S16x1024.size a ≤ S4112x1024.size a) ∧
  (∀ (k0_h9 : k0_cond9 v4 = 1#1), ∀ (hinb : ∀ a, (k0_off18 v4 v5) a + S16x1024.size a ≤ S4112x1024.size a), (Rect.unit (s := S4112x1024) (k0_off18 v4 v5) S16x1024.size hinb).WholeWords (EltTy.packing .bf16)) ∧
  (∀ (k0_h10 : k0_cond10 v4 = 1#1), 8 ∣ (k0_mult19 v4 v5).toNat) ∧
  (∀ (k0_h10 : k0_cond10 v4 = 1#1), ∀ a, (k0_off20 v4 v5) a + S8x1024.size a ≤ S4112x1024.size a) ∧
  (∀ (k0_h10 : k0_cond10 v4 = 1#1), ∀ (hinb : ∀ a, (k0_off20 v4 v5) a + S8x1024.size a ≤ S4112x1024.size a), (Rect.unit (s := S4112x1024) (k0_off20 v4 v5) S8x1024.size hinb).WholeWords (EltTy.packing .bf16)) ∧
  (∀ (k0_h31 : k0_cond31 v4 = 1#1), 8 ∣ (k0_mult41 v5).toNat) ∧
  (∀ (k0_h31 : k0_cond31 v4 = 1#1), ∀ a, (k0_off41 v5) a + S4096x1024.size a ≤ S4112x1024.size a)
def k0_chk1_1 (v4 : BitVec 32) (v5 : BitVec 32) : Prop :=
  (∀ (k0_h31 : k0_cond31 v4 = 1#1), ∀ (hinb : ∀ a, (k0_off41 v5) a + S4096x1024.size a ≤ S4112x1024.size a), (Rect.unit (s := S4112x1024) (k0_off41 v5) S4096x1024.size hinb).WholeWords (EltTy.packing .bf16)) ∧
  (∀ (k0_h32 : k0_cond32 v4 = 1#1), 8 ∣ (k0_mult43 v4 v5).toNat) ∧
  (∀ (k0_h32 : k0_cond32 v4 = 1#1), ∀ a, (k0_off43 v4 v5) a + S2048x1024.size a ≤ S4112x1024.size a) ∧
  (∀ (k0_h32 : k0_cond32 v4 = 1#1), ∀ (hinb : ∀ a, (k0_off43 v4 v5) a + S2048x1024.size a ≤ S4112x1024.size a), (Rect.unit (s := S4112x1024) (k0_off43 v4 v5) S2048x1024.size hinb).WholeWords (EltTy.packing .bf16)) ∧
  (∀ (k0_h33 : k0_cond33 v4 = 1#1), 8 ∣ (k0_mult45 v4 v5).toNat) ∧
  (∀ (k0_h33 : k0_cond33 v4 = 1#1), ∀ a, (k0_off45 v4 v5) a + S1024x1024.size a ≤ S4112x1024.size a) ∧
  (∀ (k0_h33 : k0_cond33 v4 = 1#1), ∀ (hinb : ∀ a, (k0_off45 v4 v5) a + S1024x1024.size a ≤ S4112x1024.size a), (Rect.unit (s := S4112x1024) (k0_off45 v4 v5) S1024x1024.size hinb).WholeWords (EltTy.packing .bf16)) ∧
  (∀ (k0_h34 : k0_cond34 v4 = 1#1), 8 ∣ (k0_mult47 v4 v5).toNat) ∧
  (∀ (k0_h34 : k0_cond34 v4 = 1#1), ∀ a, (k0_off47 v4 v5) a + S512x1024.size a ≤ S4112x1024.size a) ∧
  (∀ (k0_h34 : k0_cond34 v4 = 1#1), ∀ (hinb : ∀ a, (k0_off47 v4 v5) a + S512x1024.size a ≤ S4112x1024.size a), (Rect.unit (s := S4112x1024) (k0_off47 v4 v5) S512x1024.size hinb).WholeWords (EltTy.packing .bf16)) ∧
  (∀ (k0_h35 : k0_cond35 v4 = 1#1), 8 ∣ (k0_mult49 v4 v5).toNat) ∧
  (∀ (k0_h35 : k0_cond35 v4 = 1#1), ∀ a, (k0_off49 v4 v5) a + S256x1024.size a ≤ S4112x1024.size a) ∧
  (∀ (k0_h35 : k0_cond35 v4 = 1#1), ∀ (hinb : ∀ a, (k0_off49 v4 v5) a + S256x1024.size a ≤ S4112x1024.size a), (Rect.unit (s := S4112x1024) (k0_off49 v4 v5) S256x1024.size hinb).WholeWords (EltTy.packing .bf16)) ∧
  (∀ (k0_h36 : k0_cond36 v4 = 1#1), 8 ∣ (k0_mult51 v4 v5).toNat) ∧
  (∀ (k0_h36 : k0_cond36 v4 = 1#1), ∀ a, (k0_off51 v4 v5) a + S128x1024.size a ≤ S4112x1024.size a) ∧
  (∀ (k0_h36 : k0_cond36 v4 = 1#1), ∀ (hinb : ∀ a, (k0_off51 v4 v5) a + S128x1024.size a ≤ S4112x1024.size a), (Rect.unit (s := S4112x1024) (k0_off51 v4 v5) S128x1024.size hinb).WholeWords (EltTy.packing .bf16)) ∧
  (∀ (k0_h37 : k0_cond37 v4 = 1#1), 8 ∣ (k0_mult53 v4 v5).toNat) ∧
  (∀ (k0_h37 : k0_cond37 v4 = 1#1), ∀ a, (k0_off53 v4 v5) a + S64x1024.size a ≤ S4112x1024.size a) ∧
  (∀ (k0_h37 : k0_cond37 v4 = 1#1), ∀ (hinb : ∀ a, (k0_off53 v4 v5) a + S64x1024.size a ≤ S4112x1024.size a), (Rect.unit (s := S4112x1024) (k0_off53 v4 v5) S64x1024.size hinb).WholeWords (EltTy.packing .bf16)) ∧
  (∀ (k0_h38 : k0_cond38 v4 = 1#1), 8 ∣ (k0_mult55 v4 v5).toNat) ∧
  (∀ (k0_h38 : k0_cond38 v4 = 1#1), ∀ a, (k0_off55 v4 v5) a + S32x1024.size a ≤ S4112x1024.size a) ∧
  (∀ (k0_h38 : k0_cond38 v4 = 1#1), ∀ (hinb : ∀ a, (k0_off55 v4 v5) a + S32x1024.size a ≤ S4112x1024.size a), (Rect.unit (s := S4112x1024) (k0_off55 v4 v5) S32x1024.size hinb).WholeWords (EltTy.packing .bf16)) ∧
  (∀ (k0_h39 : k0_cond39 v4 = 1#1), 8 ∣ (k0_mult57 v4 v5).toNat) ∧
  (∀ (k0_h39 : k0_cond39 v4 = 1#1), ∀ a, (k0_off57 v4 v5) a + S16x1024.size a ≤ S4112x1024.size a) ∧
  (∀ (k0_h39 : k0_cond39 v4 = 1#1), ∀ (hinb : ∀ a, (k0_off57 v4 v5) a + S16x1024.size a ≤ S4112x1024.size a), (Rect.unit (s := S4112x1024) (k0_off57 v4 v5) S16x1024.size hinb).WholeWords (EltTy.packing .bf16)) ∧
  (∀ (k0_h40 : k0_cond40 v4 = 1#1), 8 ∣ (k0_mult59 v4 v5).toNat) ∧
  (∀ (k0_h40 : k0_cond40 v4 = 1#1), ∀ a, (k0_off59 v4 v5) a + S8x1024.size a ≤ S4112x1024.size a) ∧
  (∀ (k0_h40 : k0_cond40 v4 = 1#1), ∀ (hinb : ∀ a, (k0_off59 v4 v5) a + S8x1024.size a ≤ S4112x1024.size a), (Rect.unit (s := S4112x1024) (k0_off59 v4 v5) S8x1024.size hinb).WholeWords (EltTy.packing .bf16))
def k0_chk1 (v4 : BitVec 32) (v5 : BitVec 32) : Prop :=
  k0_chk1_0 v4 v5 ∧
  k0_chk1_1 v4 v5
theorem k0_mult1_dvd : ∀ (v4 : BitVec 32) (v5 : BitVec 32) (k0_hw1 : k0_chk1 v4 v5), ∀ (k0_h1 : k0_cond1 v4 = 1#1), 8 ∣ (k0_mult1 v5).toNat := fun v4 v5 k0_hw1 k0_h1 => k0_hw1.1.1 k0_h1
theorem k0_off2_inb : ∀ (v4 : BitVec 32) (v5 : BitVec 32) (k0_hw1 : k0_chk1 v4 v5), ∀ (k0_h1 : k0_cond1 v4 = 1#1), ∀ a, (k0_off2 v5) a + S4096x1024.size a ≤ S4112x1024.size a := fun v4 v5 k0_hw1 k0_h1 => k0_hw1.1.2.1 k0_h1
theorem k0_off2_wordsbf16 : ∀ (v4 : BitVec 32) (v5 : BitVec 32) (k0_hw1 : k0_chk1 v4 v5), ∀ (k0_h1 : k0_cond1 v4 = 1#1), (Rect.unit (s := S4112x1024) (k0_off2 v5) S4096x1024.size (k0_off2_inb v4 v5 k0_hw1 k0_h1)).WholeWords (EltTy.packing .bf16) := fun v4 v5 k0_hw1 k0_h1 => k0_hw1.1.2.2.1 k0_h1 (k0_off2_inb v4 v5 k0_hw1 k0_h1)
theorem k0_mult3_dvd : ∀ (v4 : BitVec 32) (v5 : BitVec 32) (k0_hw1 : k0_chk1 v4 v5), ∀ (k0_h2 : k0_cond2 v4 = 1#1), 8 ∣ (k0_mult3 v4 v5).toNat := fun v4 v5 k0_hw1 k0_h2 => k0_hw1.1.2.2.2.1 k0_h2
theorem k0_off4_inb : ∀ (v4 : BitVec 32) (v5 : BitVec 32) (k0_hw1 : k0_chk1 v4 v5), ∀ (k0_h2 : k0_cond2 v4 = 1#1), ∀ a, (k0_off4 v4 v5) a + S2048x1024.size a ≤ S4112x1024.size a := fun v4 v5 k0_hw1 k0_h2 => k0_hw1.1.2.2.2.2.1 k0_h2
theorem k0_off4_wordsbf16 : ∀ (v4 : BitVec 32) (v5 : BitVec 32) (k0_hw1 : k0_chk1 v4 v5), ∀ (k0_h2 : k0_cond2 v4 = 1#1), (Rect.unit (s := S4112x1024) (k0_off4 v4 v5) S2048x1024.size (k0_off4_inb v4 v5 k0_hw1 k0_h2)).WholeWords (EltTy.packing .bf16) := fun v4 v5 k0_hw1 k0_h2 => k0_hw1.1.2.2.2.2.2.1 k0_h2 (k0_off4_inb v4 v5 k0_hw1 k0_h2)
theorem k0_mult5_dvd : ∀ (v4 : BitVec 32) (v5 : BitVec 32) (k0_hw1 : k0_chk1 v4 v5), ∀ (k0_h3 : k0_cond3 v4 = 1#1), 8 ∣ (k0_mult5 v4 v5).toNat := fun v4 v5 k0_hw1 k0_h3 => k0_hw1.1.2.2.2.2.2.2.1 k0_h3
theorem k0_off6_inb : ∀ (v4 : BitVec 32) (v5 : BitVec 32) (k0_hw1 : k0_chk1 v4 v5), ∀ (k0_h3 : k0_cond3 v4 = 1#1), ∀ a, (k0_off6 v4 v5) a + S1024x1024.size a ≤ S4112x1024.size a := fun v4 v5 k0_hw1 k0_h3 => k0_hw1.1.2.2.2.2.2.2.2.1 k0_h3
theorem k0_off6_wordsbf16 : ∀ (v4 : BitVec 32) (v5 : BitVec 32) (k0_hw1 : k0_chk1 v4 v5), ∀ (k0_h3 : k0_cond3 v4 = 1#1), (Rect.unit (s := S4112x1024) (k0_off6 v4 v5) S1024x1024.size (k0_off6_inb v4 v5 k0_hw1 k0_h3)).WholeWords (EltTy.packing .bf16) := fun v4 v5 k0_hw1 k0_h3 => k0_hw1.1.2.2.2.2.2.2.2.2.1 k0_h3 (k0_off6_inb v4 v5 k0_hw1 k0_h3)
theorem k0_mult7_dvd : ∀ (v4 : BitVec 32) (v5 : BitVec 32) (k0_hw1 : k0_chk1 v4 v5), ∀ (k0_h4 : k0_cond4 v4 = 1#1), 8 ∣ (k0_mult7 v4 v5).toNat := fun v4 v5 k0_hw1 k0_h4 => k0_hw1.1.2.2.2.2.2.2.2.2.2.1 k0_h4
theorem k0_off8_inb : ∀ (v4 : BitVec 32) (v5 : BitVec 32) (k0_hw1 : k0_chk1 v4 v5), ∀ (k0_h4 : k0_cond4 v4 = 1#1), ∀ a, (k0_off8 v4 v5) a + S512x1024.size a ≤ S4112x1024.size a := fun v4 v5 k0_hw1 k0_h4 => k0_hw1.1.2.2.2.2.2.2.2.2.2.2.1 k0_h4
theorem k0_off8_wordsbf16 : ∀ (v4 : BitVec 32) (v5 : BitVec 32) (k0_hw1 : k0_chk1 v4 v5), ∀ (k0_h4 : k0_cond4 v4 = 1#1), (Rect.unit (s := S4112x1024) (k0_off8 v4 v5) S512x1024.size (k0_off8_inb v4 v5 k0_hw1 k0_h4)).WholeWords (EltTy.packing .bf16) := fun v4 v5 k0_hw1 k0_h4 => k0_hw1.1.2.2.2.2.2.2.2.2.2.2.2.1 k0_h4 (k0_off8_inb v4 v5 k0_hw1 k0_h4)
theorem k0_mult9_dvd : ∀ (v4 : BitVec 32) (v5 : BitVec 32) (k0_hw1 : k0_chk1 v4 v5), ∀ (k0_h5 : k0_cond5 v4 = 1#1), 8 ∣ (k0_mult9 v4 v5).toNat := fun v4 v5 k0_hw1 k0_h5 => k0_hw1.1.2.2.2.2.2.2.2.2.2.2.2.2.1 k0_h5
theorem k0_off10_inb : ∀ (v4 : BitVec 32) (v5 : BitVec 32) (k0_hw1 : k0_chk1 v4 v5), ∀ (k0_h5 : k0_cond5 v4 = 1#1), ∀ a, (k0_off10 v4 v5) a + S256x1024.size a ≤ S4112x1024.size a := fun v4 v5 k0_hw1 k0_h5 => k0_hw1.1.2.2.2.2.2.2.2.2.2.2.2.2.2.1 k0_h5
theorem k0_off10_wordsbf16 : ∀ (v4 : BitVec 32) (v5 : BitVec 32) (k0_hw1 : k0_chk1 v4 v5), ∀ (k0_h5 : k0_cond5 v4 = 1#1), (Rect.unit (s := S4112x1024) (k0_off10 v4 v5) S256x1024.size (k0_off10_inb v4 v5 k0_hw1 k0_h5)).WholeWords (EltTy.packing .bf16) := fun v4 v5 k0_hw1 k0_h5 => k0_hw1.1.2.2.2.2.2.2.2.2.2.2.2.2.2.2.1 k0_h5 (k0_off10_inb v4 v5 k0_hw1 k0_h5)
theorem k0_mult11_dvd : ∀ (v4 : BitVec 32) (v5 : BitVec 32) (k0_hw1 : k0_chk1 v4 v5), ∀ (k0_h6 : k0_cond6 v4 = 1#1), 8 ∣ (k0_mult11 v4 v5).toNat := fun v4 v5 k0_hw1 k0_h6 => k0_hw1.1.2.2.2.2.2.2.2.2.2.2.2.2.2.2.2.1 k0_h6
theorem k0_off12_inb : ∀ (v4 : BitVec 32) (v5 : BitVec 32) (k0_hw1 : k0_chk1 v4 v5), ∀ (k0_h6 : k0_cond6 v4 = 1#1), ∀ a, (k0_off12 v4 v5) a + S128x1024.size a ≤ S4112x1024.size a := fun v4 v5 k0_hw1 k0_h6 => k0_hw1.1.2.2.2.2.2.2.2.2.2.2.2.2.2.2.2.2.1 k0_h6
theorem k0_off12_wordsbf16 : ∀ (v4 : BitVec 32) (v5 : BitVec 32) (k0_hw1 : k0_chk1 v4 v5), ∀ (k0_h6 : k0_cond6 v4 = 1#1), (Rect.unit (s := S4112x1024) (k0_off12 v4 v5) S128x1024.size (k0_off12_inb v4 v5 k0_hw1 k0_h6)).WholeWords (EltTy.packing .bf16) := fun v4 v5 k0_hw1 k0_h6 => k0_hw1.1.2.2.2.2.2.2.2.2.2.2.2.2.2.2.2.2.2.1 k0_h6 (k0_off12_inb v4 v5 k0_hw1 k0_h6)
theorem k0_mult13_dvd : ∀ (v4 : BitVec 32) (v5 : BitVec 32) (k0_hw1 : k0_chk1 v4 v5), ∀ (k0_h7 : k0_cond7 v4 = 1#1), 8 ∣ (k0_mult13 v4 v5).toNat := fun v4 v5 k0_hw1 k0_h7 => k0_hw1.1.2.2.2.2.2.2.2.2.2.2.2.2.2.2.2.2.2.2.1 k0_h7
theorem k0_off14_inb : ∀ (v4 : BitVec 32) (v5 : BitVec 32) (k0_hw1 : k0_chk1 v4 v5), ∀ (k0_h7 : k0_cond7 v4 = 1#1), ∀ a, (k0_off14 v4 v5) a + S64x1024.size a ≤ S4112x1024.size a := fun v4 v5 k0_hw1 k0_h7 => k0_hw1.1.2.2.2.2.2.2.2.2.2.2.2.2.2.2.2.2.2.2.2.1 k0_h7
theorem k0_off14_wordsbf16 : ∀ (v4 : BitVec 32) (v5 : BitVec 32) (k0_hw1 : k0_chk1 v4 v5), ∀ (k0_h7 : k0_cond7 v4 = 1#1), (Rect.unit (s := S4112x1024) (k0_off14 v4 v5) S64x1024.size (k0_off14_inb v4 v5 k0_hw1 k0_h7)).WholeWords (EltTy.packing .bf16) := fun v4 v5 k0_hw1 k0_h7 => k0_hw1.1.2.2.2.2.2.2.2.2.2.2.2.2.2.2.2.2.2.2.2.2.1 k0_h7 (k0_off14_inb v4 v5 k0_hw1 k0_h7)
theorem k0_mult15_dvd : ∀ (v4 : BitVec 32) (v5 : BitVec 32) (k0_hw1 : k0_chk1 v4 v5), ∀ (k0_h8 : k0_cond8 v4 = 1#1), 8 ∣ (k0_mult15 v4 v5).toNat := fun v4 v5 k0_hw1 k0_h8 => k0_hw1.1.2.2.2.2.2.2.2.2.2.2.2.2.2.2.2.2.2.2.2.2.2.1 k0_h8
theorem k0_off16_inb : ∀ (v4 : BitVec 32) (v5 : BitVec 32) (k0_hw1 : k0_chk1 v4 v5), ∀ (k0_h8 : k0_cond8 v4 = 1#1), ∀ a, (k0_off16 v4 v5) a + S32x1024.size a ≤ S4112x1024.size a := fun v4 v5 k0_hw1 k0_h8 => k0_hw1.1.2.2.2.2.2.2.2.2.2.2.2.2.2.2.2.2.2.2.2.2.2.2.1 k0_h8
theorem k0_off16_wordsbf16 : ∀ (v4 : BitVec 32) (v5 : BitVec 32) (k0_hw1 : k0_chk1 v4 v5), ∀ (k0_h8 : k0_cond8 v4 = 1#1), (Rect.unit (s := S4112x1024) (k0_off16 v4 v5) S32x1024.size (k0_off16_inb v4 v5 k0_hw1 k0_h8)).WholeWords (EltTy.packing .bf16) := fun v4 v5 k0_hw1 k0_h8 => k0_hw1.1.2.2.2.2.2.2.2.2.2.2.2.2.2.2.2.2.2.2.2.2.2.2.2.1 k0_h8 (k0_off16_inb v4 v5 k0_hw1 k0_h8)
theorem k0_mult17_dvd : ∀ (v4 : BitVec 32) (v5 : BitVec 32) (k0_hw1 : k0_chk1 v4 v5), ∀ (k0_h9 : k0_cond9 v4 = 1#1), 8 ∣ (k0_mult17 v4 v5).toNat := fun v4 v5 k0_hw1 k0_h9 => k0_hw1.1.2.2.2.2.2.2.2.2.2.2.2.2.2.2.2.2.2.2.2.2.2.2.2.2.1 k0_h9
theorem k0_off18_inb : ∀ (v4 : BitVec 32) (v5 : BitVec 32) (k0_hw1 : k0_chk1 v4 v5), ∀ (k0_h9 : k0_cond9 v4 = 1#1), ∀ a, (k0_off18 v4 v5) a + S16x1024.size a ≤ S4112x1024.size a := fun v4 v5 k0_hw1 k0_h9 => k0_hw1.1.2.2.2.2.2.2.2.2.2.2.2.2.2.2.2.2.2.2.2.2.2.2.2.2.2.1 k0_h9
theorem k0_off18_wordsbf16 : ∀ (v4 : BitVec 32) (v5 : BitVec 32) (k0_hw1 : k0_chk1 v4 v5), ∀ (k0_h9 : k0_cond9 v4 = 1#1), (Rect.unit (s := S4112x1024) (k0_off18 v4 v5) S16x1024.size (k0_off18_inb v4 v5 k0_hw1 k0_h9)).WholeWords (EltTy.packing .bf16) := fun v4 v5 k0_hw1 k0_h9 => k0_hw1.1.2.2.2.2.2.2.2.2.2.2.2.2.2.2.2.2.2.2.2.2.2.2.2.2.2.2.1 k0_h9 (k0_off18_inb v4 v5 k0_hw1 k0_h9)
theorem k0_mult19_dvd : ∀ (v4 : BitVec 32) (v5 : BitVec 32) (k0_hw1 : k0_chk1 v4 v5), ∀ (k0_h10 : k0_cond10 v4 = 1#1), 8 ∣ (k0_mult19 v4 v5).toNat := fun v4 v5 k0_hw1 k0_h10 => k0_hw1.1.2.2.2.2.2.2.2.2.2.2.2.2.2.2.2.2.2.2.2.2.2.2.2.2.2.2.2.1 k0_h10
theorem k0_off20_inb : ∀ (v4 : BitVec 32) (v5 : BitVec 32) (k0_hw1 : k0_chk1 v4 v5), ∀ (k0_h10 : k0_cond10 v4 = 1#1), ∀ a, (k0_off20 v4 v5) a + S8x1024.size a ≤ S4112x1024.size a := fun v4 v5 k0_hw1 k0_h10 => k0_hw1.1.2.2.2.2.2.2.2.2.2.2.2.2.2.2.2.2.2.2.2.2.2.2.2.2.2.2.2.2.1 k0_h10
theorem k0_off20_wordsbf16 : ∀ (v4 : BitVec 32) (v5 : BitVec 32) (k0_hw1 : k0_chk1 v4 v5), ∀ (k0_h10 : k0_cond10 v4 = 1#1), (Rect.unit (s := S4112x1024) (k0_off20 v4 v5) S8x1024.size (k0_off20_inb v4 v5 k0_hw1 k0_h10)).WholeWords (EltTy.packing .bf16) := fun v4 v5 k0_hw1 k0_h10 => k0_hw1.1.2.2.2.2.2.2.2.2.2.2.2.2.2.2.2.2.2.2.2.2.2.2.2.2.2.2.2.2.2.1 k0_h10 (k0_off20_inb v4 v5 k0_hw1 k0_h10)
theorem k0_mult41_dvd : ∀ (v4 : BitVec 32) (v5 : BitVec 32) (k0_hw1 : k0_chk1 v4 v5), ∀ (k0_h31 : k0_cond31 v4 = 1#1), 8 ∣ (k0_mult41 v5).toNat := fun v4 v5 k0_hw1 k0_h31 => k0_hw1.1.2.2.2.2.2.2.2.2.2.2.2.2.2.2.2.2.2.2.2.2.2.2.2.2.2.2.2.2.2.2.1 k0_h31
theorem k0_off41_inb : ∀ (v4 : BitVec 32) (v5 : BitVec 32) (k0_hw1 : k0_chk1 v4 v5), ∀ (k0_h31 : k0_cond31 v4 = 1#1), ∀ a, (k0_off41 v5) a + S4096x1024.size a ≤ S4112x1024.size a := fun v4 v5 k0_hw1 k0_h31 => k0_hw1.1.2.2.2.2.2.2.2.2.2.2.2.2.2.2.2.2.2.2.2.2.2.2.2.2.2.2.2.2.2.2.2 k0_h31
theorem k0_off41_wordsbf16 : ∀ (v4 : BitVec 32) (v5 : BitVec 32) (k0_hw1 : k0_chk1 v4 v5), ∀ (k0_h31 : k0_cond31 v4 = 1#1), (Rect.unit (s := S4112x1024) (k0_off41 v5) S4096x1024.size (k0_off41_inb v4 v5 k0_hw1 k0_h31)).WholeWords (EltTy.packing .bf16) := fun v4 v5 k0_hw1 k0_h31 => k0_hw1.2.1 k0_h31 (k0_off41_inb v4 v5 k0_hw1 k0_h31)
theorem k0_mult43_dvd : ∀ (v4 : BitVec 32) (v5 : BitVec 32) (k0_hw1 : k0_chk1 v4 v5), ∀ (k0_h32 : k0_cond32 v4 = 1#1), 8 ∣ (k0_mult43 v4 v5).toNat := fun v4 v5 k0_hw1 k0_h32 => k0_hw1.2.2.1 k0_h32
theorem k0_off43_inb : ∀ (v4 : BitVec 32) (v5 : BitVec 32) (k0_hw1 : k0_chk1 v4 v5), ∀ (k0_h32 : k0_cond32 v4 = 1#1), ∀ a, (k0_off43 v4 v5) a + S2048x1024.size a ≤ S4112x1024.size a := fun v4 v5 k0_hw1 k0_h32 => k0_hw1.2.2.2.1 k0_h32
theorem k0_off43_wordsbf16 : ∀ (v4 : BitVec 32) (v5 : BitVec 32) (k0_hw1 : k0_chk1 v4 v5), ∀ (k0_h32 : k0_cond32 v4 = 1#1), (Rect.unit (s := S4112x1024) (k0_off43 v4 v5) S2048x1024.size (k0_off43_inb v4 v5 k0_hw1 k0_h32)).WholeWords (EltTy.packing .bf16) := fun v4 v5 k0_hw1 k0_h32 => k0_hw1.2.2.2.2.1 k0_h32 (k0_off43_inb v4 v5 k0_hw1 k0_h32)
theorem k0_mult45_dvd : ∀ (v4 : BitVec 32) (v5 : BitVec 32) (k0_hw1 : k0_chk1 v4 v5), ∀ (k0_h33 : k0_cond33 v4 = 1#1), 8 ∣ (k0_mult45 v4 v5).toNat := fun v4 v5 k0_hw1 k0_h33 => k0_hw1.2.2.2.2.2.1 k0_h33
theorem k0_off45_inb : ∀ (v4 : BitVec 32) (v5 : BitVec 32) (k0_hw1 : k0_chk1 v4 v5), ∀ (k0_h33 : k0_cond33 v4 = 1#1), ∀ a, (k0_off45 v4 v5) a + S1024x1024.size a ≤ S4112x1024.size a := fun v4 v5 k0_hw1 k0_h33 => k0_hw1.2.2.2.2.2.2.1 k0_h33
theorem k0_off45_wordsbf16 : ∀ (v4 : BitVec 32) (v5 : BitVec 32) (k0_hw1 : k0_chk1 v4 v5), ∀ (k0_h33 : k0_cond33 v4 = 1#1), (Rect.unit (s := S4112x1024) (k0_off45 v4 v5) S1024x1024.size (k0_off45_inb v4 v5 k0_hw1 k0_h33)).WholeWords (EltTy.packing .bf16) := fun v4 v5 k0_hw1 k0_h33 => k0_hw1.2.2.2.2.2.2.2.1 k0_h33 (k0_off45_inb v4 v5 k0_hw1 k0_h33)
theorem k0_mult47_dvd : ∀ (v4 : BitVec 32) (v5 : BitVec 32) (k0_hw1 : k0_chk1 v4 v5), ∀ (k0_h34 : k0_cond34 v4 = 1#1), 8 ∣ (k0_mult47 v4 v5).toNat := fun v4 v5 k0_hw1 k0_h34 => k0_hw1.2.2.2.2.2.2.2.2.1 k0_h34
theorem k0_off47_inb : ∀ (v4 : BitVec 32) (v5 : BitVec 32) (k0_hw1 : k0_chk1 v4 v5), ∀ (k0_h34 : k0_cond34 v4 = 1#1), ∀ a, (k0_off47 v4 v5) a + S512x1024.size a ≤ S4112x1024.size a := fun v4 v5 k0_hw1 k0_h34 => k0_hw1.2.2.2.2.2.2.2.2.2.1 k0_h34
theorem k0_off47_wordsbf16 : ∀ (v4 : BitVec 32) (v5 : BitVec 32) (k0_hw1 : k0_chk1 v4 v5), ∀ (k0_h34 : k0_cond34 v4 = 1#1), (Rect.unit (s := S4112x1024) (k0_off47 v4 v5) S512x1024.size (k0_off47_inb v4 v5 k0_hw1 k0_h34)).WholeWords (EltTy.packing .bf16) := fun v4 v5 k0_hw1 k0_h34 => k0_hw1.2.2.2.2.2.2.2.2.2.2.1 k0_h34 (k0_off47_inb v4 v5 k0_hw1 k0_h34)
theorem k0_mult49_dvd : ∀ (v4 : BitVec 32) (v5 : BitVec 32) (k0_hw1 : k0_chk1 v4 v5), ∀ (k0_h35 : k0_cond35 v4 = 1#1), 8 ∣ (k0_mult49 v4 v5).toNat := fun v4 v5 k0_hw1 k0_h35 => k0_hw1.2.2.2.2.2.2.2.2.2.2.2.1 k0_h35
theorem k0_off49_inb : ∀ (v4 : BitVec 32) (v5 : BitVec 32) (k0_hw1 : k0_chk1 v4 v5), ∀ (k0_h35 : k0_cond35 v4 = 1#1), ∀ a, (k0_off49 v4 v5) a + S256x1024.size a ≤ S4112x1024.size a := fun v4 v5 k0_hw1 k0_h35 => k0_hw1.2.2.2.2.2.2.2.2.2.2.2.2.1 k0_h35
theorem k0_off49_wordsbf16 : ∀ (v4 : BitVec 32) (v5 : BitVec 32) (k0_hw1 : k0_chk1 v4 v5), ∀ (k0_h35 : k0_cond35 v4 = 1#1), (Rect.unit (s := S4112x1024) (k0_off49 v4 v5) S256x1024.size (k0_off49_inb v4 v5 k0_hw1 k0_h35)).WholeWords (EltTy.packing .bf16) := fun v4 v5 k0_hw1 k0_h35 => k0_hw1.2.2.2.2.2.2.2.2.2.2.2.2.2.1 k0_h35 (k0_off49_inb v4 v5 k0_hw1 k0_h35)
theorem k0_mult51_dvd : ∀ (v4 : BitVec 32) (v5 : BitVec 32) (k0_hw1 : k0_chk1 v4 v5), ∀ (k0_h36 : k0_cond36 v4 = 1#1), 8 ∣ (k0_mult51 v4 v5).toNat := fun v4 v5 k0_hw1 k0_h36 => k0_hw1.2.2.2.2.2.2.2.2.2.2.2.2.2.2.1 k0_h36
theorem k0_off51_inb : ∀ (v4 : BitVec 32) (v5 : BitVec 32) (k0_hw1 : k0_chk1 v4 v5), ∀ (k0_h36 : k0_cond36 v4 = 1#1), ∀ a, (k0_off51 v4 v5) a + S128x1024.size a ≤ S4112x1024.size a := fun v4 v5 k0_hw1 k0_h36 => k0_hw1.2.2.2.2.2.2.2.2.2.2.2.2.2.2.2.1 k0_h36
theorem k0_off51_wordsbf16 : ∀ (v4 : BitVec 32) (v5 : BitVec 32) (k0_hw1 : k0_chk1 v4 v5), ∀ (k0_h36 : k0_cond36 v4 = 1#1), (Rect.unit (s := S4112x1024) (k0_off51 v4 v5) S128x1024.size (k0_off51_inb v4 v5 k0_hw1 k0_h36)).WholeWords (EltTy.packing .bf16) := fun v4 v5 k0_hw1 k0_h36 => k0_hw1.2.2.2.2.2.2.2.2.2.2.2.2.2.2.2.2.1 k0_h36 (k0_off51_inb v4 v5 k0_hw1 k0_h36)
theorem k0_mult53_dvd : ∀ (v4 : BitVec 32) (v5 : BitVec 32) (k0_hw1 : k0_chk1 v4 v5), ∀ (k0_h37 : k0_cond37 v4 = 1#1), 8 ∣ (k0_mult53 v4 v5).toNat := fun v4 v5 k0_hw1 k0_h37 => k0_hw1.2.2.2.2.2.2.2.2.2.2.2.2.2.2.2.2.2.1 k0_h37
theorem k0_off53_inb : ∀ (v4 : BitVec 32) (v5 : BitVec 32) (k0_hw1 : k0_chk1 v4 v5), ∀ (k0_h37 : k0_cond37 v4 = 1#1), ∀ a, (k0_off53 v4 v5) a + S64x1024.size a ≤ S4112x1024.size a := fun v4 v5 k0_hw1 k0_h37 => k0_hw1.2.2.2.2.2.2.2.2.2.2.2.2.2.2.2.2.2.2.1 k0_h37
theorem k0_off53_wordsbf16 : ∀ (v4 : BitVec 32) (v5 : BitVec 32) (k0_hw1 : k0_chk1 v4 v5), ∀ (k0_h37 : k0_cond37 v4 = 1#1), (Rect.unit (s := S4112x1024) (k0_off53 v4 v5) S64x1024.size (k0_off53_inb v4 v5 k0_hw1 k0_h37)).WholeWords (EltTy.packing .bf16) := fun v4 v5 k0_hw1 k0_h37 => k0_hw1.2.2.2.2.2.2.2.2.2.2.2.2.2.2.2.2.2.2.2.1 k0_h37 (k0_off53_inb v4 v5 k0_hw1 k0_h37)
theorem k0_mult55_dvd : ∀ (v4 : BitVec 32) (v5 : BitVec 32) (k0_hw1 : k0_chk1 v4 v5), ∀ (k0_h38 : k0_cond38 v4 = 1#1), 8 ∣ (k0_mult55 v4 v5).toNat := fun v4 v5 k0_hw1 k0_h38 => k0_hw1.2.2.2.2.2.2.2.2.2.2.2.2.2.2.2.2.2.2.2.2.1 k0_h38
theorem k0_off55_inb : ∀ (v4 : BitVec 32) (v5 : BitVec 32) (k0_hw1 : k0_chk1 v4 v5), ∀ (k0_h38 : k0_cond38 v4 = 1#1), ∀ a, (k0_off55 v4 v5) a + S32x1024.size a ≤ S4112x1024.size a := fun v4 v5 k0_hw1 k0_h38 => k0_hw1.2.2.2.2.2.2.2.2.2.2.2.2.2.2.2.2.2.2.2.2.2.1 k0_h38
theorem k0_off55_wordsbf16 : ∀ (v4 : BitVec 32) (v5 : BitVec 32) (k0_hw1 : k0_chk1 v4 v5), ∀ (k0_h38 : k0_cond38 v4 = 1#1), (Rect.unit (s := S4112x1024) (k0_off55 v4 v5) S32x1024.size (k0_off55_inb v4 v5 k0_hw1 k0_h38)).WholeWords (EltTy.packing .bf16) := fun v4 v5 k0_hw1 k0_h38 => k0_hw1.2.2.2.2.2.2.2.2.2.2.2.2.2.2.2.2.2.2.2.2.2.2.1 k0_h38 (k0_off55_inb v4 v5 k0_hw1 k0_h38)
theorem k0_mult57_dvd : ∀ (v4 : BitVec 32) (v5 : BitVec 32) (k0_hw1 : k0_chk1 v4 v5), ∀ (k0_h39 : k0_cond39 v4 = 1#1), 8 ∣ (k0_mult57 v4 v5).toNat := fun v4 v5 k0_hw1 k0_h39 => k0_hw1.2.2.2.2.2.2.2.2.2.2.2.2.2.2.2.2.2.2.2.2.2.2.2.1 k0_h39
theorem k0_off57_inb : ∀ (v4 : BitVec 32) (v5 : BitVec 32) (k0_hw1 : k0_chk1 v4 v5), ∀ (k0_h39 : k0_cond39 v4 = 1#1), ∀ a, (k0_off57 v4 v5) a + S16x1024.size a ≤ S4112x1024.size a := fun v4 v5 k0_hw1 k0_h39 => k0_hw1.2.2.2.2.2.2.2.2.2.2.2.2.2.2.2.2.2.2.2.2.2.2.2.2.1 k0_h39
theorem k0_off57_wordsbf16 : ∀ (v4 : BitVec 32) (v5 : BitVec 32) (k0_hw1 : k0_chk1 v4 v5), ∀ (k0_h39 : k0_cond39 v4 = 1#1), (Rect.unit (s := S4112x1024) (k0_off57 v4 v5) S16x1024.size (k0_off57_inb v4 v5 k0_hw1 k0_h39)).WholeWords (EltTy.packing .bf16) := fun v4 v5 k0_hw1 k0_h39 => k0_hw1.2.2.2.2.2.2.2.2.2.2.2.2.2.2.2.2.2.2.2.2.2.2.2.2.2.1 k0_h39 (k0_off57_inb v4 v5 k0_hw1 k0_h39)
theorem k0_mult59_dvd : ∀ (v4 : BitVec 32) (v5 : BitVec 32) (k0_hw1 : k0_chk1 v4 v5), ∀ (k0_h40 : k0_cond40 v4 = 1#1), 8 ∣ (k0_mult59 v4 v5).toNat := fun v4 v5 k0_hw1 k0_h40 => k0_hw1.2.2.2.2.2.2.2.2.2.2.2.2.2.2.2.2.2.2.2.2.2.2.2.2.2.2.1 k0_h40
theorem k0_off59_inb : ∀ (v4 : BitVec 32) (v5 : BitVec 32) (k0_hw1 : k0_chk1 v4 v5), ∀ (k0_h40 : k0_cond40 v4 = 1#1), ∀ a, (k0_off59 v4 v5) a + S8x1024.size a ≤ S4112x1024.size a := fun v4 v5 k0_hw1 k0_h40 => k0_hw1.2.2.2.2.2.2.2.2.2.2.2.2.2.2.2.2.2.2.2.2.2.2.2.2.2.2.2.1 k0_h40
theorem k0_off59_wordsbf16 : ∀ (v4 : BitVec 32) (v5 : BitVec 32) (k0_hw1 : k0_chk1 v4 v5), ∀ (k0_h40 : k0_cond40 v4 = 1#1), (Rect.unit (s := S4112x1024) (k0_off59 v4 v5) S8x1024.size (k0_off59_inb v4 v5 k0_hw1 k0_h40)).WholeWords (EltTy.packing .bf16) := fun v4 v5 k0_hw1 k0_h40 => k0_hw1.2.2.2.2.2.2.2.2.2.2.2.2.2.2.2.2.2.2.2.2.2.2.2.2.2.2.2.2 k0_h40 (k0_off59_inb v4 v5 k0_hw1 k0_h40)

abbrev stage0_0 : Fin 1 → Memref sig .tc .smem S7 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4112x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S8192x1024 : Shape := ⟨2, ![8192, 1024]⟩
abbrev S8192 : Shape := ⟨1, ![8192]⟩
abbrev S_ : Shape := ⟨0, ![]⟩
abbrev S8192x1 : Shape := ⟨2, ![8192, 1]⟩

abbrev nBuf : Space → Nat
  | .hbm => 14
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192, .i32⟩
  | .hbm, ⟨2, _⟩ => ⟨S8192, .i32⟩
  | .hbm, ⟨3, _⟩ => ⟨S8192, .i32⟩
  | .hbm, ⟨4, _⟩ => ⟨S8192, .i32⟩
  | .hbm, ⟨5, _⟩ => ⟨S_, .i32⟩
  | .hbm, ⟨6, _⟩ => ⟨S8192, .i32⟩
  | .hbm, ⟨7, _⟩ => ⟨S8192, .i1⟩
  | .hbm, ⟨8, _⟩ => ⟨S_, .i32⟩
  | .hbm, ⟨9, _⟩ => ⟨S8192, .i32⟩
  | .hbm, ⟨10, _⟩ => ⟨S8192, .i32⟩
  | .hbm, ⟨11, _⟩ => ⟨S8192, .i32⟩
  | .hbm, ⟨12, _⟩ => ⟨S8192x1, .i32⟩
  | .hbm, ⟨13, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Proof.Arith.lean ====
/-
  The arithmetic of the schedule.

  A run of `L` rows (a multiple of 8, below 8192) is moved as one block of `2 ^ b` rows per set bit `b` of `L`, highest bit
  first: block `b` starts `L / 2 ^ (b + 1) * 2 ^ (b + 1)` rows into the run. This module says so of the words the kernel
  computes (`bitW_iff`, `offW_toNat`), and that the side conditions the kernel assumes of the words it reads hold of them.
-/
module

public import proofs.«01_k».proof.Proof.Gen.KernelIdeal
public import Mathlib.Tactic.Ring

@[expose] public section

namespace Cert.Proof

open Cert.KernelIdeal Cert.KernelIdeal.Gen
open Idealize.ShloMosaic

/-- Bit `b` of a word, as a word. -/
def wbit (v : BitVec 32) (b : ℕ) : BitVec 32 := Scalar.andi (Scalar.shrsi v (BitVec.ofNat 32 b)) 1#32

/-- The kernel's test of bit `b`. -/
def bitW (v : BitVec 32) (b : ℕ) : BitVec 1 := Scalar.cmpi .ne (Scalar.extui (Scalar.cmpi .eq (wbit v b) 1#32)) 0#32

/-- The kernel's running offset before its `j`-th block, the one of bit `12 - j`. -/
def offW (v : BitVec 32) : ℕ → BitVec 32
  | 0 => 0#32
  | j + 1 => Scalar.addi (offW v j) (Scalar.muli (wbit v (12 - j)) (BitVec.ofNat 32 (2 ^ (12 - j))))

/-- Where block `b` of a run of `L` rows starts. -/
def blkOff (L b : ℕ) : ℕ := L / 2 ^ (b + 1) * 2 ^ (b + 1)

theorem wbit_ofNat (L : ℕ) (hL : L < 2 ^ 31) (b : ℕ) (hb : b < 32) : wbit (BitVec.ofNat 32 L) b = BitVec.ofNat 32 (L / 2 ^ b % 2) := by
  unfold wbit Scalar.andi Scalar.shrsi IntOp.andi IntOp.shrsi
  have hb' : (BitVec.ofNat 32 b).toNat = b := by rw [BitVec.toNat_ofNat]; omega
  rw [hb', if_pos hb, BitVec.sshiftRight_eq', hb']
  have hm : (BitVec.ofNat 32 L).msb = false := by
    rw [BitVec.msb_eq_false_iff_two_mul_lt, BitVec.toNat_ofNat]; omega
  rw [BitVec.sshiftRight_eq_of_msb_false hm]
  apply BitVec.eq_of_toNat_eq
  rw [BitVec.toNat_and, BitVec.toNat_ushiftRight, BitVec.toNat_ofNat, BitVec.toNat_ofNat, BitVec.toNat_ofNat, Nat.shiftRight_eq_div_pow,
    Nat.mod_eq_of_lt (show L < 2 ^ 32 by omega), show 1 % 2 ^ 32 = 1 from rfl, Nat.and_one_is_mod]
  omega

theorem bitW_iff (L : ℕ) (hL : L < 2 ^ 31) (b : ℕ) (hb : b < 32) : bitW (BitVec.ofNat 32 L) b = 1#1 ↔ L.testBit b = true := by
  unfold bitW; rw [wbit_ofNat L hL b hb, Nat.testBit_eq_decide_div_mod_eq]
  rcases Nat.mod_two_eq_zero_or_one (L / 2 ^ b) with h | h <;> rw [h] <;> decide

theorem blkOff_succ (L b : ℕ) : blkOff L b = blkOff L (b + 1) + (L / 2 ^ (b + 1) % 2) * 2 ^ (b + 1) := by
  unfold blkOff
  have h1 : L / 2 ^ (b + 1 + 1) = L / 2 ^ (b + 1) / 2 := by rw [Nat.div_div_eq_div_mul, ← Nat.pow_succ]
  rw [h1, Nat.pow_succ 2 (b + 1)]
  generalize L / 2 ^ (b + 1) = q
  generalize 2 ^ (b + 1) = p
  have := Nat.div_add_mod q 2
  calc q * p = (2 * (q / 2) + q % 2) * p := by rw [this]
    _ = _ := by ring

theorem blkOff_le (L b : ℕ) : blkOff L b ≤ L := Nat.div_mul_le_self ..

theorem offW_ofNat (L : ℕ) (hL : L < 8192) (j : ℕ) (hj : j ≤ 12) : offW (BitVec.ofNat 32 L) j = BitVec.ofNat 32 (blkOff L (12 - j)) := by
  induction j with
  | zero =>
    unfold offW blkOff
    rw [Nat.div_eq_of_lt (by simpa using hL)]; rfl
  | succ j ih =>
    rw [offW, ih (by omega), wbit_ofNat L (by omega) _ (by omega)]
    have h := blkOff_succ L (12 - (j + 1))
    rw [show 12 - (j + 1) + 1 = 12 - j by omega] at h
    rw [h]
    unfold Scalar.addi Scalar.muli IntOp.addi IntOp.muli
    rw [← BitVec.ofNat_mul, ← BitVec.ofNat_add]

/-- The word the kernel addresses block `12 - j` by. -/
theorem addr_toNat (s L : ℕ) (hL : L < 8192) (hs : s < 8192) (j : ℕ) (hj : j ≤ 12) :
    (Scalar.addi (BitVec.ofNat 32 s) (offW (BitVec.ofNat 32 L) j)).toNat = s + blkOff L (12 - j) := by
  rw [offW_ofNat L hL j hj]
  unfold Scalar.addi IntOp.addi
  have := blkOff_le L (12 - j)
  rw [← BitVec.ofNat_add, BitVec.toNat_ofNat]; omega

/-- The end of a block lies within the run. -/
theorem blkOff_add_le (L b : ℕ) (h : L.testBit b = true) : blkOff L b + 2 ^ b ≤ L := by
  rw [Nat.testBit_eq_decide_div_mod_eq, decide_eq_true_eq] at h
  unfold blkOff
  have h1 : L / 2 ^ (b + 1) = L / 2 ^ b / 2 := by rw [Nat.div_div_eq_div_mul, ← Nat.pow_succ]
  have h2 := Nat.div_mul_le_self L (2 ^ b)
  have h3 := Nat.div_add_mod (L / 2 ^ b) 2
  rw [h1, Nat.pow_succ]
  calc L / 2 ^ b / 2 * (2 ^ b * 2) + 2 ^ b = (2 * (L / 2 ^ b / 2) + 1) * 2 ^ b := by ring
    _ = L / 2 ^ b * 2 ^ b := by rw [← h, h3]
    _ ≤ L := h2

/-- Blocks of eight rows or more start at a multiple of eight. -/
theorem blkOff_dvd (L b : ℕ) (hb : 2 ≤ b) : 8 ∣ blkOff L b := by
  unfold blkOff
  exact Dvd.dvd.mul_left (pow_dvd_pow 2 (show 3 ≤ b + 1 by omega)) _

/-! ### The side conditions the kernel assumes -/

section Checks

variable {L s : ℕ} (hL : L ≤ 4096) (hs : 8 ∣ s) (hLs : s + L ≤ 4112)
include hL hs hLs

theorem chk_mult (j : ℕ) (hj : j ≤ 9) : 8 ∣ (Scalar.addi (BitVec.ofNat 32 s) (offW (BitVec.ofNat 32 L) j)).toNat := by
  rw [addr_toNat s L (by omega) (by omega) j (by omega)]
  exact Dvd.dvd.add hs (blkOff_dvd L _ (by omega))

theorem chk_inb (j : ℕ) (hj : j ≤ 9) {size : Fin 2 → ℕ} (hz : size = ![2 ^ (12 - j), 1024]) (h : bitW (BitVec.ofNat 32 L) (12 - j) = 1#1) :
    ∀ a, (![(Scalar.addi (BitVec.ofNat 32 s) (offW (BitVec.ofNat 32 L) j)).toNat, 0] : Fin 2 → ℕ) a + size a ≤ S4112x1024.size a := by
  rw [addr_toNat s L (by omega) (by omega) j (by omega), hz]
  have h1 := blkOff_add_le L (12 - j) ((bitW_iff L (by omega) _ (by omega)).mp h)
  intro a
  match a with
  | 0 => show s + blkOff L (12 - j) + 2 ^ (12 - j) ≤ 4112; omega
  | 1 => show 0 + 1024 ≤ 1024; omega

theorem chk_words (j : ℕ) (hj : j ≤ 9) {size : Fin 2 → ℕ} (hz : size = ![2 ^ (12 - j), 1024])
    (hinb : ∀ a, (![(Scalar.addi (BitVec.ofNat 32 s) (offW (BitVec.ofNat 32 L) j)).toNat, 0] : Fin 2 → ℕ) a + size a ≤ S4112x1024.size a) :
    (Rect.unit (s := S4112x1024) ![(Scalar.addi (BitVec.ofNat 32 s) (offW (BitVec.ofNat 32 L) j)).toNat, 0] size hinb).WholeWords
      (EltTy.packing .bf16) := by
  refine .inl (.inr ⟨by decide, rfl, .inl ⟨?_, ?_⟩⟩)
  · exact Dvd.dvd.trans (show 2 ∣ 8 by decide) (chk_mult hL hs hLs j hj)
  · subst hz
    show 2 ∣ 2 ^ (12 - j)
    exact dvd_pow_self 2 (by omega)

theorem chk1 : k0_chk1 (BitVec.ofNat 32 L) (BitVec.ofNat 32 s) :=
  ⟨⟨fun _ => chk_mult hL hs hLs 0 (by decide), fun h => chk_inb hL hs hLs 0 (by decide) rfl h, fun _ hinb => chk_words hL hs hLs 0 (by decide) rfl hinb,
    fun _ => chk_mult hL hs hLs 1 (by decide), fun h => chk_inb hL hs hLs 1 (by decide) rfl h, fun _ hinb => chk_words hL hs hLs 1 (by decide) rfl hinb,
    fun _ => chk_mult hL hs hLs 2 (by decide), fun h => chk_inb hL hs hLs 2 (by decide) rfl h, fun _ hinb => chk_words hL hs hLs 2 (by decide) rfl hinb,
    fun _ => chk_mult hL hs hLs 3 (by decide), fun h => chk_inb hL hs hLs 3 (by decide) rfl h, fun _ hinb => chk_words hL hs hLs 3 (by decide) rfl hinb,
    fun _ => chk_mult hL hs hLs 4 (by decide), fun h => chk_inb hL hs hLs 4 (by decide) rfl h, fun _ hinb => chk_words hL hs hLs 4 (by decide) rfl hinb,
    fun _ => chk_mult hL hs hLs 5 (by decide), fun h => chk_inb hL hs hLs 5 (by decide) rfl h, fun _ hinb => chk_words hL hs hLs 5 (by decide) rfl hinb,
    fun _ => chk_mult hL hs hLs 6 (by decide), fun h => chk_inb hL hs hLs 6 (by decide) rfl h, fun _ hinb => chk_words hL hs hLs 6 (by decide) rfl hinb,
    fun _ => chk_mult hL hs hLs 7 (by decide), fun h => chk_inb hL hs hLs 7 (by decide) rfl h, fun _ hinb => chk_words hL hs hLs 7 (by decide) rfl hinb,
    fun _ => chk_mult hL hs hLs 8 (by decide), fun h => chk_inb hL hs hLs 8 (by decide) rfl h, fun _ hinb => chk_words hL hs hLs 8 (by decide) rfl hinb,
    fun _ => chk_mult hL hs hLs 9 (by decide), fun h => chk_inb hL hs hLs 9 (by decide) rfl h, fun _ hinb => chk_words hL hs hLs 9 (by decide) rfl hinb,
    fun _ => chk_mult hL hs hLs 0 (by decide), fun h => chk_inb hL hs hLs 0 (by decide) rfl h⟩,
   ⟨fun _ hinb => chk_words hL hs hLs 0 (by decide) rfl hinb, fun _ => chk_mult hL hs hLs 1 (by decide), fun h => chk_inb hL hs hLs 1 (by decide) rfl h,
    fun _ hinb => chk_words hL hs hLs 1 (by decide) rfl hinb, fun _ => chk_mult hL hs hLs 2 (by decide), fun h => chk_inb hL hs hLs 2 (by decide) rfl h,
    fun _ hinb => chk_words hL hs hLs 2 (by decide) rfl hinb, fun _ => chk_mult hL hs hLs 3 (by decide), fun h => chk_inb hL hs hLs 3 (by decide) rfl h,
    fun _ hinb => chk_words hL hs hLs 3 (by decide) rfl hinb, fun _ => chk_mult hL hs hLs 4 (by decide), fun h => chk_inb hL hs hLs 4 (by decide) rfl h,
    fun _ hinb => chk_words hL hs hLs 4 (by decide) rfl hinb, fun _ => chk_mult hL hs hLs 5 (by decide), fun h => chk_inb hL hs hLs 5 (by decide) rfl h,
    fun _ hinb => chk_words hL hs hLs 5 (by decide) rfl hinb, fun _ => chk_mult hL hs hLs 6 (by decide), fun h => chk_inb hL hs hLs 6 (by decide) rfl h,
    fun _ hinb => chk_words hL hs hLs 6 (by decide) rfl hinb, fun _ => chk_mult hL hs hLs 7 (by decide), fun h => chk_inb hL hs hLs 7 (by decide) rfl h,
    fun _ hinb => chk_words hL hs hLs 7 (by decide) rfl hinb, fun _ => chk_mult hL hs hLs 8 (by decide), fun h => chk_inb hL hs hLs 8 (by decide) rfl h,
    fun _ hinb => chk_words hL hs hLs 8 (by decide) rfl hinb, fun _ => chk_mult hL hs hLs 9 (by decide), fun h => chk_inb hL hs hLs 9 (by decide) rfl h,
    fun _ hinb => chk_words hL hs hLs 9 (by decide) rfl hinb⟩⟩

theorem chk2 : k0_chk2 (BitVec.ofNat 32 L) (BitVec.ofNat 32 s) :=
  ⟨⟨fun _ => chk_mult hL hs hLs 0 (by decide), fun h => chk_inb hL hs hLs 0 (by decide) rfl h, fun _ hinb => chk_words hL hs hLs 0 (by decide) rfl hinb,
    fun _ => chk_mult hL hs hLs 1 (by decide), fun h => chk_inb hL hs hLs 1 (by decide) rfl h, fun _ hinb => chk_words hL hs hLs 1 (by decide) rfl hinb,
    fun _ => chk_mult hL hs hLs 2 (by decide), fun h => chk_inb hL hs hLs 2 (by decide) rfl h, fun _ hinb => chk_words hL hs hLs 2 (by decide) rfl hinb,
    fun _ => chk_mult hL hs hLs 3 (by decide), fun h => chk_inb hL hs hLs 3 (by decide) rfl h, fun _ hinb => chk_words hL hs hLs 3 (by decide) rfl hinb,
    fun _ => chk_mult hL hs hLs 4 (by decide), fun h => chk_inb hL hs hLs 4 (by decide) rfl h, fun _ hinb => chk_words hL hs hLs 4 (by decide) rfl hinb,
    fun _ => chk_mult hL hs hLs 5 (by decide), fun h => chk_inb hL hs hLs 5 (by decide) rfl h, fun _ hinb => chk_words hL hs hLs 5 (by decide) rfl hinb,
    fun _ => chk_mult hL hs hLs 6 (by decide), fun h => chk_inb hL hs hLs 6 (by decide) rfl h, fun _ hinb => chk_words hL hs hLs 6 (by decide) rfl hinb,
    fun _ => chk_mult hL hs hLs 7 (by decide), fun h => chk_inb hL hs hLs 7 (by decide) rfl h, fun _ hinb => chk_words hL hs hLs 7 (by decide) rfl hinb,
    fun _ => chk_mult hL hs hLs 8 (by decide), fun h => chk_inb hL hs hLs 8 (by decide) rfl h, fun _ hinb => chk_words hL hs hLs 8 (by decide) rfl hinb,
    fun _ => chk_mult hL hs hLs 9 (by decide), fun h => chk_inb hL hs hLs 9 (by decide) rfl h, fun _ hinb => chk_words hL hs hLs 9 (by decide) rfl hinb,
    fun _ => chk_mult hL hs hLs 0 (by decide), fun h => chk_inb hL hs hLs 0 (by decide) rfl h⟩,
   ⟨fun _ hinb => chk_words hL hs hLs 0 (by decide) rfl hinb, fun _ => chk_mult hL hs hLs 1 (by decide), fun h => chk_inb hL hs hLs 1 (by decide) rfl h,
    fun _ hinb => chk_words hL hs hLs 1 (by decide) rfl hinb, fun _ => chk_mult hL hs hLs 2 (by decide), fun h => chk_inb hL hs hLs 2 (by decide) rfl h,
    fun _ hinb => chk_words hL hs hLs 2 (by decide) rfl hinb, fun _ => chk_mult hL hs hLs 3 (by decide), fun h => chk_inb hL hs hLs 3 (by decide) rfl h,
    fun _ hinb => chk_words hL hs hLs 3 (by decide) rfl hinb, fun _ => chk_mult hL hs hLs 4 (by decide), fun h => chk_inb hL hs hLs 4 (by decide) rfl h,
    fun _ hinb => chk_words hL hs hLs 4 (by decide) rfl hinb, fun _ => chk_mult hL hs hLs 5 (by decide), fun h => chk_inb hL hs hLs 5 (by decide) rfl h,
    fun _ hinb => chk_words hL hs hLs 5 (by decide) rfl hinb, fun _ => chk_mult hL hs hLs 6 (by decide), fun h => chk_inb hL hs hLs 6 (by decide) rfl h,
    fun _ hinb => chk_words hL hs hLs 6 (by decide) rfl hinb, fun _ => chk_mult hL hs hLs 7 (by decide), fun h => chk_inb hL hs hLs 7 (by decide) rfl h,
    fun _ hinb => chk_words hL hs hLs 7 (by decide) rfl hinb, fun _ => chk_mult hL hs hLs 8 (by decide), fun h => chk_inb hL hs hLs 8 (by decide) rfl h,
    fun _ hinb => chk_words hL hs hLs 8 (by decide) rfl hinb, fun _ => chk_mult hL hs hLs 9 (by decide), fun h => chk_inb hL hs hLs 9 (by decide) rfl h,
    fun _ hinb => chk_words hL hs hLs 9 (by decide) rfl hinb⟩⟩

theorem chk3 : k0_chk3 (BitVec.ofNat 32 s) (BitVec.ofNat 32 L) :=
  ⟨⟨fun _ => chk_mult hL hs hLs 0 (by decide), fun h => chk_inb hL hs hLs 0 (by decide) rfl h, fun _ hinb => chk_words hL hs hLs 0 (by decide) rfl hinb,
    fun _ => chk_mult hL hs hLs 1 (by decide), fun h => chk_inb hL hs hLs 1 (by decide) rfl h, fun _ hinb => chk_words hL hs hLs 1 (by decide) rfl hinb,
    fun _ => chk_mult hL hs hLs 2 (by decide), fun h => chk_inb hL hs hLs 2 (by decide) rfl h, fun _ hinb => chk_words hL hs hLs 2 (by decide) rfl hinb,
    fun _ => chk_mult hL hs hLs 3 (by decide), fun h => chk_inb hL hs hLs 3 (by decide) rfl h, fun _ hinb => chk_words hL hs hLs 3 (by decide) rfl hinb,
    fun _ => chk_mult hL hs hLs 4 (by decide), fun h => chk_inb hL hs hLs 4 (by decide) rfl h, fun _ hinb => chk_words hL hs hLs 4 (by decide) rfl hinb,
    fun _ => chk_mult hL hs hLs 5 (by decide), fun h => chk_inb hL hs hLs 5 (by decide) rfl h, fun _ hinb => chk_words hL hs hLs 5 (by decide) rfl hinb,
    fun _ => chk_mult hL hs hLs 6 (by decide), fun h => chk_inb hL hs hLs 6 (by decide) rfl h, fun _ hinb => chk_words hL hs hLs 6 (by decide) rfl hinb,
    fun _ => chk_mult hL hs hLs 7 (by decide), fun h => chk_inb hL hs hLs 7 (by decide) rfl h, fun _ hinb => chk_words hL hs hLs 7 (by decide) rfl hinb,
    fun _ => chk_mult hL hs hLs 8 (by decide), fun h => chk_inb hL hs hLs 8 (by decide) rfl h, fun _ hinb => chk_words hL hs hLs 8 (by decide) rfl hinb,
    fun _ => chk_mult hL hs hLs 9 (by decide), fun h => chk_inb hL hs hLs 9 (by decide) rfl h, fun _ hinb => chk_words hL hs hLs 9 (by decide) rfl hinb,
    fun _ => chk_mult hL hs hLs 0 (by decide), fun h => chk_inb hL hs hLs 0 (by decide) rfl h⟩,
   ⟨fun _ hinb => chk_words hL hs hLs 0 (by decide) rfl hinb, fun _ => chk_mult hL hs hLs 1 (by decide), fun h => chk_inb hL hs hLs 1 (by decide) rfl h,
    fun _ hinb => chk_words hL hs hLs 1 (by decide) rfl hinb, fun _ => chk_mult hL hs hLs 2 (by decide), fun h => chk_inb hL hs hLs 2 (by decide) rfl h,
    fun _ hinb => chk_words hL hs hLs 2 (by decide) rfl hinb, fun _ => chk_mult hL hs hLs 3 (by decide), fun h => chk_inb hL hs hLs 3 (by decide) rfl h,
    fun _ hinb => chk_words hL hs hLs 3 (by decide) rfl hinb, fun _ => chk_mult hL hs hLs 4 (by decide), fun h => chk_inb hL hs hLs 4 (by decide) rfl h,
    fun _ hinb => chk_words hL hs hLs 4 (by decide) rfl hinb, fun _ => chk_mult hL hs hLs 5 (by decide), fun h => chk_inb hL hs hLs 5 (by decide) rfl h,
    fun _ hinb => chk_words hL hs hLs 5 (by decide) rfl hinb, fun _ => chk_mult hL hs hLs 6 (by decide), fun h => chk_inb hL hs hLs 6 (by decide) rfl h,
    fun _ hinb => chk_words hL hs hLs 6 (by decide) rfl hinb, fun _ => chk_mult hL hs hLs 7 (by decide), fun h => chk_inb hL hs hLs 7 (by decide) rfl h,
    fun _ hinb => chk_words hL hs hLs 7 (by decide) rfl hinb, fun _ => chk_mult hL hs hLs 8 (by decide), fun h => chk_inb hL hs hLs 8 (by decide) rfl h,
    fun _ hinb => chk_words hL hs hLs 8 (by decide) rfl hinb, fun _ => chk_mult hL hs hLs 9 (by decide), fun h => chk_inb hL hs hLs 9 (by decide) rfl h,
    fun _ hinb => chk_words hL hs hLs 9 (by decide) rfl hinb⟩⟩

end Checks

end Cert.Proof
-- ==== Proof.Rows.lean ====
/-
  Blocks of whole rows of the two [4112, 1024] buffers.

  `rowsOf a n` is the set of the elements of rows `a … a + n - 1`. A slice of whole rows covers exactly such a set
  (`slice_set`), and a copy from one slice to another moves row `r` of the destination from row `r - d + s` of the source
  (`copied`). A run of `L` rows is the disjoint union of its blocks, one per set bit of `L` (`run_blocks`).
-/
module

public import proofs.«01_k».proof.Proof.Arith
public import proofs.«01_k».proof.Proof.Gen.KernelIdeal.Launch
public import Idealize.ShloMosaic.Lib.Pipeline.ValueKit.Geometry

@[expose] public section

noncomputable section

namespace Cert.Proof

open Cert.KernelIdeal Cert.KernelIdeal.Gen
open Idealize.ShloMosaic

variable {F : FTy → Type}

/-- Contents of a [4112, 1024] buffer. -/
abbrev Buf4112 (F : FTy → Type) : Type := S4112x1024.Idx → Elt F .bf16

/-- Rows `a … a + n - 1`. -/
def rowsOf (a n : ℕ) : Finset S4112x1024.Idx := Finset.univ.filter fun i => a ≤ (i 0).val ∧ (i 0).val < a + n

theorem mem_rowsOf {a n : ℕ} {i : S4112x1024.Idx} : i ∈ rowsOf a n ↔ a ≤ (i 0).val ∧ (i 0).val < a + n := by
  simp [rowsOf]

theorem rowsOf_disjoint {a n b k : ℕ} (h : a + n ≤ b ∨ b + k ≤ a) : Disjoint (rowsOf a n) (rowsOf b k) :=
  Finset.disjoint_left.mpr fun i h1 h2 => by rw [mem_rowsOf] at h1 h2; omega

theorem rowsOf_union (a n k : ℕ) : rowsOf a n ∪ rowsOf (a + n) k = rowsOf a (n + k) := by
  ext i; rw [Finset.mem_union, mem_rowsOf, mem_rowsOf, mem_rowsOf]; omega

theorem rowsOf_all : rowsOf 0 4112 = Finset.univ := by
  ext i
  have h : (i 0).val < 4112 := (i 0).isLt
  rw [mem_rowsOf]; simp only [Finset.mem_univ, iff_true]; omega

/-! ### Slices of whole rows -/

/-- A unit-stride rectangle of whole rows is those rows. -/
theorem rect_set (off size : Fin 2 → ℕ) (inb : ∀ a, off a + size a ≤ S4112x1024.size a)
    (a n : ℕ) (hoff : off = ![a, 0]) (hsize : size = ![n, 1024]) :
    (Rect.unit (s := S4112x1024) off size inb).set = rowsOf a n := by
  subst hoff hsize
  ext i
  rw [Rect.mem_set_unit, mem_rowsOf]
  constructor
  · intro h; exact h 0
  · intro h k
    match k with
    | 0 => exact h
    | 1 =>
      have h1 : (i 1).val < 1024 := (i 1).isLt
      exact ⟨Nat.zero_le _, by show (i 1).val < 0 + 1024; omega⟩

/-- The packed rows: operand 1's staging buffer. -/
abbrev packedM : Memref sig .tc .vmem S4112x1024 .bf16 := Memref.whole cc0_stg1_0
/-- The landing rows: the kernel's scratch buffer. -/
abbrev commM : Memref sig .tc .vmem S4112x1024 .bf16 := Memref.whole cc0_scratch0

theorem packed_slice_set (off size : Fin 2 → ℕ) (inb) (hs) (a n : ℕ) (hoff : off = ![a, 0]) (hsize : size = ![n, 1024]) :
    (packedM.slice (Rect.unit (s := S4112x1024) off size inb) hs).view.set = rowsOf a n :=
  (View.set_slice_whole _ _).trans (rect_set off size inb a n hoff hsize)

theorem comm_slice_set (off size : Fin 2 → ℕ) (inb) (hs) (a n : ℕ) (hoff : off = ![a, 0]) (hsize : size = ![n, 1024]) :
    (commM.slice (Rect.unit (s := S4112x1024) off size inb) hs).view.set = rowsOf a n :=
  (View.set_slice_whole _ _).trans (rect_set off size inb a n hoff hsize)

/-- Row `i` of the source run that row `i` of the destination run is copied from. -/
def srcIdx (s d : ℕ) (i : S4112x1024.Idx) : S4112x1024.Idx := fun k =>
  match k with
  | 0 => ⟨((i 0).val - d + s) % 4112, Nat.mod_lt _ (by decide)⟩
  | 1 => i 1

/-- Contents moved from the run starting at row `s` to the run starting at row `d`. -/
def moved (s d : ℕ) (f : Buf4112 F) : Buf4112 F := fun i => f (srcIdx s d i)

theorem moved_self (s : ℕ) (f : Buf4112 F) (i : S4112x1024.Idx) (h : s ≤ (i 0).val) : moved s s f i = f i := by
  unfold moved
  congr 1
  funext k
  have h0 : (i 0).val < 4112 := (i 0).isLt
  match k with
  | 0 => exact Fin.ext (by show ((i 0).val - s + s) % 4112 = (i 0).val; rw [Nat.sub_add_cancel h, Nat.mod_eq_of_lt h0])
  | 1 => rfl

/-- Block `o` of a run keeps the displacement of the run. -/
theorem moved_block (s d o : ℕ) (f : Buf4112 F) (i : S4112x1024.Idx) (h : d + o ≤ (i 0).val) :
    moved (s + o) (d + o) f i = moved s d f i := by
  unfold moved
  congr 1
  funext k
  match k with
  | 0 => exact Fin.ext (by show ((i 0).val - (d + o) + (s + o)) % 4112 = ((i 0).val - d + s) % 4112; congr 1; omega)
  | 1 => rfl

/-- What a copy of `n` rows from row `s` of the packed rows to row `d` of the landing rows leaves there. -/
theorem copied (offs offd size : Fin 2 → ℕ) (inbs inbd) (hs hd) (s d n : ℕ) (hoffs : offs = ![s, 0]) (hoffd : offd = ![d, 0])
    (hsize : size = ![n, 1024]) (fs fd : Buf4112 F) (i : S4112x1024.Idx) (hi : i ∈ rowsOf d n) :
    (commM.slice (Rect.unit (s := S4112x1024) offd size inbd) hd).view.write (Elt F) fd
      ((packedM.slice (Rect.unit (s := S4112x1024) offs size inbs) hs).view.read (Elt F) fs) Finset.univ i
    = moved s d fs i := by
  have hmem : i ∈ (commM.slice (Rect.unit (s := S4112x1024) offd size inbd) hd).view.set := by
    rw [comm_slice_set offd size inbd hd d n hoffd hsize]; exact hi
  obtain ⟨x, -, hx⟩ := Finset.mem_map.mp hmem
  rw [← hx, View.write_emb_of_mem _ _ (Finset.mem_univ _)]
  subst hoffs hoffd hsize
  show fs _ = fs _
  congr 1
  funext k
  have hbs : s + n ≤ 4112 := inbs 0
  have hx0 : (x 0).val < n := (x 0).isLt
  have e (m : ℕ) (inb) (k : Fin 2) : ((Rect.unit (s := S4112x1024) ![m, 0] ![n, 1024] inb).emb x k : ℕ) = ![m, 0] k + x k :=
    Idealize.ShloMosaic.ValueKit.rect_emb_unit_val _ _ _ _ _
  match k with
  | 0 =>
    refine Fin.ext ((e s inbs 0).trans ?_)
    show s + (x 0).val = (((Rect.unit (s := S4112x1024) ![d, 0] ![n, 1024] inbd).emb x 0 : ℕ) - d + s) % 4112
    rw [e d inbd 0]
    show s + (x 0).val = (d + (x 0).val - d + s) % 4112
    rw [Nat.mod_eq_of_lt (by omega)]; omega
  | 1 =>
    refine Fin.ext ((e s inbs 1).trans (Eq.trans ?_ (e d inbd 1).symm))
    rfl

/-! ### The blocks of a run -/

/-- The bits of `L` that move a block of rows: bit `b` set, at least 8 rows. -/
def bits (L : ℕ) : Finset (Fin 13) := Finset.univ.filter fun b => 3 ≤ b.val ∧ L.testBit b.val = true

theorem mem_bits {L : ℕ} {b : Fin 13} : b ∈ bits L ↔ 3 ≤ b.val ∧ L.testBit b.val = true := by simp [bits]

/-- The rows of block `b` of a run of `L` rows from row `base`. -/
def blockRows (base L : ℕ) (b : Fin 13) : Finset S4112x1024.Idx := rowsOf (base + blkOff L b.val) (2 ^ b.val)

theorem blkOff_mono_add (L : ℕ) {b b' : ℕ} (h : b < b') (hb : L.testBit b' = true) : blkOff L b' + 2 ^ b' ≤ blkOff L b := by
  have h1 : L / 2 ^ b' * 2 ^ b' ≤ blkOff L b := by
    unfold blkOff
    obtain ⟨e, rfl⟩ : ∃ e, b' = b + 1 + e := ⟨b' - (b + 1), by omega⟩
    rw [pow_add, ← Nat.div_div_eq_div_mul, mul_comm (2 ^ (b+1)) (2 ^ e), ← mul_assoc]
    exact Nat.mul_le_mul_right _ (Nat.div_mul_le_self _ _)
  have h2 : L / 2 ^ b' * 2 ^ b' = blkOff L b' + 2 ^ b' := by
    unfold blkOff
    rw [Nat.testBit_eq_decide_div_mod_eq, decide_eq_true_eq] at hb
    rw [pow_succ, ← Nat.div_div_eq_div_mul, ← mul_assoc]
    have := Nat.div_add_mod (L / 2 ^ b') 2
    rw [hb] at this
    calc L / 2 ^ b' * 2 ^ b' = (2 * (L / 2 ^ b' / 2) + 1) * 2 ^ b' := by rw [this]
      _ = _ := by ring
  omega

theorem blocks_disjoint (base L : ℕ) (b : Fin 13) (hb : b ∈ bits L) (b' : Fin 13) (hb' : b' ∈ bits L) (h : b ≠ b') :
    Disjoint (blockRows base L b) (blockRows base L b') := by
  rw [mem_bits] at hb hb'
  rcases Nat.lt_or_gt_of_ne (fun e => h (Fin.ext e)) with h | h
  · have := blkOff_mono_add L h hb'.2
    exact rowsOf_disjoint (by omega)
  · have := blkOff_mono_add L h hb.2
    exact rowsOf_disjoint (by omega)

/-- A run is the union of its blocks. -/
theorem blocks_union (base L : ℕ) (hL : L < 8192) (h8 : 8 ∣ L) : (bits L).biUnion (blockRows base L) = rowsOf base L := by
  have key : ∀ j, j ≤ 10 → ((bits L).filter fun b => 13 - j ≤ b.val).biUnion (blockRows base L)
      = rowsOf base (L / 2 ^ (13 - j) * 2 ^ (13 - j)) := by
    intro j
    induction j with
    | zero =>
      intro _
      have : L / 2 ^ 13 = 0 := Nat.div_eq_of_lt (by omega)
      rw [this, Finset.filter_eq_empty_iff.mpr (fun b _ => by have := b.isLt; omega)]
      ext i
      simp only [Finset.biUnion_empty, Finset.notMem_empty, mem_rowsOf, false_iff]; omega
    | succ j ih =>
      intro hj
      obtain ⟨b, hb⟩ : ∃ b : Fin 13, b.val = 13 - (j + 1) := ⟨⟨13 - (j + 1), by omega⟩, rfl⟩
      have e1 : 13 - j = b.val + 1 := by omega
      have ih' := ih (by omega)
      rw [e1] at ih'
      rw [← hb]
      by_cases ht : L.testBit b.val = true
      · have hmem : b ∈ bits L := mem_bits.mpr ⟨by omega, ht⟩
        have hs : ((bits L).filter fun x => b.val ≤ x.val) = insert b ((bits L).filter fun x => b.val + 1 ≤ x.val) := by
          ext x
          simp only [Finset.mem_insert, Finset.mem_filter]
          constructor
          · rintro ⟨h1, h2⟩
            by_cases e : x = b
            · exact Or.inl e
            · exact Or.inr ⟨h1, by have := fun e' => e (Fin.ext e'); omega⟩
          · rintro (rfl | ⟨h1, h2⟩)
            · exact ⟨hmem, le_refl _⟩
            · exact ⟨h1, by omega⟩
        have hq : L / 2 ^ b.val * 2 ^ b.val = L / 2 ^ (b.val + 1) * 2 ^ (b.val + 1) + 2 ^ b.val := by
          rw [Nat.testBit_eq_decide_div_mod_eq, decide_eq_true_eq] at ht
          rw [pow_succ, ← Nat.div_div_eq_div_mul, ← mul_assoc]
          have := Nat.div_add_mod (L / 2 ^ b.val) 2
          rw [ht] at this
          calc L / 2 ^ b.val * 2 ^ b.val = (2 * (L / 2 ^ b.val / 2) + 1) * 2 ^ b.val := by rw [this]
            _ = _ := by ring
        rw [hs, Finset.biUnion_insert, ih', hq, ← rowsOf_union, Finset.union_comm]
        rfl
      · have hs : ((bits L).filter fun x => b.val ≤ x.val) = ((bits L).filter fun x => b.val + 1 ≤ x.val) := by
          refine Finset.filter_congr fun x hx => ⟨fun h => ?_, fun h => by omega⟩
          rcases Nat.lt_or_eq_of_le h with h | h
          · exact h
          · exact absurd (h ▸ (mem_bits.mp hx).2) ht
        have hq : L / 2 ^ b.val * 2 ^ b.val = L / 2 ^ (b.val + 1) * 2 ^ (b.val + 1) := by
          rw [Nat.testBit_eq_decide_div_mod_eq, decide_eq_true_eq] at ht
          rw [pow_succ, ← Nat.div_div_eq_div_mul, mul_comm (2 ^ b.val) 2, ← mul_assoc]
          have := Nat.div_add_mod (L / 2 ^ b.val) 2
          congr 1; omega
        rw [hs, ih', hq]
  have h3 := key 10 (le_refl _)
  have e : 13 - 10 = 3 := rfl
  rw [e] at h3
  have hf : ((bits L).filter fun b => 3 ≤ b.val) = bits L := Finset.filter_true_of_mem fun b hb => (mem_bits.mp hb).1
  rw [hf, show (2 : ℕ) ^ 3 = 8 from rfl, Nat.div_mul_cancel h8] at h3
  exact h3

end Cert.Proof
-- ==== Proof.Protocol.lean ====
/-
  The protocol between the two devices.

  Device `c` has one barrier cell and, per power of two `2^b`, a copy, a send and a receive cell. With `k` the number of
  rows that device 0 keeps:
  * `c`'s barrier cell: signalled once by the other device `pr c`, waited for once by `c`. The unit hands over the rows of
    `pr c`'s landing buffer that `c` is to write, at any contents, and that `pr c`'s receive cells are at round 0.
  * `c`'s receive cell `b` (bit `b` of the number of rows sent is set): credited by the block `b` that `pr c` sends;
    hands over the block's rows of the landing buffer, holding the rows of `pr c`'s packed buffer.
  * `c`'s send cell `b`: credited by `c`'s own block `b`; hands the block's packed rows back.
  * `c`'s copy cell `b` (bit `b` of the number of rows kept is set): credited by the copy of block `b` that stays on the
    device; hands over the block's rows of the landing buffer, holding the packed rows, and the packed rows.
  A device waits for its barrier while it owes the receive cells of the other device; afterwards it sends everything and
  waits owing nothing. The levels are barrier 1, receive 2, everything else 0.
-/
module

public import proofs.«01_k».proof.Proof.Rows
public import Idealize.ShloMosaic.Lib.Rounds
public import Idealize.ShloMosaic.Lib.Pipeline.Regions
public import Idealize.ShloMosaic.Lib.Pipeline.Kit
public import Idealize.ShloMosaic.Lib.Tactic

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-- The pipeline's ghost state beside the protocol's. -/
abbrev UU : Type := UR sig nD τ × UR sig nD τ

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) := embR
abbrev 𝒱₀ : Variants := Variants.none

/-! ### Devices, cells -/

/-- The other device. -/
def pr (c : Dev nD) : Dev nD := ⟨1 - c.val, by have : c.val < 2 := c.isLt; show 1 - c.val < 2; omega⟩
theorem pr_pr (c : Dev nD) : pr (pr c) = c := by revert c; decide
/-- The exchange of the two devices. -/
def swapDev : Dev nD ≃ Dev nD := ⟨pr, pr, pr_pr, pr_pr⟩

abbrev barS : Sem sig := sig.barrier 0 rfl
abbrev copyS (b : Fin 13) : DmaSem sig := ⟨3 + b.val, by have := b.isLt; show 3 + b.val < 42; omega⟩
abbrev sendS (b : Fin 13) : DmaSem sig := ⟨16 + b.val, by have := b.isLt; show 16 + b.val < 42; omega⟩
abbrev recvS (b : Fin 13) : DmaSem sig := ⟨29 + b.val, by have := b.isLt; show 29 + b.val < 42; omega⟩

abbrev barCell (c : Dev nD) : GSem nD τ sig := ((c : Thread nD τ), .reg barS)
abbrev copyCell (c : Dev nD) (b : Fin 13) : GSem nD τ sig := ((c : Thread nD τ), .dma (copyS b))
abbrev sendCell (c : Dev nD) (b : Fin 13) : GSem nD τ sig := ((c : Thread nD τ), .dma (sendS b))
abbrev recvCell (c : Dev nD) (b : Fin 13) : GSem nD τ sig := ((c : Thread nD τ), .dma (recvS b))

/-- The kernel's own DMA semaphores. -/
def osem : Fin 3 × Fin 13 → SemLoc sig
  | (0, b) => .dma (copyS b)
  | (1, b) => .dma (sendS b)
  | (2, b) => .dma (recvS b)

/-- What a semaphore is to the protocol. -/
inductive Role
  | bar
  | copy (b : Fin 13)
  | send (b : Fin 13)
  | recv (b : Fin 13)
  | other
deriving DecidableEq

/-- The role of a semaphore. -/
def role : SemLoc sig → Role
  | .reg _ => .bar
  | .dma s =>
    if h : 3 ≤ s.val ∧ s.val < 16 then .copy ⟨s.val - 3, by omega⟩
    else if h : 16 ≤ s.val ∧ s.val < 29 then .send ⟨s.val - 16, by omega⟩
    else if h : 29 ≤ s.val ∧ s.val < 42 then .recv ⟨s.val - 29, by omega⟩
    else .other

theorem role_bar : role (.reg barS) = .bar := rfl
theorem role_copy (b : Fin 13) : role (.dma (copyS b)) = .copy b := by revert b; decide
theorem role_send (b : Fin 13) : role (.dma (sendS b)) = .send b := by revert b; decide
theorem role_recv (b : Fin 13) : role (.dma (recvS b)) = .recv b := by revert b; decide

/-! ### The plan: where the rows go, `k` rows of device 0's staying there -/

/-- `n` rounded up to a multiple of eight. -/
def up8 (n : ℕ) : ℕ := (n + 7) / 8 * 8
/-- Rows each device sends, padding included. -/
def sendLen (k : ℕ) : ℕ := up8 (4096 - k)
/-- Rows each device keeps, padding included. -/
def keepLen (k : ℕ) : ℕ := up8 k
/-- The first row that device `c` sends, which is also the first row it receives into. -/
def src (k : ℕ) (c : Dev nD) : ℕ := if c = 0 then up8 k else 0
/-- The first row that device `c` keeps. -/
def keep (k : ℕ) (c : Dev nD) : ℕ := if c = 0 then 0 else up8 (4096 - k)

theorem up8_dvd (n : ℕ) : 8 ∣ up8 n := Dvd.intro_left _ rfl
theorem le_up8 (n : ℕ) : n ≤ up8 n := by unfold up8; omega
theorem up8_le (n : ℕ) : up8 n ≤ n + 7 := by unfold up8; omega

theorem up8_le_4096 {n : ℕ} (h : n ≤ 4096) : up8 n ≤ 4096 := by unfold up8; omega
theorem up8_add {k : ℕ} (h : k ≤ 4096) : up8 k + up8 (4096 - k) ≤ 4104 := by unfold up8; omega

theorem src_add (k : ℕ) (hk : k ≤ 4096) (c : Dev nD) : src k c + sendLen k ≤ 4104 := by
  unfold src sendLen
  have := up8_add hk
  split <;> omega
theorem keep_add (k : ℕ) (hk : k ≤ 4096) (c : Dev nD) : keep k c + keepLen k ≤ 4104 := by
  unfold keep keepLen
  have := up8_add hk
  split <;> omega
theorem src_keep_disjoint (k : ℕ) (c : Dev nD) : Disjoint (rowsOf (src k c) (sendLen k)) (rowsOf (keep k c) (keepLen k)) := by
  apply rowsOf_disjoint
  unfold src keep sendLen keepLen
  split <;> omega

/-! ### Assertions about rows -/

abbrev commLoc (c : Dev nD) : Loc nD τ sig := (c : Thread nD τ).loc cc0_scratch0
abbrev packedLoc (c : Dev nD) : Loc nD τ sig := (c : Thread nD τ).loc cc0_stg1_0

/-- Device `c`'s landing rows `I`, holding `f`. -/
abbrev commPts (c : Dev nD) (I : Finset S4112x1024.Idx) (f : Buf4112 F) : sProp 𝕄 := commLoc c ↦[I]{fullShare} f
/-- Device `c`'s packed rows `I`, holding `f`. -/
abbrev packedPts (c : Dev nD) (I : Finset S4112x1024.Idx) (f : Buf4112 F) : sProp 𝕄 := packedLoc c ↦[I]{fullShare} f

/-- The units that a block of `2^b` rows is worth. -/
def N (b : Fin 13) : ℕ := RefSig.tileCredit ⟨2, ![2 ^ b.val, 1024]⟩ .bf16
theorem N_pos (b : Fin 13) : 0 < N b := RefSig.tileCredit_pos _ _ (by
  show 0 < ∏ a : Fin 2, (![2 ^ b.val, 1024] : Fin 2 → ℕ) a
  rw [Fin.prod_univ_two]
  exact Nat.mul_pos (Nat.pow_pos (by decide)) (Nat.zero_lt_succ 1023))

variable (k : ℕ) (x : Dev nD → Buf4112 F)

/-- What arrives on device `c`. -/
def arrived (c : Dev nD) : Buf4112 F := moved (src k (pr c)) (src k c) (x (pr c))

def barPay (c : Dev nD) : sProp 𝕄 :=
  iprop((∃ f, commPts (pr c) (rowsOf (src k (pr c)) (sendLen k)) f) ∗ bigSep Finset.univ fun b => reached ER (recvCell (pr c) b) 0)
def recvPay (c : Dev nD) (b : Fin 13) : sProp 𝕄 := commPts c (blockRows (src k c) (sendLen k) b) (arrived k x c)
def sendPay (c : Dev nD) (b : Fin 13) : sProp 𝕄 := packedPts c (blockRows (src k c) (sendLen k) b) (x c)
def copyPay (c : Dev nD) (b : Fin 13) : sProp 𝕄 :=
  iprop(commPts c (blockRows (keep k c) (keepLen k) b) (x c) ∗ packedPts c (blockRows (keep k c) (keepLen k) b) (x c))

/-! ### The schedule -/

/-- One duty at round 0 of a barrier cell and of the cells of the bits that are set; none later. -/
def rd : Rounds.Schedule (GSem nD τ sig) Unit 𝕄 where
  duties g r := if r = 0 ∧ g.1.2 = .tc then
      match role g.2 with
      | .bar => {()}
      | .copy b => if b ∈ bits (keepLen k) then {()} else ∅
      | .send b => if b ∈ bits (sendLen k) then {()} else ∅
      | .recv b => if b ∈ bits (sendLen k) then {()} else ∅
      | .other => ∅
    else ∅
  unitless _ := False
  amount g _ _ := match role g.2 with
    | .bar => 1
    | .copy b => N b
    | .send b => N b
    | .recv b => N b
    | .other => 1
  payload g _ _ := match role g.2 with
    | .bar => barPay k g.1.1
    | .copy b => copyPay k x g.1.1 b
    | .send b => sendPay k x g.1.1 b
    | .recv b => recvPay k x g.1.1 b
    | .other => iprop(emp)
  amount_pos g _ _ _ := by
    split
    · exact Nat.one_pos
    · exact N_pos _
    · exact N_pos _
    · exact N_pos _
    · exact Nat.one_pos

instance rd_payload_storable (g : GSem nD τ sig) (r : ℕ) (d : Unit) :
    BI.Storable (upEmb : UEmb _ 𝕄) ((rd k x).payload g r d) := by
  dsimp only [rd]
  unfold barPay copyPay sendPay recvPay
  split <;> infer_instance

section Sched

variable (c : Dev nD) (b : Fin 13)

theorem duties_bar : (rd k x).duties (barCell c) 0 = {()} := by dsimp only [rd]; exact if_pos ⟨rfl, rfl⟩
theorem duties_copy (h : b ∈ bits (keepLen k)) : (rd k x).duties (copyCell c b) 0 = {()} := by
  dsimp only [rd]; rw [if_pos ⟨rfl, rfl⟩, role_copy]; exact if_pos h
theorem duties_send (h : b ∈ bits (sendLen k)) : (rd k x).duties (sendCell c b) 0 = {()} := by
  dsimp only [rd]; rw [if_pos ⟨rfl, rfl⟩, role_send]; exact if_pos h
theorem duties_recv (h : b ∈ bits (sendLen k)) : (rd k x).duties (recvCell c b) 0 = {()} := by
  dsimp only [rd]; rw [if_pos ⟨rfl, rfl⟩, role_recv]; exact if_pos h
theorem duties_copy_none (h : b ∉ bits (keepLen k)) : (rd k x).duties (copyCell c b) 0 = ∅ := by
  dsimp only [rd]; rw [if_pos ⟨rfl, rfl⟩, role_copy]; exact if_neg h
theorem duties_send_none (h : b ∉ bits (sendLen k)) : (rd k x).duties (sendCell c b) 0 = ∅ := by
  dsimp only [rd]; rw [if_pos ⟨rfl, rfl⟩, role_send]; exact if_neg h
theorem duties_recv_none (h : b ∉ bits (sendLen k)) : (rd k x).duties (recvCell c b) 0 = ∅ := by
  dsimp only [rd]; rw [if_pos ⟨rfl, rfl⟩, role_recv]; exact if_neg h
theorem duties_later (g : GSem nD τ sig) : ∀ r, 1 ≤ r → (rd k x).duties g r = ∅ :=
  fun r hr => by dsimp only [rd]; exact if_neg (fun h => by omega)
theorem duties_never (g : GSem nD τ sig) (h0 : (rd k x).duties g 0 = ∅) : ∀ r, 0 ≤ r → (rd k x).duties g r = ∅ := by
  intro r _
  rcases Nat.eq_zero_or_pos r with rfl | h
  · exact h0
  · exact duties_later k x g r h

theorem amount_bar (u : Unit) : (rd k x).amount (barCell c) 0 u = 1 := rfl
theorem amount_copy (u : Unit) : (rd k x).amount (copyCell c b) 0 u = N b := by dsimp only [rd]; rw [role_copy]
theorem amount_send (u : Unit) : (rd k x).amount (sendCell c b) 0 u = N b := by dsimp only [rd]; rw [role_send]
theorem amount_recv (u : Unit) : (rd k x).amount (recvCell c b) 0 u = N b := by dsimp only [rd]; rw [role_recv]

theorem payload_bar (u : Unit) : (rd k x).payload (barCell c) 0 u = barPay k c := rfl
theorem payload_copy (u : Unit) : (rd k x).payload (copyCell c b) 0 u = copyPay k x c b := by dsimp only [rd]; rw [role_copy]
theorem payload_send (u : Unit) : (rd k x).payload (sendCell c b) 0 u = sendPay k x c b := by dsimp only [rd]; rw [role_send]
theorem payload_recv (u : Unit) : (rd k x).payload (recvCell c b) 0 u = recvPay k x c b := by dsimp only [rd]; rw [role_recv]

theorem expect_one (g : GSem nD τ sig) (n : ℕ) (h : (rd k x).duties g 0 = {()}) (ha : ∀ u, (rd k x).amount g 0 u = n) :
    (rd k x).expect g 0 = n := by
  unfold Schedule.expect Schedule.amountOf; rw [h, Finset.sum_singleton, ha]

theorem rest_one (g : GSem nD τ sig) (P : sProp 𝕄) (h : (rd k x).duties g 0 = {()}) (hp : ∀ u, (rd k x).payload g 0 u = P) :
    bigSep ((rd k x).duties g 0 \ ∅) (fun u => (rd k x).payload g 0 u) = P := by
  rw [Finset.sdiff_empty, h, bigSep_singleton, hp]

end Sched

/-! ### Debts and levels -/

/-- The bits below `n`. -/
def below (S : Finset (Fin 13)) (n : ℕ) : Finset (Fin 13) := S.filter fun b => b.val < n
/-- The bits from `n`. -/
def above (S : Finset (Fin 13)) (n : ℕ) : Finset (Fin 13) := S.filter fun b => n ≤ b.val

/-- What device `c` owes the other device's receive cells when the blocks from bit `n` are sent. -/
def owed (c : Dev nD) (n : ℕ) : CellTallies nD τ sig Unit :=
  ∑ b ∈ below (bits (sendLen k)) n, tallyAt (recvCell (pr c) b) () (N b)

/-- What device `c` owes at launch. -/
def O₀ (c : Dev nD) : CellTallies nD τ sig Unit := owed k c 13 + tallyAt (barCell (pr c)) () 1

def L (g : GSem nD τ sig) : Finset Unit := if g.1.2 = .tc then {()} else ∅
/-- Barrier cells at 1, receive cells at 2, the rest at 0. -/
def lv (g : GSem nD τ sig) (_ : Unit) : ℕ :=
  match role g.2 with
  | .bar => 1
  | .recv _ => 2
  | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_recv (c : Dev nD) (b : Fin 13) (u : Unit) : lv (recvCell c b) u = 2 := by dsimp only [lv]; rw [role_recv]

theorem owed_pos {c : Dev nD} {n : ℕ} {g : GSem nD τ sig} {u : Unit} (h : 0 < owed k c n g u) : ∃ b, g = recvCell (pr c) b := by
  unfold owed at h
  rw [Finset.sum_apply, Finsupp.finset_sum_apply] at h
  obtain ⟨b, -, hb⟩ := Finset.exists_ne_zero_of_sum_ne_zero (Nat.pos_iff_ne_zero.mp h)
  rw [tallyAt_apply] at hb
  by_cases hg : g = recvCell (pr c) b ∧ u = ()
  · exact ⟨b, hg.1⟩
  · rw [if_neg hg] at hb; exact absurd rfl hb

theorem mayWait_bar (c : Dev nD) : (levAts L lv : sProp 𝕄) ⊢ MayWait (c : Thread nD τ) (.reg barS) () (owed k c 13) :=
  MayOwe.of_cut (L := L) (lev := lv) 1 (fun p hp => by rw [Finset.mem_singleton.mp hp, L_tc]; exact Finset.mem_singleton_self _)
    (fun g u hg => by
      obtain ⟨b, rfl⟩ := owed_pos k hg
      rw [L_tc]; exact Finset.mem_singleton_self _)
    (fun p hp => by rw [Finset.mem_singleton.mp hp]; exact le_refl _)
    (fun g u hg => by
      obtain ⟨b, rfl⟩ := owed_pos k hg
      rw [lv_recv]; decide)

/-! ### The ghost state -/

theorem osem_inj : Function.Injective osem := by decide
theorem osem_ne_bar : ∀ q : Fin 3 × Fin 13, osem q ≠ .reg barS := by decide

def barEmb : Dev nD ↪ GSem nD τ sig := ⟨fun c => barCell c, fun _ _ h => congrArg (fun g : GSem nD τ sig => g.1.1) h⟩
def scEmb : Dev nD × (Fin 3 × Fin 13) ↪ GSem nD τ sig :=
  ⟨fun ck => ((ck.1 : Thread nD τ), osem ck.2), fun _ _ h =>
    Prod.ext (congrArg (fun g : GSem nD τ sig => g.1.1) h) (osem_inj (congrArg Prod.snd h))⟩

/-- The barrier cells, and the cells of the kernel's own semaphores. -/
abbrev barCells : Finset (GSem nD τ sig) := Finset.univ.map barEmb
abbrev scCells : Finset (GSem nD τ sig) := Finset.univ.map scEmb

theorem disjoint_cells : Disjoint (barCells : Finset (GSem nD τ sig)) scCells := by
  rw [Finset.disjoint_left]
  rintro g h₁ h₂
  obtain ⟨c, -, rfl⟩ := Finset.mem_map.mp h₁
  obtain ⟨ck, -, h⟩ := Finset.mem_map.mp h₂
  exact osem_ne_bar ck.2 (congrArg Prod.snd h)

theorem bar_mem (c : Dev nD) : barCell c ∈ (barCells ∪ scCells : Finset (GSem nD τ sig)) :=
  Finset.mem_union_left _ (Finset.mem_map_of_mem barEmb (Finset.mem_univ c))
theorem osem_mem (c : Dev nD) (q : Fin 3 × Fin 13) : ((c : Thread nD τ), osem q) ∈ (barCells ∪ scCells : Finset (GSem nD τ sig)) :=
  Finset.mem_union_right _ (Finset.mem_map_of_mem scEmb (Finset.mem_univ (c, q)))
theorem copy_mem (c : Dev nD) (b : Fin 13) : copyCell c b ∈ (barCells ∪ scCells : Finset (GSem nD τ sig)) := osem_mem c (0, b)
theorem send_mem (c : Dev nD) (b : Fin 13) : sendCell c b ∈ (barCells ∪ scCells : Finset (GSem nD τ sig)) := osem_mem c (1, b)
theorem recv_mem (c : Dev nD) (b : Fin 13) : recvCell c b ∈ (barCells ∪ scCells : Finset (GSem nD τ sig)) := osem_mem c (2, b)

/-- Every cell's invariant, under one map of names; round 0 of every barrier cell reached. -/
def records (κ : GSem nD τ sig → ℕ) : sProp 𝕄 :=
  iprop((bigSep (barCells ∪ scCells) fun g => cellInv ER (rd k x) (κ g) g) ∗ bigSep barCells fun g => reached ER g 0)

instance records_persistent (κ : GSem nD τ sig → ℕ) : BI.Persistent (records k x κ) := by unfold records; infer_instance

theorem inv_all_at (κ : GSem nD τ sig → ℕ) {g : GSem nD τ sig} (hg : g ∈ (barCells ∪ scCells : Finset (GSem nD τ sig))) :
    (bigSep (barCells ∪ scCells) fun g => (cellInv ER (rd k x) (κ g) g : sProp 𝕄)) ⊢ cellInv ER (rd k x) (κ g) g :=
  bigSep_elim hg
theorem reached_all_at (c : Dev nD) : (bigSep barCells fun g => (reached ER g 0 : sProp 𝕄)) ⊢ reached ER (barCell c) 0 :=
  bigSep_elim (Finset.mem_map_of_mem barEmb (Finset.mem_univ c))

theorem inv_at (κ : GSem nD τ sig → ℕ) {g : GSem nD τ sig} (hg : g ∈ (barCells ∪ scCells : Finset (GSem nD τ sig))) :
    records k x κ ⊢ cellInv ER (rd k x) (κ g) g := by
  unfold records
  iintro ⟨HI, -⟩
  iapply (inv_all_at k x κ hg)
  iexact HI
theorem reached_at (κ : GSem nD τ sig → ℕ) (c : Dev nD) : records k x κ ⊢ reached ER (barCell c) 0 := by
  unfold records
  iintro ⟨-, HR⟩
  iapply (reached_all_at (F := F) c)
  iexact HR

end Cert.Proof
-- ==== Proof.Steps.lean ====
/-
  One conditional block of the body at a time.

  The body sends, copies and waits block by block, from the largest power of two to the smallest, each block under the
  condition that its bit is set. `phase S Pre Post n` is the state in which the blocks from bit `n` are done and the ones
  below are not; each lemma here takes the state at `b + 1` to the state at `b`.
-/
module

public import proofs.«01_k».proof.Proof.Protocol

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ### Phases -/

theorem below_hit {S : Finset (Fin 13)} {b : Fin 13} (h : b ∈ S) : below S (b.val + 1) = insert b (below S b.val) := by
  ext y
  simp only [below, Finset.mem_filter, Finset.mem_insert]
  constructor
  · rintro ⟨h1, h2⟩
    by_cases e : y = b
    · exact Or.inl e
    · exact Or.inr ⟨h1, by have := fun e' => e (Fin.ext e'); omega⟩
  · rintro (rfl | ⟨h1, h2⟩)
    · exact ⟨h, Nat.lt_succ_self _⟩
    · exact ⟨h1, by omega⟩
theorem above_hit {S : Finset (Fin 13)} {b : Fin 13} (h : b ∈ S) : above S b.val = insert b (above S (b.val + 1)) := by
  ext y
  simp only [above, Finset.mem_filter, Finset.mem_insert]
  constructor
  · rintro ⟨h1, h2⟩
    by_cases e : y = b
    · exact Or.inl e
    · exact Or.inr ⟨h1, by have := fun e' => e (Fin.ext e'); omega⟩
  · rintro (rfl | ⟨h1, h2⟩)
    · exact ⟨h, le_refl _⟩
    · exact ⟨h1, by omega⟩
theorem below_miss {S : Finset (Fin 13)} {b : Fin 13} (h : b ∉ S) : below S (b.val + 1) = below S b.val := by
  refine Finset.filter_congr fun y hy => ⟨fun h2 => ?_, fun h2 => by omega⟩
  rcases Nat.lt_or_eq_of_le (Nat.le_of_lt_succ h2) with h2 | h2
  · exact h2
  · exact absurd (Fin.ext h2 ▸ hy) h
theorem above_miss {S : Finset (Fin 13)} {b : Fin 13} (h : b ∉ S) : above S (b.val + 1) = above S b.val := by
  refine Finset.filter_congr fun y hy => ⟨fun h2 => by omega, fun h2 => ?_⟩
  rcases Nat.lt_or_eq_of_le h2 with h2 | h2
  · exact h2
  · exact absurd (Fin.ext h2.symm ▸ hy) h
theorem not_mem_below {S : Finset (Fin 13)} {b : Fin 13} : b ∉ below S b.val := fun h => absurd (Finset.mem_filter.mp h).2 (Nat.lt_irrefl _)
theorem not_mem_above {S : Finset (Fin 13)} {b : Fin 13} : b ∉ above S (b.val + 1) := fun h => absurd (Finset.mem_filter.mp h).2 (by omega)
theorem below_all (S : Finset (Fin 13)) : below S 13 = S := Finset.filter_true_of_mem fun b _ => b.isLt
theorem above_none (S : Finset (Fin 13)) : above S 13 = ∅ := Finset.filter_false_of_mem fun b _ => by have := b.isLt; omega
theorem above_all (n : ℕ) : above (bits n) 3 = bits n := Finset.filter_true_of_mem fun _ h => (mem_bits.mp h).1
theorem below_none (n : ℕ) : below (bits n) 3 = ∅ := Finset.filter_false_of_mem fun b h => by have := (mem_bits.mp h).1; omega

/-- The blocks from bit `n` at `Post`, the ones below at `Pre`. -/
def phase (S : Finset (Fin 13)) (Pre Post : Fin 13 → sProp 𝕄) (n : ℕ) : sProp 𝕄 :=
  iprop(bigSep (below S n) Pre ∗ bigSep (above S n) Post)

omit [FloatOps F] in
theorem phase_start (S : Finset (Fin 13)) (Pre Post : Fin 13 → sProp 𝕄) : bigSep S Pre ⊢ phase S Pre Post 13 := by
  unfold phase
  rw [below_all, above_none, bigSep_empty]
  iintro H
  isplitl [H]; · iexact H
  iempintro
omit [FloatOps F] in
theorem phase_end (n : ℕ) (Pre Post : Fin 13 → sProp 𝕄) : phase (bits n) Pre Post 3 ⊢ bigSep (bits n) Post := by
  unfold phase
  rw [above_all, below_none, bigSep_empty]
  iintro ⟨-, H⟩
  iexact H
omit [FloatOps F] in
theorem phase_hit {S : Finset (Fin 13)} {b : Fin 13} (h : b ∈ S) (Pre Post : Fin 13 → sProp 𝕄) :
    phase S Pre Post (b.val + 1) ⊢ iprop(Pre b ∗ (Post b -∗ phase S Pre Post b.val)) := by
  unfold phase
  rw [below_hit h, above_hit h, BI.bigSep_insert not_mem_below, BI.bigSep_insert not_mem_above]
  show iprop((Pre b ∗ bigSep (below S b.val) Pre) ∗ bigSep (above S (b.val + 1)) Post) ⊢
    iprop(Pre b ∗ (Post b -∗ (bigSep (below S b.val) Pre ∗ (Post b ∗ bigSep (above S (b.val + 1)) Post))))
  iintro ⟨⟨H, Hb⟩, Ha⟩
  isplitl [H]; · iexact H
  iintro HP
  isplitl [Hb]; · iexact Hb
  isplitl [HP] <;> iassumption
omit [FloatOps F] in
theorem phase_miss {S : Finset (Fin 13)} {b : Fin 13} (h : b ∉ S) (Pre Post : Fin 13 → sProp 𝕄) :
    phase S Pre Post (b.val + 1) = phase S Pre Post b.val := by
  unfold phase; rw [below_miss h, above_miss h]

variable (k : ℕ) (x : Dev nD → Buf4112 F)

omit [FloatOps F] in
theorem owed_hit (c : Dev nD) {b : Fin 13} (h : b ∈ bits (sendLen k)) :
    owed k c (b.val + 1) = owed k c b.val + tallyAt (recvCell (pr c) b) () (N b) := by
  unfold owed; rw [below_hit h, Finset.sum_insert not_mem_below, add_comm]
omit [FloatOps F] in
theorem owed_miss (c : Dev nD) {b : Fin 13} (h : b ∉ bits (sendLen k)) : owed k c (b.val + 1) = owed k c b.val := by
  unfold owed; rw [below_miss h]
omit [FloatOps F] in
theorem owed_done (c : Dev nD) : owed k c 3 = 0 := by unfold owed; rw [below_none, Finset.sum_empty]

/-! ### The states of a block -/

/-- Before block `b` is sent. -/
def sendPre (c : Dev nD) (b : Fin 13) : sProp 𝕄 :=
  iprop(packedPts c (blockRows (src k c) (sendLen k) b) (x c)
    ∗ (∃ f, commPts (pr c) (blockRows (src k (pr c)) (sendLen k) b) f)
    ∗ dutyTok ER (sendCell c b) 0 () ∗ reached ER (sendCell c b) 0
    ∗ dutyTok ER (recvCell (pr c) b) 0 () ∗ reached ER (recvCell (pr c) b) 0)
/-- After. -/
def sendPost (c : Dev nD) (b : Fin 13) : sProp 𝕄 := cred (tallyAt (sendCell c b) () (N b))

/-- Before the two waits of block `b`. -/
def recvPre (c : Dev nD) (b : Fin 13) : sProp 𝕄 :=
  iprop((cred (tallyAt (sendCell c b) () (N b)) ∗ cred (tallyAt (recvCell c b) () (N b)))
    ∗ atPos ER (sendCell c b) 0 ∅ 0 ∗ atPos ER (recvCell c b) 0 ∅ 0)
/-- After. -/
def recvPost (c : Dev nD) (b : Fin 13) : sProp 𝕄 :=
  iprop((sendPay k x c b ∗ recvPay k x c b) ∗ atPos ER (sendCell c b) (0 + 1) ∅ 0 ∗ atPos ER (recvCell c b) (0 + 1) ∅ 0)

/-- Before block `b` is copied. -/
def keepPre (c : Dev nD) (b : Fin 13) : sProp 𝕄 :=
  iprop(packedPts c (blockRows (keep k c) (keepLen k) b) (x c)
    ∗ (∃ f, commPts c (blockRows (keep k c) (keepLen k) b) f)
    ∗ dutyTok ER (copyCell c b) 0 () ∗ reached ER (copyCell c b) 0)
/-- After. -/
def keepPost (c : Dev nD) (b : Fin 13) : sProp 𝕄 := cred (tallyAt (copyCell c b) () (N b))

/-- Before the wait for the copy of block `b`. -/
def keptPre (c : Dev nD) (b : Fin 13) : sProp 𝕄 :=
  iprop(cred (tallyAt (copyCell c b) () (N b)) ∗ atPos ER (copyCell c b) 0 ∅ 0)
/-- After. -/
def keptPost (c : Dev nD) (b : Fin 13) : sProp 𝕄 := iprop(copyPay k x c b ∗ atPos ER (copyCell c b) (0 + 1) ∅ 0)

abbrev sendSt (c : Dev nD) (n : ℕ) : sProp 𝕄 := phase (bits (sendLen k)) (sendPre k x c) (sendPost (F := F) c) n
abbrev recvSt (c : Dev nD) (n : ℕ) : sProp 𝕄 := phase (bits (sendLen k)) (recvPre (F := F) c) (recvPost k x c) n
abbrev keepSt (c : Dev nD) (n : ℕ) : sProp 𝕄 := phase (bits (keepLen k)) (keepPre k x c) (keepPost (F := F) c) n
abbrev keptSt (c : Dev nD) (n : ℕ) : sProp 𝕄 := phase (bits (keepLen k)) (keptPre (F := F) c) (keptPost k x c) n

/-- Nothing owed. -/
abbrev owesNone (c : Dev nD) : sProp 𝕄 := iprop(∃ W, owes (c : Thread nD τ) (0 : CellTallies nD τ sig Unit) W)

/-! ### The steps -/

variable (κ : GSem nD τ sig → ℕ) (c : Dev nD) (b : Fin 13)

/-- Sending block `b`, if its bit is set. -/
theorem send_step {cond : Prop} [Decidable cond] (hc : cond ↔ b ∈ bits (sendLen k)) (n : Dev nD) (hn : n = pr c)
    (offs offd size : Fin 2 → ℕ)
    (hoffs : cond → offs = ![src k c + blkOff (sendLen k) b.val, 0])
    (hoffd : cond → offd = ![src k (pr c) + blkOff (sendLen k) b.val, 0]) (hsize : size = ![2 ^ b.val, 1024])
    (inbs : cond → ∀ a, offs a + size a ≤ S4112x1024.size a) (inbd : cond → ∀ a, offd a + size a ≤ S4112x1024.size a)
    (ss : ∀ h : cond, ∀ a, (Rect.unit (s := S4112x1024) offs size (inbs h)).stride a = 1)
    (sd : ∀ h : cond, ∀ a, (Rect.unit (s := S4112x1024) offd size (inbd h)).stride a = 1)
    (sS sR : DmaSem sig) (hsS : sS = sendS b) (hsR : sR = recvS b)
    (hw1 : ∀ h : cond, (packedM.slice (Rect.unit (s := S4112x1024) offs size (inbs h)) (ss h)).view.WordExact)
    (hw2 : ∀ h : cond, (commM.slice (Rect.unit (s := S4112x1024) offd size (inbd h)) (sd h)).view.WordExact)
    (hsem : ∀ h : cond, DmaTarget.Typed .vmem (.dma sR)
      (.remote (Dev.tc n : Thread nD τ) (commM.slice (Rect.unit (s := S4112x1024) offd size (inbd h)) (sd h)) (.dma sS)))
    (W : Waits sig Unit) (Q : PUnit → sProp 𝕄) :
    iprop(records k x κ ∗ sendSt k x c (b.val + 1) ∗ owes (c : Thread nD τ) (owed k c (b.val + 1)) W
      ∗ ((sendSt k x c b.val ∗ owes (c : Thread nD τ) (owed k c b.val) W) -∗ Q ⟨⟩))
    ⊢ wp frame (wpE (defs₀ (F := F)) 𝒱₀ (c : Thread nD τ) none) Set.univ
      (if h : cond then do
          Prog.lift (.enqueueDma (packedM.slice (Rect.unit (s := S4112x1024) offs size (inbs h)) (ss h))
            (.remote (Dev.tc n) (commM.slice (Rect.unit (s := S4112x1024) offd size (inbd h)) (sd h)) (.dma sS)) (.dma sR) (hw1 h) (hw2 h) (hsem h))
          pure ⟨⟩
        else pure ⟨⟩) Q := by
  subst hn hsS hsR
  by_cases h : cond
  · rw [dif_pos h]
    have hb := hc.mp h
    have e1 := hoffs h
    have e2 := hoffd h
    simp only [Prog.lift, Prog.bind_op, Prog.bind_ret, Prog.pure_eq_ret]
    rw [owed_hit k c hb]
    iintro ⟨#HR, HS, HO, Hk⟩
    ihave HS' := (phase_hit hb (sendPre k x c) (sendPost (F := F) c)) $$ HS
    unfold sendPre sendPost
    icases HS' with ⟨⟨Hp, ⟨%f, Hc⟩, Ht1, #Hr1, Ht2, #Hr2⟩, Hnext⟩
    iapply (Rounds.wp_send_pointsTo 𝒱₀ ER (rd k x) (c : Thread nD τ) none (c' := (pr c : Thread nD τ))
      (src := packedM.slice (Rect.unit (s := S4112x1024) offs size (inbs h)) (ss h))
      (dst := commM.slice (Rect.unit (s := S4112x1024) offd size (inbd h)) (sd h))
      (sS := .dma (sendS b)) (sem := .dma (recvS b)) (q := fullShare) (fs := x c) (fd := f)
      (κ₁ := κ (sendCell c b)) (κ₂ := κ (recvCell (pr c) b)) (r₁ := 0) (r₂ := 0) (d₁ := ()) (d₂ := ())
      (by rw [duties_send k x c b hb]; exact Finset.mem_singleton_self _) (by rw [duties_recv k x (pr c) b hb]; exact Finset.mem_singleton_self _)
      () () (N b) (by subst hsize; rfl) (amount_send k x c b ()) (amount_recv k x (pr c) b ()) (owed k c b.val) rfl (W := W)
      (by rw [payload_send, packed_slice_set _ _ _ _ _ _ e1 hsize]; exact BI.Entails.refl _)
      (by
        rw [payload_recv, comm_slice_set _ _ _ _ _ _ e2 hsize]
        unfold recvPay commPts
        refine Entails.of_eq (pointsTo_congr fun i hi => ?_)
        rw [copied offs offd size _ _ _ _ _ _ _ e1 e2 hsize _ _ _ hi]
        unfold arrived
        rw [pr_pr]
        exact moved_block _ _ _ _ _ (mem_rowsOf.mp hi).1)) $$ [Hp Hc HO Ht1 Ht2]
    · isplitr; · iapply (inv_at k x κ (send_mem c b)); iexact HR
      isplitr; · iapply (inv_at k x κ (recv_mem (pr c) b)); iexact HR
      isplitl [Hp]; · rw [packed_slice_set _ _ _ _ _ _ e1 hsize]; iexact Hp
      isplitl [Hc]; · rw [comm_slice_set _ _ _ _ _ _ e2 hsize]; iexact Hc
      isplitl [HO]; · iexact HO
      isplitl [Ht1]; · iexact Ht1
      isplitr; · iexact Hr1
      isplitl [Ht2]; · iexact Ht2
      iexact Hr2
    iintro ⟨Hcr, HO⟩
    rw [wp_ret]
    imodintro
    iapply Hk
    isplitl [Hnext Hcr]
    · iapply Hnext; iexact Hcr
    iexact HO
  · rw [dif_neg h]
    have hb := fun hb => h (hc.mpr hb)
    unfold sendSt
    rw [phase_miss hb, owed_miss k c hb]
    simp only [Prog.pure_eq_ret]
    rw [wp_ret]
    iintro ⟨-, HS, HO, Hk⟩
    imodintro
    iapply Hk
    isplitl [HS] <;> iassumption

/-- Copying block `b` of the rows that stay, if its bit is set. -/
theorem keep_step {cond : Prop} [Decidable cond] (hc : cond ↔ b ∈ bits (keepLen k))
    (off size : Fin 2 → ℕ) (hoff : cond → off = ![keep k c + blkOff (keepLen k) b.val, 0]) (hsize : size = ![2 ^ b.val, 1024])
    (inbs inbd : cond → ∀ a, off a + size a ≤ S4112x1024.size a)
    (ss : ∀ h : cond, ∀ a, (Rect.unit (s := S4112x1024) off size (inbs h)).stride a = 1)
    (sd : ∀ h : cond, ∀ a, (Rect.unit (s := S4112x1024) off size (inbd h)).stride a = 1)
    (sC : DmaSem sig) (hsC : sC = copyS b)
    (hw1 : ∀ h : cond, (packedM.slice (Rect.unit (s := S4112x1024) off size (inbs h)) (ss h)).view.WordExact)
    (hw2 : ∀ h : cond, (commM.slice (Rect.unit (s := S4112x1024) off size (inbd h)) (sd h)).view.WordExact)
    (hsem : ∀ h : cond, DmaTarget.Typed .vmem (.dma sC)
      (DmaTarget.here (nD := nD) (τ := τ) (p := .tc) (commM.slice (Rect.unit (s := S4112x1024) off size (inbd h)) (sd h))))
    (Q : PUnit → sProp 𝕄) :
    iprop(records k x κ ∗ keepSt k x c (b.val + 1) ∗ (keepSt k x c b.val -∗ Q ⟨⟩))
    ⊢ wp frame (wpE (defs₀ (F := F)) 𝒱₀ (c : Thread nD τ) none) Set.univ
      (if h : cond then do
          Prog.lift (.enqueueDma (packedM.slice (Rect.unit (s := S4112x1024) off size (inbs h)) (ss h))
            (.here (commM.slice (Rect.unit (s := S4112x1024) off size (inbd h)) (sd h))) (.dma sC) (hw1 h) (hw2 h) (hsem h))
          pure ⟨⟩
        else pure ⟨⟩) Q := by
  subst hsC
  by_cases h : cond
  · rw [dif_pos h]
    have hb := hc.mp h
    have e1 := hoff h
    simp only [Prog.lift, Prog.bind_op, Prog.bind_ret, Prog.pure_eq_ret]
    iintro ⟨#HR, HS, Hk⟩
    ihave HS' := (phase_hit hb (keepPre k x c) (keepPost (F := F) c)) $$ HS
    unfold keepPre keepPost
    icases HS' with ⟨⟨Hp, ⟨%f, Hc⟩, Ht1, #Hr1⟩, Hnext⟩
    iapply (Rounds.wp_copy_pointsTo 𝒱₀ ER (rd k x) (c : Thread nD τ) none
      (src := packedM.slice (Rect.unit (s := S4112x1024) off size (inbs h)) (ss h))
      (dst := commM.slice (Rect.unit (s := S4112x1024) off size (inbd h)) (sd h))
      (sem := .dma (copyS b)) (q := fullShare) (fs := x c) (fd := f) (κ := κ (copyCell c b)) (r := 0) (d := ())
      (by rw [duties_copy k x c b hb]; exact Finset.mem_singleton_self _)
      () (N b) (by subst hsize; rfl) (amount_copy k x c b ())
      (by
        rw [payload_copy, comm_slice_set _ _ _ _ _ _ e1 hsize, packed_slice_set _ _ _ _ _ _ e1 hsize]
        unfold copyPay commPts packedPts
        refine BI.sep_mono (Entails.of_eq (pointsTo_congr fun i hi => ?_)) (BI.Entails.refl _)
        rw [copied off off size _ _ _ _ _ _ _ e1 e1 hsize _ _ _ hi]
        exact moved_self _ _ _ (mem_rowsOf.mp hi).1)) $$ [Hp Hc Ht1]
    · isplitr; · iapply (inv_at k x κ (copy_mem c b)); iexact HR
      isplitl [Hp]; · rw [packed_slice_set _ _ _ _ _ _ e1 hsize]; iexact Hp
      isplitl [Hc]; · rw [comm_slice_set _ _ _ _ _ _ e1 hsize]; iexact Hc
      isplitl [Ht1]; · iexact Ht1
      iexact Hr1
    iintro Hcr
    rw [wp_ret]
    imodintro
    iapply Hk
    iapply Hnext; iexact Hcr
  · rw [dif_neg h]
    have hb := fun hb => h (hc.mpr hb)
    unfold keepSt
    rw [phase_miss hb]
    simp only [Prog.pure_eq_ret]
    rw [wp_ret]
    iintro ⟨-, HS, Hk⟩
    imodintro
    iapply Hk
    iexact HS

/-- Waiting for the copy of block `b`, if its bit is set. -/
theorem kept_step {cond : Prop} [Decidable cond] (hc : cond ↔ b ∈ bits (keepLen k))
    (off size : Fin 2 → ℕ) (hsize : size = ![2 ^ b.val, 1024])
    (inbs inbd : cond → ∀ a, off a + size a ≤ S4112x1024.size a)
    (ss : ∀ h : cond, ∀ a, (Rect.unit (s := S4112x1024) off size (inbs h)).stride a = 1)
    (sd : ∀ h : cond, ∀ a, (Rect.unit (s := S4112x1024) off size (inbd h)).stride a = 1)
    (sC : DmaSem sig) (hsC : sC = copyS b)
    (hw1 : ∀ h : cond, (packedM.slice (Rect.unit (s := S4112x1024) off size (inbs h)) (ss h)).view.WordExact)
    (hw2 : ∀ h : cond, (commM.slice (Rect.unit (s := S4112x1024) off size (inbd h)) (sd h)).view.WordExact)
    (Q : PUnit → sProp 𝕄) :
    iprop(records k x κ ∗ keptSt k x c (b.val + 1) ∗ owesNone c ∗ ((keptSt k x c b.val ∗ owesNone c) -∗ Q ⟨⟩))
    ⊢ wp frame (wpE (defs₀ (F := F)) 𝒱₀ (c : Thread nD τ) none) Set.univ
      (if h : cond then do
          Prog.lift (.waitDma2 sC (packedM.slice (Rect.unit (s := S4112x1024) off size (inbs h)) (ss h))
            (commM.slice (Rect.unit (s := S4112x1024) off size (inbd h)) (sd h)) (hw1 h) (hw2 h))
          pure ⟨⟩
        else pure ⟨⟩) Q := by
  subst hsC
  by_cases h : cond
  · rw [dif_pos h]
    have hb := hc.mp h
    simp only [Prog.lift, Prog.bind_op, Prog.bind_ret, Prog.pure_eq_ret]
    iintro ⟨#HR, HS, ⟨%W, HO⟩, Hk⟩
    ihave HS' := (phase_hit hb (keptPre (F := F) c) (keptPost k x c)) $$ HS
    unfold keptPre keptPost
    icases HS' with ⟨⟨Hcr, Hat⟩, Hnext⟩
    iapply (Rounds.wp_wait_rest_token 𝒱₀ ER (rd k x) (c : Thread nD τ) none (κ := κ (copyCell c b)) (sm := .dma (copyS b)) (k' := N b)
      (fun K => (wpE_waitDma2_eq 𝒱₀ (c : Thread nD τ) none Set.univ K).trans (by subst hsize; rfl)) (Set.mem_univ _) () (O := 0) (W := W) (R := 0) (m := 0) (T := ∅)
      ((Nat.zero_add _).trans (expect_one k x (copyCell c b) _ (duties_copy k x c b hb) (amount_copy k x c b)).symm)) $$ [Hcr HO Hat]
    · isplitr; · iapply (inv_at k x κ (copy_mem c b)); iexact HR
      isplitl [Hcr]; · iexact Hcr
      isplitl [HO]; · iexact HO
      isplitr; · rw [MayWait_zero]; iempintro
      iexact Hat
    iintro ⟨HO, Hat, -, Hpay⟩
    ihave Hpay' := (Entails.of_eq (rest_one k x (copyCell c b) _ (duties_copy k x c b hb) (payload_copy k x c b))) $$ Hpay
    rw [wp_ret]
    imodintro
    iapply Hk
    isplitl [Hnext Hpay' Hat]
    · iapply Hnext
      isplitl [Hpay'] <;> iassumption
    iexists _; iexact HO
  · rw [dif_neg h]
    have hb := fun hb => h (hc.mpr hb)
    unfold keptSt
    rw [phase_miss hb]
    simp only [Prog.pure_eq_ret]
    rw [wp_ret]
    iintro ⟨-, HS, HO, Hk⟩
    imodintro
    iapply Hk
    isplitl [HS] <;> iassumption

/-- Waiting for block `b` to be sent and for the other device's block `b`, if the bit is set. -/
theorem recv_step {cond : Prop} [Decidable cond] (hc : cond ↔ b ∈ bits (sendLen k))
    (offs offd size : Fin 2 → ℕ) (hsize : size = ![2 ^ b.val, 1024])
    (inbs inbs' : cond → ∀ a, offs a + size a ≤ S4112x1024.size a) (inbd inbd' : cond → ∀ a, offd a + size a ≤ S4112x1024.size a)
    (ss : ∀ h : cond, ∀ a, (Rect.unit (s := S4112x1024) offs size (inbs h)).stride a = 1)
    (sd : ∀ h : cond, ∀ a, (Rect.unit (s := S4112x1024) offd size (inbd h)).stride a = 1)
    (ss' : ∀ h : cond, ∀ a, (Rect.unit (s := S4112x1024) offs size (inbs' h)).stride a = 1)
    (sd' : ∀ h : cond, ∀ a, (Rect.unit (s := S4112x1024) offd size (inbd' h)).stride a = 1)
    (sS sR : DmaSem sig) (hsS : sS = sendS b) (hsR : sR = recvS b)
    (hw1 : ∀ h : cond, (commM.slice (Rect.unit (s := S4112x1024) offd size (inbd h)) (sd h)).view.WordExact)
    (hw2 : ∀ h : cond, (packedM.slice (Rect.unit (s := S4112x1024) offs size (inbs h)) (ss h)).view.WordExact)
    (hw3 : ∀ h : cond, (packedM.slice (Rect.unit (s := S4112x1024) offs size (inbs' h)) (ss' h)).view.WordExact)
    (hw4 : ∀ h : cond, (commM.slice (Rect.unit (s := S4112x1024) offd size (inbd' h)) (sd' h)).view.WordExact)
    (Q : PUnit → sProp 𝕄) :
    iprop(records k x κ ∗ recvSt k x c (b.val + 1) ∗ owesNone c ∗ ((recvSt k x c b.val ∗ owesNone c) -∗ Q ⟨⟩))
    ⊢ wp frame (wpE (defs₀ (F := F)) 𝒱₀ (c : Thread nD τ) none) Set.univ
      (if h : cond then do
          Prog.lift (.waitDma2 sS (commM.slice (Rect.unit (s := S4112x1024) offd size (inbd h)) (sd h))
            (packedM.slice (Rect.unit (s := S4112x1024) offs size (inbs h)) (ss h)) (hw1 h) (hw2 h))
          Prog.lift (.waitDma2 sR (packedM.slice (Rect.unit (s := S4112x1024) offs size (inbs' h)) (ss' h))
            (commM.slice (Rect.unit (s := S4112x1024) offd size (inbd' h)) (sd' h)) (hw3 h) (hw4 h))
          pure ⟨⟩
        else pure ⟨⟩) Q := by
  subst hsS hsR
  by_cases h : cond
  · rw [dif_pos h]
    have hb := hc.mp h
    simp only [Prog.lift, Prog.bind_op, Prog.bind_ret, Prog.pure_eq_ret]
    iintro ⟨#HR, HS, ⟨%W, HO⟩, Hk⟩
    ihave HS' := (phase_hit hb (recvPre (F := F) c) (recvPost k x c)) $$ HS
    unfold recvPre recvPost
    icases HS' with ⟨⟨⟨Hc1, Hc2⟩, Hat1, Hat2⟩, Hnext⟩
    iapply (Rounds.wp_wait_rest_token 𝒱₀ ER (rd k x) (c : Thread nD τ) none (κ := κ (sendCell c b)) (sm := .dma (sendS b)) (k' := N b)
      (fun K => (wpE_waitDma2_eq 𝒱₀ (c : Thread nD τ) none Set.univ K).trans (by subst hsize; rfl)) (Set.mem_univ _) () (O := 0) (W := W) (R := 0) (m := 0) (T := ∅)
      ((Nat.zero_add _).trans (expect_one k x (sendCell c b) _ (duties_send k x c b hb) (amount_send k x c b)).symm)) $$ [Hc1 HO Hat1]
    · isplitr; · iapply (inv_at k x κ (send_mem c b)); iexact HR
      isplitl [Hc1]; · iexact Hc1
      isplitl [HO]; · iexact HO
      isplitr; · rw [MayWait_zero]; iempintro
      iexact Hat1
    iintro ⟨HO, Hat1, -, Hpay⟩
    ihave Hpay1 := (Entails.of_eq (rest_one k x (sendCell c b) _ (duties_send k x c b hb) (payload_send k x c b))) $$ Hpay
    iapply (Rounds.wp_wait_rest_token 𝒱₀ ER (rd k x) (c : Thread nD τ) none (κ := κ (recvCell c b)) (sm := .dma (recvS b)) (k' := N b)
      (fun K => (wpE_waitDma2_eq 𝒱₀ (c : Thread nD τ) none Set.univ K).trans (by subst hsize; rfl)) (Set.mem_univ _) () (O := 0)
      (W := insert (SemLoc.dma (sendS b), ()) W) (R := 0) (m := 0) (T := ∅)
      ((Nat.zero_add _).trans (expect_one k x (recvCell c b) _ (duties_recv k x c b hb) (amount_recv k x c b)).symm)) $$ [Hc2 HO Hat2]
    · isplitr; · iapply (inv_at k x κ (recv_mem c b)); iexact HR
      isplitl [Hc2]; · iexact Hc2
      isplitl [HO]; · iexact HO
      isplitr; · rw [MayWait_zero]; iempintro
      iexact Hat2
    iintro ⟨HO, Hat2, -, Hpay⟩
    ihave Hpay2 := (Entails.of_eq (rest_one k x (recvCell c b) _ (duties_recv k x c b hb) (payload_recv k x c b))) $$ Hpay
    rw [wp_ret]
    imodintro
    iapply Hk
    isplitl [Hnext Hpay1 Hpay2 Hat1 Hat2]
    · iapply Hnext
      isplitl [Hpay1 Hpay2]; · isplitl [Hpay1] <;> iassumption
      isplitl [Hat1] <;> iassumption
    iexists _; iexact HO
  · rw [dif_neg h]
    have hb := fun hb => h (hc.mpr hb)
    unfold recvSt
    rw [phase_miss hb]
    simp only [Prog.pure_eq_ret]
    rw [wp_ret]
    iintro ⟨-, HS, HO, Hk⟩
    imodintro
    iapply Hk
    isplitl [HS] <;> iassumption

end Cert.Proof
-- ==== Proof.Parts.lean ====
/-
  The body up to its last wait, part by part.

  The values the body reads from its table are fixed: how many rows go (`sendLen k`) and from where to where, how many
  stay (`keepLen k`) and where. Each lemma takes one part of the body from the state before it to the state after it,
  whatever the part returns: the words it returns are only the running offsets, computed again where they are used.
-/
module

public import proofs.«01_k».proof.Proof.Steps
public import proofs.«01_k».proof.Proof.Gen.KernelIdeal.Skeleton

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The table in its staging buffer, the result in its staging buffer. -/
abbrev scalM : Memref sig .tc .smem S7 .i32 := Memref.whole cc0_stg0_0
abbrev outM : Memref sig .tc .vmem S4096x1024 .bf16 := Memref.whole cc0_stg2_0

/-- The condition on a bit of a length below 8192, for the bits of a multiple of 8. -/
theorem cond_iff (L : ℕ) (hL : L < 8192) (b : Fin 13) (hb : 3 ≤ b.val) :
    bitW (BitVec.ofNat 32 L) b.val = 1#1 ↔ b ∈ bits L := by
  rw [bitW_iff L (by omega) b.val (by omega), mem_bits]
  exact (and_iff_right hb).symm

/-- The offset the body computes for a block. -/
theorem offs_eq (s L : ℕ) (hL : L < 8192) (hs : s < 8192) (j : ℕ) (hj : j ≤ 12) :
    ![(Scalar.addi (BitVec.ofNat 32 s) (offW (BitVec.ofNat 32 L) j)).toNat, 0] = ![s + blkOff L (12 - j), 0] := by
  rw [addr_toNat s L hL hs j hj]

/-- A conditional step of one operation, then the rest of the body, which follows in either case. -/
theorem step_bind {c : Dev nD} {α : Type} {R A B X : sProp 𝕄} [Persistent R] {cond : Prop} [Decidable cond]
    {p : cond → Prog (TpuEff nD τ sig (Elt F) Λ₀ .tc) PUnit}
    {r : Prog (TpuEff nD τ sig (Elt F) Λ₀ .tc) α} {Q : α → sProp 𝕄}
    (hstep : ∀ Q' : PUnit → sProp 𝕄, iprop(R ∗ A ∗ (B -∗ Q' ⟨⟩)) ⊢ wp frame (wpE (defs₀ (F := F)) 𝒱₀ (c : Thread nD τ) none) Set.univ
      (if h : cond then do p h; pure ⟨⟩ else pure ⟨⟩) Q')
    (hrest : iprop(R ∗ B ∗ X) ⊢ wp frame (wpE (defs₀ (F := F)) 𝒱₀ (c : Thread nD τ) none) Set.univ r Q) :
    iprop(R ∗ A ∗ X) ⊢ wp frame (wpE (defs₀ (F := F)) 𝒱₀ (c : Thread nD τ) none) Set.univ
      (if h : cond then p h >>= fun _ => r else r) Q := by
  have e : (if h : cond then p h >>= fun _ => r else r) = ((if h : cond then do p h; pure ⟨⟩ else pure ⟨⟩) >>= fun _ : PUnit => r) := by
    split
    · rw [bind_assoc]; simp only [pure_bind]
    · rw [pure_bind]
  rw [e, wp_bind_eq]
  iintro ⟨#HR, HA, HX⟩
  iapply (hstep _)
  isplitr; · iexact HR
  isplitl [HA]; · iexact HA
  iintro HB
  iapply hrest
  isplitr; · iexact HR
  isplitl [HB] <;> iassumption

/-- A conditional step of two operations, then the rest of the body. -/
theorem step_bind₂ {c : Dev nD} {α : Type} {R A B X : sProp 𝕄} [Persistent R] {cond : Prop} [Decidable cond]
    {p q : cond → Prog (TpuEff nD τ sig (Elt F) Λ₀ .tc) PUnit}
    {r : Prog (TpuEff nD τ sig (Elt F) Λ₀ .tc) α} {Q : α → sProp 𝕄}
    (hstep : ∀ Q' : PUnit → sProp 𝕄, iprop(R ∗ A ∗ (B -∗ Q' ⟨⟩)) ⊢ wp frame (wpE (defs₀ (F := F)) 𝒱₀ (c : Thread nD τ) none) Set.univ
      (if h : cond then do p h; q h; pure ⟨⟩ else pure ⟨⟩) Q')
    (hrest : iprop(R ∗ B ∗ X) ⊢ wp frame (wpE (defs₀ (F := F)) 𝒱₀ (c : Thread nD τ) none) Set.univ r Q) :
    iprop(R ∗ A ∗ X) ⊢ wp frame (wpE (defs₀ (F := F)) 𝒱₀ (c : Thread nD τ) none) Set.univ
      (if h : cond then p h >>= fun _ => q h >>= fun _ => r else r) Q := by
  have e : (if h : cond then p h >>= fun _ => q h >>= fun _ => r else r)
      = (if h : cond then (do p h; q h) >>= fun _ => r else r) := by
    split
    · rw [bind_assoc]
    · rfl
  rw [e]
  refine step_bind (fun Q' => ?_) hrest
  have e' : (if h : cond then do (do p h; q h); pure ⟨⟩ else pure ⟨⟩ : Prog (TpuEff nD τ sig (Elt F) Λ₀ .tc) PUnit)
      = (if h : cond then do p h; q h; pure ⟨⟩ else pure ⟨⟩) := by
    split
    · rw [bind_assoc]
    · rfl
  rw [e']
  exact hstep Q'

/-- The last state, handed to what follows. -/
theorem step_ret {c : Dev nD} {α : Type} {R B X : sProp 𝕄} {Q : α → sProp 𝕄} (hQ : ∀ r, iprop(R ∗ B ∗ X) ⊢ Q r) (a : α) :
    iprop(R ∗ B ∗ X) ⊢ wp frame (wpE (defs₀ (F := F)) 𝒱₀ (c : Thread nD τ) none) Set.univ (.ret a) Q := by
  rw [wp_ret]
  exact (hQ a).trans fupd_intro

theorem swap {R A B X : sProp 𝕄} {G : sProp 𝕄} (h : iprop(R ∗ B ∗ A ∗ X) ⊢ G) : iprop(R ∗ A ∗ B ∗ X) ⊢ G := by
  iintro ⟨H1, H2, H3, H4⟩
  iapply h
  isplitl [H1]; · iexact H1
  isplitl [H3]; · iexact H3
  isplitl [H2] <;> iassumption

/-! ### The states -/

/-- Sending, down to bit `n`. -/
def sending (k : ℕ) (x : Dev nD → Buf4112 F) (c : Dev nD) (n : ℕ) : sProp 𝕄 :=
  iprop(sendSt k x c n ∗ ∃ W : Finset (SemLoc sig × Unit), owes c (owed k c n) W)
/-- Copying the rows that stay, down to bit `n`. -/
def keeping (k : ℕ) (x : Dev nD → Buf4112 F) (c : Dev nD) (n : ℕ) : sProp 𝕄 := keepSt k x c n
/-- Waiting for those copies, down to bit `n`. -/
def kept (k : ℕ) (x : Dev nD → Buf4112 F) (c : Dev nD) (n : ℕ) : sProp 𝕄 := iprop(keptSt k x c n ∗ owesNone c)
/-- Waiting for the other device, down to bit `n`. -/
def receiving (k : ℕ) (x : Dev nD → Buf4112 F) (c : Dev nD) (n : ℕ) : sProp 𝕄 := iprop(recvSt k x c n ∗ owesNone c)

variable (k : ℕ) (hk : k ≤ 4096) (x : Dev nD → Buf4112 F) (κ : GSem nD τ sig → ℕ) (c : Dev nD)

/-- The words of the table. -/
abbrev wL : Elt F .i32 := BitVec.ofNat 32 (sendLen k)
abbrev wS : Elt F .i32 := BitVec.ofNat 32 (src k c)
abbrev wD : Elt F .i32 := BitVec.ofNat 32 (src k (pr c))
abbrev wK : Elt F .i32 := BitVec.ofNat 32 (keep k c)
abbrev wKL : Elt F .i32 := BitVec.ofNat 32 (keepLen k)

include hk in
theorem src_bound : src k c < 8192 := by have := src_add k hk c; omega
include hk in
theorem keep_bound : keep k c < 8192 := by have := keep_add k hk c; omega
include hk in
theorem send_bound : sendLen k < 8192 := by have := src_add k hk 0; omega
include hk in
theorem kept_bound : keepLen k < 8192 := by have := keep_add k hk 0; omega

/-- The offset of block `b`, as the body computes it. -/
abbrev at' (s L : Elt F .i32) (b : Fin 13) : Fin 2 → ℕ := ![(Scalar.addi s (offW L (12 - b.val))).toNat, 0]

theorem at_eq (s L : ℕ) (hL : L < 8192) (hs : s < 8192) (b : Fin 13) :
    at' (F := F) (BitVec.ofNat 32 s) (BitVec.ofNat 32 L) b = ![s + blkOff L b.val, 0] := by
  have e : 12 - (12 - b.val) = b.val := by omega
  rw [at', addr_toNat s L hL hs _ (Nat.sub_le _ _), e]

include hk in
/-- `send_step` at the words of the table. -/
theorem sending_step (b : Fin 13) (hb : 3 ≤ b.val) {cond : Prop} [Decidable cond] (hc : cond ↔ bitW (wL (F := F) k) b.val = 1#1)
    (n : Dev nD) (hn : n.val = 1 - c.val) (offs offd size : Fin 2 → ℕ)
    (hoffs : offs = at' (wS (F := F) k c) (wL (F := F) k) b) (hoffd : offd = at' (wD (F := F) k c) (wL (F := F) k) b)
    (hsize : size = ![2 ^ b.val, 1024])
    (inbs : cond → ∀ a, offs a + size a ≤ S4112x1024.size a) (inbd : cond → ∀ a, offd a + size a ≤ S4112x1024.size a)
    (ss : ∀ h : cond, ∀ a, (Rect.unit (s := S4112x1024) offs size (inbs h)).stride a = 1)
    (sd : ∀ h : cond, ∀ a, (Rect.unit (s := S4112x1024) offd size (inbd h)).stride a = 1)
    (sS sR : DmaSem sig) (hsS : sS = sendS b) (hsR : sR = recvS b)
    (hw1 : ∀ h : cond, (packedM.slice (Rect.unit (s := S4112x1024) offs size (inbs h)) (ss h)).view.WordExact)
    (hw2 : ∀ h : cond, (commM.slice (Rect.unit (s := S4112x1024) offd size (inbd h)) (sd h)).view.WordExact)
    (hsem : ∀ h : cond, DmaTarget.Typed .vmem (.dma sR)
      (.remote (Dev.tc n : Thread nD τ) (commM.slice (Rect.unit (s := S4112x1024) offd size (inbd h)) (sd h)) (.dma sS)))
    (Q : PUnit → sProp 𝕄) :
    iprop(records k x κ ∗ sending k x c (b.val + 1) ∗ (sending k x c b.val -∗ Q ⟨⟩))
    ⊢ wp frame (wpE (defs₀ (F := F)) 𝒱₀ (c : Thread nD τ) none) Set.univ
      (if h : cond then do
          Prog.lift (.enqueueDma (packedM.slice (Rect.unit (s := S4112x1024) offs size (inbs h)) (ss h))
            (.remote (Dev.tc n) (commM.slice (Rect.unit (s := S4112x1024) offd size (inbd h)) (sd h)) (.dma sS)) (.dma sR) (hw1 h) (hw2 h) (hsem h))
          pure ⟨⟩
        else pure ⟨⟩) Q := by
  unfold sending
  iintro ⟨#HR, ⟨HS, %W, HO⟩, Hk⟩
  iapply (send_step k x κ c b (hc.trans (cond_iff _ (send_bound k hk) b hb)) n (Fin.ext hn) offs offd size
    (fun _ => hoffs.trans (at_eq _ _ (send_bound k hk) (src_bound k hk c) b))
    (fun _ => hoffd.trans (at_eq _ _ (send_bound k hk) (src_bound k hk (pr c)) b)) hsize inbs inbd ss sd sS sR hsS hsR hw1 hw2 hsem W Q)
  isplitr; · iexact HR
  isplitl [HS]; · iexact HS
  isplitl [HO]; · iexact HO
  iintro ⟨HS, HO⟩
  iapply Hk
  isplitl [HS]; · iexact HS
  iexists _; iexact HO

include hk in
/-- `keep_step` at the words of the table. -/
theorem keeping_step (b : Fin 13) (hb : 3 ≤ b.val) {cond : Prop} [Decidable cond] (hc : cond ↔ bitW (wKL (F := F) k) b.val = 1#1)
    (off size : Fin 2 → ℕ) (hoff : off = at' (wK (F := F) k c) (wKL (F := F) k) b) (hsize : size = ![2 ^ b.val, 1024])
    (inbs inbd : cond → ∀ a, off a + size a ≤ S4112x1024.size a)
    (ss : ∀ h : cond, ∀ a, (Rect.unit (s := S4112x1024) off size (inbs h)).stride a = 1)
    (sd : ∀ h : cond, ∀ a, (Rect.unit (s := S4112x1024) off size (inbd h)).stride a = 1)
    (sC : DmaSem sig) (hsC : sC = copyS b)
    (hw1 : ∀ h : cond, (packedM.slice (Rect.unit (s := S4112x1024) off size (inbs h)) (ss h)).view.WordExact)
    (hw2 : ∀ h : cond, (commM.slice (Rect.unit (s := S4112x1024) off size (inbd h)) (sd h)).view.WordExact)
    (hsem : ∀ h : cond, DmaTarget.Typed .vmem (.dma sC)
      (DmaTarget.here (nD := nD) (τ := τ) (p := .tc) (commM.slice (Rect.unit (s := S4112x1024) off size (inbd h)) (sd h))))
    (Q : PUnit → sProp 𝕄) :
    iprop(records k x κ ∗ keeping k x c (b.val + 1) ∗ (keeping k x c b.val -∗ Q ⟨⟩))
    ⊢ wp frame (wpE (defs₀ (F := F)) 𝒱₀ (c : Thread nD τ) none) Set.univ
      (if h : cond then do
          Prog.lift (.enqueueDma (packedM.slice (Rect.unit (s := S4112x1024) off size (inbs h)) (ss h))
            (.here (commM.slice (Rect.unit (s := S4112x1024) off size (inbd h)) (sd h))) (.dma sC) (hw1 h) (hw2 h) (hsem h))
          pure ⟨⟩
        else pure ⟨⟩) Q :=
  keep_step k x κ c b (hc.trans (cond_iff _ (kept_bound k hk) b hb)) off size
    (fun _ => hoff.trans (at_eq _ _ (kept_bound k hk) (keep_bound k hk c) b)) hsize inbs inbd ss sd sC hsC hw1 hw2 hsem Q

include hk in
/-- `kept_step` at the words of the table. -/
theorem kept_step' (b : Fin 13) (hb : 3 ≤ b.val) {cond : Prop} [Decidable cond] (hc : cond ↔ bitW (wKL (F := F) k) b.val = 1#1)
    (off size : Fin 2 → ℕ) (hsize : size = ![2 ^ b.val, 1024])
    (inbs inbd : cond → ∀ a, off a + size a ≤ S4112x1024.size a)
    (ss : ∀ h : cond, ∀ a, (Rect.unit (s := S4112x1024) off size (inbs h)).stride a = 1)
    (sd : ∀ h : cond, ∀ a, (Rect.unit (s := S4112x1024) off size (inbd h)).stride a = 1)
    (sC : DmaSem sig) (hsC : sC = copyS b)
    (hw1 : ∀ h : cond, (packedM.slice (Rect.unit (s := S4112x1024) off size (inbs h)) (ss h)).view.WordExact)
    (hw2 : ∀ h : cond, (commM.slice (Rect.unit (s := S4112x1024) off size (inbd h)) (sd h)).view.WordExact)
    (Q : PUnit → sProp 𝕄) :
    iprop(records k x κ ∗ kept k x c (b.val + 1) ∗ (kept k x c b.val -∗ Q ⟨⟩))
    ⊢ wp frame (wpE (defs₀ (F := F)) 𝒱₀ (c : Thread nD τ) none) Set.univ
      (if h : cond then do
          Prog.lift (.waitDma2 sC (packedM.slice (Rect.unit (s := S4112x1024) off size (inbs h)) (ss h))
            (commM.slice (Rect.unit (s := S4112x1024) off size (inbd h)) (sd h)) (hw1 h) (hw2 h))
          pure ⟨⟩
        else pure ⟨⟩) Q := by
  have h := kept_step k x κ c b (hc.trans (cond_iff _ (kept_bound k hk) b hb)) off size hsize inbs inbd ss sd sC hsC hw1 hw2 Q
  unfold kept
  iintro ⟨HR, ⟨HS, HO⟩, Hk⟩
  iapply h
  isplitl [HR]; · iexact HR
  isplitl [HS]; · iexact HS
  isplitl [HO] <;> iassumption

include hk in
/-- `recv_step` at the words of the table. -/
theorem receiving_step (b : Fin 13) (hb : 3 ≤ b.val) {cond : Prop} [Decidable cond] (hc : cond ↔ bitW (wL (F := F) k) b.val = 1#1)
    (offs offd size : Fin 2 → ℕ) (hsize : size = ![2 ^ b.val, 1024])
    (inbs inbs' : cond → ∀ a, offs a + size a ≤ S4112x1024.size a) (inbd inbd' : cond → ∀ a, offd a + size a ≤ S4112x1024.size a)
    (ss : ∀ h : cond, ∀ a, (Rect.unit (s := S4112x1024) offs size (inbs h)).stride a = 1)
    (sd : ∀ h : cond, ∀ a, (Rect.unit (s := S4112x1024) offd size (inbd h)).stride a = 1)
    (ss' : ∀ h : cond, ∀ a, (Rect.unit (s := S4112x1024) offs size (inbs' h)).stride a = 1)
    (sd' : ∀ h : cond, ∀ a, (Rect.unit (s := S4112x1024) offd size (inbd' h)).stride a = 1)
    (sS sR : DmaSem sig) (hsS : sS = sendS b) (hsR : sR = recvS b)
    (hw1 : ∀ h : cond, (commM.slice (Rect.unit (s := S4112x1024) offd size (inbd h)) (sd h)).view.WordExact)
    (hw2 : ∀ h : cond, (packedM.slice (Rect.unit (s := S4112x1024) offs size (inbs h)) (ss h)).view.WordExact)
    (hw3 : ∀ h : cond, (packedM.slice (Rect.unit (s := S4112x1024) offs size (inbs' h)) (ss' h)).view.WordExact)
    (hw4 : ∀ h : cond, (commM.slice (Rect.unit (s := S4112x1024) offd size (inbd' h)) (sd' h)).view.WordExact)
    (Q : PUnit → sProp 𝕄) :
    iprop(records k x κ ∗ receiving k x c (b.val + 1) ∗ (receiving k x c b.val -∗ Q ⟨⟩))
    ⊢ wp frame (wpE (defs₀ (F := F)) 𝒱₀ (c : Thread nD τ) none) Set.univ
      (if h : cond then do
          Prog.lift (.waitDma2 sS (commM.slice (Rect.unit (s := S4112x1024) offd size (inbd h)) (sd h))
            (packedM.slice (Rect.unit (s := S4112x1024) offs size (inbs h)) (ss h)) (hw1 h) (hw2 h))
          Prog.lift (.waitDma2 sR (packedM.slice (Rect.unit (s := S4112x1024) offs size (inbs' h)) (ss' h))
            (commM.slice (Rect.unit (s := S4112x1024) offd size (inbd' h)) (sd' h)) (hw3 h) (hw4 h))
          pure ⟨⟩
        else pure ⟨⟩) Q := by
  have h := recv_step k x κ c b (hc.trans (cond_iff _ (send_bound k hk) b hb)) offs offd size hsize inbs inbs' inbd inbd'
    ss sd ss' sd' sS sR hsS hsR hw1 hw2 hw3 hw4 Q
  unfold receiving
  iintro ⟨HR, ⟨HS, HO⟩, Hk⟩
  iapply h
  isplitl [HR]; · iexact HR
  isplitl [HS]; · iexact HS
  isplitl [HO] <;> iassumption

/-! ### The parts -/

include hk in
set_option maxRecDepth 65536 in
/-- Sending blocks 10 to 7. -/
theorem part18 (h0 : scalM.IsWhole) (h1 : packedM.IsWhole) (h2 : outM.IsWhole) (h3 : commM.IsWhole)
    (v3 v20 v22 : BitVec 32) (hw1 : k0_chk1 (wL (F := F) k) (wS (F := F) k c)) (hw2 : k0_chk2 (wL (F := F) k) (wD (F := F) k c))
    {X : sProp 𝕄} {Q : (Σ' (_ : BitVec 32) (_ : BitVec 32), BitVec 32) → sProp 𝕄} (hQ : ∀ r, iprop(records k x κ ∗ sending k x c 7 ∗ X) ⊢ Q r) :
    iprop(records k x κ ∗ sending k x c 11 ∗ X) ⊢ wp frame (wpE (defs₀ (F := F)) 𝒱₀ (c : Thread nD τ) none) Set.univ
      (k0_part18 scalM h0 packedM h1 outM h2 commM h3 cc0_scratch1 cc0_scratch2 cc0_scratch3 c v3 (wL k) (wS k c) hw1 (wD k c) hw2 v20 v22) Q := by
  rw [k0_part18_eq_skeleton]
  unfold k0_part18_skel
  refine step_bind (fun Q' => sending_step k hk x κ c 10 (by decide) Iff.rfl ⟨k0_dev4 c, k0_dev4_lt c⟩ (k0_dev4_eq c) _ _ _ rfl rfl rfl _ _ _ _ _ _ rfl rfl _ _ _ Q') ?_
  refine step_bind (fun Q' => sending_step k hk x κ c 9 (by decide) Iff.rfl ⟨k0_dev5 c, k0_dev5_lt c⟩ (k0_dev5_eq c) _ _ _ rfl rfl rfl _ _ _ _ _ _ rfl rfl _ _ _ Q') ?_
  refine step_bind (fun Q' => sending_step k hk x κ c 8 (by decide) Iff.rfl ⟨k0_dev6 c, k0_dev6_lt c⟩ (k0_dev6_eq c) _ _ _ rfl rfl rfl _ _ _ _ _ _ rfl rfl _ _ _ Q') ?_
  refine step_bind (fun Q' => sending_step k hk x κ c 7 (by decide) Iff.rfl ⟨k0_dev7 c, k0_dev7_lt c⟩ (k0_dev7_eq c) _ _ _ rfl rfl rfl _ _ _ _ _ _ rfl rfl _ _ _ Q') ?_
  exact step_ret hQ _

include hk in
set_option maxRecDepth 65536 in
/-- Sending blocks 6 to 3; copying block 12. -/
theorem part19 (h0 : scalM.IsWhole) (h1 : packedM.IsWhole) (h2 : outM.IsWhole) (h3 : commM.IsWhole)
    (v3 v55 v57 v58 : BitVec 32) (hw1 : k0_chk1 (wL (F := F) k) (wS (F := F) k c)) (hw2 : k0_chk2 (wL (F := F) k) (wD (F := F) k c)) (hw3 : k0_chk3 (wK (F := F) k c) (wKL (F := F) k))
    {X : sProp 𝕄} {Q : (Σ' (_ : BitVec 32), BitVec 32) → sProp 𝕄} (hQ : ∀ r, iprop(records k x κ ∗ keeping k x c 12 ∗ sending k x c 3 ∗ X) ⊢ Q r) :
    iprop(records k x κ ∗ sending k x c 7 ∗ keeping k x c 13 ∗ X) ⊢ wp frame (wpE (defs₀ (F := F)) 𝒱₀ (c : Thread nD τ) none) Set.univ
      (k0_part19 scalM h0 packedM h1 outM h2 commM h3 cc0_scratch1 cc0_scratch2 cc0_scratch3 c v3 (wL k) (wS k c) hw1 (wD k c) hw2 (wK k c) (wKL k) hw3 v55 v57 v58) Q := by
  rw [k0_part19_eq_skeleton]
  unfold k0_part19_skel
  refine step_bind (fun Q' => sending_step k hk x κ c 6 (by decide) Iff.rfl ⟨k0_dev8 c, k0_dev8_lt c⟩ (k0_dev8_eq c) _ _ _ rfl rfl rfl _ _ _ _ _ _ rfl rfl _ _ _ Q') ?_
  refine step_bind (fun Q' => sending_step k hk x κ c 5 (by decide) Iff.rfl ⟨k0_dev9 c, k0_dev9_lt c⟩ (k0_dev9_eq c) _ _ _ rfl rfl rfl _ _ _ _ _ _ rfl rfl _ _ _ Q') ?_
  refine step_bind (fun Q' => sending_step k hk x κ c 4 (by decide) Iff.rfl ⟨k0_dev10 c, k0_dev10_lt c⟩ (k0_dev10_eq c) _ _ _ rfl rfl rfl _ _ _ _ _ _ rfl rfl _ _ _ Q') ?_
  refine step_bind (fun Q' => sending_step k hk x κ c 3 (by decide) Iff.rfl ⟨k0_dev11 c, k0_dev11_lt c⟩ (k0_dev11_eq c) _ _ _ rfl rfl rfl _ _ _ _ _ _ rfl rfl _ _ _ Q') ?_
  refine swap ?_
  refine step_bind (fun Q' => keeping_step k hk x κ c 12 (by decide) Iff.rfl _ _ rfl rfl _ _ _ _ _ rfl _ _ _ Q') ?_
  exact step_ret hQ _

include hk in
set_option maxRecDepth 65536 in
/-- Copying blocks 11 to 8. -/
theorem part20 (h0 : scalM.IsWhole) (h1 : packedM.IsWhole) (h2 : outM.IsWhole) (h3 : commM.IsWhole)
    (v88 v89 : BitVec 32) (hw3 : k0_chk3 (wK (F := F) k c) (wKL (F := F) k))
    {X : sProp 𝕄} {Q : (Σ' (_ : BitVec 32), BitVec 32) → sProp 𝕄} (hQ : ∀ r, iprop(records k x κ ∗ keeping k x c 8 ∗ X) ⊢ Q r) :
    iprop(records k x κ ∗ keeping k x c 12 ∗ X) ⊢ wp frame (wpE (defs₀ (F := F)) 𝒱₀ (c : Thread nD τ) none) Set.univ
      (k0_part20 scalM h0 packedM h1 outM h2 commM h3 cc0_scratch1 cc0_scratch2 cc0_scratch3 (wK k c) (wKL k) hw3 v88 v89) Q := by
  rw [k0_part20_eq_skeleton]
  unfold k0_part20_skel
  refine step_bind (fun Q' => keeping_step k hk x κ c 11 (by decide) Iff.rfl _ _ rfl rfl _ _ _ _ _ rfl _ _ _ Q') ?_
  refine step_bind (fun Q' => keeping_step k hk x κ c 10 (by decide) Iff.rfl _ _ rfl rfl _ _ _ _ _ rfl _ _ _ Q') ?_
  refine step_bind (fun Q' => keeping_step k hk x κ c 9 (by decide) Iff.rfl _ _ rfl rfl _ _ _ _ _ rfl _ _ _ Q') ?_
  refine step_bind (fun Q' => keeping_step k hk x κ c 8 (by decide) Iff.rfl _ _ rfl rfl _ _ _ _ _ rfl _ _ _ Q') ?_
  exact step_ret hQ _

include hk in
set_option maxRecDepth 65536 in
/-- Copying blocks 7 to 3. -/
theorem part21 (h0 : scalM.IsWhole) (h1 : packedM.IsWhole) (h2 : outM.IsWhole) (h3 : commM.IsWhole)
    (v116 v118 : BitVec 32) (hw3 : k0_chk3 (wK (F := F) k c) (wKL (F := F) k))
    {X : sProp 𝕄} {Q : (Σ' (_ : BitVec 32), BitVec 32) → sProp 𝕄} (hQ : ∀ r, iprop(records k x κ ∗ keeping k x c 3 ∗ X) ⊢ Q r) :
    iprop(records k x κ ∗ keeping k x c 8 ∗ X) ⊢ wp frame (wpE (defs₀ (F := F)) 𝒱₀ (c : Thread nD τ) none) Set.univ
      (k0_part21 scalM h0 packedM h1 outM h2 commM h3 cc0_scratch1 cc0_scratch2 cc0_scratch3 (wK k c) (wKL k) hw3 v116 v118) Q := by
  rw [k0_part21_eq_skeleton]
  unfold k0_part21_skel
  refine step_bind (fun Q' => keeping_step k hk x κ c 7 (by decide) Iff.rfl _ _ rfl rfl _ _ _ _ _ rfl _ _ _ Q') ?_
  refine step_bind (fun Q' => keeping_step k hk x κ c 6 (by decide) Iff.rfl _ _ rfl rfl _ _ _ _ _ rfl _ _ _ Q') ?_
  refine step_bind (fun Q' => keeping_step k hk x κ c 5 (by decide) Iff.rfl _ _ rfl rfl _ _ _ _ _ rfl _ _ _ Q') ?_
  refine step_bind (fun Q' => keeping_step k hk x κ c 4 (by decide) Iff.rfl _ _ rfl rfl _ _ _ _ _ rfl _ _ _ Q') ?_
  refine step_bind (fun Q' => keeping_step k hk x κ c 3 (by decide) Iff.rfl _ _ rfl rfl _ _ _ _ _ rfl _ _ _ Q') ?_
  exact step_ret hQ _

include hk in
set_option maxRecDepth 65536 in
/-- Waiting for the copies of blocks 12 to 8. -/
theorem part22 (h0 : scalM.IsWhole) (h1 : packedM.IsWhole) (h2 : outM.IsWhole) (h3 : commM.IsWhole)
    (v151 v153 : BitVec 32) (hw3 : k0_chk3 (wK (F := F) k c) (wKL (F := F) k))
    {X : sProp 𝕄} {Q : (BitVec 32) → sProp 𝕄} (hQ : ∀ r, iprop(records k x κ ∗ kept k x c 8 ∗ X) ⊢ Q r) :
    iprop(records k x κ ∗ kept k x c 13 ∗ X) ⊢ wp frame (wpE (defs₀ (F := F)) 𝒱₀ (c : Thread nD τ) none) Set.univ
      (k0_part22 scalM h0 packedM h1 outM h2 commM h3 cc0_scratch1 cc0_scratch2 cc0_scratch3 (wK k c) (wKL k) hw3 v151 v153) Q := by
  rw [k0_part22_eq_skeleton]
  unfold k0_part22_skel
  refine step_bind (fun Q' => kept_step' k hk x κ c 12 (by decide) Iff.rfl _ _ rfl _ _ _ _ _ rfl _ _ Q') ?_
  refine step_bind (fun Q' => kept_step' k hk x κ c 11 (by decide) Iff.rfl _ _ rfl _ _ _ _ _ rfl _ _ Q') ?_
  refine step_bind (fun Q' => kept_step' k hk x κ c 10 (by decide) Iff.rfl _ _ rfl _ _ _ _ _ rfl _ _ Q') ?_
  refine step_bind (fun Q' => kept_step' k hk x κ c 9 (by decide) Iff.rfl _ _ rfl _ _ _ _ _ rfl _ _ Q') ?_
  refine step_bind (fun Q' => kept_step' k hk x κ c 8 (by decide) Iff.rfl _ _ rfl _ _ _ _ _ rfl _ _ Q') ?_
  exact step_ret hQ _

include hk in
set_option maxRecDepth 65536 in
/-- Waiting for the copies of blocks 7 to 4. -/
theorem part23 (h0 : scalM.IsWhole) (h1 : packedM.IsWhole) (h2 : outM.IsWhole) (h3 : commM.IsWhole)
    (v184 : BitVec 32) (hw3 : k0_chk3 (wK (F := F) k c) (wKL (F := F) k))
    {X : sProp 𝕄} {Q : (Σ' (_ : BitVec 32) (_ : BitVec 32), BitVec 32) → sProp 𝕄} (hQ : ∀ r, iprop(records k x κ ∗ kept k x c 4 ∗ X) ⊢ Q r) :
    iprop(records k x κ ∗ kept k x c 8 ∗ X) ⊢ wp frame (wpE (defs₀ (F := F)) 𝒱₀ (c : Thread nD τ) none) Set.univ
      (k0_part23 scalM h0 packedM h1 outM h2 commM h3 cc0_scratch1 cc0_scratch2 cc0_scratch3 (wK k c) (wKL k) hw3 v184) Q := by
  rw [k0_part23_eq_skeleton]
  unfold k0_part23_skel
  refine step_bind (fun Q' => kept_step' k hk x κ c 7 (by decide) Iff.rfl _ _ rfl _ _ _ _ _ rfl _ _ Q') ?_
  refine step_bind (fun Q' => kept_step' k hk x κ c 6 (by decide) Iff.rfl _ _ rfl _ _ _ _ _ rfl _ _ Q') ?_
  refine step_bind (fun Q' => kept_step' k hk x κ c 5 (by decide) Iff.rfl _ _ rfl _ _ _ _ _ rfl _ _ Q') ?_
  refine step_bind (fun Q' => kept_step' k hk x κ c 4 (by decide) Iff.rfl _ _ rfl _ _ _ _ _ rfl _ _ Q') ?_
  exact step_ret hQ _

/-- Nothing is owed while waiting: the two waits hand it on. -/
theorem kept_receiving {A : sProp 𝕄} {X : sProp 𝕄} {n : ℕ}
    (h : iprop(records k x κ ∗ receiving k x c n ∗ keptSt k x c 3 ∗ X) ⊢ A) :
    iprop(records k x κ ∗ kept k x c 3 ∗ recvSt k x c n ∗ X) ⊢ A := by
  unfold receiving at h
  unfold kept
  iintro ⟨H1, ⟨H2, H3⟩, H4, H5⟩
  iapply h
  isplitl [H1]; · iexact H1
  isplitl [H4 H3]; · isplitl [H4] <;> iassumption
  isplitl [H2] <;> iassumption

include hk in
set_option maxRecDepth 65536 in
/-- Waiting for the copy of block 3, then for the other device's blocks 12 to 9. -/
theorem part24 (h0 : scalM.IsWhole) (h1 : packedM.IsWhole) (h2 : outM.IsWhole) (h3 : commM.IsWhole)
    (v3 v212 v216 v217 : BitVec 32) (hw1 : k0_chk1 (wL (F := F) k) (wS (F := F) k c)) (hw2 : k0_chk2 (wL (F := F) k) (wD (F := F) k c)) (hw3 : k0_chk3 (wK (F := F) k c) (wKL (F := F) k))
    {X : sProp 𝕄} {Q : (Σ' (_ : BitVec 32), BitVec 32) → sProp 𝕄} (hQ : ∀ r, iprop(records k x κ ∗ receiving k x c 9 ∗ keptSt k x c 3 ∗ X) ⊢ Q r) :
    iprop(records k x κ ∗ kept k x c 4 ∗ recvSt k x c 13 ∗ X) ⊢ wp frame (wpE (defs₀ (F := F)) 𝒱₀ (c : Thread nD τ) none) Set.univ
      (k0_part24 scalM h0 packedM h1 outM h2 commM h3 cc0_scratch1 cc0_scratch2 cc0_scratch3 v3 (wL k) (wS k c) hw1 (wD k c) hw2 (wK k c) (wKL k) hw3 v212 v216 v217) Q := by
  rw [k0_part24_eq_skeleton]
  unfold k0_part24_skel
  refine step_bind (fun Q' => kept_step' k hk x κ c 3 (by decide) Iff.rfl _ _ rfl _ _ _ _ _ rfl _ _ Q') ?_
  refine kept_receiving k x κ c ?_
  refine step_bind₂ (fun Q' => receiving_step k hk x κ c 12 (by decide) Iff.rfl _ _ _ rfl _ _ _ _ _ _ _ _ _ _ rfl rfl _ _ _ _ Q') ?_
  refine step_bind₂ (fun Q' => receiving_step k hk x κ c 11 (by decide) Iff.rfl _ _ _ rfl _ _ _ _ _ _ _ _ _ _ rfl rfl _ _ _ _ Q') ?_
  refine step_bind₂ (fun Q' => receiving_step k hk x κ c 10 (by decide) Iff.rfl _ _ _ rfl _ _ _ _ _ _ _ _ _ _ rfl rfl _ _ _ _ Q') ?_
  refine step_bind₂ (fun Q' => receiving_step k hk x κ c 9 (by decide) Iff.rfl _ _ _ rfl _ _ _ _ _ _ _ _ _ _ rfl rfl _ _ _ _ Q') ?_
  exact step_ret hQ _

include hk in
set_option maxRecDepth 65536 in
/-- Waiting for the other device's blocks 8 to 4. -/
theorem part25 (h0 : scalM.IsWhole) (h1 : packedM.IsWhole) (h2 : outM.IsWhole) (h3 : commM.IsWhole)
    (v3 v245 v247 : BitVec 32) (hw1 : k0_chk1 (wL (F := F) k) (wS (F := F) k c)) (hw2 : k0_chk2 (wL (F := F) k) (wD (F := F) k c))
    {X : sProp 𝕄} {Q : (Σ' (_ : BitVec 32), BitVec 32) → sProp 𝕄} (hQ : ∀ r, iprop(records k x κ ∗ receiving k x c 4 ∗ X) ⊢ Q r) :
    iprop(records k x κ ∗ receiving k x c 9 ∗ X) ⊢ wp frame (wpE (defs₀ (F := F)) 𝒱₀ (c : Thread nD τ) none) Set.univ
      (k0_part25 scalM h0 packedM h1 outM h2 commM h3 cc0_scratch1 cc0_scratch2 cc0_scratch3 v3 (wL k) (wS k c) hw1 (wD k c) hw2 v245 v247) Q := by
  rw [k0_part25_eq_skeleton]
  unfold k0_part25_skel
  refine step_bind₂ (fun Q' => receiving_step k hk x κ c 8 (by decide) Iff.rfl _ _ _ rfl _ _ _ _ _ _ _ _ _ _ rfl rfl _ _ _ _ Q') ?_
  refine step_bind₂ (fun Q' => receiving_step k hk x κ c 7 (by decide) Iff.rfl _ _ _ rfl _ _ _ _ _ _ _ _ _ _ rfl rfl _ _ _ _ Q') ?_
  refine step_bind₂ (fun Q' => receiving_step k hk x κ c 6 (by decide) Iff.rfl _ _ _ rfl _ _ _ _ _ _ _ _ _ _ rfl rfl _ _ _ _ Q') ?_
  refine step_bind₂ (fun Q' => receiving_step k hk x κ c 5 (by decide) Iff.rfl _ _ _ rfl _ _ _ _ _ _ _ _ _ _ rfl rfl _ _ _ _ Q') ?_
  refine step_bind₂ (fun Q' => receiving_step k hk x κ c 4 (by decide) Iff.rfl _ _ _ rfl _ _ _ _ _ _ _ _ _ _ rfl rfl _ _ _ _ Q') ?_
  exact step_ret hQ _

end Cert.Proof
-- ==== Proof.Opening.lean ====
/-
  The body's opening: it reads the table, meets the other device at the barrier, and sends its two largest blocks.

  At the barrier each device hands the other its landing rows: from then on the other may write there.
-/
module

public import proofs.«01_k».proof.Proof.Parts

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ### The table -/

abbrev scalLoc (c : Dev nD) : Loc nD τ sig := (c : Thread nD τ).loc cc0_stg0_0
/-- Device `c`'s table holds `T`. -/
abbrev scalPts (c : Dev nD) (T : S7.Idx → Elt F .i32) : sProp 𝕄 := scalLoc c ↦{fullShare} T

/-- How many of its own rows device `c` routes to device 0. -/
def zc (k : ℕ) (c : Dev nD) : ℕ := if c = 0 then k else 4096 - k
/-- How many rows of padding follow them. -/
def gapc (k : ℕ) (c : Dev nD) : ℕ := up8 (zc k c) - zc k c

/-- The table's words, in order. -/
def word (k : ℕ) (c : Dev nD) : ℕ → BitVec 32
  | 0 => BitVec.ofNat 32 (sendLen k)
  | 1 => BitVec.ofNat 32 (src k c)
  | 2 => BitVec.ofNat 32 (src k (pr c))
  | 3 => BitVec.ofNat 32 (zc k c)
  | 4 => BitVec.ofNat 32 (gapc k c)
  | 5 => BitVec.ofNat 32 (keep k c)
  | _ => BitVec.ofNat 32 (keepLen k)
/-- The table the body reads. -/
def table (k : ℕ) (c : Dev nD) : S7.Idx → Elt F .i32 := fun i => word k c (i 0).val

variable (k : ℕ) (hk : k ≤ 4096) (x : Dev nD → Buf4112 F) (κ : GSem nD τ sig → ℕ) (c : Dev nD)

/-- A load of one word of the table. -/
theorem load_bind {α : Type} {X : sProp 𝕄} (j : ℕ) (inb : ∀ a, (![j] : Fin 1 → ℕ) a + S1.size a ≤ S7.size a)
    (h1 : (Rect.unit (s := S7) ![j] S1.size inb).shape.numel = 1) (hp : EltTy.packing .i32 = 1)
    {kk : Elt F .i32 → Prog (TpuEff nD τ sig (Elt F) Λ₀ .tc) α} {Q : α → sProp 𝕄}
    (hrest : iprop(scalPts c (table k c) ∗ X) ⊢ wp frame (wpE (defs₀ (F := F)) 𝒱₀ (c : Thread nD τ) none) Set.univ (kk (word k c j)) Q) :
    iprop(scalPts c (table k c) ∗ X) ⊢ wp frame (wpE (defs₀ (F := F)) 𝒱₀ (c : Thread nD τ) none) Set.univ
      (smemLoad scalM (Rect.unit (s := S7) ![j] S1.size inb) h1 hp >>= kk) Q := by
  rw [wp_bind_eq]
  unfold smemLoad
  iintro ⟨HT, HX⟩
  iapply (wp_smemLoadElt 𝒱₀ (c : Thread nD τ) none Set.univ (m := scalM) (r := Rect.unit (s := S7) ![j] S1.size inb)
    (hw := View.loads_smem_one hp h1) (x := Shape.Idx.first (h1.symm ▸ Nat.one_pos)) (k := .ret) (S := Finset.univ) (q := fullShare) (f := table k c) (Finset.subset_univ _)) $$ HT
  iintro HT
  rw [wp_ret]
  imodintro
  have e : ((scalM.access (Rect.unit (s := S7) ![j] S1.size inb)).read (Elt F) (table k c) (Shape.Idx.first (h1.symm ▸ Nat.one_pos)) : Elt F .i32)
      = word k c j := by
    show word k c _ = word k c j
    congr 1
  rw [e]
  iapply hrest
  isplitl [HT] <;> iassumption

theorem device_bind {α : Type} {X : sProp 𝕄} {kk : Dev nD → Prog (TpuEff nD τ sig (Elt F) Λ₀ .tc) α} {Q : α → sProp 𝕄}
    (hrest : X ⊢ wp frame (wpE (defs₀ (F := F)) 𝒱₀ (c : Thread nD τ) none) Set.univ (kk c) Q) :
    X ⊢ wp frame (wpE (defs₀ (F := F)) 𝒱₀ (c : Thread nD τ) none) Set.univ (Prog.lift .deviceId >>= kk) Q := by
  simp only [Prog.lift, Prog.bind_op, Prog.bind_ret, wp_deviceId]
  exact hrest

theorem assume_bind {α : Type} {X : sProp 𝕄} {P : Prop} {d : Decidable P} (h : P)
    {kk : PLift P → Prog (TpuEff nD τ sig (Elt F) Λ₀ .tc) α} {Q : α → sProp 𝕄}
    (hrest : X ⊢ wp frame (wpE (defs₀ (F := F)) 𝒱₀ (c : Thread nD τ) none) Set.univ (kk ⟨h⟩) Q) :
    X ⊢ wp frame (wpE (defs₀ (F := F)) 𝒱₀ (c : Thread nD τ) none) Set.univ (Prog.lift (TpuEff.assume P d) >>= kk) Q := by
  simp only [Prog.lift, Prog.bind_op, Prog.bind_ret]
  rw [wp_assume_of _ _ _ _ h]
  exact hrest

/-! ### The barrier -/

/-- What a block to be sent has before the barrier. -/
def sendPart (b : Fin 13) : sProp 𝕄 :=
  iprop(packedPts c (blockRows (src k c) (sendLen k) b) (x c)
    ∗ dutyTok ER (sendCell c b) 0 () ∗ reached ER (sendCell c b) 0 ∗ dutyTok ER (recvCell (pr c) b) 0 ())

theorem reached_recv (b : Fin 13) : (bigSep Finset.univ fun b => (reached ER (recvCell (pr c) b) 0 : sProp 𝕄)) ⊢ reached ER (recvCell (pr c) b) 0 :=
  bigSep_elim (Finset.mem_univ b)

theorem sendLen_lt (hk : k ≤ 4096) : sendLen k < 8192 := send_bound k hk

theorem sendPre_intro (b : Fin 13) (f : Buf4112 F) :
    iprop(sendPart k x c b ∗ commPts (pr c) (blockRows (src k (pr c)) (sendLen k) b) f ∗ reached ER (recvCell (pr c) b) 0) ⊢ sendPre k x c b := by
  unfold sendPart sendPre
  iintro ⟨⟨H1, H2, H3, H4⟩, H5, H6⟩
  isplitl [H1]; · iexact H1
  isplitl [H5]; · iexists f; iexact H5
  isplitl [H2]; · iexact H2
  isplitl [H3]; · iexact H3
  isplitl [H4] <;> iassumption

include hk in
theorem sendSt_start : iprop((bigSep (bits (sendLen k)) fun b => sendPart k x c b) ∗ barPay (F := F) k c) ⊢ sendSt k x c 13 := by
  unfold barPay
  iintro ⟨HS, ⟨%f, Hc⟩, #Hr⟩
  iapply phase_start
  have e : (commPts (pr c) (rowsOf (src k (pr c)) (sendLen k)) f : sProp 𝕄)
      = bigSep (bits (sendLen k)) fun b => commPts (pr c) (blockRows (src k (pr c)) (sendLen k) b) f := by
    rw [← blocks_union (src k (pr c)) (sendLen k) (send_bound k hk) (up8_dvd _)]
    exact pointsTo_biUnion _ _ fun b hb b' hb' h => blocks_disjoint _ _ b hb b' hb' h
  ihave Hc' := (Entails.of_eq e) $$ Hc
  ihave Hr' := (bigSep_intro_persistent (S := bits (sendLen k)) (Φ := fun b => (reached ER (recvCell (pr c) b) 0 : sProp 𝕄)) (R := bigSep Finset.univ fun b => (reached ER (recvCell (pr c) b) 0 : sProp 𝕄)) (fun b _ => reached_recv c b)) $$ Hr
  have e2 : iprop((bigSep (bits (sendLen k)) fun b => sendPart k x c b) ∗ (bigSep (bits (sendLen k)) fun b => commPts (pr c) (blockRows (src k (pr c)) (sendLen k) b) f)
      ∗ bigSep (bits (sendLen k)) fun b => reached ER (recvCell (pr c) b) 0) ⊢ bigSep (bits (sendLen k)) (sendPre k x c) := by
    rw [← bigSep_sep', ← bigSep_sep']
    exact bigSep_mono fun b _ => sendPre_intro k x c b f
  iapply e2
  isplitl [HS]; · iexact HS
  isplitl [Hc'] <;> iassumption

/-- Before the barrier. -/
def opening : sProp 𝕄 :=
  iprop((bigSep (bits (sendLen k)) fun b => sendPart k x c b)
    ∗ (dutyTok ER (barCell (pr c)) 0 () ∗ barPay (F := F) k (pr c))
    ∗ (cred (tallyAt (barCell c) () 1) ∗ atPos ER (barCell c) 0 ∅ 0 ∗ levAts L lv)
    ∗ ∃ W : Finset (SemLoc sig × Unit), owes (c : Thread nD τ) (O₀ k c) W)

/-- The barrier: raise the other device's, wait on its own. -/
theorem barrier_bind {α : Type} {X : sProp 𝕄} {n : Dev nD} (hn : n.val = 1 - c.val) {s s' : Sem sig} (hs : s = barS) (hs' : s' = barS)
    {r : Prog (TpuEff nD τ sig (Elt F) Λ₀ .tc) α} {Q : α → sProp 𝕄} (hk : k ≤ 4096)
    (hrest : iprop(records k x κ ∗ sending k x c 13 ∗ atPos ER (barCell c) (0 + 1) ∅ 0 ∗ X)
      ⊢ wp frame (wpE (defs₀ (F := F)) 𝒱₀ (c : Thread nD τ) none) Set.univ r Q) :
    iprop(records k x κ ∗ opening k x c ∗ X)
    ⊢ wp frame (wpE (defs₀ (F := F)) 𝒱₀ (c : Thread nD τ) none) Set.univ
      (semSignalWord n s 1#32 >>= fun _ => semWaitWord s' 1#32 >>= fun _ => r) Q := by
  obtain rfl : n = pr c := Fin.ext hn
  subst hs hs'
  simp only [semSignalWord, semWaitWord, Prog.bind_op, Prog.bind_ret]
  unfold opening
  iintro ⟨#HR, ⟨HS, ⟨Ht, Hpay⟩, ⟨Hcr, Hat, #Hlev⟩, %W, HO⟩, HX⟩
  iapply (Rounds.wp_signal 𝒱₀ ER (rd k x) (c : Thread nD τ) none (dst := (pr c : Thread nD τ)) (sem := barS) (r := 0) (d := ())
      (k' := 1) (κ := κ (barCell (pr c)))
      (by rw [duties_bar]; exact Finset.mem_singleton_self _) (amount_bar k x (pr c) ()) () (owed k c 13) rfl) $$ [HO Ht Hpay]
  · isplitr; · iapply (inv_at k x κ (bar_mem (pr c))); iexact HR
    isplitl [HO]; · iexact HO
    isplitl [Ht]; · iexact Ht
    isplitl [Hpay]; · rw [payload_bar]; iexact Hpay
    iapply (reached_at k x κ (pr c)); iexact HR
  iintro HO
  iapply (Rounds.wp_wait_rest_token 𝒱₀ ER (rd k x) (c : Thread nD τ) none (κ := κ (barCell c)) (k' := 1)
      (wpE_semWait_eq 𝒱₀ (c : Thread nD τ) none Set.univ) (Set.mem_univ _) () (O := owed k c 13) (W := W) (R := 0) (m := 0) (T := ∅)
      ((Nat.zero_add _).trans (expect_one k x (barCell c) _ (duties_bar k x c) (amount_bar k x c)).symm)) $$ [Hcr HO Hat]
  · isplitr; · iapply (inv_at k x κ (bar_mem c)); iexact HR
    isplitl [Hcr]; · iexact Hcr
    isplitl [HO]; · iexact HO
    isplitr; · iapply (mayWait_bar k c); iexact Hlev
    iexact Hat
  iintro ⟨HO, Hat, -, Hpay⟩
  ihave Hpay' := (Entails.of_eq (rest_one k x (barCell c) _ (duties_bar k x c) (payload_bar k x c))) $$ Hpay
  iapply hrest
  isplitr; · iexact HR
  isplitl [HS Hpay' HO]
  · unfold sending
    isplitl [HS Hpay']
    · iapply (sendSt_start k hk x c)
      isplitl [HS] <;> iassumption
    · iexists _; iexact HO
  isplitl [Hat] <;> iassumption

/-! ### The part -/

theorem sendLen_le (hk : k ≤ 4096) : sendLen k ≤ 4096 := up8_le_4096 (Nat.sub_le _ _)
theorem keepLen_le (hk : k ≤ 4096) : keepLen k ≤ 4096 := up8_le_4096 hk
theorem src_dvd : 8 ∣ src k c := by unfold src; split; exacts [up8_dvd _, Nat.dvd_zero _]
theorem keep_dvd : 8 ∣ keep k c := by unfold keep; split; exacts [Nat.dvd_zero _, up8_dvd _]

include hk in
theorem hw1 : k0_chk1 (wL (F := F) k) (wS (F := F) k c) := chk1 (sendLen_le k hk) (src_dvd k c) (by have := src_add k hk c; omega)
include hk in
theorem hw2 : k0_chk2 (wL (F := F) k) (wD (F := F) k c) := chk2 (sendLen_le k hk) (src_dvd k _) (by have := src_add k hk (pr c); omega)
include hk in
theorem hw3 : k0_chk3 (wK (F := F) k c) (wKL (F := F) k) := chk3 (keepLen_le k hk) (keep_dvd k c) (by have := keep_add k hk c; omega)

set_option maxRecDepth 65536 in
/-- Reading the table, the barrier, sending blocks 12 and 11. What the part returns is the table's words, and words
    that do not matter. -/
theorem part17 (h0 : scalM.IsWhole) (h1 : packedM.IsWhole) (h2 : outM.IsWhole) (h3 : commM.IsWhole)
    {X : sProp 𝕄} {Q : (Σ' (d0 : Dev nD) (_ : BitVec 32) (v4 : Elt F .i32) (v5 : Elt F .i32) (_ : k0_chk1 v4 v5) (v6 : Elt F .i32) (_ : k0_chk2 v4 v6) (_ : Elt F .i32) (_ : Elt F .i32) (v9 : Elt F .i32) (v10 : Elt F .i32) (_ : k0_chk3 v9 v10) (_ : BitVec 32), BitVec 32) → sProp 𝕄}
    (hQ : ∀ v3 v20 v22, iprop(records k x κ ∗ sending k x c 11 ∗ (atPos ER (barCell c) (0 + 1) ∅ 0 ∗ scalPts c (table k c) ∗ X))
      ⊢ Q ⟨c, v3, wL k, wS k c, hw1 k hk c, wD k c, hw2 k hk c, BitVec.ofNat 32 (zc k c), BitVec.ofNat 32 (gapc k c), wK k c, wKL k, hw3 k hk c, v20, v22⟩) :
    iprop(records k x κ ∗ opening k x c ∗ (scalPts c (table k c) ∗ X)) ⊢ wp frame (wpE (defs₀ (F := F)) 𝒱₀ (c : Thread nD τ) none) Set.univ
      (k0_part17 scalM h0 packedM h1 outM h2 commM h3 cc0_scratch1 cc0_scratch2 cc0_scratch3) Q := by
  have turn : ∀ {A B D E : sProp 𝕄}, (iprop(D ∗ (A ∗ B ∗ E)) ⊢ iprop(A ∗ B ∗ (D ∗ E))) := by
    intro A B D E
    iintro ⟨H1, H2, H3, H4⟩
    isplitl [H2]; · iexact H2
    isplitl [H3]; · iexact H3
    isplitl [H1] <;> iassumption
  have turn' : ∀ {A B D E : sProp 𝕄}, (iprop(A ∗ B ∗ (D ∗ E)) ⊢ iprop(D ∗ (A ∗ B ∗ E))) := by
    intro A B D E
    iintro ⟨H1, H2, H3, H4⟩
    isplitl [H3]; · iexact H3
    isplitl [H1]; · iexact H1
    isplitl [H2] <;> iassumption
  rw [k0_part17_eq_skeleton]
  unfold k0_part17_skel
  refine turn'.trans ?_
  refine device_bind c ?_
  refine load_bind k c 0 _ _ _ ?_
  refine load_bind k c 1 _ _ _ ?_
  refine assume_bind c (hw1 (F := F) k hk c) ?_
  refine load_bind k c 2 _ _ _ ?_
  refine assume_bind c (hw2 (F := F) k hk c) ?_
  refine load_bind k c 3 _ _ _ ?_
  refine load_bind k c 4 _ _ _ ?_
  refine load_bind k c 5 _ _ _ ?_
  refine load_bind k c 6 _ _ _ ?_
  refine assume_bind c (hw3 (F := F) k hk c) ?_
  refine turn.trans ?_
  refine barrier_bind k x κ c (n := ⟨k0_dev1 c, k0_dev1_lt c⟩) (k0_dev1_eq c) rfl rfl hk ?_
  refine step_bind (fun Q' => sending_step k hk x κ c 12 (by decide) Iff.rfl ⟨k0_dev2 c, k0_dev2_lt c⟩ (k0_dev2_eq c) _ _ _ rfl rfl rfl _ _ _ _ _ _ rfl rfl _ _ _ Q') ?_
  refine step_bind (fun Q' => sending_step k hk x κ c 11 (by decide) Iff.rfl ⟨k0_dev3 c, k0_dev3_lt c⟩ (k0_dev3_eq c) _ _ _ rfl rfl rfl _ _ _ _ _ _ rfl rfl _ _ _ Q') ?_
  simp only [Prog.pure_eq_ret]
  rw [wp_ret]
  exact (hQ _ _ _).trans fupd_intro

end Cert.Proof
-- ==== Proof.Tiles.lean ====
/-
  The compaction: the result's rows, taken from the landing rows in eight tiles of 512 rows.

  The rows bound for device 0 come first, then padding, then the rows bound for device 1; a result row past the first
  kind is taken from as many rows further on as the padding has. The padding has fewer than eight rows, and there is
  one copy of the compaction for each number of them.
-/
module

public import proofs.«01_k».proof.Proof.Opening

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ### What a tile holds -/

/-- The contents of a result buffer. -/
abbrev Buf4096 (F : FTy → Type) := S4096x1024.Idx → Elt F .bf16

/-- The landing row that result row `i` is taken from. -/
def outIdx (z g : ℕ) (i : S4096x1024.Idx) : S4112x1024.Idx := fun a =>
  match a with
  | 0 => ⟨((if (i 0).val < z then (i 0).val else (i 0).val + g)) % 4112, Nat.mod_lt _ (by decide)⟩
  | 1 => i 1

/-- The result rows that the landing rows `f` give. -/
def outF (z g : ℕ) (f : Buf4112 F) : Buf4096 F := fun i => f (outIdx z g i)

/-- What the kernel stores for the tile whose first row is `w`. -/
def tilePay (w : BitVec 32) (g : ℕ) (hg : S520x1024.Slices ![g, 0] S512x1024) (v7 : BitVec 32) (v : Vec F S520x1024 .bf16) :
    FVec F S512x1024 .bf16 :=
  select (broadcastTo S512x1024 (shapeCast S512x1
      (cmpi .slt (addi (broadcast S512x1 w) (iota .tc S512x1 32 [0] iota_S512x1_d0_w32)) (broadcast S512x1 v7))
      shapeCasts_S512x1_S512x1) broadcasts_S512x1_S512x1024)
    (extractStridedSlice S512x1024 ![0, 0] v slices_S520x1024_o0_0_S512x1024)
    (extractStridedSlice S512x1024 ![g, 0] v hg)

/-- Column 0 of a tile's row. -/
def col0 (j : S512x1024.Idx) : S512x1.Idx := fun a =>
  match a with
  | 0 => ⟨(j 0).val, (j 0).isLt⟩
  | 1 => ⟨0, by decide⟩

/-- Row `j` of the 520 rows loaded, displaced by `g`. -/
def shift520 (g : ℕ) (hg : S520x1024.Slices ![g, 0] S512x1024) (j : S512x1024.Idx) : S520x1024.Idx := fun a =>
  match a with
  | 0 => ⟨g + (j 0).val, lt_of_lt_of_le (Nat.add_lt_add_left (j 0).isLt _) (hg.2 0)⟩
  | 1 => ⟨(j 1).val, (j 1).isLt⟩

theorem slt_iff (a z : ℕ) (ha : a ≤ 4096) (hz : z ≤ 4096) : (BitVec.ofNat 32 a).slt (BitVec.ofNat 32 z) = decide (a < z) := by
  have e (n : ℕ) (h : n ≤ 4096) : (BitVec.ofNat 32 n).toInt = n := by
    rw [BitVec.toInt_eq_toNat_of_lt (by rw [BitVec.toNat_ofNat, Nat.mod_eq_of_lt (by omega)]; omega), BitVec.toNat_ofNat, Nat.mod_eq_of_lt (by omega)]
  rw [BitVec.slt, e a ha, e z hz]
  exact decide_eq_decide.mpr Int.ofNat_lt

theorem tilePay_apply (n g : ℕ) (hg : S520x1024.Slices ![g, 0] S512x1024) (z : ℕ) (hn : n ≤ 3584) (hz : z ≤ 4096)
    (v : Vec F S520x1024 .bf16) (j : S512x1024.Idx) :
    tilePay (BitVec.ofNat 32 n) g hg (BitVec.ofNat 32 z) v j
      = if n + (j 0).val < z then v (shift520 0 slices_S520x1024_o0_0_S512x1024 j) else v (shift520 g hg j) := by
  have hj : (j 0).val < 512 := (j 0).isLt
  unfold tilePay
  rw [Idealize.ShloMosaic.shapeCast_self]
  show Scalar.select (broadcastTo S512x1024 _ _ j) (extractStridedSlice S512x1024 _ v _ j) (extractStridedSlice S512x1024 _ v _ j) = _
  rw [broadcastTo_apply _ _ j (col0 j) (by intro a; match a with | 0 => rfl | 1 => rfl),
    extractStridedSlice_apply ![0, 0] v _ j (shift520 0 slices_S520x1024_o0_0_S512x1024 j)
      (by intro a; match a with | 0 => rfl | 1 => exact (Nat.zero_add _).symm),
    extractStridedSlice_apply ![g, 0] v _ j (shift520 g hg j)
      (by intro a; match a with | 0 => rfl | 1 => exact (Nat.zero_add _).symm)]
  have e : (cmpi .slt (addi (broadcast S512x1 (BitVec.ofNat 32 n)) (iota .tc S512x1 32 [0] iota_S512x1_d0_w32)) (broadcast S512x1 (BitVec.ofNat 32 z))) (col0 j)
      = if n + (j 0).val < z then 1#1 else 0#1 := by
    show BitVec.ofBool ((BitVec.ofNat 32 n + BitVec.ofNat 32 (0 * S512x1.size 0 + (j 0).val)).slt (BitVec.ofNat 32 z)) = _
    rw [Nat.zero_mul, Nat.zero_add, ← BitVec.ofNat_add, slt_iff _ _ (by omega) hz]
    by_cases h : n + (j 0).val < z <;> simp [h]
  rw [e]
  by_cases h : n + (j 0).val < z <;> simp [h, Scalar.select]

/-! ### The state between tiles -/

abbrev outLoc (c : Dev nD) : Loc nD τ sig := (c : Thread nD τ).loc cc0_stg2_0
abbrev outPts (c : Dev nD) (o : Buf4096 F) : sProp 𝕄 := outLoc c ↦{fullShare} o

/-- The result's rows below `512 t` are written from the landing rows `f`. -/
def tiles (c : Dev nD) (z g : ℕ) (f : Buf4112 F) (t : ℕ) : sProp 𝕄 :=
  iprop(commPts c Finset.univ f ∗ ∃ o : Buf4096 F, outPts c o ∗ ⌜∀ i, (i 0).val < 512 * t → o i = outF z g f i⌝)

/-- The 520 landing rows from row `a`. -/
def rows520 (a : ℕ) (f : Buf4112 F) (inb : ∀ i, (![a, 0] : Fin 2 → ℕ) i + S520x1024.size i ≤ S4112x1024.size i) :
    Vec F S520x1024 .bf16 := commM.view.readAt (Elt F) (Rect.unit (s := S4112x1024) ![a, 0] S520x1024.size inb).toLoadRect f

theorem rows520_apply (a : ℕ) (f : Buf4112 F) (inb) (j : S520x1024.Idx) (i : S4112x1024.Idx)
    (h0 : (i 0).val = a + (j 0).val) (h1 : (i 1).val = (j 1).val) : rows520 a f inb j = f i := by
  show f _ = f i
  congr 1
  funext b
  match b with
  | 0 => exact Fin.ext (by show a + 1 * (j 0).val = (i 0).val; omega)
  | 1 => exact Fin.ext (by show 0 + 1 * (j 1).val = (i 1).val; omega)

variable (c : Dev nD) (z g : ℕ) (f : Buf4112 F)

/-- A load of landing rows. -/
theorem comm_load {α : Type} {X : sProp 𝕄} {t a : ℕ} (inb) {hl}
    {kk : Vec F S520x1024 .bf16 → Prog (TpuEff nD τ sig (Elt F) Λ₀ .tc) α} {Q : α → sProp 𝕄}
    (hrest : iprop(tiles c z g f t ∗ X) ⊢ wp frame (wpE (defs₀ (F := F)) 𝒱₀ (c : Thread nD τ) none) Set.univ (kk (rows520 a f inb)) Q) :
    iprop(tiles c z g f t ∗ X) ⊢ wp frame (wpE (defs₀ (F := F)) 𝒱₀ (c : Thread nD τ) none) Set.univ
      (Prog.lift (.load commM (Rect.unit (s := S4112x1024) ![a, 0] S520x1024.size inb).toLoadRect hl) >>= kk) Q := by
  simp only [Prog.lift, Prog.bind_op, Prog.bind_ret]
  have h2 : iprop(commPts c Finset.univ f ∗ (∃ o : Buf4096 F, outPts c o ∗ ⌜∀ i, (i 0).val < 512 * t → o i = outF z g f i⌝) ∗ X)
      ⊢ iprop(tiles c z g f t ∗ X) := by
    unfold tiles
    iintro ⟨H1, H2, H3⟩
    isplitl [H1 H2]
    · isplitl [H1]; · iexact H1
      · iexact H2
    · iexact H3
  unfold tiles
  iintro ⟨⟨HC, HO⟩, HX⟩
  iapply (wp_load 𝒱₀ (c : Thread nD τ) none Set.univ (m := commM) (S := Finset.univ) (f := f) (Finset.subset_univ _)) $$ HC
  iintro HC
  iapply hrest
  iapply h2
  isplitl [HC]; · iexact HC
  isplitl [HO] <;> iassumption

/-- A load of result rows; what it reads is not used. -/
theorem out_load {α : Type} {X : sProp 𝕄} {t : ℕ} {r : LoadRect S4096x1024} {hl}
    {kk : (r.shape.Idx → Elt F .bf16) → Prog (TpuEff nD τ sig (Elt F) Λ₀ .tc) α} {Q : α → sProp 𝕄}
    (hrest : ∀ v, iprop(tiles c z g f t ∗ X) ⊢ wp frame (wpE (defs₀ (F := F)) 𝒱₀ (c : Thread nD τ) none) Set.univ (kk v) Q) :
    iprop(tiles c z g f t ∗ X) ⊢ wp frame (wpE (defs₀ (F := F)) 𝒱₀ (c : Thread nD τ) none) Set.univ
      (Prog.lift (.load outM r hl) >>= kk) Q := by
  simp only [Prog.lift, Prog.bind_op, Prog.bind_ret]
  have h2 (o : Buf4096 F) (ho : ∀ i, (i 0).val < 512 * t → o i = outF z g f i) :
      iprop(commPts c Finset.univ f ∗ outPts c o ∗ X) ⊢ iprop(tiles c z g f t ∗ X) := by
    unfold tiles
    iintro ⟨H1, H2, H3⟩
    isplitl [H1 H2]
    · isplitl [H1]; · iexact H1
      iexists o
      isplitl [H2]; · iexact H2
      ipureintro; exact ho
    · iexact H3
  unfold tiles
  iintro ⟨⟨HC, ⟨%o, HO, %ho⟩⟩, HX⟩
  iapply (wp_load 𝒱₀ (c : Thread nD τ) none Set.univ (m := outM) (S := Finset.univ) (f := o) (Finset.subset_univ _)) $$ HO
  iintro HO
  iapply (hrest _)
  iapply (h2 o ho)
  isplitl [HC]; · iexact HC
  isplitl [HO] <;> iassumption

/-- What a store of a tile leaves. -/
theorem out_write (t : ℕ) (ht : t < 8) (hz : z ≤ 4096) (hg7 : g ≤ 8) (hg : S520x1024.Slices ![g, 0] S512x1024) (inb inb')
    (o : Buf4096 F) (ho : ∀ i, (i 0).val < 512 * t → o i = outF z g f i) (i : S4096x1024.Idx) (hi : (i 0).val < 512 * (t + 1)) :
    (outM.access (Rect.unit (s := S4096x1024) ![512 * t, 0] S512x1024.size inb)).write (Elt F) o
      (tilePay (BitVec.ofNat 32 (512 * t)) g hg (BitVec.ofNat 32 z) (rows520 (512 * t) f inb')) Finset.univ i = outF z g f i := by
  have hemb (j : S512x1024.Idx) (a : Fin 2) : (((Rect.unit (s := S4096x1024) ![512 * t, 0] S512x1024.size inb).emb j a : Fin _) : ℕ)
      = (![512 * t, 0] : Fin 2 → ℕ) a + (j a).val := Idealize.ShloMosaic.ValueKit.rect_emb_unit_val _ _ inb j a
  by_cases hlo : (i 0).val < 512 * t
  · rw [View.write_of_not_mem]
    · exact ho i hlo
    · intro hmem
      obtain ⟨j, -, hj⟩ := Finset.mem_map.mp hmem
      have := hemb j 0
      have e : ((Rect.unit (s := S4096x1024) ![512 * t, 0] S512x1024.size inb).emb j 0 : ℕ) = (i 0).val := congrArg (fun y : S4096x1024.Idx => (y 0).val) hj
      rw [e] at this
      have h0 : (![512 * t, 0] : Fin 2 → ℕ) 0 = 512 * t := rfl
      omega
  · have hlt : (i 0).val - 512 * t < 512 := by omega
    let j : S512x1024.Idx := fun a => match a with
      | 0 => ⟨(i 0).val - 512 * t, hlt⟩
      | 1 => ⟨(i 1).val, (i 1).isLt⟩
    have hj : (outM.access (Rect.unit (s := S4096x1024) ![512 * t, 0] S512x1024.size inb)).emb j = i := by
      funext a
      match a with
      | 0 => exact Fin.ext ((hemb j 0).trans (by show 512 * t + ((i 0).val - 512 * t) = (i 0).val; omega))
      | 1 => exact Fin.ext ((hemb j 1).trans (Nat.zero_add _))
    have hw := View.write_emb_of_mem (v := outM.access (Rect.unit (s := S4096x1024) ![512 * t, 0] S512x1024.size inb)) (Val := Elt F) o
      (tilePay (BitVec.ofNat 32 (512 * t)) g hg (BitVec.ofNat 32 z) (rows520 (512 * t) f inb')) (Finset.mem_univ j)
    rw [hj] at hw
    rw [hw, tilePay_apply _ g hg z (by omega) hz]
    have hj0 : 512 * t + (j 0).val = (i 0).val := by show 512 * t + ((i 0).val - 512 * t) = (i 0).val; omega
    rw [hj0]
    have hsum : 512 * t + (g + (j 0).val) = (i 0).val + g := by omega
    have hi0 : (i 0).val < 4096 := (i 0).isLt
    unfold outF
    by_cases h : (i 0).val < z
    · rw [if_pos h]
      refine rows520_apply _ _ _ _ _ ?_ rfl
      show (if (i 0).val < z then (i 0).val else (i 0).val + g) % 4112 = 512 * t + (0 + (j 0).val)
      rw [if_pos h, Nat.mod_eq_of_lt (by omega)]; omega
    · rw [if_neg h]
      refine rows520_apply _ _ _ _ _ ?_ rfl
      show (if (i 0).val < z then (i 0).val else (i 0).val + g) % 4112 = 512 * t + (g + (j 0).val)
      rw [if_neg h, Nat.mod_eq_of_lt (by omega)]; omega

/-- The store of tile `t`. -/
theorem out_store {α : Type} {X : sProp 𝕄} (t a : ℕ) (ha : a = 512 * t) (ht : t < 8) (hz : z ≤ 4096) (hg7 : g ≤ 8)
    (hg : S520x1024.Slices ![g, 0] S512x1024) (inb inb') (w : FVec F S512x1024 .bf16)
    (hw : w = tilePay (BitVec.ofNat 32 a) g hg (BitVec.ofNat 32 z) (rows520 a f inb')) {hx hm}
    {kk : PUnit → Prog (TpuEff nD τ sig (Elt F) Λ₀ .tc) α} {Q : α → sProp 𝕄}
    (hrest : iprop(tiles c z g f (t + 1) ∗ X) ⊢ wp frame (wpE (defs₀ (F := F)) 𝒱₀ (c : Thread nD τ) none) Set.univ (kk ⟨⟩) Q) :
    iprop(tiles c z g f t ∗ X) ⊢ wp frame (wpE (defs₀ (F := F)) 𝒱₀ (c : Thread nD τ) none) Set.univ
      (Prog.lift (.store outM (Rect.unit (s := S4096x1024) ![a, 0] S512x1024.size inb) w Finset.univ hx hm) >>= kk) Q := by
  subst ha hw
  simp only [Prog.lift, Prog.bind_op, Prog.bind_ret]
  have h2 (o : Buf4096 F) (ho : ∀ i, (i 0).val < 512 * (t + 1) → o i = outF z g f i) :
      iprop(commPts c Finset.univ f ∗ outPts c o ∗ X) ⊢ iprop(tiles c z g f (t + 1) ∗ X) := by
    unfold tiles
    iintro ⟨H1, H2, H3⟩
    isplitl [H1 H2]
    · isplitl [H1]; · iexact H1
      iexists o
      isplitl [H2]; · iexact H2
      ipureintro; exact ho
    · iexact H3
  unfold tiles
  iintro ⟨⟨HC, ⟨%o, HO, %ho⟩⟩, HX⟩
  iapply (wp_store 𝒱₀ (c : Thread nD τ) none Set.univ (m := outM) (r := Rect.unit (s := S4096x1024) ![512 * t, 0] S512x1024.size inb) (S := Finset.univ) (f := o) (Finset.subset_univ _)) $$ HO
  iintro HO
  iapply hrest
  iapply (h2 _ (out_write z g f t ht hz hg7 hg inb inb' o ho))
  isplitl [HC]; · iexact HC
  isplitl [HO] <;> iassumption

/-! ### The copies of the compaction

One for each number `g` of padding rows; each in two parts and a tail. -/

variable (hz : z ≤ 4096)

include hz in
/-- Padding of 0 rows: tiles 0, 1 and 2. -/
theorem part1 (h0 : scalM.IsWhole) (h1 : packedM.IsWhole) (h2 : outM.IsWhole) (h3 : commM.IsWhole) {X : sProp 𝕄} {Q}
    (hQ : iprop(tiles c z 0 f 3 ∗ X) ⊢ Q ⟨rows520 1536 f inb_S4112x1024_S520x1024_1536_0, iota .tc S512x1 32 [0] iota_S512x1_d0_w32, k0_pay8⟩) :
    iprop(tiles c z 0 f 0 ∗ X) ⊢ wp frame (wpE (defs₀ (F := F)) 𝒱₀ (c : Thread nD τ) none) Set.univ
      (k0_part1 scalM h0 packedM h1 outM h2 commM h3 cc0_scratch1 cc0_scratch2 cc0_scratch3 (BitVec.ofNat 32 z)) Q := by
  rw [k0_part1_eq_skeleton]
  unfold k0_part1_skel
  refine comm_load c z 0 f inb_S4112x1024_S520x1024_0_0 ?_
  refine out_load c z 0 f fun _ => out_store c z 0 f 0 0 rfl (by decide) hz (by decide) slices_S520x1024_o0_0_S512x1024 _ inb_S4112x1024_S520x1024_0_0 _ rfl ?_
  refine comm_load c z 0 f inb_S4112x1024_S520x1024_512_0 ?_
  refine out_load c z 0 f fun _ => out_store c z 0 f 1 512 rfl (by decide) hz (by decide) slices_S520x1024_o0_0_S512x1024 _ inb_S4112x1024_S520x1024_512_0 _ rfl ?_
  refine comm_load c z 0 f inb_S4112x1024_S520x1024_1024_0 ?_
  refine out_load c z 0 f fun _ => out_store c z 0 f 2 1024 rfl (by decide) hz (by decide) slices_S520x1024_o0_0_S512x1024 _ inb_S4112x1024_S520x1024_1024_0 _ rfl ?_
  refine comm_load c z 0 f inb_S4112x1024_S520x1024_1536_0 ?_
  simp only [Prog.pure_eq_ret]
  rw [wp_ret]
  exact hQ.trans fupd_intro

include hz in
/-- Padding of 0 rows: tiles 3, 4 and 5. -/
theorem part2 (h0 : scalM.IsWhole) (h1 : packedM.IsWhole) (h2 : outM.IsWhole) (h3 : commM.IsWhole) {X : sProp 𝕄} {Q}
    (hQ : iprop(tiles c z 0 f 6 ∗ X) ⊢ Q ⟨k0_pay12 (rows520 3072 f inb_S4112x1024_S520x1024_3072_0), k0_pay13 (rows520 3072 f inb_S4112x1024_S520x1024_3072_0), k0_pay14 (F := F) (BitVec.ofNat 32 z)⟩) :
    iprop(tiles c z 0 f 3 ∗ X) ⊢ wp frame (wpE (defs₀ (F := F)) 𝒱₀ (c : Thread nD τ) none) Set.univ
      (k0_part2 scalM h0 packedM h1 outM h2 commM h3 cc0_scratch1 cc0_scratch2 cc0_scratch3 (BitVec.ofNat 32 z)
        (rows520 1536 f inb_S4112x1024_S520x1024_1536_0) (iota .tc S512x1 32 [0] iota_S512x1_d0_w32) k0_pay8) Q := by
  rw [k0_part2_eq_skeleton]
  unfold k0_part2_skel
  refine out_load c z 0 f fun _ => out_store c z 0 f 3 1536 rfl (by decide) hz (by decide) slices_S520x1024_o0_0_S512x1024 _ inb_S4112x1024_S520x1024_1536_0 _ rfl ?_
  refine comm_load c z 0 f inb_S4112x1024_S520x1024_2048_0 ?_
  refine out_load c z 0 f fun _ => out_store c z 0 f 4 2048 rfl (by decide) hz (by decide) slices_S520x1024_o0_0_S512x1024 _ inb_S4112x1024_S520x1024_2048_0 _ rfl ?_
  refine comm_load c z 0 f inb_S4112x1024_S520x1024_2560_0 ?_
  refine out_load c z 0 f fun _ => out_store c z 0 f 5 2560 rfl (by decide) hz (by decide) slices_S520x1024_o0_0_S512x1024 _ inb_S4112x1024_S520x1024_2560_0 _ rfl ?_
  refine comm_load c z 0 f inb_S4112x1024_S520x1024_3072_0 ?_
  simp only [Prog.pure_eq_ret]
  rw [wp_ret]
  exact hQ.trans fupd_intro

include hz in
/-- Padding of 1 rows: tiles 0, 1 and 2. -/
theorem part3 (h0 : scalM.IsWhole) (h1 : packedM.IsWhole) (h2 : outM.IsWhole) (h3 : commM.IsWhole) {X : sProp 𝕄} {Q}
    (hQ : iprop(tiles c z 1 f 3 ∗ X) ⊢ Q ⟨rows520 1536 f inb_S4112x1024_S520x1024_1536_0, iota .tc S512x1 32 [0] iota_S512x1_d0_w32, k0_pay18⟩) :
    iprop(tiles c z 1 f 0 ∗ X) ⊢ wp frame (wpE (defs₀ (F := F)) 𝒱₀ (c : Thread nD τ) none) Set.univ
      (k0_part3 scalM h0 packedM h1 outM h2 commM h3 cc0_scratch1 cc0_scratch2 cc0_scratch3 (BitVec.ofNat 32 z)) Q := by
  rw [k0_part3_eq_skeleton]
  unfold k0_part3_skel
  refine comm_load c z 1 f inb_S4112x1024_S520x1024_0_0 ?_
  refine out_load c z 1 f fun _ => out_store c z 1 f 0 0 rfl (by decide) hz (by decide) slices_S520x1024_o1_0_S512x1024 _ inb_S4112x1024_S520x1024_0_0 _ rfl ?_
  refine comm_load c z 1 f inb_S4112x1024_S520x1024_512_0 ?_
  refine out_load c z 1 f fun _ => out_store c z 1 f 1 512 rfl (by decide) hz (by decide) slices_S520x1024_o1_0_S512x1024 _ inb_S4112x1024_S520x1024_512_0 _ rfl ?_
  refine comm_load c z 1 f inb_S4112x1024_S520x1024_1024_0 ?_
  refine out_load c z 1 f fun _ => out_store c z 1 f 2 1024 rfl (by decide) hz (by decide) slices_S520x1024_o1_0_S512x1024 _ inb_S4112x1024_S520x1024_1024_0 _ rfl ?_
  refine comm_load c z 1 f inb_S4112x1024_S520x1024_1536_0 ?_
  simp only [Prog.pure_eq_ret]
  rw [wp_ret]
  exact hQ.trans fupd_intro

include hz in
/-- Padding of 1 rows: tiles 3, 4 and 5. -/
theorem part4 (h0 : scalM.IsWhole) (h1 : packedM.IsWhole) (h2 : outM.IsWhole) (h3 : commM.IsWhole) {X : sProp 𝕄} {Q}
    (hQ : iprop(tiles c z 1 f 6 ∗ X) ⊢ Q ⟨k0_pay22 (rows520 3072 f inb_S4112x1024_S520x1024_3072_0), k0_pay23 (rows520 3072 f inb_S4112x1024_S520x1024_3072_0), k0_pay24 (F := F) (BitVec.ofNat 32 z)⟩) :
    iprop(tiles c z 1 f 3 ∗ X) ⊢ wp frame (wpE (defs₀ (F := F)) 𝒱₀ (c : Thread nD τ) none) Set.univ
      (k0_part4 scalM h0 packedM h1 outM h2 commM h3 cc0_scratch1 cc0_scratch2 cc0_scratch3 (BitVec.ofNat 32 z)
        (rows520 1536 f inb_S4112x1024_S520x1024_1536_0) (iota .tc S512x1 32 [0] iota_S512x1_d0_w32) k0_pay18) Q := by
  rw [k0_part4_eq_skeleton]
  unfold k0_part4_skel
  refine out_load c z 1 f fun _ => out_store c z 1 f 3 1536 rfl (by decide) hz (by decide) slices_S520x1024_o1_0_S512x1024 _ inb_S4112x1024_S520x1024_1536_0 _ rfl ?_
  refine comm_load c z 1 f inb_S4112x1024_S520x1024_2048_0 ?_
  refine out_load c z 1 f fun _ => out_store c z 1 f 4 2048 rfl (by decide) hz (by decide) slices_S520x1024_o1_0_S512x1024 _ inb_S4112x1024_S520x1024_2048_0 _ rfl ?_
  refine comm_load c z 1 f inb_S4112x1024_S520x1024_2560_0 ?_
  refine out_load c z 1 f fun _ => out_store c z 1 f 5 2560 rfl (by decide) hz (by decide) slices_S520x1024_o1_0_S512x1024 _ inb_S4112x1024_S520x1024_2560_0 _ rfl ?_
  refine comm_load c z 1 f inb_S4112x1024_S520x1024_3072_0 ?_
  simp only [Prog.pure_eq_ret]
  rw [wp_ret]
  exact hQ.trans fupd_intro

include hz in
/-- Padding of 2 rows: tiles 0, 1 and 2. -/
theorem part5 (h0 : scalM.IsWhole) (h1 : packedM.IsWhole) (h2 : outM.IsWhole) (h3 : commM.IsWhole) {X : sProp 𝕄} {Q}
    (hQ : iprop(tiles c z 2 f 3 ∗ X) ⊢ Q ⟨rows520 1536 f inb_S4112x1024_S520x1024_1536_0, iota .tc S512x1 32 [0] iota_S512x1_d0_w32, k0_pay28⟩) :
    iprop(tiles c z 2 f 0 ∗ X) ⊢ wp frame (wpE (defs₀ (F := F)) 𝒱₀ (c : Thread nD τ) none) Set.univ
      (k0_part5 scalM h0 packedM h1 outM h2 commM h3 cc0_scratch1 cc0_scratch2 cc0_scratch3 (BitVec.ofNat 32 z)) Q := by
  rw [k0_part5_eq_skeleton]
  unfold k0_part5_skel
  refine comm_load c z 2 f inb_S4112x1024_S520x1024_0_0 ?_
  refine out_load c z 2 f fun _ => out_store c z 2 f 0 0 rfl (by decide) hz (by decide) slices_S520x1024_o2_0_S512x1024 _ inb_S4112x1024_S520x1024_0_0 _ rfl ?_
  refine comm_load c z 2 f inb_S4112x1024_S520x1024_512_0 ?_
  refine out_load c z 2 f fun _ => out_store c z 2 f 1 512 rfl (by decide) hz (by decide) slices_S520x1024_o2_0_S512x1024 _ inb_S4112x1024_S520x1024_512_0 _ rfl ?_
  refine comm_load c z 2 f inb_S4112x1024_S520x1024_1024_0 ?_
  refine out_load c z 2 f fun _ => out_store c z 2 f 2 1024 rfl (by decide) hz (by decide) slices_S520x1024_o2_0_S512x1024 _ inb_S4112x1024_S520x1024_1024_0 _ rfl ?_
  refine comm_load c z 2 f inb_S4112x1024_S520x1024_1536_0 ?_
  simp only [Prog.pure_eq_ret]
  rw [wp_ret]
  exact hQ.trans fupd_intro

include hz in
/-- Padding of 2 rows: tiles 3, 4 and 5. -/
theorem part6 (h0 : scalM.IsWhole) (h1 : packedM.IsWhole) (h2 : outM.IsWhole) (h3 : commM.IsWhole) {X : sProp 𝕄} {Q}
    (hQ : iprop(tiles c z 2 f 6 ∗ X) ⊢ Q ⟨k0_pay32 (rows520 3072 f inb_S4112x1024_S520x1024_3072_0), k0_pay33 (rows520 3072 f inb_S4112x1024_S520x1024_3072_0), k0_pay34 (F := F) (BitVec.ofNat 32 z)⟩) :
    iprop(tiles c z 2 f 3 ∗ X) ⊢ wp frame (wpE (defs₀ (F := F)) 𝒱₀ (c : Thread nD τ) none) Set.univ
      (k0_part6 scalM h0 packedM h1 outM h2 commM h3 cc0_scratch1 cc0_scratch2 cc0_scratch3 (BitVec.ofNat 32 z)
        (rows520 1536 f inb_S4112x1024_S520x1024_1536_0) (iota .tc S512x1 32 [0] iota_S512x1_d0_w32) k0_pay28) Q := by
  rw [k0_part6_eq_skeleton]
  unfold k0_part6_skel
  refine out_load c z 2 f fun _ => out_store c z 2 f 3 1536 rfl (by decide) hz (by decide) slices_S520x1024_o2_0_S512x1024 _ inb_S4112x1024_S520x1024_1536_0 _ rfl ?_
  refine comm_load c z 2 f inb_S4112x1024_S520x1024_2048_0 ?_
  refine out_load c z 2 f fun _ => out_store c z 2 f 4 2048 rfl (by decide) hz (by decide) slices_S520x1024_o2_0_S512x1024 _ inb_S4112x1024_S520x1024_2048_0 _ rfl ?_
  refine comm_load c z 2 f inb_S4112x1024_S520x1024_2560_0 ?_
  refine out_load c z 2 f fun _ => out_store c z 2 f 5 2560 rfl (by decide) hz (by decide) slices_S520x1024_o2_0_S512x1024 _ inb_S4112x1024_S520x1024_2560_0 _ rfl ?_
  refine comm_load c z 2 f inb_S4112x1024_S520x1024_3072_0 ?_
  simp only [Prog.pure_eq_ret]
  rw [wp_ret]
  exact hQ.trans fupd_intro

include hz in
/-- Padding of 3 rows: tiles 0, 1 and 2. -/
theorem part7 (h0 : scalM.IsWhole) (h1 : packedM.IsWhole) (h2 : outM.IsWhole) (h3 : commM.IsWhole) {X : sProp 𝕄} {Q}
    (hQ : iprop(tiles c z 3 f 3 ∗ X) ⊢ Q ⟨rows520 1536 f inb_S4112x1024_S520x1024_1536_0, iota .tc S512x1 32 [0] iota_S512x1_d0_w32, k0_pay38⟩) :
    iprop(tiles c z 3 f 0 ∗ X) ⊢ wp frame (wpE (defs₀ (F := F)) 𝒱₀ (c : Thread nD τ) none) Set.univ
      (k0_part7 scalM h0 packedM h1 outM h2 commM h3 cc0_scratch1 cc0_scratch2 cc0_scratch3 (BitVec.ofNat 32 z)) Q := by
  rw [k0_part7_eq_skeleton]
  unfold k0_part7_skel
  refine comm_load c z 3 f inb_S4112x1024_S520x1024_0_0 ?_
  refine out_load c z 3 f fun _ => out_store c z 3 f 0 0 rfl (by decide) hz (by decide) slices_S520x1024_o3_0_S512x1024 _ inb_S4112x1024_S520x1024_0_0 _ rfl ?_
  refine comm_load c z 3 f inb_S4112x1024_S520x1024_512_0 ?_
  refine out_load c z 3 f fun _ => out_store c z 3 f 1 512 rfl (by decide) hz (by decide) slices_S520x1024_o3_0_S512x1024 _ inb_S4112x1024_S520x1024_512_0 _ rfl ?_
  refine comm_load c z 3 f inb_S4112x1024_S520x1024_1024_0 ?_
  refine out_load c z 3 f fun _ => out_store c z 3 f 2 1024 rfl (by decide) hz (by decide) slices_S520x1024_o3_0_S512x1024 _ inb_S4112x1024_S520x1024_1024_0 _ rfl ?_
  refine comm_load c z 3 f inb_S4112x1024_S520x1024_1536_0 ?_
  simp only [Prog.pure_eq_ret]
  rw [wp_ret]
  exact hQ.trans fupd_intro

include hz in
/-- Padding of 3 rows: tiles 3, 4 and 5. -/
theorem part8 (h0 : scalM.IsWhole) (h1 : packedM.IsWhole) (h2 : outM.IsWhole) (h3 : commM.IsWhole) {X : sProp 𝕄} {Q}
    (hQ : iprop(tiles c z 3 f 6 ∗ X) ⊢ Q ⟨k0_pay42 (rows520 3072 f inb_S4112x1024_S520x1024_3072_0), k0_pay43 (rows520 3072 f inb_S4112x1024_S520x1024_3072_0), k0_pay44 (F := F) (BitVec.ofNat 32 z)⟩) :
    iprop(tiles c z 3 f 3 ∗ X) ⊢ wp frame (wpE (defs₀ (F := F)) 𝒱₀ (c : Thread nD τ) none) Set.univ
      (k0_part8 scalM h0 packedM h1 outM h2 commM h3 cc0_scratch1 cc0_scratch2 cc0_scratch3 (BitVec.ofNat 32 z)
        (rows520 1536 f inb_S4112x1024_S520x1024_1536_0) (iota .tc S512x1 32 [0] iota_S512x1_d0_w32) k0_pay38) Q := by
  rw [k0_part8_eq_skeleton]
  unfold k0_part8_skel
  refine out_load c z 3 f fun _ => out_store c z 3 f 3 1536 rfl (by decide) hz (by decide) slices_S520x1024_o3_0_S512x1024 _ inb_S4112x1024_S520x1024_1536_0 _ rfl ?_
  refine comm_load c z 3 f inb_S4112x1024_S520x1024_2048_0 ?_
  refine out_load c z 3 f fun _ => out_store c z 3 f 4 2048 rfl (by decide) hz (by decide) slices_S520x1024_o3_0_S512x1024 _ inb_S4112x1024_S520x1024_2048_0 _ rfl ?_
  refine comm_load c z 3 f inb_S4112x1024_S520x1024_2560_0 ?_
  refine out_load c z 3 f fun _ => out_store c z 3 f 5 2560 rfl (by decide) hz (by decide) slices_S520x1024_o3_0_S512x1024 _ inb_S4112x1024_S520x1024_2560_0 _ rfl ?_
  refine comm_load c z 3 f inb_S4112x1024_S520x1024_3072_0 ?_
  simp only [Prog.pure_eq_ret]
  rw [wp_ret]
  exact hQ.trans fupd_intro

include hz in
/-- Padding of 4 rows: tiles 0, 1 and 2. -/
theorem part9 (h0 : scalM.IsWhole) (h1 : packedM.IsWhole) (h2 : outM.IsWhole) (h3 : commM.IsWhole) {X : sProp 𝕄} {Q}
    (hQ : iprop(tiles c z 4 f 3 ∗ X) ⊢ Q ⟨rows520 1536 f inb_S4112x1024_S520x1024_1536_0, iota .tc S512x1 32 [0] iota_S512x1_d0_w32, k0_pay48⟩) :
    iprop(tiles c z 4 f 0 ∗ X) ⊢ wp frame (wpE (defs₀ (F := F)) 𝒱₀ (c : Thread nD τ) none) Set.univ
      (k0_part9 scalM h0 packedM h1 outM h2 commM h3 cc0_scratch1 cc0_scratch2 cc0_scratch3 (BitVec.ofNat 32 z)) Q := by
  rw [k0_part9_eq_skeleton]
  unfold k0_part9_skel
  refine comm_load c z 4 f inb_S4112x1024_S520x1024_0_0 ?_
  refine out_load c z 4 f fun _ => out_store c z 4 f 0 0 rfl (by decide) hz (by decide) slices_S520x1024_o4_0_S512x1024 _ inb_S4112x1024_S520x1024_0_0 _ rfl ?_
  refine comm_load c z 4 f inb_S4112x1024_S520x1024_512_0 ?_
  refine out_load c z 4 f fun _ => out_store c z 4 f 1 512 rfl (by decide) hz (by decide) slices_S520x1024_o4_0_S512x1024 _ inb_S4112x1024_S520x1024_512_0 _ rfl ?_
  refine comm_load c z 4 f inb_S4112x1024_S520x1024_1024_0 ?_
  refine out_load c z 4 f fun _ => out_store c z 4 f 2 1024 rfl (by decide) hz (by decide) slices_S520x1024_o4_0_S512x1024 _ inb_S4112x1024_S520x1024_1024_0 _ rfl ?_
  refine comm_load c z 4 f inb_S4112x1024_S520x1024_1536_0 ?_
  simp only [Prog.pure_eq_ret]
  rw [wp_ret]
  exact hQ.trans fupd_intro

include hz in
/-- Padding of 4 rows: tiles 3, 4 and 5. -/
theorem part10 (h0 : scalM.IsWhole) (h1 : packedM.IsWhole) (h2 : outM.IsWhole) (h3 : commM.IsWhole) {X : sProp 𝕄} {Q}
    (hQ : iprop(tiles c z 4 f 6 ∗ X) ⊢ Q ⟨k0_pay52 (rows520 3072 f inb_S4112x1024_S520x1024_3072_0), k0_pay53 (rows520 3072 f inb_S4112x1024_S520x1024_3072_0), k0_pay54 (F := F) (BitVec.ofNat 32 z)⟩) :
    iprop(tiles c z 4 f 3 ∗ X) ⊢ wp frame (wpE (defs₀ (F := F)) 𝒱₀ (c : Thread nD τ) none) Set.univ
      (k0_part10 scalM h0 packedM h1 outM h2 commM h3 cc0_scratch1 cc0_scratch2 cc0_scratch3 (BitVec.ofNat 32 z)
        (rows520 1536 f inb_S4112x1024_S520x1024_1536_0) (iota .tc S512x1 32 [0] iota_S512x1_d0_w32) k0_pay48) Q := by
  rw [k0_part10_eq_skeleton]
  unfold k0_part10_skel
  refine out_load c z 4 f fun _ => out_store c z 4 f 3 1536 rfl (by decide) hz (by decide) slices_S520x1024_o4_0_S512x1024 _ inb_S4112x1024_S520x1024_1536_0 _ rfl ?_
  refine comm_load c z 4 f inb_S4112x1024_S520x1024_2048_0 ?_
  refine out_load c z 4 f fun _ => out_store c z 4 f 4 2048 rfl (by decide) hz (by decide) slices_S520x1024_o4_0_S512x1024 _ inb_S4112x1024_S520x1024_2048_0 _ rfl ?_
  refine comm_load c z 4 f inb_S4112x1024_S520x1024_2560_0 ?_
  refine out_load c z 4 f fun _ => out_store c z 4 f 5 2560 rfl (by decide) hz (by decide) slices_S520x1024_o4_0_S512x1024 _ inb_S4112x1024_S520x1024_2560_0 _ rfl ?_
  refine comm_load c z 4 f inb_S4112x1024_S520x1024_3072_0 ?_
  simp only [Prog.pure_eq_ret]
  rw [wp_ret]
  exact hQ.trans fupd_intro

include hz in
/-- Padding of 5 rows: tiles 0, 1 and 2. -/
theorem part11 (h0 : scalM.IsWhole) (h1 : packedM.IsWhole) (h2 : outM.IsWhole) (h3 : commM.IsWhole) {X : sProp 𝕄} {Q}
    (hQ : iprop(tiles c z 5 f 3 ∗ X) ⊢ Q ⟨rows520 1536 f inb_S4112x1024_S520x1024_1536_0, iota .tc S512x1 32 [0] iota_S512x1_d0_w32, k0_pay58⟩) :
    iprop(tiles c z 5 f 0 ∗ X) ⊢ wp frame (wpE (defs₀ (F := F)) 𝒱₀ (c : Thread nD τ) none) Set.univ
      (k0_part11 scalM h0 packedM h1 outM h2 commM h3 cc0_scratch1 cc0_scratch2 cc0_scratch3 (BitVec.ofNat 32 z)) Q := by
  rw [k0_part11_eq_skeleton]
  unfold k0_part11_skel
  refine comm_load c z 5 f inb_S4112x1024_S520x1024_0_0 ?_
  refine out_load c z 5 f fun _ => out_store c z 5 f 0 0 rfl (by decide) hz (by decide) slices_S520x1024_o5_0_S512x1024 _ inb_S4112x1024_S520x1024_0_0 _ rfl ?_
  refine comm_load c z 5 f inb_S4112x1024_S520x1024_512_0 ?_
  refine out_load c z 5 f fun _ => out_store c z 5 f 1 512 rfl (by decide) hz (by decide) slices_S520x1024_o5_0_S512x1024 _ inb_S4112x1024_S520x1024_512_0 _ rfl ?_
  refine comm_load c z 5 f inb_S4112x1024_S520x1024_1024_0 ?_
  refine out_load c z 5 f fun _ => out_store c z 5 f 2 1024 rfl (by decide) hz (by decide) slices_S520x1024_o5_0_S512x1024 _ inb_S4112x1024_S520x1024_1024_0 _ rfl ?_
  refine comm_load c z 5 f inb_S4112x1024_S520x1024_1536_0 ?_
  simp only [Prog.pure_eq_ret]
  rw [wp_ret]
  exact hQ.trans fupd_intro

include hz in
/-- Padding of 5 rows: tiles 3, 4 and 5. -/
theorem part12 (h0 : scalM.IsWhole) (h1 : packedM.IsWhole) (h2 : outM.IsWhole) (h3 : commM.IsWhole) {X : sProp 𝕄} {Q}
    (hQ : iprop(tiles c z 5 f 6 ∗ X) ⊢ Q ⟨k0_pay62 (rows520 3072 f inb_S4112x1024_S520x1024_3072_0), k0_pay63 (rows520 3072 f inb_S4112x1024_S520x1024_3072_0), k0_pay64 (F := F) (BitVec.ofNat 32 z)⟩) :
    iprop(tiles c z 5 f 3 ∗ X) ⊢ wp frame (wpE (defs₀ (F := F)) 𝒱₀ (c : Thread nD τ) none) Set.univ
      (k0_part12 scalM h0 packedM h1 outM h2 commM h3 cc0_scratch1 cc0_scratch2 cc0_scratch3 (BitVec.ofNat 32 z)
        (rows520 1536 f inb_S4112x1024_S520x1024_1536_0) (iota .tc S512x1 32 [0] iota_S512x1_d0_w32) k0_pay58) Q := by
  rw [k0_part12_eq_skeleton]
  unfold k0_part12_skel
  refine out_load c z 5 f fun _ => out_store c z 5 f 3 1536 rfl (by decide) hz (by decide) slices_S520x1024_o5_0_S512x1024 _ inb_S4112x1024_S520x1024_1536_0 _ rfl ?_
  refine comm_load c z 5 f inb_S4112x1024_S520x1024_2048_0 ?_
  refine out_load c z 5 f fun _ => out_store c z 5 f 4 2048 rfl (by decide) hz (by decide) slices_S520x1024_o5_0_S512x1024 _ inb_S4112x1024_S520x1024_2048_0 _ rfl ?_
  refine comm_load c z 5 f inb_S4112x1024_S520x1024_2560_0 ?_
  refine out_load c z 5 f fun _ => out_store c z 5 f 5 2560 rfl (by decide) hz (by decide) slices_S520x1024_o5_0_S512x1024 _ inb_S4112x1024_S520x1024_2560_0 _ rfl ?_
  refine comm_load c z 5 f inb_S4112x1024_S520x1024_3072_0 ?_
  simp only [Prog.pure_eq_ret]
  rw [wp_ret]
  exact hQ.trans fupd_intro

include hz in
/-- Padding of 6 rows: tiles 0, 1 and 2. -/
theorem part13 (h0 : scalM.IsWhole) (h1 : packedM.IsWhole) (h2 : outM.IsWhole) (h3 : commM.IsWhole) {X : sProp 𝕄} {Q}
    (hQ : iprop(tiles c z 6 f 3 ∗ X) ⊢ Q ⟨rows520 1536 f inb_S4112x1024_S520x1024_1536_0, iota .tc S512x1 32 [0] iota_S512x1_d0_w32, k0_pay68⟩) :
    iprop(tiles c z 6 f 0 ∗ X) ⊢ wp frame (wpE (defs₀ (F := F)) 𝒱₀ (c : Thread nD τ) none) Set.univ
      (k0_part13 scalM h0 packedM h1 outM h2 commM h3 cc0_scratch1 cc0_scratch2 cc0_scratch3 (BitVec.ofNat 32 z)) Q := by
  rw [k0_part13_eq_skeleton]
  unfold k0_part13_skel
  refine comm_load c z 6 f inb_S4112x1024_S520x1024_0_0 ?_
  refine out_load c z 6 f fun _ => out_store c z 6 f 0 0 rfl (by decide) hz (by decide) slices_S520x1024_o6_0_S512x1024 _ inb_S4112x1024_S520x1024_0_0 _ rfl ?_
  refine comm_load c z 6 f inb_S4112x1024_S520x1024_512_0 ?_
  refine out_load c z 6 f fun _ => out_store c z 6 f 1 512 rfl (by decide) hz (by decide) slices_S520x1024_o6_0_S512x1024 _ inb_S4112x1024_S520x1024_512_0 _ rfl ?_
  refine comm_load c z 6 f inb_S4112x1024_S520x1024_1024_0 ?_
  refine out_load c z 6 f fun _ => out_store c z 6 f 2 1024 rfl (by decide) hz (by decide) slices_S520x1024_o6_0_S512x1024 _ inb_S4112x1024_S520x1024_1024_0 _ rfl ?_
  refine comm_load c z 6 f inb_S4112x1024_S520x1024_1536_0 ?_
  simp only [Prog.pure_eq_ret]
  rw [wp_ret]
  exact hQ.trans fupd_intro

include hz in
/-- Padding of 6 rows: tiles 3, 4 and 5. -/
theorem part14 (h0 : scalM.IsWhole) (h1 : packedM.IsWhole) (h2 : outM.IsWhole) (h3 : commM.IsWhole) {X : sProp 𝕄} {Q}
    (hQ : iprop(tiles c z 6 f 6 ∗ X) ⊢ Q ⟨k0_pay72 (rows520 3072 f inb_S4112x1024_S520x1024_3072_0), k0_pay73 (rows520 3072 f inb_S4112x1024_S520x1024_3072_0), k0_pay74 (F := F) (BitVec.ofNat 32 z)⟩) :
    iprop(tiles c z 6 f 3 ∗ X) ⊢ wp frame (wpE (defs₀ (F := F)) 𝒱₀ (c : Thread nD τ) none) Set.univ
      (k0_part14 scalM h0 packedM h1 outM h2 commM h3 cc0_scratch1 cc0_scratch2 cc0_scratch3 (BitVec.ofNat 32 z)
        (rows520 1536 f inb_S4112x1024_S520x1024_1536_0) (iota .tc S512x1 32 [0] iota_S512x1_d0_w32) k0_pay68) Q := by
  rw [k0_part14_eq_skeleton]
  unfold k0_part14_skel
  refine out_load c z 6 f fun _ => out_store c z 6 f 3 1536 rfl (by decide) hz (by decide) slices_S520x1024_o6_0_S512x1024 _ inb_S4112x1024_S520x1024_1536_0 _ rfl ?_
  refine comm_load c z 6 f inb_S4112x1024_S520x1024_2048_0 ?_
  refine out_load c z 6 f fun _ => out_store c z 6 f 4 2048 rfl (by decide) hz (by decide) slices_S520x1024_o6_0_S512x1024 _ inb_S4112x1024_S520x1024_2048_0 _ rfl ?_
  refine comm_load c z 6 f inb_S4112x1024_S520x1024_2560_0 ?_
  refine out_load c z 6 f fun _ => out_store c z 6 f 5 2560 rfl (by decide) hz (by decide) slices_S520x1024_o6_0_S512x1024 _ inb_S4112x1024_S520x1024_2560_0 _ rfl ?_
  refine comm_load c z 6 f inb_S4112x1024_S520x1024_3072_0 ?_
  simp only [Prog.pure_eq_ret]
  rw [wp_ret]
  exact hQ.trans fupd_intro

include hz in
/-- Padding of 7 rows: tiles 0, 1 and 2. -/
theorem part15 (h0 : scalM.IsWhole) (h1 : packedM.IsWhole) (h2 : outM.IsWhole) (h3 : commM.IsWhole) {X : sProp 𝕄} {Q}
    (hQ : iprop(tiles c z 7 f 3 ∗ X) ⊢ Q ⟨rows520 1536 f inb_S4112x1024_S520x1024_1536_0, iota .tc S512x1 32 [0] iota_S512x1_d0_w32, k0_pay78⟩) :
    iprop(tiles c z 7 f 0 ∗ X) ⊢ wp frame (wpE (defs₀ (F := F)) 𝒱₀ (c : Thread nD τ) none) Set.univ
      (k0_part15 scalM h0 packedM h1 outM h2 commM h3 cc0_scratch1 cc0_scratch2 cc0_scratch3 (BitVec.ofNat 32 z)) Q := by
  rw [k0_part15_eq_skeleton]
  unfold k0_part15_skel
  refine comm_load c z 7 f inb_S4112x1024_S520x1024_0_0 ?_
  refine out_load c z 7 f fun _ => out_store c z 7 f 0 0 rfl (by decide) hz (by decide) slices_S520x1024_o7_0_S512x1024 _ inb_S4112x1024_S520x1024_0_0 _ rfl ?_
  refine comm_load c z 7 f inb_S4112x1024_S520x1024_512_0 ?_
  refine out_load c z 7 f fun _ => out_store c z 7 f 1 512 rfl (by decide) hz (by decide) slices_S520x1024_o7_0_S512x1024 _ inb_S4112x1024_S520x1024_512_0 _ rfl ?_
  refine comm_load c z 7 f inb_S4112x1024_S520x1024_1024_0 ?_
  refine out_load c z 7 f fun _ => out_store c z 7 f 2 1024 rfl (by decide) hz (by decide) slices_S520x1024_o7_0_S512x1024 _ inb_S4112x1024_S520x1024_1024_0 _ rfl ?_
  refine comm_load c z 7 f inb_S4112x1024_S520x1024_1536_0 ?_
  simp only [Prog.pure_eq_ret]
  rw [wp_ret]
  exact hQ.trans fupd_intro

include hz in
/-- Padding of 7 rows: tiles 3, 4 and 5. -/
theorem part16 (h0 : scalM.IsWhole) (h1 : packedM.IsWhole) (h2 : outM.IsWhole) (h3 : commM.IsWhole) {X : sProp 𝕄} {Q}
    (hQ : iprop(tiles c z 7 f 6 ∗ X) ⊢ Q ⟨k0_pay82 (rows520 3072 f inb_S4112x1024_S520x1024_3072_0), k0_pay83 (rows520 3072 f inb_S4112x1024_S520x1024_3072_0), k0_pay84 (F := F) (BitVec.ofNat 32 z)⟩) :
    iprop(tiles c z 7 f 3 ∗ X) ⊢ wp frame (wpE (defs₀ (F := F)) 𝒱₀ (c : Thread nD τ) none) Set.univ
      (k0_part16 scalM h0 packedM h1 outM h2 commM h3 cc0_scratch1 cc0_scratch2 cc0_scratch3 (BitVec.ofNat 32 z)
        (rows520 1536 f inb_S4112x1024_S520x1024_1536_0) (iota .tc S512x1 32 [0] iota_S512x1_d0_w32) k0_pay78) Q := by
  rw [k0_part16_eq_skeleton]
  unfold k0_part16_skel
  refine out_load c z 7 f fun _ => out_store c z 7 f 3 1536 rfl (by decide) hz (by decide) slices_S520x1024_o7_0_S512x1024 _ inb_S4112x1024_S520x1024_1536_0 _ rfl ?_
  refine comm_load c z 7 f inb_S4112x1024_S520x1024_2048_0 ?_
  refine out_load c z 7 f fun _ => out_store c z 7 f 4 2048 rfl (by decide) hz (by decide) slices_S520x1024_o7_0_S512x1024 _ inb_S4112x1024_S520x1024_2048_0 _ rfl ?_
  refine comm_load c z 7 f inb_S4112x1024_S520x1024_2560_0 ?_
  refine out_load c z 7 f fun _ => out_store c z 7 f 5 2560 rfl (by decide) hz (by decide) slices_S520x1024_o7_0_S512x1024 _ inb_S4112x1024_S520x1024_2560_0 _ rfl ?_
  refine comm_load c z 7 f inb_S4112x1024_S520x1024_3072_0 ?_
  simp only [Prog.pure_eq_ret]
  rw [wp_ret]
  exact hQ.trans fupd_intro

/-! ### Choosing the copy -/

/-- Before the choice of the copy for `n` rows of padding: done if the padding has fewer, nothing yet otherwise. -/
def chosen (n : ℕ) : sProp 𝕄 := tiles c z g f (if g < n then 8 else 0)

/-- The choice of one copy. -/
theorem choose {α : Type} {X : sProp 𝕄} (n : ℕ) {b : BitVec 1} (hb : b = 1#1 ↔ g = n) {p r : Prog (TpuEff nD τ sig (Elt F) Λ₀ .tc) α} {Q : α → sProp 𝕄}
    (hrest : iprop(chosen c z g f (n + 1) ∗ X) ⊢ wp frame (wpE (defs₀ (F := F)) 𝒱₀ (c : Thread nD τ) none) Set.univ r Q)
    (hp : g = n → (iprop(tiles c z n f 8 ∗ X) ⊢ wp frame (wpE (defs₀ (F := F)) 𝒱₀ (c : Thread nD τ) none) Set.univ r Q)
      → (iprop(tiles c z n f 0 ∗ X) ⊢ wp frame (wpE (defs₀ (F := F)) 𝒱₀ (c : Thread nD τ) none) Set.univ p Q)) :
    iprop(chosen c z g f n ∗ X) ⊢ wp frame (wpE (defs₀ (F := F)) 𝒱₀ (c : Thread nD τ) none) Set.univ (if b = 1#1 then p else r) Q := by
  by_cases h : g = n
  · subst h
    rw [if_pos (hb.mpr rfl)]
    have e0 : chosen (F := F) c z g f g = tiles c z g f 0 := by unfold chosen; rw [if_neg (lt_irrefl _)]
    have e1 : chosen (F := F) c z g f (g + 1) = tiles c z g f 8 := by unfold chosen; rw [if_pos (Nat.lt_succ_self _)]
    rw [e0]
    rw [e1] at hrest
    exact hp rfl hrest
  · rw [if_neg fun e => h (hb.mp e)]
    have e : chosen (F := F) c z g f n = chosen c z g f (n + 1) := by
      unfold chosen
      by_cases h' : g < n
      · rw [if_pos h', if_pos (by omega)]
      · rw [if_neg h', if_neg (by omega)]
    rw [e]
    exact hrest

/-- The kernel's test for `n` rows of padding. -/
theorem test_iff (g n : ℕ) (hg : g < 8) (hn : n < 8) :
    (Scalar.cmpi .ne (Scalar.extui (Scalar.cmpi .eq (BitVec.ofNat 32 g) (BitVec.ofNat 32 n)) : BitVec 32) 0#32 = 1#1) = (g = n) := by
  have h : ∀ g n : Fin 8, (Scalar.cmpi .ne (Scalar.extui (Scalar.cmpi .eq (BitVec.ofNat 32 g.val) (BitVec.ofNat 32 n.val)) : BitVec 32) 0#32 = 1#1) ↔ (g.val = n.val) := by decide
  exact propext (h ⟨g, hg⟩ ⟨n, hn⟩)

end Cert.Proof
-- ==== Proof.Body.lean ====
/-
  The body, composed: from the rows and tokens a device enters with to the result it leaves.
-/
module

public import proofs.«01_k».proof.Proof.Tiles

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (k : ℕ) (hk : k ≤ 4096) (x : Dev nD → Buf4112 F) (κ : GSem nD τ sig → ℕ) (c : Dev nD)

/-! ### The rows, in three regions -/

/-- The rows device `c` sends from and receives into. -/
abbrev outgoing : Finset S4112x1024.Idx := rowsOf (src k c) (sendLen k)
/-- The rows device `c` keeps. -/
abbrev staying : Finset S4112x1024.Idx := rowsOf (keep k c) (keepLen k)
/-- The remaining rows. -/
def spare : Finset S4112x1024.Idx := Finset.univ \ (outgoing k c ∪ staying k c)

theorem spare_disjoint : Disjoint (outgoing k c ∪ staying k c) (spare k c) := Finset.disjoint_sdiff

theorem regions : (outgoing k c ∪ staying k c) ∪ spare k c = Finset.univ := Finset.union_sdiff_of_subset (Finset.subset_univ _)

omit [FloatOps F] in
theorem eq_of_both {P Q : sProp 𝕄} (h : P ⊣⊢ Q) : P = Q := Entails.antisymm h.1 h.2

omit [FloatOps F] in
theorem comm_split (f : Buf4112 F) :
    (commPts c Finset.univ f : sProp 𝕄) = iprop((commPts c (outgoing k c) f ∗ commPts c (staying k c) f) ∗ commPts c (spare k c) f) := by
  have h2 := eq_of_both (pointsTo_union (ℓ := commLoc c) (q := fullShare) (f := f) (spare_disjoint k c) (Ix := Unit) (Val := Elt F) (U := UU) (Name := ℕ) (Lvl := ℕ))
  have h1 := eq_of_both (pointsTo_union (ℓ := commLoc c) (q := fullShare) (f := f) (src_keep_disjoint k c) (Ix := Unit) (Val := Elt F) (U := UU) (Name := ℕ) (Lvl := ℕ))
  rw [regions] at h2
  rw [h1] at h2
  exact h2
omit [FloatOps F] in
theorem packed_split (f : Buf4112 F) :
    (packedPts c Finset.univ f : sProp 𝕄) = iprop((packedPts c (outgoing k c) f ∗ packedPts c (staying k c) f) ∗ packedPts c (spare k c) f) := by
  have h2 := eq_of_both (pointsTo_union (ℓ := packedLoc c) (q := fullShare) (f := f) (spare_disjoint k c) (Ix := Unit) (Val := Elt F) (U := UU) (Name := ℕ) (Lvl := ℕ))
  have h1 := eq_of_both (pointsTo_union (ℓ := packedLoc c) (q := fullShare) (f := f) (src_keep_disjoint k c) (Ix := Unit) (Val := Elt F) (U := UU) (Name := ℕ) (Lvl := ℕ))
  rw [regions] at h2
  rw [h1] at h2
  exact h2

omit [FloatOps F] in
theorem comm_blocks (base n : ℕ) (hn : n < 8192) (h8 : 8 ∣ n) (f : Buf4112 F) :
    (commPts c (rowsOf base n) f : sProp 𝕄) = bigSep (bits n) fun b => commPts c (blockRows base n b) f := by
  rw [← blocks_union base n hn h8]
  exact pointsTo_biUnion _ _ fun b hb b' hb' h => blocks_disjoint _ _ b hb b' hb' h
omit [FloatOps F] in
theorem packed_blocks (base n : ℕ) (hn : n < 8192) (h8 : 8 ∣ n) (f : Buf4112 F) :
    (packedPts c (rowsOf base n) f : sProp 𝕄) = bigSep (bits n) fun b => packedPts c (blockRows base n b) f := by
  rw [← blocks_union base n hn h8]
  exact pointsTo_biUnion _ _ fun b hb b' hb' h => blocks_disjoint _ _ b hb b' hb' h

/-! ### What a device enters with, beside what the opening takes -/

/-- The blocks to copy, their cells, the cells of the exchange, the spare rows, the result's buffer. -/
def rest : sProp 𝕄 :=
  iprop((bigSep (bits (keepLen k)) (keepPre k x c) ∗ bigSep (bits (keepLen k)) fun b => atPos ER (copyCell c b) 0 ∅ 0)
    ∗ (bigSep (bits (sendLen k)) fun b => iprop(cred (tallyAt (recvCell c b) () (N b)) ∗ atPos ER (sendCell c b) 0 ∅ 0 ∗ atPos ER (recvCell c b) 0 ∅ 0))
    ∗ ((∃ f, commPts c (spare k c) f) ∗ packedPts c (spare k c) (x c)) ∗ ∃ o : Buf4096 F, outPts c o)

/-- The landing rows after the exchange: the rows that stayed, and the rows that came. -/
def landing (f : Buf4112 F) : Buf4112 F := fun i =>
  if i ∈ staying k c then x c i else if i ∈ outgoing k c then arrived k x c i else f i

/-- The result of device `c`. -/
def outRows : Buf4096 F := outF (zc k c) (gapc k c) (landing k x c (x c))

/-- What a device leaves with. -/
def done : sProp 𝕄 :=
  iprop((atPos ER (barCell c) (0 + 1) ∅ 0 ∗ (bigSep (bits (keepLen k)) fun b => atPos ER (copyCell c b) (0 + 1) ∅ 0)
      ∗ (bigSep (bits (sendLen k)) fun b => iprop(atPos ER (sendCell c b) (0 + 1) ∅ 0 ∗ atPos ER (recvCell c b) (0 + 1) ∅ 0)))
    ∗ (scalPts c (table k c) ∗ packedPts c Finset.univ (x c) ∗ (∃ f, commPts c Finset.univ f) ∗ outPts c (outRows k x c))
    ∗ owesNone c)

theorem zc_le (hk : k ≤ 4096) : zc k c ≤ 4096 := by unfold zc; split <;> omega
theorem gapc_lt : gapc k c < 8 := by unfold gapc; have := up8_le (zc k c); omega
theorem zc_gap : zc k c + gapc k c = up8 (zc k c) := by unfold gapc; have := le_up8 (zc k c); omega

/-- Every result row is taken from a row that stayed or came. -/
theorem outIdx_mem (hk : k ≤ 4096) (i : S4096x1024.Idx) : outIdx (zc k c) (gapc k c) i ∈ staying k c ∨ outIdx (zc k c) (gapc k c) i ∈ outgoing k c := by
  have hi : (i 0).val < 4096 := (i 0).isLt
  have hz := zc_le k c hk
  have hg := gapc_lt k c
  have hzg := zc_gap k c
  have e : ((outIdx (zc k c) (gapc k c) i 0 : Fin _) : ℕ) = if (i 0).val < zc k c then (i 0).val else (i 0).val + gapc k c := by
    show (if (i 0).val < zc k c then (i 0).val else (i 0).val + gapc k c) % 4112 = _
    rw [Nat.mod_eq_of_lt]; split <;> omega
  rw [mem_rowsOf, mem_rowsOf, e]
  have h1 := le_up8 k
  have h2 := le_up8 (4096 - k)
  unfold zc at hz hzg e ⊢
  unfold keep keepLen src sendLen
  rcases eq_or_ne c 0 with h | h
  · simp only [h, if_true] at *
    split <;> omega
  · simp only [h, if_false] at *
    split <;> omega

theorem outF_landing (hk : k ≤ 4096) (f : Buf4112 F) : outF (zc k c) (gapc k c) (landing k x c f) = outRows k x c := by
  funext i
  show landing k x c f (outIdx _ _ i) = landing k x c (x c) (outIdx _ _ i)
  unfold landing
  rcases outIdx_mem k c hk i with h | h
  · rw [if_pos h, if_pos h]
  · rw [if_pos h, if_pos h]

/-! ### From one phase to the next -/

omit [FloatOps F] in
/-- All sent: nothing is owed, and the sends' completions are to be waited for. -/
theorem sent : sending k x c 3 ⊢ iprop((bigSep (bits (sendLen k)) (sendPost (F := F) c)) ∗ owesNone c) := by
  unfold sending
  rw [owed_done]
  iintro ⟨HS, HO⟩
  isplitl [HS]
  · iapply (phase_end (sendLen k) (sendPre k x c) (sendPost (F := F) c)); iexact HS
  · iexact HO

omit [FloatOps F] in
/-- All copies started. -/
theorem copying : iprop(keeping k x c 3 ∗ (bigSep (bits (keepLen k)) fun b => atPos ER (copyCell c b) 0 ∅ 0) ∗ owesNone c) ⊢ kept k x c 13 := by
  unfold keeping kept
  have e : iprop((bigSep (bits (keepLen k)) (keepPost (F := F) c)) ∗ bigSep (bits (keepLen k)) fun b => atPos ER (copyCell c b) 0 ∅ 0)
      = bigSep (bits (keepLen k)) (keptPre (F := F) c) := by rw [← bigSep_sep']; rfl
  iintro ⟨HS, HA, HO⟩
  isplitl [HS HA]
  · iapply phase_start
    iapply (Entails.of_eq e)
    isplitl [HS]
    · iapply (phase_end (keepLen k) (keepPre k x c) (keepPost (F := F) c)); iexact HS
    · iexact HA
  · iexact HO

omit [FloatOps F] in
/-- Ready to wait for the exchange. -/
theorem awaiting : iprop((bigSep (bits (sendLen k)) (sendPost (F := F) c))
      ∗ bigSep (bits (sendLen k)) fun b => iprop(cred (tallyAt (recvCell c b) () (N b)) ∗ atPos ER (sendCell c b) 0 ∅ 0 ∗ atPos ER (recvCell c b) 0 ∅ 0))
    ⊢ recvSt k x c 13 := by
  have h : ∀ b ∈ bits (sendLen k), iprop(sendPost (F := F) c b ∗ cred (tallyAt (recvCell c b) () (N b)) ∗ atPos ER (sendCell c b) 0 ∅ 0 ∗ atPos ER (recvCell c b) 0 ∅ 0) ⊢ recvPre (F := F) c b := by
    intro b _
    unfold sendPost recvPre
    iintro ⟨H1, H2, H3, H4⟩
    isplitl [H1 H2]; · isplitl [H1] <;> iassumption
    isplitl [H3] <;> iassumption
  rw [← bigSep_sep']
  exact (bigSep_mono h).trans (phase_start _ _ _)

omit [FloatOps F] in
theorem recvPosts : (bigSep (bits (sendLen k)) (recvPost k x c)) = iprop(((bigSep (bits (sendLen k)) (sendPay k x c)) ∗ bigSep (bits (sendLen k)) (recvPay k x c))
    ∗ bigSep (bits (sendLen k)) fun b => iprop(atPos ER (sendCell c b) (0 + 1) ∅ 0 ∗ atPos ER (recvCell c b) (0 + 1) ∅ 0)) := by
  rw [← bigSep_sep', ← bigSep_sep']; rfl
omit [FloatOps F] in
theorem keptPosts : (bigSep (bits (keepLen k)) (keptPost k x c)) = iprop(((bigSep (bits (keepLen k)) fun b => commPts c (blockRows (keep k c) (keepLen k) b) (x c))
      ∗ bigSep (bits (keepLen k)) fun b => packedPts c (blockRows (keep k c) (keepLen k) b) (x c))
    ∗ bigSep (bits (keepLen k)) fun b => atPos ER (copyCell c b) (0 + 1) ∅ 0) := by
  rw [← bigSep_sep', ← bigSep_sep']; rfl

include hk in
omit [FloatOps F] in
/-- The landing rows whole. -/
theorem landed (f : Buf4112 F) :
    iprop((bigSep (bits (sendLen k)) (recvPay k x c)) ∗ (bigSep (bits (keepLen k)) fun b => commPts c (blockRows (keep k c) (keepLen k) b) (x c)) ∗ commPts c (spare k c) f)
    ⊢ commPts c Finset.univ (landing k x c f) := by
  have hs : (commPts c (outgoing k c) (landing k x c f) : sProp 𝕄) = bigSep (bits (sendLen k)) (recvPay k x c) := by
    have e : (commPts c (outgoing k c) (landing k x c f) : sProp 𝕄) = commPts c (outgoing k c) (arrived k x c) :=
      pointsTo_congr fun i hi => by
        show landing k x c f i = _
        unfold landing
        rw [if_neg (Finset.disjoint_left.mp (src_keep_disjoint k c) hi), if_pos hi]
    rw [e, comm_blocks c _ _ (send_bound k hk) (up8_dvd _)]
    rfl
  have hkp : (commPts c (staying k c) (landing k x c f) : sProp 𝕄) = bigSep (bits (keepLen k)) fun b => commPts c (blockRows (keep k c) (keepLen k) b) (x c) := by
    have e : (commPts c (staying k c) (landing k x c f) : sProp 𝕄) = commPts c (staying k c) (x c) :=
      pointsTo_congr fun i hi => by
        show landing k x c f i = _
        unfold landing
        rw [if_pos hi]
    rw [e, comm_blocks c _ _ (kept_bound k hk) (up8_dvd _)]
  have hsp : (commPts c (spare k c) (landing k x c f) : sProp 𝕄) = commPts c (spare k c) f :=
    pointsTo_congr fun i hi => by
      have := (Finset.mem_sdiff.mp hi).2
      rw [Finset.mem_union, not_or] at this
      show landing k x c f i = _
      unfold landing
      rw [if_neg this.2, if_neg this.1]
  rw [comm_split k c, hs, hkp, hsp]
  show iprop(_) ⊢ iprop(((bigSep (bits (sendLen k)) (recvPay k x c)) ∗ (bigSep (bits (keepLen k)) fun b => commPts c (blockRows (keep k c) (keepLen k) b) (x c))) ∗ commPts c (spare k c) f)
  iintro ⟨H1, H2, H3⟩
  isplitl [H1 H2]; · isplitl [H1] <;> iassumption
  iexact H3

include hk in
omit [FloatOps F] in
/-- The packed rows whole again. -/
theorem returned :
    iprop((bigSep (bits (sendLen k)) (sendPay k x c)) ∗ (bigSep (bits (keepLen k)) fun b => packedPts c (blockRows (keep k c) (keepLen k) b) (x c)) ∗ packedPts c (spare k c) (x c))
    ⊢ packedPts c Finset.univ (x c) := by
  rw [packed_split k c, packed_blocks c _ _ (send_bound k hk) (up8_dvd _), packed_blocks c _ _ (kept_bound k hk) (up8_dvd _)]
  iintro ⟨H1, H2, H3⟩
  isplitl [H1 H2]
  · isplitl [H1]; · unfold sendPay; iexact H1
    iexact H2
  iexact H3

/-- What is left, the compaction aside, when the exchange is over. -/
def doneBut : sProp 𝕄 :=
  iprop((atPos ER (barCell c) (0 + 1) ∅ 0 ∗ (bigSep (bits (keepLen k)) fun b => atPos ER (copyCell c b) (0 + 1) ∅ 0)
      ∗ (bigSep (bits (sendLen k)) fun b => iprop(atPos ER (sendCell c b) (0 + 1) ∅ 0 ∗ atPos ER (recvCell c b) (0 + 1) ∅ 0)))
    ∗ (scalPts c (table k c) ∗ packedPts c Finset.univ (x c)) ∗ owesNone c)

include hk in
omit [FloatOps F] in
/-- The exchange over, the compaction starts from the landing rows. -/
theorem exchanged {X : sProp 𝕄} : iprop(records k x κ ∗ receiving k x c 3 ∗ keptSt k x c 3
      ∗ (((∃ f, commPts c (spare k c) f) ∗ packedPts c (spare k c) (x c)) ∗ (∃ o : Buf4096 F, outPts c o))
      ∗ (atPos ER (barCell c) (0 + 1) ∅ 0 ∗ scalPts c (table k c)) ∗ X)
    ⊢ iprop(∃ f, tiles c (zc k c) (gapc k c) (landing k x c f) 0 ∗ doneBut k x c ∗ X) := by
  unfold receiving doneBut tiles
  iintro ⟨-, ⟨HR, HO⟩, HK, ⟨⟨⟨%f, Hc⟩, Hp⟩, %o, Ho⟩, ⟨Hb, Hs⟩, HX⟩
  ihave HR1 := (phase_end (sendLen k) (recvPre (F := F) c) (recvPost k x c)) $$ HR
  ihave HK1 := (phase_end (keepLen k) (keptPre (F := F) c) (keptPost k x c)) $$ HK
  ihave HR2 := (Entails.of_eq (recvPosts k x c)) $$ HR1
  ihave HK2 := (Entails.of_eq (keptPosts k x c)) $$ HK1
  icases HR2 with ⟨⟨HRs, HRr⟩, HRa⟩
  icases HK2 with ⟨⟨HKc, HKp⟩, HKa⟩
  iexists f
  isplitl [HRr HKc Hc Ho]
  · isplitl [HRr HKc Hc]
    · iapply (landed k hk x c f)
      isplitl [HRr]; · iexact HRr
      isplitl [HKc] <;> iassumption
    · iexists o
      isplitl [Ho]; · iexact Ho
      ipureintro
      intro i h
      exact absurd h (Nat.not_lt_zero _)
  isplitl [Hb HKa HRa Hs HRs HKp Hp HO]
  · isplitl [Hb HKa HRa]
    · isplitl [Hb]; · iexact Hb
      isplitl [HKa] <;> iassumption
    isplitl [Hs HRs HKp Hp]
    · isplitl [Hs]; · iexact Hs
      iapply (returned k hk x c)
      isplitl [HRs]; · iexact HRs
      isplitl [HKp] <;> iassumption
    iexact HO
  iexact HX

include hk in
/-- The compaction over. -/
theorem compacted {X : sProp 𝕄} (f : Buf4112 F) : iprop(tiles c (zc k c) (gapc k c) (landing k x c f) 8 ∗ doneBut k x c ∗ (done k x c -∗ X)) ⊢ X := by
  have e (o : Buf4096 F) (ho : ∀ i, (i 0).val < 512 * 8 → o i = outF (zc k c) (gapc k c) (landing k x c f) i) : o = outRows k x c := by
    rw [← outF_landing k x c hk f]
    exact funext fun i => ho i (i 0).isLt
  unfold tiles doneBut
  iintro ⟨⟨HC, %o, HO, %ho⟩, ⟨HA, ⟨HS, HP⟩, HW⟩, HX⟩
  obtain rfl := e o ho
  iapply HX
  unfold done
  isplitl [HA]; · iexact HA
  isplitr [HW]
  · isplitl [HS]; · iexact HS
    isplitl [HP]; · iexact HP
    isplitl [HC]; · iexists _; iexact HC
    iexact HO
  iexact HW

omit [FloatOps F] in
theorem exists_left {A : Type} {P : A → sProp 𝕄} {G : sProp 𝕄} (h : ∀ a, P a ⊢ G) : iprop(∃ a, P a) ⊢ G := by
  iintro ⟨%a, H⟩
  iapply (h a)
  iexact H

omit [FloatOps F] in
theorem chosen_zero (z g : ℕ) (f : Buf4112 F) : tiles (F := F) c z g f 0 = chosen c z g f 0 := by
  unfold chosen; rw [if_neg (Nat.not_lt_zero _)]

/-! ### The exchange, and the copies of the compaction for up to five rows of padding -/

include hk in
set_option maxRecDepth 65536 in
theorem part26 (h0 : scalM.IsWhole) (h1 : packedM.IsWhole) (h2 : outM.IsWhole) (h3 : commM.IsWhole)
    {X : sProp 𝕄} {Q : (Σ' (_ : Elt F .i32) (_ : Elt F .i32) (_ : BitVec 32), BitVec 32) → sProp 𝕄}
    (hQ : ∀ f, iprop(chosen c (zc k c) (gapc k c) (landing k x c f) 6 ∗ doneBut k x c ∗ X)
      ⊢ Q ⟨BitVec.ofNat 32 (zc k c), BitVec.ofNat 32 (gapc k c), Scalar.extui (Scalar.cmpi .eq (BitVec.ofNat 32 (gapc k c)) 6#32), 0#32⟩) :
    iprop(records k x κ ∗ opening k x c ∗ (scalPts c (table k c) ∗ rest k x c ∗ X)) ⊢ wp frame (wpE (defs₀ (F := F)) 𝒱₀ (c : Thread nD τ) none) Set.univ
      (k0_part26 scalM h0 packedM h1 outM h2 commM h3 cc0_scratch1 cc0_scratch2 cc0_scratch3) Q := by
  rw [k0_part26_eq_skeleton]
  unfold k0_part26_skel
  rw [wp_bind_eq]
  refine part17 k hk x κ c h0 h1 h2 h3 fun v3 v20 v22 => ?_
  dsimp -zeta -zetaHave only
  rw [wp_bind_eq]
  refine part18 k hk x κ c h0 h1 h2 h3 _ _ _ _ _ fun r => ?_
  obtain ⟨v55, v57, v58⟩ := r
  dsimp -zeta -zetaHave only
  rw [wp_bind_eq]
  have t1 : iprop(records k x κ ∗ sending k x c 7 ∗ (atPos ER (barCell c) (0 + 1) ∅ 0 ∗ scalPts c (table k c) ∗ rest k x c ∗ X))
      ⊢ iprop(records k x κ ∗ sending k x c 7 ∗ keeping k x c 13 ∗ ((bigSep (bits (keepLen k)) fun b => atPos ER (copyCell c b) 0 ∅ 0)
          ∗ (bigSep (bits (sendLen k)) fun b => iprop(cred (tallyAt (recvCell c b) () (N b)) ∗ atPos ER (sendCell c b) 0 ∅ 0 ∗ atPos ER (recvCell c b) 0 ∅ 0))
          ∗ (((∃ f, commPts c (spare k c) f) ∗ packedPts c (spare k c) (x c)) ∗ (∃ o : Buf4096 F, outPts c o))
          ∗ (atPos ER (barCell c) (0 + 1) ∅ 0 ∗ scalPts c (table k c)) ∗ X)) := by
    unfold rest keeping
    iintro ⟨HR, HS, Hb, Hs, ⟨⟨HK, HA⟩, HV, Hsp, Ho⟩, HX⟩
    isplitl [HR]; · iexact HR
    isplitl [HS]; · iexact HS
    isplitl [HK]; · iapply phase_start; iexact HK
    isplitl [HA]; · iexact HA
    isplitl [HV]; · iexact HV
    isplitl [Hsp Ho]; · isplitl [Hsp] <;> iassumption
    isplitl [Hb Hs]; · isplitl [Hb] <;> iassumption
    iexact HX
  refine t1.trans ?_
  refine part19 k hk x κ c h0 h1 h2 h3 _ _ _ _ _ _ _ fun r => ?_
  obtain ⟨v88, v89⟩ := r
  dsimp -zeta -zetaHave only
  rw [wp_bind_eq]
  refine part20 k hk x κ c h0 h1 h2 h3 _ _ _ fun r => ?_
  obtain ⟨v116, v118⟩ := r
  dsimp -zeta -zetaHave only
  rw [wp_bind_eq]
  refine part21 k hk x κ c h0 h1 h2 h3 _ _ _ fun r => ?_
  obtain ⟨v151, v153⟩ := r
  dsimp -zeta -zetaHave only
  rw [wp_bind_eq]
  have t2 {Y : sProp 𝕄} : iprop(records k x κ ∗ keeping k x c 3 ∗ sending k x c 3 ∗ (bigSep (bits (keepLen k)) fun b => atPos ER (copyCell c b) 0 ∅ 0)
          ∗ (bigSep (bits (sendLen k)) fun b => iprop(cred (tallyAt (recvCell c b) () (N b)) ∗ atPos ER (sendCell c b) 0 ∅ 0 ∗ atPos ER (recvCell c b) 0 ∅ 0)) ∗ Y)
      ⊢ iprop(records k x κ ∗ kept k x c 13 ∗ recvSt k x c 13 ∗ Y) := by
    iintro ⟨HR, HK, HS, HA, HV, HY⟩
    ihave HS' := (sent k x c) $$ HS
    icases HS' with ⟨HS, HO⟩
    isplitl [HR]; · iexact HR
    isplitl [HK HA HO]
    · iapply (copying k x c)
      isplitl [HK]; · iexact HK
      isplitl [HA] <;> iassumption
    isplitl [HS HV]
    · iapply (awaiting k x c)
      isplitl [HS] <;> iassumption
    iexact HY
  refine t2.trans ?_
  refine part22 k hk x κ c h0 h1 h2 h3 _ _ _ fun v184 => ?_
  dsimp -zeta -zetaHave only
  rw [wp_bind_eq]
  refine part23 k hk x κ c h0 h1 h2 h3 _ _ fun r => ?_
  obtain ⟨v212, v216, v217⟩ := r
  dsimp -zeta -zetaHave only
  rw [wp_bind_eq]
  refine part24 k hk x κ c h0 h1 h2 h3 _ _ _ _ _ _ _ fun r => ?_
  obtain ⟨v245, v247⟩ := r
  dsimp -zeta -zetaHave only
  rw [wp_bind_eq]
  refine part25 k hk x κ c h0 h1 h2 h3 _ _ _ _ _ fun r => ?_
  obtain ⟨v273, v279⟩ := r
  dsimp -zeta -zetaHave only
  refine step_bind₂ (fun Q' => receiving_step k hk x κ c 3 (by decide) Iff.rfl _ _ _ rfl _ _ _ _ _ _ _ _ _ _ rfl rfl _ _ _ _ Q') ?_
  refine (exchanged k hk x κ c).trans ?_
  refine exists_left fun f => ?_
  refine (Entails.of_eq (by rw [chosen_zero])).trans (?_ : iprop(chosen c (zc k c) (gapc k c) (landing k x c f) 0 ∗ doneBut k x c ∗ X) ⊢ _)
  refine choose c _ _ _ 0 (Iff.of_eq (test_iff _ 0 (gapc_lt k c) (by decide))) ?_ fun _ hr => ?_
  rotate_left
  · rw [wp_bind_eq]
    refine part1 c _ _ (zc_le k c hk) h0 h1 h2 h3 ?_
    dsimp -zeta -zetaHave only
    rw [wp_bind_eq]
    refine part2 c _ _ (zc_le k c hk) h0 h1 h2 h3 ?_
    dsimp -zeta -zetaHave only
    refine out_load c _ 0 _ fun _ => out_store c _ 0 _ 6 3072 rfl (by decide) (zc_le k c hk) (by decide) slices_S520x1024_o0_0_S512x1024 _ inb_S4112x1024_S520x1024_3072_0 _ rfl ?_
    refine comm_load c _ 0 _ inb_S4112x1024_S520x1024_3584_0 ?_
    refine out_load c _ 0 _ fun _ => out_store c _ 0 _ 7 3584 rfl (by decide) (zc_le k c hk) (by decide) slices_S520x1024_o0_0_S512x1024 _ inb_S4112x1024_S520x1024_3584_0 _ rfl ?_
    exact hr
  refine choose c _ _ _ 1 (Iff.of_eq (test_iff _ 1 (gapc_lt k c) (by decide))) ?_ fun _ hr => ?_
  rotate_left
  · rw [wp_bind_eq]
    refine part3 c _ _ (zc_le k c hk) h0 h1 h2 h3 ?_
    dsimp -zeta -zetaHave only
    rw [wp_bind_eq]
    refine part4 c _ _ (zc_le k c hk) h0 h1 h2 h3 ?_
    dsimp -zeta -zetaHave only
    refine out_load c _ 1 _ fun _ => out_store c _ 1 _ 6 3072 rfl (by decide) (zc_le k c hk) (by decide) slices_S520x1024_o1_0_S512x1024 _ inb_S4112x1024_S520x1024_3072_0 _ rfl ?_
    refine comm_load c _ 1 _ inb_S4112x1024_S520x1024_3584_0 ?_
    refine out_load c _ 1 _ fun _ => out_store c _ 1 _ 7 3584 rfl (by decide) (zc_le k c hk) (by decide) slices_S520x1024_o1_0_S512x1024 _ inb_S4112x1024_S520x1024_3584_0 _ rfl ?_
    exact hr
  refine choose c _ _ _ 2 (Iff.of_eq (test_iff _ 2 (gapc_lt k c) (by decide))) ?_ fun _ hr => ?_
  rotate_left
  · rw [wp_bind_eq]
    refine part5 c _ _ (zc_le k c hk) h0 h1 h2 h3 ?_
    dsimp -zeta -zetaHave only
    rw [wp_bind_eq]
    refine part6 c _ _ (zc_le k c hk) h0 h1 h2 h3 ?_
    dsimp -zeta -zetaHave only
    refine out_load c _ 2 _ fun _ => out_store c _ 2 _ 6 3072 rfl (by decide) (zc_le k c hk) (by decide) slices_S520x1024_o2_0_S512x1024 _ inb_S4112x1024_S520x1024_3072_0 _ rfl ?_
    refine comm_load c _ 2 _ inb_S4112x1024_S520x1024_3584_0 ?_
    refine out_load c _ 2 _ fun _ => out_store c _ 2 _ 7 3584 rfl (by decide) (zc_le k c hk) (by decide) slices_S520x1024_o2_0_S512x1024 _ inb_S4112x1024_S520x1024_3584_0 _ rfl ?_
    exact hr
  refine choose c _ _ _ 3 (Iff.of_eq (test_iff _ 3 (gapc_lt k c) (by decide))) ?_ fun _ hr => ?_
  rotate_left
  · rw [wp_bind_eq]
    refine part7 c _ _ (zc_le k c hk) h0 h1 h2 h3 ?_
    dsimp -zeta -zetaHave only
    rw [wp_bind_eq]
    refine part8 c _ _ (zc_le k c hk) h0 h1 h2 h3 ?_
    dsimp -zeta -zetaHave only
    refine out_load c _ 3 _ fun _ => out_store c _ 3 _ 6 3072 rfl (by decide) (zc_le k c hk) (by decide) slices_S520x1024_o3_0_S512x1024 _ inb_S4112x1024_S520x1024_3072_0 _ rfl ?_
    refine comm_load c _ 3 _ inb_S4112x1024_S520x1024_3584_0 ?_
    refine out_load c _ 3 _ fun _ => out_store c _ 3 _ 7 3584 rfl (by decide) (zc_le k c hk) (by decide) slices_S520x1024_o3_0_S512x1024 _ inb_S4112x1024_S520x1024_3584_0 _ rfl ?_
    exact hr
  refine choose c _ _ _ 4 (Iff.of_eq (test_iff _ 4 (gapc_lt k c) (by decide))) ?_ fun _ hr => ?_
  rotate_left
  · rw [wp_bind_eq]
    refine part9 c _ _ (zc_le k c hk) h0 h1 h2 h3 ?_
    dsimp -zeta -zetaHave only
    rw [wp_bind_eq]
    refine part10 c _ _ (zc_le k c hk) h0 h1 h2 h3 ?_
    dsimp -zeta -zetaHave only
    refine out_load c _ 4 _ fun _ => out_store c _ 4 _ 6 3072 rfl (by decide) (zc_le k c hk) (by decide) slices_S520x1024_o4_0_S512x1024 _ inb_S4112x1024_S520x1024_3072_0 _ rfl ?_
    refine comm_load c _ 4 _ inb_S4112x1024_S520x1024_3584_0 ?_
    refine out_load c _ 4 _ fun _ => out_store c _ 4 _ 7 3584 rfl (by decide) (zc_le k c hk) (by decide) slices_S520x1024_o4_0_S512x1024 _ inb_S4112x1024_S520x1024_3584_0 _ rfl ?_
    exact hr
  refine choose c _ _ _ 5 (Iff.of_eq (test_iff _ 5 (gapc_lt k c) (by decide))) ?_ fun _ hr => ?_
  rotate_left
  · rw [wp_bind_eq]
    refine part11 c _ _ (zc_le k c hk) h0 h1 h2 h3 ?_
    dsimp -zeta -zetaHave only
    rw [wp_bind_eq]
    refine part12 c _ _ (zc_le k c hk) h0 h1 h2 h3 ?_
    dsimp -zeta -zetaHave only
    refine out_load c _ 5 _ fun _ => out_store c _ 5 _ 6 3072 rfl (by decide) (zc_le k c hk) (by decide) slices_S520x1024_o5_0_S512x1024 _ inb_S4112x1024_S520x1024_3072_0 _ rfl ?_
    refine comm_load c _ 5 _ inb_S4112x1024_S520x1024_3584_0 ?_
    refine out_load c _ 5 _ fun _ => out_store c _ 5 _ 7 3584 rfl (by decide) (zc_le k c hk) (by decide) slices_S520x1024_o5_0_S512x1024 _ inb_S4112x1024_S520x1024_3584_0 _ rfl ?_
    exact hr
  simp only [Prog.pure_eq_ret]
  rw [wp_ret]
  exact (hQ f).trans fupd_intro

include hk in
set_option maxRecDepth 65536 in
/-- The whole body. -/
theorem body_run (h0 : scalM.IsWhole) (h1 : packedM.IsWhole) (h2 : outM.IsWhole) (h3 : commM.IsWhole) {Q : PUnit → sProp 𝕄} :
    iprop(records k x κ ∗ opening k x c ∗ (scalPts c (table k c) ∗ rest k x c ∗ (done k x c -∗ Q ⟨⟩))) ⊢ wp frame (wpE (defs₀ (F := F)) 𝒱₀ (c : Thread nD τ) none) Set.univ
      (cc0_body scalM h0 packedM h1 outM h2 commM h3 cc0_scratch1 cc0_scratch2 cc0_scratch3) Q := by
  rw [cc0_body_eq_skeleton]
  unfold cc0_body_skel
  rw [wp_bind_eq]
  refine part26 k hk x κ c h0 h1 h2 h3 fun f => ?_
  dsimp -zeta -zetaHave only
  refine choose c _ _ _ 6 (Iff.of_eq (test_iff _ 6 (gapc_lt k c) (by decide))) ?_ fun _ hr => ?_
  rotate_left
  · rw [wp_bind_eq]
    refine part13 c _ _ (zc_le k c hk) h0 h1 h2 h3 ?_
    dsimp -zeta -zetaHave only
    rw [wp_bind_eq]
    refine part14 c _ _ (zc_le k c hk) h0 h1 h2 h3 ?_
    dsimp -zeta -zetaHave only
    refine out_load c _ 6 _ fun _ => out_store c _ 6 _ 6 3072 rfl (by decide) (zc_le k c hk) (by decide) slices_S520x1024_o6_0_S512x1024 _ inb_S4112x1024_S520x1024_3072_0 _ rfl ?_
    refine comm_load c _ 6 _ inb_S4112x1024_S520x1024_3584_0 ?_
    refine out_load c _ 6 _ fun _ => out_store c _ 6 _ 7 3584 rfl (by decide) (zc_le k c hk) (by decide) slices_S520x1024_o6_0_S512x1024 _ inb_S4112x1024_S520x1024_3584_0 _ rfl ?_
    exact hr
  refine choose c _ _ _ 7 (Iff.of_eq (test_iff _ 7 (gapc_lt k c) (by decide))) ?_ fun _ hr => ?_
  rotate_left
  · rw [wp_bind_eq]
    refine part15 c _ _ (zc_le k c hk) h0 h1 h2 h3 ?_
    dsimp -zeta -zetaHave only
    rw [wp_bind_eq]
    refine part16 c _ _ (zc_le k c hk) h0 h1 h2 h3 ?_
    dsimp -zeta -zetaHave only
    refine out_load c _ 7 _ fun _ => out_store c _ 7 _ 6 3072 rfl (by decide) (zc_le k c hk) (by decide) slices_S520x1024_o7_0_S512x1024 _ inb_S4112x1024_S520x1024_3072_0 _ rfl ?_
    refine comm_load c _ 7 _ inb_S4112x1024_S520x1024_3584_0 ?_
    refine out_load c _ 7 _ fun _ => out_store c _ 7 _ 7 3584 rfl (by decide) (zc_le k c hk) (by decide) slices_S520x1024_o7_0_S512x1024 _ inb_S4112x1024_S520x1024_3584_0 _ rfl ?_
    exact hr
  have e8 : chosen (F := F) c (zc k c) (gapc k c) (landing k x c f) 8 = tiles c (zc k c) (gapc k c) (landing k x c f) 8 := by
    unfold chosen; rw [if_pos (gapc_lt k c)]
  rw [e8]
  simp only [Prog.pure_eq_ret]
  rw [wp_ret]
  exact (compacted k hk x c f).trans fupd_intro

end Cert.Proof
-- ==== Proof.Enter.lean ====
/-
  What a device has when its kernel starts, sorted into what the body takes; and, when the body is done, the kernel's
  semaphores taken out of the protocol again, every counter at zero.
-/
module

public import proofs.«01_k».proof.Proof.Body

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (k : ℕ) (hk : k ≤ 4096) (x : Dev nD → Buf4112 F) (κ : GSem nD τ sig → ℕ) (c : Dev nD)

omit [FloatOps F] in
/-- The kernel's own cells, kind by kind. -/
theorem cells3 (Φ : Fin 3 × Fin 13 → sProp 𝕄) :
    bigSep Finset.univ Φ = iprop((bigSep Finset.univ fun b => Φ (0, b)) ∗ (bigSep Finset.univ fun b => Φ (1, b)) ∗ bigSep Finset.univ fun b => Φ (2, b)) := by
  rw [bigSep_univ_prod]
  exact bigSep_univ_eq_bigSepL [(0 : Fin 3), (1 : Fin 3), (2 : Fin 3)] (by decide) (by decide) fun a => bigSep Finset.univ fun b => Φ (a, b)

/-! ### At the kernel's start -/

/-- The duties that device `c` may pay in the exchange and the copies. -/
def tools : sProp 𝕄 :=
  iprop((bigSep Finset.univ fun b => dutyTok ER (copyCell c b) 0 ()) ∗ (bigSep Finset.univ fun b => dutyTok ER (sendCell c b) 0 ())
    ∗ bigSep Finset.univ fun b => dutyTok ER (recvCell (pr c) b) 0 ())
/-- Its positions at its kernel's own cells. -/
def spots : sProp 𝕄 := bigSep Finset.univ fun q : Fin 3 × Fin 13 => atPos ER ((c : Thread nD τ), osem q) 0 ∅ 0
/-- That those cells are at round 0. -/
def marks : sProp 𝕄 := bigSep Finset.univ fun q : Fin 3 × Fin 13 => reached ER ((c : Thread nD τ), osem q) 0

instance marks_persistent : BI.Persistent (marks (F := F) c) := by unfold marks; infer_instance

/-- Everything of the protocol that device `c` has when its kernel starts. -/
def entering : sProp 𝕄 :=
  iprop((tools (F := F) c ∗ dutyTok ER (barCell (pr c)) 0 ()) ∗ (spots (F := F) c ∗ marks (F := F) c)
    ∗ (cred (tallyAt (barCell c) () 1) ∗ atPos ER (barCell c) 0 ∅ 0 ∗ levAts L lv)
    ∗ (bigSep (bits (sendLen k)) fun b => cred (tallyAt (recvCell c b) () (N b)))
    ∗ ∃ W : Finset (SemLoc sig × Unit), owes (c : Thread nD τ) (O₀ k c) W)
/-- Its buffers. -/
def buffers : sProp 𝕄 :=
  iprop(packedPts c Finset.univ (x c) ∗ (∃ f, commPts c Finset.univ f) ∗ ∃ o : Buf4096 F, outPts c o)

/-- The positions at the cells that no block uses. -/
def idle : sProp 𝕄 :=
  iprop((bigSep (Finset.univ \ bits (keepLen k)) fun b => atPos ER (copyCell c b) 0 ∅ 0)
    ∗ (bigSep (Finset.univ \ bits (sendLen k)) fun b => atPos ER (sendCell c b) 0 ∅ 0)
    ∗ bigSep (Finset.univ \ bits (sendLen k)) fun b => atPos ER (recvCell c b) 0 ∅ 0)

omit [FloatOps F] in
theorem barPay_pr : (barPay k (pr c) : sProp 𝕄)
    = iprop((∃ f, commPts c (rowsOf (src k c) (sendLen k)) f) ∗ bigSep Finset.univ fun b => reached ER (recvCell c b) 0) := by
  unfold barPay; rw [pr_pr]

omit [FloatOps F] in
theorem of_all {S : Finset (Fin 13)} (Φ : Fin 13 → sProp 𝕄) : bigSep Finset.univ Φ ⊢ bigSep S Φ := bigSep_subset (Finset.subset_univ _)
omit [FloatOps F] in
theorem split_all (S : Finset (Fin 13)) (Φ : Fin 13 → sProp 𝕄) :
    bigSep Finset.univ Φ ⊢ iprop(bigSep S Φ ∗ bigSep (Finset.univ \ S) Φ) := Entails.of_eq (bigSep_sdiff_split (Finset.subset_univ _))

omit [FloatOps F] in
theorem join_all (S : Finset (Fin 13)) (Φ : Fin 13 → sProp 𝕄) :
    iprop(bigSep S Φ ∗ bigSep (Finset.univ \ S) Φ) ⊢ bigSep Finset.univ Φ := Entails.of_eq (bigSep_sdiff_split (Finset.subset_univ _)).symm

omit [FloatOps F] in
theorem sendParts : iprop((bigSep (bits (sendLen k)) fun b => packedPts c (blockRows (src k c) (sendLen k) b) (x c))
      ∗ (bigSep (bits (sendLen k)) fun b => dutyTok ER (sendCell c b) 0 ()) ∗ (bigSep (bits (sendLen k)) fun b => reached ER (sendCell c b) 0)
      ∗ bigSep (bits (sendLen k)) fun b => dutyTok ER (recvCell (pr c) b) 0 ())
    ⊢ bigSep (bits (sendLen k)) fun b => sendPart k x c b := by
  rw [← bigSep_sep', ← bigSep_sep', ← bigSep_sep']
  exact Entails.refl _

omit [FloatOps F] in
theorem keepParts (f : Buf4112 F) : iprop((bigSep (bits (keepLen k)) fun b => packedPts c (blockRows (keep k c) (keepLen k) b) (x c))
      ∗ (bigSep (bits (keepLen k)) fun b => commPts c (blockRows (keep k c) (keepLen k) b) f)
      ∗ (bigSep (bits (keepLen k)) fun b => dutyTok ER (copyCell c b) 0 ()) ∗ bigSep (bits (keepLen k)) fun b => reached ER (copyCell c b) 0)
    ⊢ bigSep (bits (keepLen k)) (keepPre k x c) := by
  have h : ∀ b ∈ bits (keepLen k), iprop(packedPts c (blockRows (keep k c) (keepLen k) b) (x c) ∗ commPts c (blockRows (keep k c) (keepLen k) b) f
      ∗ dutyTok ER (copyCell c b) 0 () ∗ reached ER (copyCell c b) 0) ⊢ keepPre k x c b := by
    intro b _
    unfold keepPre
    iintro ⟨H1, H2, H3, H4⟩
    isplitl [H1]; · iexact H1
    isplitl [H2]; · iexists f; iexact H2
    isplitl [H3] <;> iassumption
  rw [← bigSep_sep', ← bigSep_sep', ← bigSep_sep']
  exact bigSep_mono h

omit [FloatOps F] in
theorem recvParts : iprop((bigSep (bits (sendLen k)) fun b => cred (tallyAt (recvCell c b) () (N b)))
      ∗ (bigSep (bits (sendLen k)) fun b => atPos ER (sendCell c b) 0 ∅ 0) ∗ bigSep (bits (sendLen k)) fun b => atPos ER (recvCell c b) 0 ∅ 0)
    ⊢ (bigSep (bits (sendLen k)) fun b => iprop(cred (tallyAt (recvCell c b) () (N b)) ∗ atPos ER (sendCell c b) 0 ∅ 0 ∗ atPos ER (recvCell c b) 0 ∅ 0) : sProp 𝕄) := by
  rw [← bigSep_sep', ← bigSep_sep']

include hk in
omit [FloatOps F] in
/-- What the kernel starts with is what the body takes, and the idle cells. -/
theorem enter : iprop(entering (F := F) k c ∗ buffers x c) ⊢ iprop(opening k x c ∗ rest k x c ∗ idle (F := F) k c) := by
  unfold entering buffers tools spots marks opening rest idle
  rw [barPay_pr, cells3 (fun q => atPos ER ((c : Thread nD τ), osem q) 0 ∅ 0), cells3 (fun q => reached ER ((c : Thread nD τ), osem q) 0)]
  iintro ⟨⟨⟨⟨Tc, Ts, Tr⟩, Tb⟩, ⟨⟨Ac, As, Av⟩, #Mc, #Ms, #Mv⟩, HB, HC, HO⟩, HP, ⟨%f, HM⟩, Hout⟩
  ihave Ac' := (split_all (bits (keepLen k)) _) $$ Ac
  icases Ac' with ⟨Ac, Ac0⟩
  ihave As' := (split_all (bits (sendLen k)) _) $$ As
  icases As' with ⟨As, As0⟩
  ihave Av' := (split_all (bits (sendLen k)) _) $$ Av
  icases Av' with ⟨Av, Av0⟩
  ihave HP' := (Entails.of_eq (packed_split k c (x c))) $$ HP
  icases HP' with ⟨⟨Po, Pk⟩, Px⟩
  ihave HM' := (Entails.of_eq (comm_split k c f)) $$ HM
  icases HM' with ⟨⟨Co, Ck⟩, Cx⟩
  isplitl [Po Ts Tr Tb Co HB HO]
  · isplitl [Po Ts Tr]
    · iapply (sendParts k x c)
      isplitl [Po]; · iapply (Entails.of_eq (packed_blocks c _ _ (send_bound k hk) (up8_dvd _) (x c))); iexact Po
      isplitl [Ts]; · iapply of_all; iexact Ts
      isplitr; · iapply of_all; iexact Ms
      iapply of_all; iexact Tr
    isplitl [Tb Co]
    · isplitl [Tb]; · iexact Tb
      isplitl [Co]; · iexists f; iexact Co
      iexact Mv
    isplitl [HB]; · iexact HB
    iexact HO
  isplitr [Ac0 As0 Av0]
  · isplitl [Pk Ck Tc Ac]
    · isplitl [Pk Ck Tc]
      · iapply (keepParts k x c f)
        isplitl [Pk]; · iapply (Entails.of_eq (packed_blocks c _ _ (kept_bound k hk) (up8_dvd _) (x c))); iexact Pk
        isplitl [Ck]; · iapply (Entails.of_eq (comm_blocks c _ _ (kept_bound k hk) (up8_dvd _) f)); iexact Ck
        isplitl [Tc]; · iapply of_all; iexact Tc
        iapply of_all; iexact Mc
      · iexact Ac
    isplitl [HC As Av]
    · iapply (recvParts k c)
      isplitl [HC]; · iexact HC
      isplitl [As]; · iexact As
      iexact Av
    isplitl [Cx Px]
    · isplitl [Cx]; · iexists f; iexact Cx
      iexact Px
    iexact Hout
  isplitl [Ac0]; · iexact Ac0
  isplitl [As0]; · iexact As0
  iexact Av0

/-! ### When the body is done -/

omit [FloatOps F] in
/-- Cells that have no duty from round `R` on are closed there. -/
theorem close_at (S : Finset (Fin 13)) (g : Fin 13 → GSem nD τ sig) (hg : ∀ b, g b ∈ (barCells ∪ scCells : Finset (GSem nD τ sig))) (R : ℕ)
    (hR : ∀ b ∈ S, ∀ r, R ≤ r → (rd (F := F) k x).duties (g b) r = ∅) :
    iprop(records k x κ ∗ bigSep S fun b => atPos ER (g b) R ∅ 0) ⊢ (|={Set.univ}=> bigSep S fun b => semVal (g b) 0 : sProp 𝕄) := by
  have h : ∀ b ∈ S, iprop(records k x κ ∗ atPos ER (g b) R ∅ 0) ⊢ (|={Set.univ}=> semVal (g b) 0 : sProp 𝕄) := by
    intro b hb
    iintro ⟨#HR, HA⟩
    iapply (Rounds.cell_close ER (rd k x) (Set.mem_univ (κ (g b))) id (hR b hb))
    isplitr
    · iapply (inv_at k x κ (hg b)); iexact HR
    · iexact HA
  exact (bigSep_with_persistent h).trans (bigSep_fupd S _)

omit [FloatOps F] in
/-- One kind of cell: the used ones past their round, the others still at it. -/
theorem close_kind (S : Finset (Fin 13)) (g : Fin 13 → GSem nD τ sig) (hg : ∀ b, g b ∈ (barCells ∪ scCells : Finset (GSem nD τ sig)))
    (h0 : ∀ b, b ∉ S → (rd (F := F) k x).duties (g b) 0 = ∅) :
    iprop(records k x κ ∗ (bigSep S fun b => atPos ER (g b) (0 + 1) ∅ 0) ∗ bigSep (Finset.univ \ S) fun b => atPos ER (g b) 0 ∅ 0)
      ⊢ (|={Set.univ}=> bigSep Finset.univ fun b => semVal (g b) 0 : sProp 𝕄) := by
  iintro ⟨#HR, H1, H0⟩
  imod (close_at k x κ S g hg (0 + 1) fun b _ => duties_later k x (g b)) $$ [H1] with V1
  · isplitr; · iexact HR
    iexact H1
  imod (close_at k x κ (Finset.univ \ S) g hg 0 fun b hb => duties_never k x (g b) (h0 b (Finset.mem_sdiff.mp hb).2)) $$ [H0] with V0
  · isplitr; · iexact HR
    iexact H0
  imodintro
  iapply (join_all S fun b => (semVal (g b) 0 : sProp 𝕄))
  isplitl [V1]; · iexact V1
  iexact V0

/-- What a device has when its kernel is over: every semaphore of the protocol at zero, its buffers, nothing owed. -/
def leaving : sProp 𝕄 :=
  iprop((semVal (barCell c) 0 ∗ bigSep Finset.univ fun q : Fin 3 × Fin 13 => semVal ((c : Thread nD τ), osem q) 0)
    ∗ (scalPts c (table k c) ∗ packedPts c Finset.univ (x c) ∗ (∃ f, commPts c Finset.univ f) ∗ outPts c (outRows k x c))
    ∗ owesNone c)

omit [FloatOps F] in
theorem unzip (S : Finset (Fin 13)) (Φ Ψ : Fin 13 → sProp 𝕄) : (bigSep S fun b => iprop(Φ b ∗ Ψ b)) ⊢ iprop(bigSep S Φ ∗ bigSep S Ψ) := by
  rw [← bigSep_sep']

omit [FloatOps F] in
theorem leave : iprop(records k x κ ∗ done k x c ∗ idle (F := F) k c) ⊢ (|={Set.univ}=> leaving k x c : sProp 𝕄) := by
  unfold done idle leaving
  rw [cells3 (fun q => semVal ((c : Thread nD τ), osem q) 0)]
  iintro ⟨#HR, ⟨⟨HB, Hk, Hs⟩, Hbufs, HO⟩, Ik, Is, Iv⟩
  ihave Hs' := (unzip (bits (sendLen k)) (fun b => (atPos ER (sendCell c b) (0 + 1) ∅ 0 : sProp 𝕄)) fun b => atPos ER (recvCell c b) (0 + 1) ∅ 0) $$ Hs
  icases Hs' with ⟨Hs, Hv⟩
  imod (Rounds.cell_close ER (rd k x) (Set.mem_univ (κ (barCell c))) id (duties_later k x (barCell c))) $$ [HB] with VB
  · isplitr
    · iapply (inv_at k x κ (bar_mem c)); iexact HR
    · iexact HB
  imod (close_kind k x κ (bits (keepLen k)) (fun b => copyCell c b) (copy_mem c) fun b hb => duties_copy_none k x c b hb) $$ [Hk Ik] with Vk
  · isplitr; · iexact HR
    isplitl [Hk] <;> iassumption
  imod (close_kind k x κ (bits (sendLen k)) (fun b => sendCell c b) (send_mem c) fun b hb => duties_send_none k x c b hb) $$ [Hs Is] with Vs
  · isplitr; · iexact HR
    isplitl [Hs] <;> iassumption
  imod (close_kind k x κ (bits (sendLen k)) (fun b => recvCell c b) (recv_mem c) fun b hb => duties_recv_none k x c b hb) $$ [Hv Iv] with Vv
  · isplitr; · iexact HR
    isplitl [Hv] <;> iassumption
  imodintro
  isplitl [VB Vk Vs Vv]
  · isplitl [VB]; · iexact VB
    isplitl [Vk]; · iexact Vk
    isplitl [Vs]; · iexact Vs
    iexact Vv
  isplitl [Hbufs]; · iexact Hbufs
  iexact HO

end Cert.Proof
-- ==== Proof.Launch.lean ====
/-
  The one kernel region of the program, entered with the table and the packed rows that the host operations made: what the
  protocol hands each device, the body's obligation, the region's record.
-/
module

public import proofs.«01_k».proof.Proof.Enter
public import proofs.«01_k».proof.Proof.Gen.KernelIdeal.Launch
public import proofs.«01_k».proof.Proof.Gen.KernelIdeal.Regions
public import proofs.«01_k».proof.Proof.Gen.KernelIdeal.Points
public import Idealize.ShloMosaic.Lib.Pipeline.RegionTalk

@[expose] public section

set_option maxRecDepth 8000

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (k : ℕ) (hk : k ≤ 4096) (x : Dev nD → Buf4112 F) (o : Dev nD → Buf4096 F) (c : Dev nD)

/-- What the launch keeps for the kernel on device `c`. -/
def kept0 : sProp 𝕄 :=
  iprop((∃ κ : GSem nD τ sig → ℕ, records k x κ)
    ∗ ((tools (F := F) c ∗ dutyTok ER (barCell (pr c)) 0 ()) ∗ atPos ER (barCell c) 0 ∅ 0
      ∗ bigSep Finset.univ fun q : Fin 3 × Fin 13 => openTok ER ((c : Thread nD τ), osem q))
    ∗ cred (tallyAt (barCell c) () 1) ∗ bigSep (bits (sendLen k)) fun b => cred (tallyAt (recvCell c b) () (N b)))

/-- The same with the kernel's own cells opened. -/
def armed : sProp 𝕄 :=
  iprop((∃ κ : GSem nD τ sig → ℕ, records k x κ)
    ∗ (tools (F := F) c ∗ dutyTok ER (barCell (pr c)) 0 ()) ∗ (spots (F := F) c ∗ marks (F := F) c)
    ∗ (cred (tallyAt (barCell c) () 1) ∗ atPos ER (barCell c) 0 ∅ 0 ∗ levAts L lv)
    ∗ bigSep (bits (sendLen k)) fun b => cred (tallyAt (recvCell c b) () (N b)))

/-- The kernel's semaphores, all at zero. -/
def zeros : sProp 𝕄 := bigSep Finset.univ fun q : Fin 3 × Fin 13 => semVal ((c : Thread nD τ), osem q) 0

/-- The landing rows' buffer, and the generator's register. -/
abbrev scratch : sProp 𝕄 := iprop((∃ f, commPts c Finset.univ f) ∗ ∃ r, prngReg c r)

/-- The region's data: the table and the packed rows come in, the result goes out; the kernel pays all it owes. -/
def dat0 (c : Dev nD) : Dat τ (Elt F) Unit ℕ UU ℕ cfg0 c where
  A w := match w with
    | ⟨0, _⟩ => table k c
    | ⟨1, _⟩ => x c
    | ⟨2, _⟩ => o c
  after w _ := match w with
    | ⟨0, _⟩ => table k c
    | ⟨1, _⟩ => x c
    | ⟨2, _⟩ => outRows k x c
  Φ t := if t.val = 0 then iprop(armed k x c ∗ scratch (F := F) c) else iprop((semVal (barCell c) 0 ∗ zeros (F := F) c) ∗ scratch (F := F) c)
  q _ := fullShare
  owed t := if t.val = 0 then O₀ k c else 0

theorem share_eq (w : Fin cfg0.W) : (dat0 k x o c).share w = fullShare := by unfold Dat.share; split <;> rfl

theorem owed_first : (dat0 k x o c).owed t0_0.castSucc = O₀ k c := by
  show (if (t0_0.castSucc : Fin (cfg0.N + 1)).val = 0 then O₀ k c else 0) = O₀ k c; exact if_pos rfl
theorem owed_last : (dat0 k x o c).owed t0_0.succ = 0 := by
  show (if (t0_0.succ : Fin (cfg0.N + 1)).val = 0 then O₀ k c else 0) = 0; exact if_neg (by rw [Fin.val_succ]; exact Nat.succ_ne_zero _)
theorem Phi_first : (dat0 k x o c).Φ t0_0.castSucc = iprop(armed k x c ∗ scratch (F := F) c) := by
  dsimp only [dat0]; exact if_pos rfl
theorem Phi_last : (dat0 k x o c).Φ t0_0.succ = iprop((semVal (barCell c) 0 ∗ zeros (F := F) c) ∗ scratch (F := F) c) := by
  dsimp only [dat0]; exact if_neg (by rw [Fin.val_succ]; exact Nat.succ_ne_zero _)

theorem fin_last : (Fin.last cfg0.N : Fin (cfg0.N + 1)) = t0_0.succ := by
  apply Fin.ext; rw [Fin.val_last, Fin.val_succ]; show grid0.N = 0 + 1; rw [N_0]

/-! ### The windows are whole arrays -/

theorem read0 (t : Fin cfg0.N) (f : S7.Idx → Elt F .i32) : ((cfg0.win (0 : Fin 3)).blk t).view.read (Elt F) f = f := by
  funext i
  show f _ = f i
  congr 1
  funext a
  apply Fin.ext
  fin_cases a
  show 0 * 7 + 1 * (i 0).val = (i 0).val
  omega
theorem read1 (t : Fin cfg0.N) (f : S4112x1024.Idx → Elt F .bf16) : ((cfg0.win (1 : Fin 3)).blk t).view.read (Elt F) f = f := by
  funext i
  show f _ = f i
  congr 1
  funext a
  apply Fin.ext
  fin_cases a
  · show 0 * 4112 + 1 * (i 0).val = (i 0).val
    omega
  · show 0 * 1024 + 1 * (i 1).val = (i 1).val
    omega
theorem read2 (t : Fin cfg0.N) (f : S4096x1024.Idx → Elt F .bf16) : ((cfg0.win (2 : Fin 3)).blk t).view.read (Elt F) f = f := by
  funext i
  show f _ = f i
  congr 1
  funext a
  apply Fin.ext
  fin_cases a
  · show 0 * 4096 + 1 * (i 0).val = (i 0).val
    omega
  · show 0 * 1024 + 1 * (i 1).val = (i 1).val
    omega

theorem before0 (t : Fin cfg0.N) (d) : (dat0 k x o c).before (0 : Fin 3) t d = table k c := by
  unfold Dat.before; rw [if_pos (fetch0_0 t)]
  exact read0 (F := F) t (table k c)
theorem before1 (t : Fin cfg0.N) (d) : (dat0 k x o c).before (1 : Fin 3) t d = x c := by
  unfold Dat.before; rw [if_pos (fetch0_1 t)]
  exact read1 (F := F) t _

theorem last0 : (dat0 k x o c).arrAt (0 : Fin 3) cfg0.N = table k c := (dat0 k x o c).arrAt_in (0 : Fin 3) rfl _
theorem last1 : (dat0 k x o c).arrAt (1 : Fin 3) cfg0.N = x c := (dat0 k x o c).arrAt_in (1 : Fin 3) rfl _
theorem last2 : (dat0 k x o c).arrAt (2 : Fin 3) cfg0.N = outRows k x c := by
  rw [show cfg0.N = 0 + 1 from N_0]
  unfold Dat.arrAt
  rw [dif_pos (show 0 < cfg0.N from by show 0 < grid0.N; rw [N_0]; decide), if_pos (flush0_2 _)]
  refine (read2 (F := F) ⟨0, by show 0 < grid0.N; rw [N_0]; decide⟩ _).symm.trans ?_
  rw [View.read_write_univ]
  rfl

/-! ### The body's obligation -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem owns_eq (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

def bodyPre : sProp 𝕄 :=
  iprop((dat0 k x o c).Φ t0_0.castSucc ∗ (dat0 k x o c).owesAt () t0_0.castSucc
    ∗ (∃ d, stg c cc0_stg0_0 ((dat0 k x o c).before (0 : Fin 3) t0_0 d))
    ∗ (∃ d, stg c cc0_stg1_0 ((dat0 k x o c).before (1 : Fin 3) t0_0 d))
    ∗ (∃ d, stg c cc0_stg2_0 ((dat0 k x o c).before (2 : Fin 3) t0_0 d)))
def bodyPost : sProp 𝕄 :=
  iprop((dat0 k x o c).Φ t0_0.succ ∗ (dat0 k x o c).owesAt () t0_0.succ
    ∗ stg c cc0_stg0_0 (table k c) ∗ stg c cc0_stg1_0 (x c)
    ∗ stg c cc0_stg2_0 (outRows k x c))

theorem owesAt_intro (t : Fin (cfg0.N + 1)) (O : CellTallies nD τ sig Unit) (h0 : (dat0 k x o c).owed t = O) (W : Waits sig Unit) :
    (owes (c : Thread nD τ) O W : sProp 𝕄) ⊢ ((dat0 k x o c).owesAt () t : sProp 𝕄) := by
  unfold Dat.owesAt Pipeline.owesWithin Dat.bound; rw [h0]
  iintro HO; iexists W; isplitr; · ipureintro; exact fun _ _ => Or.inl trivial
  iexact HO
theorem owesAt_elim (t : Fin (cfg0.N + 1)) (O : CellTallies nD τ sig Unit) (h0 : (dat0 k x o c).owed t = O) :
    ((dat0 k x o c).owesAt () t : sProp 𝕄) ⊢ iprop(∃ W, owes (c : Thread nD τ) O W) := by
  unfold Dat.owesAt Pipeline.owesWithin; rw [h0]
  iintro ⟨%W, -, HO⟩; iexists W; iexact HO

include hk in
/-- The body, from what the region gives it to what the region takes. -/
theorem body_main0 : bodyPre k x o c ⊢ wp frame (wpE (defs₀ (F := F)) 𝒱₀ (c : Thread nD τ) none) Set.univ
    (cc0_body (Memref.whole cc0_stg0_0) (Memref.isWhole_whole _) (Memref.whole cc0_stg1_0) (Memref.isWhole_whole _)
      (Memref.whole cc0_stg2_0) (Memref.isWhole_whole _) (Memref.whole cc0_scratch0) (Memref.isWhole_whole _) cc0_scratch1 cc0_scratch2 cc0_scratch3)
    (fun _ => iprop(|={Set.univ}=> bodyPost k x o c)) := by
  unfold bodyPre bodyPost
  rw [Phi_first, Phi_last]
  unfold armed scratch
  iintro ⟨⟨⟨⟨%κ, #HR⟩, Ht, Hs, Hb, Hc⟩, Hcomm, Hp⟩, HO, ⟨%d0, %g0, %hg0, H0⟩, ⟨%d1, %g1, %hg1, H1⟩, ⟨%d2, %g2, -, H2⟩⟩
  rw [before0] at hg0
  rw [before1] at hg1
  subst hg0 hg1
  ihave HO' := (owesAt_elim k x o c _ _ (owed_first k x o c)) $$ HO
  ihave HE := (enter k hk x c) $$ [Ht Hs Hb Hc HO' H1 Hcomm H2]
  · unfold entering buffers
    isplitl [Ht Hs Hb Hc HO']
    · isplitl [Ht]; · iexact Ht
      isplitl [Hs]; · iexact Hs
      isplitl [Hb]; · iexact Hb
      isplitl [Hc]; · iexact Hc
      iexact HO'
    isplitl [H1]; · iexact H1
    isplitl [Hcomm]; · iexact Hcomm
    iexists g2; iexact H2
  icases HE with ⟨Hop, Hrest, Hidle⟩
  iapply (body_run k hk x κ c)
  isplitr; · iexact HR
  isplitl [Hop]; · iexact Hop
  isplitl [H0]; · iexact H0
  isplitl [Hrest]; · iexact Hrest
  iintro HD
  imod (leave k x κ c) $$ [HD Hidle] with HL
  · isplitr; · iexact HR
    isplitl [HD]; · iexact HD
    iexact Hidle
  unfold leaving zeros
  icases HL with ⟨Hz, ⟨H0, H1, Hcomm, H2⟩, HO⟩
  imodintro
  isplitl [Hz Hcomm Hp]
  · isplitl [Hz]; · iexact Hz
    isplitl [Hcomm]; · iexact Hcomm
    iexact Hp
  isplitl [HO]
  · unfold owesNone
    icases HO with ⟨%W, HO⟩
    iapply (owesAt_intro k x o c _ _ (owed_last k x o c) W)
    iexact HO
  isplitl [H0]
  · iexists _; isplitr; · (ipureintro; rfl)
    iexact H0
  isplitl [H1]
  · iexists _; isplitr; · (ipureintro; rfl)
    iexact H1
  iexists _; isplitr; · (ipureintro; rfl)
  iexact H2

include hk in
theorem body_main : bodyPre k x o c ⊢ wp frame (wpE (defs₀ (F := F)) 𝒱₀ (c : Thread nD τ) none) Set.univ
    (cc0_body (Memref.whole cc0_stg0_0) (Memref.isWhole_whole _) (Memref.whole cc0_stg1_0) (Memref.isWhole_whole _)
      (Memref.whole cc0_stg2_0) (Memref.isWhole_whole _) (Memref.whole cc0_scratch0) (Memref.isWhole_whole _) cc0_scratch1 cc0_scratch2 cc0_scratch3)
    (fun _ => bodyPost k x o c) := (body_main0 k hk x o c).trans (wp_fupd frame _ Set.univ _ _)

include hk in
/-- The region's body obligation on device `c`. -/
theorem body_obligation : BodyObligation (dat0 k x o c) (defs₀ (F := F)) 𝒱₀ () Set.univ := fun t => by
  rw [fin_N0 t]
  rw [bigSep_W0, bigSep_W0]
  simp only [owns_eq]
  exact body_main k hk x o c

/-! ### The region -/

theorem opening_cells : iprop(kept0 k x c ∗ Pipeline.ownSems0 osem c ∗ levAts L lv) ⊢ (|={Set.univ}=> armed k x c : sProp 𝕄) := by
  have h : ∀ κ : GSem nD τ sig → ℕ, ∀ q ∈ (Finset.univ : Finset (Fin 3 × Fin 13)),
      iprop(records k x κ ∗ (openTok ER ((c : Thread nD τ), osem q) ∗ semVal ((c : Thread nD τ), osem q) 0))
        ⊢ (|={Set.univ}=> (atPos ER ((c : Thread nD τ), osem q) 0 ∅ 0 ∗ reached ER ((c : Thread nD τ), osem q) 0) : sProp 𝕄) := by
    intro κ q _
    iintro ⟨#HR, Ho, Hv⟩
    iapply (Rounds.cell_open ER (rd k x) (g := ((c : Thread nD τ), osem q)) (Set.mem_univ (κ ((c : Thread nD τ), osem q))))
    isplitr
    · iapply (inv_at k x κ (osem_mem c q)); iexact HR
    isplitl [Ho]; · iexact Ho
    iexact Hv
  have h2 : ∀ κ : GSem nD τ sig → ℕ, iprop(records k x κ ∗ (bigSep Finset.univ fun q : Fin 3 × Fin 13 => openTok ER ((c : Thread nD τ), osem q))
      ∗ bigSep Finset.univ fun q : Fin 3 × Fin 13 => semVal ((c : Thread nD τ), osem q) 0)
        ⊢ (|={Set.univ}=> (spots (F := F) c ∗ marks (F := F) c) : sProp 𝕄) := by
    intro κ
    rw [← bigSep_sep']
    refine ((bigSep_with_persistent (h κ)).trans (bigSep_fupd _ _)).trans ?_
    rw [bigSep_sep']
    exact Entails.refl _
  unfold kept0 armed Pipeline.ownSems0
  iintro ⟨⟨⟨%κ, #HR⟩, ⟨Ht, Hb, Ho⟩, Hc, Hcs⟩, Hv, Hl⟩
  imod (h2 κ) $$ [Ho Hv] with ⟨Hs, Hm⟩
  · isplitr; · iexact HR
    isplitl [Ho]; · iexact Ho
    iexact Hv
  imodintro
  isplitr; · iexists κ; iexact HR
  isplitl [Ht]; · iexact Ht
  isplitl [Hs Hm]
  · isplitl [Hs]; · iexact Hs
    iexact Hm
  isplitl [Hb Hc Hl]
  · isplitl [Hc]; · iexact Hc
    isplitl [Hb]; · iexact Hb
    iexact Hl
  iexact Hcs

theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem O₀_pos {g : GSem nD τ sig} {u : Unit} (h : 0 < O₀ k c g u) : (∃ b, g = recvCell (pr c) b) ∨ g = barCell (pr c) := by
  unfold O₀ at h
  rw [Pi.add_apply, Finsupp.add_apply] at h
  rcases Nat.add_pos_iff_pos_or_pos.mp h with h | h
  · exact .inl (owed_pos k h)
  · rw [tallyAt_apply] at h
    split at h
    · next hg => exact .inr hg.1
    · exact absurd h (Nat.lt_irrefl 0)

theorem cutD (t : Fin (cfg0.N + 1)) (g : GSem nD τ sig) (i : Unit) (h : 0 < (dat0 k x o c).owed t g i) :
    i ∈ L g ∧ (0 : ℕ) < lv g i := by
  have e : (dat0 k x o c).owed t = if t.val = 0 then O₀ k c else 0 := rfl
  rw [e] at h
  split at h
  · rcases O₀_pos k c h with ⟨b, rfl⟩ | rfl
    · exact ⟨by rw [L_tc]; exact Finset.mem_singleton_self _, by rw [lv_recv]; decide⟩
    · exact ⟨by rw [L_tc]; exact Finset.mem_singleton_self _, by dsimp only [lv]; rw [role_bar]; decide⟩
  · exact absurd h (Nat.lt_irrefl 0)

variable (W W' : Dev nD → Valuation τ sig (Elt F))

theorem phi_in : iprop(Pipeline.scopedRest (Pipeline.pin (pcfgs (F := F)) adm 0).spec c ∗ (∃ r, prngReg c r)
    ∗ StableHlo.held (c.tc : Thread nD τ) ∅ (W c) ∗ armed k x c) ⊢ (dat0 k x o c).Φ 0 := by
  rw [show (dat0 k x o c).Φ 0 = iprop(armed k x c ∗ scratch (F := F) c) from Phi_first k x o c,
    show (Pipeline.scopedRest (Pipeline.pin (pcfgs (F := F)) adm 0).spec c : sProp 𝕄) = _ from scopedRest0_eq c]
  unfold scratch
  iintro ⟨Hs, Hp, -, Ha⟩
  isplitl [Ha]; · iexact Ha
  isplitl [Hs]; · iexact Hs
  iexact Hp

theorem phi_out : (dat0 k x o c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (W' c) ∗ Pipeline.ownSems0 osem c ∗ semVal (barCell c) 0) := by
  rw [show (dat0 k x o c).Φ (Fin.last (Pipeline.pin (pcfgs (F := F)) adm 0).N) = (dat0 k x o c).Φ t0_0.succ from congrArg _ fin_last, Phi_last,
    show (Pipeline.scopedRest (Pipeline.pin (pcfgs (F := F)) adm 0).spec c : sProp 𝕄) = _ from scopedRest0_eq c]
  unfold scratch zeros Pipeline.ownSems0 StableHlo.held
  rw [bigSep_empty]
  iintro ⟨⟨Hb, Hz⟩, Hs, Hp⟩
  isplitl [Hs]; · iexact Hs
  isplitl [Hp]; · iexact Hp
  isplitr; · iempintro
  isplitl [Hz]; · iexact Hz
  iexact Hb

def pdats : (p : Fin 1) → (c : Dev nD) → Dat τ (Elt F) Unit ℕ UU ℕ (cfgs p) c := fun _ c => dat0 k x o c

/-- The buffers that are no window's array. -/
abbrev others : Finset (DevRef τ sig) := Pipeline.ucRefs τ sig \ Pipeline.arrRefs (τ := τ) (pcfgs (F := F) 0).spec

theorem staging_level (w : Fin 3) (s : Fin (win0 w).nbuf) : lv ((c : Thread nD τ), .dma ((win0 w).sem s)) () ≤ 0 := by
  show (match role (.dma ((win0 w).sem s)) with | .bar => 1 | .recv _ => 2 | _ => 0) ≤ 0
  revert s; revert w; decide

set_option backward.isDefEq.respectTransparency.types false in
/-- The region's record. -/
def reg0 (hW : ∀ c w, (dat0 k x o c).arrAt w 0 = W c (Proc.devRef .tc (Pipeline.arrRef spec0 w)))
    (hW' : ∀ c w, (dat0 k x o c).arrAt w cfg0.N = W' c (Proc.devRef .tc (Pipeline.arrRef spec0 w)))
    (hrest : ∀ c, ∀ b ∈ others (F := F), W' c b = W c b) :
    Pipeline.RegionSeg (pcfgs (F := F)) adm (pdats k x o) () defs₀ 𝒱₀ L lv 0 :=
  Pipeline.RegionSeg.ofTalk (pcfgs (F := F)) adm (pdats k x o) () defs₀ 𝒱₀ L lv 0 osem (by decide : Pipeline.OwnSemFacts spec0 osem)
    ∅ (others (F := F)) (Finset.empty_subset _) kitP rfl (fun c => (body_obligation k hk x o c).loose)
    (fun _ => 0) (O₀ k) (fun c => (owed_first k x o c).trans (zero_add _).symm)
    (fun c => (congrArg (dat0 k x o c).owed fin_last).trans (owed_last k x o c)) (fun _ => rfl) (share_eq k x o)
    W W' (fun c b hb => hrest c b (Finset.mem_sdiff.mp hb).1)
    (kept0 k x) (fun c => semVal (barCell c) 0) (armed k x) (fun c => semVal (barCell c) 0) (opening_cells k x) (fun c => phi_in k x o c W)
    (fun c => phi_out k x o c W')
    (fun c => by iintro H; imodintro; iexact H)
    (fun _ => 0)
    ⟨fun c w s => by show () ∈ L ((c : Thread nD τ), _); rw [L_tc]; exact Finset.mem_singleton_self _,
      fun c w s => staging_level c w s, fun c t g i h => cutD k x o c t g i h⟩
    (fun _ => iprop(emp))
    hW hW'

/-! ### The region between two states of the buffers -/

variable (h69 : ∀ c, W c (Proc.devRef .tc main_v69) = table k c) (h35 : ∀ c, W c (Proc.devRef .tc main_v35) = x c)
  (h70 : ∀ c, W c (Proc.devRef .tc main_v70) = o c) (h70' : ∀ c, W' c (Proc.devRef .tc main_v70) = outRows k x c)
  (hoff : ∀ c, ∀ b : Ref sig .tc, b ≠ main_v70 → W' c (Proc.devRef .tc b) = W c (Proc.devRef .tc b))

include h69 h35 h70 in
theorem arrays_before : ∀ c w, (dat0 k x o c).arrAt w 0 = W c (Proc.devRef .tc (Pipeline.arrRef spec0 w)) := by
  intro c w
  fin_cases w
  · exact (h69 c).symm
  · exact (h35 c).symm
  · exact (h70 c).symm

include h69 h35 h70' hoff in
theorem arrays_after : ∀ c w, (dat0 k x o c).arrAt w cfg0.N = W' c (Proc.devRef .tc (Pipeline.arrRef spec0 w)) := by
  intro c w
  fin_cases w
  · exact (last0 k x o c).trans ((hoff c main_v69 (by decide)).trans (h69 c)).symm
  · exact (last1 k x o c).trans ((hoff c main_v35 (by decide)).trans (h35 c)).symm
  · exact (last2 k x o c).trans (h70' c).symm

end Cert.Proof
-- ==== Proof.Run.lean ====
/-
  The program's run: what the launch deals to the two devices, the host operations and the kernel region in order, and the
  result read off the last state.
-/
module

public import proofs.«01_k».proof.Proof.Launch

@[expose] public section

set_option maxRecDepth 8000

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Seg)

variable {F : FTy → Type} [FloatOps F]

local notation "𝕄" => MT nD τ sig Unit (Elt F) ℕ UU ℕ

variable (k : ℕ) (hk : k ≤ 4096) (x : Dev nD → Buf4112 F) (c : Dev nD)

/-! ### The tokens of all duties -/

/-- A device's cells: its barrier, and its kernel's own. -/
def cellSem : Option (Fin 3 × Fin 13) → SemLoc sig
  | none => .reg barS
  | some q => osem q

theorem cellSem_inj : Function.Injective cellSem := by
  rintro (_ | q) (_ | q') h
  · rfl
  · exact absurd h.symm (osem_ne_bar q')
  · exact absurd h (osem_ne_bar q)
  · exact congrArg some (osem_inj h)

def tokEmb : Dev nD × Option (Fin 3 × Fin 13) ↪ GSem nD τ sig × ℕ × Unit :=
  ⟨fun cq => (((cq.1 : Thread nD τ), cellSem cq.2), 0, ()), fun _ _ h =>
    Prod.ext (congrArg (fun t : GSem nD τ sig × ℕ × Unit => t.1.1.1) h)
      (cellSem_inj (congrArg (fun t : GSem nD τ sig × ℕ × Unit => t.1.2) h))⟩

def allToks : Finset (GSem nD τ sig × ℕ × Unit) := Finset.univ.map tokEmb

/-- The tokens of the duties at device `c`'s cells. -/
def toks : sProp 𝕄 :=
  iprop(dutyTok ER (barCell c) 0 () ∗ (bigSep Finset.univ fun b => dutyTok ER (copyCell c b) 0 ())
    ∗ (bigSep Finset.univ fun b => dutyTok ER (sendCell c b) 0 ()) ∗ bigSep Finset.univ fun b => dutyTok ER (recvCell c b) 0 ())

omit [FloatOps F] in
theorem bigSep_option (Φ : Option (Fin 3 × Fin 13) → sProp 𝕄) :
    bigSep Finset.univ Φ = iprop(Φ none ∗ bigSep Finset.univ fun q => Φ (some q)) := by
  rw [bigSep_univ_at Φ none]
  congr 1

omit [FloatOps F] in
theorem toks_eq : bigSep allToks (fun t => (dutyTok ER t.1 t.2.1 t.2.2 : sProp 𝕄)) = bigSep Finset.univ fun c : Dev nD => toks c := by
  unfold allToks; rw [bigSep_map, bigSep_univ_prod]
  exact bigSep_congr fun c _ => by unfold toks; rw [bigSep_option, cells3]; rfl

omit [FloatOps F] in
/-- The barrier's and the receive cells' tokens, each handed to the other device. -/
theorem toks_around :
    (bigSep Finset.univ fun c : Dev nD => (toks c : sProp 𝕄)) ⊢ bigSep Finset.univ fun c : Dev nD => iprop(tools (F := F) c ∗ dutyTok ER (barCell (pr c)) 0 ()) := by
  unfold toks tools
  rw [bigSep_sep', bigSep_sep', bigSep_sep', bigSep_sep', bigSep_sep', bigSep_sep',
    bigSep_univ_equiv swapDev (fun c : Dev nD => (dutyTok ER (barCell c) 0 () : sProp 𝕄)),
    bigSep_univ_equiv swapDev (fun c : Dev nD => (bigSep Finset.univ fun b => dutyTok ER (recvCell c b) 0 () : sProp 𝕄))]
  iintro ⟨Hb, Hc, Hs, Hr⟩
  isplitr [Hb]
  · isplitl [Hc]; · iexact Hc
    isplitl [Hs]; · iexact Hs
    iexact Hr
  iexact Hb

/-! ### The launch credit -/

theorem pr_inj {c d : Dev nD} (h : pr c = pr d) : c = d := by rw [← pr_pr c, h, pr_pr]

theorem owed_at_bar (d : Dev nD) (n : ℕ) : owed k d n (barCell c) () = 0 := by
  by_contra h
  obtain ⟨b, e⟩ := owed_pos k (Nat.pos_of_ne_zero h)
  exact absurd (congrArg (fun g : GSem nD τ sig => role g.2) e) (by show role (.reg barS) ≠ role (.dma (recvS b)); rw [role_bar, role_recv]; exact fun h => nomatch h)

theorem recv_cell_eq {c d : Dev nD} {b b' : Fin 13} (h : recvCell c b = recvCell d b') : c = d ∧ b = b' :=
  ⟨congrArg (fun g : GSem nD τ sig => g.1.1) h,
    congrArg Prod.snd (osem_inj (a₁ := (2, b)) (a₂ := (2, b')) (congrArg (fun g : GSem nD τ sig => g.2) h))⟩

theorem owed_at_recv (d : Dev nD) (b : Fin 13) (hb : b ∈ bits (sendLen k)) :
    owed k d 13 (recvCell c b) () = if d = pr c then N b else 0 := by
  unfold owed
  rw [Finset.sum_apply, Finsupp.finset_sum_apply, below_all]
  by_cases h : d = pr c
  · subst h
    rw [if_pos rfl, pr_pr, Finset.sum_eq_single b]
    · rw [tallyAt_apply, if_pos ⟨rfl, rfl⟩]
    · intro b' _ hne
      rw [tallyAt_apply, if_neg (fun h => hne (recv_cell_eq h.1).2.symm)]
    · exact fun h => absurd hb h
  · rw [if_neg h]
    refine Finset.sum_eq_zero fun b' _ => ?_
    rw [tallyAt_apply, if_neg (fun e => h (by rw [(recv_cell_eq e.1).1, pr_pr]))]

theorem owed_bar (d : Dev nD) : O₀ k d (barCell c) () = if d = pr c then 1 else 0 := by
  unfold O₀
  rw [Pi.add_apply, Finsupp.add_apply, owed_at_bar, tallyAt_apply, Nat.zero_add]
  by_cases h : d = pr c
  · subst h; rw [pr_pr, if_pos ⟨rfl, rfl⟩, if_pos rfl]
  · rw [if_neg (fun ⟨h1, _⟩ => h (by rw [← pr_pr d]; exact congrArg pr (congrArg (fun g : GSem nD τ sig => g.1.1) h1).symm)), if_neg h]

theorem bar_ne_recv (d : Dev nD) (b : Fin 13) : recvCell c b ≠ barCell d := fun h =>
  absurd (congrArg (fun g : GSem nD τ sig => role g.2) h)
    (by show role (.dma (recvS b)) ≠ role (.reg barS); rw [role_bar, role_recv]; exact fun h => nomatch h)

theorem owed_recv (d : Dev nD) (b : Fin 13) (hb : b ∈ bits (sendLen k)) : O₀ k d (recvCell c b) () = if d = pr c then N b else 0 := by
  unfold O₀
  rw [Pi.add_apply, Finsupp.add_apply, owed_at_recv k c d b hb, tallyAt_ne_cell (bar_ne_recv c (pr d) b), Finsupp.zero_apply, Nat.add_zero]

theorem launch_bar :
    tallyOn (barCell c) (launchCredit (Pipeline.owing (O₀ k)) 0 (barCell c)) = (tallyAt (barCell c) () 1 : CellTallies nD τ sig Unit) := by
  unfold tallyAt; refine congrArg _ (Finsupp.ext fun u => ?_); cases u
  rw [Pipeline.launchCredit_owing, Finsupp.single_eq_same, Finset.sum_congr rfl fun d _ => owed_bar k c d, Finset.sum_ite_eq' Finset.univ (pr c) fun _ => 1,
    if_pos (Finset.mem_univ _)]

theorem launch_recv (b : Fin 13) (hb : b ∈ bits (sendLen k)) :
    tallyOn (recvCell c b) (launchCredit (Pipeline.owing (O₀ k)) 0 (recvCell c b)) = (tallyAt (recvCell c b) () (N b) : CellTallies nD τ sig Unit) := by
  unfold tallyAt; refine congrArg _ (Finsupp.ext fun u => ?_); cases u
  rw [Pipeline.launchCredit_owing, Finsupp.single_eq_same, Finset.sum_congr rfl fun d _ => owed_recv k c d b hb, Finset.sum_ite_eq' Finset.univ (pr c) fun _ => N b,
    if_pos (Finset.mem_univ _)]

def recvEmb : Fin 13 ↪ SemLoc sig := ⟨fun b => .dma (recvS b), fun _ _ h => by
  have := osem_inj (a₁ := (2, _)) (a₂ := (2, _)) h; exact congrArg Prod.snd this⟩

theorem recv_sub : (bits (sendLen k)).map recvEmb ⊆ Finset.univ.erase (SemLoc.reg barS : SemLoc sig) := by
  intro s hs
  obtain ⟨b, -, rfl⟩ := Finset.mem_map.mp hs
  exact Finset.mem_erase.mpr ⟨osem_ne_bar (2, b), Finset.mem_univ _⟩

omit [FloatOps F] in
theorem creds : (Pipeline.launchCred (O₀ k) c : sProp 𝕄)
    ⊢ iprop(cred (tallyAt (barCell c) () 1) ∗ bigSep (bits (sendLen k)) fun b => cred (tallyAt (recvCell c b) () (N b))) := by
  unfold Pipeline.launchCred
  rw [bigSep_univ_at _ (SemLoc.reg barS), launch_bar]
  refine sep_mono_right ?_
  refine (bigSep_subset (recv_sub k)).trans ?_
  rw [bigSep_map]
  exact Entails.of_eq (bigSep_congr fun b hb => congrArg cred (launch_recv k c b hb))

/-! ### What the launch deals -/

/-- The launch element: the staging cells' part, and the kernel's own cells' part. -/
def u₀ : UU :=
  (initOf (Pipeline.cells (Pipeline.pin (pcfgs (F := F)) adm) cellOf_inj) (Pipeline.launchToks (Pipeline.pin (pcfgs (F := F)) adm) cellOf_inj),
    launchOf barCells scCells allToks)

/-- A resource held whole by device `c₀`. -/
def onDev (c₀ : Dev nD) (X : sProp 𝕄) (c : Dev nD) : sProp 𝕄 := if c = c₀ then X else iprop(emp)

omit [FloatOps F] in
theorem bigSep_onDev (c₀ : Dev nD) (X : sProp 𝕄) : bigSep Finset.univ (onDev c₀ X) = X := by
  rw [bigSep_univ_at _ c₀, bigSep_congr (s := Finset.univ.erase c₀) (Ψ := fun _ => (BI.emp : sProp 𝕄))
      fun c hc => by unfold onDev; rw [if_neg (Finset.ne_of_mem_erase hc)]; rfl, BI.bigSep_emp_const]
  unfold onDev; rw [if_pos rfl]
  exact eq_of_both sep_emp

def G : Dev nD → sProp 𝕄 := onDev 0 (BI.own (ER (launchOf barCells scCells allToks)))

variable (m : (ℓ : Loc nD τ sig) → Buf (Elt F) ℓ) (ρ : Dev nD → PrngReg)

/-- What runs beside the buffers through the host operations. -/
def beside : sProp 𝕄 :=
  iprop((∃ r, prngReg (c : Dev nD) r) ∗ kept0 k x c ∗ ∃ W, owes (c : Thread nD τ) (O₀ k c) W)

/-- The protocol's ghost state of device `c`. -/
def linear : sProp 𝕄 :=
  iprop((tools (F := F) c ∗ dutyTok ER (barCell (pr c)) 0 ()) ∗ atPos ER (barCell c) 0 ∅ 0
    ∗ bigSep Finset.univ fun q : Fin 3 × Fin 13 => openTok ER ((c : Thread nD τ), osem q))

/-- What of a device's launch holdings is not the protocol's ghost state. -/
def bundle : sProp 𝕄 :=
  iprop(StableHlo.held (c : Thread nD τ) (Pipeline.ucRefs τ sig) (V0 m c)
    ∗ (cred (tallyAt (barCell c) () 1) ∗ bigSep (bits (sendLen k)) fun b => cred (tallyAt (recvCell c b) () (N b)))
    ∗ owes (c : Thread nD τ) (O₀ k c) ∅ ∗ ∃ r, prngReg (c : Dev nD) r)

omit [FloatOps F] in
theorem together {Φ Ψ : Dev nD → sProp 𝕄} : iprop(bigSep Finset.univ Φ ∗ bigSep Finset.univ Ψ) ⊢ bigSep Finset.univ fun c => iprop(Φ c ∗ Ψ c) :=
  Entails.of_eq (bigSep_sep' _ _ _).symm

omit [FloatOps F] in
theorem apart {Φ Ψ : Dev nD → sProp 𝕄} : (bigSep Finset.univ fun c => iprop(Φ c ∗ Ψ c)) ⊢ iprop(bigSep Finset.univ Φ ∗ bigSep Finset.univ Ψ) :=
  Entails.of_eq (bigSep_sep' _ _ _)

theorem start_intro (κ : GSem nD τ sig → ℕ) :
    iprop(records k x κ ∗ (linear (F := F) c ∗ bundle k c m))
      ⊢ iprop(StableHlo.held (c : Thread nD τ) (Pipeline.ucRefs τ sig) (V0 m c) ∗ beside k x c) := by
  unfold bundle beside kept0 linear
  iintro ⟨#HR, Hl, Hh, HC, HO, Hp⟩
  isplitl [Hh]; · iexact Hh
  isplitl [Hp]; · iexact Hp
  isplitr [HO]
  · isplitr; · iexists κ; iexact HR
    isplitl [Hl]; · iexact Hl
    iexact HC
  · iexists ∅; iexact HO

omit [FloatOps F] in
theorem unscoped_sems : (unscopedSems0 c : sProp 𝕄) = semVal (barCell c) 0 := by
  unfold unscopedSems0
  rw [show (Finset.univ.filter (fun sm : SemLoc sig => ¬ (sm.isScoped .tc = true))) = {SemLoc.reg barS} from by decide, bigSep_singleton]

theorem start :
    iprop((bigSep Finset.univ fun c : Dev nD => iprop(unscopedBufs c (fun b => m ((c : Thread nD τ).loc b)) ∗ unscopedSems0 c
          ∗ owes (c : Thread nD τ) (O₀ k c) ∅ ∗ Pipeline.launchCred (O₀ k) c ∗ prngReg c (ρ c) ∗ G c)) ∗ levAts L lv)
      ⊢ (|={Set.univ}=> bigSep Finset.univ fun c : Dev nD =>
          iprop(StableHlo.held (c : Thread nD τ) (Pipeline.ucRefs τ sig) (V0 m c) ∗ beside k x c) : sProp 𝕄) := by
  have hcore (c : Dev nD) : iprop(unscopedBufs c (fun b => m ((c : Thread nD τ).loc b)) ∗ unscopedSems0 c
        ∗ owes (c : Thread nD τ) (O₀ k c) ∅ ∗ Pipeline.launchCred (O₀ k) c ∗ prngReg c (ρ c) ∗ G c)
      ⊢ (iprop(bundle k c m ∗ (semVal (barCell c) 0 ∗ G c)) : sProp 𝕄) := by
    rw [show (unscopedBufs c (fun b => m ((c : Thread nD τ).loc b)) : sProp 𝕄) = StableHlo.held (c : Thread nD τ) (Pipeline.ucRefs τ sig) (V0 m c) from
      Pipeline.unscopedBufs_held (Ix := Unit) (Name := ℕ) (U := UU) (Lvl := ℕ) c (V0 m c), unscoped_sems]
    unfold bundle
    iintro ⟨Hh, Hus, HO, Hcr, Hp, HG⟩
    ihave Hc := (creds (F := F) k c) $$ Hcr
    isplitl [Hh Hc HO Hp]
    · isplitl [Hh]; · iexact Hh
      isplitl [Hc]; · iexact Hc
      isplitl [HO]; · iexact HO
      iexists (ρ c); iexact Hp
    isplitl [Hus]; · iexact Hus
    iexact HG
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hopen : bigSep scCells (fun g => (openTok ER g : sProp 𝕄))
      ⊢ bigSep Finset.univ (fun c : Dev nD => bigSep Finset.univ fun q : Fin 3 × Fin 13 => openTok ER ((c : Thread nD τ), osem q)) :=
    Entails.of_eq (by unfold scCells; rw [bigSep_map, bigSep_univ_prod]; rfl)
  iintro ⟨H, -⟩
  ihave H' := (show (bigSep Finset.univ fun c : Dev nD => iprop(unscopedBufs c (fun b => m ((c : Thread nD τ).loc b)) ∗ unscopedSems0 c
          ∗ owes (c : Thread nD τ) (O₀ k c) ∅ ∗ Pipeline.launchCred (O₀ k) c ∗ prngReg c (ρ c) ∗ G c))
      ⊢ (bigSep Finset.univ fun c : Dev nD => iprop(bundle k c m ∗ (semVal (barCell c) 0 ∗ G c)) : sProp 𝕄) from bigSep_mono fun c _ => hcore c) $$ H
  ihave H2 := apart $$ H'; icases H2 with ⟨HB, H3⟩
  ihave H4 := apart $$ H3; icases H4 with ⟨Hv, HG⟩
  ihave Hu := (show bigSep Finset.univ (G (F := F)) ⊢ BI.own (ER (launchOf barCells scCells allToks)) from
    Entails.of_eq (bigSep_onDev (F := F) 0 (BI.own (ER (launchOf barCells scCells allToks))))) $$ HG
  imod (Rounds.fund_launch ER (rd k x) disjoint_cells (fun g _ h => h) allToks) $$ [Hv Hu] with ⟨%κ, -, #Hinv, #Hr, Hat, Hopen, Htok⟩
  · isplitl [Hv]
    · iapply hv $$ Hv
    · iexact Hu
  imodintro
  iapply (bigSep_with_persistent (R := records k x κ) (Φ := fun c => iprop(linear c ∗ bundle k c m)) fun c _ => start_intro k x c m κ)
  isplitr
  · unfold records
    isplitr; · iexact Hinv
    iexact Hr
  iapply together
  isplitr [HB]
  · unfold linear
    iapply together; isplitl [Htok]
    · iapply (toks_around (F := F))
      iapply (Entails.of_eq (toks_eq (F := F))) $$ Htok
    iapply together; isplitl [Hat]; · iapply hat $$ Hat
    iapply hopen $$ Hopen
  · iexact HB

/-! ### The whole run -/

/-- The kernel's result, as the value the region leaves. -/
def result (rows : Dev nD → Buf4096 F) : Outs (F := F) := fun _ r c =>
  if h : r = main_v70 then h ▸ rows c else m ((c : Thread nD τ).loc r)

/-- The buffers after the kernel region, of the result's rows. -/
def last (rows : Dev nD → Buf4096 F) (c : Dev nD) : Valuation τ sig (Elt F) := Function.update (V27 m c) main_v70 (rows c)

theorem unscoped_eq : ∀ sm : SemLoc sig, sm.isScoped .tc = false → sm = .reg barS := by decide

section Region

variable (o : Dev nD → Buf4096 F) (W W' : Dev nD → Valuation τ sig (Elt F))
  (hW : ∀ c w, (dat0 k x o c).arrAt w 0 = W c (Proc.devRef .tc (Pipeline.arrRef spec0 w)))
  (hW' : ∀ c w, (dat0 k x o c).arrAt w cfg0.N = W' c (Proc.devRef .tc (Pipeline.arrRef spec0 w)))
  (hrest : ∀ c, ∀ b ∈ others (F := F), W' c b = W c b)

/-- The buffers, as the region's arrays and the others. -/
theorem held_arrays (V : Valuation τ sig (Elt F)) :
    (StableHlo.held (c : Thread nD τ) (Pipeline.ucRefs τ sig) V : sProp 𝕄)
      = iprop(StableHlo.held (c : Thread nD τ) (Pipeline.arrRefs (τ := τ) (pcfgs (F := F) 0).spec) V ∗ StableHlo.held (c : Thread nD τ) (others (F := F)) V) :=
  StableHlo.held_sub_split (c : Thread nD τ) (Pipeline.arrRefs_sub_ucRefs _ (by intro w; fin_cases w <;> rfl)) V

theorem reg0_pre :
    iprop(StableHlo.held (c : Thread nD τ) (Pipeline.ucRefs τ sig) (W c) ∗ beside k x c) ⊢ (reg0 k hk x o W W' hW hW' hrest).pre c := by
  show _ ⊢ iprop(StableHlo.held (c : Thread nD τ) (Pipeline.arrRefs (τ := τ) (pcfgs (F := F) 0).spec) (W c) ∗ (∃ r, prngReg c r)
    ∗ (StableHlo.held (c : Thread nD τ) (others (F := F)) (W c) ∗ emp) ∗ kept0 k x c ∗ ∃ Wd, owes (c : Thread nD τ) (0 + O₀ k c) Wd)
  rw [held_arrays, zero_add]
  unfold beside
  iintro ⟨⟨Ha, Hr⟩, Hp, HK, HO⟩
  isplitl [Ha]; · iexact Ha
  isplitl [Hp]; · iexact Hp
  isplitl [Hr]
  · isplitl [Hr]; · iexact Hr
    iempintro
  isplitl [HK]; · iexact HK
  iexact HO

theorem reg0_post :
    (reg0 k hk x o W W' hW hW' hrest).post c
      ⊢ iprop((StableHlo.held (c : Thread nD τ) (Pipeline.ucRefs τ sig) (W' c) ∗ semVal (barCell c) 0)
        ∗ ∃ Wd, owes (c : Thread nD τ) (0 : CellTallies nD τ sig Unit) Wd) := by
  show iprop(StableHlo.held (c : Thread nD τ) (Pipeline.arrRefs (τ := τ) (pcfgs (F := F) 0).spec) (W' c) ∗ (∃ r, prngReg c r)
    ∗ (StableHlo.held (c : Thread nD τ) (others (F := F)) (W' c) ∗ emp) ∗ semVal (barCell c) 0
    ∗ ∃ Wd, owes (c : Thread nD τ) (0 : CellTallies nD τ sig Unit) Wd) ⊢ _
  rw [held_arrays]
  iintro ⟨Ha, -, ⟨Hr, -⟩, Hb, HO⟩
  isplitr [HO]
  · isplitr [Hb]
    · isplitl [Ha]; · iexact Ha
      iexact Hr
    iexact Hb
  iexact HO

end Region

variable {m}

theorem last_at (rows : Dev nD → Buf4096 F) : last m rows c (Proc.devRef .tc main_v70) = rows c := by
  unfold last; exact Function.update_self _ _ _

theorem last_off (rows : Dev nD → Buf4096 F) (b : Ref sig .tc) (h : b ≠ main_v70) :
    last m rows c (Proc.devRef .tc b) = V27 m c (Proc.devRef .tc b) := by
  unfold last; exact Function.update_of_ne (StableHlo.devRef_ne_of_ne h) _ _

theorem last_others (rows : Dev nD → Buf4096 F) (b : DevRef τ sig) (h : b ∈ others (F := F)) : last m rows c b = V27 m c b := by
  unfold last
  refine Function.update_of_ne (fun e => (Finset.mem_sdiff.mp h).2 ?_) _ _
  subst e
  exact Finset.mem_map.mpr ⟨main_v70, Finset.mem_image.mpr ⟨2, Finset.mem_univ _, rfl⟩, rfl⟩

theorem last_arg0 (rows : Dev nD → Buf4096 F) : last m rows c (Proc.devRef .tc main_arg0) = m ((c : Thread nD τ).loc main_arg0) := by
  have h := V28_main_arg0 m (result m rows) c
  rw [V28_of m (result m rows) c main_arg0 (by decide)] at h
  exact (last_off c rows main_arg0 (by decide)).trans h

theorem last_arg1 (rows : Dev nD → Buf4096 F) : last m rows c (Proc.devRef .tc main_arg1) = m ((c : Thread nD τ).loc main_arg1) := by
  have h := V28_main_arg1 m (result m rows) c
  rw [V28_of m (result m rows) c main_arg1 (by decide)] at h
  exact (last_off c rows main_arg1 (by decide)).trans h

variable (m)

set_option backward.isDefEq.respectTransparency.types false in
/-- The run over any region from the state the host operations leave to a state `V'` that keeps the arguments. -/
theorem run_of (o : Dev nD → Buf4096 F) (V' : Dev nD → Valuation τ sig (Elt F))
    (R0 : Pipeline.RegionSeg (pcfgs (F := F)) adm (pdats k x o) () defs₀ 𝒱₀ L lv 0)
    (hpre : ∀ c : Dev nD, iprop(StableHlo.held (c : Thread nD τ) (Pipeline.ucRefs τ sig) (V27 m c) ∗ beside k x c) ⊢ R0.pre c)
    (hpost : ∀ c : Dev nD, R0.post c ⊢ iprop((StableHlo.held (c : Thread nD τ) (Pipeline.ucRefs τ sig) (V' c) ∗ semVal (barCell c) 0)
        ∗ ∃ Wd, owes (c : Thread nD τ) (0 : CellTallies nD τ sig Unit) Wd)) :
    θ_run defs (onTc (τ := τ) (main (F := F))) ⟨m, fun _ => 0, ρ⟩ (fun r =>
      (∀ c : Dev nD, ∀ b : Ref sig .tc, b.isScoped = false → r.2.mem ((c : Thread nD τ).loc b) = V' c (Proc.devRef .tc b))
        ∧ r.2.sem = fun _ => 0) := by
  refine Pipeline.θ_run_regions_kit_dev_sems (pcfgs (F := F)) adm (pdats k x o) () cellOf_inj EP defs₀ 𝒱₀ L lv m ρ main
    (segs m 𝒱₀ L lv (fun _ => beside k x) () (pdats k x o) R0)
    (fun c Q => by
      rewrite [main_chain c, Seg.run_eq_chain,
        show (segs m 𝒱₀ L lv (fun _ => beside k x) () (pdats k x o) R0 c).map Seg.prog = [
          StableHlo.seq (hostOps0 c),
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          StableHlo.seq hostOps0_9,
          StableHlo.seq hostOps0_10,
          StableHlo.seq hostOps0_11,
          StableHlo.seq hostOps0_12,
          StableHlo.seq hostOps0_13,
          StableHlo.seq hostOps0_14,
          StableHlo.seq hostOps0_15,
          StableHlo.seq hostOps0_16,
          StableHlo.seq hostOps0_17,
          StableHlo.seq hostOps0_18,
          StableHlo.seq hostOps0_19,
          StableHlo.seq hostOps0_20,
          StableHlo.seq hostOps0_21,
          StableHlo.seq hostOps0_22,
          StableHlo.seq hostOps0_23,
          StableHlo.seq hostOps0_24,
          StableHlo.seq hostOps0_25,
          StableHlo.seq hostOps0_26,
          Prog.lift (.customCall (Pipeline.entry 0) ())] from rfl]
      dsimp (config := { failIfUnchanged := false }) only
      exact .rfl)
    (fun c => by simp only [segs, Seg.pipes_host, Seg.pipes_region, Seg.pipes_nil]; decide) (O₀ k) L_of_ne G (u₀ (F := F)) ?_
    (T₀ := fun c => iprop(StableHlo.held (c : Thread nD τ) (Pipeline.ucRefs τ sig) (V0 m c) ∗ beside k x c))
    (Tₙ := fun c => iprop(StableHlo.held (c : Thread nD τ) (Pipeline.ucRefs τ sig) (V' c) ∗ semVal (barCell c) 0))
    (hch := fun c => ⟨.rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, hpre c, hpost c⟩)
    (hinit := start k x m ρ)
    (QY := fun c s => (∀ b : Ref sig .tc, b.isScoped = false → s.mem ((c : Thread nD τ).loc b) = V' c (Proc.devRef .tc b)) ∧ s.sem (barCell c) = 0)
    (hfin := fun c s' => ?_)
    (hQ := fun s h hs => ⟨fun c => (h c).1, sem_eq_zero hs fun c sm hsm => by
      obtain rfl := unscoped_eq sm hsm
      exact (h c).2⟩)
  · unfold u₀ G
    iintro Hu
    ihave H := (ownU_pair _ _) $$ Hu
    icases H with ⟨HP, HX⟩
    imodintro
    isplitl [HP]; · iexact HP
    rw [bigSep_onDev]; iexact HX
  · unfold StableHlo.held
    iintro ⟨⟨Hh, Hb0⟩, HSI⟩
    icombine HSI Hb0 gives %hb
    ihave Hr := (pointsTo_read_all (Pipeline.ucRefs τ sig) (fun b => ((c : Thread nD τ).1, b)) (V' c) s') $$ [Hh HSI]
    · isplitl [Hh] <;> iassumption
    icases Hr with ⟨%h, HSI⟩
    imodintro
    isplitr
    · ipureintro
      exact ⟨fun b hb' => h (Proc.devRef .tc b) (Finset.mem_filter.mpr ⟨StableHlo.devRef_mem_tcRefs b, fun h' => Bool.false_ne_true (hb'.symm.trans h')⟩),
        by simpa using hb⟩
    · iexact HSI

include hk in
/-- The whole run: from any memory with zero counters whose host values are the table `table k` and the rows `x`, every run ends, the arguments
    are unchanged, the result holds device `c`'s rows, and every semaphore counter reads zero. -/
theorem run_main (h69 : ∀ c, V27 m c (Proc.devRef .tc main_v69) = table k c) (h35 : ∀ c, V27 m c (Proc.devRef .tc main_v35) = x c) :
    θ_run defs (onTc (τ := τ) (main (F := F))) ⟨m, fun _ => 0, ρ⟩ (fun r =>
      (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_v70) = outRows k x c) ∧ r.2.sem = fun _ => 0) :=
  (θ_run defs _ _).mono (fun _ h => ⟨fun c => ⟨(h.1 c main_arg0 rfl).trans (last_arg0 c _), (h.1 c main_arg1 rfl).trans (last_arg1 c _),
    (h.1 c main_v70 rfl).trans (last_at c _)⟩, h.2⟩)
  (run_of k x m ρ (fun c => V27 m c (Proc.devRef .tc main_v70)) (last m (outRows k x))
    (reg0 k hk x (fun c => V27 m c (Proc.devRef .tc main_v70)) (V27 m) (last m (outRows k x))
      (arrays_before k x _ (V27 m) h69 h35 fun _ => rfl)
      (arrays_after k x _ (V27 m) (last m (outRows k x)) h69 h35 (fun c => last_at c _) fun c b h => last_off c _ b h)
      (fun c b h => last_others c _ b h))
    (fun c => reg0_pre k hk x c _ _ _ _ _ _) fun c => reg0_post k hk x c _ _ _ _ _ _)

end Cert.Proof
-- ==== Proof.Host.lean ====
/-
  The host operations before the kernel: what each stretch of them leaves in the buffers that later ones read, and those
  buffers carried unchanged to where they are read.
-/
module

public import proofs.«01_k».proof.Proof.Run
public import Idealize.ShloMosaic.Lib.Routing.Ops
public import Idealize.ShloMosaic.Lib.Routing.OpsSet
public import Idealize.ShloMosaic.Lib.Routing.OpsPair
public import Idealize.ShloMosaic.Lib.Routing.OpsSearch
public import Idealize.ShloMosaic.Lib.StableHlo.Run

@[expose] public section

set_option maxRecDepth 8000

noncomputable section

namespace Cert.Proof

open Cert.KernelIdeal Cert.KernelIdeal.Gen
open Idealize.ShloMosaic
open Idealize.ShloMosaic.TcCoe
open Idealize.ShloMosaic.Routing Idealize.ShloMosaic.ValueIdx
open Idealize.ShloMosaic.StableHlo (after)

variable {F : FTy → Type} [FloatOps F]

/-- The device's coordinate, as the host operations compute it. -/
def devWord (c : Dev nD) : IVec S_ 32 := Host.remui (Host.divui (constantI S_ 32 (Dev.word c)) (constantI S_ 32 1#32)) (constantI S_ 32 2#32)
/-- A number plus seven, as `n + 8 - 1`. -/
def plus7 (x : IVec S_ 32) : IVec S_ 32 := subi (addi x (constantI S_ 32 8#32)) (constantI S_ 32 1#32)
/-- The word of a scalar at every position. -/
def bcast (x : IVec S_ 32) : IVec S4096 32 := broadcastInDim S4096 ![] bcast_S_S4096 x
/-- One where the destination is zero, and zero elsewhere. -/
def zeroMask (x : IVec S4096 32) : IVec S4096 32 := extui 32 (cmpi .eq x (bcast (constantI S_ 32 0#32))) natLt_1_32
/-- The sum of a vector. -/
def total (x : IVec S4096 32) : IVec S_ 32 := Host.reduce IntOp.addi x (constantI S_ 32 0#32) reducesTo_S4096_S_d0 h_S_
/-- The running sum of a vector. -/
def runningSum (x : IVec S4096 32) : IVec S4096 32 :=
  Host.reduceWindow IntOp.addi ![4096] ![1] ![4095] ![0] x (broadcastInDim S_ ![] bcast_S_S_ (constantI S_ 32 0#32)) reduceWindows_S4096_S4096_w4096s1p4095_0 h_S_
/-- Is the scalar zero? -/
def isZero (x : IVec S_ 32) : IVec S_ 1 := cmpi .eq x (constantI S_ 32 0#32)

/-! ### Each stretch, from any state of the buffers -/

theorem run0_v4 (c : Dev nD) (V : Valuation τ sig (Elt F)) :
    after (hostOps0 (F := F) c) V (Proc.devRef .tc main_v4) = devWord c := by
  unfold hostOps0; after_results_simp; rfl

theorem run0_v5 (c : Dev nD) (V : Valuation τ sig (Elt F)) :
    after (hostOps0 (F := F) c) V (Proc.devRef .tc main_v5) = isZero (devWord c) := by
  unfold hostOps0; after_results_simp; rfl

theorem run0_v6 (c : Dev nD) (V : Valuation τ sig (Elt F)) :
    after (hostOps0 (F := F) c) V (Proc.devRef .tc main_v6) = extractStridedSlice S4096 ![0] (V (Proc.devRef .tc main_arg1)) slices_S8192_S4096_0 := by
  unfold hostOps0; after_results_simp

theorem run0_v7 (c : Dev nD) (V : Valuation τ sig (Elt F)) :
    after (hostOps0 (F := F) c) V (Proc.devRef .tc main_v7) = extractStridedSlice S4096 ![4096] (V (Proc.devRef .tc main_arg1)) slices_S8192_S4096_4096 := by
  unfold hostOps0; after_results_simp

theorem run1_v8 (V : Valuation τ sig (Elt F)) :
    after (hostOps0_1 (F := F)) V (Proc.devRef .tc main_v8) = select (broadcastInDim S4096 ![] bcast_S_S4096 (V (Proc.devRef .tc main_v5))) (V (Proc.devRef .tc main_v6)) (V (Proc.devRef .tc main_v7)) := by
  unfold hostOps0_1; after_results_simp; rfl

theorem run2_v11 (V : Valuation τ sig (Elt F)) :
    after (hostOps0_2 (F := F)) V (Proc.devRef .tc main_v11) = zeroMask (V (Proc.devRef .tc main_v8)) := by
  unfold hostOps0_2; after_results_simp; rfl

theorem run2_v12 (V : Valuation τ sig (Elt F)) :
    after (hostOps0_2 (F := F)) V (Proc.devRef .tc main_v12) = total (zeroMask (V (Proc.devRef .tc main_v8))) := by
  unfold hostOps0_2; after_results_simp; rfl

theorem run2_v14 (V : Valuation τ sig (Elt F)) :
    after (hostOps0_2 (F := F)) V (Proc.devRef .tc main_v14) = plus7 (total (zeroMask (V (Proc.devRef .tc main_v8)))) := by
  unfold hostOps0_2; after_results_simp; rfl

theorem run2_c_6 (V : Valuation τ sig (Elt F)) :
    after (hostOps0_2 (F := F)) V (Proc.devRef .tc main_c_6) = (constantI S_ 32 8#32) := by
  unfold hostOps0_2; after_results_simp

theorem run3_v15 (V : Valuation τ sig (Elt F)) :
    after (hostOps0_3 (F := F)) V (Proc.devRef .tc main_v15) = pyDiv0 (V (Proc.devRef .tc main_v14)) (V (Proc.devRef .tc main_c_6)) := by
  unfold hostOps0_3; after_results_simp; rfl

theorem run4_v16 (V : Valuation τ sig (Elt F)) :
    after (hostOps0_4 (F := F)) V (Proc.devRef .tc main_v16) = muli (V (Proc.devRef .tc main_v15)) (constantI S_ 32 8#32) := by
  unfold hostOps0_4; after_results_simp

theorem run5_v17 (V : Valuation τ sig (Elt F)) :
    after (hostOps0_5 (F := F)) V (Proc.devRef .tc main_v17) = runningSum (V (Proc.devRef .tc main_v11)) := by
  unfold hostOps0_5; after_results_simp; unfold runningSum; simp only [StableHlo.TRef.toBuf, StableHlo.TRef.ofBuf, cast_eq]

theorem run6_v19 (V : Valuation τ sig (Elt F)) :
    after (hostOps0_6 (F := F)) V (Proc.devRef .tc main_v19) = subi (V (Proc.devRef .tc main_v17)) (bcast (constantI S_ 32 1#32)) := by
  unfold hostOps0_6; after_results_simp; rfl

theorem run6_v21 (V : Valuation τ sig (Elt F)) :
    after (hostOps0_6 (F := F)) V (Proc.devRef .tc main_v21) = subi (bcast (constantI S_ 32 1#32)) (V (Proc.devRef .tc main_v11)) := by
  unfold hostOps0_6; after_results_simp; rfl

theorem run7_v22 (V : Valuation τ sig (Elt F)) :
    after (hostOps0_7 (F := F)) V (Proc.devRef .tc main_v22) = runningSum (V (Proc.devRef .tc main_v21)) := by
  unfold hostOps0_7; after_results_simp; unfold runningSum; simp only [StableHlo.TRef.toBuf, StableHlo.TRef.ofBuf, cast_eq]

theorem run8_v26 (V : Valuation τ sig (Elt F)) :
    after (hostOps0_8 (F := F)) V (Proc.devRef .tc main_v26) = subi (addi (bcast (V (Proc.devRef .tc main_v16))) (V (Proc.devRef .tc main_v22))) (bcast (constantI S_ 32 1#32)) := by
  unfold hostOps0_8; after_results_simp; rfl

theorem run9_v27 (V : Valuation τ sig (Elt F)) :
    after (hostOps0_9 (F := F)) V (Proc.devRef .tc main_v27) = select (cmpi .ne (V (Proc.devRef .tc main_v11)) (bcast (constantI S_ 32 0#32))) (V (Proc.devRef .tc main_v19)) (V (Proc.devRef .tc main_v26)) := by
  unfold hostOps0_9; after_results_simp; rfl

theorem run10_v35 (V : Valuation τ sig (Elt F)) :
    after (hostOps0_10 (F := F)) V (Proc.devRef .tc main_v35) = Host.scatter scatter_S4112x1024_S4096x1_S4096x1024_1_0_0_1 (fun _ b => b)
      (broadcastInDim S4112x1024 ![] bcast_S_S4112x1024 (constant S_ .bf16 0x0000#16 : FVec F S_ .bf16))
      (broadcastInDim S4096x1 ![0] bcast_S4096_S4096x1_0
        (select (cmpi .slt (V (Proc.devRef .tc main_v27)) (bcast (constantI S_ 32 0#32))) (addi (V (Proc.devRef .tc main_v27)) (bcast (constantI S_ 32 4112#32))) (V (Proc.devRef .tc main_v27)))) (V (Proc.devRef .tc main_arg0)) := by
  unfold hostOps0_10; after_results_simp; rfl

theorem run10_v36 (V : Valuation τ sig (Elt F)) :
    after (hostOps0_10 (F := F)) V (Proc.devRef .tc main_v36) = isZero (V (Proc.devRef .tc main_v4)) := by
  unfold hostOps0_10; after_results_simp; rfl

theorem run10_v37 (V : Valuation τ sig (Elt F)) :
    after (hostOps0_10 (F := F)) V (Proc.devRef .tc main_v37) = subi (constantI S_ 32 4096#32) (V (Proc.devRef .tc main_v12)) := by
  unfold hostOps0_10; after_results_simp

theorem run11_v38 (V : Valuation τ sig (Elt F)) :
    after (hostOps0_11 (F := F)) V (Proc.devRef .tc main_v38) = select (V (Proc.devRef .tc main_v36)) (V (Proc.devRef .tc main_v37)) (V (Proc.devRef .tc main_v12)) := by
  unfold hostOps0_11; after_results_simp; rfl

theorem run12_v39 (V : Valuation τ sig (Elt F)) :
    after (hostOps0_12 (F := F)) V (Proc.devRef .tc main_v39) = isZero (V (Proc.devRef .tc main_v4)) := by
  unfold hostOps0_12; after_results_simp; rfl

theorem run12_c_16 (V : Valuation τ sig (Elt F)) :
    after (hostOps0_12 (F := F)) V (Proc.devRef .tc main_c_16) = (constantI S_ 32 0#32) := by
  unfold hostOps0_12; after_results_simp

theorem run13_v40 (V : Valuation τ sig (Elt F)) :
    after (hostOps0_13 (F := F)) V (Proc.devRef .tc main_v40) = select (V (Proc.devRef .tc main_v39)) (V (Proc.devRef .tc main_v16)) (V (Proc.devRef .tc main_c_16)) := by
  unfold hostOps0_13; after_results_simp; rfl

theorem run14_v42 (V : Valuation τ sig (Elt F)) :
    after (hostOps0_14 (F := F)) V (Proc.devRef .tc main_v42) = isZero (V (Proc.devRef .tc main_v4)) := by
  unfold hostOps0_14; after_results_simp; rfl

theorem run14_v44 (V : Valuation τ sig (Elt F)) :
    after (hostOps0_14 (F := F)) V (Proc.devRef .tc main_v44) = plus7 (subi (constantI S_ 32 4096#32) (V (Proc.devRef .tc main_v38))) := by
  unfold hostOps0_14; after_results_simp; rfl

theorem run14_c_21 (V : Valuation τ sig (Elt F)) :
    after (hostOps0_14 (F := F)) V (Proc.devRef .tc main_c_21) = (constantI S_ 32 8#32) := by
  unfold hostOps0_14; after_results_simp

theorem run15_v45 (V : Valuation τ sig (Elt F)) :
    after (hostOps0_15 (F := F)) V (Proc.devRef .tc main_v45) = pyDiv0 (V (Proc.devRef .tc main_v44)) (V (Proc.devRef .tc main_c_21)) := by
  unfold hostOps0_15; after_results_simp; rfl

theorem run16_v46 (V : Valuation τ sig (Elt F)) :
    after (hostOps0_16 (F := F)) V (Proc.devRef .tc main_v46) = muli (V (Proc.devRef .tc main_v45)) (constantI S_ 32 8#32) := by
  unfold hostOps0_16; after_results_simp

theorem run16_c_23 (V : Valuation τ sig (Elt F)) :
    after (hostOps0_16 (F := F)) V (Proc.devRef .tc main_c_23) = (constantI S_ 32 0#32) := by
  unfold hostOps0_16; after_results_simp

theorem run17_v47 (V : Valuation τ sig (Elt F)) :
    after (hostOps0_17 (F := F)) V (Proc.devRef .tc main_v47) = select (V (Proc.devRef .tc main_v42)) (V (Proc.devRef .tc main_c_23)) (V (Proc.devRef .tc main_v46)) := by
  unfold hostOps0_17; after_results_simp; rfl

theorem run18_v49 (V : Valuation τ sig (Elt F)) :
    after (hostOps0_18 (F := F)) V (Proc.devRef .tc main_v49) = plus7 (V (Proc.devRef .tc main_v38)) := by
  unfold hostOps0_18; after_results_simp; rfl

theorem run18_c_26 (V : Valuation τ sig (Elt F)) :
    after (hostOps0_18 (F := F)) V (Proc.devRef .tc main_c_26) = (constantI S_ 32 8#32) := by
  unfold hostOps0_18; after_results_simp

theorem run19_v50 (V : Valuation τ sig (Elt F)) :
    after (hostOps0_19 (F := F)) V (Proc.devRef .tc main_v50) = pyDiv0 (V (Proc.devRef .tc main_v49)) (V (Proc.devRef .tc main_c_26)) := by
  unfold hostOps0_19; after_results_simp; rfl

theorem run20_v51 (V : Valuation τ sig (Elt F)) :
    after (hostOps0_20 (F := F)) V (Proc.devRef .tc main_v51) = muli (V (Proc.devRef .tc main_v50)) (constantI S_ 32 8#32) := by
  unfold hostOps0_20; after_results_simp

theorem run20_v52 (V : Valuation τ sig (Elt F)) :
    after (hostOps0_20 (F := F)) V (Proc.devRef .tc main_v52) = isZero (V (Proc.devRef .tc main_v4)) := by
  unfold hostOps0_20; after_results_simp; rfl

theorem run20_v53 (V : Valuation τ sig (Elt F)) :
    after (hostOps0_20 (F := F)) V (Proc.devRef .tc main_v53) = subi (constantI S_ 32 4096#32) (V (Proc.devRef .tc main_v12)) := by
  unfold hostOps0_20; after_results_simp

theorem run21_v54 (V : Valuation τ sig (Elt F)) :
    after (hostOps0_21 (F := F)) V (Proc.devRef .tc main_v54) = select (V (Proc.devRef .tc main_v52)) (V (Proc.devRef .tc main_v12)) (V (Proc.devRef .tc main_v53)) := by
  unfold hostOps0_21; after_results_simp; rfl

theorem run22_v55 (V : Valuation τ sig (Elt F)) :
    after (hostOps0_22 (F := F)) V (Proc.devRef .tc main_v55) = isZero (V (Proc.devRef .tc main_v4)) := by
  unfold hostOps0_22; after_results_simp; rfl

theorem run22_c_31 (V : Valuation τ sig (Elt F)) :
    after (hostOps0_22 (F := F)) V (Proc.devRef .tc main_c_31) = (constantI S_ 32 0#32) := by
  unfold hostOps0_22; after_results_simp

theorem run23_v56 (V : Valuation τ sig (Elt F)) :
    after (hostOps0_23 (F := F)) V (Proc.devRef .tc main_v56) = select (V (Proc.devRef .tc main_v55)) (V (Proc.devRef .tc main_c_31)) (V (Proc.devRef .tc main_v16)) := by
  unfold hostOps0_23; after_results_simp; rfl

theorem run24_v58 (V : Valuation τ sig (Elt F)) :
    after (hostOps0_24 (F := F)) V (Proc.devRef .tc main_v58) = plus7 (V (Proc.devRef .tc main_v54)) := by
  unfold hostOps0_24; after_results_simp; rfl

theorem run24_c_34 (V : Valuation τ sig (Elt F)) :
    after (hostOps0_24 (F := F)) V (Proc.devRef .tc main_c_34) = (constantI S_ 32 8#32) := by
  unfold hostOps0_24; after_results_simp

theorem run25_v59 (V : Valuation τ sig (Elt F)) :
    after (hostOps0_25 (F := F)) V (Proc.devRef .tc main_v59) = pyDiv0 (V (Proc.devRef .tc main_v58)) (V (Proc.devRef .tc main_c_34)) := by
  unfold hostOps0_25; after_results_simp; rfl

theorem run26_v69 (V : Valuation τ sig (Elt F)) :
    after (hostOps0_26 (F := F)) V (Proc.devRef .tc main_v69) = concatenate S7 0 [⟨S1, broadcastInDim S1 ![] bcast_S_S1 (V (Proc.devRef .tc main_v51))⟩, ⟨S1, broadcastInDim S1 ![] bcast_S_S1 (V (Proc.devRef .tc main_v40))⟩, ⟨S1, broadcastInDim S1 ![] bcast_S_S1 (V (Proc.devRef .tc main_v47))⟩,
      ⟨S1, broadcastInDim S1 ![] bcast_S_S1 (V (Proc.devRef .tc main_v12))⟩, ⟨S1, broadcastInDim S1 ![] bcast_S_S1 (subi (V (Proc.devRef .tc main_v16)) (V (Proc.devRef .tc main_v12)))⟩, ⟨S1, broadcastInDim S1 ![] bcast_S_S1 (V (Proc.devRef .tc main_v56))⟩,
      ⟨S1, broadcastInDim S1 ![] bcast_S_S1 (muli (V (Proc.devRef .tc main_v59)) (constantI S_ 32 8#32))⟩] concatenates_S1_S1_S1_S1_S1_S1_S1_S7_d0 := by
  unfold hostOps0_26; after_results_simp; rfl

/-! ### Buffers carried to where they are read -/

variable (m : (ℓ : Loc nD τ sig) → Buf (Elt F) ℓ) (c : Dev nD)

theorem keep5_v11 : V5 m c (Proc.devRef .tc main_v11) = V3 m c (Proc.devRef .tc main_v11) :=
  (V5_of m c main_v11 (by decide)).trans <| V4_of m c main_v11 (by decide)
theorem keep6_v11 : V6 m c (Proc.devRef .tc main_v11) = V3 m c (Proc.devRef .tc main_v11) :=
  (V6_of m c main_v11 (by decide)).trans <| (V5_of m c main_v11 (by decide)).trans <| V4_of m c main_v11 (by decide)
theorem keep8_v16 : V8 m c (Proc.devRef .tc main_v16) = V5 m c (Proc.devRef .tc main_v16) :=
  (V8_of m c main_v16 (by decide)).trans <| (V7_of m c main_v16 (by decide)).trans <| V6_of m c main_v16 (by decide)
theorem keep9_v11 : V9 m c (Proc.devRef .tc main_v11) = V3 m c (Proc.devRef .tc main_v11) :=
  (V9_of m c main_v11 (by decide)).trans <| (V8_of m c main_v11 (by decide)).trans <| (V7_of m c main_v11 (by decide)).trans <| (V6_of m c main_v11 (by decide)).trans <| (V5_of m c main_v11 (by decide)).trans <| V4_of m c main_v11 (by decide)
theorem keep9_v19 : V9 m c (Proc.devRef .tc main_v19) = V7 m c (Proc.devRef .tc main_v19) :=
  (V9_of m c main_v19 (by decide)).trans <| V8_of m c main_v19 (by decide)
theorem keep10_arg0 : V10 m c (Proc.devRef .tc main_arg0) = V0 m c (Proc.devRef .tc main_arg0) :=
  (V10_of m c main_arg0 (by decide)).trans <| (V9_of m c main_arg0 (by decide)).trans <| (V8_of m c main_arg0 (by decide)).trans <| (V7_of m c main_arg0 (by decide)).trans <| (V6_of m c main_arg0 (by decide)).trans <| (V5_of m c main_arg0 (by decide)).trans <| (V4_of m c main_arg0 (by decide)).trans <| (V3_of m c main_arg0 (by decide)).trans <| (V2_of m c main_arg0 (by decide)).trans <| V1_of m c main_arg0 (by decide)
theorem keep10_v12 : V10 m c (Proc.devRef .tc main_v12) = V3 m c (Proc.devRef .tc main_v12) :=
  (V10_of m c main_v12 (by decide)).trans <| (V9_of m c main_v12 (by decide)).trans <| (V8_of m c main_v12 (by decide)).trans <| (V7_of m c main_v12 (by decide)).trans <| (V6_of m c main_v12 (by decide)).trans <| (V5_of m c main_v12 (by decide)).trans <| V4_of m c main_v12 (by decide)
theorem keep10_v4 : V10 m c (Proc.devRef .tc main_v4) = V1 m c (Proc.devRef .tc main_v4) :=
  (V10_of m c main_v4 (by decide)).trans <| (V9_of m c main_v4 (by decide)).trans <| (V8_of m c main_v4 (by decide)).trans <| (V7_of m c main_v4 (by decide)).trans <| (V6_of m c main_v4 (by decide)).trans <| (V5_of m c main_v4 (by decide)).trans <| (V4_of m c main_v4 (by decide)).trans <| (V3_of m c main_v4 (by decide)).trans <| V2_of m c main_v4 (by decide)
theorem keep11_v12 : V11 m c (Proc.devRef .tc main_v12) = V3 m c (Proc.devRef .tc main_v12) :=
  (V11_of m c main_v12 (by decide)).trans <| (V10_of m c main_v12 (by decide)).trans <| (V9_of m c main_v12 (by decide)).trans <| (V8_of m c main_v12 (by decide)).trans <| (V7_of m c main_v12 (by decide)).trans <| (V6_of m c main_v12 (by decide)).trans <| (V5_of m c main_v12 (by decide)).trans <| V4_of m c main_v12 (by decide)
theorem keep12_v4 : V12 m c (Proc.devRef .tc main_v4) = V1 m c (Proc.devRef .tc main_v4) :=
  (V12_of m c main_v4 (by decide)).trans <| (V11_of m c main_v4 (by decide)).trans <| (V10_of m c main_v4 (by decide)).trans <| (V9_of m c main_v4 (by decide)).trans <| (V8_of m c main_v4 (by decide)).trans <| (V7_of m c main_v4 (by decide)).trans <| (V6_of m c main_v4 (by decide)).trans <| (V5_of m c main_v4 (by decide)).trans <| (V4_of m c main_v4 (by decide)).trans <| (V3_of m c main_v4 (by decide)).trans <| V2_of m c main_v4 (by decide)
theorem keep13_v16 : V13 m c (Proc.devRef .tc main_v16) = V5 m c (Proc.devRef .tc main_v16) :=
  (V13_of m c main_v16 (by decide)).trans <| (V12_of m c main_v16 (by decide)).trans <| (V11_of m c main_v16 (by decide)).trans <| (V10_of m c main_v16 (by decide)).trans <| (V9_of m c main_v16 (by decide)).trans <| (V8_of m c main_v16 (by decide)).trans <| (V7_of m c main_v16 (by decide)).trans <| V6_of m c main_v16 (by decide)
theorem keep14_v38 : V14 m c (Proc.devRef .tc main_v38) = V12 m c (Proc.devRef .tc main_v38) :=
  (V14_of m c main_v38 (by decide)).trans <| V13_of m c main_v38 (by decide)
theorem keep14_v4 : V14 m c (Proc.devRef .tc main_v4) = V1 m c (Proc.devRef .tc main_v4) :=
  (V14_of m c main_v4 (by decide)).trans <| (V13_of m c main_v4 (by decide)).trans <| (V12_of m c main_v4 (by decide)).trans <| (V11_of m c main_v4 (by decide)).trans <| (V10_of m c main_v4 (by decide)).trans <| (V9_of m c main_v4 (by decide)).trans <| (V8_of m c main_v4 (by decide)).trans <| (V7_of m c main_v4 (by decide)).trans <| (V6_of m c main_v4 (by decide)).trans <| (V5_of m c main_v4 (by decide)).trans <| (V4_of m c main_v4 (by decide)).trans <| (V3_of m c main_v4 (by decide)).trans <| V2_of m c main_v4 (by decide)
theorem keep17_v42 : V17 m c (Proc.devRef .tc main_v42) = V15 m c (Proc.devRef .tc main_v42) :=
  (V17_of m c main_v42 (by decide)).trans <| V16_of m c main_v42 (by decide)
theorem keep18_v38 : V18 m c (Proc.devRef .tc main_v38) = V12 m c (Proc.devRef .tc main_v38) :=
  (V18_of m c main_v38 (by decide)).trans <| (V17_of m c main_v38 (by decide)).trans <| (V16_of m c main_v38 (by decide)).trans <| (V15_of m c main_v38 (by decide)).trans <| (V14_of m c main_v38 (by decide)).trans <| V13_of m c main_v38 (by decide)
theorem keep20_v12 : V20 m c (Proc.devRef .tc main_v12) = V3 m c (Proc.devRef .tc main_v12) :=
  (V20_of m c main_v12 (by decide)).trans <| (V19_of m c main_v12 (by decide)).trans <| (V18_of m c main_v12 (by decide)).trans <| (V17_of m c main_v12 (by decide)).trans <| (V16_of m c main_v12 (by decide)).trans <| (V15_of m c main_v12 (by decide)).trans <| (V14_of m c main_v12 (by decide)).trans <| (V13_of m c main_v12 (by decide)).trans <| (V12_of m c main_v12 (by decide)).trans <| (V11_of m c main_v12 (by decide)).trans <| (V10_of m c main_v12 (by decide)).trans <| (V9_of m c main_v12 (by decide)).trans <| (V8_of m c main_v12 (by decide)).trans <| (V7_of m c main_v12 (by decide)).trans <| (V6_of m c main_v12 (by decide)).trans <| (V5_of m c main_v12 (by decide)).trans <| V4_of m c main_v12 (by decide)
theorem keep20_v4 : V20 m c (Proc.devRef .tc main_v4) = V1 m c (Proc.devRef .tc main_v4) :=
  (V20_of m c main_v4 (by decide)).trans <| (V19_of m c main_v4 (by decide)).trans <| (V18_of m c main_v4 (by decide)).trans <| (V17_of m c main_v4 (by decide)).trans <| (V16_of m c main_v4 (by decide)).trans <| (V15_of m c main_v4 (by decide)).trans <| (V14_of m c main_v4 (by decide)).trans <| (V13_of m c main_v4 (by decide)).trans <| (V12_of m c main_v4 (by decide)).trans <| (V11_of m c main_v4 (by decide)).trans <| (V10_of m c main_v4 (by decide)).trans <| (V9_of m c main_v4 (by decide)).trans <| (V8_of m c main_v4 (by decide)).trans <| (V7_of m c main_v4 (by decide)).trans <| (V6_of m c main_v4 (by decide)).trans <| (V5_of m c main_v4 (by decide)).trans <| (V4_of m c main_v4 (by decide)).trans <| (V3_of m c main_v4 (by decide)).trans <| V2_of m c main_v4 (by decide)
theorem keep21_v12 : V21 m c (Proc.devRef .tc main_v12) = V3 m c (Proc.devRef .tc main_v12) :=
  (V21_of m c main_v12 (by decide)).trans <| (V20_of m c main_v12 (by decide)).trans <| (V19_of m c main_v12 (by decide)).trans <| (V18_of m c main_v12 (by decide)).trans <| (V17_of m c main_v12 (by decide)).trans <| (V16_of m c main_v12 (by decide)).trans <| (V15_of m c main_v12 (by decide)).trans <| (V14_of m c main_v12 (by decide)).trans <| (V13_of m c main_v12 (by decide)).trans <| (V12_of m c main_v12 (by decide)).trans <| (V11_of m c main_v12 (by decide)).trans <| (V10_of m c main_v12 (by decide)).trans <| (V9_of m c main_v12 (by decide)).trans <| (V8_of m c main_v12 (by decide)).trans <| (V7_of m c main_v12 (by decide)).trans <| (V6_of m c main_v12 (by decide)).trans <| (V5_of m c main_v12 (by decide)).trans <| V4_of m c main_v12 (by decide)
theorem keep22_v4 : V22 m c (Proc.devRef .tc main_v4) = V1 m c (Proc.devRef .tc main_v4) :=
  (V22_of m c main_v4 (by decide)).trans <| (V21_of m c main_v4 (by decide)).trans <| (V20_of m c main_v4 (by decide)).trans <| (V19_of m c main_v4 (by decide)).trans <| (V18_of m c main_v4 (by decide)).trans <| (V17_of m c main_v4 (by decide)).trans <| (V16_of m c main_v4 (by decide)).trans <| (V15_of m c main_v4 (by decide)).trans <| (V14_of m c main_v4 (by decide)).trans <| (V13_of m c main_v4 (by decide)).trans <| (V12_of m c main_v4 (by decide)).trans <| (V11_of m c main_v4 (by decide)).trans <| (V10_of m c main_v4 (by decide)).trans <| (V9_of m c main_v4 (by decide)).trans <| (V8_of m c main_v4 (by decide)).trans <| (V7_of m c main_v4 (by decide)).trans <| (V6_of m c main_v4 (by decide)).trans <| (V5_of m c main_v4 (by decide)).trans <| (V4_of m c main_v4 (by decide)).trans <| (V3_of m c main_v4 (by decide)).trans <| V2_of m c main_v4 (by decide)
theorem keep23_v16 : V23 m c (Proc.devRef .tc main_v16) = V5 m c (Proc.devRef .tc main_v16) :=
  (V23_of m c main_v16 (by decide)).trans <| (V22_of m c main_v16 (by decide)).trans <| (V21_of m c main_v16 (by decide)).trans <| (V20_of m c main_v16 (by decide)).trans <| (V19_of m c main_v16 (by decide)).trans <| (V18_of m c main_v16 (by decide)).trans <| (V17_of m c main_v16 (by decide)).trans <| (V16_of m c main_v16 (by decide)).trans <| (V15_of m c main_v16 (by decide)).trans <| (V14_of m c main_v16 (by decide)).trans <| (V13_of m c main_v16 (by decide)).trans <| (V12_of m c main_v16 (by decide)).trans <| (V11_of m c main_v16 (by decide)).trans <| (V10_of m c main_v16 (by decide)).trans <| (V9_of m c main_v16 (by decide)).trans <| (V8_of m c main_v16 (by decide)).trans <| (V7_of m c main_v16 (by decide)).trans <| V6_of m c main_v16 (by decide)
theorem keep24_v54 : V24 m c (Proc.devRef .tc main_v54) = V22 m c (Proc.devRef .tc main_v54) :=
  (V24_of m c main_v54 (by decide)).trans <| V23_of m c main_v54 (by decide)
theorem keep26_v12 : V26 m c (Proc.devRef .tc main_v12) = V3 m c (Proc.devRef .tc main_v12) :=
  (V26_of m c main_v12 (by decide)).trans <| (V25_of m c main_v12 (by decide)).trans <| (V24_of m c main_v12 (by decide)).trans <| (V23_of m c main_v12 (by decide)).trans <| (V22_of m c main_v12 (by decide)).trans <| (V21_of m c main_v12 (by decide)).trans <| (V20_of m c main_v12 (by decide)).trans <| (V19_of m c main_v12 (by decide)).trans <| (V18_of m c main_v12 (by decide)).trans <| (V17_of m c main_v12 (by decide)).trans <| (V16_of m c main_v12 (by decide)).trans <| (V15_of m c main_v12 (by decide)).trans <| (V14_of m c main_v12 (by decide)).trans <| (V13_of m c main_v12 (by decide)).trans <| (V12_of m c main_v12 (by decide)).trans <| (V11_of m c main_v12 (by decide)).trans <| (V10_of m c main_v12 (by decide)).trans <| (V9_of m c main_v12 (by decide)).trans <| (V8_of m c main_v12 (by decide)).trans <| (V7_of m c main_v12 (by decide)).trans <| (V6_of m c main_v12 (by decide)).trans <| (V5_of m c main_v12 (by decide)).trans <| V4_of m c main_v12 (by decide)
theorem keep26_v16 : V26 m c (Proc.devRef .tc main_v16) = V5 m c (Proc.devRef .tc main_v16) :=
  (V26_of m c main_v16 (by decide)).trans <| (V25_of m c main_v16 (by decide)).trans <| (V24_of m c main_v16 (by decide)).trans <| (V23_of m c main_v16 (by decide)).trans <| (V22_of m c main_v16 (by decide)).trans <| (V21_of m c main_v16 (by decide)).trans <| (V20_of m c main_v16 (by decide)).trans <| (V19_of m c main_v16 (by decide)).trans <| (V18_of m c main_v16 (by decide)).trans <| (V17_of m c main_v16 (by decide)).trans <| (V16_of m c main_v16 (by decide)).trans <| (V15_of m c main_v16 (by decide)).trans <| (V14_of m c main_v16 (by decide)).trans <| (V13_of m c main_v16 (by decide)).trans <| (V12_of m c main_v16 (by decide)).trans <| (V11_of m c main_v16 (by decide)).trans <| (V10_of m c main_v16 (by decide)).trans <| (V9_of m c main_v16 (by decide)).trans <| (V8_of m c main_v16 (by decide)).trans <| (V7_of m c main_v16 (by decide)).trans <| V6_of m c main_v16 (by decide)
theorem keep26_v40 : V26 m c (Proc.devRef .tc main_v40) = V14 m c (Proc.devRef .tc main_v40) :=
  (V26_of m c main_v40 (by decide)).trans <| (V25_of m c main_v40 (by decide)).trans <| (V24_of m c main_v40 (by decide)).trans <| (V23_of m c main_v40 (by decide)).trans <| (V22_of m c main_v40 (by decide)).trans <| (V21_of m c main_v40 (by decide)).trans <| (V20_of m c main_v40 (by decide)).trans <| (V19_of m c main_v40 (by decide)).trans <| (V18_of m c main_v40 (by decide)).trans <| (V17_of m c main_v40 (by decide)).trans <| (V16_of m c main_v40 (by decide)).trans <| V15_of m c main_v40 (by decide)
theorem keep26_v47 : V26 m c (Proc.devRef .tc main_v47) = V18 m c (Proc.devRef .tc main_v47) :=
  (V26_of m c main_v47 (by decide)).trans <| (V25_of m c main_v47 (by decide)).trans <| (V24_of m c main_v47 (by decide)).trans <| (V23_of m c main_v47 (by decide)).trans <| (V22_of m c main_v47 (by decide)).trans <| (V21_of m c main_v47 (by decide)).trans <| (V20_of m c main_v47 (by decide)).trans <| V19_of m c main_v47 (by decide)
theorem keep26_v51 : V26 m c (Proc.devRef .tc main_v51) = V21 m c (Proc.devRef .tc main_v51) :=
  (V26_of m c main_v51 (by decide)).trans <| (V25_of m c main_v51 (by decide)).trans <| (V24_of m c main_v51 (by decide)).trans <| (V23_of m c main_v51 (by decide)).trans <| V22_of m c main_v51 (by decide)
theorem keep26_v56 : V26 m c (Proc.devRef .tc main_v56) = V24 m c (Proc.devRef .tc main_v56) :=
  (V26_of m c main_v56 (by decide)).trans <| V25_of m c main_v56 (by decide)
theorem keep27_v35 : V27 m c (Proc.devRef .tc main_v35) = V11 m c (Proc.devRef .tc main_v35) :=
  (V27_of m c main_v35 (by decide)).trans <| (V26_of m c main_v35 (by decide)).trans <| (V25_of m c main_v35 (by decide)).trans <| (V24_of m c main_v35 (by decide)).trans <| (V23_of m c main_v35 (by decide)).trans <| (V22_of m c main_v35 (by decide)).trans <| (V21_of m c main_v35 (by decide)).trans <| (V20_of m c main_v35 (by decide)).trans <| (V19_of m c main_v35 (by decide)).trans <| (V18_of m c main_v35 (by decide)).trans <| (V17_of m c main_v35 (by decide)).trans <| (V16_of m c main_v35 (by decide)).trans <| (V15_of m c main_v35 (by decide)).trans <| (V14_of m c main_v35 (by decide)).trans <| (V13_of m c main_v35 (by decide)).trans <| V12_of m c main_v35 (by decide)

end Cert.Proof
-- ==== Proof.Words.lean ====
/-
  The table of numbers that the host operations hand the kernel: when the device's half of the destinations holds the
  expected number of zeros, it is the table the run is proved from.
-/
module

public import proofs.«01_k».proof.Proof.Host
public import Idealize.ShloMosaic.Lib.Pipeline.ValueKit.Tiles

@[expose] public section

set_option maxRecDepth 8000

noncomputable section

namespace Cert.Proof

open Cert.KernelIdeal Cert.KernelIdeal.Gen
open Idealize.ShloMosaic
open Idealize.ShloMosaic.TcCoe
open Idealize.ShloMosaic.Routing Idealize.ShloMosaic.ValueIdx Idealize.ShloMosaic.WordCmp

variable {F : FTy → Type} [FloatOps F]

/-- Row `J` of the whole array goes to the first device. -/
def isZ (D : IVec S8192 32) (J : ℕ) : Prop := D (ix1 (⟨J % 8192, Nat.mod_lt _ (by decide)⟩ : Fin 8192)) = 0#32
instance (D : IVec S8192 32) : DecidablePred (isZ D) := fun J =>
  inferInstanceAs (Decidable (D (ix1 (⟨J % 8192, Nat.mod_lt _ (by decide)⟩ : Fin 8192)) = 0#32))
/-- Row `i` of device `c`'s half goes to the first device. -/
def locZ (D : IVec S8192 32) (c : Dev nD) (i : ℕ) : Prop := isZ D (4096 * c.val + i)
instance (D : IVec S8192 32) (c : Dev nD) : DecidablePred (locZ D c) := fun i => inferInstanceAs (Decidable (isZ D (4096 * c.val + i)))

theorem devWord_ap (c : Dev nD) : devWord c ix0 = BitVec.ofNat 32 c.val := by revert c; decide
theorem isZero_dev (c : Dev nD) {x : IVec S_ 32} (h : x ix0 = BitVec.ofNat 32 c.val) : isZero x ix0 = if c = 0 then 1#1 else 0#1 := by
  show IntOp.cmpi .eq (x ix0) 0#32 = _
  rw [h]; clear h; revert c; decide
theorem select_dev (c : Dev nD) {s : Shape} {α : Type} {f : IVec s 1} (i : s.Idx) (h : f i = if c = 0 then 1#1 else 0#1) (a b : s.Idx → α) :
    select f a b i = if c = 0 then a i else b i := by
  rw [select_at, h]; unfold Scalar.select; split <;> simp_all
theorem plus7_ap {x : IVec S_ 32} {n : ℕ} (h : x ix0 = BitVec.ofNat 32 n) : plus7 x ix0 = BitVec.ofNat 32 (n + 7) := by
  unfold plus7
  rw [subi_ap, addi_ap, constantI_at, constantI_at, h]
  show BitVec.ofNat 32 n + BitVec.ofNat 32 8 - BitVec.ofNat 32 1 = _
  rw [BitVec.ofNat_add_ofNat, ofNat32_sub (by omega)]; rfl
theorem times8_ap {x : IVec S_ 32} {n : ℕ} (h : x ix0 = BitVec.ofNat 32 n) : muli x (constantI S_ 32 8#32) ix0 = BitVec.ofNat 32 (n * 8) := by
  rw [muli_ap, constantI_at, h]
  show BitVec.ofNat 32 n * BitVec.ofNat 32 8 = _
  rw [BitVec.ofNat_mul_ofNat]
theorem from4096_ap {x : IVec S_ 32} {n : ℕ} (hn : n ≤ 4096) (h : x ix0 = BitVec.ofNat 32 n) :
    subi (constantI S_ 32 4096#32) x ix0 = BitVec.ofNat 32 (4096 - n) := by
  rw [subi_ap, constantI_at, h]; exact ofNat32_sub hn
theorem div8_ap {x y : IVec S_ 32} {n : ℕ} (hn : n ≤ 8192) (h : x ix0 = BitVec.ofNat 32 n) (hy : y = constantI S_ 32 8#32) :
    pyDiv0 x y ix0 = BitVec.ofNat 32 (n / 8) := by
  subst hy
  exact pyDiv0_ap x _ h rfl (by omega) (by omega) (by omega)

theorem pr_zero (c : Dev nD) : pr c = 0 ↔ ¬ c = 0 := by revert c; decide

/-- Seven scalars put together, from the word that each holds. -/
theorem seven_ap (w : ℕ → BitVec 32) (x0 x1 x2 x3 x4 x5 x6 : IVec S_ 32) (h0 : x0 ix0 = w 0) (h1 : x1 ix0 = w 1) (h2 : x2 ix0 = w 2)
    (h3 : x3 ix0 = w 3) (h4 : x4 ix0 = w 4) (h5 : x5 ix0 = w 5) (h6 : x6 ix0 = w 6) (i : S7.Idx) :
    concatenate S7 0 [⟨S1, broadcastInDim S1 ![] bcast_S_S1 x0⟩, ⟨S1, broadcastInDim S1 ![] bcast_S_S1 x1⟩, ⟨S1, broadcastInDim S1 ![] bcast_S_S1 x2⟩, ⟨S1, broadcastInDim S1 ![] bcast_S_S1 x3⟩,
      ⟨S1, broadcastInDim S1 ![] bcast_S_S1 x4⟩, ⟨S1, broadcastInDim S1 ![] bcast_S_S1 x5⟩, ⟨S1, broadcastInDim S1 ![] bcast_S_S1 x6⟩] concatenates_S1_S1_S1_S1_S1_S1_S1_S7_d0 i = w (i 0).val := by
  refine concatenate_unit_eq 0 _ _ i _ rfl ⟨fun q _ j _ _ => ?_, fun q _ j _ _ => ?_, fun q _ j _ _ => ?_, fun q _ j _ _ => ?_,
    fun q _ j _ _ => ?_, fun q _ j _ _ => ?_, fun q _ j _ _ => ?_, trivial⟩
  · rw [q]; exact (bc0 bcast_S_S1 x0 j).trans h0
  · rw [q]; exact (bc0 bcast_S_S1 x1 j).trans h1
  · rw [q]; exact (bc0 bcast_S_S1 x2 j).trans h2
  · rw [q]; exact (bc0 bcast_S_S1 x3 j).trans h3
  · rw [q]; exact (bc0 bcast_S_S1 x4 j).trans h4
  · rw [q]; exact (bc0 bcast_S_S1 x5 j).trans h5
  · rw [q]; exact (bc0 bcast_S_S1 x6 j).trans h6

variable (m : (ℓ : Loc nD τ sig) → Buf (Elt F) ℓ) (c : Dev nD)

/-- The destinations, as device `c` holds them. -/
def destOf : IVec S8192 32 := V0 m c (Proc.devRef .tc main_arg1)

theorem v5_ap : V1 m c (Proc.devRef .tc main_v5) ix0 = if c = 0 then 1#1 else 0#1 :=
  (congrFun (run0_v5 c (V0 m c)) ix0).trans (isZero_dev c (devWord_ap c))
theorem v4_ap : V1 m c (Proc.devRef .tc main_v4) ix0 = BitVec.ofNat 32 c.val :=
  (congrFun (run0_v4 c (V0 m c)) ix0).trans (devWord_ap c)

/-- The device's own half of the destinations. -/
theorem v8_ap (i : Fin 4096) : V2 m c (Proc.devRef .tc main_v8) (ix1 i)
    = destOf m c (ix1 (⟨(4096 * c.val + i.val) % 8192, Nat.mod_lt _ (by decide)⟩ : Fin 8192)) := by
  refine (congrFun (run1_v8 (V1 m c)) (ix1 i)).trans ?_
  have hi := i.isLt
  rw [select_dev c (ix1 i) ((bc0 _ _ _).trans (v5_ap m c)), show V1 m c (Proc.devRef .tc main_v6) = _ from run0_v6 c (V0 m c),
    show V1 m c (Proc.devRef .tc main_v7) = _ from run0_v7 c (V0 m c)]
  have h0 := slice1 0 (destOf m c) slices_S8192_S4096_0 i (by omega)
  have h1 := slice1 4096 (destOf m c) slices_S8192_S4096_4096 i (by omega)
  have hc : c.val < 2 := c.isLt
  split
  · next h => subst h; refine h0.trans (congrArg (fun j => destOf m 0 (ix1 j)) (Fin.ext ?_)); show 0 + i.val = (4096 * 0 + i.val) % 8192; omega
  · next h =>
    have : c.val = 1 := by have : c.val ≠ 0 := fun e => h (Fin.ext e); omega
    refine h1.trans (congrArg (fun j => destOf m c (ix1 j)) (Fin.ext ?_)); show 4096 + i.val = (4096 * c.val + i.val) % 8192; omega

/-- The mask of the rows that go to the first device. -/
theorem mask_ap (i : Fin 4096) : zeroMask (V2 m c (Proc.devRef .tc main_v8)) (ix1 i) = BitVec.ofNat 32 (if locZ (destOf m c) c i.val then 1 else 0) := by
  unfold zeroMask
  rw [extui_at, cmpi_at, v8_ap, show bcast (constantI S_ 32 0#32) (ix1 i) = 0#32 from bc0 _ _ _]
  exact (setWidth_ofBool (destOf m c (ix1 (⟨(4096 * c.val + i.val) % 8192, Nat.mod_lt _ (by decide)⟩ : Fin 8192)) = 0#32))

/-- The number of rows that go to the first device. -/
theorem total_ap : total (zeroMask (V2 m c (Proc.devRef .tc main_v8))) ix0 = BitVec.ofNat 32 (Nat.count (locZ (destOf m c) c) 4096) := by
  unfold total
  rw [← sum_map_ite]
  exact reduce_sum _ (fun i => if locZ (destOf m c) c i then 1 else 0) (mask_ap m c) _ _

variable (k : ℕ) (hk : k ≤ 4096) (hz : Nat.count (locZ (destOf m c) c) 4096 = zc k c)

include hz
theorem v12_ap : V3 m c (Proc.devRef .tc main_v12) ix0 = BitVec.ofNat 32 (zc k c) :=
  (congrFun (run2_v12 (V2 m c)) ix0).trans ((total_ap m c).trans (congrArg _ hz))
theorem v14_ap : V3 m c (Proc.devRef .tc main_v14) ix0 = BitVec.ofNat 32 (zc k c + 7) :=
  (congrFun (run2_v14 (V2 m c)) ix0).trans (plus7_ap ((total_ap m c).trans (congrArg _ hz)))

include hk
theorem v15_ap : V4 m c (Proc.devRef .tc main_v15) ix0 = BitVec.ofNat 32 ((zc k c + 7) / 8) :=
  (congrFun (run3_v15 (V3 m c)) ix0).trans (div8_ap (by have := zc_le k c hk; omega) (v14_ap m c k hz) (run2_c_6 (V2 m c)))
theorem v16_ap : V5 m c (Proc.devRef .tc main_v16) ix0 = BitVec.ofNat 32 (up8 (zc k c)) :=
  (congrFun (run4_v16 (V4 m c)) ix0).trans (times8_ap (v15_ap m c k hk hz))
omit hk hz
theorem v36_ap : V11 m c (Proc.devRef .tc main_v36) ix0 = if c = 0 then 1#1 else 0#1 :=
  (congrFun (run10_v36 (V10 m c)) ix0).trans (isZero_dev c ((congrFun (keep10_v4 m c) ix0).trans (v4_ap m c)))
theorem v39_ap : V13 m c (Proc.devRef .tc main_v39) ix0 = if c = 0 then 1#1 else 0#1 :=
  (congrFun (run12_v39 (V12 m c)) ix0).trans (isZero_dev c ((congrFun (keep12_v4 m c) ix0).trans (v4_ap m c)))
theorem v42_ap : V15 m c (Proc.devRef .tc main_v42) ix0 = if c = 0 then 1#1 else 0#1 :=
  (congrFun (run14_v42 (V14 m c)) ix0).trans (isZero_dev c ((congrFun (keep14_v4 m c) ix0).trans (v4_ap m c)))
theorem v52_ap : V21 m c (Proc.devRef .tc main_v52) ix0 = if c = 0 then 1#1 else 0#1 :=
  (congrFun (run20_v52 (V20 m c)) ix0).trans (isZero_dev c ((congrFun (keep20_v4 m c) ix0).trans (v4_ap m c)))
theorem v55_ap : V23 m c (Proc.devRef .tc main_v55) ix0 = if c = 0 then 1#1 else 0#1 :=
  (congrFun (run22_v55 (V22 m c)) ix0).trans (isZero_dev c ((congrFun (keep22_v4 m c) ix0).trans (v4_ap m c)))
include hk hz

theorem v37_ap : V11 m c (Proc.devRef .tc main_v37) ix0 = BitVec.ofNat 32 (4096 - zc k c) :=
  (congrFun (run10_v37 (V10 m c)) ix0).trans (from4096_ap (zc_le k c hk) ((congrFun (keep10_v12 m c) ix0).trans (v12_ap m c k hz)))
/-- The rows sent, before padding. -/
theorem v38_ap : V12 m c (Proc.devRef .tc main_v38) ix0 = BitVec.ofNat 32 (4096 - k) := by
  refine (congrFun (run11_v38 (V11 m c)) ix0).trans ?_
  rw [select_dev c ix0 (v36_ap m c), v37_ap m c k hk hz, congrFun (keep11_v12 m c) ix0, v12_ap m c k hz]
  unfold zc
  split
  · next h => rfl
  · rfl
theorem v40_ap : V14 m c (Proc.devRef .tc main_v40) ix0 = BitVec.ofNat 32 (src k c) := by
  refine (congrFun (run13_v40 (V13 m c)) ix0).trans ?_
  rw [select_dev c ix0 (v39_ap m c), congrFun (keep13_v16 m c) ix0, v16_ap m c k hk hz, show V13 m c (Proc.devRef .tc main_c_16) = _ from run12_c_16 (V12 m c)]
  unfold zc src
  split
  · next h => rfl
  · rfl
theorem v44_ap : V15 m c (Proc.devRef .tc main_v44) ix0 = BitVec.ofNat 32 (k + 7) := by
  refine (congrFun (run14_v44 (V14 m c)) ix0).trans ?_
  have h := from4096_ap (n := 4096 - k) (by omega) ((congrFun (keep14_v38 m c) ix0).trans (v38_ap m c k hk hz))
  rw [show 4096 - (4096 - k) = k by omega] at h
  exact plus7_ap h
theorem v45_ap : V16 m c (Proc.devRef .tc main_v45) ix0 = BitVec.ofNat 32 ((k + 7) / 8) :=
  (congrFun (run15_v45 (V15 m c)) ix0).trans (div8_ap (by omega) (v44_ap m c k hk hz) (run14_c_21 (V14 m c)))
theorem v46_ap : V17 m c (Proc.devRef .tc main_v46) ix0 = BitVec.ofNat 32 ((k + 7) / 8 * 8) :=
  (congrFun (run16_v46 (V16 m c)) ix0).trans (times8_ap (v45_ap m c k hk hz))
theorem v47_ap : V18 m c (Proc.devRef .tc main_v47) ix0 = BitVec.ofNat 32 (src k (pr c)) := by
  refine (congrFun (run17_v47 (V17 m c)) ix0).trans ?_
  rw [select_dev c ix0 ((congrFun (keep17_v42 m c) ix0).trans (v42_ap m c)), show V17 m c (Proc.devRef .tc main_c_23) = _ from run16_c_23 (V16 m c),
    v46_ap m c k hk hz]
  unfold src up8
  have hp : pr c = 0 ↔ ¬ c = 0 := pr_zero c
  by_cases h : c = 0
  · rw [if_pos h, if_neg (fun q => hp.1 q h)]; rfl
  · rw [if_neg h, if_pos (hp.2 h)]
theorem v49_ap : V19 m c (Proc.devRef .tc main_v49) ix0 = BitVec.ofNat 32 (4096 - k + 7) :=
  (congrFun (run18_v49 (V18 m c)) ix0).trans (plus7_ap ((congrFun (keep18_v38 m c) ix0).trans (v38_ap m c k hk hz)))
theorem v50_ap : V20 m c (Proc.devRef .tc main_v50) ix0 = BitVec.ofNat 32 ((4096 - k + 7) / 8) :=
  (congrFun (run19_v50 (V19 m c)) ix0).trans (div8_ap (by omega) (v49_ap m c k hk hz) (run18_c_26 (V18 m c)))
theorem v51_ap : V21 m c (Proc.devRef .tc main_v51) ix0 = BitVec.ofNat 32 (sendLen k) :=
  (congrFun (run20_v51 (V20 m c)) ix0).trans (times8_ap (v50_ap m c k hk hz))
theorem v53_ap : V21 m c (Proc.devRef .tc main_v53) ix0 = BitVec.ofNat 32 (4096 - zc k c) :=
  (congrFun (run20_v53 (V20 m c)) ix0).trans (from4096_ap (zc_le k c hk) ((congrFun (keep20_v12 m c) ix0).trans (v12_ap m c k hz)))
/-- The rows kept, before padding. -/
theorem v54_ap : V22 m c (Proc.devRef .tc main_v54) ix0 = BitVec.ofNat 32 k := by
  refine (congrFun (run21_v54 (V21 m c)) ix0).trans ?_
  rw [select_dev c ix0 (v52_ap m c), v53_ap m c k hk hz, congrFun (keep21_v12 m c) ix0, v12_ap m c k hz]
  unfold zc
  split
  · rfl
  · rw [show 4096 - (4096 - k) = k by omega]
theorem v56_ap : V24 m c (Proc.devRef .tc main_v56) ix0 = BitVec.ofNat 32 (keep k c) := by
  refine (congrFun (run23_v56 (V23 m c)) ix0).trans ?_
  rw [select_dev c ix0 (v55_ap m c), congrFun (keep23_v16 m c) ix0, v16_ap m c k hk hz, show V23 m c (Proc.devRef .tc main_c_31) = _ from run22_c_31 (V22 m c)]
  unfold zc keep
  split
  · rfl
  · rfl
theorem v58_ap : V25 m c (Proc.devRef .tc main_v58) ix0 = BitVec.ofNat 32 (k + 7) :=
  (congrFun (run24_v58 (V24 m c)) ix0).trans (plus7_ap ((congrFun (keep24_v54 m c) ix0).trans (v54_ap m c k hk hz)))
theorem v59_ap : V26 m c (Proc.devRef .tc main_v59) ix0 = BitVec.ofNat 32 ((k + 7) / 8) :=
  (congrFun (run25_v59 (V25 m c)) ix0).trans (div8_ap (by omega) (v58_ap m c k hk hz) (run24_c_34 (V24 m c)))

/-- The table is the expected one. -/
theorem table_eq : V27 m c (Proc.devRef .tc main_v69) = table k c := by
  have e51 := (congrFun (keep26_v51 m c) ix0).trans (v51_ap m c k hk hz)
  have e40 := (congrFun (keep26_v40 m c) ix0).trans (v40_ap m c k hk hz)
  have e47 := (congrFun (keep26_v47 m c) ix0).trans (v47_ap m c k hk hz)
  have e12 := (congrFun (keep26_v12 m c) ix0).trans (v12_ap m c k hz)
  have e16 := (congrFun (keep26_v16 m c) ix0).trans (v16_ap m c k hk hz)
  have e56 := (congrFun (keep26_v56 m c) ix0).trans (v56_ap m c k hk hz)
  have e60 := times8_ap (v59_ap m c k hk hz)
  have e61 : subi (V26 m c (Proc.devRef .tc main_v16)) (V26 m c (Proc.devRef .tc main_v12)) ix0 = BitVec.ofNat 32 (gapc k c) := by
    rw [subi_ap, e16, e12]; exact ofNat32_sub (le_up8 _)
  exact (run26_v69 (V26 m c)).trans (funext fun i => seven_ap (word k c) _ _ _ _ _ _ _ e51 e40 e47 e12 e61 e56 e60 i)

end Cert.Proof
-- ==== Proof.Order.lean ====
/-
  Where the stable sort of destinations that are 0 or 1 puts each row: a zero's place is the number of zeros before it, and
  any other's comes after all the zeros, by the number of others before it.
-/
module

public import proofs.«01_k».proof.Proof.Words
public import proofs.«01_k».proof.Proof.Gen.ReferenceIdeal
public import Idealize.ShloMosaic.Lib.SortFacts
public import Idealize.ShloMosaic.Lib.PlanTiles.StableSort

@[expose] public section

set_option maxRecDepth 8000

noncomputable section

namespace Cert.Proof

open Idealize.ShloMosaic
open Idealize.ShloMosaic.Routing Idealize.ShloMosaic.ValueIdx Idealize.ShloMosaic.WordCmp Idealize.ShloMosaic.PlanTiles

/-- Those with a property and those without are all. -/
theorem count_both (P : ℕ → Prop) [DecidablePred P] (n : ℕ) : Nat.count P n + Nat.count (fun i => ¬ P i) n = n := by
  induction n with
  | zero => simp
  | succ n ih => rw [Nat.count_succ, Nat.count_succ]; by_cases h : P n <;> simp only [h, not_true_eq_false, not_false_eq_true, if_true, if_false] <;> omega

/-- One that has a property counts before every later place. -/
theorem count_lt {P : ℕ → Prop} [DecidablePred P] {a b : ℕ} (hp : P a) (h : a < b) : Nat.count P a < Nat.count P b := by
  have h1 : Nat.count P (a + 1) ≤ Nat.count P b := Nat.count_monotone P h
  rw [Nat.count_succ, if_pos hp] at h1; omega

/-- The place of row `J` in the sorted order. -/
def rank (D : IVec Cert.KernelIdeal.S8192 32) (J : ℕ) : ℕ :=
  if isZ D J then Nat.count (isZ D) J else Nat.count (isZ D) 8192 + Nat.count (fun i => ¬ isZ D i) J

variable (D : IVec Cert.KernelIdeal.S8192 32)

theorem rank_lt {J : ℕ} (h : J < 8192) : rank D J < 8192 := by
  have hb := count_both (isZ D) 8192
  unfold rank
  split
  · next hz => have := count_lt hz h; omega
  · next hz => have := count_lt (P := fun i => ¬ isZ D i) hz h; omega

/-- The sort's key: the zeros before the others. -/
def keyOf (k : Fin 8192) : ℕ := if isZ D k.val then 1 else 0

theorem rank_mono {a b : Fin 8192} (h : PlanTiles.Lex (keyOf D) (· < ·) a b) : rank D a.val < rank D b.val := by
  have ha := a.isLt
  unfold PlanTiles.Lex keyOf at h
  unfold rank
  by_cases za : isZ D a.val <;> by_cases zb : isZ D b.val <;> simp only [za, zb, if_true, if_false] at h ⊢
  · have h : a.val < b.val := by rcases h with h | h; · omega
                                 · exact h.2
    exact count_lt za h
  · have := count_lt za ha; omega
  · omega
  · have h : a.val < b.val := by rcases h with h | h; · omega
                                 · exact h.2
    have := count_lt (P := fun i => ¬ isZ D i) za h; omega

/-- Two places of a stable sort, in order, hold two rows in order. -/
theorem sorted_rel {n : ℕ} (before : Fin n → Fin n → Bool) (R : Fin n → Fin n → Prop) (h : (sortPositions n before).Pairwise R) {a b : Fin n} (hab : a < b) :
    R (sortedFrom before a) (sortedFrom before b) := List.pairwise_iff_get.1 h _ _ hab

theorem sorted_lex {n : ℕ} (G : Fin n → ℕ) {a b : Fin n} (hab : a < b) :
    PlanTiles.Lex G (· < ·) (sortedFrom (fun x y => decide (G y < G x)) a) (sortedFrom (fun x y => decide (G y < G x)) b) :=
  sorted_rel _ _ (pairwise_stableSort_lex G _ _ (List.pairwise_lt_finRange n)) hab

/-- A strictly growing map of places to places is the identity. -/
theorem eq_of_mono {n : ℕ} (f : Fin n → Fin n) (hf : StrictMono f) (k : Fin n) : f k = k := le_antisymm (hf.apply_le (x := k)) (hf.le_apply (x := k))

/-- The row that the stable sort puts at place `k` has rank `k`. -/
theorem rank_sorted (k : Fin 8192) : rank D (sortedFrom (fun x y => decide (keyOf D y < keyOf D x)) k).val = k.val :=
  congrArg Fin.val (eq_of_mono (fun k => ⟨rank D (sortedFrom (fun x y => decide (keyOf D y < keyOf D x)) k).val, rank_lt D (Fin.isLt _)⟩)
    (fun _ _ hab => rank_mono D (sorted_lex (keyOf D) hab)) k)

end Cert.Proof
-- ==== Proof.Packed.lean ====
/-
  The packed rows that the host operations hand the kernel: device `c` has its rows for the first device in order at the
  front, its other rows in order from the next multiple of eight.
-/
module

public import proofs.«01_k».proof.Proof.Order

@[expose] public section

set_option maxRecDepth 8000

noncomputable section

namespace Cert.Proof

open Cert.KernelIdeal Cert.KernelIdeal.Gen
open Idealize.ShloMosaic
open Idealize.ShloMosaic.TcCoe
open Idealize.ShloMosaic.Routing Idealize.ShloMosaic.ValueIdx Idealize.ShloMosaic.WordCmp

variable {F : FTy → Type} [FloatOps F]

theorem only_elem {α : Type} {l : List α} {a : α} (h : l = [a]) {i : ℕ} (hi : i < l.length) : l[i] = a :=
  List.mem_singleton.1 (h ▸ List.getElem_mem hi)

/-- Update `(r', q')` of a scatter of `A` rows into a matrix of `R` rows, one index word each, lands at `(r, q)` exactly when
    row `r'`'s index word, read signed, is `r`, and `q'` is `q`. -/
theorem lands_row {A R C : ℕ} (d : ScatterDims (shape2 R C) (shape2 A 1) (shape2 A C)) (huw : d.updateWindowDims = [1]) (hiw : d.insertedWindowDims = [0])
    (hsd : d.scatterDimsToOperandDims = [0]) (hivd : d.indexVectorDim = 1) (idx : IVec (shape2 A 1) 32) (r' : Fin A) (q' q : Fin C) (r : Fin R) :
    d.resultIdx? (ix2 r' q') idx = some (ix2 r q) ↔ (idx (ix2 r' (0 : Fin 1))).toInt = (r.val : Int) ∧ q' = q := by
  have hm : (0 : Fin 2) ∈ d.scatterDimsToOperandDims := by rw [hsd]; exact List.mem_singleton.2 rfl
  have hkept : d.sKept = [1] := by
    show (shape2 R C).kept d.insertedWindowDims = _
    rw [hiw]; rfl
  have hus : d.uScatter = [0] := by
    show (shape2 A C).kept d.updateWindowDims = _
    rw [huw]; rfl
  have hwin0 : d.window (ix2 r' q') 0 = 0 := by
    unfold ScatterDims.window
    rw [dif_neg fun h => (of_decide_eq_true (List.mem_filter.1 h).2) (by rw [hiw]; exact List.mem_singleton.2 rfl)]
  have hwin1 : d.window (ix2 r' q') 1 = q'.val := by
    unfold ScatterDims.window
    rw [dif_pos (by rw [hkept]; exact List.mem_singleton.2 rfl)]
    have e : ∀ X : Fin 2, X = 1 → ((ix2 r' q' : (shape2 A C).Idx) X).val = q'.val := fun X h => by subst h; rfl
    exact e _ (only_elem huw _)
  have hstart1 : d.start (ix2 r' q') idx 1 = 0 := by
    unfold ScatterDims.start
    rw [dif_neg fun h => by rw [hsd] at h; exact absurd (List.mem_singleton.1 h) (by decide : (1 : Fin 2) ≠ 0)]
  have hstart0 : d.start (ix2 r' q') idx 0 = (idx (ix2 r' (0 : Fin 1))).toInt := by
    unfold ScatterDims.start
    rw [dif_pos hm]
    have hsi : d.siIdx (ix2 r' q') ⟨d.scatterDimsToOperandDims.idxOf 0, List.idxOf_lt_length_iff.2 hm⟩ = ix2 r' (0 : Fin 1) := by
      funext b'
      apply Fin.ext
      match b' with
      | ⟨0, _⟩ =>
        unfold ScatterDims.siIdx
        rw [dif_neg (by rw [hivd]; exact Nat.zero_ne_one)]
        unfold ScatterDims.siCoord
        simp only [Fin.val_cast]
        have e : ∀ X : Fin 2, X = 0 → ((ix2 r' q' : (shape2 A C).Idx) X).val = r'.val := fun X h => by subst h; rfl
        exact e _ (only_elem hus _)
      | ⟨1, _⟩ => exact congrArg Fin.val (Subsingleton.elim (α := Fin 1) _ _)
    rw [hsi]
  rw [Fin.ext_iff, resultIdx?_ix2, hstart0, hwin0, hstart1, hwin1]
  omega

/-- Where device `c` packs its row `j`. -/
def pos (D : IVec S8192 32) (k : ℕ) (c : Dev nD) (j : ℕ) : ℕ :=
  if locZ D c j then Nat.count (locZ D c) j else up8 (zc k c) + Nat.count (fun i => ¬ locZ D c i) j

variable (m : (ℓ : Loc nD τ sig) → Buf (Elt F) ℓ) (c : Dev nD) (k : ℕ) (hk : k ≤ 4096) (hz : Nat.count (locZ (destOf m c) c) 4096 = zc k c)

theorem cast_one : (1#32 : BitVec 32) = BitVec.ofNat 32 1 := rfl

theorem v11_ap (i : Fin 4096) : V3 m c (Proc.devRef .tc main_v11) (ix1 i) = BitVec.ofNat 32 (if locZ (destOf m c) c i.val then 1 else 0) :=
  (congrFun (run2_v11 (V2 m c)) (ix1 i)).trans (mask_ap m c i)

theorem v19_ap (j : Fin 4096) (h : locZ (destOf m c) c j.val) : V7 m c (Proc.devRef .tc main_v19) (ix1 j) = BitVec.ofNat 32 (Nat.count (locZ (destOf m c) c) j.val) := by
  refine (congrFun (run6_v19 (V6 m c)) (ix1 j)).trans ?_
  have e : V6 m c (Proc.devRef .tc main_v17) (ix1 j) = BitVec.ofNat 32 (Nat.count (locZ (destOf m c) c) (j.val + 1)) := by
    refine (congrFun (run5_v17 (V5 m c)) (ix1 j)).trans ?_
    rw [keep5_v11]
    unfold runningSum
    rw [← sum_map_ite]
    exact cumsum1 rfl _ (fun i => if locZ (destOf m c) c i then 1 else 0) (v11_ap m c) _ (bc0 _ _ _) _ _ j
  rw [subi_ap, e, show bcast (constantI S_ 32 1#32) (ix1 j) = BitVec.ofNat 32 1 from bc0 _ _ _, Nat.count_succ, if_pos h]
  exact ofNat32_sub (by omega)

theorem v22_ap (j : Fin 4096) : V8 m c (Proc.devRef .tc main_v22) (ix1 j) = BitVec.ofNat 32 (Nat.count (fun i => ¬ locZ (destOf m c) c i) (j.val + 1)) := by
  refine (congrFun (run7_v22 (V7 m c)) (ix1 j)).trans ?_
  unfold runningSum
  rw [← sum_map_ite]
  refine cumsum1 rfl _ (fun i => if ¬ locZ (destOf m c) c i then 1 else 0) (fun i => ?_) _ (bc0 _ _ _) _ _ j
  refine (congrFun (run6_v21 (V6 m c)) (ix1 i)).trans ?_
  rw [subi_ap, keep6_v11, v11_ap, show bcast (constantI S_ 32 1#32) (ix1 i) = BitVec.ofNat 32 1 from bc0 _ _ _]
  by_cases h : locZ (destOf m c) c i.val <;> simp only [h, not_true_eq_false, not_false_eq_true, if_true, if_false] <;> rfl

include hk hz in
/-- The index word of row `j`. -/
theorem v27_ap (j : Fin 4096) : V10 m c (Proc.devRef .tc main_v27) (ix1 j) = BitVec.ofNat 32 (pos (destOf m c) k c j.val) := by
  refine (congrFun (run9_v27 (V9 m c)) (ix1 j)).trans ?_
  rw [select_at, cmpi_at, keep9_v11, v11_ap, show bcast (constantI S_ 32 0#32) (ix1 j) = 0#32 from bc0 _ _ _]
  unfold pos
  by_cases h : locZ (destOf m c) c j.val
  · rw [if_pos h, if_pos h]
    refine Eq.trans ?_ (v19_ap m c j h)
    rw [keep9_v19]; rfl
  · rw [if_neg h, if_neg h]
    show V9 m c (Proc.devRef .tc main_v26) (ix1 j) = _
    refine (congrFun (run8_v26 (V8 m c)) (ix1 j)).trans ?_
    rw [subi_ap, addi_ap, v22_ap, show bcast (constantI S_ 32 1#32) (ix1 j) = BitVec.ofNat 32 1 from bc0 _ _ _,
      show bcast (V8 m c (Proc.devRef .tc main_v16)) (ix1 j) = V8 m c (Proc.devRef .tc main_v16) ix0 from bc0 _ _ _, keep8_v16, v16_ap m c k hk hz,
      Nat.count_succ, if_pos h, BitVec.ofNat_add_ofNat, ofNat32_sub (by omega)]
    rfl

/-- A row for the first device is packed below the zeros' end, another from the next multiple of eight. -/
theorem pos_cases (D : IVec S8192 32) (h : Nat.count (locZ D c) 4096 = zc k c) {j : ℕ} (hj : j < 4096) :
    (locZ D c j ∧ pos D k c j = Nat.count (locZ D c) j ∧ pos D k c j < zc k c)
      ∨ (¬ locZ D c j ∧ pos D k c j = up8 (zc k c) + Nat.count (fun i => ¬ locZ D c i) j ∧ Nat.count (fun i => ¬ locZ D c i) j < 4096 - zc k c) := by
  have hb := count_both (locZ D c) 4096
  unfold pos
  by_cases hp : locZ D c j
  · rw [if_pos hp]; have := count_lt hp hj; exact .inl ⟨hp, rfl, by omega⟩
  · rw [if_neg hp]; have := count_lt (P := fun i => ¬ locZ D c i) hp hj; exact .inr ⟨hp, rfl, by omega⟩

include hk in
theorem pos_lt (D : IVec S8192 32) (h : Nat.count (locZ D c) 4096 = zc k c) {j : ℕ} (hj : j < 4096) : pos D k c j < 4112 := by
  have := zc_le k c hk
  have := up8_le (zc k c)
  rcases pos_cases c k D h hj with ⟨_, h1, h2⟩ | ⟨_, h1, h2⟩ <;> omega

theorem count_inj {P : ℕ → Prop} [DecidablePred P] {a b : ℕ} (ha : P a) (hb : P b) (h : Nat.count P a = Nat.count P b) : a = b := by
  rcases Nat.lt_trichotomy a b with q | q | q
  · have := count_lt ha q; omega
  · exact q
  · have := count_lt hb q; omega

/-- No two rows are packed at one place. -/
theorem pos_inj (D : IVec S8192 32) (h : Nat.count (locZ D c) 4096 = zc k c) {i j : ℕ} (hi : i < 4096) (hj : j < 4096) (e : pos D k c i = pos D k c j) : i = j := by
  have := le_up8 (zc k c)
  rcases pos_cases c k D h hi with ⟨p1, h1, h2⟩ | ⟨p1, h1, h2⟩ <;> rcases pos_cases c k D h hj with ⟨p3, h3, h4⟩ | ⟨p3, h3, h4⟩
  · exact count_inj p1 p3 (by omega)
  · omega
  · omega
  · exact count_inj (P := fun i => ¬ locZ D c i) p1 p3 (by omega)

include hk hz in
/-- The packed rows hold device `c`'s row `j` at its place. -/
theorem packed_ap (j : Fin 4096) (q : Fin 1024) :
    V27 m c (Proc.devRef .tc main_v35) (ix2 (⟨pos (destOf m c) k c j.val, pos_lt c k hk _ hz j.isLt⟩ : Fin 4112) q) = V0 m c (Proc.devRef .tc main_arg0) (ix2 j q) := by
  rw [keep27_v35]
  refine (congrFun (run10_v35 (V10 m c)) _).trans ?_
  have word : ∀ j : Fin 4096, (broadcastInDim S4096x1 ![0] bcast_S4096_S4096x1_0
      (select (cmpi .slt (V10 m c (Proc.devRef .tc main_v27)) (bcast (constantI S_ 32 0#32)))
        (addi (V10 m c (Proc.devRef .tc main_v27)) (bcast (constantI S_ 32 4112#32))) (V10 m c (Proc.devRef .tc main_v27))) (ix2 j (0 : Fin 1))).toInt
      = (pos (destOf m c) k c j.val : Int) := fun j => by
    have hp := pos_lt c k hk _ hz j.isLt
    rw [bcCol, select_at, cmpi_at, v27_ap m c k hk hz, show bcast (constantI S_ 32 0#32) (ix1 j) = 0#32 from bc0 _ _ _,
      wrap_of_lt _ _ (by rw [BitVec.toNat_ofNat, Nat.mod_eq_of_lt (by omega)]; omega)]
    exact StableHlo.Predicate.toInt_ofNat_small _ (by omega)
  refine (scatter_set_hit _ _ _ _ _ (V0 m c (Proc.devRef .tc main_arg0) (ix2 j q)) (fun u hu => ?_) (ix2 j q) ((lands_row _ rfl rfl rfl rfl _ _ _ _ _).2 ⟨word j, rfl⟩))
  obtain ⟨r, s, rfl⟩ : ∃ (r : Fin 4096) (s : Fin 1024), u = ix2 r s := ⟨u 0, u 1, eq_ix2 u⟩
  obtain ⟨h1, h2⟩ := (lands_row _ rfl rfl rfl rfl _ _ _ _ _).1 hu
  rw [word r] at h1
  have : r = j := Fin.ext (pos_inj c k _ hz r.isLt j.isLt (by exact_mod_cast h1))
  rw [this, h2, keep10_arg0]

end Cert.Proof
-- ==== Proof.Frames.lean ====
/-
  The frames: under the precondition both devices' tables are the expected ones, so the kernel runs, ends with its
  arguments unchanged and every semaphore at zero, at both readings of the floats.
-/
module

public import proofs.«01_k».proof.Proof.Words
public import proofs.«01_k».proof.Defs
public import proofs.«01_k».proof.Proof.Gen.Kernel
public import proofs.«01_k».proof.Proof.Gen.Kernel.Launch
public import proofs.«01_k».proof.Proof.Gen.Pre_split
public import proofs.«01_k».proof.Proof.Gen.Pre_routed_KernelIdeal

@[expose] public section

set_option maxRecDepth 8000

noncomputable section

namespace Cert.Proof

open Cert.KernelIdeal Cert.KernelIdeal.Gen
open Idealize.ShloMosaic Idealize.SL.Sem
open Idealize.ShloMosaic.TcCoe
open Idealize.ShloMosaic.Routing Idealize.ShloMosaic.ValueIdx Idealize.ShloMosaic.WordCmp

variable {F : FTy → Type} [FloatOps F]

theorem both_of_andi : ∀ a b : BitVec 1, IntOp.andi a b = 1#1 → a = 1#1 ∧ b = 1#1 := by decide
theorem either_of_ori : ∀ a b : BitVec 1, IntOp.ori a b = 1#1 → a = 1#1 ∨ b = 1#1 := by decide
theorem eq_of_cmpi {w : ℕ} {a b : BitVec w} (h : IntOp.cmpi .eq a b = 1#1) : a = b := by
  by_contra hne
  have : IntOp.cmpi .eq a b = BitVec.ofBool (decide (a = b)) := rfl
  rw [this, decide_eq_false hne] at h
  exact absurd h (by decide)

/-- The sum of the mask of zeros over the 4096 entries from `o` counts the zeros there. -/
theorem half_sum (D : IVec S8192 32) (o : ℕ) (ho : o + 4096 ≤ 8192) (hb : S_.BroadcastsInDim S8192 (![] : Fin 0 → Fin S8192.rank))
    (hs : S8192.Slices ![o] S4096) (hr : S4096.ReducesTo [0] S_) (hu : 0 < S_.numel) (hw : 1 < 32) :
    Host.reduce IntOp.addi (extractStridedSlice S4096 ![o] (extui 32 (cmpi .eq D (broadcastInDim S8192 ![] hb (constantI S_ 32 0#32))) hw) hs)
      (constantI S_ 32 0#32) hr hu ix0 = BitVec.ofNat 32 (Nat.count (fun i => isZ D (o + i)) 4096) := by
  rw [← sum_map_ite]
  refine reduce_sum _ (fun i => if isZ D (o + i) then 1 else 0) (fun i => ?_) _ _
  have hi := i.isLt
  refine (slice1 o _ hs i (by omega)).trans ?_
  rw [extui_at, cmpi_at, show broadcastInDim S8192 ![] hb (constantI S_ 32 0#32) (ix1 (⟨o + i.val, by omega⟩ : Fin 8192)) = 0#32 from bc0 _ _ _]
  refine (setWidth_ofBool (D (ix1 (⟨o + i.val, by omega⟩ : Fin 8192)) = 0#32)).trans ?_
  have e : (⟨(o + i.val) % 8192, Nat.mod_lt _ (by decide)⟩ : Fin 8192) = ⟨o + i.val, by omega⟩ := Fin.ext (Nat.mod_eq_of_lt (by omega))
  have q : (D (ix1 (⟨o + i.val, by omega⟩ : Fin 8192)) = 0#32) ↔ isZ D (o + i.val) := by unfold isZ; rw [e]
  rw [if_congr q rfl rfl]

theorem count_of_word {P : ℕ → Prop} [DecidablePred P] {n : ℕ} (hn : n ≤ 4096) (h : BitVec.ofNat 32 (Nat.count P 4096) = BitVec.ofNat 32 n) :
    Nat.count P 4096 = n := by
  have hc : Nat.count P 4096 ≤ 4096 := Nat.count_le _
  have := congrArg BitVec.toNat h
  rwa [BitVec.toNat_ofNat, BitVec.toNat_ofNat, Nat.mod_eq_of_lt (by omega), Nat.mod_eq_of_lt (by omega)] at this

/-- What the precondition says: each half of the destinations holds the expected number of zeros. -/
theorem counts_of_split [Cert.Pre_split.Facts] (x : FVec F S4096x1024 .bf16) (D : IVec S8192 32) (h : Cert.Pre_split.fn x D = fun _ => 1#1)
    (c : Dev nD) : Nat.count (locZ D c) 4096 = zc 2069 c := by
  obtain ⟨h0, h1⟩ := both_of_andi _ _ (congrFun h ix0)
  have e0 := count_of_word (n := 2069) (by omega) ((half_sum D 0 (by omega) _ _ _ _ _).symm.trans (eq_of_cmpi h0))
  have e1 := count_of_word (n := 2027) (by omega) ((half_sum D 4096 (by omega) _ _ _ _ _).symm.trans (eq_of_cmpi h1))
  match c with
  | ⟨0, _⟩ => exact e0
  | ⟨1, _⟩ => exact e1

/-- The kernel's run, from a memory whose destinations have the expected numbers of zeros. -/
theorem run_split (m : (ℓ : Loc nD τ sig) → Buf (Elt F) ℓ) (ρ : Dev nD → PrngReg) (h : ∀ c : Dev nD, Nat.count (locZ (destOf m c) c) 4096 = zc 2069 c) :
    θ_run defs (onTc (τ := τ) (main (F := F))) ⟨m, fun _ => 0, ρ⟩ (fun r =>
      (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_v70) = outRows 2069 (fun c => V27 m c (Proc.devRef .tc main_v35)) c) ∧ r.2.sem = fun _ => 0) :=
  run_main 2069 (by omega) (fun c => V27 m c (Proc.devRef .tc main_v35)) m ρ (fun c => table_eq m c 2069 (by omega) (h c)) (fun _ => rfl)

/-- The frame of the kernel over the extended reals. -/
theorem frame_kernelIdeal : Cert.quiescent_KernelIdeal := fun m ρ hm =>
  (θ_run Cert.KernelIdeal.defs _ _).mono (fun _ h => ⟨fun c => ⟨(h.1 c).1, (h.1 c).2.1⟩, h.2⟩)
    (run_split (F := Ideal) m ρ fun c => counts_of_split _ _ (hm c) c)

/-- The destinations in a memory of the kernel's own buffers, as its precondition constrains them. -/
theorem counts_kernel (m : (ℓ : Loc Cert.Kernel.nD Cert.Kernel.τ Cert.Kernel.sig) → Buf (Elt Bits) ℓ) (hm : Cert.Pre_Kernel m) (c : Dev nD) :
    Nat.count (locZ (destOf (F := Bits) m c) c) 4096 = zc 2069 c :=
  counts_of_split (F := Bits) _ (destOf (F := Bits) m c) (hm c) c

/-- The program at the bits is the program at the extended reals, its host operations and its call … -/
theorem main_same : Cert.Kernel.main (F := F) = Cert.KernelIdeal.main (F := F) :=
  funext fun c => (Cert.Kernel.Gen.main_chain (F := F) c).trans (.trans rfl (Cert.KernelIdeal.Gen.main_chain (F := F) c).symm)
/-- … and its body. -/
theorem bodies_same : Cert.Kernel.defs₀ (F := F) = Cert.KernelIdeal.defs₀ := by
  unfold Cert.Kernel.defs₀ Cert.KernelIdeal.defs₀
  refine congrArg Defs.onTc ?_
  funext l a
  match l, a with
  | 0, (t, s) => rfl
theorem defs_same : Cert.Kernel.defs (F := F) = Cert.KernelIdeal.defs := congrArg (Pipeline.defs Cert.KernelIdeal.pcfgs) bodies_same

/-- The frame of the kernel over the bits. -/
theorem frame_kernel : Cert.quiescent_Kernel := by
  intro m ρ hm
  rw [defs_same, main_same]
  exact (θ_run Cert.KernelIdeal.defs _ _).mono (fun _ h => ⟨fun c => ⟨(h.1 c).1, (h.1 c).2.1⟩, h.2⟩)
    (run_split (F := Bits) m ρ (counts_kernel m hm))

end Cert.Proof
-- ==== Proof.Ref.lean ====
/-
  The reference: its run, and where it puts each row when every destination is 0 or 1.
-/
module

public import proofs.«01_k».proof.Proof.Order
public import proofs.«01_k».proof.Defs
public import proofs.«01_k».proof.Proof.Gen.Pre_routed_ReferenceIdeal
public import Idealize.ShloMosaic.Lib.Claim
public import Idealize.ShloMosaic.Lib.StableHlo.RunHlo

@[expose] public section

set_option maxRecDepth 8000

noncomputable section

namespace Cert.Proof.Ref

open Cert.ReferenceIdeal Cert.ReferenceIdeal.Gen
open Idealize.ShloMosaic Idealize.SL.Sem
open Idealize.ShloMosaic.TcCoe
open Idealize.ShloMosaic.Routing Idealize.ShloMosaic.ValueIdx Idealize.ShloMosaic.WordCmp
open Cert.Proof

/-- The sorted order of the destinations. -/
def order (D : IVec S8192 32) : IVec S8192 32 := (Host.sort2 S8192 0 comparator_i32_i32_d0 D (iotaInDim S8192 32 0)).2

/-- The rows of `x` in the sorted order of `D`. -/
def refOut {F : FTy → Type} (x : (⟨S8192x1024, .bf16⟩ : BufTy).Contents (Elt F)) (D : IVec S8192 32) : (⟨S8192x1024, .bf16⟩ : BufTy).Contents (Elt F) :=
  Host.gather gather_S8192x1024_S8192x1_S8192x1024_1_0_n_n_0_1_11024 x
    (broadcastInDim S8192x1 ![0] bcast_S8192_S8192x1_0
      (select (cmpi .slt (order D) (broadcastInDim S8192 ![] bcast_S_S8192 (constantI S_ 32 0#32)))
        (addi (order D) (broadcastInDim S8192 ![] bcast_S_S8192 (constantI S_ 32 8192#32))) (order D)))

/-- The comparison of two destinations that are 0 or 1. -/
theorem less_iff (a b : BitVec 32) (ha : a = 0#32 ∨ a = 1#32) (hb : b = 0#32 ∨ b = 1#32) :
    (IntOp.cmpi .slt a b == 1#1) = decide ((if b = 0#32 then 1 else 0) < (if a = 0#32 then 1 else 0)) := by
  rcases ha with rfl | rfl <;> rcases hb with rfl | rfl <;> decide

variable (D : IVec S8192 32) (h01 : ∀ i : Fin 8192, D (ix1 i) = 0#32 ∨ D (ix1 i) = 1#32)

theorem isZ_iff (i : Fin 8192) : isZ D i.val ↔ D (ix1 i) = 0#32 := by
  unfold isZ
  rw [show (⟨i.val % 8192, Nat.mod_lt _ (by decide)⟩ : Fin 8192) = i from Fin.ext (Nat.mod_eq_of_lt i.isLt)]

/-- The row at place `k` of the stable sort. -/
def rowAt (k : Fin 8192) : Fin 8192 := sortedFrom (fun x y => decide (keyOf D y < keyOf D x)) k

/-- The places that sorting a vector with its positions gives, read at place `k`. -/
theorem argsort_ap {n : ℕ} (v : IVec (shape1 n) 32) (cmp : BitVec 32 × BitVec 32 → BitVec 32 × BitVec 32 → BitVec 1) (R : Fin n → Fin n → Bool)
    (h : ∀ a b : Fin n, (cmp (v (ix1 a), BitVec.ofNat 32 a.val) (v (ix1 b), BitVec.ofNat 32 b.val) == 1#1) = R a b) (k : Fin n) :
    (Host.sort2 (shape1 n) 0 cmp v (iotaInDim (shape1 n) 32 0)).2 (ix1 k) = BitVec.ofNat 32 (sortedFrom R k).val := by
  unfold Host.sort2
  rw [dif_pos (show 0 < (shape1 n).rank from Nat.zero_lt_one)]
  show BitVec.ofNat 32 (sortedFrom (n := n) _ _).val = _
  refine congrArg (fun r : Fin n => BitVec.ofNat 32 r.val) ?_
  refine congrFun (sortedFrom_congr _ _ fun a b _ => ?_) k
  refine Eq.trans ?_ (h a b)
  have e : ∀ c : Fin n, Shape.Idx.along (s := shape1 n) (ix1 k) 0 c = ix1 c := fun c => by
    funext d
    obtain rfl : d = 0 := Subsingleton.elim (α := Fin 1) _ _
    exact Function.update_self ..
  exact congrArg₂ (fun x y : (shape1 n).Idx => cmp (v x, iotaInDim (shape1 n) 32 0 x) (v y, iotaInDim (shape1 n) 32 0 y) == 1#1) (e a) (e b)

include h01 in
theorem order_ap (k : Fin 8192) : order D (ix1 k) = BitVec.ofNat 32 (rowAt D k).val :=
  argsort_ap D comparator_i32_i32_d0 _ (fun a b => (less_iff _ _ (h01 a) (h01 b)).trans (by unfold keyOf; simp only [isZ_iff])) k

include h01 in
/-- The reference has row `J` of `x` at the place that is its rank. -/
theorem refOut_ap {F : FTy → Type} (x : (⟨S8192x1024, .bf16⟩ : BufTy).Contents (Elt F)) (k : Fin 8192) (q : Fin 1024) :
    refOut x D (ix2 k q) = x (ix2 (rowAt D k) q) := by
  unfold refOut
  refine gather_row _ rfl rfl rfl rfl rfl x _ k q (rowAt D k) ?_ (by decide)
  have hr := (rowAt D k).isLt
  rw [bcCol, select_at, cmpi_at, show broadcastInDim S8192 ![] bcast_S_S8192 (constantI S_ 32 0#32) (ix1 k) = 0#32 from bc0 _ _ _,
    order_ap D h01, wrap_of_lt _ _ (by rw [BitVec.toNat_ofNat, Nat.mod_eq_of_lt (by omega)]; omega)]

theorem rank_rowAt (k : Fin 8192) : rank D (rowAt D k).val = k.val := rank_sorted D k

/-- The frames of the reference. -/
theorem frame : Cert.quiescent_ReferenceIdeal := by
  intro m g hm
  hlo_run
  · exact fun _ => ⟨trivial, trivial⟩
  · exact sem_eq_zero_of_no_sems (by decide) _
/-- The same, where the claim carries the precondition along. -/
theorem frame_routed : Cert.quiescent_ReferenceIdeal_pre_routed_ReferenceIdeal := by
  intro m g hm
  exact frame m g trivial

/-- The reference's run. -/
theorem run (m' : (ℓ : Loc nD τ sig) → Buf (Elt Ideal) ℓ) (g' : Dev nD → PrngReg) :
    θ_run (defs (F := Ideal)) (onTc (τ := τ) (main (F := Ideal))) ⟨m', fun _ => 0, g'⟩ (fun r =>
      r.2.mem (((0 : Dev nD).tc : Thread nD τ).loc main_v7) = refOut (F := Ideal) (m' (((0 : Dev nD).tc : Thread nD τ).loc main_arg0)) (m' (((0 : Dev nD).tc : Thread nD τ).loc main_arg1))
      ∧ r.2.mem (((0 : Dev nD).tc : Thread nD τ).loc main_arg0) = m' (((0 : Dev nD).tc : Thread nD τ).loc main_arg0)
      ∧ r.2.mem (((0 : Dev nD).tc : Thread nD τ).loc main_arg1) = m' (((0 : Dev nD).tc : Thread nD τ).loc main_arg1)) := by
  hlo_run
  rfl

end Cert.Proof.Ref
-- ==== Proof.Value.lean ====
/-
  The result: where every destination is 0 or 1 and the split is the expected one, device `c`'s result is block `c` of the
  rows in sorted order.
-/
module

public import proofs.«01_k».proof.Proof.Packed
public import proofs.«01_k».proof.Proof.Frames
public import proofs.«01_k».proof.Proof.Ref

@[expose] public section

set_option maxRecDepth 8000

noncomputable section

namespace Cert.Proof

open Cert.KernelIdeal Cert.KernelIdeal.Gen
open Idealize.ShloMosaic Idealize.SL.Sem
open Idealize.ShloMosaic.TcCoe
open Idealize.ShloMosaic.Routing Idealize.ShloMosaic.ValueIdx Idealize.ShloMosaic.WordCmp

variable {F : FTy → Type} [FloatOps F]

/-! ### What the precondition says -/

theorem counts_of_routed [Cert.Pre_routed_KernelIdeal.Facts] (x : FVec F S4096x1024 .bf16) (D : IVec S8192 32)
    (h : Cert.Pre_routed_KernelIdeal.fn x D = fun _ => 1#1) (c : Dev nD) : Nat.count (locZ D c) 4096 = zc 2069 c := by
  have hb := (both_of_andi _ _ (congrFun h (ix1 (0 : Fin 8192)))).1
  obtain ⟨h0, h1⟩ := both_of_andi _ _ ((bc0 _ _ _).symm.trans hb)
  have e0 := count_of_word (n := 2069) (by omega) ((half_sum D 0 (by omega) _ _ _ _ _).symm.trans (eq_of_cmpi h0))
  have e1 := count_of_word (n := 2027) (by omega) ((half_sum D 4096 (by omega) _ _ _ _ _).symm.trans (eq_of_cmpi h1))
  match c with
  | ⟨0, _⟩ => exact e0
  | ⟨1, _⟩ => exact e1

theorem zeroOne_of_routed [Cert.Pre_routed_KernelIdeal.Facts] (x : FVec F S4096x1024 .bf16) (D : IVec S8192 32)
    (h : Cert.Pre_routed_KernelIdeal.fn x D = fun _ => 1#1) (i : Fin 8192) : D (ix1 i) = 0#32 ∨ D (ix1 i) = 1#32 := by
  rcases either_of_ori _ _ (both_of_andi _ _ (congrFun h (ix1 i))).2 with e | e
  · exact .inl ((eq_of_cmpi e).trans (bc0 _ _ _))
  · exact .inr ((eq_of_cmpi e).trans (bc0 _ _ _))

/-- The frame of the kernel under the second precondition. -/
theorem frame_routed : Cert.quiescent_KernelIdeal_pre_routed_KernelIdeal := fun m ρ hm =>
  (θ_run Cert.KernelIdeal.defs _ _).mono (fun _ h => ⟨fun c => ⟨(h.1 c).1, (h.1 c).2.1⟩, h.2⟩)
    (run_split (F := Ideal) m ρ fun c => counts_of_routed _ _ (hm c) c)

/-! ### The rank of a row, by its device -/

theorem count_congr {P Q : ℕ → Prop} [DecidablePred P] [DecidablePred Q] (h : ∀ i, P i ↔ Q i) (n : ℕ) : Nat.count P n = Nat.count Q n := by
  induction n with
  | zero => simp
  | succ n ih => rw [Nat.count_succ, Nat.count_succ, ih, if_congr (h n) rfl rfl]

variable (k : ℕ) (D : IVec S8192 32)

theorem count_first (i : ℕ) : Nat.count (isZ D) i = Nat.count (locZ D 0) i :=
  count_congr (fun j => by unfold locZ; rw [show 4096 * (0 : Dev nD).val + j = j by show 4096 * 0 + j = j; omega]) i
theorem count_second (i : ℕ) : Nat.count (isZ D) (4096 + i) = Nat.count (locZ D 0) 4096 + Nat.count (locZ D 1) i := by
  rw [Nat.count_add, count_first]
  exact congrArg _ (count_congr (fun j => Iff.rfl) i)

variable (hk : k ≤ 4096) (hc : ∀ c : Dev nD, Nat.count (locZ D c) 4096 = zc k c)

include hk hc in
theorem count_all : Nat.count (isZ D) 8192 = 4096 := by
  have h := count_second D 4096
  rw [hc 0, hc 1] at h
  have : zc k 0 + zc k 1 = 4096 := by
    show k + (4096 - k) = 4096
    omega
  exact h.trans this

include hk hc in
/-- The rank of row `i` of the first device … -/
theorem rank_first (i : ℕ) : rank D i = if locZ D 0 i then Nat.count (locZ D 0) i else 4096 + Nat.count (fun j => ¬ locZ D 0 j) i := by
  have e : isZ D i ↔ locZ D 0 i := by unfold locZ; rw [show 4096 * (0 : Dev nD).val + i = i by show 4096 * 0 + i = i; omega]
  have h1 := count_both (isZ D) i
  have h2 := count_both (locZ D 0) i
  have h3 := count_first D i
  unfold rank
  rw [count_all k D hk hc, if_congr e rfl rfl]
  split <;> omega

include hk hc in
/-- … and of row `i` of the second. -/
theorem rank_second (i : ℕ) : rank D (4096 + i) = if locZ D 1 i then k + Nat.count (locZ D 1) i else 4096 + (4096 - k) + Nat.count (fun j => ¬ locZ D 1 j) i := by
  have e : isZ D (4096 + i) ↔ locZ D 1 i := Iff.rfl
  have h1 := count_both (isZ D) (4096 + i)
  have h2 := count_both (locZ D 1) i
  have h3 := count_second D i
  rw [hc 0, show zc k 0 = k from rfl] at h3
  unfold rank
  rw [count_all k D hk hc, if_congr e rfl rfl]
  split <;> omega

/-! ### Where a result row is read -/

variable (P : Dev nD → Buf4112 F) (c : Dev nD) (r : Fin 4096) (q : Fin 1024)

theorem outIdx_eq {n : ℕ} (hn : n < 4112) (h : n = if r.val < zc k c then r.val else r.val + gapc k c) :
    outIdx (zc k c) (gapc k c) (ix2 r q) = ix2 (⟨n, hn⟩ : Fin 4112) q := by
  funext a
  match a with
  | 0 => exact Fin.ext (by show (if r.val < zc k c then r.val else r.val + gapc k c) % 4112 = n; rw [← h, Nat.mod_eq_of_lt hn])
  | 1 => rfl

/-- A row that stayed is read from the device's own packed rows. -/
theorem out_own {n : ℕ} (hn : n < 4112) (h : n = if r.val < zc k c then r.val else r.val + gapc k c) (hs : keep k c ≤ n ∧ n < keep k c + keepLen k) :
    outRows k P c (ix2 r q) = P c (ix2 (⟨n, hn⟩ : Fin 4112) q) := by
  unfold outRows outF landing
  rw [outIdx_eq k c r q hn h, if_pos (mem_rowsOf.2 hs)]

/-- A row that came is read from the other device's. -/
theorem out_other {n n' : ℕ} (hn : n < 4112) (h : n = if r.val < zc k c then r.val else r.val + gapc k c) (hs : ¬ (keep k c ≤ n ∧ n < keep k c + keepLen k))
    (ho : src k c ≤ n ∧ n < src k c + sendLen k) (hn' : n' < 4112) (e : n - src k c + src k (pr c) = n') :
    outRows k P c (ix2 r q) = P (pr c) (ix2 (⟨n', hn'⟩ : Fin 4112) q) := by
  unfold outRows outF landing
  rw [outIdx_eq k c r q hn h, if_neg fun m => hs (mem_rowsOf.1 m), if_pos (mem_rowsOf.2 ho)]
  refine congrArg (P (pr c)) ?_
  funext a
  match a with
  | 0 => exact Fin.ext (by show (n - src k c + src k (pr c)) % 4112 = n'; rw [e, Nat.mod_eq_of_lt hn'])
  | 1 => rfl

/-! ### The result -/

variable (X : Cert.ReferenceIdeal.S8192x1024.Idx → Elt F .bf16)

include hk hc in
/-- Row `J` of the whole array ends at its rank, counted over the two results. -/
theorem out_rank (hP : ∀ (c : Dev nD) (j : Fin 4096) (q : Fin 1024),
      P c (ix2 (⟨pos D k c j.val, pos_lt c k hk D (hc c) j.isLt⟩ : Fin 4112) q) = X (ix2 (⟨4096 * c.val + j.val, by have := c.isLt; have : c.val < 2 := c.isLt; omega⟩ : Fin 8192) q))
    (J : Fin 8192) (hJ : rank D J.val = 4096 * c.val + r.val) : outRows k P c (ix2 r q) = X (ix2 J q) := by
  have hr := r.isLt
  have hJ' := J.isLt
  have u1 := le_up8 k
  have u2 := le_up8 (4096 - k)
  have u3 := up8_le k
  have u4 := up8_le (4096 - k)
  have g0 : gapc k 0 = up8 k - k := rfl
  have g1 : gapc k 1 = up8 (4096 - k) - (4096 - k) := rfl
  have z0 : zc k 0 = k := rfl
  have z1 : zc k 1 = 4096 - k := rfl
  by_cases hlo : J.val < 4096
  · -- the row starts on the first device
    have hp := hP 0 ⟨J.val, hlo⟩ q
    have hX : (⟨4096 * (0 : Dev nD).val + J.val, by show 4096 * 0 + J.val < 8192; omega⟩ : Fin 8192) = J := Fin.ext (by show 4096 * 0 + J.val = J.val; omega)
    refine Eq.trans ?_ (hp.trans (congrArg (fun t => X (ix2 t q)) hX))
    have hrank := rank_first k D hk hc J.val
    have hlt := pos_lt 0 k hk D (hc 0) hlo
    have hd0 : 4096 * (0 : Dev nD).val = 0 := rfl
    have hd1 : 4096 * (1 : Dev nD).val = 4096 := rfl
    rcases pos_cases 0 k D (hc 0) hlo with ⟨p, p1, p2⟩ | ⟨p, p1, p2⟩
    · rw [if_pos p, hJ] at hrank
      rw [z0] at p2
      obtain rfl : c = 0 := by have : c.val < 2 := c.isLt; exact Fin.ext (by show c.val = 0; omega)
      exact out_own k P 0 r q hlt (by rw [z0, g0]; split <;> omega) ⟨Nat.zero_le _, by show pos D k 0 J.val < 0 + up8 k; omega⟩
    · rw [if_neg p, hJ] at hrank
      rw [z0] at p1 p2
      obtain rfl : c = 1 := by have : c.val < 2 := c.isLt; exact Fin.ext (by show c.val = 1; omega)
      exact out_other k P 1 r q (n := r.val) (by omega) (by rw [z1, g1]; split <;> omega) (by show ¬ (up8 (4096 - k) ≤ r.val ∧ _); omega)
        ⟨Nat.zero_le _, by show r.val < 0 + up8 (4096 - k); omega⟩ hlt (by show r.val - 0 + up8 k = pos D k 0 J.val; omega)
  · -- the row starts on the second
    obtain ⟨i, hi⟩ : ∃ i, J.val = 4096 + i := ⟨J.val - 4096, by omega⟩
    have hi' : i < 4096 := by omega
    have hp := hP 1 ⟨i, hi'⟩ q
    have hX : (⟨4096 * (1 : Dev nD).val + i, by show 4096 * 1 + i < 8192; omega⟩ : Fin 8192) = J := Fin.ext (by show 4096 * 1 + i = J.val; omega)
    refine Eq.trans ?_ (hp.trans (congrArg (fun t => X (ix2 t q)) hX))
    have hrank := rank_second k D hk hc i
    rw [← hi] at hrank
    have hlt := pos_lt 1 k hk D (hc 1) hi'
    have hd0 : 4096 * (0 : Dev nD).val = 0 := rfl
    have hd1 : 4096 * (1 : Dev nD).val = 4096 := rfl
    rcases pos_cases 1 k D (hc 1) hi' with ⟨p, p1, p2⟩ | ⟨p, p1, p2⟩
    · rw [if_pos p, hJ] at hrank
      rw [z1] at p2
      obtain rfl : c = 0 := by have : c.val < 2 := c.isLt; exact Fin.ext (by show c.val = 0; omega)
      refine out_other k P 0 r q (n := r.val + (up8 k - k)) (by omega) (by rw [z0, g0]; split <;> omega) ?_
        ⟨?_, ?_⟩ hlt ?_
      · show ¬ (0 ≤ r.val + (up8 k - k) ∧ r.val + (up8 k - k) < 0 + up8 k); omega
      · show up8 k ≤ r.val + (up8 k - k); omega
      · show r.val + (up8 k - k) < up8 k + up8 (4096 - k); omega
      · show r.val + (up8 k - k) - up8 k + 0 = pos D k 1 i; omega
    · rw [if_neg p, hJ] at hrank
      rw [z1] at p1 p2
      obtain rfl : c = 1 := by have : c.val < 2 := c.isLt; exact Fin.ext (by show c.val = 1; omega)
      refine out_own k P 1 r q hlt (by rw [z1, g1]; split <;> omega) ⟨?_, ?_⟩
      · show up8 (4096 - k) ≤ pos D k 1 i; omega
      · show pos D k 1 i < up8 (4096 - k) + up8 k; omega

/-- Device `c`'s result is block `c` of the reference's. -/
theorem out_block (hP : ∀ (c : Dev nD) (j : Fin 4096) (q : Fin 1024),
      P c (ix2 (⟨pos D k c j.val, pos_lt c k hk D (hc c) j.isLt⟩ : Fin 4112) q) = X (ix2 (⟨4096 * c.val + j.val, by have : c.val < 2 := c.isLt; omega⟩ : Fin 8192) q))
    (h01 : ∀ i : Fin 8192, D (ix1 i) = 0#32 ∨ D (ix1 i) = 1#32) :
    outRows k P c = Layout.block ⟨2, ![4096, 1024]⟩ ⟨2, ![8192, 1024]⟩ 0 2 c (Ref.refOut (F := F) X D) := by
  funext t
  obtain ⟨r, q, rfl⟩ : ∃ (r : Fin 4096) (q : Fin 1024), t = ix2 r q := ⟨t 0, t 1, eq_ix2 t⟩
  have hc2 : c.val < 2 := c.isLt
  have hr := r.isLt
  have e : (Layout.block ⟨2, ![4096, 1024]⟩ ⟨2, ![8192, 1024]⟩ 0 2 c (Ref.refOut (F := F) X D)) (ix2 r q)
      = Ref.refOut (F := F) X D (ix2 (⟨4096 * c.val + r.val, by omega⟩ : Fin 8192) q) := by
    refine congrArg (Ref.refOut (F := F) X D) ?_
    funext a
    match a with
    | 0 => exact Fin.ext (by show c.val * 4096 + r.val = 4096 * c.val + r.val; omega)
    | 1 => rfl
  rw [e, Ref.refOut_ap D h01]
  exact out_rank k D hk hc P c r q X hP (Ref.rowAt D ⟨4096 * c.val + r.val, by omega⟩) (Ref.rank_rowAt D ⟨4096 * c.val + r.val, by omega⟩)

/-- The value of the kernel, on every device, against the reference on one. -/
theorem value : Cert.algebraic_KernelIdeal_ReferenceIdeal_pre_routed_KernelIdeal := by
  intro m g m' g' hpre hagree
  have hD : ∀ c : Dev nD, destOf (F := Ideal) m c = m' (((0 : Dev Cert.ReferenceIdeal.nD).tc : Thread Cert.ReferenceIdeal.nD Cert.ReferenceIdeal.τ).loc Cert.ReferenceIdeal.main_arg1) := fun c => (hagree c).2
  have hcount : ∀ c : Dev nD, Nat.count (locZ (destOf (F := Ideal) m c) c) 4096 = zc 2069 c := fun c => counts_of_routed _ _ (hpre c) c
  refine ⟨_, ?_, Ref.run m' g'⟩
  refine (θ_run Cert.KernelIdeal.defs _ _).mono (fun _ h c => ⟨(h.1 c).2.2.trans ?_, (h.1 c).1, (h.1 c).2.1⟩) (run_split (F := Ideal) m g hcount)
  generalize hDD : m' (((0 : Dev Cert.ReferenceIdeal.nD).tc : Thread Cert.ReferenceIdeal.nD Cert.ReferenceIdeal.τ).loc Cert.ReferenceIdeal.main_arg1) = D at hD
  generalize hXX : m' (((0 : Dev Cert.ReferenceIdeal.nD).tc : Thread Cert.ReferenceIdeal.nD Cert.ReferenceIdeal.τ).loc Cert.ReferenceIdeal.main_arg0) = X
  have hc' : ∀ c : Dev nD, Nat.count (locZ D c) 4096 = zc 2069 c := fun c => (hD c) ▸ hcount c
  refine out_block 2069 D (by omega) hc' (fun c => V27 m c (Proc.devRef .tc main_v35)) c X (fun c j q => ?_) (fun i => ?_)
  · have hp := packed_ap m c 2069 (by omega) (hcount c) j q
    have hx : V0 m c (Proc.devRef .tc main_arg0) = Layout.block ⟨2, ![4096, 1024]⟩ ⟨2, ![8192, 1024]⟩ 0 2 c X := hXX ▸ (hagree c).1
    have hidx : (ix2 (⟨pos D 2069 c j.val, pos_lt c 2069 (by omega) D (hc' c) j.isLt⟩ : Fin 4112) q : S4112x1024.Idx)
        = ix2 (⟨pos (destOf (F := Ideal) m c) 2069 c j.val, pos_lt c 2069 (by omega) _ (hcount c) j.isLt⟩ : Fin 4112) q :=
      congrArg (fun a : Fin 4112 => (ix2 a q : S4112x1024.Idx)) (Fin.ext (by show pos D 2069 c j.val = pos (destOf (F := Ideal) m c) 2069 c j.val; rw [hD c]))
    refine (congrArg (V27 m c (Proc.devRef .tc main_v35)) hidx).trans (hp.trans ((congrFun hx _).trans ?_))
    refine congrArg X ?_
    funext a
    match a with
    | 0 => exact Fin.ext (by show c.val * 4096 + j.val = 4096 * c.val + j.val; omega)
    | 1 => rfl
  · rw [← hD 0]
    exact zeroOne_of_routed _ _ (hpre 0) i

end Cert.Proof
-- ==== Proof.lean ====
/-
  The certificate of the exchange of rows between two devices: both readings of the kernel terminate with their arguments
  unchanged and every semaphore counter at zero, so does the reference, and each device's result is its block of the
  reference's result, the rows in the stable order of their destinations. The parts are proved under Proof/.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.Pre_split
public import proofs.«01_k».proof.Proof.Gen.Pre_routed_KernelIdeal
public import proofs.«01_k».proof.Proof.Gen.Pre_routed_ReferenceIdeal
public import proofs.«01_k».proof.Proof.Value
public import Idealize.ShloMosaic.Adequacy
public import Idealize.ShloMosaic.Init

@[expose] public section

noncomputable section

namespace Cert.Proof

open Idealize.ShloMosaic Idealize.SL.Sem Cert.Kernel

/-- Everything that is claimed of the kernel and the reference. -/
theorem claim : Cert.Claim := ⟨Cert.Kernel.Gen.facts, Cert.KernelIdeal.Gen.facts, Cert.ReferenceIdeal.Gen.facts, Cert.Pre_split.Gen.facts,
  Cert.Pre_routed_KernelIdeal.Gen.facts, Cert.Pre_routed_ReferenceIdeal.Gen.facts,
  frame_kernel, frame_kernelIdeal, frame_routed, Ref.frame, Ref.frame_routed, trivial, value⟩

end Cert.Proof

end
